-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6))
      ∧ r.2.sem = fun _ => 0)

def preserves_Kernel_KernelIdeal : Prop :=
  True

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v94) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v37_0)) (v1 : (c : Dev Cert.ProjIdeal.nD) → Buf (Elt Ideal) ((c.tc : Thread Cert.ProjIdeal.nD Cert.ProjIdeal.τ).loc Cert.ProjIdeal.main_v37_1)) (v2 : (c : Dev Cert.ProjIdeal.nD) → Buf (Elt Ideal) ((c.tc : Thread Cert.ProjIdeal.nD Cert.ProjIdeal.τ).loc Cert.ProjIdeal.main_v37_2)) (v3 : (c : Dev Cert.ProjIdeal.nD) → Buf (Elt Ideal) ((c.tc : Thread Cert.ProjIdeal.nD Cert.ProjIdeal.τ).loc Cert.ProjIdeal.main_v37_3)) (v4 : (c : Dev Cert.ProjIdeal.nD) → Buf (Elt Ideal) ((c.tc : Thread Cert.ProjIdeal.nD Cert.ProjIdeal.τ).loc Cert.ProjIdeal.main_v37_4)) (v5 : (c : Dev Cert.ProjIdeal.nD) → Buf (Elt Ideal) ((c.tc : Thread Cert.ProjIdeal.nD Cert.ProjIdeal.τ).loc Cert.ProjIdeal.main_v37_5)) (v6 : (c : Dev Cert.ProjIdeal.nD) → Buf (Elt Ideal) ((c.tc : Thread Cert.ProjIdeal.nD Cert.ProjIdeal.τ).loc Cert.ProjIdeal.main_v37_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v37_0) = v0 c
          ∧ r.2.mem ((c.tc : Thread Cert.ProjIdeal.nD Cert.ProjIdeal.τ).loc Cert.ProjIdeal.main_v37_1) = v1 c
          ∧ r.2.mem ((c.tc : Thread Cert.ProjIdeal.nD Cert.ProjIdeal.τ).loc Cert.ProjIdeal.main_v37_2) = v2 c
          ∧ r.2.mem ((c.tc : Thread Cert.ProjIdeal.nD Cert.ProjIdeal.τ).loc Cert.ProjIdeal.main_v37_3) = v3 c
          ∧ r.2.mem ((c.tc : Thread Cert.ProjIdeal.nD Cert.ProjIdeal.τ).loc Cert.ProjIdeal.main_v37_4) = v4 c
          ∧ r.2.mem ((c.tc : Thread Cert.ProjIdeal.nD Cert.ProjIdeal.τ).loc Cert.ProjIdeal.main_v37_5) = v5 c
          ∧ r.2.mem ((c.tc : Thread Cert.ProjIdeal.nD Cert.ProjIdeal.τ).loc Cert.ProjIdeal.main_v37_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v52) = v0 c
          ∧ r.2.mem ((c.tc : Thread Cert.ProjRefIdeal.nD Cert.ProjRefIdeal.τ).loc Cert.ProjRefIdeal.main_v31) = v1 c
          ∧ r.2.mem ((c.tc : Thread Cert.ProjRefIdeal.nD Cert.ProjRefIdeal.τ).loc Cert.ProjRefIdeal.main_v53) = v2 c
          ∧ r.2.mem ((c.tc : Thread Cert.ProjRefIdeal.nD Cert.ProjRefIdeal.τ).loc Cert.ProjRefIdeal.main_v54) = v3 c
          ∧ r.2.mem ((c.tc : Thread Cert.ProjRefIdeal.nD Cert.ProjRefIdeal.τ).loc Cert.ProjRefIdeal.main_v55) = v4 c
          ∧ r.2.mem ((c.tc : Thread Cert.ProjRefIdeal.nD Cert.ProjRefIdeal.τ).loc Cert.ProjRefIdeal.main_v56) = v5 c
          ∧ r.2.mem ((c.tc : Thread Cert.ProjRefIdeal.nD Cert.ProjRefIdeal.τ).loc Cert.ProjRefIdeal.main_v51) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Cmp_CmpIdeal : Prop :=
  True

def algebraic_CmpIdeal_CmpRefIdeal_on_real_blocks [hCmpIdeal : Cert.CmpIdeal.Facts] [hCmpRefIdeal : Cert.CmpRefIdeal.Facts] [hOn_real_blocks : Cert.On_real_blocks.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)) →
    ∃ (v0 : (c : Dev Cert.CmpIdeal.nD) → Buf (Elt Ideal) ((c.tc : Thread Cert.CmpIdeal.nD Cert.CmpIdeal.τ).loc Cert.CmpIdeal.main_v17_0)) (v1 : (c : Dev Cert.CmpIdeal.nD) → Buf (Elt Ideal) ((c.tc : Thread Cert.CmpIdeal.nD Cert.CmpIdeal.τ).loc Cert.CmpIdeal.main_v17_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          (∀ i : (⟨4, ![4, 4, 256, 64]⟩ : Shape).Idx, (Cert.On_real_blocks.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6))).1 i = 1#1 → r.2.mem ((c.tc : Thread Cert.CmpIdeal.nD Cert.CmpIdeal.τ).loc Cert.CmpIdeal.main_v17_0) i = v0 c i)
          ∧ (∀ i : (⟨4, ![4, 4, 64, 256]⟩ : Shape).Idx, (Cert.On_real_blocks.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6))).2 i = 1#1 → r.2.mem ((c.tc : Thread Cert.CmpIdeal.nD Cert.CmpIdeal.τ).loc Cert.CmpIdeal.main_v17_1) i = v1 c i)
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          (∀ i : (⟨4, ![4, 4, 256, 64]⟩ : Shape).Idx, (Cert.On_real_blocks.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6))).1 i = 1#1 → r.2.mem ((c.tc : Thread Cert.CmpRefIdeal.nD Cert.CmpRefIdeal.τ).loc Cert.CmpRefIdeal.main_v58) i = v0 c i)
          ∧ (∀ i : (⟨4, ![4, 4, 64, 256]⟩ : Shape).Idx, (Cert.On_real_blocks.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6))).2 i = 1#1 → r.2.mem ((c.tc : Thread Cert.CmpRefIdeal.nD Cert.CmpRefIdeal.τ).loc Cert.CmpRefIdeal.main_v61) i = v1 c i)
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6))

def Claim : Prop :=
  ∃ (hKernel : Cert.Kernel.Facts) (hKernelIdeal : Cert.KernelIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hCmp : Cert.Cmp.Facts) (hCmpIdeal : Cert.CmpIdeal.Facts) (hCmpRefIdeal : Cert.CmpRefIdeal.Facts) (hOn_real_blocks : Cert.On_real_blocks.Facts),
    quiescent_Kernel (hKernel := hKernel)
    ∧ quiescent_KernelIdeal (hKernelIdeal := hKernelIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Cmp (hCmp := hCmp)
    ∧ quiescent_CmpIdeal (hCmpIdeal := hCmpIdeal)
    ∧ quiescent_CmpRefIdeal (hCmpRefIdeal := hCmpRefIdeal)
    ∧ preserves_Kernel_KernelIdeal
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Cmp_CmpIdeal
    ∧ algebraic_CmpIdeal_CmpRefIdeal_on_real_blocks (hCmpIdeal := hCmpIdeal) (hCmpRefIdeal := hCmpRefIdeal) (hOn_real_blocks := hOn_real_blocks)
-- ==== On_real_blocks.lean ====
abbrev S16384x512 : Shape := ⟨2, ![16384, 512]⟩
abbrev S1x32x64 : Shape := ⟨3, ![1, 32, 64]⟩
abbrev S1x2048x256 : Shape := ⟨3, ![1, 2048, 256]⟩
abbrev S1x256x64 : Shape := ⟨3, ![1, 256, 64]⟩
abbrev S4x4x256x64 : Shape := ⟨4, ![4, 4, 256, 64]⟩
abbrev S_ : Shape := ⟨0, ![]⟩
abbrev S4x4x64x256 : Shape := ⟨4, ![4, 4, 64, 256]⟩

class Facts : Prop where
  bcast_S_S4x4x256x64 : S_.BroadcastsInDim S4x4x256x64 (![] : Fin 0 → Fin S4x4x256x64.rank)
  bcast_S_S4x4x64x256 : S_.BroadcastsInDim S4x4x64x256 (![] : Fin 0 → Fin S4x4x64x256.rank)

variable [Facts]

def fn {F : FTy → Type} [FloatOps F] (main_arg0 : FVec F S16384x512 .f32) (main_arg1 : FVec F S1x32x64 .f32) (main_arg2 : FVec F S1x2048x256 .f32) (main_arg3 : FVec F S1x256x64 .f32) (main_arg4 : FVec F S1x32x64 .f32) (main_arg5 : FVec F S1x2048x256 .f32) (main_arg6 : FVec F S1x256x64 .f32) : IVec S4x4x256x64 1 × IVec S4x4x64x256 1 :=
  let main_v0 : IVec S4x4x256x64 32 := iotaInDim S4x4x256x64 32 2
  let main_c : IVec S_ 32 := constantI S_ 32 255#32
  let main_v1 : IVec S4x4x256x64 32 := broadcastInDim S4x4x256x64 ![] bcast_S_S4x4x256x64 main_c
  let main_v2 : IVec S4x4x256x64 1 := cmpi .slt main_v0 main_v1
  let main_v3 : IVec S4x4x64x256 32 := iotaInDim S4x4x64x256 32 3
  let main_c_0 : IVec S_ 32 := constantI S_ 32 255#32
  let main_v4 : IVec S4x4x64x256 32 := broadcastInDim S4x4x64x256 ![] bcast_S_S4x4x64x256 main_c_0
  let main_v5 : IVec S4x4x64x256 1 := cmpi .slt main_v3 main_v4
  (main_v2, main_v5)
-- ==== Kernel.lean ====
abbrev S64x1024x256 : Shape := ⟨3, ![64, 1024, 256]⟩
abbrev S4x4x256x64 : Shape := ⟨4, ![4, 4, 256, 64]⟩
abbrev S4x4x64x256 : Shape := ⟨4, ![4, 4, 64, 256]⟩
abbrev S16384x512 : Shape := ⟨2, ![16384, 512]⟩
abbrev S512x16384 : Shape := ⟨2, ![512, 16384]⟩
abbrev S64x64x256 : Shape := ⟨3, ![64, 64, 256]⟩
abbrev S64x256 : Shape := ⟨2, ![64, 256]⟩
abbrev S16384x1024 : Shape := ⟨2, ![16384, 1024]⟩
abbrev S16x256x256 : Shape := ⟨3, ![16, 256, 256]⟩
abbrev S1x1x256x64 : Shape := ⟨4, ![1, 1, 256, 64]⟩
abbrev S1x1x64x256 : Shape := ⟨4, ![1, 1, 64, 256]⟩
abbrev S4096x128 : Shape := ⟨2, ![4096, 128]⟩
abbrev S128x4096 : Shape := ⟨2, ![128, 4096]⟩
abbrev S16x16x256 : Shape := ⟨3, ![16, 16, 256]⟩
abbrev S4096x256 : Shape := ⟨2, ![4096, 256]⟩
abbrev S16x80x256 : Shape := ⟨3, ![16, 80, 256]⟩
abbrev S16x128x1024 : Shape := ⟨3, ![16, 128, 1024]⟩
abbrev S16x1x1024 : Shape := ⟨3, ![16, 1, 1024]⟩
abbrev S16x80x1024 : Shape := ⟨3, ![16, 80, 1024]⟩
abbrev S16x64x1024 : Shape := ⟨3, ![16, 64, 1024]⟩
abbrev S256x1024 : Shape := ⟨2, ![256, 1024]⟩
abbrev S4096x64 : Shape := ⟨2, ![4096, 64]⟩
abbrev S16x256 : Shape := ⟨2, ![16, 256]⟩
abbrev S80x256 : Shape := ⟨2, ![80, 256]⟩
abbrev S1x80x256 : Shape := ⟨3, ![1, 80, 256]⟩
abbrev S1x1024 : Shape := ⟨2, ![1, 1024]⟩
abbrev S256x1 : Shape := ⟨2, ![256, 1]⟩
abbrev S1x64x256 : Shape := ⟨3, ![1, 64, 256]⟩
abbrev S1x64x1024 : Shape := ⟨3, ![1, 64, 1024]⟩
abbrev S64x1024 : Shape := ⟨2, ![64, 1024]⟩
abbrev S1x256 : Shape := ⟨2, ![1, 256]⟩
abbrev S128x1 : Shape := ⟨2, ![128, 1]⟩
abbrev S128x1024 : Shape := ⟨2, ![128, 1024]⟩
abbrev S1x1x128x64 : Shape := ⟨4, ![1, 1, 128, 64]⟩
abbrev S128x64 : Shape := ⟨2, ![128, 64]⟩
abbrev S256x64 : Shape := ⟨2, ![256, 64]⟩
abbrev S1024 : Shape := ⟨1, ![1024]⟩
abbrev S1x1x64x128 : Shape := ⟨4, ![1, 1, 64, 128]⟩
abbrev S64x128 : Shape := ⟨2, ![64, 128]⟩
abbrev S128x256 : Shape := ⟨2, ![128, 256]⟩
abbrev S16x128 : Shape := ⟨2, ![16, 128]⟩
abbrev S16x1 : Shape := ⟨2, ![16, 1]⟩
abbrev S80x1024 : Shape := ⟨2, ![80, 1024]⟩
abbrev S1x16x256 : Shape := ⟨3, ![1, 16, 256]⟩
abbrev S48x256 : Shape := ⟨2, ![48, 256]⟩
abbrev S32x128 : Shape := ⟨2, ![32, 128]⟩
abbrev S32x256 : Shape := ⟨2, ![32, 256]⟩
abbrev S32x1 : Shape := ⟨2, ![32, 1]⟩
abbrev S256x256 : Shape := ⟨2, ![256, 256]⟩
abbrev S48x1 : Shape := ⟨2, ![48, 1]⟩
abbrev S64x1 : Shape := ⟨2, ![64, 1]⟩
abbrev S256x128 : Shape := ⟨2, ![256, 128]⟩
abbrev S1x128x1024 : Shape := ⟨3, ![1, 128, 1024]⟩
abbrev S1x80x1024 : Shape := ⟨3, ![1, 80, 1024]⟩
abbrev S1x1x1024 : Shape := ⟨3, ![1, 1, 1024]⟩
abbrev S1x128x256 : Shape := ⟨3, ![1, 128, 256]⟩
abbrev S256 : Shape := ⟨1, ![256]⟩

abbrev nBuf : Space → Nat
  | .hbm => 8
  | .vmem => 25
  | .smem => 0
  | _ => 0

abbrev bufTy : (tb : Table) → Fin (tcTables nBuf tb) → BufTy
  | .hbm, ⟨0, _⟩ => ⟨S64x1024x256, .bf16⟩
  | .hbm, ⟨1, _⟩ => ⟨S4x4x256x64, .bf16⟩
  | .hbm, ⟨2, _⟩ => ⟨S4x4x64x256, .bf16⟩
  | .hbm, ⟨3, _⟩ => ⟨S16384x512, .bf16⟩
  | .hbm, ⟨4, _⟩ => ⟨S512x16384, .bf16⟩
  | .hbm, ⟨5, _⟩ => ⟨S64x64x256, .f32⟩
  | .hbm, ⟨6, _⟩ => ⟨S64x256, .bf16⟩
  | .hbm, ⟨7, _⟩ => ⟨S16384x1024, .bf16⟩
  | .local _ .vmem, ⟨0, _⟩ => ⟨S16x256x256, .bf16⟩
  | .local _ .vmem, ⟨1, _⟩ => ⟨S16x256x256, .bf16⟩
  | .local _ .vmem, ⟨2, _⟩ => ⟨S1x1x256x64, .bf16⟩
  | .local _ .vmem, ⟨3, _⟩ => ⟨S1x1x256x64, .bf16⟩
  | .local _ .vmem, ⟨4, _⟩ => ⟨S1x1x64x256, .bf16⟩
  | .local _ .vmem, ⟨5, _⟩ => ⟨S1x1x64x256, .bf16⟩
  | .local _ .vmem, ⟨6, _⟩ => ⟨S64x256, .bf16⟩
  | .local _ .vmem, ⟨7, _⟩ => ⟨S4096x128, .bf16⟩
  | .local _ .vmem, ⟨8, _⟩ => ⟨S4096x128, .bf16⟩
  | .local _ .vmem, ⟨9, _⟩ => ⟨S128x4096, .bf16⟩
  | .local _ .vmem, ⟨10, _⟩ => ⟨S128x4096, .bf16⟩
  | .local _ .vmem, ⟨11, _⟩ => ⟨S16x16x256, .f32⟩
  | .local _ .vmem, ⟨12, _⟩ => ⟨S16x16x256, .f32⟩
  | .local _ .vmem, ⟨13, _⟩ => ⟨S4096x256, .bf16⟩
  | .local _ .vmem, ⟨14, _⟩ => ⟨S4096x256, .bf16⟩
  | .local _ .vmem, ⟨15, _⟩ => ⟨S4096x128, .bf16⟩
  | .local _ .vmem, ⟨16, _⟩ => ⟨S4096x128, .bf16⟩
  | .local _ .vmem, ⟨17, _⟩ => ⟨S16x80x256, .bf16⟩
  | .local _ .vmem, ⟨18, _⟩ => ⟨S16x80x256, .bf16⟩
  | .local _ .vmem, ⟨19, _⟩ => ⟨S16x128x1024, .bf16⟩
  | .local _ .vmem, ⟨20, _⟩ => ⟨S16x1x1024, .f32⟩
  | .local _ .vmem, ⟨21, _⟩ => ⟨S16x80x1024, .f32⟩
  | .local _ .vmem, ⟨22, _⟩ => ⟨S16x64x1024, .f32⟩
  | .local _ .vmem, ⟨23, _⟩ => ⟨S64x256, .f32⟩
  | .local _ .vmem, ⟨24, _⟩ => ⟨S256x1024, .f32⟩
  | _, _ => ⟨S64x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_off1 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v237 : Index := Scalar.indexCast v235
  let c0_156 : Index := 0#32
  let c0_157 : Index := 0#32
  ![v237.toNat, 0, 0]
def k0_off2 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v240 : Index := Scalar.indexCast v235
  let c0_158 : Index := 0#32
  let c0_159 : Index := 0#32
  ![v240.toNat, 0, 0]
def k0_off3 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v244 : Index := Scalar.indexCast v235
  let c64_160 : Index := 64#32
  let c0_161 : Index := 0#32
  ![v244.toNat, 64, 0]
def k0_off4 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v247 : Index := Scalar.indexCast v235
  let c0_162 : Index := 0#32
  let c256_163 : Index := 256#32
  ![v247.toNat, 0, 256]
def k0_off5 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v251 : Index := Scalar.indexCast v235
  let c128 : Index := 128#32
  let c0_164 : Index := 0#32
  ![v251.toNat, 128, 0]
def k0_off6 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v254 : Index := Scalar.indexCast v235
  let c0_165 : Index := 0#32
  let c512_166 : Index := 512#32
  ![v254.toNat, 0, 512]
def k0_off7 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v258 : Index := Scalar.indexCast v235
  let c192 : Index := 192#32
  let c0_167 : Index := 0#32
  ![v258.toNat, 192, 0]
def k0_off8 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v261 : Index := Scalar.indexCast v235
  let c0_168 : Index := 0#32
  let c768_169 : Index := 768#32
  ![v261.toNat, 0, 768]
def k0_off9 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v265 : Index := Scalar.indexCast v235
  let c0_170 : Index := 0#32
  let c0_171 : Index := 0#32
  ![v265.toNat, 0, 0]
def k0_mult1 : BitVec 32 :=
  let c0_i32_154 : BitVec 32 := 0#32
  let c4_i32_153 : BitVec 32 := 4#32
  let c0_i32_146 : BitVec 32 := 0#32
  let v234 : BitVec 32 := Scalar.muli c4_i32_153 c0_i32_146
  let v235 : BitVec 32 := Scalar.addi c0_i32_154 v234
  let c2_i32_184 : BitVec 32 := 2#32
  let v310 : BitVec 32 := Scalar.subi v235 c2_i32_184
  let c0_i32_185 : BitVec 32 := 0#32
  let v311 : BitVec 32 := Scalar.maxsi v310 c0_i32_185
  let c256_i32_186 : BitVec 32 := 256#32
  let v312 : BitVec 32 := Scalar.muli v311 c256_i32_186
  v312
def k0_off10 (c0_i32_154 : BitVec 32) (c2_i32_184 : BitVec 32) : Fin 2 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v310 : BitVec 32 := Scalar.subi v235 c2_i32_184
  let c0_i32_185 : BitVec 32 := 0#32
  let v311 : BitVec 32 := Scalar.maxsi v310 c0_i32_185
  let c256_i32_186 : BitVec 32 := 256#32
  let v312 : BitVec 32 := Scalar.muli v311 c256_i32_186
  let v313 : BitVec 32 := v312
  let v314 : Index := Scalar.indexCast v313
  let c0_187 : Index := 0#32
  ![v314.toNat, 0]
def k0_mult2 : BitVec 32 :=
  let c0_i32_154 : BitVec 32 := 0#32
  let c4_i32_153 : BitVec 32 := 4#32
  let c0_i32_146 : BitVec 32 := 0#32
  let v234 : BitVec 32 := Scalar.muli c4_i32_153 c0_i32_146
  let v235 : BitVec 32 := Scalar.addi c0_i32_154 v234
  let c1_i32_189 : BitVec 32 := 1#32
  let v317 : BitVec 32 := Scalar.subi v235 c1_i32_189
  let c0_i32_190 : BitVec 32 := 0#32
  let v318 : BitVec 32 := Scalar.maxsi v317 c0_i32_190
  let c256_i32_191 : BitVec 32 := 256#32
  let v319 : BitVec 32 := Scalar.muli v318 c256_i32_191
  v319
def k0_mult3 : BitVec 32 :=
  let c0_i32_154 : BitVec 32 := 0#32
  let c4_i32_153 : BitVec 32 := 4#32
  let c0_i32_146 : BitVec 32 := 0#32
  let v234 : BitVec 32 := Scalar.muli c4_i32_153 c0_i32_146
  let v235 : BitVec 32 := Scalar.addi c0_i32_154 v234
  let c256_i32_198 : BitVec 32 := 256#32
  let v330 : BitVec 32 := Scalar.muli v235 c256_i32_198
  v330
def k0_off11 (c0_i32_154 : BitVec 32) : Fin 2 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let c256_i32_198 : BitVec 32 := 256#32
  let v330 : BitVec 32 := Scalar.muli v235 c256_i32_198
  let v331 : BitVec 32 := v330
  let v332 : Index := Scalar.indexCast v331
  let c0_199 : Index := 0#32
  ![v332.toNat, 0]
def k0_off12 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v441 : Index := Scalar.indexCast v235
  let c0_233 : Index := 0#32
  let c0_234 : Index := 0#32
  ![v441.toNat, 0, 0]
def k0_off13 (c0_i32_154 : BitVec 32) (c2_i32_237 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v448 : BitVec 32 := Scalar.subi v235 c2_i32_237
  let c0_i32_238 : BitVec 32 := 0#32
  let v449 : BitVec 32 := Scalar.maxsi v448 c0_i32_238
  let v450 : Index := Scalar.indexCast v449
  let c0_239 : Index := 0#32
  let c0_240 : Index := 0#32
  ![v450.toNat, 0, 0]
def k0_off14 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v471 : Index := Scalar.indexCast v235
  let c0_249 : Index := 0#32
  let c0_250 : Index := 0#32
  ![v471.toNat, 0, 0]
def k0_off15 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v484 : Index := Scalar.indexCast v235
  let c0_251 : Index := 0#32
  let c0_252 : Index := 0#32
  ![v484.toNat, 0, 0]
def k0_off16 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v497 : Index := Scalar.indexCast v235
  let c0_253 : Index := 0#32
  let c256_254 : Index := 256#32
  ![v497.toNat, 0, 256]
def k0_off17 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v510 : Index := Scalar.indexCast v235
  let c0_255 : Index := 0#32
  let c512_256 : Index := 512#32
  ![v510.toNat, 0, 512]
def k0_off18 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v523 : Index := Scalar.indexCast v235
  let c0_257 : Index := 0#32
  let c768_258 : Index := 768#32
  ![v523.toNat, 0, 768]
def k0_off19 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v809 : Index := Scalar.indexCast v235
  let c64_365 : Index := 64#32
  let c0_366 : Index := 0#32
  ![v809.toNat, 64, 0]
def k0_off20 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v813 : Index := Scalar.indexCast v235
  let c64_367 : Index := 64#32
  let c256_368 : Index := 256#32
  ![v813.toNat, 64, 256]
def k0_off21 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v817 : Index := Scalar.indexCast v235
  let c64_369 : Index := 64#32
  let c512_370 : Index := 512#32
  ![v817.toNat, 64, 512]
def k0_off22 (c0_i32_154 : BitVec 32) : Fin 3 → Nat :=
  let c4_i32_153 : BitVec 32 := 4#32
  let c0_i32_146 : BitVec 32 := 0#32
  let v234 : BitVec 32 := Scalar.muli c4_i32_153 c0_i32_146
  let v235 : BitVec 32 := Scalar.addi c0_i32_154 v234
  let v821 : Index := Scalar.indexCast v235
  let c64_371 : Index := 64#32
  let c768_372 : Index := 768#32
  ![v821.toNat, 64, 768]
def k0_off23 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v826 : Index := Scalar.indexCast v233
  let c0_374 : Index := 0#32
  let c0_375 : Index := 0#32
  ![v826.toNat, 0, 0]
def k0_off24 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v829 : Index := Scalar.indexCast v233
  let c0_376 : Index := 0#32
  let c0_377 : Index := 0#32
  ![v829.toNat, 0, 0]
def k0_off25 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v833 : Index := Scalar.indexCast v233
  let c64_378 : Index := 64#32
  let c0_379 : Index := 0#32
  ![v833.toNat, 64, 0]
def k0_off26 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v836 : Index := Scalar.indexCast v233
  let c0_380 : Index := 0#32
  let c256_381 : Index := 256#32
  ![v836.toNat, 0, 256]
def k0_off27 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v840 : Index := Scalar.indexCast v233
  let c128_382 : Index := 128#32
  let c0_383 : Index := 0#32
  ![v840.toNat, 128, 0]
def k0_off28 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v843 : Index := Scalar.indexCast v233
  let c0_384 : Index := 0#32
  let c512_385 : Index := 512#32
  ![v843.toNat, 0, 512]
def k0_off29 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v847 : Index := Scalar.indexCast v233
  let c192_386 : Index := 192#32
  let c0_387 : Index := 0#32
  ![v847.toNat, 192, 0]
def k0_off30 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v850 : Index := Scalar.indexCast v233
  let c0_388 : Index := 0#32
  let c768_389 : Index := 768#32
  ![v850.toNat, 0, 768]
def k0_off31 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v854 : Index := Scalar.indexCast v233
  let c0_390 : Index := 0#32
  let c0_391 : Index := 0#32
  ![v854.toNat, 0, 0]
def k0_mult4 : BitVec 32 :=
  let c0_i32_151 : BitVec 32 := 0#32
  let c4_i32_150 : BitVec 32 := 4#32
  let c0_i32_146 : BitVec 32 := 0#32
  let v231 : BitVec 32 := Scalar.muli c4_i32_150 c0_i32_146
  let v232 : BitVec 32 := Scalar.addi c0_i32_151 v231
  let c1_i32_152 : BitVec 32 := 1#32
  let v233 : BitVec 32 := Scalar.addi v232 c1_i32_152
  let c2_i32_407 : BitVec 32 := 2#32
  let v899 : BitVec 32 := Scalar.subi v233 c2_i32_407
  let c0_i32_408 : BitVec 32 := 0#32
  let v900 : BitVec 32 := Scalar.maxsi v899 c0_i32_408
  let c256_i32_409 : BitVec 32 := 256#32
  let v901 : BitVec 32 := Scalar.muli v900 c256_i32_409
  v901
def k0_off32 (c0_i32_151 : BitVec 32) (c1_i32_152 : BitVec 32) (c2_i32_407 : BitVec 32) : Fin 2 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v899 : BitVec 32 := Scalar.subi v233 c2_i32_407
  let c0_i32_408 : BitVec 32 := 0#32
  let v900 : BitVec 32 := Scalar.maxsi v899 c0_i32_408
  let c256_i32_409 : BitVec 32 := 256#32
  let v901 : BitVec 32 := Scalar.muli v900 c256_i32_409
  let v902 : BitVec 32 := v901
  let v903 : Index := Scalar.indexCast v902
  let c0_410 : Index := 0#32
  ![v903.toNat, 0]
def k0_mult5 : BitVec 32 :=
  let c0_i32_151 : BitVec 32 := 0#32
  let c4_i32_150 : BitVec 32 := 4#32
  let c0_i32_146 : BitVec 32 := 0#32
  let v231 : BitVec 32 := Scalar.muli c4_i32_150 c0_i32_146
  let v232 : BitVec 32 := Scalar.addi c0_i32_151 v231
  let c1_i32_152 : BitVec 32 := 1#32
  let v233 : BitVec 32 := Scalar.addi v232 c1_i32_152
  let c1_i32_412 : BitVec 32 := 1#32
  let v906 : BitVec 32 := Scalar.subi v233 c1_i32_412
  let c0_i32_413 : BitVec 32 := 0#32
  let v907 : BitVec 32 := Scalar.maxsi v906 c0_i32_413
  let c256_i32_414 : BitVec 32 := 256#32
  let v908 : BitVec 32 := Scalar.muli v907 c256_i32_414
  v908
def k0_mult6 : BitVec 32 :=
  let c0_i32_151 : BitVec 32 := 0#32
  let c4_i32_150 : BitVec 32 := 4#32
  let c0_i32_146 : BitVec 32 := 0#32
  let v231 : BitVec 32 := Scalar.muli c4_i32_150 c0_i32_146
  let v232 : BitVec 32 := Scalar.addi c0_i32_151 v231
  let c1_i32_152 : BitVec 32 := 1#32
  let v233 : BitVec 32 := Scalar.addi v232 c1_i32_152
  let c256_i32_421 : BitVec 32 := 256#32
  let v919 : BitVec 32 := Scalar.muli v233 c256_i32_421
  v919
def k0_off33 (c0_i32_151 : BitVec 32) (c1_i32_152 : BitVec 32) : Fin 2 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let c256_i32_421 : BitVec 32 := 256#32
  let v919 : BitVec 32 := Scalar.muli v233 c256_i32_421
  let v920 : BitVec 32 := v919
  let v921 : Index := Scalar.indexCast v920
  let c0_422 : Index := 0#32
  ![v921.toNat, 0]
def k0_off34 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1030 : Index := Scalar.indexCast v233
  let c0_456 : Index := 0#32
  let c0_457 : Index := 0#32
  ![v1030.toNat, 0, 0]
def k0_off35 (c0_i32_151 : BitVec 32) (c1_i32_152 : BitVec 32) (c2_i32_460 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1037 : BitVec 32 := Scalar.subi v233 c2_i32_460
  let c0_i32_461 : BitVec 32 := 0#32
  let v1038 : BitVec 32 := Scalar.maxsi v1037 c0_i32_461
  let v1039 : Index := Scalar.indexCast v1038
  let c0_462 : Index := 0#32
  let c0_463 : Index := 0#32
  ![v1039.toNat, 0, 0]
def k0_off36 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1060 : Index := Scalar.indexCast v233
  let c0_472 : Index := 0#32
  let c0_473 : Index := 0#32
  ![v1060.toNat, 0, 0]
def k0_off37 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1073 : Index := Scalar.indexCast v233
  let c0_474 : Index := 0#32
  let c0_475 : Index := 0#32
  ![v1073.toNat, 0, 0]
def k0_off38 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1086 : Index := Scalar.indexCast v233
  let c0_476 : Index := 0#32
  let c256_477 : Index := 256#32
  ![v1086.toNat, 0, 256]
def k0_off39 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1099 : Index := Scalar.indexCast v233
  let c0_478 : Index := 0#32
  let c512_479 : Index := 512#32
  ![v1099.toNat, 0, 512]
def k0_off40 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1112 : Index := Scalar.indexCast v233
  let c0_480 : Index := 0#32
  let c768_481 : Index := 768#32
  ![v1112.toNat, 0, 768]
def k0_off41 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1398 : Index := Scalar.indexCast v233
  let c64_599 : Index := 64#32
  let c0_600 : Index := 0#32
  ![v1398.toNat, 64, 0]
def k0_off42 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1402 : Index := Scalar.indexCast v233
  let c64_601 : Index := 64#32
  let c256_602 : Index := 256#32
  ![v1402.toNat, 64, 256]
def k0_off43 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1406 : Index := Scalar.indexCast v233
  let c64_603 : Index := 64#32
  let c512_604 : Index := 512#32
  ![v1406.toNat, 64, 512]
def k0_off44 (c0_i32_151 : BitVec 32) (c1_i32_152 : BitVec 32) : Fin 3 → Nat :=
  let c4_i32_150 : BitVec 32 := 4#32
  let c0_i32_146 : BitVec 32 := 0#32
  let v231 : BitVec 32 := Scalar.muli c4_i32_150 c0_i32_146
  let v232 : BitVec 32 := Scalar.addi c0_i32_151 v231
  let v233 : BitVec 32 := Scalar.addi v232 c1_i32_152
  let v1410 : Index := Scalar.indexCast v233
  let c64_605 : Index := 64#32
  let c768_606 : Index := 768#32
  ![v1410.toNat, 64, 768]
def k0_mult7 : BitVec 32 :=
  let c0_i32_149 : BitVec 32 := 0#32
  let c4_i32_148 : BitVec 32 := 4#32
  let c0_i32_146 : BitVec 32 := 0#32
  let v228 : BitVec 32 := Scalar.muli c4_i32_148 c0_i32_146
  let v229 : BitVec 32 := Scalar.addi c0_i32_149 v228
  let c2_i32 : BitVec 32 := 2#32
  let v230 : BitVec 32 := Scalar.addi v229 c2_i32
  let c2_i32_641 : BitVec 32 := 2#32
  let v1488 : BitVec 32 := Scalar.subi v230 c2_i32_641
  let c0_i32_642 : BitVec 32 := 0#32
  let v1489 : BitVec 32 := Scalar.maxsi v1488 c0_i32_642
  let c256_i32_643 : BitVec 32 := 256#32
  let v1490 : BitVec 32 := Scalar.muli v1489 c256_i32_643
  v1490
def k0_mult8 : BitVec 32 :=
  let c0_i32_149 : BitVec 32 := 0#32
  let c4_i32_148 : BitVec 32 := 4#32
  let c0_i32_146 : BitVec 32 := 0#32
  let v228 : BitVec 32 := Scalar.muli c4_i32_148 c0_i32_146
  let v229 : BitVec 32 := Scalar.addi c0_i32_149 v228
  let c2_i32 : BitVec 32 := 2#32
  let v230 : BitVec 32 := Scalar.addi v229 c2_i32
  let c1_i32_646 : BitVec 32 := 1#32
  let v1495 : BitVec 32 := Scalar.subi v230 c1_i32_646
  let c0_i32_647 : BitVec 32 := 0#32
  let v1496 : BitVec 32 := Scalar.maxsi v1495 c0_i32_647
  let c256_i32_648 : BitVec 32 := 256#32
  let v1497 : BitVec 32 := Scalar.muli v1496 c256_i32_648
  v1497
def k0_mult9 : BitVec 32 :=
  let c0_i32_149 : BitVec 32 := 0#32
  let c4_i32_148 : BitVec 32 := 4#32
  let c0_i32_146 : BitVec 32 := 0#32
  let v228 : BitVec 32 := Scalar.muli c4_i32_148 c0_i32_146
  let v229 : BitVec 32 := Scalar.addi c0_i32_149 v228
  let c2_i32 : BitVec 32 := 2#32
  let v230 : BitVec 32 := Scalar.addi v229 c2_i32
  let c256_i32_655 : BitVec 32 := 256#32
  let v1508 : BitVec 32 := Scalar.muli v230 c256_i32_655
  v1508
def k0_mult10 : BitVec 32 :=
  let c0_i32_147 : BitVec 32 := 0#32
  let c4_i32 : BitVec 32 := 4#32
  let c0_i32_146 : BitVec 32 := 0#32
  let v225 : BitVec 32 := Scalar.muli c4_i32 c0_i32_146
  let v226 : BitVec 32 := Scalar.addi c0_i32_147 v225
  let c3_i32 : BitVec 32 := 3#32
  let v227 : BitVec 32 := Scalar.addi v226 c3_i32
  let c2_i32_875 : BitVec 32 := 2#32
  let v2077 : BitVec 32 := Scalar.subi v227 c2_i32_875
  let c0_i32_876 : BitVec 32 := 0#32
  let v2078 : BitVec 32 := Scalar.maxsi v2077 c0_i32_876
  let c256_i32_877 : BitVec 32 := 256#32
  let v2079 : BitVec 32 := Scalar.muli v2078 c256_i32_877
  v2079
def k0_mult11 : BitVec 32 :=
  let c0_i32_147 : BitVec 32 := 0#32
  let c4_i32 : BitVec 32 := 4#32
  let c0_i32_146 : BitVec 32 := 0#32
  let v225 : BitVec 32 := Scalar.muli c4_i32 c0_i32_146
  let v226 : BitVec 32 := Scalar.addi c0_i32_147 v225
  let c3_i32 : BitVec 32 := 3#32
  let v227 : BitVec 32 := Scalar.addi v226 c3_i32
  let c1_i32_880 : BitVec 32 := 1#32
  let v2084 : BitVec 32 := Scalar.subi v227 c1_i32_880
  let c0_i32_881 : BitVec 32 := 0#32
  let v2085 : BitVec 32 := Scalar.maxsi v2084 c0_i32_881
  let c256_i32_882 : BitVec 32 := 256#32
  let v2086 : BitVec 32 := Scalar.muli v2085 c256_i32_882
  v2086
def k0_mult12 : BitVec 32 :=
  let c0_i32_147 : BitVec 32 := 0#32
  let c4_i32 : BitVec 32 := 4#32
  let c0_i32_146 : BitVec 32 := 0#32
  let v225 : BitVec 32 := Scalar.muli c4_i32 c0_i32_146
  let v226 : BitVec 32 := Scalar.addi c0_i32_147 v225
  let c3_i32 : BitVec 32 := 3#32
  let v227 : BitVec 32 := Scalar.addi v226 c3_i32
  let c256_i32_889 : BitVec 32 := 256#32
  let v2097 : BitVec 32 := Scalar.muli v227 c256_i32_889
  v2097
def k0_mult13 : BitVec 32 :=
  let c4_i32_1087 : BitVec 32 := 4#32
  let c4_i32_1086 : BitVec 32 := 4#32
  let c0_i32_1076 : BitVec 32 := 0#32
  let v2601 : BitVec 32 := Scalar.muli c4_i32_1086 c0_i32_1076
  let v2602 : BitVec 32 := Scalar.addi c4_i32_1087 v2601
  let c2_i32_1122 : BitVec 32 := 2#32
  let v2677 : BitVec 32 := Scalar.subi v2602 c2_i32_1122
  let c0_i32_1123 : BitVec 32 := 0#32
  let v2678 : BitVec 32 := Scalar.maxsi v2677 c0_i32_1123
  let c256_i32_1124 : BitVec 32 := 256#32
  let v2679 : BitVec 32 := Scalar.muli v2678 c256_i32_1124
  v2679
def k0_mult14 : BitVec 32 :=
  let c4_i32_1087 : BitVec 32 := 4#32
  let c4_i32_1086 : BitVec 32 := 4#32
  let c0_i32_1076 : BitVec 32 := 0#32
  let v2601 : BitVec 32 := Scalar.muli c4_i32_1086 c0_i32_1076
  let v2602 : BitVec 32 := Scalar.addi c4_i32_1087 v2601
  let c1_i32_1127 : BitVec 32 := 1#32
  let v2684 : BitVec 32 := Scalar.subi v2602 c1_i32_1127
  let c0_i32_1128 : BitVec 32 := 0#32
  let v2685 : BitVec 32 := Scalar.maxsi v2684 c0_i32_1128
  let c256_i32_1129 : BitVec 32 := 256#32
  let v2686 : BitVec 32 := Scalar.muli v2685 c256_i32_1129
  v2686
def k0_mult15 : BitVec 32 :=
  let c4_i32_1087 : BitVec 32 := 4#32
  let c4_i32_1086 : BitVec 32 := 4#32
  let c0_i32_1076 : BitVec 32 := 0#32
  let v2601 : BitVec 32 := Scalar.muli c4_i32_1086 c0_i32_1076
  let v2602 : BitVec 32 := Scalar.addi c4_i32_1087 v2601
  let c256_i32_1132 : BitVec 32 := 256#32
  let v2691 : BitVec 32 := Scalar.muli v2602 c256_i32_1132
  v2691
def k0_mult16 : BitVec 32 :=
  let c4_i32_1084 : BitVec 32 := 4#32
  let c4_i32_1083 : BitVec 32 := 4#32
  let c0_i32_1076 : BitVec 32 := 0#32
  let v2598 : BitVec 32 := Scalar.muli c4_i32_1083 c0_i32_1076
  let v2599 : BitVec 32 := Scalar.addi c4_i32_1084 v2598
  let c1_i32_1085 : BitVec 32 := 1#32
  let v2600 : BitVec 32 := Scalar.addi v2599 c1_i32_1085
  let c2_i32_1434 : BitVec 32 := 2#32
  let v3532 : BitVec 32 := Scalar.subi v2600 c2_i32_1434
  let c0_i32_1435 : BitVec 32 := 0#32
  let v3533 : BitVec 32 := Scalar.maxsi v3532 c0_i32_1435
  let c256_i32_1436 : BitVec 32 := 256#32
  let v3534 : BitVec 32 := Scalar.muli v3533 c256_i32_1436
  v3534
def k0_mult17 : BitVec 32 :=
  let c4_i32_1084 : BitVec 32 := 4#32
  let c4_i32_1083 : BitVec 32 := 4#32
  let c0_i32_1076 : BitVec 32 := 0#32
  let v2598 : BitVec 32 := Scalar.muli c4_i32_1083 c0_i32_1076
  let v2599 : BitVec 32 := Scalar.addi c4_i32_1084 v2598
  let c1_i32_1085 : BitVec 32 := 1#32
  let v2600 : BitVec 32 := Scalar.addi v2599 c1_i32_1085
  let c1_i32_1439 : BitVec 32 := 1#32
  let v3539 : BitVec 32 := Scalar.subi v2600 c1_i32_1439
  let c0_i32_1440 : BitVec 32 := 0#32
  let v3540 : BitVec 32 := Scalar.maxsi v3539 c0_i32_1440
  let c256_i32_1441 : BitVec 32 := 256#32
  let v3541 : BitVec 32 := Scalar.muli v3540 c256_i32_1441
  v3541
def k0_mult18 : BitVec 32 :=
  let c4_i32_1084 : BitVec 32 := 4#32
  let c4_i32_1083 : BitVec 32 := 4#32
  let c0_i32_1076 : BitVec 32 := 0#32
  let v2598 : BitVec 32 := Scalar.muli c4_i32_1083 c0_i32_1076
  let v2599 : BitVec 32 := Scalar.addi c4_i32_1084 v2598
  let c1_i32_1085 : BitVec 32 := 1#32
  let v2600 : BitVec 32 := Scalar.addi v2599 c1_i32_1085
  let c256_i32_1444 : BitVec 32 := 256#32
  let v3546 : BitVec 32 := Scalar.muli v2600 c256_i32_1444
  v3546
def k0_mult19 : BitVec 32 :=
  let c4_i32_1081 : BitVec 32 := 4#32
  let c4_i32_1080 : BitVec 32 := 4#32
  let c0_i32_1076 : BitVec 32 := 0#32
  let v2595 : BitVec 32 := Scalar.muli c4_i32_1080 c0_i32_1076
  let v2596 : BitVec 32 := Scalar.addi c4_i32_1081 v2595
  let c2_i32_1082 : BitVec 32 := 2#32
  let v2597 : BitVec 32 := Scalar.addi v2596 c2_i32_1082
  let c2_i32_1776 : BitVec 32 := 2#32
  let v4387 : BitVec 32 := Scalar.subi v2597 c2_i32_1776
  let c0_i32_1777 : BitVec 32 := 0#32
  let v4388 : BitVec 32 := Scalar.maxsi v4387 c0_i32_1777
  let c256_i32_1778 : BitVec 32 := 256#32
  let v4389 : BitVec 32 := Scalar.muli v4388 c256_i32_1778
  v4389
def k0_mult20 : BitVec 32 :=
  let c4_i32_1081 : BitVec 32 := 4#32
  let c4_i32_1080 : BitVec 32 := 4#32
  let c0_i32_1076 : BitVec 32 := 0#32
  let v2595 : BitVec 32 := Scalar.muli c4_i32_1080 c0_i32_1076
  let v2596 : BitVec 32 := Scalar.addi c4_i32_1081 v2595
  let c2_i32_1082 : BitVec 32 := 2#32
  let v2597 : BitVec 32 := Scalar.addi v2596 c2_i32_1082
  let c1_i32_1781 : BitVec 32 := 1#32
  let v4394 : BitVec 32 := Scalar.subi v2597 c1_i32_1781
  let c0_i32_1782 : BitVec 32 := 0#32
  let v4395 : BitVec 32 := Scalar.maxsi v4394 c0_i32_1782
  let c256_i32_1783 : BitVec 32 := 256#32
  let v4396 : BitVec 32 := Scalar.muli v4395 c256_i32_1783
  v4396
def k0_mult21 : BitVec 32 :=
  let c4_i32_1081 : BitVec 32 := 4#32
  let c4_i32_1080 : BitVec 32 := 4#32
  let c0_i32_1076 : BitVec 32 := 0#32
  let v2595 : BitVec 32 := Scalar.muli c4_i32_1080 c0_i32_1076
  let v2596 : BitVec 32 := Scalar.addi c4_i32_1081 v2595
  let c2_i32_1082 : BitVec 32 := 2#32
  let v2597 : BitVec 32 := Scalar.addi v2596 c2_i32_1082
  let c256_i32_1786 : BitVec 32 := 256#32
  let v4401 : BitVec 32 := Scalar.muli v2597 c256_i32_1786
  v4401
def k0_mult22 : BitVec 32 :=
  let c4_i32_1078 : BitVec 32 := 4#32
  let c4_i32_1077 : BitVec 32 := 4#32
  let c0_i32_1076 : BitVec 32 := 0#32
  let v2592 : BitVec 32 := Scalar.muli c4_i32_1077 c0_i32_1076
  let v2593 : BitVec 32 := Scalar.addi c4_i32_1078 v2592
  let c3_i32_1079 : BitVec 32 := 3#32
  let v2594 : BitVec 32 := Scalar.addi v2593 c3_i32_1079
  let c2_i32_2118 : BitVec 32 := 2#32
  let v5242 : BitVec 32 := Scalar.subi v2594 c2_i32_2118
  let c0_i32_2119 : BitVec 32 := 0#32
  let v5243 : BitVec 32 := Scalar.maxsi v5242 c0_i32_2119
  let c256_i32_2120 : BitVec 32 := 256#32
  let v5244 : BitVec 32 := Scalar.muli v5243 c256_i32_2120
  v5244
def k0_mult23 : BitVec 32 :=
  let c4_i32_1078 : BitVec 32 := 4#32
  let c4_i32_1077 : BitVec 32 := 4#32
  let c0_i32_1076 : BitVec 32 := 0#32
  let v2592 : BitVec 32 := Scalar.muli c4_i32_1077 c0_i32_1076
  let v2593 : BitVec 32 := Scalar.addi c4_i32_1078 v2592
  let c3_i32_1079 : BitVec 32 := 3#32
  let v2594 : BitVec 32 := Scalar.addi v2593 c3_i32_1079
  let c1_i32_2123 : BitVec 32 := 1#32
  let v5249 : BitVec 32 := Scalar.subi v2594 c1_i32_2123
  let c0_i32_2124 : BitVec 32 := 0#32
  let v5250 : BitVec 32 := Scalar.maxsi v5249 c0_i32_2124
  let c256_i32_2125 : BitVec 32 := 256#32
  let v5251 : BitVec 32 := Scalar.muli v5250 c256_i32_2125
  v5251
def k0_mult24 : BitVec 32 :=
  let c4_i32_1078 : BitVec 32 := 4#32
  let c4_i32_1077 : BitVec 32 := 4#32
  let c0_i32_1076 : BitVec 32 := 0#32
  let v2592 : BitVec 32 := Scalar.muli c4_i32_1077 c0_i32_1076
  let v2593 : BitVec 32 := Scalar.addi c4_i32_1078 v2592
  let c3_i32_1079 : BitVec 32 := 3#32
  let v2594 : BitVec 32 := Scalar.addi v2593 c3_i32_1079
  let c256_i32_2128 : BitVec 32 := 256#32
  let v5256 : BitVec 32 := Scalar.muli v2594 c256_i32_2128
  v5256
@[reducible] def k0_t1_loop : Scf.Loop 32 :=
  let c8_i32_2427 : BitVec 32 := 8#32
  let c4_i32_2428 : BitVec 32 := 4#32
  let v6023 : BitVec 32 := Scalar.addi c8_i32_2427 c4_i32_2428
  let c1_i32_2429 : BitVec 32 := 1#32
  ⟨c8_i32_2427, v6023, c1_i32_2429⟩
def k0_off45 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6406 : Index := Scalar.indexCast arg20
  let c0_2727 : Index := 0#32
  let c0_2728 : Index := 0#32
  ![v6406.toNat, 0, 0]
def k0_off46 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6409 : Index := Scalar.indexCast arg20
  let c0_2729 : Index := 0#32
  let c0_2730 : Index := 0#32
  ![v6409.toNat, 0, 0]
def k0_off47 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6413 : Index := Scalar.indexCast arg20
  let c64_2731 : Index := 64#32
  let c0_2732 : Index := 0#32
  ![v6413.toNat, 64, 0]
def k0_off48 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6416 : Index := Scalar.indexCast arg20
  let c0_2733 : Index := 0#32
  let c256_2734 : Index := 256#32
  ![v6416.toNat, 0, 256]
def k0_off49 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6420 : Index := Scalar.indexCast arg20
  let c128_2735 : Index := 128#32
  let c0_2736 : Index := 0#32
  ![v6420.toNat, 128, 0]
def k0_off50 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6423 : Index := Scalar.indexCast arg20
  let c0_2737 : Index := 0#32
  let c512_2738 : Index := 512#32
  ![v6423.toNat, 0, 512]
def k0_off51 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6427 : Index := Scalar.indexCast arg20
  let c192_2739 : Index := 192#32
  let c0_2740 : Index := 0#32
  ![v6427.toNat, 192, 0]
def k0_off52 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6430 : Index := Scalar.indexCast arg20
  let c0_2741 : Index := 0#32
  let c768_2742 : Index := 768#32
  ![v6430.toNat, 0, 768]
def k0_off53 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6434 : Index := Scalar.indexCast arg20
  let c0_2743 : Index := 0#32
  let c0_2744 : Index := 0#32
  ![v6434.toNat, 0, 0]
def k0_mult25 (k0_t1 : Fin k0_t1_loop.trips) : BitVec 32 :=
  let c8_i32_2427 : BitVec 32 := 8#32
  let c1_i32_2429 : BitVec 32 := 1#32
  let arg20 : BitVec 32 := Scf.iv c8_i32_2427 c1_i32_2429 k0_t1
  let c2_i32_2760 : BitVec 32 := 2#32
  let v6479 : BitVec 32 := Scalar.subi arg20 c2_i32_2760
  let c0_i32_2761 : BitVec 32 := 0#32
  let v6480 : BitVec 32 := Scalar.maxsi v6479 c0_i32_2761
  let c256_i32_2762 : BitVec 32 := 256#32
  let v6481 : BitVec 32 := Scalar.muli v6480 c256_i32_2762
  v6481
def k0_off54 (k0_t1 : Fin k0_t1_loop.trips) (c2_i32_2760 : BitVec 32) : Fin 2 → Nat :=
  let c8_i32_2427 : BitVec 32 := 8#32
  let c1_i32_2429 : BitVec 32 := 1#32
  let arg20 : BitVec 32 := Scf.iv c8_i32_2427 c1_i32_2429 k0_t1
  let v6479 : BitVec 32 := Scalar.subi arg20 c2_i32_2760
  let c0_i32_2761 : BitVec 32 := 0#32
  let v6480 : BitVec 32 := Scalar.maxsi v6479 c0_i32_2761
  let c256_i32_2762 : BitVec 32 := 256#32
  let v6481 : BitVec 32 := Scalar.muli v6480 c256_i32_2762
  let v6482 : BitVec 32 := v6481
  let v6483 : Index := Scalar.indexCast v6482
  let c0_2763 : Index := 0#32
  ![v6483.toNat, 0]
def k0_mult26 (k0_t1 : Fin k0_t1_loop.trips) : BitVec 32 :=
  let c8_i32_2427 : BitVec 32 := 8#32
  let c1_i32_2429 : BitVec 32 := 1#32
  let arg20 : BitVec 32 := Scf.iv c8_i32_2427 c1_i32_2429 k0_t1
  let c1_i32_2765 : BitVec 32 := 1#32
  let v6486 : BitVec 32 := Scalar.subi arg20 c1_i32_2765
  let c0_i32_2766 : BitVec 32 := 0#32
  let v6487 : BitVec 32 := Scalar.maxsi v6486 c0_i32_2766
  let c256_i32_2767 : BitVec 32 := 256#32
  let v6488 : BitVec 32 := Scalar.muli v6487 c256_i32_2767
  v6488
def k0_mult27 (k0_t1 : Fin k0_t1_loop.trips) : BitVec 32 :=
  let c8_i32_2427 : BitVec 32 := 8#32
  let c1_i32_2429 : BitVec 32 := 1#32
  let arg20 : BitVec 32 := Scf.iv c8_i32_2427 c1_i32_2429 k0_t1
  let c256_i32_2770 : BitVec 32 := 256#32
  let v6493 : BitVec 32 := Scalar.muli arg20 c256_i32_2770
  v6493
def k0_off55 (k0_t1 : Fin k0_t1_loop.trips) : Fin 2 → Nat :=
  let c8_i32_2427 : BitVec 32 := 8#32
  let c1_i32_2429 : BitVec 32 := 1#32
  let arg20 : BitVec 32 := Scf.iv c8_i32_2427 c1_i32_2429 k0_t1
  let c256_i32_2770 : BitVec 32 := 256#32
  let v6493 : BitVec 32 := Scalar.muli arg20 c256_i32_2770
  let v6494 : BitVec 32 := v6493
  let v6495 : Index := Scalar.indexCast v6494
  let c0_2771 : Index := 0#32
  ![v6495.toNat, 0]
def k0_off56 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6604 : Index := Scalar.indexCast arg20
  let c0_2805 : Index := 0#32
  let c0_2806 : Index := 0#32
  ![v6604.toNat, 0, 0]
def k0_off57 (k0_t1 : Fin k0_t1_loop.trips) (c2_i32_2809 : BitVec 32) : Fin 3 → Nat :=
  let c8_i32_2427 : BitVec 32 := 8#32
  let c1_i32_2429 : BitVec 32 := 1#32
  let arg20 : BitVec 32 := Scf.iv c8_i32_2427 c1_i32_2429 k0_t1
  let v6611 : BitVec 32 := Scalar.subi arg20 c2_i32_2809
  let c0_i32_2810 : BitVec 32 := 0#32
  let v6612 : BitVec 32 := Scalar.maxsi v6611 c0_i32_2810
  let v6613 : Index := Scalar.indexCast v6612
  let c0_2811 : Index := 0#32
  let c0_2812 : Index := 0#32
  ![v6613.toNat, 0, 0]
def k0_off58 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6634 : Index := Scalar.indexCast arg20
  let c0_2821 : Index := 0#32
  let c0_2822 : Index := 0#32
  ![v6634.toNat, 0, 0]
def k0_off59 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6647 : Index := Scalar.indexCast arg20
  let c0_2823 : Index := 0#32
  let c0_2824 : Index := 0#32
  ![v6647.toNat, 0, 0]
def k0_off60 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6660 : Index := Scalar.indexCast arg20
  let c0_2825 : Index := 0#32
  let c256_2826 : Index := 256#32
  ![v6660.toNat, 0, 256]
def k0_off61 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6673 : Index := Scalar.indexCast arg20
  let c0_2827 : Index := 0#32
  let c512_2828 : Index := 512#32
  ![v6673.toNat, 0, 512]
def k0_off62 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v6686 : Index := Scalar.indexCast arg20
  let c0_2829 : Index := 0#32
  let c768_2830 : Index := 768#32
  ![v6686.toNat, 0, 768]
def k0_off63 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v7516 : Index := Scalar.indexCast arg20
  let c64_3140 : Index := 64#32
  let c0_3141 : Index := 0#32
  ![v7516.toNat, 64, 0]
def k0_off64 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v7520 : Index := Scalar.indexCast arg20
  let c64_3142 : Index := 64#32
  let c256_3143 : Index := 256#32
  ![v7520.toNat, 64, 256]
def k0_off65 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v7524 : Index := Scalar.indexCast arg20
  let c64_3144 : Index := 64#32
  let c512_3145 : Index := 512#32
  ![v7524.toNat, 64, 512]
def k0_off66 (k0_t1 : Fin k0_t1_loop.trips) : Fin 3 → Nat :=
  let c8_i32_2427 : BitVec 32 := 8#32
  let c1_i32_2429 : BitVec 32 := 1#32
  let arg20 : BitVec 32 := Scf.iv c8_i32_2427 c1_i32_2429 k0_t1
  let v7528 : Index := Scalar.indexCast arg20
  let c64_3146 : Index := 64#32
  let c768_3147 : Index := 768#32
  ![v7528.toNat, 64, 768]
@[reducible] def k0_t2_loop : Scf.Loop 32 :=
  let c12_i32_2431 : BitVec 32 := 12#32
  let c4_i32_2432 : BitVec 32 := 4#32
  let v6024 : BitVec 32 := Scalar.addi c12_i32_2431 c4_i32_2432
  let c1_i32_2433 : BitVec 32 := 1#32
  ⟨c12_i32_2431, v6024, c1_i32_2433⟩
def k0_off67 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6406 : Index := Scalar.indexCast arg20
  let c0_2727 : Index := 0#32
  let c0_2728 : Index := 0#32
  ![v6406.toNat, 0, 0]
def k0_off68 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6409 : Index := Scalar.indexCast arg20
  let c0_2729 : Index := 0#32
  let c0_2730 : Index := 0#32
  ![v6409.toNat, 0, 0]
def k0_off69 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6413 : Index := Scalar.indexCast arg20
  let c64_2731 : Index := 64#32
  let c0_2732 : Index := 0#32
  ![v6413.toNat, 64, 0]
def k0_off70 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6416 : Index := Scalar.indexCast arg20
  let c0_2733 : Index := 0#32
  let c256_2734 : Index := 256#32
  ![v6416.toNat, 0, 256]
def k0_off71 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6420 : Index := Scalar.indexCast arg20
  let c128_2735 : Index := 128#32
  let c0_2736 : Index := 0#32
  ![v6420.toNat, 128, 0]
def k0_off72 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6423 : Index := Scalar.indexCast arg20
  let c0_2737 : Index := 0#32
  let c512_2738 : Index := 512#32
  ![v6423.toNat, 0, 512]
def k0_off73 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6427 : Index := Scalar.indexCast arg20
  let c192_2739 : Index := 192#32
  let c0_2740 : Index := 0#32
  ![v6427.toNat, 192, 0]
def k0_off74 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6430 : Index := Scalar.indexCast arg20
  let c0_2741 : Index := 0#32
  let c768_2742 : Index := 768#32
  ![v6430.toNat, 0, 768]
def k0_off75 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6434 : Index := Scalar.indexCast arg20
  let c0_2743 : Index := 0#32
  let c0_2744 : Index := 0#32
  ![v6434.toNat, 0, 0]
def k0_mult28 (k0_t2 : Fin k0_t2_loop.trips) : BitVec 32 :=
  let c12_i32_2431 : BitVec 32 := 12#32
  let c1_i32_2433 : BitVec 32 := 1#32
  let arg20 : BitVec 32 := Scf.iv c12_i32_2431 c1_i32_2433 k0_t2
  let c2_i32_2760 : BitVec 32 := 2#32
  let v6479 : BitVec 32 := Scalar.subi arg20 c2_i32_2760
  let c0_i32_2761 : BitVec 32 := 0#32
  let v6480 : BitVec 32 := Scalar.maxsi v6479 c0_i32_2761
  let c256_i32_2762 : BitVec 32 := 256#32
  let v6481 : BitVec 32 := Scalar.muli v6480 c256_i32_2762
  v6481
def k0_off76 (k0_t2 : Fin k0_t2_loop.trips) (c2_i32_2760 : BitVec 32) : Fin 2 → Nat :=
  let c12_i32_2431 : BitVec 32 := 12#32
  let c1_i32_2433 : BitVec 32 := 1#32
  let arg20 : BitVec 32 := Scf.iv c12_i32_2431 c1_i32_2433 k0_t2
  let v6479 : BitVec 32 := Scalar.subi arg20 c2_i32_2760
  let c0_i32_2761 : BitVec 32 := 0#32
  let v6480 : BitVec 32 := Scalar.maxsi v6479 c0_i32_2761
  let c256_i32_2762 : BitVec 32 := 256#32
  let v6481 : BitVec 32 := Scalar.muli v6480 c256_i32_2762
  let v6482 : BitVec 32 := v6481
  let v6483 : Index := Scalar.indexCast v6482
  let c0_2763 : Index := 0#32
  ![v6483.toNat, 0]
def k0_mult29 (k0_t2 : Fin k0_t2_loop.trips) : BitVec 32 :=
  let c12_i32_2431 : BitVec 32 := 12#32
  let c1_i32_2433 : BitVec 32 := 1#32
  let arg20 : BitVec 32 := Scf.iv c12_i32_2431 c1_i32_2433 k0_t2
  let c1_i32_2765 : BitVec 32 := 1#32
  let v6486 : BitVec 32 := Scalar.subi arg20 c1_i32_2765
  let c0_i32_2766 : BitVec 32 := 0#32
  let v6487 : BitVec 32 := Scalar.maxsi v6486 c0_i32_2766
  let c256_i32_2767 : BitVec 32 := 256#32
  let v6488 : BitVec 32 := Scalar.muli v6487 c256_i32_2767
  v6488
def k0_mult30 (k0_t2 : Fin k0_t2_loop.trips) : BitVec 32 :=
  let c12_i32_2431 : BitVec 32 := 12#32
  let c1_i32_2433 : BitVec 32 := 1#32
  let arg20 : BitVec 32 := Scf.iv c12_i32_2431 c1_i32_2433 k0_t2
  let c256_i32_2770 : BitVec 32 := 256#32
  let v6493 : BitVec 32 := Scalar.muli arg20 c256_i32_2770
  v6493
def k0_off77 (k0_t2 : Fin k0_t2_loop.trips) : Fin 2 → Nat :=
  let c12_i32_2431 : BitVec 32 := 12#32
  let c1_i32_2433 : BitVec 32 := 1#32
  let arg20 : BitVec 32 := Scf.iv c12_i32_2431 c1_i32_2433 k0_t2
  let c256_i32_2770 : BitVec 32 := 256#32
  let v6493 : BitVec 32 := Scalar.muli arg20 c256_i32_2770
  let v6494 : BitVec 32 := v6493
  let v6495 : Index := Scalar.indexCast v6494
  let c0_2771 : Index := 0#32
  ![v6495.toNat, 0]
def k0_off78 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6604 : Index := Scalar.indexCast arg20
  let c0_2805 : Index := 0#32
  let c0_2806 : Index := 0#32
  ![v6604.toNat, 0, 0]
def k0_off79 (k0_t2 : Fin k0_t2_loop.trips) (c2_i32_2809 : BitVec 32) : Fin 3 → Nat :=
  let c12_i32_2431 : BitVec 32 := 12#32
  let c1_i32_2433 : BitVec 32 := 1#32
  let arg20 : BitVec 32 := Scf.iv c12_i32_2431 c1_i32_2433 k0_t2
  let v6611 : BitVec 32 := Scalar.subi arg20 c2_i32_2809
  let c0_i32_2810 : BitVec 32 := 0#32
  let v6612 : BitVec 32 := Scalar.maxsi v6611 c0_i32_2810
  let v6613 : Index := Scalar.indexCast v6612
  let c0_2811 : Index := 0#32
  let c0_2812 : Index := 0#32
  ![v6613.toNat, 0, 0]
def k0_off80 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6634 : Index := Scalar.indexCast arg20
  let c0_2821 : Index := 0#32
  let c0_2822 : Index := 0#32
  ![v6634.toNat, 0, 0]
def k0_off81 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6647 : Index := Scalar.indexCast arg20
  let c0_2823 : Index := 0#32
  let c0_2824 : Index := 0#32
  ![v6647.toNat, 0, 0]
def k0_off82 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6660 : Index := Scalar.indexCast arg20
  let c0_2825 : Index := 0#32
  let c256_2826 : Index := 256#32
  ![v6660.toNat, 0, 256]
def k0_off83 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6673 : Index := Scalar.indexCast arg20
  let c0_2827 : Index := 0#32
  let c512_2828 : Index := 512#32
  ![v6673.toNat, 0, 512]
def k0_off84 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v6686 : Index := Scalar.indexCast arg20
  let c0_2829 : Index := 0#32
  let c768_2830 : Index := 768#32
  ![v6686.toNat, 0, 768]
def k0_off85 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v7786 : Index := Scalar.indexCast arg20
  let c64_3219 : Index := 64#32
  let c0_3220 : Index := 0#32
  ![v7786.toNat, 64, 0]
def k0_off86 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v7790 : Index := Scalar.indexCast arg20
  let c64_3221 : Index := 64#32
  let c256_3222 : Index := 256#32
  ![v7790.toNat, 64, 256]
def k0_off87 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v7794 : Index := Scalar.indexCast arg20
  let c64_3223 : Index := 64#32
  let c512_3224 : Index := 512#32
  ![v7794.toNat, 64, 512]
def k0_off88 (k0_t2 : Fin k0_t2_loop.trips) : Fin 3 → Nat :=
  let c12_i32_2431 : BitVec 32 := 12#32
  let c1_i32_2433 : BitVec 32 := 1#32
  let arg20 : BitVec 32 := Scf.iv c12_i32_2431 c1_i32_2433 k0_t2
  let v7798 : Index := Scalar.indexCast arg20
  let c64_3225 : Index := 64#32
  let c768_3226 : Index := 768#32
  ![v7798.toNat, 64, 768]
def k0_mult31 : BitVec 32 :=
  let c0_i32_2435 : BitVec 32 := 0#32
  c0_i32_2435
def k0_mult32 : BitVec 32 :=
  let c256_i32_2441 : BitVec 32 := 256#32
  c256_i32_2441
def k0_mult33 : BitVec 32 :=
  let c512_i32 : BitVec 32 := 512#32
  c512_i32
def k0_mult34 : BitVec 32 :=
  let c768_i32 : BitVec 32 := 768#32
  c768_i32
def k0_mult35 : BitVec 32 :=
  let c1024_i32 : BitVec 32 := 1024#32
  c1024_i32
def k0_mult36 : BitVec 32 :=
  let c1280_i32 : BitVec 32 := 1280#32
  c1280_i32
def k0_mult37 : BitVec 32 :=
  let c1536_i32 : BitVec 32 := 1536#32
  c1536_i32
def k0_mult38 : BitVec 32 :=
  let c1792_i32 : BitVec 32 := 1792#32
  c1792_i32
def k0_mult39 : BitVec 32 :=
  let c2048_i32 : BitVec 32 := 2048#32
  c2048_i32
def k0_mult40 : BitVec 32 :=
  let c2304_i32 : BitVec 32 := 2304#32
  c2304_i32
def k0_mult41 : BitVec 32 :=
  let c2560_i32 : BitVec 32 := 2560#32
  c2560_i32
def k0_mult42 : BitVec 32 :=
  let c2816_i32 : BitVec 32 := 2816#32
  c2816_i32
def k0_mult43 : BitVec 32 :=
  let c3072_i32 : BitVec 32 := 3072#32
  c3072_i32
def k0_mult44 : BitVec 32 :=
  let c3328_i32 : BitVec 32 := 3328#32
  c3328_i32
def k0_mult45 : BitVec 32 :=
  let c3584_i32 : BitVec 32 := 3584#32
  c3584_i32
def k0_mult46 : BitVec 32 :=
  let c3840_i32 : BitVec 32 := 3840#32
  c3840_i32
def k0_mult47 : BitVec 32 :=
  let c0_i32_2709 : BitVec 32 := 0#32
  c0_i32_2709
@[reducible] def k0_t3_loop : Scf.Loop 32 :=
  let c0_i32_2719 : BitVec 32 := 0#32
  let c4_i32_2720 : BitVec 32 := 4#32
  let v6402 : BitVec 32 := Scalar.addi c0_i32_2719 c4_i32_2720
  let c1_i32_2721 : BitVec 32 := 1#32
  ⟨c0_i32_2719, v6402, c1_i32_2721⟩
def k0_off89 (arg22 : BitVec 32) : Fin 3 → Nat :=
  let v6417 : Index := Scalar.indexCast arg22
  let c0_2740 : Index := 0#32
  let c0_2741 : Index := 0#32
  ![v6417.toNat, 0, 0]

def k0_off90 (arg22 : BitVec 32) : Fin 3 → Nat :=
  let v6420 : Index := Scalar.indexCast arg22
  let c0_2742 : Index := 0#32
  let c0_2743 : Index := 0#32
  ![v6420.toNat, 0, 0]
def k0_mult48 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c14_i32_2738 : BitVec 32 := 14#32
  let v6415 : BitVec 32 := Scalar.minsi v6412 c14_i32_2738
  let c256_i32_2744 : BitVec 32 := 256#32
  let v6423 : BitVec 32 := Scalar.muli v6415 c256_i32_2744
  v6423
def k0_off91 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c14_i32_2738 : BitVec 32 := 14#32
  let v6415 : BitVec 32 := Scalar.minsi v6412 c14_i32_2738
  let c256_i32_2744 : BitVec 32 := 256#32
  let v6423 : BitVec 32 := Scalar.muli v6415 c256_i32_2744
  let v6424 : BitVec 32 := v6423
  let v6425 : Index := Scalar.indexCast v6424
  let c0_2745 : Index := 0#32
  ![v6425.toNat, 0]
def k0_off92 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c1_i32_2737 : BitVec 32 := 1#32
  let v6413 : BitVec 32 := Scalar.addi arg22 c1_i32_2737
  let v6414 : BitVec 32 := Scalar.select v6410 v6413 arg22
  let c15_i32_2739 : BitVec 32 := 15#32
  let v6416 : BitVec 32 := Scalar.minsi v6414 c15_i32_2739
  let v6427 : Index := Scalar.indexCast v6416
  let c0_2746 : Index := 0#32
  let c0_2747 : Index := 0#32
  ![v6427.toNat, 0, 0]
def k0_off93 (arg21 : BitVec 32) : Fin 3 → Nat :=
  let v6445 : Index := Scalar.indexCast arg21
  let c0_2750 : Index := 0#32
  let c0_2751 : Index := 0#32
  ![v6445.toNat, 0, 0]

def k0_chk2 (arg21 : BitVec 32) : Prop :=
  (∀ a, (k0_off93 arg21) a + S1x80x256.size a ≤ S16x80x256.size a)
theorem k0_off93_inb : ∀ (arg21 : BitVec 32) (k0_hw2 : k0_chk2 arg21), ∀ a, (k0_off93 arg21) a + S1x80x256.size a ≤ S16x80x256.size a := fun arg21 k0_hw2 => k0_hw2

def k0_off94 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c1_i32_2737 : BitVec 32 := 1#32
  let v6413 : BitVec 32 := Scalar.addi arg22 c1_i32_2737
  let v6414 : BitVec 32 := Scalar.select v6410 v6413 arg22
  let c15_i32_2739 : BitVec 32 := 15#32
  let v6416 : BitVec 32 := Scalar.minsi v6414 c15_i32_2739
  let v6452 : Index := Scalar.indexCast v6416
  let c0_2754 : Index := 0#32
  let c256_2755 : Index := 256#32
  ![v6452.toNat, 0, 256]
def k0_off95 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c1_i32_2737 : BitVec 32 := 1#32
  let v6413 : BitVec 32 := Scalar.addi arg22 c1_i32_2737
  let v6414 : BitVec 32 := Scalar.select v6410 v6413 arg22
  let c15_i32_2739 : BitVec 32 := 15#32
  let v6416 : BitVec 32 := Scalar.minsi v6414 c15_i32_2739
  let v6477 : Index := Scalar.indexCast v6416
  let c0_2762 : Index := 0#32
  let c512_2763 : Index := 512#32
  ![v6477.toNat, 0, 512]
def k0_off96 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c1_i32_2737 : BitVec 32 := 1#32
  let v6413 : BitVec 32 := Scalar.addi arg22 c1_i32_2737
  let v6414 : BitVec 32 := Scalar.select v6410 v6413 arg22
  let c15_i32_2739 : BitVec 32 := 15#32
  let v6416 : BitVec 32 := Scalar.minsi v6414 c15_i32_2739
  let v6502 : Index := Scalar.indexCast v6416
  let c0_2770 : Index := 0#32
  let c768_2771 : Index := 768#32
  ![v6502.toNat, 0, 768]
def k0_off97 (arg22 : BitVec 32) : Fin 3 → Nat :=
  let v6526 : Index := Scalar.indexCast arg22
  let c0_2777 : Index := 0#32
  let c0_2778 : Index := 0#32
  ![v6526.toNat, 0, 0]
def k0_off98 (arg22 : BitVec 32) : Fin 3 → Nat :=
  let v6531 : Index := Scalar.indexCast arg22
  let c0_2779 : Index := 0#32
  let c0_2780 : Index := 0#32
  ![v6531.toNat, 0, 0]
def k0_off99 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c1_i32_2737 : BitVec 32 := 1#32
  let v6413 : BitVec 32 := Scalar.addi arg22 c1_i32_2737
  let v6414 : BitVec 32 := Scalar.select v6410 v6413 arg22
  let v6543 : Index := Scalar.indexCast v6414
  let c0_2787 : Index := 0#32
  let c0_2788 : Index := 0#32
  ![v6543.toNat, 0, 0]
def k0_off100 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c1_i32_2737 : BitVec 32 := 1#32
  let v6413 : BitVec 32 := Scalar.addi arg22 c1_i32_2737
  let v6414 : BitVec 32 := Scalar.select v6410 v6413 arg22
  let v6546 : Index := Scalar.indexCast v6414
  let c0_2789 : Index := 0#32
  let c0_2790 : Index := 0#32
  ![v6546.toNat, 0, 0]
def k0_mult49 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c14_i32_2785 : BitVec 32 := 14#32
  let v6541 : BitVec 32 := Scalar.minsi v6538 c14_i32_2785
  let c256_i32_2791 : BitVec 32 := 256#32
  let v6549 : BitVec 32 := Scalar.muli v6541 c256_i32_2791
  v6549
def k0_off101 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c14_i32_2785 : BitVec 32 := 14#32
  let v6541 : BitVec 32 := Scalar.minsi v6538 c14_i32_2785
  let c256_i32_2791 : BitVec 32 := 256#32
  let v6549 : BitVec 32 := Scalar.muli v6541 c256_i32_2791
  let v6550 : BitVec 32 := v6549
  let v6551 : Index := Scalar.indexCast v6550
  let c0_2792 : Index := 0#32
  ![v6551.toNat, 0]
def k0_off102 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c1_i32_2784 : BitVec 32 := 1#32
  let v6539 : BitVec 32 := Scalar.addi v6414 c1_i32_2784
  let v6540 : BitVec 32 := Scalar.select v6536 v6539 v6414
  let c15_i32_2786 : BitVec 32 := 15#32
  let v6542 : BitVec 32 := Scalar.minsi v6540 c15_i32_2786
  let v6553 : Index := Scalar.indexCast v6542
  let c0_2793 : Index := 0#32
  let c0_2794 : Index := 0#32
  ![v6553.toNat, 0, 0]
def k0_off103 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let v6571 : Index := Scalar.indexCast v6412
  let c0_2797 : Index := 0#32
  let c0_2798 : Index := 0#32
  ![v6571.toNat, 0, 0]
def k0_off104 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c1_i32_2784 : BitVec 32 := 1#32
  let v6539 : BitVec 32 := Scalar.addi v6414 c1_i32_2784
  let v6540 : BitVec 32 := Scalar.select v6536 v6539 v6414
  let c15_i32_2786 : BitVec 32 := 15#32
  let v6542 : BitVec 32 := Scalar.minsi v6540 c15_i32_2786
  let v6578 : Index := Scalar.indexCast v6542
  let c0_2801 : Index := 0#32
  let c256_2802 : Index := 256#32
  ![v6578.toNat, 0, 256]
def k0_off105 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c1_i32_2784 : BitVec 32 := 1#32
  let v6539 : BitVec 32 := Scalar.addi v6414 c1_i32_2784
  let v6540 : BitVec 32 := Scalar.select v6536 v6539 v6414
  let c15_i32_2786 : BitVec 32 := 15#32
  let v6542 : BitVec 32 := Scalar.minsi v6540 c15_i32_2786
  let v6603 : Index := Scalar.indexCast v6542
  let c0_2809 : Index := 0#32
  let c512_2810 : Index := 512#32
  ![v6603.toNat, 0, 512]
def k0_off106 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c1_i32_2784 : BitVec 32 := 1#32
  let v6539 : BitVec 32 := Scalar.addi v6414 c1_i32_2784
  let v6540 : BitVec 32 := Scalar.select v6536 v6539 v6414
  let c15_i32_2786 : BitVec 32 := 15#32
  let v6542 : BitVec 32 := Scalar.minsi v6540 c15_i32_2786
  let v6628 : Index := Scalar.indexCast v6542
  let c0_2817 : Index := 0#32
  let c768_2818 : Index := 768#32
  ![v6628.toNat, 0, 768]
def k0_off107 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c1_i32_2784 : BitVec 32 := 1#32
  let v6539 : BitVec 32 := Scalar.addi v6414 c1_i32_2784
  let v6540 : BitVec 32 := Scalar.select v6536 v6539 v6414
  let v6669 : Index := Scalar.indexCast v6540
  let c0_2834 : Index := 0#32
  let c0_2835 : Index := 0#32
  ![v6669.toNat, 0, 0]
def k0_off108 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c1_i32_2784 : BitVec 32 := 1#32
  let v6539 : BitVec 32 := Scalar.addi v6414 c1_i32_2784
  let v6540 : BitVec 32 := Scalar.select v6536 v6539 v6414
  let v6672 : Index := Scalar.indexCast v6540
  let c0_2836 : Index := 0#32
  let c0_2837 : Index := 0#32
  ![v6672.toNat, 0, 0]
def k0_mult50 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c14_i32_2832 : BitVec 32 := 14#32
  let v6667 : BitVec 32 := Scalar.minsi v6664 c14_i32_2832
  let c256_i32_2838 : BitVec 32 := 256#32
  let v6675 : BitVec 32 := Scalar.muli v6667 c256_i32_2838
  v6675
def k0_off109 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c14_i32_2832 : BitVec 32 := 14#32
  let v6667 : BitVec 32 := Scalar.minsi v6664 c14_i32_2832
  let c256_i32_2838 : BitVec 32 := 256#32
  let v6675 : BitVec 32 := Scalar.muli v6667 c256_i32_2838
  let v6676 : BitVec 32 := v6675
  let v6677 : Index := Scalar.indexCast v6676
  let c0_2839 : Index := 0#32
  ![v6677.toNat, 0]
def k0_off110 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c1_i32_2831 : BitVec 32 := 1#32
  let v6665 : BitVec 32 := Scalar.addi v6540 c1_i32_2831
  let v6666 : BitVec 32 := Scalar.select v6662 v6665 v6540
  let c15_i32_2833 : BitVec 32 := 15#32
  let v6668 : BitVec 32 := Scalar.minsi v6666 c15_i32_2833
  let v6679 : Index := Scalar.indexCast v6668
  let c0_2840 : Index := 0#32
  let c0_2841 : Index := 0#32
  ![v6679.toNat, 0, 0]
def k0_off111 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let v6697 : Index := Scalar.indexCast v6538
  let c0_2844 : Index := 0#32
  let c0_2845 : Index := 0#32
  ![v6697.toNat, 0, 0]
def k0_off112 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c1_i32_2831 : BitVec 32 := 1#32
  let v6665 : BitVec 32 := Scalar.addi v6540 c1_i32_2831
  let v6666 : BitVec 32 := Scalar.select v6662 v6665 v6540
  let c15_i32_2833 : BitVec 32 := 15#32
  let v6668 : BitVec 32 := Scalar.minsi v6666 c15_i32_2833
  let v6704 : Index := Scalar.indexCast v6668
  let c0_2848 : Index := 0#32
  let c256_2849 : Index := 256#32
  ![v6704.toNat, 0, 256]
def k0_off113 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c1_i32_2831 : BitVec 32 := 1#32
  let v6665 : BitVec 32 := Scalar.addi v6540 c1_i32_2831
  let v6666 : BitVec 32 := Scalar.select v6662 v6665 v6540
  let c15_i32_2833 : BitVec 32 := 15#32
  let v6668 : BitVec 32 := Scalar.minsi v6666 c15_i32_2833
  let v6729 : Index := Scalar.indexCast v6668
  let c0_2856 : Index := 0#32
  let c512_2857 : Index := 512#32
  ![v6729.toNat, 0, 512]
def k0_off114 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c1_i32_2831 : BitVec 32 := 1#32
  let v6665 : BitVec 32 := Scalar.addi v6540 c1_i32_2831
  let v6666 : BitVec 32 := Scalar.select v6662 v6665 v6540
  let c15_i32_2833 : BitVec 32 := 15#32
  let v6668 : BitVec 32 := Scalar.minsi v6666 c15_i32_2833
  let v6754 : Index := Scalar.indexCast v6668
  let c0_2864 : Index := 0#32
  let c768_2865 : Index := 768#32
  ![v6754.toNat, 0, 768]
def k0_off115 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c1_i32_2831 : BitVec 32 := 1#32
  let v6665 : BitVec 32 := Scalar.addi v6540 c1_i32_2831
  let v6666 : BitVec 32 := Scalar.select v6662 v6665 v6540
  let v6795 : Index := Scalar.indexCast v6666
  let c0_2881 : Index := 0#32
  let c0_2882 : Index := 0#32
  ![v6795.toNat, 0, 0]
def k0_off116 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c1_i32_2831 : BitVec 32 := 1#32
  let v6665 : BitVec 32 := Scalar.addi v6540 c1_i32_2831
  let v6666 : BitVec 32 := Scalar.select v6662 v6665 v6540
  let v6798 : Index := Scalar.indexCast v6666
  let c0_2883 : Index := 0#32
  let c0_2884 : Index := 0#32
  ![v6798.toNat, 0, 0]
def k0_mult51 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c14_i32_2879 : BitVec 32 := 14#32
  let v6793 : BitVec 32 := Scalar.minsi v6790 c14_i32_2879
  let c256_i32_2885 : BitVec 32 := 256#32
  let v6801 : BitVec 32 := Scalar.muli v6793 c256_i32_2885
  v6801
def k0_off117 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c14_i32_2879 : BitVec 32 := 14#32
  let v6793 : BitVec 32 := Scalar.minsi v6790 c14_i32_2879
  let c256_i32_2885 : BitVec 32 := 256#32
  let v6801 : BitVec 32 := Scalar.muli v6793 c256_i32_2885
  let v6802 : BitVec 32 := v6801
  let v6803 : Index := Scalar.indexCast v6802
  let c0_2886 : Index := 0#32
  ![v6803.toNat, 0]
def k0_off118 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c1_i32_2878 : BitVec 32 := 1#32
  let v6791 : BitVec 32 := Scalar.addi v6666 c1_i32_2878
  let v6792 : BitVec 32 := Scalar.select v6788 v6791 v6666
  let c15_i32_2880 : BitVec 32 := 15#32
  let v6794 : BitVec 32 := Scalar.minsi v6792 c15_i32_2880
  let v6805 : Index := Scalar.indexCast v6794
  let c0_2887 : Index := 0#32
  let c0_2888 : Index := 0#32
  ![v6805.toNat, 0, 0]
def k0_off119 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let v6823 : Index := Scalar.indexCast v6664
  let c0_2891 : Index := 0#32
  let c0_2892 : Index := 0#32
  ![v6823.toNat, 0, 0]
def k0_off120 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c1_i32_2878 : BitVec 32 := 1#32
  let v6791 : BitVec 32 := Scalar.addi v6666 c1_i32_2878
  let v6792 : BitVec 32 := Scalar.select v6788 v6791 v6666
  let c15_i32_2880 : BitVec 32 := 15#32
  let v6794 : BitVec 32 := Scalar.minsi v6792 c15_i32_2880
  let v6830 : Index := Scalar.indexCast v6794
  let c0_2895 : Index := 0#32
  let c256_2896 : Index := 256#32
  ![v6830.toNat, 0, 256]
def k0_off121 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c1_i32_2878 : BitVec 32 := 1#32
  let v6791 : BitVec 32 := Scalar.addi v6666 c1_i32_2878
  let v6792 : BitVec 32 := Scalar.select v6788 v6791 v6666
  let c15_i32_2880 : BitVec 32 := 15#32
  let v6794 : BitVec 32 := Scalar.minsi v6792 c15_i32_2880
  let v6855 : Index := Scalar.indexCast v6794
  let c0_2903 : Index := 0#32
  let c512_2904 : Index := 512#32
  ![v6855.toNat, 0, 512]
def k0_off122 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c1_i32_2878 : BitVec 32 := 1#32
  let v6791 : BitVec 32 := Scalar.addi v6666 c1_i32_2878
  let v6792 : BitVec 32 := Scalar.select v6788 v6791 v6666
  let c15_i32_2880 : BitVec 32 := 15#32
  let v6794 : BitVec 32 := Scalar.minsi v6792 c15_i32_2880
  let v6880 : Index := Scalar.indexCast v6794
  let c0_2911 : Index := 0#32
  let c768_2912 : Index := 768#32
  ![v6880.toNat, 0, 768]
def k0_off123 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c1_i32_2878 : BitVec 32 := 1#32
  let v6791 : BitVec 32 := Scalar.addi v6666 c1_i32_2878
  let v6792 : BitVec 32 := Scalar.select v6788 v6791 v6666
  let v6921 : Index := Scalar.indexCast v6792
  let c0_2928 : Index := 0#32
  let c0_2929 : Index := 0#32
  ![v6921.toNat, 0, 0]
def k0_off124 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c1_i32_2878 : BitVec 32 := 1#32
  let v6791 : BitVec 32 := Scalar.addi v6666 c1_i32_2878
  let v6792 : BitVec 32 := Scalar.select v6788 v6791 v6666
  let v6924 : Index := Scalar.indexCast v6792
  let c0_2930 : Index := 0#32
  let c0_2931 : Index := 0#32
  ![v6924.toNat, 0, 0]
def k0_mult52 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c14_i32_2926 : BitVec 32 := 14#32
  let v6919 : BitVec 32 := Scalar.minsi v6916 c14_i32_2926
  let c256_i32_2932 : BitVec 32 := 256#32
  let v6927 : BitVec 32 := Scalar.muli v6919 c256_i32_2932
  v6927
def k0_off125 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c14_i32_2926 : BitVec 32 := 14#32
  let v6919 : BitVec 32 := Scalar.minsi v6916 c14_i32_2926
  let c256_i32_2932 : BitVec 32 := 256#32
  let v6927 : BitVec 32 := Scalar.muli v6919 c256_i32_2932
  let v6928 : BitVec 32 := v6927
  let v6929 : Index := Scalar.indexCast v6928
  let c0_2933 : Index := 0#32
  ![v6929.toNat, 0]
def k0_off126 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c1_i32_2925 : BitVec 32 := 1#32
  let v6917 : BitVec 32 := Scalar.addi v6792 c1_i32_2925
  let v6918 : BitVec 32 := Scalar.select v6914 v6917 v6792
  let c15_i32_2927 : BitVec 32 := 15#32
  let v6920 : BitVec 32 := Scalar.minsi v6918 c15_i32_2927
  let v6931 : Index := Scalar.indexCast v6920
  let c0_2934 : Index := 0#32
  let c0_2935 : Index := 0#32
  ![v6931.toNat, 0, 0]
def k0_off127 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let v6949 : Index := Scalar.indexCast v6790
  let c0_2938 : Index := 0#32
  let c0_2939 : Index := 0#32
  ![v6949.toNat, 0, 0]
def k0_off128 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c1_i32_2925 : BitVec 32 := 1#32
  let v6917 : BitVec 32 := Scalar.addi v6792 c1_i32_2925
  let v6918 : BitVec 32 := Scalar.select v6914 v6917 v6792
  let c15_i32_2927 : BitVec 32 := 15#32
  let v6920 : BitVec 32 := Scalar.minsi v6918 c15_i32_2927
  let v6956 : Index := Scalar.indexCast v6920
  let c0_2942 : Index := 0#32
  let c256_2943 : Index := 256#32
  ![v6956.toNat, 0, 256]
def k0_off129 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c1_i32_2925 : BitVec 32 := 1#32
  let v6917 : BitVec 32 := Scalar.addi v6792 c1_i32_2925
  let v6918 : BitVec 32 := Scalar.select v6914 v6917 v6792
  let c15_i32_2927 : BitVec 32 := 15#32
  let v6920 : BitVec 32 := Scalar.minsi v6918 c15_i32_2927
  let v6981 : Index := Scalar.indexCast v6920
  let c0_2950 : Index := 0#32
  let c512_2951 : Index := 512#32
  ![v6981.toNat, 0, 512]
def k0_off130 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c1_i32_2925 : BitVec 32 := 1#32
  let v6917 : BitVec 32 := Scalar.addi v6792 c1_i32_2925
  let v6918 : BitVec 32 := Scalar.select v6914 v6917 v6792
  let c15_i32_2927 : BitVec 32 := 15#32
  let v6920 : BitVec 32 := Scalar.minsi v6918 c15_i32_2927
  let v7006 : Index := Scalar.indexCast v6920
  let c0_2958 : Index := 0#32
  let c768_2959 : Index := 768#32
  ![v7006.toNat, 0, 768]
def k0_off131 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c1_i32_2925 : BitVec 32 := 1#32
  let v6917 : BitVec 32 := Scalar.addi v6792 c1_i32_2925
  let v6918 : BitVec 32 := Scalar.select v6914 v6917 v6792
  let v7047 : Index := Scalar.indexCast v6918
  let c0_2975 : Index := 0#32
  let c0_2976 : Index := 0#32
  ![v7047.toNat, 0, 0]
def k0_off132 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c1_i32_2925 : BitVec 32 := 1#32
  let v6917 : BitVec 32 := Scalar.addi v6792 c1_i32_2925
  let v6918 : BitVec 32 := Scalar.select v6914 v6917 v6792
  let v7050 : Index := Scalar.indexCast v6918
  let c0_2977 : Index := 0#32
  let c0_2978 : Index := 0#32
  ![v7050.toNat, 0, 0]
def k0_mult53 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c14_i32_2973 : BitVec 32 := 14#32
  let v7045 : BitVec 32 := Scalar.minsi v7042 c14_i32_2973
  let c256_i32_2979 : BitVec 32 := 256#32
  let v7053 : BitVec 32 := Scalar.muli v7045 c256_i32_2979
  v7053
def k0_off133 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c14_i32_2973 : BitVec 32 := 14#32
  let v7045 : BitVec 32 := Scalar.minsi v7042 c14_i32_2973
  let c256_i32_2979 : BitVec 32 := 256#32
  let v7053 : BitVec 32 := Scalar.muli v7045 c256_i32_2979
  let v7054 : BitVec 32 := v7053
  let v7055 : Index := Scalar.indexCast v7054
  let c0_2980 : Index := 0#32
  ![v7055.toNat, 0]
def k0_off134 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c1_i32_2972 : BitVec 32 := 1#32
  let v7043 : BitVec 32 := Scalar.addi v6918 c1_i32_2972
  let v7044 : BitVec 32 := Scalar.select v7040 v7043 v6918
  let c15_i32_2974 : BitVec 32 := 15#32
  let v7046 : BitVec 32 := Scalar.minsi v7044 c15_i32_2974
  let v7057 : Index := Scalar.indexCast v7046
  let c0_2981 : Index := 0#32
  let c0_2982 : Index := 0#32
  ![v7057.toNat, 0, 0]
def k0_off135 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let v7075 : Index := Scalar.indexCast v6916
  let c0_2985 : Index := 0#32
  let c0_2986 : Index := 0#32
  ![v7075.toNat, 0, 0]
def k0_off136 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c1_i32_2972 : BitVec 32 := 1#32
  let v7043 : BitVec 32 := Scalar.addi v6918 c1_i32_2972
  let v7044 : BitVec 32 := Scalar.select v7040 v7043 v6918
  let c15_i32_2974 : BitVec 32 := 15#32
  let v7046 : BitVec 32 := Scalar.minsi v7044 c15_i32_2974
  let v7082 : Index := Scalar.indexCast v7046
  let c0_2989 : Index := 0#32
  let c256_2990 : Index := 256#32
  ![v7082.toNat, 0, 256]
def k0_off137 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c1_i32_2972 : BitVec 32 := 1#32
  let v7043 : BitVec 32 := Scalar.addi v6918 c1_i32_2972
  let v7044 : BitVec 32 := Scalar.select v7040 v7043 v6918
  let c15_i32_2974 : BitVec 32 := 15#32
  let v7046 : BitVec 32 := Scalar.minsi v7044 c15_i32_2974
  let v7107 : Index := Scalar.indexCast v7046
  let c0_2997 : Index := 0#32
  let c512_2998 : Index := 512#32
  ![v7107.toNat, 0, 512]
def k0_off138 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c1_i32_2972 : BitVec 32 := 1#32
  let v7043 : BitVec 32 := Scalar.addi v6918 c1_i32_2972
  let v7044 : BitVec 32 := Scalar.select v7040 v7043 v6918
  let c15_i32_2974 : BitVec 32 := 15#32
  let v7046 : BitVec 32 := Scalar.minsi v7044 c15_i32_2974
  let v7132 : Index := Scalar.indexCast v7046
  let c0_3005 : Index := 0#32
  let c768_3006 : Index := 768#32
  ![v7132.toNat, 0, 768]
def k0_off139 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c1_i32_2972 : BitVec 32 := 1#32
  let v7043 : BitVec 32 := Scalar.addi v6918 c1_i32_2972
  let v7044 : BitVec 32 := Scalar.select v7040 v7043 v6918
  let v7173 : Index := Scalar.indexCast v7044
  let c0_3022 : Index := 0#32
  let c0_3023 : Index := 0#32
  ![v7173.toNat, 0, 0]
def k0_off140 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c1_i32_2972 : BitVec 32 := 1#32
  let v7043 : BitVec 32 := Scalar.addi v6918 c1_i32_2972
  let v7044 : BitVec 32 := Scalar.select v7040 v7043 v6918
  let v7176 : Index := Scalar.indexCast v7044
  let c0_3024 : Index := 0#32
  let c0_3025 : Index := 0#32
  ![v7176.toNat, 0, 0]
def k0_mult54 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c14_i32_3020 : BitVec 32 := 14#32
  let v7171 : BitVec 32 := Scalar.minsi v7168 c14_i32_3020
  let c256_i32_3026 : BitVec 32 := 256#32
  let v7179 : BitVec 32 := Scalar.muli v7171 c256_i32_3026
  v7179
def k0_off141 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c14_i32_3020 : BitVec 32 := 14#32
  let v7171 : BitVec 32 := Scalar.minsi v7168 c14_i32_3020
  let c256_i32_3026 : BitVec 32 := 256#32
  let v7179 : BitVec 32 := Scalar.muli v7171 c256_i32_3026
  let v7180 : BitVec 32 := v7179
  let v7181 : Index := Scalar.indexCast v7180
  let c0_3027 : Index := 0#32
  ![v7181.toNat, 0]
def k0_off142 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c1_i32_3019 : BitVec 32 := 1#32
  let v7169 : BitVec 32 := Scalar.addi v7044 c1_i32_3019
  let v7170 : BitVec 32 := Scalar.select v7166 v7169 v7044
  let c15_i32_3021 : BitVec 32 := 15#32
  let v7172 : BitVec 32 := Scalar.minsi v7170 c15_i32_3021
  let v7183 : Index := Scalar.indexCast v7172
  let c0_3028 : Index := 0#32
  let c0_3029 : Index := 0#32
  ![v7183.toNat, 0, 0]
def k0_off143 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let v7201 : Index := Scalar.indexCast v7042
  let c0_3032 : Index := 0#32
  let c0_3033 : Index := 0#32
  ![v7201.toNat, 0, 0]
def k0_off144 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c1_i32_3019 : BitVec 32 := 1#32
  let v7169 : BitVec 32 := Scalar.addi v7044 c1_i32_3019
  let v7170 : BitVec 32 := Scalar.select v7166 v7169 v7044
  let c15_i32_3021 : BitVec 32 := 15#32
  let v7172 : BitVec 32 := Scalar.minsi v7170 c15_i32_3021
  let v7208 : Index := Scalar.indexCast v7172
  let c0_3036 : Index := 0#32
  let c256_3037 : Index := 256#32
  ![v7208.toNat, 0, 256]
def k0_off145 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c1_i32_3019 : BitVec 32 := 1#32
  let v7169 : BitVec 32 := Scalar.addi v7044 c1_i32_3019
  let v7170 : BitVec 32 := Scalar.select v7166 v7169 v7044
  let c15_i32_3021 : BitVec 32 := 15#32
  let v7172 : BitVec 32 := Scalar.minsi v7170 c15_i32_3021
  let v7233 : Index := Scalar.indexCast v7172
  let c0_3044 : Index := 0#32
  let c512_3045 : Index := 512#32
  ![v7233.toNat, 0, 512]
def k0_off146 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c1_i32_3019 : BitVec 32 := 1#32
  let v7169 : BitVec 32 := Scalar.addi v7044 c1_i32_3019
  let v7170 : BitVec 32 := Scalar.select v7166 v7169 v7044
  let c15_i32_3021 : BitVec 32 := 15#32
  let v7172 : BitVec 32 := Scalar.minsi v7170 c15_i32_3021
  let v7258 : Index := Scalar.indexCast v7172
  let c0_3052 : Index := 0#32
  let c768_3053 : Index := 768#32
  ![v7258.toNat, 0, 768]
def k0_off147 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c1_i32_3019 : BitVec 32 := 1#32
  let v7169 : BitVec 32 := Scalar.addi v7044 c1_i32_3019
  let v7170 : BitVec 32 := Scalar.select v7166 v7169 v7044
  let v7299 : Index := Scalar.indexCast v7170
  let c0_3069 : Index := 0#32
  let c0_3070 : Index := 0#32
  ![v7299.toNat, 0, 0]
def k0_off148 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c1_i32_3019 : BitVec 32 := 1#32
  let v7169 : BitVec 32 := Scalar.addi v7044 c1_i32_3019
  let v7170 : BitVec 32 := Scalar.select v7166 v7169 v7044
  let v7302 : Index := Scalar.indexCast v7170
  let c0_3071 : Index := 0#32
  let c0_3072 : Index := 0#32
  ![v7302.toNat, 0, 0]
def k0_mult55 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c14_i32_3067 : BitVec 32 := 14#32
  let v7297 : BitVec 32 := Scalar.minsi v7294 c14_i32_3067
  let c256_i32_3073 : BitVec 32 := 256#32
  let v7305 : BitVec 32 := Scalar.muli v7297 c256_i32_3073
  v7305
def k0_off149 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c14_i32_3067 : BitVec 32 := 14#32
  let v7297 : BitVec 32 := Scalar.minsi v7294 c14_i32_3067
  let c256_i32_3073 : BitVec 32 := 256#32
  let v7305 : BitVec 32 := Scalar.muli v7297 c256_i32_3073
  let v7306 : BitVec 32 := v7305
  let v7307 : Index := Scalar.indexCast v7306
  let c0_3074 : Index := 0#32
  ![v7307.toNat, 0]
def k0_off150 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c1_i32_3066 : BitVec 32 := 1#32
  let v7295 : BitVec 32 := Scalar.addi v7170 c1_i32_3066
  let v7296 : BitVec 32 := Scalar.select v7292 v7295 v7170
  let c15_i32_3068 : BitVec 32 := 15#32
  let v7298 : BitVec 32 := Scalar.minsi v7296 c15_i32_3068
  let v7309 : Index := Scalar.indexCast v7298
  let c0_3075 : Index := 0#32
  let c0_3076 : Index := 0#32
  ![v7309.toNat, 0, 0]
def k0_off151 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let v7327 : Index := Scalar.indexCast v7168
  let c0_3079 : Index := 0#32
  let c0_3080 : Index := 0#32
  ![v7327.toNat, 0, 0]
def k0_off152 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c1_i32_3066 : BitVec 32 := 1#32
  let v7295 : BitVec 32 := Scalar.addi v7170 c1_i32_3066
  let v7296 : BitVec 32 := Scalar.select v7292 v7295 v7170
  let c15_i32_3068 : BitVec 32 := 15#32
  let v7298 : BitVec 32 := Scalar.minsi v7296 c15_i32_3068
  let v7334 : Index := Scalar.indexCast v7298
  let c0_3083 : Index := 0#32
  let c256_3084 : Index := 256#32
  ![v7334.toNat, 0, 256]
def k0_off153 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c1_i32_3066 : BitVec 32 := 1#32
  let v7295 : BitVec 32 := Scalar.addi v7170 c1_i32_3066
  let v7296 : BitVec 32 := Scalar.select v7292 v7295 v7170
  let c15_i32_3068 : BitVec 32 := 15#32
  let v7298 : BitVec 32 := Scalar.minsi v7296 c15_i32_3068
  let v7359 : Index := Scalar.indexCast v7298
  let c0_3091 : Index := 0#32
  let c512_3092 : Index := 512#32
  ![v7359.toNat, 0, 512]
def k0_off154 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c1_i32_3066 : BitVec 32 := 1#32
  let v7295 : BitVec 32 := Scalar.addi v7170 c1_i32_3066
  let v7296 : BitVec 32 := Scalar.select v7292 v7295 v7170
  let c15_i32_3068 : BitVec 32 := 15#32
  let v7298 : BitVec 32 := Scalar.minsi v7296 c15_i32_3068
  let v7384 : Index := Scalar.indexCast v7298
  let c0_3099 : Index := 0#32
  let c768_3100 : Index := 768#32
  ![v7384.toNat, 0, 768]
def k0_off155 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c1_i32_3066 : BitVec 32 := 1#32
  let v7295 : BitVec 32 := Scalar.addi v7170 c1_i32_3066
  let v7296 : BitVec 32 := Scalar.select v7292 v7295 v7170
  let v7425 : Index := Scalar.indexCast v7296
  let c0_3116 : Index := 0#32
  let c0_3117 : Index := 0#32
  ![v7425.toNat, 0, 0]
def k0_off156 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c1_i32_3066 : BitVec 32 := 1#32
  let v7295 : BitVec 32 := Scalar.addi v7170 c1_i32_3066
  let v7296 : BitVec 32 := Scalar.select v7292 v7295 v7170
  let v7428 : Index := Scalar.indexCast v7296
  let c0_3118 : Index := 0#32
  let c0_3119 : Index := 0#32
  ![v7428.toNat, 0, 0]
def k0_mult56 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c14_i32_3114 : BitVec 32 := 14#32
  let v7423 : BitVec 32 := Scalar.minsi v7420 c14_i32_3114
  let c256_i32_3120 : BitVec 32 := 256#32
  let v7431 : BitVec 32 := Scalar.muli v7423 c256_i32_3120
  v7431
def k0_off157 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c14_i32_3114 : BitVec 32 := 14#32
  let v7423 : BitVec 32 := Scalar.minsi v7420 c14_i32_3114
  let c256_i32_3120 : BitVec 32 := 256#32
  let v7431 : BitVec 32 := Scalar.muli v7423 c256_i32_3120
  let v7432 : BitVec 32 := v7431
  let v7433 : Index := Scalar.indexCast v7432
  let c0_3121 : Index := 0#32
  ![v7433.toNat, 0]
def k0_off158 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c1_i32_3113 : BitVec 32 := 1#32
  let v7421 : BitVec 32 := Scalar.addi v7296 c1_i32_3113
  let v7422 : BitVec 32 := Scalar.select v7418 v7421 v7296
  let c15_i32_3115 : BitVec 32 := 15#32
  let v7424 : BitVec 32 := Scalar.minsi v7422 c15_i32_3115
  let v7435 : Index := Scalar.indexCast v7424
  let c0_3122 : Index := 0#32
  let c0_3123 : Index := 0#32
  ![v7435.toNat, 0, 0]
def k0_off159 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let v7453 : Index := Scalar.indexCast v7294
  let c0_3126 : Index := 0#32
  let c0_3127 : Index := 0#32
  ![v7453.toNat, 0, 0]
def k0_off160 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c1_i32_3113 : BitVec 32 := 1#32
  let v7421 : BitVec 32 := Scalar.addi v7296 c1_i32_3113
  let v7422 : BitVec 32 := Scalar.select v7418 v7421 v7296
  let c15_i32_3115 : BitVec 32 := 15#32
  let v7424 : BitVec 32 := Scalar.minsi v7422 c15_i32_3115
  let v7460 : Index := Scalar.indexCast v7424
  let c0_3130 : Index := 0#32
  let c256_3131 : Index := 256#32
  ![v7460.toNat, 0, 256]
def k0_off161 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c1_i32_3113 : BitVec 32 := 1#32
  let v7421 : BitVec 32 := Scalar.addi v7296 c1_i32_3113
  let v7422 : BitVec 32 := Scalar.select v7418 v7421 v7296
  let c15_i32_3115 : BitVec 32 := 15#32
  let v7424 : BitVec 32 := Scalar.minsi v7422 c15_i32_3115
  let v7485 : Index := Scalar.indexCast v7424
  let c0_3138 : Index := 0#32
  let c512_3139 : Index := 512#32
  ![v7485.toNat, 0, 512]
def k0_off162 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c1_i32_3113 : BitVec 32 := 1#32
  let v7421 : BitVec 32 := Scalar.addi v7296 c1_i32_3113
  let v7422 : BitVec 32 := Scalar.select v7418 v7421 v7296
  let c15_i32_3115 : BitVec 32 := 15#32
  let v7424 : BitVec 32 := Scalar.minsi v7422 c15_i32_3115
  let v7510 : Index := Scalar.indexCast v7424
  let c0_3146 : Index := 0#32
  let c768_3147 : Index := 768#32
  ![v7510.toNat, 0, 768]
def k0_off163 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c1_i32_3113 : BitVec 32 := 1#32
  let v7421 : BitVec 32 := Scalar.addi v7296 c1_i32_3113
  let v7422 : BitVec 32 := Scalar.select v7418 v7421 v7296
  let v7551 : Index := Scalar.indexCast v7422
  let c0_3163 : Index := 0#32
  let c0_3164 : Index := 0#32
  ![v7551.toNat, 0, 0]
def k0_off164 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c1_i32_3113 : BitVec 32 := 1#32
  let v7421 : BitVec 32 := Scalar.addi v7296 c1_i32_3113
  let v7422 : BitVec 32 := Scalar.select v7418 v7421 v7296
  let v7554 : Index := Scalar.indexCast v7422
  let c0_3165 : Index := 0#32
  let c0_3166 : Index := 0#32
  ![v7554.toNat, 0, 0]
def k0_mult57 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c14_i32_3161 : BitVec 32 := 14#32
  let v7549 : BitVec 32 := Scalar.minsi v7546 c14_i32_3161
  let c256_i32_3167 : BitVec 32 := 256#32
  let v7557 : BitVec 32 := Scalar.muli v7549 c256_i32_3167
  v7557
def k0_off165 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c14_i32_3161 : BitVec 32 := 14#32
  let v7549 : BitVec 32 := Scalar.minsi v7546 c14_i32_3161
  let c256_i32_3167 : BitVec 32 := 256#32
  let v7557 : BitVec 32 := Scalar.muli v7549 c256_i32_3167
  let v7558 : BitVec 32 := v7557
  let v7559 : Index := Scalar.indexCast v7558
  let c0_3168 : Index := 0#32
  ![v7559.toNat, 0]
def k0_off166 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c1_i32_3160 : BitVec 32 := 1#32
  let v7547 : BitVec 32 := Scalar.addi v7422 c1_i32_3160
  let v7548 : BitVec 32 := Scalar.select v7544 v7547 v7422
  let c15_i32_3162 : BitVec 32 := 15#32
  let v7550 : BitVec 32 := Scalar.minsi v7548 c15_i32_3162
  let v7561 : Index := Scalar.indexCast v7550
  let c0_3169 : Index := 0#32
  let c0_3170 : Index := 0#32
  ![v7561.toNat, 0, 0]
def k0_off167 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let v7579 : Index := Scalar.indexCast v7420
  let c0_3173 : Index := 0#32
  let c0_3174 : Index := 0#32
  ![v7579.toNat, 0, 0]
def k0_off168 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c1_i32_3160 : BitVec 32 := 1#32
  let v7547 : BitVec 32 := Scalar.addi v7422 c1_i32_3160
  let v7548 : BitVec 32 := Scalar.select v7544 v7547 v7422
  let c15_i32_3162 : BitVec 32 := 15#32
  let v7550 : BitVec 32 := Scalar.minsi v7548 c15_i32_3162
  let v7586 : Index := Scalar.indexCast v7550
  let c0_3177 : Index := 0#32
  let c256_3178 : Index := 256#32
  ![v7586.toNat, 0, 256]
def k0_off169 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c1_i32_3160 : BitVec 32 := 1#32
  let v7547 : BitVec 32 := Scalar.addi v7422 c1_i32_3160
  let v7548 : BitVec 32 := Scalar.select v7544 v7547 v7422
  let c15_i32_3162 : BitVec 32 := 15#32
  let v7550 : BitVec 32 := Scalar.minsi v7548 c15_i32_3162
  let v7611 : Index := Scalar.indexCast v7550
  let c0_3185 : Index := 0#32
  let c512_3186 : Index := 512#32
  ![v7611.toNat, 0, 512]
def k0_off170 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c1_i32_3160 : BitVec 32 := 1#32
  let v7547 : BitVec 32 := Scalar.addi v7422 c1_i32_3160
  let v7548 : BitVec 32 := Scalar.select v7544 v7547 v7422
  let c15_i32_3162 : BitVec 32 := 15#32
  let v7550 : BitVec 32 := Scalar.minsi v7548 c15_i32_3162
  let v7636 : Index := Scalar.indexCast v7550
  let c0_3193 : Index := 0#32
  let c768_3194 : Index := 768#32
  ![v7636.toNat, 0, 768]
def k0_off171 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c1_i32_3160 : BitVec 32 := 1#32
  let v7547 : BitVec 32 := Scalar.addi v7422 c1_i32_3160
  let v7548 : BitVec 32 := Scalar.select v7544 v7547 v7422
  let v7677 : Index := Scalar.indexCast v7548
  let c0_3210 : Index := 0#32
  let c0_3211 : Index := 0#32
  ![v7677.toNat, 0, 0]
def k0_off172 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c1_i32_3160 : BitVec 32 := 1#32
  let v7547 : BitVec 32 := Scalar.addi v7422 c1_i32_3160
  let v7548 : BitVec 32 := Scalar.select v7544 v7547 v7422
  let v7680 : Index := Scalar.indexCast v7548
  let c0_3212 : Index := 0#32
  let c0_3213 : Index := 0#32
  ![v7680.toNat, 0, 0]
def k0_mult58 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c14_i32_3208 : BitVec 32 := 14#32
  let v7675 : BitVec 32 := Scalar.minsi v7672 c14_i32_3208
  let c256_i32_3214 : BitVec 32 := 256#32
  let v7683 : BitVec 32 := Scalar.muli v7675 c256_i32_3214
  v7683
def k0_off173 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c14_i32_3208 : BitVec 32 := 14#32
  let v7675 : BitVec 32 := Scalar.minsi v7672 c14_i32_3208
  let c256_i32_3214 : BitVec 32 := 256#32
  let v7683 : BitVec 32 := Scalar.muli v7675 c256_i32_3214
  let v7684 : BitVec 32 := v7683
  let v7685 : Index := Scalar.indexCast v7684
  let c0_3215 : Index := 0#32
  ![v7685.toNat, 0]
def k0_off174 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c1_i32_3207 : BitVec 32 := 1#32
  let v7673 : BitVec 32 := Scalar.addi v7548 c1_i32_3207
  let v7674 : BitVec 32 := Scalar.select v7670 v7673 v7548
  let c15_i32_3209 : BitVec 32 := 15#32
  let v7676 : BitVec 32 := Scalar.minsi v7674 c15_i32_3209
  let v7687 : Index := Scalar.indexCast v7676
  let c0_3216 : Index := 0#32
  let c0_3217 : Index := 0#32
  ![v7687.toNat, 0, 0]
def k0_off175 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let v7705 : Index := Scalar.indexCast v7546
  let c0_3220 : Index := 0#32
  let c0_3221 : Index := 0#32
  ![v7705.toNat, 0, 0]
def k0_off176 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c1_i32_3207 : BitVec 32 := 1#32
  let v7673 : BitVec 32 := Scalar.addi v7548 c1_i32_3207
  let v7674 : BitVec 32 := Scalar.select v7670 v7673 v7548
  let c15_i32_3209 : BitVec 32 := 15#32
  let v7676 : BitVec 32 := Scalar.minsi v7674 c15_i32_3209
  let v7712 : Index := Scalar.indexCast v7676
  let c0_3224 : Index := 0#32
  let c256_3225 : Index := 256#32
  ![v7712.toNat, 0, 256]
def k0_off177 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c1_i32_3207 : BitVec 32 := 1#32
  let v7673 : BitVec 32 := Scalar.addi v7548 c1_i32_3207
  let v7674 : BitVec 32 := Scalar.select v7670 v7673 v7548
  let c15_i32_3209 : BitVec 32 := 15#32
  let v7676 : BitVec 32 := Scalar.minsi v7674 c15_i32_3209
  let v7737 : Index := Scalar.indexCast v7676
  let c0_3232 : Index := 0#32
  let c512_3233 : Index := 512#32
  ![v7737.toNat, 0, 512]
def k0_off178 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c1_i32_3207 : BitVec 32 := 1#32
  let v7673 : BitVec 32 := Scalar.addi v7548 c1_i32_3207
  let v7674 : BitVec 32 := Scalar.select v7670 v7673 v7548
  let c15_i32_3209 : BitVec 32 := 15#32
  let v7676 : BitVec 32 := Scalar.minsi v7674 c15_i32_3209
  let v7762 : Index := Scalar.indexCast v7676
  let c0_3240 : Index := 0#32
  let c768_3241 : Index := 768#32
  ![v7762.toNat, 0, 768]
def k0_off179 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c1_i32_3207 : BitVec 32 := 1#32
  let v7673 : BitVec 32 := Scalar.addi v7548 c1_i32_3207
  let v7674 : BitVec 32 := Scalar.select v7670 v7673 v7548
  let v7803 : Index := Scalar.indexCast v7674
  let c0_3257 : Index := 0#32
  let c0_3258 : Index := 0#32
  ![v7803.toNat, 0, 0]
def k0_off180 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c1_i32_3207 : BitVec 32 := 1#32
  let v7673 : BitVec 32 := Scalar.addi v7548 c1_i32_3207
  let v7674 : BitVec 32 := Scalar.select v7670 v7673 v7548
  let v7806 : Index := Scalar.indexCast v7674
  let c0_3259 : Index := 0#32
  let c0_3260 : Index := 0#32
  ![v7806.toNat, 0, 0]
def k0_mult59 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c14_i32_3255 : BitVec 32 := 14#32
  let v7801 : BitVec 32 := Scalar.minsi v7798 c14_i32_3255
  let c256_i32_3261 : BitVec 32 := 256#32
  let v7809 : BitVec 32 := Scalar.muli v7801 c256_i32_3261
  v7809
def k0_off181 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c14_i32_3255 : BitVec 32 := 14#32
  let v7801 : BitVec 32 := Scalar.minsi v7798 c14_i32_3255
  let c256_i32_3261 : BitVec 32 := 256#32
  let v7809 : BitVec 32 := Scalar.muli v7801 c256_i32_3261
  let v7810 : BitVec 32 := v7809
  let v7811 : Index := Scalar.indexCast v7810
  let c0_3262 : Index := 0#32
  ![v7811.toNat, 0]
def k0_off182 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c1_i32_3254 : BitVec 32 := 1#32
  let v7799 : BitVec 32 := Scalar.addi v7674 c1_i32_3254
  let v7800 : BitVec 32 := Scalar.select v7796 v7799 v7674
  let c15_i32_3256 : BitVec 32 := 15#32
  let v7802 : BitVec 32 := Scalar.minsi v7800 c15_i32_3256
  let v7813 : Index := Scalar.indexCast v7802
  let c0_3263 : Index := 0#32
  let c0_3264 : Index := 0#32
  ![v7813.toNat, 0, 0]
def k0_off183 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let v7831 : Index := Scalar.indexCast v7672
  let c0_3267 : Index := 0#32
  let c0_3268 : Index := 0#32
  ![v7831.toNat, 0, 0]
def k0_off184 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c1_i32_3254 : BitVec 32 := 1#32
  let v7799 : BitVec 32 := Scalar.addi v7674 c1_i32_3254
  let v7800 : BitVec 32 := Scalar.select v7796 v7799 v7674
  let c15_i32_3256 : BitVec 32 := 15#32
  let v7802 : BitVec 32 := Scalar.minsi v7800 c15_i32_3256
  let v7838 : Index := Scalar.indexCast v7802
  let c0_3271 : Index := 0#32
  let c256_3272 : Index := 256#32
  ![v7838.toNat, 0, 256]
def k0_off185 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c1_i32_3254 : BitVec 32 := 1#32
  let v7799 : BitVec 32 := Scalar.addi v7674 c1_i32_3254
  let v7800 : BitVec 32 := Scalar.select v7796 v7799 v7674
  let c15_i32_3256 : BitVec 32 := 15#32
  let v7802 : BitVec 32 := Scalar.minsi v7800 c15_i32_3256
  let v7863 : Index := Scalar.indexCast v7802
  let c0_3279 : Index := 0#32
  let c512_3280 : Index := 512#32
  ![v7863.toNat, 0, 512]
def k0_off186 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c1_i32_3254 : BitVec 32 := 1#32
  let v7799 : BitVec 32 := Scalar.addi v7674 c1_i32_3254
  let v7800 : BitVec 32 := Scalar.select v7796 v7799 v7674
  let c15_i32_3256 : BitVec 32 := 15#32
  let v7802 : BitVec 32 := Scalar.minsi v7800 c15_i32_3256
  let v7888 : Index := Scalar.indexCast v7802
  let c0_3287 : Index := 0#32
  let c768_3288 : Index := 768#32
  ![v7888.toNat, 0, 768]
def k0_off187 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c1_i32_3254 : BitVec 32 := 1#32
  let v7799 : BitVec 32 := Scalar.addi v7674 c1_i32_3254
  let v7800 : BitVec 32 := Scalar.select v7796 v7799 v7674
  let v7929 : Index := Scalar.indexCast v7800
  let c0_3304 : Index := 0#32
  let c0_3305 : Index := 0#32
  ![v7929.toNat, 0, 0]
def k0_off188 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c1_i32_3254 : BitVec 32 := 1#32
  let v7799 : BitVec 32 := Scalar.addi v7674 c1_i32_3254
  let v7800 : BitVec 32 := Scalar.select v7796 v7799 v7674
  let v7932 : Index := Scalar.indexCast v7800
  let c0_3306 : Index := 0#32
  let c0_3307 : Index := 0#32
  ![v7932.toNat, 0, 0]
def k0_mult60 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c14_i32_3302 : BitVec 32 := 14#32
  let v7927 : BitVec 32 := Scalar.minsi v7924 c14_i32_3302
  let c256_i32_3308 : BitVec 32 := 256#32
  let v7935 : BitVec 32 := Scalar.muli v7927 c256_i32_3308
  v7935
def k0_off189 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c14_i32_3302 : BitVec 32 := 14#32
  let v7927 : BitVec 32 := Scalar.minsi v7924 c14_i32_3302
  let c256_i32_3308 : BitVec 32 := 256#32
  let v7935 : BitVec 32 := Scalar.muli v7927 c256_i32_3308
  let v7936 : BitVec 32 := v7935
  let v7937 : Index := Scalar.indexCast v7936
  let c0_3309 : Index := 0#32
  ![v7937.toNat, 0]
def k0_off190 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c1_i32_3301 : BitVec 32 := 1#32
  let v7925 : BitVec 32 := Scalar.addi v7800 c1_i32_3301
  let v7926 : BitVec 32 := Scalar.select v7922 v7925 v7800
  let c15_i32_3303 : BitVec 32 := 15#32
  let v7928 : BitVec 32 := Scalar.minsi v7926 c15_i32_3303
  let v7939 : Index := Scalar.indexCast v7928
  let c0_3310 : Index := 0#32
  let c0_3311 : Index := 0#32
  ![v7939.toNat, 0, 0]
def k0_off191 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let v7957 : Index := Scalar.indexCast v7798
  let c0_3314 : Index := 0#32
  let c0_3315 : Index := 0#32
  ![v7957.toNat, 0, 0]
def k0_off192 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c1_i32_3301 : BitVec 32 := 1#32
  let v7925 : BitVec 32 := Scalar.addi v7800 c1_i32_3301
  let v7926 : BitVec 32 := Scalar.select v7922 v7925 v7800
  let c15_i32_3303 : BitVec 32 := 15#32
  let v7928 : BitVec 32 := Scalar.minsi v7926 c15_i32_3303
  let v7964 : Index := Scalar.indexCast v7928
  let c0_3318 : Index := 0#32
  let c256_3319 : Index := 256#32
  ![v7964.toNat, 0, 256]
def k0_off193 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c1_i32_3301 : BitVec 32 := 1#32
  let v7925 : BitVec 32 := Scalar.addi v7800 c1_i32_3301
  let v7926 : BitVec 32 := Scalar.select v7922 v7925 v7800
  let c15_i32_3303 : BitVec 32 := 15#32
  let v7928 : BitVec 32 := Scalar.minsi v7926 c15_i32_3303
  let v7989 : Index := Scalar.indexCast v7928
  let c0_3326 : Index := 0#32
  let c512_3327 : Index := 512#32
  ![v7989.toNat, 0, 512]
def k0_off194 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c1_i32_3301 : BitVec 32 := 1#32
  let v7925 : BitVec 32 := Scalar.addi v7800 c1_i32_3301
  let v7926 : BitVec 32 := Scalar.select v7922 v7925 v7800
  let c15_i32_3303 : BitVec 32 := 15#32
  let v7928 : BitVec 32 := Scalar.minsi v7926 c15_i32_3303
  let v8014 : Index := Scalar.indexCast v7928
  let c0_3334 : Index := 0#32
  let c768_3335 : Index := 768#32
  ![v8014.toNat, 0, 768]
def k0_off195 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c1_i32_3301 : BitVec 32 := 1#32
  let v7925 : BitVec 32 := Scalar.addi v7800 c1_i32_3301
  let v7926 : BitVec 32 := Scalar.select v7922 v7925 v7800
  let v8055 : Index := Scalar.indexCast v7926
  let c0_3351 : Index := 0#32
  let c0_3352 : Index := 0#32
  ![v8055.toNat, 0, 0]
def k0_off196 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c1_i32_3301 : BitVec 32 := 1#32
  let v7925 : BitVec 32 := Scalar.addi v7800 c1_i32_3301
  let v7926 : BitVec 32 := Scalar.select v7922 v7925 v7800
  let v8058 : Index := Scalar.indexCast v7926
  let c0_3353 : Index := 0#32
  let c0_3354 : Index := 0#32
  ![v8058.toNat, 0, 0]
def k0_mult61 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c14_i32_3349 : BitVec 32 := 14#32
  let v8053 : BitVec 32 := Scalar.minsi v8050 c14_i32_3349
  let c256_i32_3355 : BitVec 32 := 256#32
  let v8061 : BitVec 32 := Scalar.muli v8053 c256_i32_3355
  v8061
def k0_off197 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c14_i32_3349 : BitVec 32 := 14#32
  let v8053 : BitVec 32 := Scalar.minsi v8050 c14_i32_3349
  let c256_i32_3355 : BitVec 32 := 256#32
  let v8061 : BitVec 32 := Scalar.muli v8053 c256_i32_3355
  let v8062 : BitVec 32 := v8061
  let v8063 : Index := Scalar.indexCast v8062
  let c0_3356 : Index := 0#32
  ![v8063.toNat, 0]
def k0_off198 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c1_i32_3348 : BitVec 32 := 1#32
  let v8051 : BitVec 32 := Scalar.addi v7926 c1_i32_3348
  let v8052 : BitVec 32 := Scalar.select v8048 v8051 v7926
  let c15_i32_3350 : BitVec 32 := 15#32
  let v8054 : BitVec 32 := Scalar.minsi v8052 c15_i32_3350
  let v8065 : Index := Scalar.indexCast v8054
  let c0_3357 : Index := 0#32
  let c0_3358 : Index := 0#32
  ![v8065.toNat, 0, 0]
def k0_off199 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let v8083 : Index := Scalar.indexCast v7924
  let c0_3361 : Index := 0#32
  let c0_3362 : Index := 0#32
  ![v8083.toNat, 0, 0]
def k0_off200 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c1_i32_3348 : BitVec 32 := 1#32
  let v8051 : BitVec 32 := Scalar.addi v7926 c1_i32_3348
  let v8052 : BitVec 32 := Scalar.select v8048 v8051 v7926
  let c15_i32_3350 : BitVec 32 := 15#32
  let v8054 : BitVec 32 := Scalar.minsi v8052 c15_i32_3350
  let v8090 : Index := Scalar.indexCast v8054
  let c0_3365 : Index := 0#32
  let c256_3366 : Index := 256#32
  ![v8090.toNat, 0, 256]
def k0_off201 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c1_i32_3348 : BitVec 32 := 1#32
  let v8051 : BitVec 32 := Scalar.addi v7926 c1_i32_3348
  let v8052 : BitVec 32 := Scalar.select v8048 v8051 v7926
  let c15_i32_3350 : BitVec 32 := 15#32
  let v8054 : BitVec 32 := Scalar.minsi v8052 c15_i32_3350
  let v8115 : Index := Scalar.indexCast v8054
  let c0_3373 : Index := 0#32
  let c512_3374 : Index := 512#32
  ![v8115.toNat, 0, 512]
def k0_off202 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c1_i32_3348 : BitVec 32 := 1#32
  let v8051 : BitVec 32 := Scalar.addi v7926 c1_i32_3348
  let v8052 : BitVec 32 := Scalar.select v8048 v8051 v7926
  let c15_i32_3350 : BitVec 32 := 15#32
  let v8054 : BitVec 32 := Scalar.minsi v8052 c15_i32_3350
  let v8140 : Index := Scalar.indexCast v8054
  let c0_3381 : Index := 0#32
  let c768_3382 : Index := 768#32
  ![v8140.toNat, 0, 768]
def k0_off203 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c1_i32_3348 : BitVec 32 := 1#32
  let v8051 : BitVec 32 := Scalar.addi v7926 c1_i32_3348
  let v8052 : BitVec 32 := Scalar.select v8048 v8051 v7926
  let v8181 : Index := Scalar.indexCast v8052
  let c0_3398 : Index := 0#32
  let c0_3399 : Index := 0#32
  ![v8181.toNat, 0, 0]
def k0_off204 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c1_i32_3348 : BitVec 32 := 1#32
  let v8051 : BitVec 32 := Scalar.addi v7926 c1_i32_3348
  let v8052 : BitVec 32 := Scalar.select v8048 v8051 v7926
  let v8184 : Index := Scalar.indexCast v8052
  let c0_3400 : Index := 0#32
  let c0_3401 : Index := 0#32
  ![v8184.toNat, 0, 0]
def k0_mult62 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c14_i32_3396 : BitVec 32 := 14#32
  let v8179 : BitVec 32 := Scalar.minsi v8176 c14_i32_3396
  let c256_i32_3402 : BitVec 32 := 256#32
  let v8187 : BitVec 32 := Scalar.muli v8179 c256_i32_3402
  v8187
def k0_off205 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c14_i32_3396 : BitVec 32 := 14#32
  let v8179 : BitVec 32 := Scalar.minsi v8176 c14_i32_3396
  let c256_i32_3402 : BitVec 32 := 256#32
  let v8187 : BitVec 32 := Scalar.muli v8179 c256_i32_3402
  let v8188 : BitVec 32 := v8187
  let v8189 : Index := Scalar.indexCast v8188
  let c0_3403 : Index := 0#32
  ![v8189.toNat, 0]
def k0_off206 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c1_i32_3395 : BitVec 32 := 1#32
  let v8177 : BitVec 32 := Scalar.addi v8052 c1_i32_3395
  let v8178 : BitVec 32 := Scalar.select v8174 v8177 v8052
  let c15_i32_3397 : BitVec 32 := 15#32
  let v8180 : BitVec 32 := Scalar.minsi v8178 c15_i32_3397
  let v8191 : Index := Scalar.indexCast v8180
  let c0_3404 : Index := 0#32
  let c0_3405 : Index := 0#32
  ![v8191.toNat, 0, 0]
def k0_off207 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let v8209 : Index := Scalar.indexCast v8050
  let c0_3408 : Index := 0#32
  let c0_3409 : Index := 0#32
  ![v8209.toNat, 0, 0]
def k0_off208 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c1_i32_3395 : BitVec 32 := 1#32
  let v8177 : BitVec 32 := Scalar.addi v8052 c1_i32_3395
  let v8178 : BitVec 32 := Scalar.select v8174 v8177 v8052
  let c15_i32_3397 : BitVec 32 := 15#32
  let v8180 : BitVec 32 := Scalar.minsi v8178 c15_i32_3397
  let v8216 : Index := Scalar.indexCast v8180
  let c0_3412 : Index := 0#32
  let c256_3413 : Index := 256#32
  ![v8216.toNat, 0, 256]
def k0_off209 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c1_i32_3395 : BitVec 32 := 1#32
  let v8177 : BitVec 32 := Scalar.addi v8052 c1_i32_3395
  let v8178 : BitVec 32 := Scalar.select v8174 v8177 v8052
  let c15_i32_3397 : BitVec 32 := 15#32
  let v8180 : BitVec 32 := Scalar.minsi v8178 c15_i32_3397
  let v8241 : Index := Scalar.indexCast v8180
  let c0_3420 : Index := 0#32
  let c512_3421 : Index := 512#32
  ![v8241.toNat, 0, 512]
def k0_off210 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c1_i32_3395 : BitVec 32 := 1#32
  let v8177 : BitVec 32 := Scalar.addi v8052 c1_i32_3395
  let v8178 : BitVec 32 := Scalar.select v8174 v8177 v8052
  let c15_i32_3397 : BitVec 32 := 15#32
  let v8180 : BitVec 32 := Scalar.minsi v8178 c15_i32_3397
  let v8266 : Index := Scalar.indexCast v8180
  let c0_3428 : Index := 0#32
  let c768_3429 : Index := 768#32
  ![v8266.toNat, 0, 768]
def k0_off211 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c1_i32_3395 : BitVec 32 := 1#32
  let v8177 : BitVec 32 := Scalar.addi v8052 c1_i32_3395
  let v8178 : BitVec 32 := Scalar.select v8174 v8177 v8052
  let v8307 : Index := Scalar.indexCast v8178
  let c0_3445 : Index := 0#32
  let c0_3446 : Index := 0#32
  ![v8307.toNat, 0, 0]
def k0_off212 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c1_i32_3395 : BitVec 32 := 1#32
  let v8177 : BitVec 32 := Scalar.addi v8052 c1_i32_3395
  let v8178 : BitVec 32 := Scalar.select v8174 v8177 v8052
  let v8310 : Index := Scalar.indexCast v8178
  let c0_3447 : Index := 0#32
  let c0_3448 : Index := 0#32
  ![v8310.toNat, 0, 0]
def k0_mult63 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c14_i32_3443 : BitVec 32 := 14#32
  let v8305 : BitVec 32 := Scalar.minsi v8302 c14_i32_3443
  let c256_i32_3449 : BitVec 32 := 256#32
  let v8313 : BitVec 32 := Scalar.muli v8305 c256_i32_3449
  v8313
def k0_off213 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c14_i32_3443 : BitVec 32 := 14#32
  let v8305 : BitVec 32 := Scalar.minsi v8302 c14_i32_3443
  let c256_i32_3449 : BitVec 32 := 256#32
  let v8313 : BitVec 32 := Scalar.muli v8305 c256_i32_3449
  let v8314 : BitVec 32 := v8313
  let v8315 : Index := Scalar.indexCast v8314
  let c0_3450 : Index := 0#32
  ![v8315.toNat, 0]
def k0_off214 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c1_i32_3442 : BitVec 32 := 1#32
  let v8303 : BitVec 32 := Scalar.addi v8178 c1_i32_3442
  let v8304 : BitVec 32 := Scalar.select v8300 v8303 v8178
  let c15_i32_3444 : BitVec 32 := 15#32
  let v8306 : BitVec 32 := Scalar.minsi v8304 c15_i32_3444
  let v8317 : Index := Scalar.indexCast v8306
  let c0_3451 : Index := 0#32
  let c0_3452 : Index := 0#32
  ![v8317.toNat, 0, 0]
def k0_off215 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let v8335 : Index := Scalar.indexCast v8176
  let c0_3455 : Index := 0#32
  let c0_3456 : Index := 0#32
  ![v8335.toNat, 0, 0]
def k0_off216 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c1_i32_3442 : BitVec 32 := 1#32
  let v8303 : BitVec 32 := Scalar.addi v8178 c1_i32_3442
  let v8304 : BitVec 32 := Scalar.select v8300 v8303 v8178
  let c15_i32_3444 : BitVec 32 := 15#32
  let v8306 : BitVec 32 := Scalar.minsi v8304 c15_i32_3444
  let v8342 : Index := Scalar.indexCast v8306
  let c0_3459 : Index := 0#32
  let c256_3460 : Index := 256#32
  ![v8342.toNat, 0, 256]
def k0_off217 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c1_i32_3442 : BitVec 32 := 1#32
  let v8303 : BitVec 32 := Scalar.addi v8178 c1_i32_3442
  let v8304 : BitVec 32 := Scalar.select v8300 v8303 v8178
  let c15_i32_3444 : BitVec 32 := 15#32
  let v8306 : BitVec 32 := Scalar.minsi v8304 c15_i32_3444
  let v8367 : Index := Scalar.indexCast v8306
  let c0_3467 : Index := 0#32
  let c512_3468 : Index := 512#32
  ![v8367.toNat, 0, 512]
def k0_off218 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c1_i32_3442 : BitVec 32 := 1#32
  let v8303 : BitVec 32 := Scalar.addi v8178 c1_i32_3442
  let v8304 : BitVec 32 := Scalar.select v8300 v8303 v8178
  let c15_i32_3444 : BitVec 32 := 15#32
  let v8306 : BitVec 32 := Scalar.minsi v8304 c15_i32_3444
  let v8392 : Index := Scalar.indexCast v8306
  let c0_3475 : Index := 0#32
  let c768_3476 : Index := 768#32
  ![v8392.toNat, 0, 768]
def k0_off219 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c1_i32_3442 : BitVec 32 := 1#32
  let v8303 : BitVec 32 := Scalar.addi v8178 c1_i32_3442
  let v8304 : BitVec 32 := Scalar.select v8300 v8303 v8178
  let v8433 : Index := Scalar.indexCast v8304
  let c0_3492 : Index := 0#32
  let c0_3493 : Index := 0#32
  ![v8433.toNat, 0, 0]
def k0_off220 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c1_i32_3442 : BitVec 32 := 1#32
  let v8303 : BitVec 32 := Scalar.addi v8178 c1_i32_3442
  let v8304 : BitVec 32 := Scalar.select v8300 v8303 v8178
  let v8436 : Index := Scalar.indexCast v8304
  let c0_3494 : Index := 0#32
  let c0_3495 : Index := 0#32
  ![v8436.toNat, 0, 0]
def k0_mult64 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c14_i32_3490 : BitVec 32 := 14#32
  let v8431 : BitVec 32 := Scalar.minsi v8428 c14_i32_3490
  let c256_i32_3496 : BitVec 32 := 256#32
  let v8439 : BitVec 32 := Scalar.muli v8431 c256_i32_3496
  v8439
def k0_off221 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c14_i32_3490 : BitVec 32 := 14#32
  let v8431 : BitVec 32 := Scalar.minsi v8428 c14_i32_3490
  let c256_i32_3496 : BitVec 32 := 256#32
  let v8439 : BitVec 32 := Scalar.muli v8431 c256_i32_3496
  let v8440 : BitVec 32 := v8439
  let v8441 : Index := Scalar.indexCast v8440
  let c0_3497 : Index := 0#32
  ![v8441.toNat, 0]
def k0_off222 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c1_i32_3489 : BitVec 32 := 1#32
  let v8429 : BitVec 32 := Scalar.addi v8304 c1_i32_3489
  let v8430 : BitVec 32 := Scalar.select v8426 v8429 v8304
  let c15_i32_3491 : BitVec 32 := 15#32
  let v8432 : BitVec 32 := Scalar.minsi v8430 c15_i32_3491
  let v8443 : Index := Scalar.indexCast v8432
  let c0_3498 : Index := 0#32
  let c0_3499 : Index := 0#32
  ![v8443.toNat, 0, 0]
def k0_off223 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let v8461 : Index := Scalar.indexCast v8302
  let c0_3502 : Index := 0#32
  let c0_3503 : Index := 0#32
  ![v8461.toNat, 0, 0]
def k0_off224 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c1_i32_3489 : BitVec 32 := 1#32
  let v8429 : BitVec 32 := Scalar.addi v8304 c1_i32_3489
  let v8430 : BitVec 32 := Scalar.select v8426 v8429 v8304
  let c15_i32_3491 : BitVec 32 := 15#32
  let v8432 : BitVec 32 := Scalar.minsi v8430 c15_i32_3491
  let v8468 : Index := Scalar.indexCast v8432
  let c0_3506 : Index := 0#32
  let c256_3507 : Index := 256#32
  ![v8468.toNat, 0, 256]
def k0_off225 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c1_i32_3489 : BitVec 32 := 1#32
  let v8429 : BitVec 32 := Scalar.addi v8304 c1_i32_3489
  let v8430 : BitVec 32 := Scalar.select v8426 v8429 v8304
  let c15_i32_3491 : BitVec 32 := 15#32
  let v8432 : BitVec 32 := Scalar.minsi v8430 c15_i32_3491
  let v8493 : Index := Scalar.indexCast v8432
  let c0_3514 : Index := 0#32
  let c512_3515 : Index := 512#32
  ![v8493.toNat, 0, 512]
def k0_off226 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c1_i32_3489 : BitVec 32 := 1#32
  let v8429 : BitVec 32 := Scalar.addi v8304 c1_i32_3489
  let v8430 : BitVec 32 := Scalar.select v8426 v8429 v8304
  let c15_i32_3491 : BitVec 32 := 15#32
  let v8432 : BitVec 32 := Scalar.minsi v8430 c15_i32_3491
  let v8518 : Index := Scalar.indexCast v8432
  let c0_3522 : Index := 0#32
  let c768_3523 : Index := 768#32
  ![v8518.toNat, 0, 768]
def k0_off227 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c1_i32_3489 : BitVec 32 := 1#32
  let v8429 : BitVec 32 := Scalar.addi v8304 c1_i32_3489
  let v8430 : BitVec 32 := Scalar.select v8426 v8429 v8304
  let v8559 : Index := Scalar.indexCast v8430
  let c0_3539 : Index := 0#32
  let c0_3540 : Index := 0#32
  ![v8559.toNat, 0, 0]
def k0_off228 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c1_i32_3489 : BitVec 32 := 1#32
  let v8429 : BitVec 32 := Scalar.addi v8304 c1_i32_3489
  let v8430 : BitVec 32 := Scalar.select v8426 v8429 v8304
  let v8562 : Index := Scalar.indexCast v8430
  let c0_3541 : Index := 0#32
  let c0_3542 : Index := 0#32
  ![v8562.toNat, 0, 0]
def k0_mult65 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c14_i32_3537 : BitVec 32 := 14#32
  let v8557 : BitVec 32 := Scalar.minsi v8554 c14_i32_3537
  let c256_i32_3543 : BitVec 32 := 256#32
  let v8565 : BitVec 32 := Scalar.muli v8557 c256_i32_3543
  v8565
def k0_off229 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c14_i32_3537 : BitVec 32 := 14#32
  let v8557 : BitVec 32 := Scalar.minsi v8554 c14_i32_3537
  let c256_i32_3543 : BitVec 32 := 256#32
  let v8565 : BitVec 32 := Scalar.muli v8557 c256_i32_3543
  let v8566 : BitVec 32 := v8565
  let v8567 : Index := Scalar.indexCast v8566
  let c0_3544 : Index := 0#32
  ![v8567.toNat, 0]
def k0_off230 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c1_i32_3536 : BitVec 32 := 1#32
  let v8555 : BitVec 32 := Scalar.addi v8430 c1_i32_3536
  let v8556 : BitVec 32 := Scalar.select v8552 v8555 v8430
  let c15_i32_3538 : BitVec 32 := 15#32
  let v8558 : BitVec 32 := Scalar.minsi v8556 c15_i32_3538
  let v8569 : Index := Scalar.indexCast v8558
  let c0_3545 : Index := 0#32
  let c0_3546 : Index := 0#32
  ![v8569.toNat, 0, 0]
def k0_off231 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let v8587 : Index := Scalar.indexCast v8428
  let c0_3549 : Index := 0#32
  let c0_3550 : Index := 0#32
  ![v8587.toNat, 0, 0]
def k0_off232 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c1_i32_3536 : BitVec 32 := 1#32
  let v8555 : BitVec 32 := Scalar.addi v8430 c1_i32_3536
  let v8556 : BitVec 32 := Scalar.select v8552 v8555 v8430
  let c15_i32_3538 : BitVec 32 := 15#32
  let v8558 : BitVec 32 := Scalar.minsi v8556 c15_i32_3538
  let v8594 : Index := Scalar.indexCast v8558
  let c0_3553 : Index := 0#32
  let c256_3554 : Index := 256#32
  ![v8594.toNat, 0, 256]
def k0_off233 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c1_i32_3536 : BitVec 32 := 1#32
  let v8555 : BitVec 32 := Scalar.addi v8430 c1_i32_3536
  let v8556 : BitVec 32 := Scalar.select v8552 v8555 v8430
  let c15_i32_3538 : BitVec 32 := 15#32
  let v8558 : BitVec 32 := Scalar.minsi v8556 c15_i32_3538
  let v8619 : Index := Scalar.indexCast v8558
  let c0_3561 : Index := 0#32
  let c512_3562 : Index := 512#32
  ![v8619.toNat, 0, 512]
def k0_off234 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c1_i32_3536 : BitVec 32 := 1#32
  let v8555 : BitVec 32 := Scalar.addi v8430 c1_i32_3536
  let v8556 : BitVec 32 := Scalar.select v8552 v8555 v8430
  let c15_i32_3538 : BitVec 32 := 15#32
  let v8558 : BitVec 32 := Scalar.minsi v8556 c15_i32_3538
  let v8644 : Index := Scalar.indexCast v8558
  let c0_3569 : Index := 0#32
  let c768_3570 : Index := 768#32
  ![v8644.toNat, 0, 768]
def k0_off235 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c1_i32_3536 : BitVec 32 := 1#32
  let v8555 : BitVec 32 := Scalar.addi v8430 c1_i32_3536
  let v8556 : BitVec 32 := Scalar.select v8552 v8555 v8430
  let v8685 : Index := Scalar.indexCast v8556
  let c0_3586 : Index := 0#32
  let c0_3587 : Index := 0#32
  ![v8685.toNat, 0, 0]
def k0_off236 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c1_i32_3536 : BitVec 32 := 1#32
  let v8555 : BitVec 32 := Scalar.addi v8430 c1_i32_3536
  let v8556 : BitVec 32 := Scalar.select v8552 v8555 v8430
  let v8688 : Index := Scalar.indexCast v8556
  let c0_3588 : Index := 0#32
  let c0_3589 : Index := 0#32
  ![v8688.toNat, 0, 0]
def k0_mult66 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c14_i32_3584 : BitVec 32 := 14#32
  let v8683 : BitVec 32 := Scalar.minsi v8680 c14_i32_3584
  let c256_i32_3590 : BitVec 32 := 256#32
  let v8691 : BitVec 32 := Scalar.muli v8683 c256_i32_3590
  v8691
def k0_off237 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c14_i32_3584 : BitVec 32 := 14#32
  let v8683 : BitVec 32 := Scalar.minsi v8680 c14_i32_3584
  let c256_i32_3590 : BitVec 32 := 256#32
  let v8691 : BitVec 32 := Scalar.muli v8683 c256_i32_3590
  let v8692 : BitVec 32 := v8691
  let v8693 : Index := Scalar.indexCast v8692
  let c0_3591 : Index := 0#32
  ![v8693.toNat, 0]
def k0_off238 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c1_i32_3583 : BitVec 32 := 1#32
  let v8681 : BitVec 32 := Scalar.addi v8556 c1_i32_3583
  let v8682 : BitVec 32 := Scalar.select v8678 v8681 v8556
  let c15_i32_3585 : BitVec 32 := 15#32
  let v8684 : BitVec 32 := Scalar.minsi v8682 c15_i32_3585
  let v8695 : Index := Scalar.indexCast v8684
  let c0_3592 : Index := 0#32
  let c0_3593 : Index := 0#32
  ![v8695.toNat, 0, 0]
def k0_off239 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let v8713 : Index := Scalar.indexCast v8554
  let c0_3596 : Index := 0#32
  let c0_3597 : Index := 0#32
  ![v8713.toNat, 0, 0]
def k0_off240 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c1_i32_3583 : BitVec 32 := 1#32
  let v8681 : BitVec 32 := Scalar.addi v8556 c1_i32_3583
  let v8682 : BitVec 32 := Scalar.select v8678 v8681 v8556
  let c15_i32_3585 : BitVec 32 := 15#32
  let v8684 : BitVec 32 := Scalar.minsi v8682 c15_i32_3585
  let v8720 : Index := Scalar.indexCast v8684
  let c0_3600 : Index := 0#32
  let c256_3601 : Index := 256#32
  ![v8720.toNat, 0, 256]
def k0_off241 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c1_i32_3583 : BitVec 32 := 1#32
  let v8681 : BitVec 32 := Scalar.addi v8556 c1_i32_3583
  let v8682 : BitVec 32 := Scalar.select v8678 v8681 v8556
  let c15_i32_3585 : BitVec 32 := 15#32
  let v8684 : BitVec 32 := Scalar.minsi v8682 c15_i32_3585
  let v8745 : Index := Scalar.indexCast v8684
  let c0_3608 : Index := 0#32
  let c512_3609 : Index := 512#32
  ![v8745.toNat, 0, 512]
def k0_off242 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c1_i32_3583 : BitVec 32 := 1#32
  let v8681 : BitVec 32 := Scalar.addi v8556 c1_i32_3583
  let v8682 : BitVec 32 := Scalar.select v8678 v8681 v8556
  let c15_i32_3585 : BitVec 32 := 15#32
  let v8684 : BitVec 32 := Scalar.minsi v8682 c15_i32_3585
  let v8770 : Index := Scalar.indexCast v8684
  let c0_3616 : Index := 0#32
  let c768_3617 : Index := 768#32
  ![v8770.toNat, 0, 768]
def k0_off243 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c1_i32_3583 : BitVec 32 := 1#32
  let v8681 : BitVec 32 := Scalar.addi v8556 c1_i32_3583
  let v8682 : BitVec 32 := Scalar.select v8678 v8681 v8556
  let v8811 : Index := Scalar.indexCast v8682
  let c0_3633 : Index := 0#32
  let c0_3634 : Index := 0#32
  ![v8811.toNat, 0, 0]
def k0_off244 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c1_i32_3583 : BitVec 32 := 1#32
  let v8681 : BitVec 32 := Scalar.addi v8556 c1_i32_3583
  let v8682 : BitVec 32 := Scalar.select v8678 v8681 v8556
  let v8814 : Index := Scalar.indexCast v8682
  let c0_3635 : Index := 0#32
  let c0_3636 : Index := 0#32
  ![v8814.toNat, 0, 0]
def k0_mult67 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c14_i32_3631 : BitVec 32 := 14#32
  let v8809 : BitVec 32 := Scalar.minsi v8806 c14_i32_3631
  let c256_i32_3637 : BitVec 32 := 256#32
  let v8817 : BitVec 32 := Scalar.muli v8809 c256_i32_3637
  v8817
def k0_off245 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c14_i32_3631 : BitVec 32 := 14#32
  let v8809 : BitVec 32 := Scalar.minsi v8806 c14_i32_3631
  let c256_i32_3637 : BitVec 32 := 256#32
  let v8817 : BitVec 32 := Scalar.muli v8809 c256_i32_3637
  let v8818 : BitVec 32 := v8817
  let v8819 : Index := Scalar.indexCast v8818
  let c0_3638 : Index := 0#32
  ![v8819.toNat, 0]
def k0_off246 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c1_i32_3630 : BitVec 32 := 1#32
  let v8807 : BitVec 32 := Scalar.addi v8682 c1_i32_3630
  let v8808 : BitVec 32 := Scalar.select v8804 v8807 v8682
  let c15_i32_3632 : BitVec 32 := 15#32
  let v8810 : BitVec 32 := Scalar.minsi v8808 c15_i32_3632
  let v8821 : Index := Scalar.indexCast v8810
  let c0_3639 : Index := 0#32
  let c0_3640 : Index := 0#32
  ![v8821.toNat, 0, 0]
def k0_off247 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let v8839 : Index := Scalar.indexCast v8680
  let c0_3643 : Index := 0#32
  let c0_3644 : Index := 0#32
  ![v8839.toNat, 0, 0]
def k0_off248 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c1_i32_3630 : BitVec 32 := 1#32
  let v8807 : BitVec 32 := Scalar.addi v8682 c1_i32_3630
  let v8808 : BitVec 32 := Scalar.select v8804 v8807 v8682
  let c15_i32_3632 : BitVec 32 := 15#32
  let v8810 : BitVec 32 := Scalar.minsi v8808 c15_i32_3632
  let v8846 : Index := Scalar.indexCast v8810
  let c0_3647 : Index := 0#32
  let c256_3648 : Index := 256#32
  ![v8846.toNat, 0, 256]
def k0_off249 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c1_i32_3630 : BitVec 32 := 1#32
  let v8807 : BitVec 32 := Scalar.addi v8682 c1_i32_3630
  let v8808 : BitVec 32 := Scalar.select v8804 v8807 v8682
  let c15_i32_3632 : BitVec 32 := 15#32
  let v8810 : BitVec 32 := Scalar.minsi v8808 c15_i32_3632
  let v8871 : Index := Scalar.indexCast v8810
  let c0_3655 : Index := 0#32
  let c512_3656 : Index := 512#32
  ![v8871.toNat, 0, 512]
def k0_off250 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c1_i32_3630 : BitVec 32 := 1#32
  let v8807 : BitVec 32 := Scalar.addi v8682 c1_i32_3630
  let v8808 : BitVec 32 := Scalar.select v8804 v8807 v8682
  let c15_i32_3632 : BitVec 32 := 15#32
  let v8810 : BitVec 32 := Scalar.minsi v8808 c15_i32_3632
  let v8896 : Index := Scalar.indexCast v8810
  let c0_3663 : Index := 0#32
  let c768_3664 : Index := 768#32
  ![v8896.toNat, 0, 768]
def k0_off251 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c1_i32_3630 : BitVec 32 := 1#32
  let v8807 : BitVec 32 := Scalar.addi v8682 c1_i32_3630
  let v8808 : BitVec 32 := Scalar.select v8804 v8807 v8682
  let v8937 : Index := Scalar.indexCast v8808
  let c0_3680 : Index := 0#32
  let c0_3681 : Index := 0#32
  ![v8937.toNat, 0, 0]
def k0_off252 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c1_i32_3630 : BitVec 32 := 1#32
  let v8807 : BitVec 32 := Scalar.addi v8682 c1_i32_3630
  let v8808 : BitVec 32 := Scalar.select v8804 v8807 v8682
  let v8940 : Index := Scalar.indexCast v8808
  let c0_3682 : Index := 0#32
  let c0_3683 : Index := 0#32
  ![v8940.toNat, 0, 0]
def k0_mult68 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c14_i32_3678 : BitVec 32 := 14#32
  let v8935 : BitVec 32 := Scalar.minsi v8932 c14_i32_3678
  let c256_i32_3684 : BitVec 32 := 256#32
  let v8943 : BitVec 32 := Scalar.muli v8935 c256_i32_3684
  v8943
def k0_off253 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c14_i32_3678 : BitVec 32 := 14#32
  let v8935 : BitVec 32 := Scalar.minsi v8932 c14_i32_3678
  let c256_i32_3684 : BitVec 32 := 256#32
  let v8943 : BitVec 32 := Scalar.muli v8935 c256_i32_3684
  let v8944 : BitVec 32 := v8943
  let v8945 : Index := Scalar.indexCast v8944
  let c0_3685 : Index := 0#32
  ![v8945.toNat, 0]
def k0_off254 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c1_i32_3677 : BitVec 32 := 1#32
  let v8933 : BitVec 32 := Scalar.addi v8808 c1_i32_3677
  let v8934 : BitVec 32 := Scalar.select v8930 v8933 v8808
  let c15_i32_3679 : BitVec 32 := 15#32
  let v8936 : BitVec 32 := Scalar.minsi v8934 c15_i32_3679
  let v8947 : Index := Scalar.indexCast v8936
  let c0_3686 : Index := 0#32
  let c0_3687 : Index := 0#32
  ![v8947.toNat, 0, 0]
def k0_off255 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let v8965 : Index := Scalar.indexCast v8806
  let c0_3690 : Index := 0#32
  let c0_3691 : Index := 0#32
  ![v8965.toNat, 0, 0]
def k0_off256 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c1_i32_3677 : BitVec 32 := 1#32
  let v8933 : BitVec 32 := Scalar.addi v8808 c1_i32_3677
  let v8934 : BitVec 32 := Scalar.select v8930 v8933 v8808
  let c15_i32_3679 : BitVec 32 := 15#32
  let v8936 : BitVec 32 := Scalar.minsi v8934 c15_i32_3679
  let v8972 : Index := Scalar.indexCast v8936
  let c0_3694 : Index := 0#32
  let c256_3695 : Index := 256#32
  ![v8972.toNat, 0, 256]
def k0_off257 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c1_i32_3677 : BitVec 32 := 1#32
  let v8933 : BitVec 32 := Scalar.addi v8808 c1_i32_3677
  let v8934 : BitVec 32 := Scalar.select v8930 v8933 v8808
  let c15_i32_3679 : BitVec 32 := 15#32
  let v8936 : BitVec 32 := Scalar.minsi v8934 c15_i32_3679
  let v8997 : Index := Scalar.indexCast v8936
  let c0_3702 : Index := 0#32
  let c512_3703 : Index := 512#32
  ![v8997.toNat, 0, 512]
def k0_off258 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c1_i32_3677 : BitVec 32 := 1#32
  let v8933 : BitVec 32 := Scalar.addi v8808 c1_i32_3677
  let v8934 : BitVec 32 := Scalar.select v8930 v8933 v8808
  let c15_i32_3679 : BitVec 32 := 15#32
  let v8936 : BitVec 32 := Scalar.minsi v8934 c15_i32_3679
  let v9022 : Index := Scalar.indexCast v8936
  let c0_3710 : Index := 0#32
  let c768_3711 : Index := 768#32
  ![v9022.toNat, 0, 768]
def k0_off259 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c1_i32_3677 : BitVec 32 := 1#32
  let v8933 : BitVec 32 := Scalar.addi v8808 c1_i32_3677
  let v8934 : BitVec 32 := Scalar.select v8930 v8933 v8808
  let v9063 : Index := Scalar.indexCast v8934
  let c0_3727 : Index := 0#32
  let c0_3728 : Index := 0#32
  ![v9063.toNat, 0, 0]
def k0_off260 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c1_i32_3677 : BitVec 32 := 1#32
  let v8933 : BitVec 32 := Scalar.addi v8808 c1_i32_3677
  let v8934 : BitVec 32 := Scalar.select v8930 v8933 v8808
  let v9066 : Index := Scalar.indexCast v8934
  let c0_3729 : Index := 0#32
  let c0_3730 : Index := 0#32
  ![v9066.toNat, 0, 0]
def k0_mult69 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c14_i32_3725 : BitVec 32 := 14#32
  let v9061 : BitVec 32 := Scalar.minsi v9058 c14_i32_3725
  let c256_i32_3731 : BitVec 32 := 256#32
  let v9069 : BitVec 32 := Scalar.muli v9061 c256_i32_3731
  v9069
def k0_off261 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c14_i32_3725 : BitVec 32 := 14#32
  let v9061 : BitVec 32 := Scalar.minsi v9058 c14_i32_3725
  let c256_i32_3731 : BitVec 32 := 256#32
  let v9069 : BitVec 32 := Scalar.muli v9061 c256_i32_3731
  let v9070 : BitVec 32 := v9069
  let v9071 : Index := Scalar.indexCast v9070
  let c0_3732 : Index := 0#32
  ![v9071.toNat, 0]
def k0_off262 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c1_i32_3724 : BitVec 32 := 1#32
  let v9059 : BitVec 32 := Scalar.addi v8934 c1_i32_3724
  let v9060 : BitVec 32 := Scalar.select v9056 v9059 v8934
  let c15_i32_3726 : BitVec 32 := 15#32
  let v9062 : BitVec 32 := Scalar.minsi v9060 c15_i32_3726
  let v9073 : Index := Scalar.indexCast v9062
  let c0_3733 : Index := 0#32
  let c0_3734 : Index := 0#32
  ![v9073.toNat, 0, 0]
def k0_off263 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let v9091 : Index := Scalar.indexCast v8932
  let c0_3737 : Index := 0#32
  let c0_3738 : Index := 0#32
  ![v9091.toNat, 0, 0]
def k0_off264 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c1_i32_3724 : BitVec 32 := 1#32
  let v9059 : BitVec 32 := Scalar.addi v8934 c1_i32_3724
  let v9060 : BitVec 32 := Scalar.select v9056 v9059 v8934
  let c15_i32_3726 : BitVec 32 := 15#32
  let v9062 : BitVec 32 := Scalar.minsi v9060 c15_i32_3726
  let v9098 : Index := Scalar.indexCast v9062
  let c0_3741 : Index := 0#32
  let c256_3742 : Index := 256#32
  ![v9098.toNat, 0, 256]
def k0_off265 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c1_i32_3724 : BitVec 32 := 1#32
  let v9059 : BitVec 32 := Scalar.addi v8934 c1_i32_3724
  let v9060 : BitVec 32 := Scalar.select v9056 v9059 v8934
  let c15_i32_3726 : BitVec 32 := 15#32
  let v9062 : BitVec 32 := Scalar.minsi v9060 c15_i32_3726
  let v9123 : Index := Scalar.indexCast v9062
  let c0_3749 : Index := 0#32
  let c512_3750 : Index := 512#32
  ![v9123.toNat, 0, 512]
def k0_off266 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c1_i32_3724 : BitVec 32 := 1#32
  let v9059 : BitVec 32 := Scalar.addi v8934 c1_i32_3724
  let v9060 : BitVec 32 := Scalar.select v9056 v9059 v8934
  let c15_i32_3726 : BitVec 32 := 15#32
  let v9062 : BitVec 32 := Scalar.minsi v9060 c15_i32_3726
  let v9148 : Index := Scalar.indexCast v9062
  let c0_3757 : Index := 0#32
  let c768_3758 : Index := 768#32
  ![v9148.toNat, 0, 768]
def k0_off267 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c1_i32_3724 : BitVec 32 := 1#32
  let v9059 : BitVec 32 := Scalar.addi v8934 c1_i32_3724
  let v9060 : BitVec 32 := Scalar.select v9056 v9059 v8934
  let v9189 : Index := Scalar.indexCast v9060
  let c0_3774 : Index := 0#32
  let c0_3775 : Index := 0#32
  ![v9189.toNat, 0, 0]
def k0_off268 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c1_i32_3724 : BitVec 32 := 1#32
  let v9059 : BitVec 32 := Scalar.addi v8934 c1_i32_3724
  let v9060 : BitVec 32 := Scalar.select v9056 v9059 v8934
  let v9192 : Index := Scalar.indexCast v9060
  let c0_3776 : Index := 0#32
  let c0_3777 : Index := 0#32
  ![v9192.toNat, 0, 0]
def k0_mult70 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c14_i32_3772 : BitVec 32 := 14#32
  let v9187 : BitVec 32 := Scalar.minsi v9184 c14_i32_3772
  let c256_i32_3778 : BitVec 32 := 256#32
  let v9195 : BitVec 32 := Scalar.muli v9187 c256_i32_3778
  v9195
def k0_off269 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c14_i32_3772 : BitVec 32 := 14#32
  let v9187 : BitVec 32 := Scalar.minsi v9184 c14_i32_3772
  let c256_i32_3778 : BitVec 32 := 256#32
  let v9195 : BitVec 32 := Scalar.muli v9187 c256_i32_3778
  let v9196 : BitVec 32 := v9195
  let v9197 : Index := Scalar.indexCast v9196
  let c0_3779 : Index := 0#32
  ![v9197.toNat, 0]
def k0_off270 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c1_i32_3771 : BitVec 32 := 1#32
  let v9185 : BitVec 32 := Scalar.addi v9060 c1_i32_3771
  let v9186 : BitVec 32 := Scalar.select v9182 v9185 v9060
  let c15_i32_3773 : BitVec 32 := 15#32
  let v9188 : BitVec 32 := Scalar.minsi v9186 c15_i32_3773
  let v9199 : Index := Scalar.indexCast v9188
  let c0_3780 : Index := 0#32
  let c0_3781 : Index := 0#32
  ![v9199.toNat, 0, 0]
def k0_off271 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let v9217 : Index := Scalar.indexCast v9058
  let c0_3784 : Index := 0#32
  let c0_3785 : Index := 0#32
  ![v9217.toNat, 0, 0]
def k0_off272 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c1_i32_3771 : BitVec 32 := 1#32
  let v9185 : BitVec 32 := Scalar.addi v9060 c1_i32_3771
  let v9186 : BitVec 32 := Scalar.select v9182 v9185 v9060
  let c15_i32_3773 : BitVec 32 := 15#32
  let v9188 : BitVec 32 := Scalar.minsi v9186 c15_i32_3773
  let v9224 : Index := Scalar.indexCast v9188
  let c0_3788 : Index := 0#32
  let c256_3789 : Index := 256#32
  ![v9224.toNat, 0, 256]
def k0_off273 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c1_i32_3771 : BitVec 32 := 1#32
  let v9185 : BitVec 32 := Scalar.addi v9060 c1_i32_3771
  let v9186 : BitVec 32 := Scalar.select v9182 v9185 v9060
  let c15_i32_3773 : BitVec 32 := 15#32
  let v9188 : BitVec 32 := Scalar.minsi v9186 c15_i32_3773
  let v9249 : Index := Scalar.indexCast v9188
  let c0_3796 : Index := 0#32
  let c512_3797 : Index := 512#32
  ![v9249.toNat, 0, 512]
def k0_off274 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c1_i32_3771 : BitVec 32 := 1#32
  let v9185 : BitVec 32 := Scalar.addi v9060 c1_i32_3771
  let v9186 : BitVec 32 := Scalar.select v9182 v9185 v9060
  let c15_i32_3773 : BitVec 32 := 15#32
  let v9188 : BitVec 32 := Scalar.minsi v9186 c15_i32_3773
  let v9274 : Index := Scalar.indexCast v9188
  let c0_3804 : Index := 0#32
  let c768_3805 : Index := 768#32
  ![v9274.toNat, 0, 768]
def k0_off275 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c1_i32_3771 : BitVec 32 := 1#32
  let v9185 : BitVec 32 := Scalar.addi v9060 c1_i32_3771
  let v9186 : BitVec 32 := Scalar.select v9182 v9185 v9060
  let v9315 : Index := Scalar.indexCast v9186
  let c0_3821 : Index := 0#32
  let c0_3822 : Index := 0#32
  ![v9315.toNat, 0, 0]
def k0_off276 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c1_i32_3771 : BitVec 32 := 1#32
  let v9185 : BitVec 32 := Scalar.addi v9060 c1_i32_3771
  let v9186 : BitVec 32 := Scalar.select v9182 v9185 v9060
  let v9318 : Index := Scalar.indexCast v9186
  let c0_3823 : Index := 0#32
  let c0_3824 : Index := 0#32
  ![v9318.toNat, 0, 0]
def k0_mult71 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c14_i32_3819 : BitVec 32 := 14#32
  let v9313 : BitVec 32 := Scalar.minsi v9310 c14_i32_3819
  let c256_i32_3825 : BitVec 32 := 256#32
  let v9321 : BitVec 32 := Scalar.muli v9313 c256_i32_3825
  v9321
def k0_off277 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c14_i32_3819 : BitVec 32 := 14#32
  let v9313 : BitVec 32 := Scalar.minsi v9310 c14_i32_3819
  let c256_i32_3825 : BitVec 32 := 256#32
  let v9321 : BitVec 32 := Scalar.muli v9313 c256_i32_3825
  let v9322 : BitVec 32 := v9321
  let v9323 : Index := Scalar.indexCast v9322
  let c0_3826 : Index := 0#32
  ![v9323.toNat, 0]
def k0_off278 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c1_i32_3818 : BitVec 32 := 1#32
  let v9311 : BitVec 32 := Scalar.addi v9186 c1_i32_3818
  let v9312 : BitVec 32 := Scalar.select v9308 v9311 v9186
  let c15_i32_3820 : BitVec 32 := 15#32
  let v9314 : BitVec 32 := Scalar.minsi v9312 c15_i32_3820
  let v9325 : Index := Scalar.indexCast v9314
  let c0_3827 : Index := 0#32
  let c0_3828 : Index := 0#32
  ![v9325.toNat, 0, 0]
def k0_off279 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let v9343 : Index := Scalar.indexCast v9184
  let c0_3831 : Index := 0#32
  let c0_3832 : Index := 0#32
  ![v9343.toNat, 0, 0]
def k0_off280 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c1_i32_3818 : BitVec 32 := 1#32
  let v9311 : BitVec 32 := Scalar.addi v9186 c1_i32_3818
  let v9312 : BitVec 32 := Scalar.select v9308 v9311 v9186
  let c15_i32_3820 : BitVec 32 := 15#32
  let v9314 : BitVec 32 := Scalar.minsi v9312 c15_i32_3820
  let v9350 : Index := Scalar.indexCast v9314
  let c0_3835 : Index := 0#32
  let c256_3836 : Index := 256#32
  ![v9350.toNat, 0, 256]
def k0_off281 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c1_i32_3818 : BitVec 32 := 1#32
  let v9311 : BitVec 32 := Scalar.addi v9186 c1_i32_3818
  let v9312 : BitVec 32 := Scalar.select v9308 v9311 v9186
  let c15_i32_3820 : BitVec 32 := 15#32
  let v9314 : BitVec 32 := Scalar.minsi v9312 c15_i32_3820
  let v9375 : Index := Scalar.indexCast v9314
  let c0_3843 : Index := 0#32
  let c512_3844 : Index := 512#32
  ![v9375.toNat, 0, 512]
def k0_off282 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c1_i32_3818 : BitVec 32 := 1#32
  let v9311 : BitVec 32 := Scalar.addi v9186 c1_i32_3818
  let v9312 : BitVec 32 := Scalar.select v9308 v9311 v9186
  let c15_i32_3820 : BitVec 32 := 15#32
  let v9314 : BitVec 32 := Scalar.minsi v9312 c15_i32_3820
  let v9400 : Index := Scalar.indexCast v9314
  let c0_3851 : Index := 0#32
  let c768_3852 : Index := 768#32
  ![v9400.toNat, 0, 768]
def k0_off283 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c1_i32_3818 : BitVec 32 := 1#32
  let v9311 : BitVec 32 := Scalar.addi v9186 c1_i32_3818
  let v9312 : BitVec 32 := Scalar.select v9308 v9311 v9186
  let v9441 : Index := Scalar.indexCast v9312
  let c0_3868 : Index := 0#32
  let c0_3869 : Index := 0#32
  ![v9441.toNat, 0, 0]
def k0_off284 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c1_i32_3818 : BitVec 32 := 1#32
  let v9311 : BitVec 32 := Scalar.addi v9186 c1_i32_3818
  let v9312 : BitVec 32 := Scalar.select v9308 v9311 v9186
  let v9444 : Index := Scalar.indexCast v9312
  let c0_3870 : Index := 0#32
  let c0_3871 : Index := 0#32
  ![v9444.toNat, 0, 0]
def k0_mult72 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c14_i32_3866 : BitVec 32 := 14#32
  let v9439 : BitVec 32 := Scalar.minsi v9436 c14_i32_3866
  let c256_i32_3872 : BitVec 32 := 256#32
  let v9447 : BitVec 32 := Scalar.muli v9439 c256_i32_3872
  v9447
def k0_off285 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c14_i32_3866 : BitVec 32 := 14#32
  let v9439 : BitVec 32 := Scalar.minsi v9436 c14_i32_3866
  let c256_i32_3872 : BitVec 32 := 256#32
  let v9447 : BitVec 32 := Scalar.muli v9439 c256_i32_3872
  let v9448 : BitVec 32 := v9447
  let v9449 : Index := Scalar.indexCast v9448
  let c0_3873 : Index := 0#32
  ![v9449.toNat, 0]
def k0_off286 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c1_i32_3865 : BitVec 32 := 1#32
  let v9437 : BitVec 32 := Scalar.addi v9312 c1_i32_3865
  let v9438 : BitVec 32 := Scalar.select v9434 v9437 v9312
  let c15_i32_3867 : BitVec 32 := 15#32
  let v9440 : BitVec 32 := Scalar.minsi v9438 c15_i32_3867
  let v9451 : Index := Scalar.indexCast v9440
  let c0_3874 : Index := 0#32
  let c0_3875 : Index := 0#32
  ![v9451.toNat, 0, 0]
def k0_off287 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let v9469 : Index := Scalar.indexCast v9310
  let c0_3878 : Index := 0#32
  let c0_3879 : Index := 0#32
  ![v9469.toNat, 0, 0]
def k0_off288 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c1_i32_3865 : BitVec 32 := 1#32
  let v9437 : BitVec 32 := Scalar.addi v9312 c1_i32_3865
  let v9438 : BitVec 32 := Scalar.select v9434 v9437 v9312
  let c15_i32_3867 : BitVec 32 := 15#32
  let v9440 : BitVec 32 := Scalar.minsi v9438 c15_i32_3867
  let v9476 : Index := Scalar.indexCast v9440
  let c0_3882 : Index := 0#32
  let c256_3883 : Index := 256#32
  ![v9476.toNat, 0, 256]
def k0_off289 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c1_i32_3865 : BitVec 32 := 1#32
  let v9437 : BitVec 32 := Scalar.addi v9312 c1_i32_3865
  let v9438 : BitVec 32 := Scalar.select v9434 v9437 v9312
  let c15_i32_3867 : BitVec 32 := 15#32
  let v9440 : BitVec 32 := Scalar.minsi v9438 c15_i32_3867
  let v9501 : Index := Scalar.indexCast v9440
  let c0_3890 : Index := 0#32
  let c512_3891 : Index := 512#32
  ![v9501.toNat, 0, 512]
def k0_off290 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c1_i32_3865 : BitVec 32 := 1#32
  let v9437 : BitVec 32 := Scalar.addi v9312 c1_i32_3865
  let v9438 : BitVec 32 := Scalar.select v9434 v9437 v9312
  let c15_i32_3867 : BitVec 32 := 15#32
  let v9440 : BitVec 32 := Scalar.minsi v9438 c15_i32_3867
  let v9526 : Index := Scalar.indexCast v9440
  let c0_3898 : Index := 0#32
  let c768_3899 : Index := 768#32
  ![v9526.toNat, 0, 768]
def k0_off291 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c1_i32_3865 : BitVec 32 := 1#32
  let v9437 : BitVec 32 := Scalar.addi v9312 c1_i32_3865
  let v9438 : BitVec 32 := Scalar.select v9434 v9437 v9312
  let v9567 : Index := Scalar.indexCast v9438
  let c0_3915 : Index := 0#32
  let c0_3916 : Index := 0#32
  ![v9567.toNat, 0, 0]
def k0_off292 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c1_i32_3865 : BitVec 32 := 1#32
  let v9437 : BitVec 32 := Scalar.addi v9312 c1_i32_3865
  let v9438 : BitVec 32 := Scalar.select v9434 v9437 v9312
  let v9570 : Index := Scalar.indexCast v9438
  let c0_3917 : Index := 0#32
  let c0_3918 : Index := 0#32
  ![v9570.toNat, 0, 0]
def k0_mult73 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c14_i32_3913 : BitVec 32 := 14#32
  let v9565 : BitVec 32 := Scalar.minsi v9562 c14_i32_3913
  let c256_i32_3919 : BitVec 32 := 256#32
  let v9573 : BitVec 32 := Scalar.muli v9565 c256_i32_3919
  v9573
def k0_off293 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c14_i32_3913 : BitVec 32 := 14#32
  let v9565 : BitVec 32 := Scalar.minsi v9562 c14_i32_3913
  let c256_i32_3919 : BitVec 32 := 256#32
  let v9573 : BitVec 32 := Scalar.muli v9565 c256_i32_3919
  let v9574 : BitVec 32 := v9573
  let v9575 : Index := Scalar.indexCast v9574
  let c0_3920 : Index := 0#32
  ![v9575.toNat, 0]
def k0_off294 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c1_i32_3912 : BitVec 32 := 1#32
  let v9563 : BitVec 32 := Scalar.addi v9438 c1_i32_3912
  let v9564 : BitVec 32 := Scalar.select v9560 v9563 v9438
  let c15_i32_3914 : BitVec 32 := 15#32
  let v9566 : BitVec 32 := Scalar.minsi v9564 c15_i32_3914
  let v9577 : Index := Scalar.indexCast v9566
  let c0_3921 : Index := 0#32
  let c0_3922 : Index := 0#32
  ![v9577.toNat, 0, 0]
def k0_off295 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let v9595 : Index := Scalar.indexCast v9436
  let c0_3925 : Index := 0#32
  let c0_3926 : Index := 0#32
  ![v9595.toNat, 0, 0]
def k0_off296 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c1_i32_3912 : BitVec 32 := 1#32
  let v9563 : BitVec 32 := Scalar.addi v9438 c1_i32_3912
  let v9564 : BitVec 32 := Scalar.select v9560 v9563 v9438
  let c15_i32_3914 : BitVec 32 := 15#32
  let v9566 : BitVec 32 := Scalar.minsi v9564 c15_i32_3914
  let v9602 : Index := Scalar.indexCast v9566
  let c0_3929 : Index := 0#32
  let c256_3930 : Index := 256#32
  ![v9602.toNat, 0, 256]
def k0_off297 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c1_i32_3912 : BitVec 32 := 1#32
  let v9563 : BitVec 32 := Scalar.addi v9438 c1_i32_3912
  let v9564 : BitVec 32 := Scalar.select v9560 v9563 v9438
  let c15_i32_3914 : BitVec 32 := 15#32
  let v9566 : BitVec 32 := Scalar.minsi v9564 c15_i32_3914
  let v9627 : Index := Scalar.indexCast v9566
  let c0_3937 : Index := 0#32
  let c512_3938 : Index := 512#32
  ![v9627.toNat, 0, 512]
def k0_off298 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c1_i32_3912 : BitVec 32 := 1#32
  let v9563 : BitVec 32 := Scalar.addi v9438 c1_i32_3912
  let v9564 : BitVec 32 := Scalar.select v9560 v9563 v9438
  let c15_i32_3914 : BitVec 32 := 15#32
  let v9566 : BitVec 32 := Scalar.minsi v9564 c15_i32_3914
  let v9652 : Index := Scalar.indexCast v9566
  let c0_3945 : Index := 0#32
  let c768_3946 : Index := 768#32
  ![v9652.toNat, 0, 768]
def k0_off299 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c1_i32_3912 : BitVec 32 := 1#32
  let v9563 : BitVec 32 := Scalar.addi v9438 c1_i32_3912
  let v9564 : BitVec 32 := Scalar.select v9560 v9563 v9438
  let v9693 : Index := Scalar.indexCast v9564
  let c0_3962 : Index := 0#32
  let c0_3963 : Index := 0#32
  ![v9693.toNat, 0, 0]
def k0_off300 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c1_i32_3912 : BitVec 32 := 1#32
  let v9563 : BitVec 32 := Scalar.addi v9438 c1_i32_3912
  let v9564 : BitVec 32 := Scalar.select v9560 v9563 v9438
  let v9696 : Index := Scalar.indexCast v9564
  let c0_3964 : Index := 0#32
  let c0_3965 : Index := 0#32
  ![v9696.toNat, 0, 0]
def k0_mult74 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c14_i32_3960 : BitVec 32 := 14#32
  let v9691 : BitVec 32 := Scalar.minsi v9688 c14_i32_3960
  let c256_i32_3966 : BitVec 32 := 256#32
  let v9699 : BitVec 32 := Scalar.muli v9691 c256_i32_3966
  v9699
def k0_off301 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c14_i32_3960 : BitVec 32 := 14#32
  let v9691 : BitVec 32 := Scalar.minsi v9688 c14_i32_3960
  let c256_i32_3966 : BitVec 32 := 256#32
  let v9699 : BitVec 32 := Scalar.muli v9691 c256_i32_3966
  let v9700 : BitVec 32 := v9699
  let v9701 : Index := Scalar.indexCast v9700
  let c0_3967 : Index := 0#32
  ![v9701.toNat, 0]
def k0_off302 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c1_i32_3959 : BitVec 32 := 1#32
  let v9689 : BitVec 32 := Scalar.addi v9564 c1_i32_3959
  let v9690 : BitVec 32 := Scalar.select v9686 v9689 v9564
  let c15_i32_3961 : BitVec 32 := 15#32
  let v9692 : BitVec 32 := Scalar.minsi v9690 c15_i32_3961
  let v9703 : Index := Scalar.indexCast v9692
  let c0_3968 : Index := 0#32
  let c0_3969 : Index := 0#32
  ![v9703.toNat, 0, 0]
def k0_off303 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let v9721 : Index := Scalar.indexCast v9562
  let c0_3972 : Index := 0#32
  let c0_3973 : Index := 0#32
  ![v9721.toNat, 0, 0]
def k0_off304 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c1_i32_3959 : BitVec 32 := 1#32
  let v9689 : BitVec 32 := Scalar.addi v9564 c1_i32_3959
  let v9690 : BitVec 32 := Scalar.select v9686 v9689 v9564
  let c15_i32_3961 : BitVec 32 := 15#32
  let v9692 : BitVec 32 := Scalar.minsi v9690 c15_i32_3961
  let v9728 : Index := Scalar.indexCast v9692
  let c0_3976 : Index := 0#32
  let c256_3977 : Index := 256#32
  ![v9728.toNat, 0, 256]
def k0_off305 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c1_i32_3959 : BitVec 32 := 1#32
  let v9689 : BitVec 32 := Scalar.addi v9564 c1_i32_3959
  let v9690 : BitVec 32 := Scalar.select v9686 v9689 v9564
  let c15_i32_3961 : BitVec 32 := 15#32
  let v9692 : BitVec 32 := Scalar.minsi v9690 c15_i32_3961
  let v9753 : Index := Scalar.indexCast v9692
  let c0_3984 : Index := 0#32
  let c512_3985 : Index := 512#32
  ![v9753.toNat, 0, 512]
def k0_off306 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c1_i32_3959 : BitVec 32 := 1#32
  let v9689 : BitVec 32 := Scalar.addi v9564 c1_i32_3959
  let v9690 : BitVec 32 := Scalar.select v9686 v9689 v9564
  let c15_i32_3961 : BitVec 32 := 15#32
  let v9692 : BitVec 32 := Scalar.minsi v9690 c15_i32_3961
  let v9778 : Index := Scalar.indexCast v9692
  let c0_3992 : Index := 0#32
  let c768_3993 : Index := 768#32
  ![v9778.toNat, 0, 768]
def k0_off307 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c1_i32_3959 : BitVec 32 := 1#32
  let v9689 : BitVec 32 := Scalar.addi v9564 c1_i32_3959
  let v9690 : BitVec 32 := Scalar.select v9686 v9689 v9564
  let v9819 : Index := Scalar.indexCast v9690
  let c0_4009 : Index := 0#32
  let c0_4010 : Index := 0#32
  ![v9819.toNat, 0, 0]
def k0_off308 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c1_i32_3959 : BitVec 32 := 1#32
  let v9689 : BitVec 32 := Scalar.addi v9564 c1_i32_3959
  let v9690 : BitVec 32 := Scalar.select v9686 v9689 v9564
  let v9822 : Index := Scalar.indexCast v9690
  let c0_4011 : Index := 0#32
  let c0_4012 : Index := 0#32
  ![v9822.toNat, 0, 0]
def k0_mult75 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c14_i32_4007 : BitVec 32 := 14#32
  let v9817 : BitVec 32 := Scalar.minsi v9814 c14_i32_4007
  let c256_i32_4013 : BitVec 32 := 256#32
  let v9825 : BitVec 32 := Scalar.muli v9817 c256_i32_4013
  v9825
def k0_off309 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c14_i32_4007 : BitVec 32 := 14#32
  let v9817 : BitVec 32 := Scalar.minsi v9814 c14_i32_4007
  let c256_i32_4013 : BitVec 32 := 256#32
  let v9825 : BitVec 32 := Scalar.muli v9817 c256_i32_4013
  let v9826 : BitVec 32 := v9825
  let v9827 : Index := Scalar.indexCast v9826
  let c0_4014 : Index := 0#32
  ![v9827.toNat, 0]
def k0_off310 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c1_i32_4006 : BitVec 32 := 1#32
  let v9815 : BitVec 32 := Scalar.addi v9690 c1_i32_4006
  let v9816 : BitVec 32 := Scalar.select v9812 v9815 v9690
  let c15_i32_4008 : BitVec 32 := 15#32
  let v9818 : BitVec 32 := Scalar.minsi v9816 c15_i32_4008
  let v9829 : Index := Scalar.indexCast v9818
  let c0_4015 : Index := 0#32
  let c0_4016 : Index := 0#32
  ![v9829.toNat, 0, 0]
def k0_off311 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let v9847 : Index := Scalar.indexCast v9688
  let c0_4019 : Index := 0#32
  let c0_4020 : Index := 0#32
  ![v9847.toNat, 0, 0]
def k0_off312 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c1_i32_4006 : BitVec 32 := 1#32
  let v9815 : BitVec 32 := Scalar.addi v9690 c1_i32_4006
  let v9816 : BitVec 32 := Scalar.select v9812 v9815 v9690
  let c15_i32_4008 : BitVec 32 := 15#32
  let v9818 : BitVec 32 := Scalar.minsi v9816 c15_i32_4008
  let v9854 : Index := Scalar.indexCast v9818
  let c0_4023 : Index := 0#32
  let c256_4024 : Index := 256#32
  ![v9854.toNat, 0, 256]
def k0_off313 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c1_i32_4006 : BitVec 32 := 1#32
  let v9815 : BitVec 32 := Scalar.addi v9690 c1_i32_4006
  let v9816 : BitVec 32 := Scalar.select v9812 v9815 v9690
  let c15_i32_4008 : BitVec 32 := 15#32
  let v9818 : BitVec 32 := Scalar.minsi v9816 c15_i32_4008
  let v9879 : Index := Scalar.indexCast v9818
  let c0_4031 : Index := 0#32
  let c512_4032 : Index := 512#32
  ![v9879.toNat, 0, 512]
def k0_off314 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c1_i32_4006 : BitVec 32 := 1#32
  let v9815 : BitVec 32 := Scalar.addi v9690 c1_i32_4006
  let v9816 : BitVec 32 := Scalar.select v9812 v9815 v9690
  let c15_i32_4008 : BitVec 32 := 15#32
  let v9818 : BitVec 32 := Scalar.minsi v9816 c15_i32_4008
  let v9904 : Index := Scalar.indexCast v9818
  let c0_4039 : Index := 0#32
  let c768_4040 : Index := 768#32
  ![v9904.toNat, 0, 768]
def k0_off315 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c1_i32_4006 : BitVec 32 := 1#32
  let v9815 : BitVec 32 := Scalar.addi v9690 c1_i32_4006
  let v9816 : BitVec 32 := Scalar.select v9812 v9815 v9690
  let v9945 : Index := Scalar.indexCast v9816
  let c0_4056 : Index := 0#32
  let c0_4057 : Index := 0#32
  ![v9945.toNat, 0, 0]
def k0_off316 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c1_i32_4006 : BitVec 32 := 1#32
  let v9815 : BitVec 32 := Scalar.addi v9690 c1_i32_4006
  let v9816 : BitVec 32 := Scalar.select v9812 v9815 v9690
  let v9948 : Index := Scalar.indexCast v9816
  let c0_4058 : Index := 0#32
  let c0_4059 : Index := 0#32
  ![v9948.toNat, 0, 0]
def k0_mult76 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c0_i32_4052 : BitVec 32 := 0#32
  let c1_i32_4051 : BitVec 32 := 1#32
  let v9939 : BitVec 32 := Scalar.addi v9814 c1_i32_4051
  let v9940 : BitVec 32 := Scalar.select v9938 c0_i32_4052 v9939
  let c14_i32_4054 : BitVec 32 := 14#32
  let v9943 : BitVec 32 := Scalar.minsi v9940 c14_i32_4054
  let c256_i32_4060 : BitVec 32 := 256#32
  let v9951 : BitVec 32 := Scalar.muli v9943 c256_i32_4060
  v9951
def k0_off317 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c0_i32_4052 : BitVec 32 := 0#32
  let c1_i32_4051 : BitVec 32 := 1#32
  let v9939 : BitVec 32 := Scalar.addi v9814 c1_i32_4051
  let v9940 : BitVec 32 := Scalar.select v9938 c0_i32_4052 v9939
  let c14_i32_4054 : BitVec 32 := 14#32
  let v9943 : BitVec 32 := Scalar.minsi v9940 c14_i32_4054
  let c256_i32_4060 : BitVec 32 := 256#32
  let v9951 : BitVec 32 := Scalar.muli v9943 c256_i32_4060
  let v9952 : BitVec 32 := v9951
  let v9953 : Index := Scalar.indexCast v9952
  let c0_4061 : Index := 0#32
  ![v9953.toNat, 0]
def k0_off318 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c1_i32_4053 : BitVec 32 := 1#32
  let v9941 : BitVec 32 := Scalar.addi v9816 c1_i32_4053
  let v9942 : BitVec 32 := Scalar.select v9938 v9941 v9816
  let c15_i32_4055 : BitVec 32 := 15#32
  let v9944 : BitVec 32 := Scalar.minsi v9942 c15_i32_4055
  let v9955 : Index := Scalar.indexCast v9944
  let c0_4062 : Index := 0#32
  let c0_4063 : Index := 0#32
  ![v9955.toNat, 0, 0]

variable {F : FTy → Type} [FloatOps F]

def k0_off319 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let v9973 : Index := Scalar.indexCast v9814
  let c0_4066 : Index := 0#32
  let c0_4067 : Index := 0#32
  ![v9973.toNat, 0, 0]
def k0_off320 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c1_i32_4053 : BitVec 32 := 1#32
  let v9941 : BitVec 32 := Scalar.addi v9816 c1_i32_4053
  let v9942 : BitVec 32 := Scalar.select v9938 v9941 v9816
  let c15_i32_4055 : BitVec 32 := 15#32
  let v9944 : BitVec 32 := Scalar.minsi v9942 c15_i32_4055
  let v9980 : Index := Scalar.indexCast v9944
  let c0_4070 : Index := 0#32
  let c256_4071 : Index := 256#32
  ![v9980.toNat, 0, 256]
def k0_off321 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c1_i32_4053 : BitVec 32 := 1#32
  let v9941 : BitVec 32 := Scalar.addi v9816 c1_i32_4053
  let v9942 : BitVec 32 := Scalar.select v9938 v9941 v9816
  let c15_i32_4055 : BitVec 32 := 15#32
  let v9944 : BitVec 32 := Scalar.minsi v9942 c15_i32_4055
  let v10005 : Index := Scalar.indexCast v9944
  let c0_4078 : Index := 0#32
  let c512_4079 : Index := 512#32
  ![v10005.toNat, 0, 512]
def k0_off322 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c1_i32_4053 : BitVec 32 := 1#32
  let v9941 : BitVec 32 := Scalar.addi v9816 c1_i32_4053
  let v9942 : BitVec 32 := Scalar.select v9938 v9941 v9816
  let c15_i32_4055 : BitVec 32 := 15#32
  let v9944 : BitVec 32 := Scalar.minsi v9942 c15_i32_4055
  let v10030 : Index := Scalar.indexCast v9944
  let c0_4086 : Index := 0#32
  let c768_4087 : Index := 768#32
  ![v10030.toNat, 0, 768]
def k0_off323 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c1_i32_4053 : BitVec 32 := 1#32
  let v9941 : BitVec 32 := Scalar.addi v9816 c1_i32_4053
  let v9942 : BitVec 32 := Scalar.select v9938 v9941 v9816
  let v10071 : Index := Scalar.indexCast v9942
  let c0_4103 : Index := 0#32
  let c0_4104 : Index := 0#32
  ![v10071.toNat, 0, 0]
def k0_off324 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c1_i32_4053 : BitVec 32 := 1#32
  let v9941 : BitVec 32 := Scalar.addi v9816 c1_i32_4053
  let v9942 : BitVec 32 := Scalar.select v9938 v9941 v9816
  let v10074 : Index := Scalar.indexCast v9942
  let c0_4105 : Index := 0#32
  let c0_4106 : Index := 0#32
  ![v10074.toNat, 0, 0]
def k0_mult77 (arg21 : BitVec 32) (arg22 : BitVec 32) : BitVec 32 :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c0_i32_4052 : BitVec 32 := 0#32
  let c1_i32_4051 : BitVec 32 := 1#32
  let v9939 : BitVec 32 := Scalar.addi v9814 c1_i32_4051
  let v9940 : BitVec 32 := Scalar.select v9938 c0_i32_4052 v9939
  let c1_i32_4097 : BitVec 32 := 1#32
  let v10063 : BitVec 32 := Scalar.addi v9940 c1_i32_4097
  let c1_i32_4053 : BitVec 32 := 1#32
  let v9941 : BitVec 32 := Scalar.addi v9816 c1_i32_4053
  let v9942 : BitVec 32 := Scalar.select v9938 v9941 v9816
  let v10064 : BitVec 1 := Scalar.cmpi .sge v10063 v9942
  let c0_i32_4099 : BitVec 32 := 0#32
  let c1_i32_4098 : BitVec 32 := 1#32
  let v10065 : BitVec 32 := Scalar.addi v9940 c1_i32_4098
  let v10066 : BitVec 32 := Scalar.select v10064 c0_i32_4099 v10065
  let c14_i32_4101 : BitVec 32 := 14#32
  let v10069 : BitVec 32 := Scalar.minsi v10066 c14_i32_4101
  let c256_i32_4107 : BitVec 32 := 256#32
  let v10077 : BitVec 32 := Scalar.muli v10069 c256_i32_4107
  v10077
def k0_off325 (arg21 : BitVec 32) (arg22 : BitVec 32) : Fin 2 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c0_i32_4052 : BitVec 32 := 0#32
  let c1_i32_4051 : BitVec 32 := 1#32
  let v9939 : BitVec 32 := Scalar.addi v9814 c1_i32_4051
  let v9940 : BitVec 32 := Scalar.select v9938 c0_i32_4052 v9939
  let c1_i32_4097 : BitVec 32 := 1#32
  let v10063 : BitVec 32 := Scalar.addi v9940 c1_i32_4097
  let c1_i32_4053 : BitVec 32 := 1#32
  let v9941 : BitVec 32 := Scalar.addi v9816 c1_i32_4053
  let v9942 : BitVec 32 := Scalar.select v9938 v9941 v9816
  let v10064 : BitVec 1 := Scalar.cmpi .sge v10063 v9942
  let c0_i32_4099 : BitVec 32 := 0#32
  let c1_i32_4098 : BitVec 32 := 1#32
  let v10065 : BitVec 32 := Scalar.addi v9940 c1_i32_4098
  let v10066 : BitVec 32 := Scalar.select v10064 c0_i32_4099 v10065
  let c14_i32_4101 : BitVec 32 := 14#32
  let v10069 : BitVec 32 := Scalar.minsi v10066 c14_i32_4101
  let c256_i32_4107 : BitVec 32 := 256#32
  let v10077 : BitVec 32 := Scalar.muli v10069 c256_i32_4107
  let v10078 : BitVec 32 := v10077
  let v10079 : Index := Scalar.indexCast v10078
  let c0_4108 : Index := 0#32
  ![v10079.toNat, 0]
def k0_off326 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c0_i32_4052 : BitVec 32 := 0#32
  let c1_i32_4051 : BitVec 32 := 1#32
  let v9939 : BitVec 32 := Scalar.addi v9814 c1_i32_4051
  let v9940 : BitVec 32 := Scalar.select v9938 c0_i32_4052 v9939
  let c1_i32_4097 : BitVec 32 := 1#32
  let v10063 : BitVec 32 := Scalar.addi v9940 c1_i32_4097
  let c1_i32_4053 : BitVec 32 := 1#32
  let v9941 : BitVec 32 := Scalar.addi v9816 c1_i32_4053
  let v9942 : BitVec 32 := Scalar.select v9938 v9941 v9816
  let v10064 : BitVec 1 := Scalar.cmpi .sge v10063 v9942
  let c1_i32_4100 : BitVec 32 := 1#32
  let v10067 : BitVec 32 := Scalar.addi v9942 c1_i32_4100
  let v10068 : BitVec 32 := Scalar.select v10064 v10067 v9942
  let c15_i32_4102 : BitVec 32 := 15#32
  let v10070 : BitVec 32 := Scalar.minsi v10068 c15_i32_4102
  let v10081 : Index := Scalar.indexCast v10070
  let c0_4109 : Index := 0#32
  let c0_4110 : Index := 0#32
  ![v10081.toNat, 0, 0]
def k0_off327 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c0_i32_4052 : BitVec 32 := 0#32
  let c1_i32_4051 : BitVec 32 := 1#32
  let v9939 : BitVec 32 := Scalar.addi v9814 c1_i32_4051
  let v9940 : BitVec 32 := Scalar.select v9938 c0_i32_4052 v9939
  let v10099 : Index := Scalar.indexCast v9940
  let c0_4113 : Index := 0#32
  let c0_4114 : Index := 0#32
  ![v10099.toNat, 0, 0]
def k0_off328 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c0_i32_4052 : BitVec 32 := 0#32
  let c1_i32_4051 : BitVec 32 := 1#32
  let v9939 : BitVec 32 := Scalar.addi v9814 c1_i32_4051
  let v9940 : BitVec 32 := Scalar.select v9938 c0_i32_4052 v9939
  let c1_i32_4097 : BitVec 32 := 1#32
  let v10063 : BitVec 32 := Scalar.addi v9940 c1_i32_4097
  let c1_i32_4053 : BitVec 32 := 1#32
  let v9941 : BitVec 32 := Scalar.addi v9816 c1_i32_4053
  let v9942 : BitVec 32 := Scalar.select v9938 v9941 v9816
  let v10064 : BitVec 1 := Scalar.cmpi .sge v10063 v9942
  let c1_i32_4100 : BitVec 32 := 1#32
  let v10067 : BitVec 32 := Scalar.addi v9942 c1_i32_4100
  let v10068 : BitVec 32 := Scalar.select v10064 v10067 v9942
  let c15_i32_4102 : BitVec 32 := 15#32
  let v10070 : BitVec 32 := Scalar.minsi v10068 c15_i32_4102
  let v10106 : Index := Scalar.indexCast v10070
  let c0_4117 : Index := 0#32
  let c256_4118 : Index := 256#32
  ![v10106.toNat, 0, 256]
def k0_off329 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c0_i32_4052 : BitVec 32 := 0#32
  let c1_i32_4051 : BitVec 32 := 1#32
  let v9939 : BitVec 32 := Scalar.addi v9814 c1_i32_4051
  let v9940 : BitVec 32 := Scalar.select v9938 c0_i32_4052 v9939
  let c1_i32_4097 : BitVec 32 := 1#32
  let v10063 : BitVec 32 := Scalar.addi v9940 c1_i32_4097
  let c1_i32_4053 : BitVec 32 := 1#32
  let v9941 : BitVec 32 := Scalar.addi v9816 c1_i32_4053
  let v9942 : BitVec 32 := Scalar.select v9938 v9941 v9816
  let v10064 : BitVec 1 := Scalar.cmpi .sge v10063 v9942
  let c1_i32_4100 : BitVec 32 := 1#32
  let v10067 : BitVec 32 := Scalar.addi v9942 c1_i32_4100
  let v10068 : BitVec 32 := Scalar.select v10064 v10067 v9942
  let c15_i32_4102 : BitVec 32 := 15#32
  let v10070 : BitVec 32 := Scalar.minsi v10068 c15_i32_4102
  let v10131 : Index := Scalar.indexCast v10070
  let c0_4125 : Index := 0#32
  let c512_4126 : Index := 512#32
  ![v10131.toNat, 0, 512]
def k0_off330 (arg21 : BitVec 32) (arg22 : BitVec 32) : Fin 3 → Nat :=
  let c1_i32_2734 : BitVec 32 := 1#32
  let v6409 : BitVec 32 := Scalar.addi arg21 c1_i32_2734
  let v6410 : BitVec 1 := Scalar.cmpi .sge v6409 arg22
  let c0_i32_2736 : BitVec 32 := 0#32
  let c1_i32_2735 : BitVec 32 := 1#32
  let v6411 : BitVec 32 := Scalar.addi arg21 c1_i32_2735
  let v6412 : BitVec 32 := Scalar.select v6410 c0_i32_2736 v6411
  let c1_i32_2781 : BitVec 32 := 1#32
  let v6535 : BitVec 32 := Scalar.addi v6412 c1_i32_2781
  let c1_i32_2737 : BitVec 32 := 1#32
  let v6413 : BitVec 32 := Scalar.addi arg22 c1_i32_2737
  let v6414 : BitVec 32 := Scalar.select v6410 v6413 arg22
  let v6536 : BitVec 1 := Scalar.cmpi .sge v6535 v6414
  let c0_i32_2783 : BitVec 32 := 0#32
  let c1_i32_2782 : BitVec 32 := 1#32
  let v6537 : BitVec 32 := Scalar.addi v6412 c1_i32_2782
  let v6538 : BitVec 32 := Scalar.select v6536 c0_i32_2783 v6537
  let c1_i32_2828 : BitVec 32 := 1#32
  let v6661 : BitVec 32 := Scalar.addi v6538 c1_i32_2828
  let c1_i32_2784 : BitVec 32 := 1#32
  let v6539 : BitVec 32 := Scalar.addi v6414 c1_i32_2784
  let v6540 : BitVec 32 := Scalar.select v6536 v6539 v6414
  let v6662 : BitVec 1 := Scalar.cmpi .sge v6661 v6540
  let c0_i32_2830 : BitVec 32 := 0#32
  let c1_i32_2829 : BitVec 32 := 1#32
  let v6663 : BitVec 32 := Scalar.addi v6538 c1_i32_2829
  let v6664 : BitVec 32 := Scalar.select v6662 c0_i32_2830 v6663
  let c1_i32_2875 : BitVec 32 := 1#32
  let v6787 : BitVec 32 := Scalar.addi v6664 c1_i32_2875
  let c1_i32_2831 : BitVec 32 := 1#32
  let v6665 : BitVec 32 := Scalar.addi v6540 c1_i32_2831
  let v6666 : BitVec 32 := Scalar.select v6662 v6665 v6540
  let v6788 : BitVec 1 := Scalar.cmpi .sge v6787 v6666
  let c0_i32_2877 : BitVec 32 := 0#32
  let c1_i32_2876 : BitVec 32 := 1#32
  let v6789 : BitVec 32 := Scalar.addi v6664 c1_i32_2876
  let v6790 : BitVec 32 := Scalar.select v6788 c0_i32_2877 v6789
  let c1_i32_2922 : BitVec 32 := 1#32
  let v6913 : BitVec 32 := Scalar.addi v6790 c1_i32_2922
  let c1_i32_2878 : BitVec 32 := 1#32
  let v6791 : BitVec 32 := Scalar.addi v6666 c1_i32_2878
  let v6792 : BitVec 32 := Scalar.select v6788 v6791 v6666
  let v6914 : BitVec 1 := Scalar.cmpi .sge v6913 v6792
  let c0_i32_2924 : BitVec 32 := 0#32
  let c1_i32_2923 : BitVec 32 := 1#32
  let v6915 : BitVec 32 := Scalar.addi v6790 c1_i32_2923
  let v6916 : BitVec 32 := Scalar.select v6914 c0_i32_2924 v6915
  let c1_i32_2969 : BitVec 32 := 1#32
  let v7039 : BitVec 32 := Scalar.addi v6916 c1_i32_2969
  let c1_i32_2925 : BitVec 32 := 1#32
  let v6917 : BitVec 32 := Scalar.addi v6792 c1_i32_2925
  let v6918 : BitVec 32 := Scalar.select v6914 v6917 v6792
  let v7040 : BitVec 1 := Scalar.cmpi .sge v7039 v6918
  let c0_i32_2971 : BitVec 32 := 0#32
  let c1_i32_2970 : BitVec 32 := 1#32
  let v7041 : BitVec 32 := Scalar.addi v6916 c1_i32_2970
  let v7042 : BitVec 32 := Scalar.select v7040 c0_i32_2971 v7041
  let c1_i32_3016 : BitVec 32 := 1#32
  let v7165 : BitVec 32 := Scalar.addi v7042 c1_i32_3016
  let c1_i32_2972 : BitVec 32 := 1#32
  let v7043 : BitVec 32 := Scalar.addi v6918 c1_i32_2972
  let v7044 : BitVec 32 := Scalar.select v7040 v7043 v6918
  let v7166 : BitVec 1 := Scalar.cmpi .sge v7165 v7044
  let c0_i32_3018 : BitVec 32 := 0#32
  let c1_i32_3017 : BitVec 32 := 1#32
  let v7167 : BitVec 32 := Scalar.addi v7042 c1_i32_3017
  let v7168 : BitVec 32 := Scalar.select v7166 c0_i32_3018 v7167
  let c1_i32_3063 : BitVec 32 := 1#32
  let v7291 : BitVec 32 := Scalar.addi v7168 c1_i32_3063
  let c1_i32_3019 : BitVec 32 := 1#32
  let v7169 : BitVec 32 := Scalar.addi v7044 c1_i32_3019
  let v7170 : BitVec 32 := Scalar.select v7166 v7169 v7044
  let v7292 : BitVec 1 := Scalar.cmpi .sge v7291 v7170
  let c0_i32_3065 : BitVec 32 := 0#32
  let c1_i32_3064 : BitVec 32 := 1#32
  let v7293 : BitVec 32 := Scalar.addi v7168 c1_i32_3064
  let v7294 : BitVec 32 := Scalar.select v7292 c0_i32_3065 v7293
  let c1_i32_3110 : BitVec 32 := 1#32
  let v7417 : BitVec 32 := Scalar.addi v7294 c1_i32_3110
  let c1_i32_3066 : BitVec 32 := 1#32
  let v7295 : BitVec 32 := Scalar.addi v7170 c1_i32_3066
  let v7296 : BitVec 32 := Scalar.select v7292 v7295 v7170
  let v7418 : BitVec 1 := Scalar.cmpi .sge v7417 v7296
  let c0_i32_3112 : BitVec 32 := 0#32
  let c1_i32_3111 : BitVec 32 := 1#32
  let v7419 : BitVec 32 := Scalar.addi v7294 c1_i32_3111
  let v7420 : BitVec 32 := Scalar.select v7418 c0_i32_3112 v7419
  let c1_i32_3157 : BitVec 32 := 1#32
  let v7543 : BitVec 32 := Scalar.addi v7420 c1_i32_3157
  let c1_i32_3113 : BitVec 32 := 1#32
  let v7421 : BitVec 32 := Scalar.addi v7296 c1_i32_3113
  let v7422 : BitVec 32 := Scalar.select v7418 v7421 v7296
  let v7544 : BitVec 1 := Scalar.cmpi .sge v7543 v7422
  let c0_i32_3159 : BitVec 32 := 0#32
  let c1_i32_3158 : BitVec 32 := 1#32
  let v7545 : BitVec 32 := Scalar.addi v7420 c1_i32_3158
  let v7546 : BitVec 32 := Scalar.select v7544 c0_i32_3159 v7545
  let c1_i32_3204 : BitVec 32 := 1#32
  let v7669 : BitVec 32 := Scalar.addi v7546 c1_i32_3204
  let c1_i32_3160 : BitVec 32 := 1#32
  let v7547 : BitVec 32 := Scalar.addi v7422 c1_i32_3160
  let v7548 : BitVec 32 := Scalar.select v7544 v7547 v7422
  let v7670 : BitVec 1 := Scalar.cmpi .sge v7669 v7548
  let c0_i32_3206 : BitVec 32 := 0#32
  let c1_i32_3205 : BitVec 32 := 1#32
  let v7671 : BitVec 32 := Scalar.addi v7546 c1_i32_3205
  let v7672 : BitVec 32 := Scalar.select v7670 c0_i32_3206 v7671
  let c1_i32_3251 : BitVec 32 := 1#32
  let v7795 : BitVec 32 := Scalar.addi v7672 c1_i32_3251
  let c1_i32_3207 : BitVec 32 := 1#32
  let v7673 : BitVec 32 := Scalar.addi v7548 c1_i32_3207
  let v7674 : BitVec 32 := Scalar.select v7670 v7673 v7548
  let v7796 : BitVec 1 := Scalar.cmpi .sge v7795 v7674
  let c0_i32_3253 : BitVec 32 := 0#32
  let c1_i32_3252 : BitVec 32 := 1#32
  let v7797 : BitVec 32 := Scalar.addi v7672 c1_i32_3252
  let v7798 : BitVec 32 := Scalar.select v7796 c0_i32_3253 v7797
  let c1_i32_3298 : BitVec 32 := 1#32
  let v7921 : BitVec 32 := Scalar.addi v7798 c1_i32_3298
  let c1_i32_3254 : BitVec 32 := 1#32
  let v7799 : BitVec 32 := Scalar.addi v7674 c1_i32_3254
  let v7800 : BitVec 32 := Scalar.select v7796 v7799 v7674
  let v7922 : BitVec 1 := Scalar.cmpi .sge v7921 v7800
  let c0_i32_3300 : BitVec 32 := 0#32
  let c1_i32_3299 : BitVec 32 := 1#32
  let v7923 : BitVec 32 := Scalar.addi v7798 c1_i32_3299
  let v7924 : BitVec 32 := Scalar.select v7922 c0_i32_3300 v7923
  let c1_i32_3345 : BitVec 32 := 1#32
  let v8047 : BitVec 32 := Scalar.addi v7924 c1_i32_3345
  let c1_i32_3301 : BitVec 32 := 1#32
  let v7925 : BitVec 32 := Scalar.addi v7800 c1_i32_3301
  let v7926 : BitVec 32 := Scalar.select v7922 v7925 v7800
  let v8048 : BitVec 1 := Scalar.cmpi .sge v8047 v7926
  let c0_i32_3347 : BitVec 32 := 0#32
  let c1_i32_3346 : BitVec 32 := 1#32
  let v8049 : BitVec 32 := Scalar.addi v7924 c1_i32_3346
  let v8050 : BitVec 32 := Scalar.select v8048 c0_i32_3347 v8049
  let c1_i32_3392 : BitVec 32 := 1#32
  let v8173 : BitVec 32 := Scalar.addi v8050 c1_i32_3392
  let c1_i32_3348 : BitVec 32 := 1#32
  let v8051 : BitVec 32 := Scalar.addi v7926 c1_i32_3348
  let v8052 : BitVec 32 := Scalar.select v8048 v8051 v7926
  let v8174 : BitVec 1 := Scalar.cmpi .sge v8173 v8052
  let c0_i32_3394 : BitVec 32 := 0#32
  let c1_i32_3393 : BitVec 32 := 1#32
  let v8175 : BitVec 32 := Scalar.addi v8050 c1_i32_3393
  let v8176 : BitVec 32 := Scalar.select v8174 c0_i32_3394 v8175
  let c1_i32_3439 : BitVec 32 := 1#32
  let v8299 : BitVec 32 := Scalar.addi v8176 c1_i32_3439
  let c1_i32_3395 : BitVec 32 := 1#32
  let v8177 : BitVec 32 := Scalar.addi v8052 c1_i32_3395
  let v8178 : BitVec 32 := Scalar.select v8174 v8177 v8052
  let v8300 : BitVec 1 := Scalar.cmpi .sge v8299 v8178
  let c0_i32_3441 : BitVec 32 := 0#32
  let c1_i32_3440 : BitVec 32 := 1#32
  let v8301 : BitVec 32 := Scalar.addi v8176 c1_i32_3440
  let v8302 : BitVec 32 := Scalar.select v8300 c0_i32_3441 v8301
  let c1_i32_3486 : BitVec 32 := 1#32
  let v8425 : BitVec 32 := Scalar.addi v8302 c1_i32_3486
  let c1_i32_3442 : BitVec 32 := 1#32
  let v8303 : BitVec 32 := Scalar.addi v8178 c1_i32_3442
  let v8304 : BitVec 32 := Scalar.select v8300 v8303 v8178
  let v8426 : BitVec 1 := Scalar.cmpi .sge v8425 v8304
  let c0_i32_3488 : BitVec 32 := 0#32
  let c1_i32_3487 : BitVec 32 := 1#32
  let v8427 : BitVec 32 := Scalar.addi v8302 c1_i32_3487
  let v8428 : BitVec 32 := Scalar.select v8426 c0_i32_3488 v8427
  let c1_i32_3533 : BitVec 32 := 1#32
  let v8551 : BitVec 32 := Scalar.addi v8428 c1_i32_3533
  let c1_i32_3489 : BitVec 32 := 1#32
  let v8429 : BitVec 32 := Scalar.addi v8304 c1_i32_3489
  let v8430 : BitVec 32 := Scalar.select v8426 v8429 v8304
  let v8552 : BitVec 1 := Scalar.cmpi .sge v8551 v8430
  let c0_i32_3535 : BitVec 32 := 0#32
  let c1_i32_3534 : BitVec 32 := 1#32
  let v8553 : BitVec 32 := Scalar.addi v8428 c1_i32_3534
  let v8554 : BitVec 32 := Scalar.select v8552 c0_i32_3535 v8553
  let c1_i32_3580 : BitVec 32 := 1#32
  let v8677 : BitVec 32 := Scalar.addi v8554 c1_i32_3580
  let c1_i32_3536 : BitVec 32 := 1#32
  let v8555 : BitVec 32 := Scalar.addi v8430 c1_i32_3536
  let v8556 : BitVec 32 := Scalar.select v8552 v8555 v8430
  let v8678 : BitVec 1 := Scalar.cmpi .sge v8677 v8556
  let c0_i32_3582 : BitVec 32 := 0#32
  let c1_i32_3581 : BitVec 32 := 1#32
  let v8679 : BitVec 32 := Scalar.addi v8554 c1_i32_3581
  let v8680 : BitVec 32 := Scalar.select v8678 c0_i32_3582 v8679
  let c1_i32_3627 : BitVec 32 := 1#32
  let v8803 : BitVec 32 := Scalar.addi v8680 c1_i32_3627
  let c1_i32_3583 : BitVec 32 := 1#32
  let v8681 : BitVec 32 := Scalar.addi v8556 c1_i32_3583
  let v8682 : BitVec 32 := Scalar.select v8678 v8681 v8556
  let v8804 : BitVec 1 := Scalar.cmpi .sge v8803 v8682
  let c0_i32_3629 : BitVec 32 := 0#32
  let c1_i32_3628 : BitVec 32 := 1#32
  let v8805 : BitVec 32 := Scalar.addi v8680 c1_i32_3628
  let v8806 : BitVec 32 := Scalar.select v8804 c0_i32_3629 v8805
  let c1_i32_3674 : BitVec 32 := 1#32
  let v8929 : BitVec 32 := Scalar.addi v8806 c1_i32_3674
  let c1_i32_3630 : BitVec 32 := 1#32
  let v8807 : BitVec 32 := Scalar.addi v8682 c1_i32_3630
  let v8808 : BitVec 32 := Scalar.select v8804 v8807 v8682
  let v8930 : BitVec 1 := Scalar.cmpi .sge v8929 v8808
  let c0_i32_3676 : BitVec 32 := 0#32
  let c1_i32_3675 : BitVec 32 := 1#32
  let v8931 : BitVec 32 := Scalar.addi v8806 c1_i32_3675
  let v8932 : BitVec 32 := Scalar.select v8930 c0_i32_3676 v8931
  let c1_i32_3721 : BitVec 32 := 1#32
  let v9055 : BitVec 32 := Scalar.addi v8932 c1_i32_3721
  let c1_i32_3677 : BitVec 32 := 1#32
  let v8933 : BitVec 32 := Scalar.addi v8808 c1_i32_3677
  let v8934 : BitVec 32 := Scalar.select v8930 v8933 v8808
  let v9056 : BitVec 1 := Scalar.cmpi .sge v9055 v8934
  let c0_i32_3723 : BitVec 32 := 0#32
  let c1_i32_3722 : BitVec 32 := 1#32
  let v9057 : BitVec 32 := Scalar.addi v8932 c1_i32_3722
  let v9058 : BitVec 32 := Scalar.select v9056 c0_i32_3723 v9057
  let c1_i32_3768 : BitVec 32 := 1#32
  let v9181 : BitVec 32 := Scalar.addi v9058 c1_i32_3768
  let c1_i32_3724 : BitVec 32 := 1#32
  let v9059 : BitVec 32 := Scalar.addi v8934 c1_i32_3724
  let v9060 : BitVec 32 := Scalar.select v9056 v9059 v8934
  let v9182 : BitVec 1 := Scalar.cmpi .sge v9181 v9060
  let c0_i32_3770 : BitVec 32 := 0#32
  let c1_i32_3769 : BitVec 32 := 1#32
  let v9183 : BitVec 32 := Scalar.addi v9058 c1_i32_3769
  let v9184 : BitVec 32 := Scalar.select v9182 c0_i32_3770 v9183
  let c1_i32_3815 : BitVec 32 := 1#32
  let v9307 : BitVec 32 := Scalar.addi v9184 c1_i32_3815
  let c1_i32_3771 : BitVec 32 := 1#32
  let v9185 : BitVec 32 := Scalar.addi v9060 c1_i32_3771
  let v9186 : BitVec 32 := Scalar.select v9182 v9185 v9060
  let v9308 : BitVec 1 := Scalar.cmpi .sge v9307 v9186
  let c0_i32_3817 : BitVec 32 := 0#32
  let c1_i32_3816 : BitVec 32 := 1#32
  let v9309 : BitVec 32 := Scalar.addi v9184 c1_i32_3816
  let v9310 : BitVec 32 := Scalar.select v9308 c0_i32_3817 v9309
  let c1_i32_3862 : BitVec 32 := 1#32
  let v9433 : BitVec 32 := Scalar.addi v9310 c1_i32_3862
  let c1_i32_3818 : BitVec 32 := 1#32
  let v9311 : BitVec 32 := Scalar.addi v9186 c1_i32_3818
  let v9312 : BitVec 32 := Scalar.select v9308 v9311 v9186
  let v9434 : BitVec 1 := Scalar.cmpi .sge v9433 v9312
  let c0_i32_3864 : BitVec 32 := 0#32
  let c1_i32_3863 : BitVec 32 := 1#32
  let v9435 : BitVec 32 := Scalar.addi v9310 c1_i32_3863
  let v9436 : BitVec 32 := Scalar.select v9434 c0_i32_3864 v9435
  let c1_i32_3909 : BitVec 32 := 1#32
  let v9559 : BitVec 32 := Scalar.addi v9436 c1_i32_3909
  let c1_i32_3865 : BitVec 32 := 1#32
  let v9437 : BitVec 32 := Scalar.addi v9312 c1_i32_3865
  let v9438 : BitVec 32 := Scalar.select v9434 v9437 v9312
  let v9560 : BitVec 1 := Scalar.cmpi .sge v9559 v9438
  let c0_i32_3911 : BitVec 32 := 0#32
  let c1_i32_3910 : BitVec 32 := 1#32
  let v9561 : BitVec 32 := Scalar.addi v9436 c1_i32_3910
  let v9562 : BitVec 32 := Scalar.select v9560 c0_i32_3911 v9561
  let c1_i32_3956 : BitVec 32 := 1#32
  let v9685 : BitVec 32 := Scalar.addi v9562 c1_i32_3956
  let c1_i32_3912 : BitVec 32 := 1#32
  let v9563 : BitVec 32 := Scalar.addi v9438 c1_i32_3912
  let v9564 : BitVec 32 := Scalar.select v9560 v9563 v9438
  let v9686 : BitVec 1 := Scalar.cmpi .sge v9685 v9564
  let c0_i32_3958 : BitVec 32 := 0#32
  let c1_i32_3957 : BitVec 32 := 1#32
  let v9687 : BitVec 32 := Scalar.addi v9562 c1_i32_3957
  let v9688 : BitVec 32 := Scalar.select v9686 c0_i32_3958 v9687
  let c1_i32_4003 : BitVec 32 := 1#32
  let v9811 : BitVec 32 := Scalar.addi v9688 c1_i32_4003
  let c1_i32_3959 : BitVec 32 := 1#32
  let v9689 : BitVec 32 := Scalar.addi v9564 c1_i32_3959
  let v9690 : BitVec 32 := Scalar.select v9686 v9689 v9564
  let v9812 : BitVec 1 := Scalar.cmpi .sge v9811 v9690
  let c0_i32_4005 : BitVec 32 := 0#32
  let c1_i32_4004 : BitVec 32 := 1#32
  let v9813 : BitVec 32 := Scalar.addi v9688 c1_i32_4004
  let v9814 : BitVec 32 := Scalar.select v9812 c0_i32_4005 v9813
  let c1_i32_4050 : BitVec 32 := 1#32
  let v9937 : BitVec 32 := Scalar.addi v9814 c1_i32_4050
  let c1_i32_4006 : BitVec 32 := 1#32
  let v9815 : BitVec 32 := Scalar.addi v9690 c1_i32_4006
  let v9816 : BitVec 32 := Scalar.select v9812 v9815 v9690
  let v9938 : BitVec 1 := Scalar.cmpi .sge v9937 v9816
  let c0_i32_4052 : BitVec 32 := 0#32
  let c1_i32_4051 : BitVec 32 := 1#32
  let v9939 : BitVec 32 := Scalar.addi v9814 c1_i32_4051
  let v9940 : BitVec 32 := Scalar.select v9938 c0_i32_4052 v9939
  let c1_i32_4097 : BitVec 32 := 1#32
  let v10063 : BitVec 32 := Scalar.addi v9940 c1_i32_4097
  let c1_i32_4053 : BitVec 32 := 1#32
  let v9941 : BitVec 32 := Scalar.addi v9816 c1_i32_4053
  let v9942 : BitVec 32 := Scalar.select v9938 v9941 v9816
  let v10064 : BitVec 1 := Scalar.cmpi .sge v10063 v9942
  let c1_i32_4100 : BitVec 32 := 1#32
  let v10067 : BitVec 32 := Scalar.addi v9942 c1_i32_4100
  let v10068 : BitVec 32 := Scalar.select v10064 v10067 v9942
  let c15_i32_4102 : BitVec 32 := 15#32
  let v10070 : BitVec 32 := Scalar.minsi v10068 c15_i32_4102
  let v10156 : Index := Scalar.indexCast v10070
  let c0_4133 : Index := 0#32
  let c768_4134 : Index := 768#32
  ![v10156.toNat, 0, 768]

def k0_chk1_0 (arg21 : BitVec 32) (arg22 : BitVec 32) : Prop :=
  (∀ a, (k0_off89 arg22) a + S1x1x1024.size a ≤ S16x1x1024.size a) ∧
  (∀ a, (k0_off90 arg22) a + S1x80x1024.size a ≤ S16x80x1024.size a) ∧
  (256 ∣ (k0_mult48 arg21 arg22).toNat) ∧
  (∀ a, (k0_off91 arg21 arg22) a + S256x128.size a ≤ S4096x128.size a) ∧
  (∀ a, (k0_off92 arg21 arg22) a + S1x128x256.size a ≤ S16x128x1024.size a) ∧
  (∀ a, (k0_off94 arg21 arg22) a + S1x128x256.size a ≤ S16x128x1024.size a) ∧
  (∀ a, (k0_off95 arg21 arg22) a + S1x128x256.size a ≤ S16x128x1024.size a) ∧
  (∀ a, (k0_off96 arg21 arg22) a + S1x128x256.size a ≤ S16x128x1024.size a) ∧
  (∀ a, (k0_off97 arg22) a + S1x80x1024.size a ≤ S16x80x1024.size a) ∧
  (∀ a, (k0_off98 arg22) a + S1x1x1024.size a ≤ S16x1x1024.size a) ∧
  (∀ a, (k0_off99 arg21 arg22) a + S1x1x1024.size a ≤ S16x1x1024.size a) ∧
  (∀ a, (k0_off100 arg21 arg22) a + S1x80x1024.size a ≤ S16x80x1024.size a) ∧
  (256 ∣ (k0_mult49 arg21 arg22).toNat) ∧
  (∀ a, (k0_off101 arg21 arg22) a + S256x128.size a ≤ S4096x128.size a) ∧
  (∀ a, (k0_off102 arg21 arg22) a + S1x128x256.size a ≤ S16x128x1024.size a) ∧
  (∀ a, (k0_off103 arg21 arg22) a + S1x80x256.size a ≤ S16x80x256.size a) ∧
  (∀ a, (k0_off104 arg21 arg22) a + S1x128x256.size a ≤ S16x128x1024.size a) ∧
  (∀ a, (k0_off105 arg21 arg22) a + S1x128x256.size a ≤ S16x128x1024.size a) ∧
  (∀ a, (k0_off106 arg21 arg22) a + S1x128x256.size a ≤ S16x128x1024.size a) ∧
  (∀ a, (k0_off107 arg21 arg22) a + S1x1x1024.size a ≤ S16x1x1024.size a) ∧
  (∀ a, (k0_off108 arg21 arg22) a + S1x80x1024.size a ≤ S16x80x1024.size a) ∧
  (256 ∣ (k0_mult50 arg21 arg22).toNat) ∧
  (∀ a, (k0_off109 arg21 arg22) a + S256x128.size a ≤ S4096x128.size a) ∧
  (∀ a, (k0_off110 arg21 arg22) a + S1x128x256.size a ≤ S16x128x1024.size a) ∧
  (∀ a, (k0_off111 arg21 arg22) a + S1x80x256.size a ≤ S16x80x256.size a) ∧
  (∀ a, (k0_off112 arg21 arg22) a + S1x128x256.size a ≤ S16x128x1024.size a) ∧
  (∀ a, (k0_off113 arg21 arg22) a + S1x128x256.size a ≤ S16x128x1024.size a) ∧
  (∀ a, (k0_off114 arg21 arg22) a + S1x128x256.size a ≤ S16x128x1024.size a) ∧
  (∀ a, (k0_off115 arg21 arg22) a + S1x1x1024.size a ≤ S16x1x1024.size a) ∧
  (∀ a, (k0_off116 arg21 arg22) a + S1x80x1024.size a ≤ S16x80x1024.size a) ∧
  (256 ∣ (k0_mult51 arg21 arg22).toNat) ∧
  (∀ a, (k0_off117 arg21 arg22) a + S256x128.size a ≤ S4096x128.size a)
def k0_chk1_1 (arg21 : BitVec 32) (arg22 : BitVec 32) : Prop :=
  (∀ a, (k0_off118 arg21 arg22) a + S1x128x256.size a ≤ S16x128x1024.size a) ∧
  (∀ a, (k0_off119 arg21 arg22) a + S1x80x256.size a ≤ S16x80x256.size a) ∧
  (∀ a, (k0_off120 arg21 arg22) a + S1x128x256.size a ≤ S16x128x1024.size a) ∧
  (∀ a, (k0_off121 arg21 arg22) a + S1x128x256.size a ≤ S16x128x1024.size a) ∧
  (∀ a, (k0_off122 arg21 arg22) a + S1x128x256.size a ≤ S16x128x1024.size a) ∧
  (∀ a, (k0_off123 arg21 arg22) a + S1x1x1024.size a ≤ S16x1x1024.size a) ∧
  (∀ a, (k0_off124 arg21 arg22) a + S1x80x1024.size a ≤ S16x80x1024.size a) ∧
  (256 ∣ (k0_mult52 arg21 arg22).toNat) ∧
  (∀ a, (k0_off125 arg21 arg22) a + S256x128.size a ≤ S4096x128.size a) ∧
  (∀ a, (k0_off126 arg21 arg22) a + S1x128x256.size a ≤ S16x128x1024.size a) ∧
  (∀ a, (k0_off127 arg21 arg22) a + S1x80x256.size a ≤ S16x80x256.size a) ∧
  (∀ a, (k0_off128 arg21 arg22) a + S1x128x256.size a ≤ S16x128x1024.size a) ∧
  (∀ a, (k0_off129 arg21 arg22) a + S1x128x256.size a ≤ S16x128x1024.size a) ∧
  (∀ a, (k0_off130 arg21 arg22) a + S1x128x256.size a ≤ S16x128x1024.size a) ∧
  (∀ a, (k0_off131 arg21 arg22) a + S1x1x1024.size a ≤ S16x1x1024.size a) ∧
  (∀ a, (k0_off132 arg21 arg22) a + S1x80x1024.size a ≤ S16x80x1024.size a) ∧
  (256 ∣ (k0_mult53 arg21 arg22).toNat) ∧
  (∀ a, (k0_off133 arg21 arg22) a + S256x128.size a ≤ S4096x128.size a) ∧
  (∀ a, (k0_off134 arg21 arg22) a + S1x128x256.size a ≤ S16x128x1024.size a) ∧
  (∀ a, (k0_off135 arg21 arg22) a + S1x80x256.size a ≤ S16x80x256.size a) ∧
  (∀ a, (k0_off136 arg21 arg22) a + S1x128x256.size a ≤ S16x128x1024.size a) ∧
  (∀ a, (k0_off137 arg21 arg22) a + S1x128x256.size a ≤ S16x128x1024.size a) ∧
  (∀ a, (k0_off138 arg21 arg22) a + S1x128x256.size a ≤ S16x128x1024.size a) ∧
  (∀ a, (k0_off139 arg21 arg22) a + S1x1x1024.size a ≤ S16x1x1024.size a) ∧
  (∀ a, (k0_off140 arg21 arg22) a + S1x80x1024.size a ≤ S16x80x1024.size a) ∧
  (256 ∣ (k0_mult54 arg21 arg22).toNat) ∧
  (∀ a, (k0_off141 arg21 arg22) a + S256x128.size a ≤ S4096x128.size a) ∧
  (∀ a, (k0_off142 arg21 arg22) a + S1x128x256.size a ≤ S16x128x1024.size a) ∧
  (∀ a, (k0_off143 arg21 arg22) a + S1x80x256.size a ≤ S16x80x256.size a) ∧
  (∀ a, (k0_off144 arg21 arg22) a + S1x128x256.size a ≤ S16x128x1024.size a) ∧
  (∀ a, (k0_off145 arg21 arg22) a + S1x128x256.size a ≤ S16x128x1024.size a) ∧
  (∀ a, (k0_off146 arg21 arg22) a + S1x128x256.size a ≤ S16x128x1024.size a)
def k0_chk1_2 (arg21 : BitVec 32) (arg22 : BitVec 32) : Prop :=
  (∀ a, (k0_off147 arg21 arg22) a + S1x1x1024.size a ≤ S16x1x1024.size a) ∧
  (∀ a, (k0_off148 arg21 arg22) a + S1x80x1024.size a ≤ S16x80x1024.size a) ∧
  (256 ∣ (k0_mult55 arg21 arg22).toNat) ∧
  (∀ a, (k0_off149 arg21 arg22) a + S256x128.size a ≤ S4096x128.size a) ∧
  (∀ a, (k0_off150 arg21 arg22) a + S1x128x256.size a ≤ S16x128x1024.size a) ∧
  (∀ a, (k0_off151 arg21 arg22) a + S1x80x256.size a ≤ S16x80x256.size a) ∧
  (∀ a, (k0_off152 arg21 arg22) a + S1x128x256.size a ≤ S16x128x1024.size a) ∧
  (∀ a, (k0_off153 arg21 arg22) a + S1x128x256.size a ≤ S16x128x1024.size a) ∧
  (∀ a, (k0_off154 arg21 arg22) a + S1x128x256.size a ≤ S16x128x1024.size a) ∧
  (∀ a, (k0_off155 arg21 arg22) a + S1x1x1024.size a ≤ S16x1x1024.size a) ∧
  (∀ a, (k0_off156 arg21 arg22) a + S1x80x1024.size a ≤ S16x80x1024.size a) ∧
  (256 ∣ (k0_mult56 arg21 arg22).toNat) ∧
  (∀ a, (k0_off157 arg21 arg22) a + S256x128.size a ≤ S4096x128.size a) ∧
  (∀ a, (k0_off158 arg21 arg22) a + S1x128x256.size a ≤ S16x128x1024.size a) ∧
  (∀ a, (k0_off159 arg21 arg22) a + S1x80x256.size a ≤ S16x80x256.size a) ∧
  (∀ a, (k0_off160 arg21 arg22) a + S1x128x256.size a ≤ S16x128x1024.size a) ∧
  (∀ a, (k0_off161 arg21 arg22) a + S1x128x256.size a ≤ S16x128x1024.size a) ∧
  (∀ a, (k0_off162 arg21 arg22) a + S1x128x256.size a ≤ S16x128x1024.size a) ∧
  (∀ a, (k0_off163 arg21 arg22) a + S1x1x1024.size a ≤ S16x1x1024.size a) ∧
  (∀ a, (k0_off164 arg21 arg22) a + S1x80x1024.size a ≤ S16x80x1024.size a) ∧
  (256 ∣ (k0_mult57 arg21 arg22).toNat) ∧
  (∀ a, (k0_off165 arg21 arg22) a + S256x128.size a ≤ S4096x128.size a) ∧
  (∀ a, (k0_off166 arg21 arg22) a + S1x128x256.size a ≤ S16x128x1024.size a) ∧
  (∀ a, (k0_off167 arg21 arg22) a + S1x80x256.size a ≤ S16x80x256.size a) ∧
  (∀ a, (k0_off168 arg21 arg22) a + S1x128x256.size a ≤ S16x128x1024.size a) ∧
  (∀ a, (k0_off169 arg21 arg22) a + S1x128x256.size a ≤ S16x128x1024.size a) ∧
  (∀ a, (k0_off170 arg21 arg22) a + S1x128x256.size a ≤ S16x128x1024.size a) ∧
  (∀ a, (k0_off171 arg21 arg22) a + S1x1x1024.size a ≤ S16x1x1024.size a) ∧
  (∀ a, (k0_off172 arg21 arg22) a + S1x80x1024.size a ≤ S16x80x1024.size a) ∧
  (256 ∣ (k0_mult58 arg21 arg22).toNat) ∧
  (∀ a, (k0_off173 arg21 arg22) a + S256x128.size a ≤ S4096x128.size a) ∧
  (∀ a, (k0_off174 arg21 arg22) a + S1x128x256.size a ≤ S16x128x1024.size a)
def k0_chk1_3 (arg21 : BitVec 32) (arg22 : BitVec 32) : Prop :=
  (∀ a, (k0_off175 arg21 arg22) a + S1x80x256.size a ≤ S16x80x256.size a) ∧
  (∀ a, (k0_off176 arg21 arg22) a + S1x128x256.size a ≤ S16x128x1024.size a) ∧
  (∀ a, (k0_off177 arg21 arg22) a + S1x128x256.size a ≤ S16x128x1024.size a) ∧
  (∀ a, (k0_off178 arg21 arg22) a + S1x128x256.size a ≤ S16x128x1024.size a) ∧
  (∀ a, (k0_off179 arg21 arg22) a + S1x1x1024.size a ≤ S16x1x1024.size a) ∧
  (∀ a, (k0_off180 arg21 arg22) a + S1x80x1024.size a ≤ S16x80x1024.size a) ∧
  (256 ∣ (k0_mult59 arg21 arg22).toNat) ∧
  (∀ a, (k0_off181 arg21 arg22) a + S256x128.size a ≤ S4096x128.size a) ∧
  (∀ a, (k0_off182 arg21 arg22) a + S1x128x256.size a ≤ S16x128x1024.size a) ∧
  (∀ a, (k0_off183 arg21 arg22) a + S1x80x256.size a ≤ S16x80x256.size a) ∧
  (∀ a, (k0_off184 arg21 arg22) a + S1x128x256.size a ≤ S16x128x1024.size a) ∧
  (∀ a, (k0_off185 arg21 arg22) a + S1x128x256.size a ≤ S16x128x1024.size a) ∧
  (∀ a, (k0_off186 arg21 arg22) a + S1x128x256.size a ≤ S16x128x1024.size a) ∧
  (∀ a, (k0_off187 arg21 arg22) a + S1x1x1024.size a ≤ S16x1x1024.size a) ∧
  (∀ a, (k0_off188 arg21 arg22) a + S1x80x1024.size a ≤ S16x80x1024.size a) ∧
  (256 ∣ (k0_mult60 arg21 arg22).toNat) ∧
  (∀ a, (k0_off189 arg21 arg22) a + S256x128.size a ≤ S4096x128.size a) ∧
  (∀ a, (k0_off190 arg21 arg22) a + S1x128x256.size a ≤ S16x128x1024.size a) ∧
  (∀ a, (k0_off191 arg21 arg22) a + S1x80x256.size a ≤ S16x80x256.size a) ∧
  (∀ a, (k0_off192 arg21 arg22) a + S1x128x256.size a ≤ S16x128x1024.size a) ∧
  (∀ a, (k0_off193 arg21 arg22) a + S1x128x256.size a ≤ S16x128x1024.size a) ∧
  (∀ a, (k0_off194 arg21 arg22) a + S1x128x256.size a ≤ S16x128x1024.size a) ∧
  (∀ a, (k0_off195 arg21 arg22) a + S1x1x1024.size a ≤ S16x1x1024.size a) ∧
  (∀ a, (k0_off196 arg21 arg22) a + S1x80x1024.size a ≤ S16x80x1024.size a) ∧
  (256 ∣ (k0_mult61 arg21 arg22).toNat) ∧
  (∀ a, (k0_off197 arg21 arg22) a + S256x128.size a ≤ S4096x128.size a) ∧
  (∀ a, (k0_off198 arg21 arg22) a + S1x128x256.size a ≤ S16x128x1024.size a) ∧
  (∀ a, (k0_off199 arg21 arg22) a + S1x80x256.size a ≤ S16x80x256.size a) ∧
  (∀ a, (k0_off200 arg21 arg22) a + S1x128x256.size a ≤ S16x128x1024.size a) ∧
  (∀ a, (k0_off201 arg21 arg22) a + S1x128x256.size a ≤ S16x128x1024.size a) ∧
  (∀ a, (k0_off202 arg21 arg22) a + S1x128x256.size a ≤ S16x128x1024.size a) ∧
  (∀ a, (k0_off203 arg21 arg22) a + S1x1x1024.size a ≤ S16x1x1024.size a)
def k0_chk1_4 (arg21 : BitVec 32) (arg22 : BitVec 32) : Prop :=
  (∀ a, (k0_off204 arg21 arg22) a + S1x80x1024.size a ≤ S16x80x1024.size a) ∧
  (256 ∣ (k0_mult62 arg21 arg22).toNat) ∧
  (∀ a, (k0_off205 arg21 arg22) a + S256x128.size a ≤ S4096x128.size a) ∧
  (∀ a, (k0_off206 arg21 arg22) a + S1x128x256.size a ≤ S16x128x1024.size a) ∧
  (∀ a, (k0_off207 arg21 arg22) a + S1x80x256.size a ≤ S16x80x256.size a) ∧
  (∀ a, (k0_off208 arg21 arg22) a + S1x128x256.size a ≤ S16x128x1024.size a) ∧
  (∀ a, (k0_off209 arg21 arg22) a + S1x128x256.size a ≤ S16x128x1024.size a) ∧
  (∀ a, (k0_off210 arg21 arg22) a + S1x128x256.size a ≤ S16x128x1024.size a) ∧
  (∀ a, (k0_off211 arg21 arg22) a + S1x1x1024.size a ≤ S16x1x1024.size a) ∧
  (∀ a, (k0_off212 arg21 arg22) a + S1x80x1024.size a ≤ S16x80x1024.size a) ∧
  (256 ∣ (k0_mult63 arg21 arg22).toNat) ∧
  (∀ a, (k0_off213 arg21 arg22) a + S256x128.size a ≤ S4096x128.size a) ∧
  (∀ a, (k0_off214 arg21 arg22) a + S1x128x256.size a ≤ S16x128x1024.size a) ∧
  (∀ a, (k0_off215 arg21 arg22) a + S1x80x256.size a ≤ S16x80x256.size a) ∧
  (∀ a, (k0_off216 arg21 arg22) a + S1x128x256.size a ≤ S16x128x1024.size a) ∧
  (∀ a, (k0_off217 arg21 arg22) a + S1x128x256.size a ≤ S16x128x1024.size a) ∧
  (∀ a, (k0_off218 arg21 arg22) a + S1x128x256.size a ≤ S16x128x1024.size a) ∧
  (∀ a, (k0_off219 arg21 arg22) a + S1x1x1024.size a ≤ S16x1x1024.size a) ∧
  (∀ a, (k0_off220 arg21 arg22) a + S1x80x1024.size a ≤ S16x80x1024.size a) ∧
  (256 ∣ (k0_mult64 arg21 arg22).toNat) ∧
  (∀ a, (k0_off221 arg21 arg22) a + S256x128.size a ≤ S4096x128.size a) ∧
  (∀ a, (k0_off222 arg21 arg22) a + S1x128x256.size a ≤ S16x128x1024.size a) ∧
  (∀ a, (k0_off223 arg21 arg22) a + S1x80x256.size a ≤ S16x80x256.size a) ∧
  (∀ a, (k0_off224 arg21 arg22) a + S1x128x256.size a ≤ S16x128x1024.size a) ∧
  (∀ a, (k0_off225 arg21 arg22) a + S1x128x256.size a ≤ S16x128x1024.size a) ∧
  (∀ a, (k0_off226 arg21 arg22) a + S1x128x256.size a ≤ S16x128x1024.size a) ∧
  (∀ a, (k0_off227 arg21 arg22) a + S1x1x1024.size a ≤ S16x1x1024.size a) ∧
  (∀ a, (k0_off228 arg21 arg22) a + S1x80x1024.size a ≤ S16x80x1024.size a) ∧
  (256 ∣ (k0_mult65 arg21 arg22).toNat) ∧
  (∀ a, (k0_off229 arg21 arg22) a + S256x128.size a ≤ S4096x128.size a) ∧
  (∀ a, (k0_off230 arg21 arg22) a + S1x128x256.size a ≤ S16x128x1024.size a) ∧
  (∀ a, (k0_off231 arg21 arg22) a + S1x80x256.size a ≤ S16x80x256.size a)
def k0_chk1_5 (arg21 : BitVec 32) (arg22 : BitVec 32) : Prop :=
  (∀ a, (k0_off232 arg21 arg22) a + S1x128x256.size a ≤ S16x128x1024.size a) ∧
  (∀ a, (k0_off233 arg21 arg22) a + S1x128x256.size a ≤ S16x128x1024.size a) ∧
  (∀ a, (k0_off234 arg21 arg22) a + S1x128x256.size a ≤ S16x128x1024.size a) ∧
  (∀ a, (k0_off235 arg21 arg22) a + S1x1x1024.size a ≤ S16x1x1024.size a) ∧
  (∀ a, (k0_off236 arg21 arg22) a + S1x80x1024.size a ≤ S16x80x1024.size a) ∧
  (256 ∣ (k0_mult66 arg21 arg22).toNat) ∧
  (∀ a, (k0_off237 arg21 arg22) a + S256x128.size a ≤ S4096x128.size a) ∧
  (∀ a, (k0_off238 arg21 arg22) a + S1x128x256.size a ≤ S16x128x1024.size a) ∧
  (∀ a, (k0_off239 arg21 arg22) a + S1x80x256.size a ≤ S16x80x256.size a) ∧
  (∀ a, (k0_off240 arg21 arg22) a + S1x128x256.size a ≤ S16x128x1024.size a) ∧
  (∀ a, (k0_off241 arg21 arg22) a + S1x128x256.size a ≤ S16x128x1024.size a) ∧
  (∀ a, (k0_off242 arg21 arg22) a + S1x128x256.size a ≤ S16x128x1024.size a) ∧
  (∀ a, (k0_off243 arg21 arg22) a + S1x1x1024.size a ≤ S16x1x1024.size a) ∧
  (∀ a, (k0_off244 arg21 arg22) a + S1x80x1024.size a ≤ S16x80x1024.size a) ∧
  (256 ∣ (k0_mult67 arg21 arg22).toNat) ∧
  (∀ a, (k0_off245 arg21 arg22) a + S256x128.size a ≤ S4096x128.size a) ∧
  (∀ a, (k0_off246 arg21 arg22) a + S1x128x256.size a ≤ S16x128x1024.size a) ∧
  (∀ a, (k0_off247 arg21 arg22) a + S1x80x256.size a ≤ S16x80x256.size a) ∧
  (∀ a, (k0_off248 arg21 arg22) a + S1x128x256.size a ≤ S16x128x1024.size a) ∧
  (∀ a, (k0_off249 arg21 arg22) a + S1x128x256.size a ≤ S16x128x1024.size a) ∧
  (∀ a, (k0_off250 arg21 arg22) a + S1x128x256.size a ≤ S16x128x1024.size a) ∧
  (∀ a, (k0_off251 arg21 arg22) a + S1x1x1024.size a ≤ S16x1x1024.size a) ∧
  (∀ a, (k0_off252 arg21 arg22) a + S1x80x1024.size a ≤ S16x80x1024.size a) ∧
  (256 ∣ (k0_mult68 arg21 arg22).toNat) ∧
  (∀ a, (k0_off253 arg21 arg22) a + S256x128.size a ≤ S4096x128.size a) ∧
  (∀ a, (k0_off254 arg21 arg22) a + S1x128x256.size a ≤ S16x128x1024.size a) ∧
  (∀ a, (k0_off255 arg21 arg22) a + S1x80x256.size a ≤ S16x80x256.size a) ∧
  (∀ a, (k0_off256 arg21 arg22) a + S1x128x256.size a ≤ S16x128x1024.size a) ∧
  (∀ a, (k0_off257 arg21 arg22) a + S1x128x256.size a ≤ S16x128x1024.size a) ∧
  (∀ a, (k0_off258 arg21 arg22) a + S1x128x256.size a ≤ S16x128x1024.size a) ∧
  (∀ a, (k0_off259 arg21 arg22) a + S1x1x1024.size a ≤ S16x1x1024.size a) ∧
  (∀ a, (k0_off260 arg21 arg22) a + S1x80x1024.size a ≤ S16x80x1024.size a)
def k0_chk1_6 (arg21 : BitVec 32) (arg22 : BitVec 32) : Prop :=
  (256 ∣ (k0_mult69 arg21 arg22).toNat) ∧
  (∀ a, (k0_off261 arg21 arg22) a + S256x128.size a ≤ S4096x128.size a) ∧
  (∀ a, (k0_off262 arg21 arg22) a + S1x128x256.size a ≤ S16x128x1024.size a) ∧
  (∀ a, (k0_off263 arg21 arg22) a + S1x80x256.size a ≤ S16x80x256.size a) ∧
  (∀ a, (k0_off264 arg21 arg22) a + S1x128x256.size a ≤ S16x128x1024.size a) ∧
  (∀ a, (k0_off265 arg21 arg22) a + S1x128x256.size a ≤ S16x128x1024.size a) ∧
  (∀ a, (k0_off266 arg21 arg22) a + S1x128x256.size a ≤ S16x128x1024.size a) ∧
  (∀ a, (k0_off267 arg21 arg22) a + S1x1x1024.size a ≤ S16x1x1024.size a) ∧
  (∀ a, (k0_off268 arg21 arg22) a + S1x80x1024.size a ≤ S16x80x1024.size a) ∧
  (256 ∣ (k0_mult70 arg21 arg22).toNat) ∧
  (∀ a, (k0_off269 arg21 arg22) a + S256x128.size a ≤ S4096x128.size a) ∧
  (∀ a, (k0_off270 arg21 arg22) a + S1x128x256.size a ≤ S16x128x1024.size a) ∧
  (∀ a, (k0_off271 arg21 arg22) a + S1x80x256.size a ≤ S16x80x256.size a) ∧
  (∀ a, (k0_off272 arg21 arg22) a + S1x128x256.size a ≤ S16x128x1024.size a) ∧
  (∀ a, (k0_off273 arg21 arg22) a + S1x128x256.size a ≤ S16x128x1024.size a) ∧
  (∀ a, (k0_off274 arg21 arg22) a + S1x128x256.size a ≤ S16x128x1024.size a) ∧
  (∀ a, (k0_off275 arg21 arg22) a + S1x1x1024.size a ≤ S16x1x1024.size a) ∧
  (∀ a, (k0_off276 arg21 arg22) a + S1x80x1024.size a ≤ S16x80x1024.size a) ∧
  (256 ∣ (k0_mult71 arg21 arg22).toNat) ∧
  (∀ a, (k0_off277 arg21 arg22) a + S256x128.size a ≤ S4096x128.size a) ∧
  (∀ a, (k0_off278 arg21 arg22) a + S1x128x256.size a ≤ S16x128x1024.size a) ∧
  (∀ a, (k0_off279 arg21 arg22) a + S1x80x256.size a ≤ S16x80x256.size a) ∧
  (∀ a, (k0_off280 arg21 arg22) a + S1x128x256.size a ≤ S16x128x1024.size a) ∧
  (∀ a, (k0_off281 arg21 arg22) a + S1x128x256.size a ≤ S16x128x1024.size a) ∧
  (∀ a, (k0_off282 arg21 arg22) a + S1x128x256.size a ≤ S16x128x1024.size a) ∧
  (∀ a, (k0_off283 arg21 arg22) a + S1x1x1024.size a ≤ S16x1x1024.size a) ∧
  (∀ a, (k0_off284 arg21 arg22) a + S1x80x1024.size a ≤ S16x80x1024.size a) ∧
  (256 ∣ (k0_mult72 arg21 arg22).toNat) ∧
  (∀ a, (k0_off285 arg21 arg22) a + S256x128.size a ≤ S4096x128.size a) ∧
  (∀ a, (k0_off286 arg21 arg22) a + S1x128x256.size a ≤ S16x128x1024.size a) ∧
  (∀ a, (k0_off287 arg21 arg22) a + S1x80x256.size a ≤ S16x80x256.size a) ∧
  (∀ a, (k0_off288 arg21 arg22) a + S1x128x256.size a ≤ S16x128x1024.size a)
def k0_chk1_7 (arg21 : BitVec 32) (arg22 : BitVec 32) : Prop :=
  (∀ a, (k0_off289 arg21 arg22) a + S1x128x256.size a ≤ S16x128x1024.size a) ∧
  (∀ a, (k0_off290 arg21 arg22) a + S1x128x256.size a ≤ S16x128x1024.size a) ∧
  (∀ a, (k0_off291 arg21 arg22) a + S1x1x1024.size a ≤ S16x1x1024.size a) ∧
  (∀ a, (k0_off292 arg21 arg22) a + S1x80x1024.size a ≤ S16x80x1024.size a) ∧
  (256 ∣ (k0_mult73 arg21 arg22).toNat) ∧
  (∀ a, (k0_off293 arg21 arg22) a + S256x128.size a ≤ S4096x128.size a) ∧
  (∀ a, (k0_off294 arg21 arg22) a + S1x128x256.size a ≤ S16x128x1024.size a) ∧
  (∀ a, (k0_off295 arg21 arg22) a + S1x80x256.size a ≤ S16x80x256.size a) ∧
  (∀ a, (k0_off296 arg21 arg22) a + S1x128x256.size a ≤ S16x128x1024.size a) ∧
  (∀ a, (k0_off297 arg21 arg22) a + S1x128x256.size a ≤ S16x128x1024.size a) ∧
  (∀ a, (k0_off298 arg21 arg22) a + S1x128x256.size a ≤ S16x128x1024.size a) ∧
  (∀ a, (k0_off299 arg21 arg22) a + S1x1x1024.size a ≤ S16x1x1024.size a) ∧
  (∀ a, (k0_off300 arg21 arg22) a + S1x80x1024.size a ≤ S16x80x1024.size a) ∧
  (256 ∣ (k0_mult74 arg21 arg22).toNat) ∧
  (∀ a, (k0_off301 arg21 arg22) a + S256x128.size a ≤ S4096x128.size a) ∧
  (∀ a, (k0_off302 arg21 arg22) a + S1x128x256.size a ≤ S16x128x1024.size a) ∧
  (∀ a, (k0_off303 arg21 arg22) a + S1x80x256.size a ≤ S16x80x256.size a) ∧
  (∀ a, (k0_off304 arg21 arg22) a + S1x128x256.size a ≤ S16x128x1024.size a) ∧
  (∀ a, (k0_off305 arg21 arg22) a + S1x128x256.size a ≤ S16x128x1024.size a) ∧
  (∀ a, (k0_off306 arg21 arg22) a + S1x128x256.size a ≤ S16x128x1024.size a) ∧
  (∀ a, (k0_off307 arg21 arg22) a + S1x1x1024.size a ≤ S16x1x1024.size a) ∧
  (∀ a, (k0_off308 arg21 arg22) a + S1x80x1024.size a ≤ S16x80x1024.size a) ∧
  (256 ∣ (k0_mult75 arg21 arg22).toNat) ∧
  (∀ a, (k0_off309 arg21 arg22) a + S256x128.size a ≤ S4096x128.size a) ∧
  (∀ a, (k0_off310 arg21 arg22) a + S1x128x256.size a ≤ S16x128x1024.size a) ∧
  (∀ a, (k0_off311 arg21 arg22) a + S1x80x256.size a ≤ S16x80x256.size a) ∧
  (∀ a, (k0_off312 arg21 arg22) a + S1x128x256.size a ≤ S16x128x1024.size a) ∧
  (∀ a, (k0_off313 arg21 arg22) a + S1x128x256.size a ≤ S16x128x1024.size a) ∧
  (∀ a, (k0_off314 arg21 arg22) a + S1x128x256.size a ≤ S16x128x1024.size a) ∧
  (∀ a, (k0_off315 arg21 arg22) a + S1x1x1024.size a ≤ S16x1x1024.size a) ∧
  (∀ a, (k0_off316 arg21 arg22) a + S1x80x1024.size a ≤ S16x80x1024.size a) ∧
  (256 ∣ (k0_mult76 arg21 arg22).toNat)
def k0_chk1_8 (arg21 : BitVec 32) (arg22 : BitVec 32) : Prop :=
  (∀ a, (k0_off317 arg21 arg22) a + S256x128.size a ≤ S4096x128.size a) ∧
  (∀ a, (k0_off318 arg21 arg22) a + S1x128x256.size a ≤ S16x128x1024.size a) ∧
  (∀ a, (k0_off319 arg21 arg22) a + S1x80x256.size a ≤ S16x80x256.size a) ∧
  (∀ a, (k0_off320 arg21 arg22) a + S1x128x256.size a ≤ S16x128x1024.size a) ∧
  (∀ a, (k0_off321 arg21 arg22) a + S1x128x256.size a ≤ S16x128x1024.size a) ∧
  (∀ a, (k0_off322 arg21 arg22) a + S1x128x256.size a ≤ S16x128x1024.size a) ∧
  (∀ a, (k0_off323 arg21 arg22) a + S1x1x1024.size a ≤ S16x1x1024.size a) ∧
  (∀ a, (k0_off324 arg21 arg22) a + S1x80x1024.size a ≤ S16x80x1024.size a) ∧
  (256 ∣ (k0_mult77 arg21 arg22).toNat) ∧
  (∀ a, (k0_off325 arg21 arg22) a + S256x128.size a ≤ S4096x128.size a) ∧
  (∀ a, (k0_off326 arg21 arg22) a + S1x128x256.size a ≤ S16x128x1024.size a) ∧
  (∀ a, (k0_off327 arg21 arg22) a + S1x80x256.size a ≤ S16x80x256.size a) ∧
  (∀ a, (k0_off328 arg21 arg22) a + S1x128x256.size a ≤ S16x128x1024.size a) ∧
  (∀ a, (k0_off329 arg21 arg22) a + S1x128x256.size a ≤ S16x128x1024.size a) ∧
  (∀ a, (k0_off330 arg21 arg22) a + S1x128x256.size a ≤ S16x128x1024.size a)
def k0_chk1 (arg21 : BitVec 32) (arg22 : BitVec 32) : Prop :=
  k0_chk1_0 arg21 arg22 ∧
  k0_chk1_1 arg21 arg22 ∧
  k0_chk1_2 arg21 arg22 ∧
  k0_chk1_3 arg21 arg22 ∧
  k0_chk1_4 arg21 arg22 ∧
  k0_chk1_5 arg21 arg22 ∧
  k0_chk1_6 arg21 arg22 ∧
  k0_chk1_7 arg21 arg22 ∧
  k0_chk1_8 arg21 arg22
theorem k0_off89_inb : ∀ (arg21 : BitVec 32) (arg22 : BitVec 32) (k0_hw1 : k0_chk1 arg21 arg22), ∀ a, (k0_off89 arg22) a + S1x1x1024.size a ≤ S16x1x1024.size a := fun arg21 arg22 k0_hw1 => k0_hw1.1.1
theorem k0_off90_inb : ∀ (arg21 : BitVec 32) (arg22 : BitVec 32) (k0_hw1 : k0_chk1 arg21 arg22), ∀ a, (k0_off90 arg22) a + S1x80x1024.size a ≤ S16x80x1024.size a := fun arg21 arg22 k0_hw1 => k0_hw1.1.2.1
theorem k0_mult48_dvd : ∀ (arg21 : BitVec 32) (arg22 : BitVec 32) (k0_hw1 : k0_chk1 arg21 arg22), 256 ∣ (k0_mult48 arg21 arg22).toNat := fun arg21 arg22 k0_hw1 => k0_hw1.1.2.2.1
theorem k0_off91_inb : ∀ (arg21 : BitVec 32) (arg22 : BitVec 32) (k0_hw1 : k0_chk1 arg21 arg22), ∀ a, (k0_off91 arg21 arg22) a + S256x128.size a ≤ S4096x128.size a := fun arg21 arg22 k0_hw1 => k0_hw1.1.2.2.2.1
theorem k0_off92_inb : ∀ (arg21 : BitVec 32) (arg22 : BitVec 32) (k0_hw1 : k0_chk1 arg21 arg22), ∀ a, (k0_off92 arg21 arg22) a + S1x128x256.size a ≤ S16x128x1024.size a := fun arg21 arg22 k0_hw1 => k0_hw1.1.2.2.2.2.1
theorem k0_off94_inb : ∀ (arg21 : BitVec 32) (arg22 : BitVec 32) (k0_hw1 : k0_chk1 arg21 arg22), ∀ a, (k0_off94 arg21 arg22) a + S1x128x256.size a ≤ S16x128x1024.size a := fun arg21 arg22 k0_hw1 => k0_hw1.1.2.2.2.2.2.1
theorem k0_off95_inb : ∀ (arg21 : BitVec 32) (arg22 : BitVec 32) (k0_hw1 : k0_chk1 arg21 arg22), ∀ a, (k0_off95 arg21 arg22) a + S1x128x256.size a ≤ S16x128x1024.size a := fun arg21 arg22 k0_hw1 => k0_hw1.1.2.2.2.2.2.2.1
theorem k0_off96_inb : ∀ (arg21 : BitVec 32) (arg22 : BitVec 32) (k0_hw1 : k0_chk1 arg21 arg22), ∀ a, (k0_off96 arg21 arg22) a + S1x128x256.size a ≤ S16x128x1024.size a := fun arg21 arg22 k0_hw1 => k0_hw1.1.2.2.2.2.2.2.2.1
theorem k0_off97_inb : ∀ (arg21 : BitVec 32) (arg22 : BitVec 32) (k0_hw1 : k0_chk1 arg21 arg22), ∀ a, (k0_off97 arg22) a + S1x80x1024.size a ≤ S16x80x1024.size a := fun arg21 arg22 k0_hw1 => k0_hw1.1.2.2.2.2.2.2.2.2.1
theorem k0_off98_inb : ∀ (arg21 : BitVec 32) (arg22 : BitVec 32) (k0_hw1 : k0_chk1 arg21 arg22), ∀ a, (k0_off98 arg22) a + S1x1x1024.size a ≤ S16x1x1024.size a := fun arg21 arg22 k0_hw1 => k0_hw1.1.2.2.2.2.2.2.2.2.2.1
theorem k0_off99_inb : ∀ (arg21 : BitVec 32) (arg22 : BitVec 32) (k0_hw1 : k0_chk1 arg21 arg22), ∀ a, (k0_off99 arg21 arg22) a + S1x1x1024.size a ≤ S16x1x1024.size a := fun arg21 arg22 k0_hw1 => k0_hw1.1.2.2.2.2.2.2.2.2.2.2.1
theorem k0_off100_inb : ∀ (arg21 : BitVec 32) (arg22 : BitVec 32) (k0_hw1 : k0_chk1 arg21 arg22), ∀ a, (k0_off100 arg21 arg22) a + S1x80x1024.size a ≤ S16x80x1024.size a := fun arg21 arg22 k0_hw1 => k0_hw1.1.2.2.2.2.2.2.2.2.2.2.2.1
theorem k0_mult49_dvd : ∀ (arg21 : BitVec 32) (arg22 : BitVec 32) (k0_hw1 : k0_chk1 arg21 arg22), 256 ∣ (k0_mult49 arg21 arg22).toNat := fun arg21 arg22 k0_hw1 => k0_hw1.1.2.2.2.2.2.2.2.2.2.2.2.2.1
theorem k0_off101_inb : ∀ (arg21 : BitVec 32) (arg22 : BitVec 32) (k0_hw1 : k0_chk1 arg21 arg22), ∀ a, (k0_off101 arg21 arg22) a + S256x128.size a ≤ S4096x128.size a := fun arg21 arg22 k0_hw1 => k0_hw1.1.2.2.2.2.2.2.2.2.2.2.2.2.2.1
theorem k0_off102_inb : ∀ (arg21 : BitVec 32) (arg22 : BitVec 32) (k0_hw1 : k0_chk1 arg21 arg22), ∀ a, (k0_off102 arg21 arg22) a + S1x128x256.size a ≤ S16x128x1024.size a := fun arg21 arg22 k0_hw1 => k0_hw1.1.2.2.2.2.2.2.2.2.2.2.2.2.2.2.1
theorem k0_off103_inb : ∀ (arg21 : BitVec 32) (arg22 : BitVec 32) (k0_hw1 : k0_chk1 arg21 arg22), ∀ a, (k0_off103 arg21 arg22) a + S1x80x256.size a ≤ S16x80x256.size a := fun arg21 arg22 k0_hw1 => k0_hw1.1.2.2.2.2.2.2.2.2.2.2.2.2.2.2.2.1
theorem k0_off104_inb : ∀ (arg21 : BitVec 32) (arg22 : BitVec 32) (k0_hw1 : k0_chk1 arg21 arg22), ∀ a, (k0_off104 arg21 arg22) a + S1x128x256.size a ≤ S16x128x1024.size a := fun arg21 arg22 k0_hw1 => k0_hw1.1.2.2.2.2.2.2.2.2.2.2.2.2.2.2.2.2.1
theorem k0_off105_inb : ∀ (arg21 : BitVec 32) (arg22 : BitVec 32) (k0_hw1 : k0_chk1 arg21 arg22), ∀ a, (k0_off105 arg21 arg22) a + S1x128x256.size a ≤ S16x128x1024.size a := fun arg21 arg22 k0_hw1 => k0_hw1.1.2.2.2.2.2.2.2.2.2.2.2.2.2.2.2.2.2.1
theorem k0_off106_inb : ∀ (arg21 : BitVec 32) (arg22 : BitVec 32) (k0_hw1 : k0_chk1 arg21 arg22), ∀ a, (k0_off106 arg21 arg22) a + S1x128x256.size a ≤ S16x128x1024.size a := fun arg21 arg22 k0_hw1 => k0_hw1.1.2.2.2.2.2.2.2.2.2.2.2.2.2.2.2.2.2.2.1
theorem k0_off107_inb : ∀ (arg21 : BitVec 32) (arg22 : BitVec 32) (k0_hw1 : k0_chk1 arg21 arg22), ∀ a, (k0_off107 arg21 arg22) a + S1x1x1024.size a ≤ S16x1x1024.size a := fun arg21 arg22 k0_hw1 => k0_hw1.1.2.2.2.2.2.2.2.2.2.2.2.2.2.2.2.2.2.2.2.1
theorem k0_off108_inb : ∀ (arg21 : BitVec 32) (arg22 : BitVec 32) (k0_hw1 : k0_chk1 arg21 arg22), ∀ a, (k0_off108 arg21 arg22) a + S1x80x1024.size a ≤ S16x80x1024.size a := fun arg21 arg22 k0_hw1 => k0_hw1.1.2.2.2.2.2.2.2.2.2.2.2.2.2.2.2.2.2.2.2.2.1
theorem k0_mult50_dvd : ∀ (arg21 : BitVec 32) (arg22 : BitVec 32) (k0_hw1 : k0_chk1 arg21 arg22), 256 ∣ (k0_mult50 arg21 arg22).toNat := fun arg21 arg22 k0_hw1 => k0_hw1.1.2.2.2.2.2.2.2.2.2.2.2.2.2.2.2.2.2.2.2.2.2.1
theorem k0_off109_inb : ∀ (arg21 : BitVec 32) (arg22 : BitVec 32) (k0_hw1 : k0_chk1 arg21 arg22), ∀ a, (k0_off109 arg21 arg22) a + S256x128.size a ≤ S4096x128.size a := fun arg21 arg22 k0_hw1 => k0_hw1.1.2.2.2.2.2.2.2.2.2.2.2.2.2.2.2.2.2.2.2.2.2.2.1
theorem k0_off110_inb : ∀ (arg21 : BitVec 32) (arg22 : BitVec 32) (k0_hw1 : k0_chk1 arg21 arg22), ∀ a, (k0_off110 arg21 arg22) a + S1x128x256.size a ≤ S16x128x1024.size a := fun arg21 arg22 k0_hw1 => k0_hw1.1.2.2.2.2.2.2.2.2.2.2.2.2.2.2.2.2.2.2.2.2.2.2.2.1
theorem k0_off111_inb : ∀ (arg21 : BitVec 32) (arg22 : BitVec 32) (k0_hw1 : k0_chk1 arg21 arg22), ∀ a, (k0_off111 arg21 arg22) a + S1x80x256.size a ≤ S16x80x256.size a := fun arg21 arg22 k0_hw1 => k0_hw1.1.2.2.2.2.2.2.2.2.2.2.2.2.2.2.2.2.2.2.2.2.2.2.2.2.1
theorem k0_off112_inb : ∀ (arg21 : BitVec 32) (arg22 : BitVec 32) (k0_hw1 : k0_chk1 arg21 arg22), ∀ a, (k0_off112 arg21 arg22) a + S1x128x256.size a ≤ S16x128x1024.size a := fun arg21 arg22 k0_hw1 => k0_hw1.1.2.2.2.2.2.2.2.2.2.2.2.2.2.2.2.2.2.2.2.2.2.2.2.2.2.1
theorem k0_off113_inb : ∀ (arg21 : BitVec 32) (arg22 : BitVec 32) (k0_hw1 : k0_chk1 arg21 arg22), ∀ a, (k0_off113 arg21 arg22) a + S1x128x256.size a ≤ S16x128x1024.size a := fun arg21 arg22 k0_hw1 => k0_hw1.1.2.2.2.2.2.2.2.2.2.2.2.2.2.2.2.2.2.2.2.2.2.2.2.2.2.2.1
theorem k0_off114_inb : ∀ (arg21 : BitVec 32) (arg22 : BitVec 32) (k0_hw1 : k0_chk1 arg21 arg22), ∀ a, (k0_off114 arg21 arg22) a + S1x128x256.size a ≤ S16x128x1024.size a := fun arg21 arg22 k0_hw1 => k0_hw1.1.2.2.2.2.2.2.2.2.2.2.2.2.2.2.2.2.2.2.2.2.2.2.2.2.2.2.2.1
theorem k0_off115_inb : ∀ (arg21 : BitVec 32) (arg22 : BitVec 32) (k0_hw1 : k0_chk1 arg21 arg22), ∀ a, (k0_off115 arg21 arg22) a + S1x1x1024.size a ≤ S16x1x1024.size a := fun arg21 arg22 k0_hw1 => k0_hw1.1.2.2.2.2.2.2.2.2.2.2.2.2.2.2.2.2.2.2.2.2.2.2.2.2.2.2.2.2.1
theorem k0_off116_inb : ∀ (arg21 : BitVec 32) (arg22 : BitVec 32) (k0_hw1 : k0_chk1 arg21 arg22), ∀ a, (k0_off116 arg21 arg22) a + S1x80x1024.size a ≤ S16x80x1024.size a := fun arg21 arg22 k0_hw1 => k0_hw1.1.2.2.2.2.2.2.2.2.2.2.2.2.2.2.2.2.2.2.2.2.2.2.2.2.2.2.2.2.2.1
theorem k0_mult51_dvd : ∀ (arg21 : BitVec 32) (arg22 : BitVec 32) (k0_hw1 : k0_chk1 arg21 arg22), 256 ∣ (k0_mult51 arg21 arg22).toNat := fun arg21 arg22 k0_hw1 => k0_hw1.1.2.2.2.2.2.2.2.2.2.2.2.2.2.2.2.2.2.2.2.2.2.2.2.2.2.2.2.2.2.2.1
theorem k0_off117_inb : ∀ (arg21 : BitVec 32) (arg22 : BitVec 32) (k0_hw1 : k0_chk1 arg21 arg22), ∀ a, (k0_off117 arg21 arg22) a + S256x128.size a ≤ S4096x128.size a := fun arg21 arg22 k0_hw1 => k0_hw1.1.2.2.2.2.2.2.2.2.2.2.2.2.2.2.2.2.2.2.2.2.2.2.2.2.2.2.2.2.2.2.2
theorem k0_off118_inb : ∀ (arg21 : BitVec 32) (arg22 : BitVec 32) (k0_hw1 : k0_chk1 arg21 arg22), ∀ a, (k0_off118 arg21 arg22) a + S1x128x256.size a ≤ S16x128x1024.size a := fun arg21 arg22 k0_hw1 => k0_hw1.2.1.1
theorem k0_off119_inb : ∀ (arg21 : BitVec 32) (arg22 : BitVec 32) (k0_hw1 : k0_chk1 arg21 arg22), ∀ a, (k0_off119 arg21 arg22) a + S1x80x256.size a ≤ S16x80x256.size a := fun arg21 arg22 k0_hw1 => k0_hw1.2.1.2.1
theorem k0_off120_inb : ∀ (arg21 : BitVec 32) (arg22 : BitVec 32) (k0_hw1 : k0_chk1 arg21 arg22), ∀ a, (k0_off120 arg21 arg22) a + S1x128x256.size a ≤ S16x128x1024.size a := fun arg21 arg22 k0_hw1 => k0_hw1.2.1.2.2.1
theorem k0_off121_inb : ∀ (arg21 : BitVec 32) (arg22 : BitVec 32) (k0_hw1 : k0_chk1 arg21 arg22), ∀ a, (k0_off121 arg21 arg22) a + S1x128x256.size a ≤ S16x128x1024.size a := fun arg21 arg22 k0_hw1 => k0_hw1.2.1.2.2.2.1
theorem k0_off122_inb : ∀ (arg21 : BitVec 32) (arg22 : BitVec 32) (k0_hw1 : k0_chk1 arg21 arg22), ∀ a, (k0_off122 arg21 arg22) a + S1x128x256.size a ≤ S16x128x1024.size a := fun arg21 arg22 k0_hw1 => k0_hw1.2.1.2.2.2.2.1
theorem k0_off123_inb : ∀ (arg21 : BitVec 32) (arg22 : BitVec 32) (k0_hw1 : k0_chk1 arg21 arg22), ∀ a, (k0_off123 arg21 arg22) a + S1x1x1024.size a ≤ S16x1x1024.size a := fun arg21 arg22 k0_hw1 => k0_hw1.2.1.2.2.2.2.2.1
theorem k0_off124_inb : ∀ (arg21 : BitVec 32) (arg22 : BitVec 32) (k0_hw1 : k0_chk1 arg21 arg22), ∀ a, (k0_off124 arg21 arg22) a + S1x80x1024.size a ≤ S16x80x1024.size a := fun arg21 arg22 k0_hw1 => k0_hw1.2.1.2.2.2.2.2.2.1
theorem k0_mult52_dvd : ∀ (arg21 : BitVec 32) (arg22 : BitVec 32) (k0_hw1 : k0_chk1 arg21 arg22), 256 ∣ (k0_mult52 arg21 arg22).toNat := fun arg21 arg22 k0_hw1 => k0_hw1.2.1.2.2.2.2.2.2.2.1
theorem k0_off125_inb : ∀ (arg21 : BitVec 32) (arg22 : BitVec 32) (k0_hw1 : k0_chk1 arg21 arg22), ∀ a, (k0_off125 arg21 arg22) a + S256x128.size a ≤ S4096x128.size a := fun arg21 arg22 k0_hw1 => k0_hw1.2.1.2.2.2.2.2.2.2.2.1
theorem k0_off126_inb : ∀ (arg21 : BitVec 32) (arg22 : BitVec 32) (k0_hw1 : k0_chk1 arg21 arg22), ∀ a, (k0_off126 arg21 arg22) a + S1x128x256.size a ≤ S16x128x1024.size a := fun arg21 arg22 k0_hw1 => k0_hw1.2.1.2.2.2.2.2.2.2.2.2.1
theorem k0_off127_inb : ∀ (arg21 : BitVec 32) (arg22 : BitVec 32) (k0_hw1 : k0_chk1 arg21 arg22), ∀ a, (k0_off127 arg21 arg22) a + S1x80x256.size a ≤ S16x80x256.size a := fun arg21 arg22 k0_hw1 => k0_hw1.2.1.2.2.2.2.2.2.2.2.2.2.1
theorem k0_off128_inb : ∀ (arg21 : BitVec 32) (arg22 : BitVec 32) (k0_hw1 : k0_chk1 arg21 arg22), ∀ a, (k0_off128 arg21 arg22) a + S1x128x256.size a ≤ S16x128x1024.size a := fun arg21 arg22 k0_hw1 => k0_hw1.2.1.2.2.2.2.2.2.2.2.2.2.2.1
theorem k0_off129_inb : ∀ (arg21 : BitVec 32) (arg22 : BitVec 32) (k0_hw1 : k0_chk1 arg21 arg22), ∀ a, (k0_off129 arg21 arg22) a + S1x128x256.size a ≤ S16x128x1024.size a := fun arg21 arg22 k0_hw1 => k0_hw1.2.1.2.2.2.2.2.2.2.2.2.2.2.2.1
theorem k0_off130_inb : ∀ (arg21 : BitVec 32) (arg22 : BitVec 32) (k0_hw1 : k0_chk1 arg21 arg22), ∀ a, (k0_off130 arg21 arg22) a + S1x128x256.size a ≤ S16x128x1024.size a := fun arg21 arg22 k0_hw1 => k0_hw1.2.1.2.2.2.2.2.2.2.2.2.2.2.2.2.1
theorem k0_off131_inb : ∀ (arg21 : BitVec 32) (arg22 : BitVec 32) (k0_hw1 : k0_chk1 arg21 arg22), ∀ a, (k0_off131 arg21 arg22) a + S1x1x1024.size a ≤ S16x1x1024.size a := fun arg21 arg22 k0_hw1 => k0_hw1.2.1.2.2.2.2.2.2.2.2.2.2.2.2.2.2.1
theorem k0_off132_inb : ∀ (arg21 : BitVec 32) (arg22 : BitVec 32) (k0_hw1 : k0_chk1 arg21 arg22), ∀ a, (k0_off132 arg21 arg22) a + S1x80x1024.size a ≤ S16x80x1024.size a := fun arg21 arg22 k0_hw1 => k0_hw1.2.1.2.2.2.2.2.2.2.2.2.2.2.2.2.2.2.1
theorem k0_mult53_dvd : ∀ (arg21 : BitVec 32) (arg22 : BitVec 32) (k0_hw1 : k0_chk1 arg21 arg22), 256 ∣ (k0_mult53 arg21 arg22).toNat := fun arg21 arg22 k0_hw1 => k0_hw1.2.1.2.2.2.2.2.2.2.2.2.2.2.2.2.2.2.2.1
theorem k0_off133_inb : ∀ (arg21 : BitVec 32) (arg22 : BitVec 32) (k0_hw1 : k0_chk1 arg21 arg22), ∀ a, (k0_off133 arg21 arg22) a + S256x128.size a ≤ S4096x128.size a := fun arg21 arg22 k0_hw1 => k0_hw1.2.1.2.2.2.2.2.2.2.2.2.2.2.2.2.2.2.2.2.1
theorem k0_off134_inb : ∀ (arg21 : BitVec 32) (arg22 : BitVec 32) (k0_hw1 : k0_chk1 arg21 arg22), ∀ a, (k0_off134 arg21 arg22) a + S1x128x256.size a ≤ S16x128x1024.size a := fun arg21 arg22 k0_hw1 => k0_hw1.2.1.2.2.2.2.2.2.2.2.2.2.2.2.2.2.2.2.2.2.1
theorem k0_off135_inb : ∀ (arg21 : BitVec 32) (arg22 : BitVec 32) (k0_hw1 : k0_chk1 arg21 arg22), ∀ a, (k0_off135 arg21 arg22) a + S1x80x256.size a ≤ S16x80x256.size a := fun arg21 arg22 k0_hw1 => k0_hw1.2.1.2.2.2.2.2.2.2.2.2.2.2.2.2.2.2.2.2.2.2.1
theorem k0_off136_inb : ∀ (arg21 : BitVec 32) (arg22 : BitVec 32) (k0_hw1 : k0_chk1 arg21 arg22), ∀ a, (k0_off136 arg21 arg22) a + S1x128x256.size a ≤ S16x128x1024.size a := fun arg21 arg22 k0_hw1 => k0_hw1.2.1.2.2.2.2.2.2.2.2.2.2.2.2.2.2.2.2.2.2.2.2.1
theorem k0_off137_inb : ∀ (arg21 : BitVec 32) (arg22 : BitVec 32) (k0_hw1 : k0_chk1 arg21 arg22), ∀ a, (k0_off137 arg21 arg22) a + S1x128x256.size a ≤ S16x128x1024.size a := fun arg21 arg22 k0_hw1 => k0_hw1.2.1.2.2.2.2.2.2.2.2.2.2.2.2.2.2.2.2.2.2.2.2.2.1
theorem k0_off138_inb : ∀ (arg21 : BitVec 32) (arg22 : BitVec 32) (k0_hw1 : k0_chk1 arg21 arg22), ∀ a, (k0_off138 arg21 arg22) a + S1x128x256.size a ≤ S16x128x1024.size a := fun arg21 arg22 k0_hw1 => k0_hw1.2.1.2.2.2.2.2.2.2.2.2.2.2.2.2.2.2.2.2.2.2.2.2.2.1
theorem k0_off139_inb : ∀ (arg21 : BitVec 32) (arg22 : BitVec 32) (k0_hw1 : k0_chk1 arg21 arg22), ∀ a, (k0_off139 arg21 arg22) a + S1x1x1024.size a ≤ S16x1x1024.size a := fun arg21 arg22 k0_hw1 => k0_hw1.2.1.2.2.2.2.2.2.2.2.2.2.2.2.2.2.2.2.2.2.2.2.2.2.2.1
theorem k0_off140_inb : ∀ (arg21 : BitVec 32) (arg22 : BitVec 32) (k0_hw1 : k0_chk1 arg21 arg22), ∀ a, (k0_off140 arg21 arg22) a + S1x80x1024.size a ≤ S16x80x1024.size a := fun arg21 arg22 k0_hw1 => k0_hw1.2.1.2.2.2.2.2.2.2.2.2.2.2.2.2.2.2.2.2.2.2.2.2.2.2.2.1
theorem k0_mult54_dvd : ∀ (arg21 : BitVec 32) (arg22 : BitVec 32) (k0_hw1 : k0_chk1 arg21 arg22), 256 ∣ (k0_mult54 arg21 arg22).toNat := fun arg21 arg22 k0_hw1 => k0_hw1.2.1.2.2.2.2.2.2.2.2.2.2.2.2.2.2.2.2.2.2.2.2.2.2.2.2.2.1
theorem k0_off141_inb : ∀ (arg21 : BitVec 32) (arg22 : BitVec 32) (k0_hw1 : k0_chk1 arg21 arg22), ∀ a, (k0_off141 arg21 arg22) a + S256x128.size a ≤ S4096x128.size a := fun arg21 arg22 k0_hw1 => k0_hw1.2.1.2.2.2.2.2.2.2.2.2.2.2.2.2.2.2.2.2.2.2.2.2.2.2.2.2.2.1
theorem k0_off142_inb : ∀ (arg21 : BitVec 32) (arg22 : BitVec 32) (k0_hw1 : k0_chk1 arg21 arg22), ∀ a, (k0_off142 arg21 arg22) a + S1x128x256.size a ≤ S16x128x1024.size a := fun arg21 arg22 k0_hw1 => k0_hw1.2.1.2.2.2.2.2.2.2.2.2.2.2.2.2.2.2.2.2.2.2.2.2.2.2.2.2.2.2.1
theorem k0_off143_inb : ∀ (arg21 : BitVec 32) (arg22 : BitVec 32) (k0_hw1 : k0_chk1 arg21 arg22), ∀ a, (k0_off143 arg21 arg22) a + S1x80x256.size a ≤ S16x80x256.size a := fun arg21 arg22 k0_hw1 => k0_hw1.2.1.2.2.2.2.2.2.2.2.2.2.2.2.2.2.2.2.2.2.2.2.2.2.2.2.2.2.2.2.1
theorem k0_off144_inb : ∀ (arg21 : BitVec 32) (arg22 : BitVec 32) (k0_hw1 : k0_chk1 arg21 arg22), ∀ a, (k0_off144 arg21 arg22) a + S1x128x256.size a ≤ S16x128x1024.size a := fun arg21 arg22 k0_hw1 => k0_hw1.2.1.2.2.2.2.2.2.2.2.2.2.2.2.2.2.2.2.2.2.2.2.2.2.2.2.2.2.2.2.2.1
theorem k0_off145_inb : ∀ (arg21 : BitVec 32) (arg22 : BitVec 32) (k0_hw1 : k0_chk1 arg21 arg22), ∀ a, (k0_off145 arg21 arg22) a + S1x128x256.size a ≤ S16x128x1024.size a := fun arg21 arg22 k0_hw1 => k0_hw1.2.1.2.2.2.2.2.2.2.2.2.2.2.2.2.2.2.2.2.2.2.2.2.2.2.2.2.2.2.2.2.2.1
theorem k0_off146_inb : ∀ (arg21 : BitVec 32) (arg22 : BitVec 32) (k0_hw1 : k0_chk1 arg21 arg22), ∀ a, (k0_off146 arg21 arg22) a + S1x128x256.size a ≤ S16x128x1024.size a := fun arg21 arg22 k0_hw1 => k0_hw1.2.1.2.2.2.2.2.2.2.2.2.2.2.2.2.2.2.2.2.2.2.2.2.2.2.2.2.2.2.2.2.2.2
theorem k0_off147_inb : ∀ (arg21 : BitVec 32) (arg22 : BitVec 32) (k0_hw1 : k0_chk1 arg21 arg22), ∀ a, (k0_off147 arg21 arg22) a + S1x1x1024.size a ≤ S16x1x1024.size a := fun arg21 arg22 k0_hw1 => k0_hw1.2.2.1.1
theorem k0_off148_inb : ∀ (arg21 : BitVec 32) (arg22 : BitVec 32) (k0_hw1 : k0_chk1 arg21 arg22), ∀ a, (k0_off148 arg21 arg22) a + S1x80x1024.size a ≤ S16x80x1024.size a := fun arg21 arg22 k0_hw1 => k0_hw1.2.2.1.2.1
theorem k0_mult55_dvd : ∀ (arg21 : BitVec 32) (arg22 : BitVec 32) (k0_hw1 : k0_chk1 arg21 arg22), 256 ∣ (k0_mult55 arg21 arg22).toNat := fun arg21 arg22 k0_hw1 => k0_hw1.2.2.1.2.2.1
theorem k0_off149_inb : ∀ (arg21 : BitVec 32) (arg22 : BitVec 32) (k0_hw1 : k0_chk1 arg21 arg22), ∀ a, (k0_off149 arg21 arg22) a + S256x128.size a ≤ S4096x128.size a := fun arg21 arg22 k0_hw1 => k0_hw1.2.2.1.2.2.2.1
theorem k0_off150_inb : ∀ (arg21 : BitVec 32) (arg22 : BitVec 32) (k0_hw1 : k0_chk1 arg21 arg22), ∀ a, (k0_off150 arg21 arg22) a + S1x128x256.size a ≤ S16x128x1024.size a := fun arg21 arg22 k0_hw1 => k0_hw1.2.2.1.2.2.2.2.1
theorem k0_off151_inb : ∀ (arg21 : BitVec 32) (arg22 : BitVec 32) (k0_hw1 : k0_chk1 arg21 arg22), ∀ a, (k0_off151 arg21 arg22) a + S1x80x256.size a ≤ S16x80x256.size a := fun arg21 arg22 k0_hw1 => k0_hw1.2.2.1.2.2.2.2.2.1
theorem k0_off152_inb : ∀ (arg21 : BitVec 32) (arg22 : BitVec 32) (k0_hw1 : k0_chk1 arg21 arg22), ∀ a, (k0_off152 arg21 arg22) a + S1x128x256.size a ≤ S16x128x1024.size a := fun arg21 arg22 k0_hw1 => k0_hw1.2.2.1.2.2.2.2.2.2.1
theorem k0_off153_inb : ∀ (arg21 : BitVec 32) (arg22 : BitVec 32) (k0_hw1 : k0_chk1 arg21 arg22), ∀ a, (k0_off153 arg21 arg22) a + S1x128x256.size a ≤ S16x128x1024.size a := fun arg21 arg22 k0_hw1 => k0_hw1.2.2.1.2.2.2.2.2.2.2.1
theorem k0_off154_inb : ∀ (arg21 : BitVec 32) (arg22 : BitVec 32) (k0_hw1 : k0_chk1 arg21 arg22), ∀ a, (k0_off154 arg21 arg22) a + S1x128x256.size a ≤ S16x128x1024.size a := fun arg21 arg22 k0_hw1 => k0_hw1.2.2.1.2.2.2.2.2.2.2.2.1
theorem k0_off155_inb : ∀ (arg21 : BitVec 32) (arg22 : BitVec 32) (k0_hw1 : k0_chk1 arg21 arg22), ∀ a, (k0_off155 arg21 arg22) a + S1x1x1024.size a ≤ S16x1x1024.size a := fun arg21 arg22 k0_hw1 => k0_hw1.2.2.1.2.2.2.2.2.2.2.2.2.1
theorem k0_off156_inb : ∀ (arg21 : BitVec 32) (arg22 : BitVec 32) (k0_hw1 : k0_chk1 arg21 arg22), ∀ a, (k0_off156 arg21 arg22) a + S1x80x1024.size a ≤ S16x80x1024.size a := fun arg21 arg22 k0_hw1 => k0_hw1.2.2.1.2.2.2.2.2.2.2.2.2.2.1
theorem k0_mult56_dvd : ∀ (arg21 : BitVec 32) (arg22 : BitVec 32) (k0_hw1 : k0_chk1 arg21 arg22), 256 ∣ (k0_mult56 arg21 arg22).toNat := fun arg21 arg22 k0_hw1 => k0_hw1.2.2.1.2.2.2.2.2.2.2.2.2.2.2.1
theorem k0_off157_inb : ∀ (arg21 : BitVec 32) (arg22 : BitVec 32) (k0_hw1 : k0_chk1 arg21 arg22), ∀ a, (k0_off157 arg21 arg22) a + S256x128.size a ≤ S4096x128.size a := fun arg21 arg22 k0_hw1 => k0_hw1.2.2.1.2.2.2.2.2.2.2.2.2.2.2.2.1
theorem k0_off158_inb : ∀ (arg21 : BitVec 32) (arg22 : BitVec 32) (k0_hw1 : k0_chk1 arg21 arg22), ∀ a, (k0_off158 arg21 arg22) a + S1x128x256.size a ≤ S16x128x1024.size a := fun arg21 arg22 k0_hw1 => k0_hw1.2.2.1.2.2.2.2.2.2.2.2.2.2.2.2.2.1
theorem k0_off159_inb : ∀ (arg21 : BitVec 32) (arg22 : BitVec 32) (k0_hw1 : k0_chk1 arg21 arg22), ∀ a, (k0_off159 arg21 arg22) a + S1x80x256.size a ≤ S16x80x256.size a := fun arg21 arg22 k0_hw1 => k0_hw1.2.2.1.2.2.2.2.2.2.2.2.2.2.2.2.2.2.1
theorem k0_off160_inb : ∀ (arg21 : BitVec 32) (arg22 : BitVec 32) (k0_hw1 : k0_chk1 arg21 arg22), ∀ a, (k0_off160 arg21 arg22) a + S1x128x256.size a ≤ S16x128x1024.size a := fun arg21 arg22 k0_hw1 => k0_hw1.2.2.1.2.2.2.2.2.2.2.2.2.2.2.2.2.2.2.1
theorem k0_off161_inb : ∀ (arg21 : BitVec 32) (arg22 : BitVec 32) (k0_hw1 : k0_chk1 arg21 arg22), ∀ a, (k0_off161 arg21 arg22) a + S1x128x256.size a ≤ S16x128x1024.size a := fun arg21 arg22 k0_hw1 => k0_hw1.2.2.1.2.2.2.2.2.2.2.2.2.2.2.2.2.2.2.2.1
theorem k0_off162_inb : ∀ (arg21 : BitVec 32) (arg22 : BitVec 32) (k0_hw1 : k0_chk1 arg21 arg22), ∀ a, (k0_off162 arg21 arg22) a + S1x128x256.size a ≤ S16x128x1024.size a := fun arg21 arg22 k0_hw1 => k0_hw1.2.2.1.2.2.2.2.2.2.2.2.2.2.2.2.2.2.2.2.2.1
theorem k0_off163_inb : ∀ (arg21 : BitVec 32) (arg22 : BitVec 32) (k0_hw1 : k0_chk1 arg21 arg22), ∀ a, (k0_off163 arg21 arg22) a + S1x1x1024.size a ≤ S16x1x1024.size a := fun arg21 arg22 k0_hw1 => k0_hw1.2.2.1.2.2.2.2.2.2.2.2.2.2.2.2.2.2.2.2.2.2.1
theorem k0_off164_inb : ∀ (arg21 : BitVec 32) (arg22 : BitVec 32) (k0_hw1 : k0_chk1 arg21 arg22), ∀ a, (k0_off164 arg21 arg22) a + S1x80x1024.size a ≤ S16x80x1024.size a := fun arg21 arg22 k0_hw1 => k0_hw1.2.2.1.2.2.2.2.2.2.2.2.2.2.2.2.2.2.2.2.2.2.2.1
theorem k0_mult57_dvd : ∀ (arg21 : BitVec 32) (arg22 : BitVec 32) (k0_hw1 : k0_chk1 arg21 arg22), 256 ∣ (k0_mult57 arg21 arg22).toNat := fun arg21 arg22 k0_hw1 => k0_hw1.2.2.1.2.2.2.2.2.2.2.2.2.2.2.2.2.2.2.2.2.2.2.2.1
theorem k0_off165_inb : ∀ (arg21 : BitVec 32) (arg22 : BitVec 32) (k0_hw1 : k0_chk1 arg21 arg22), ∀ a, (k0_off165 arg21 arg22) a + S256x128.size a ≤ S4096x128.size a := fun arg21 arg22 k0_hw1 => k0_hw1.2.2.1.2.2.2.2.2.2.2.2.2.2.2.2.2.2.2.2.2.2.2.2.2.1
theorem k0_off166_inb : ∀ (arg21 : BitVec 32) (arg22 : BitVec 32) (k0_hw1 : k0_chk1 arg21 arg22), ∀ a, (k0_off166 arg21 arg22) a + S1x128x256.size a ≤ S16x128x1024.size a := fun arg21 arg22 k0_hw1 => k0_hw1.2.2.1.2.2.2.2.2.2.2.2.2.2.2.2.2.2.2.2.2.2.2.2.2.2.1
theorem k0_off167_inb : ∀ (arg21 : BitVec 32) (arg22 : BitVec 32) (k0_hw1 : k0_chk1 arg21 arg22), ∀ a, (k0_off167 arg21 arg22) a + S1x80x256.size a ≤ S16x80x256.size a := fun arg21 arg22 k0_hw1 => k0_hw1.2.2.1.2.2.2.2.2.2.2.2.2.2.2.2.2.2.2.2.2.2.2.2.2.2.2.1
theorem k0_off168_inb : ∀ (arg21 : BitVec 32) (arg22 : BitVec 32) (k0_hw1 : k0_chk1 arg21 arg22), ∀ a, (k0_off168 arg21 arg22) a + S1x128x256.size a ≤ S16x128x1024.size a := fun arg21 arg22 k0_hw1 => k0_hw1.2.2.1.2.2.2.2.2.2.2.2.2.2.2.2.2.2.2.2.2.2.2.2.2.2.2.2.1
theorem k0_off169_inb : ∀ (arg21 : BitVec 32) (arg22 : BitVec 32) (k0_hw1 : k0_chk1 arg21 arg22), ∀ a, (k0_off169 arg21 arg22) a + S1x128x256.size a ≤ S16x128x1024.size a := fun arg21 arg22 k0_hw1 => k0_hw1.2.2.1.2.2.2.2.2.2.2.2.2.2.2.2.2.2.2.2.2.2.2.2.2.2.2.2.2.1
theorem k0_off170_inb : ∀ (arg21 : BitVec 32) (arg22 : BitVec 32) (k0_hw1 : k0_chk1 arg21 arg22), ∀ a, (k0_off170 arg21 arg22) a + S1x128x256.size a ≤ S16x128x1024.size a := fun arg21 arg22 k0_hw1 => k0_hw1.2.2.1.2.2.2.2.2.2.2.2.2.2.2.2.2.2.2.2.2.2.2.2.2.2.2.2.2.2.1
theorem k0_off171_inb : ∀ (arg21 : BitVec 32) (arg22 : BitVec 32) (k0_hw1 : k0_chk1 arg21 arg22), ∀ a, (k0_off171 arg21 arg22) a + S1x1x1024.size a ≤ S16x1x1024.size a := fun arg21 arg22 k0_hw1 => k0_hw1.2.2.1.2.2.2.2.2.2.2.2.2.2.2.2.2.2.2.2.2.2.2.2.2.2.2.2.2.2.2.1
theorem k0_off172_inb : ∀ (arg21 : BitVec 32) (arg22 : BitVec 32) (k0_hw1 : k0_chk1 arg21 arg22), ∀ a, (k0_off172 arg21 arg22) a + S1x80x1024.size a ≤ S16x80x1024.size a := fun arg21 arg22 k0_hw1 => k0_hw1.2.2.1.2.2.2.2.2.2.2.2.2.2.2.2.2.2.2.2.2.2.2.2.2.2.2.2.2.2.2.2.1
theorem k0_mult58_dvd : ∀ (arg21 : BitVec 32) (arg22 : BitVec 32) (k0_hw1 : k0_chk1 arg21 arg22), 256 ∣ (k0_mult58 arg21 arg22).toNat := fun arg21 arg22 k0_hw1 => k0_hw1.2.2.1.2.2.2.2.2.2.2.2.2.2.2.2.2.2.2.2.2.2.2.2.2.2.2.2.2.2.2.2.2.1
theorem k0_off173_inb : ∀ (arg21 : BitVec 32) (arg22 : BitVec 32) (k0_hw1 : k0_chk1 arg21 arg22), ∀ a, (k0_off173 arg21 arg22) a + S256x128.size a ≤ S4096x128.size a := fun arg21 arg22 k0_hw1 => k0_hw1.2.2.1.2.2.2.2.2.2.2.2.2.2.2.2.2.2.2.2.2.2.2.2.2.2.2.2.2.2.2.2.2.2.1
theorem k0_off174_inb : ∀ (arg21 : BitVec 32) (arg22 : BitVec 32) (k0_hw1 : k0_chk1 arg21 arg22), ∀ a, (k0_off174 arg21 arg22) a + S1x128x256.size a ≤ S16x128x1024.size a := fun arg21 arg22 k0_hw1 => k0_hw1.2.2.1.2.2.2.2.2.2.2.2.2.2.2.2.2.2.2.2.2.2.2.2.2.2.2.2.2.2.2.2.2.2.2
theorem k0_off175_inb : ∀ (arg21 : BitVec 32) (arg22 : BitVec 32) (k0_hw1 : k0_chk1 arg21 arg22), ∀ a, (k0_off175 arg21 arg22) a + S1x80x256.size a ≤ S16x80x256.size a := fun arg21 arg22 k0_hw1 => k0_hw1.2.2.2.1.1
theorem k0_off176_inb : ∀ (arg21 : BitVec 32) (arg22 : BitVec 32) (k0_hw1 : k0_chk1 arg21 arg22), ∀ a, (k0_off176 arg21 arg22) a + S1x128x256.size a ≤ S16x128x1024.size a := fun arg21 arg22 k0_hw1 => k0_hw1.2.2.2.1.2.1
theorem k0_off177_inb : ∀ (arg21 : BitVec 32) (arg22 : BitVec 32) (k0_hw1 : k0_chk1 arg21 arg22), ∀ a, (k0_off177 arg21 arg22) a + S1x128x256.size a ≤ S16x128x1024.size a := fun arg21 arg22 k0_hw1 => k0_hw1.2.2.2.1.2.2.1
theorem k0_off178_inb : ∀ (arg21 : BitVec 32) (arg22 : BitVec 32) (k0_hw1 : k0_chk1 arg21 arg22), ∀ a, (k0_off178 arg21 arg22) a + S1x128x256.size a ≤ S16x128x1024.size a := fun arg21 arg22 k0_hw1 => k0_hw1.2.2.2.1.2.2.2.1
theorem k0_off179_inb : ∀ (arg21 : BitVec 32) (arg22 : BitVec 32) (k0_hw1 : k0_chk1 arg21 arg22), ∀ a, (k0_off179 arg21 arg22) a + S1x1x1024.size a ≤ S16x1x1024.size a := fun arg21 arg22 k0_hw1 => k0_hw1.2.2.2.1.2.2.2.2.1
theorem k0_off180_inb : ∀ (arg21 : BitVec 32) (arg22 : BitVec 32) (k0_hw1 : k0_chk1 arg21 arg22), ∀ a, (k0_off180 arg21 arg22) a + S1x80x1024.size a ≤ S16x80x1024.size a := fun arg21 arg22 k0_hw1 => k0_hw1.2.2.2.1.2.2.2.2.2.1
theorem k0_mult59_dvd : ∀ (arg21 : BitVec 32) (arg22 : BitVec 32) (k0_hw1 : k0_chk1 arg21 arg22), 256 ∣ (k0_mult59 arg21 arg22).toNat := fun arg21 arg22 k0_hw1 => k0_hw1.2.2.2.1.2.2.2.2.2.2.1
theorem k0_off181_inb : ∀ (arg21 : BitVec 32) (arg22 : BitVec 32) (k0_hw1 : k0_chk1 arg21 arg22), ∀ a, (k0_off181 arg21 arg22) a + S256x128.size a ≤ S4096x128.size a := fun arg21 arg22 k0_hw1 => k0_hw1.2.2.2.1.2.2.2.2.2.2.2.1
theorem k0_off182_inb : ∀ (arg21 : BitVec 32) (arg22 : BitVec 32) (k0_hw1 : k0_chk1 arg21 arg22), ∀ a, (k0_off182 arg21 arg22) a + S1x128x256.size a ≤ S16x128x1024.size a := fun arg21 arg22 k0_hw1 => k0_hw1.2.2.2.1.2.2.2.2.2.2.2.2.1
theorem k0_off183_inb : ∀ (arg21 : BitVec 32) (arg22 : BitVec 32) (k0_hw1 : k0_chk1 arg21 arg22), ∀ a, (k0_off183 arg21 arg22) a + S1x80x256.size a ≤ S16x80x256.size a := fun arg21 arg22 k0_hw1 => k0_hw1.2.2.2.1.2.2.2.2.2.2.2.2.2.1
theorem k0_off184_inb : ∀ (arg21 : BitVec 32) (arg22 : BitVec 32) (k0_hw1 : k0_chk1 arg21 arg22), ∀ a, (k0_off184 arg21 arg22) a + S1x128x256.size a ≤ S16x128x1024.size a := fun arg21 arg22 k0_hw1 => k0_hw1.2.2.2.1.2.2.2.2.2.2.2.2.2.2.1
theorem k0_off185_inb : ∀ (arg21 : BitVec 32) (arg22 : BitVec 32) (k0_hw1 : k0_chk1 arg21 arg22), ∀ a, (k0_off185 arg21 arg22) a + S1x128x256.size a ≤ S16x128x1024.size a := fun arg21 arg22 k0_hw1 => k0_hw1.2.2.2.1.2.2.2.2.2.2.2.2.2.2.2.1
theorem k0_off186_inb : ∀ (arg21 : BitVec 32) (arg22 : BitVec 32) (k0_hw1 : k0_chk1 arg21 arg22), ∀ a, (k0_off186 arg21 arg22) a + S1x128x256.size a ≤ S16x128x1024.size a := fun arg21 arg22 k0_hw1 => k0_hw1.2.2.2.1.2.2.2.2.2.2.2.2.2.2.2.2.1
theorem k0_off187_inb : ∀ (arg21 : BitVec 32) (arg22 : BitVec 32) (k0_hw1 : k0_chk1 arg21 arg22), ∀ a, (k0_off187 arg21 arg22) a + S1x1x1024.size a ≤ S16x1x1024.size a := fun arg21 arg22 k0_hw1 => k0_hw1.2.2.2.1.2.2.2.2.2.2.2.2.2.2.2.2.2.1
theorem k0_off188_inb : ∀ (arg21 : BitVec 32) (arg22 : BitVec 32) (k0_hw1 : k0_chk1 arg21 arg22), ∀ a, (k0_off188 arg21 arg22) a + S1x80x1024.size a ≤ S16x80x1024.size a := fun arg21 arg22 k0_hw1 => k0_hw1.2.2.2.1.2.2.2.2.2.2.2.2.2.2.2.2.2.2.1
theorem k0_mult60_dvd : ∀ (arg21 : BitVec 32) (arg22 : BitVec 32) (k0_hw1 : k0_chk1 arg21 arg22), 256 ∣ (k0_mult60 arg21 arg22).toNat := fun arg21 arg22 k0_hw1 => k0_hw1.2.2.2.1.2.2.2.2.2.2.2.2.2.2.2.2.2.2.2.1
theorem k0_off189_inb : ∀ (arg21 : BitVec 32) (arg22 : BitVec 32) (k0_hw1 : k0_chk1 arg21 arg22), ∀ a, (k0_off189 arg21 arg22) a + S256x128.size a ≤ S4096x128.size a := fun arg21 arg22 k0_hw1 => k0_hw1.2.2.2.1.2.2.2.2.2.2.2.2.2.2.2.2.2.2.2.2.1
theorem k0_off190_inb : ∀ (arg21 : BitVec 32) (arg22 : BitVec 32) (k0_hw1 : k0_chk1 arg21 arg22), ∀ a, (k0_off190 arg21 arg22) a + S1x128x256.size a ≤ S16x128x1024.size a := fun arg21 arg22 k0_hw1 => k0_hw1.2.2.2.1.2.2.2.2.2.2.2.2.2.2.2.2.2.2.2.2.2.1
theorem k0_off191_inb : ∀ (arg21 : BitVec 32) (arg22 : BitVec 32) (k0_hw1 : k0_chk1 arg21 arg22), ∀ a, (k0_off191 arg21 arg22) a + S1x80x256.size a ≤ S16x80x256.size a := fun arg21 arg22 k0_hw1 => k0_hw1.2.2.2.1.2.2.2.2.2.2.2.2.2.2.2.2.2.2.2.2.2.2.1
theorem k0_off192_inb : ∀ (arg21 : BitVec 32) (arg22 : BitVec 32) (k0_hw1 : k0_chk1 arg21 arg22), ∀ a, (k0_off192 arg21 arg22) a + S1x128x256.size a ≤ S16x128x1024.size a := fun arg21 arg22 k0_hw1 => k0_hw1.2.2.2.1.2.2.2.2.2.2.2.2.2.2.2.2.2.2.2.2.2.2.2.1
theorem k0_off193_inb : ∀ (arg21 : BitVec 32) (arg22 : BitVec 32) (k0_hw1 : k0_chk1 arg21 arg22), ∀ a, (k0_off193 arg21 arg22) a + S1x128x256.size a ≤ S16x128x1024.size a := fun arg21 arg22 k0_hw1 => k0_hw1.2.2.2.1.2.2.2.2.2.2.2.2.2.2.2.2.2.2.2.2.2.2.2.2.1
theorem k0_off194_inb : ∀ (arg21 : BitVec 32) (arg22 : BitVec 32) (k0_hw1 : k0_chk1 arg21 arg22), ∀ a, (k0_off194 arg21 arg22) a + S1x128x256.size a ≤ S16x128x1024.size a := fun arg21 arg22 k0_hw1 => k0_hw1.2.2.2.1.2.2.2.2.2.2.2.2.2.2.2.2.2.2.2.2.2.2.2.2.2.1
theorem k0_off195_inb : ∀ (arg21 : BitVec 32) (arg22 : BitVec 32) (k0_hw1 : k0_chk1 arg21 arg22), ∀ a, (k0_off195 arg21 arg22) a + S1x1x1024.size a ≤ S16x1x1024.size a := fun arg21 arg22 k0_hw1 => k0_hw1.2.2.2.1.2.2.2.2.2.2.2.2.2.2.2.2.2.2.2.2.2.2.2.2.2.2.1
theorem k0_off196_inb : ∀ (arg21 : BitVec 32) (arg22 : BitVec 32) (k0_hw1 : k0_chk1 arg21 arg22), ∀ a, (k0_off196 arg21 arg22) a + S1x80x1024.size a ≤ S16x80x1024.size a := fun arg21 arg22 k0_hw1 => k0_hw1.2.2.2.1.2.2.2.2.2.2.2.2.2.2.2.2.2.2.2.2.2.2.2.2.2.2.2.1
theorem k0_mult61_dvd : ∀ (arg21 : BitVec 32) (arg22 : BitVec 32) (k0_hw1 : k0_chk1 arg21 arg22), 256 ∣ (k0_mult61 arg21 arg22).toNat := fun arg21 arg22 k0_hw1 => k0_hw1.2.2.2.1.2.2.2.2.2.2.2.2.2.2.2.2.2.2.2.2.2.2.2.2.2.2.2.2.1
theorem k0_off197_inb : ∀ (arg21 : BitVec 32) (arg22 : BitVec 32) (k0_hw1 : k0_chk1 arg21 arg22), ∀ a, (k0_off197 arg21 arg22) a + S256x128.size a ≤ S4096x128.size a := fun arg21 arg22 k0_hw1 => k0_hw1.2.2.2.1.2.2.2.2.2.2.2.2.2.2.2.2.2.2.2.2.2.2.2.2.2.2.2.2.2.1
theorem k0_off198_inb : ∀ (arg21 : BitVec 32) (arg22 : BitVec 32) (k0_hw1 : k0_chk1 arg21 arg22), ∀ a, (k0_off198 arg21 arg22) a + S1x128x256.size a ≤ S16x128x1024.size a := fun arg21 arg22 k0_hw1 => k0_hw1.2.2.2.1.2.2.2.2.2.2.2.2.2.2.2.2.2.2.2.2.2.2.2.2.2.2.2.2.2.2.1
theorem k0_off199_inb : ∀ (arg21 : BitVec 32) (arg22 : BitVec 32) (k0_hw1 : k0_chk1 arg21 arg22), ∀ a, (k0_off199 arg21 arg22) a + S1x80x256.size a ≤ S16x80x256.size a := fun arg21 arg22 k0_hw1 => k0_hw1.2.2.2.1.2.2.2.2.2.2.2.2.2.2.2.2.2.2.2.2.2.2.2.2.2.2.2.2.2.2.2.1
theorem k0_off200_inb : ∀ (arg21 : BitVec 32) (arg22 : BitVec 32) (k0_hw1 : k0_chk1 arg21 arg22), ∀ a, (k0_off200 arg21 arg22) a + S1x128x256.size a ≤ S16x128x1024.size a := fun arg21 arg22 k0_hw1 => k0_hw1.2.2.2.1.2.2.2.2.2.2.2.2.2.2.2.2.2.2.2.2.2.2.2.2.2.2.2.2.2.2.2.2.1
theorem k0_off201_inb : ∀ (arg21 : BitVec 32) (arg22 : BitVec 32) (k0_hw1 : k0_chk1 arg21 arg22), ∀ a, (k0_off201 arg21 arg22) a + S1x128x256.size a ≤ S16x128x1024.size a := fun arg21 arg22 k0_hw1 => k0_hw1.2.2.2.1.2.2.2.2.2.2.2.2.2.2.2.2.2.2.2.2.2.2.2.2.2.2.2.2.2.2.2.2.2.1
theorem k0_off202_inb : ∀ (arg21 : BitVec 32) (arg22 : BitVec 32) (k0_hw1 : k0_chk1 arg21 arg22), ∀ a, (k0_off202 arg21 arg22) a + S1x128x256.size a ≤ S16x128x1024.size a := fun arg21 arg22 k0_hw1 => k0_hw1.2.2.2.1.2.2.2.2.2.2.2.2.2.2.2.2.2.2.2.2.2.2.2.2.2.2.2.2.2.2.2.2.2.2.1
theorem k0_off203_inb : ∀ (arg21 : BitVec 32) (arg22 : BitVec 32) (k0_hw1 : k0_chk1 arg21 arg22), ∀ a, (k0_off203 arg21 arg22) a + S1x1x1024.size a ≤ S16x1x1024.size a := fun arg21 arg22 k0_hw1 => k0_hw1.2.2.2.1.2.2.2.2.2.2.2.2.2.2.2.2.2.2.2.2.2.2.2.2.2.2.2.2.2.2.2.2.2.2.2
theorem k0_off204_inb : ∀ (arg21 : BitVec 32) (arg22 : BitVec 32) (k0_hw1 : k0_chk1 arg21 arg22), ∀ a, (k0_off204 arg21 arg22) a + S1x80x1024.size a ≤ S16x80x1024.size a := fun arg21 arg22 k0_hw1 => k0_hw1.2.2.2.2.1.1
theorem k0_mult62_dvd : ∀ (arg21 : BitVec 32) (arg22 : BitVec 32) (k0_hw1 : k0_chk1 arg21 arg22), 256 ∣ (k0_mult62 arg21 arg22).toNat := fun arg21 arg22 k0_hw1 => k0_hw1.2.2.2.2.1.2.1
theorem k0_off205_inb : ∀ (arg21 : BitVec 32) (arg22 : BitVec 32) (k0_hw1 : k0_chk1 arg21 arg22), ∀ a, (k0_off205 arg21 arg22) a + S256x128.size a ≤ S4096x128.size a := fun arg21 arg22 k0_hw1 => k0_hw1.2.2.2.2.1.2.2.1
theorem k0_off206_inb : ∀ (arg21 : BitVec 32) (arg22 : BitVec 32) (k0_hw1 : k0_chk1 arg21 arg22), ∀ a, (k0_off206 arg21 arg22) a + S1x128x256.size a ≤ S16x128x1024.size a := fun arg21 arg22 k0_hw1 => k0_hw1.2.2.2.2.1.2.2.2.1
theorem k0_off207_inb : ∀ (arg21 : BitVec 32) (arg22 : BitVec 32) (k0_hw1 : k0_chk1 arg21 arg22), ∀ a, (k0_off207 arg21 arg22) a + S1x80x256.size a ≤ S16x80x256.size a := fun arg21 arg22 k0_hw1 => k0_hw1.2.2.2.2.1.2.2.2.2.1
theorem k0_off208_inb : ∀ (arg21 : BitVec 32) (arg22 : BitVec 32) (k0_hw1 : k0_chk1 arg21 arg22), ∀ a, (k0_off208 arg21 arg22) a + S1x128x256.size a ≤ S16x128x1024.size a := fun arg21 arg22 k0_hw1 => k0_hw1.2.2.2.2.1.2.2.2.2.2.1
theorem k0_off209_inb : ∀ (arg21 : BitVec 32) (arg22 : BitVec 32) (k0_hw1 : k0_chk1 arg21 arg22), ∀ a, (k0_off209 arg21 arg22) a + S1x128x256.size a ≤ S16x128x1024.size a := fun arg21 arg22 k0_hw1 => k0_hw1.2.2.2.2.1.2.2.2.2.2.2.1
theorem k0_off210_inb : ∀ (arg21 : BitVec 32) (arg22 : BitVec 32) (k0_hw1 : k0_chk1 arg21 arg22), ∀ a, (k0_off210 arg21 arg22) a + S1x128x256.size a ≤ S16x128x1024.size a := fun arg21 arg22 k0_hw1 => k0_hw1.2.2.2.2.1.2.2.2.2.2.2.2.1
theorem k0_off211_inb : ∀ (arg21 : BitVec 32) (arg22 : BitVec 32) (k0_hw1 : k0_chk1 arg21 arg22), ∀ a, (k0_off211 arg21 arg22) a + S1x1x1024.size a ≤ S16x1x1024.size a := fun arg21 arg22 k0_hw1 => k0_hw1.2.2.2.2.1.2.2.2.2.2.2.2.2.1
theorem k0_off212_inb : ∀ (arg21 : BitVec 32) (arg22 : BitVec 32) (k0_hw1 : k0_chk1 arg21 arg22), ∀ a, (k0_off212 arg21 arg22) a + S1x80x1024.size a ≤ S16x80x1024.size a := fun arg21 arg22 k0_hw1 => k0_hw1.2.2.2.2.1.2.2.2.2.2.2.2.2.2.1
theorem k0_mult63_dvd : ∀ (arg21 : BitVec 32) (arg22 : BitVec 32) (k0_hw1 : k0_chk1 arg21 arg22), 256 ∣ (k0_mult63 arg21 arg22).toNat := fun arg21 arg22 k0_hw1 => k0_hw1.2.2.2.2.1.2.2.2.2.2.2.2.2.2.2.1
theorem k0_off213_inb : ∀ (arg21 : BitVec 32) (arg22 : BitVec 32) (k0_hw1 : k0_chk1 arg21 arg22), ∀ a, (k0_off213 arg21 arg22) a + S256x128.size a ≤ S4096x128.size a := fun arg21 arg22 k0_hw1 => k0_hw1.2.2.2.2.1.2.2.2.2.2.2.2.2.2.2.2.1
theorem k0_off214_inb : ∀ (arg21 : BitVec 32) (arg22 : BitVec 32) (k0_hw1 : k0_chk1 arg21 arg22), ∀ a, (k0_off214 arg21 arg22) a + S1x128x256.size a ≤ S16x128x1024.size a := fun arg21 arg22 k0_hw1 => k0_hw1.2.2.2.2.1.2.2.2.2.2.2.2.2.2.2.2.2.1
theorem k0_off215_inb : ∀ (arg21 : BitVec 32) (arg22 : BitVec 32) (k0_hw1 : k0_chk1 arg21 arg22), ∀ a, (k0_off215 arg21 arg22) a + S1x80x256.size a ≤ S16x80x256.size a := fun arg21 arg22 k0_hw1 => k0_hw1.2.2.2.2.1.2.2.2.2.2.2.2.2.2.2.2.2.2.1
theorem k0_off216_inb : ∀ (arg21 : BitVec 32) (arg22 : BitVec 32) (k0_hw1 : k0_chk1 arg21 arg22), ∀ a, (k0_off216 arg21 arg22) a + S1x128x256.size a ≤ S16x128x1024.size a := fun arg21 arg22 k0_hw1 => k0_hw1.2.2.2.2.1.2.2.2.2.2.2.2.2.2.2.2.2.2.2.1
theorem k0_off217_inb : ∀ (arg21 : BitVec 32) (arg22 : BitVec 32) (k0_hw1 : k0_chk1 arg21 arg22), ∀ a, (k0_off217 arg21 arg22) a + S1x128x256.size a ≤ S16x128x1024.size a := fun arg21 arg22 k0_hw1 => k0_hw1.2.2.2.2.1.2.2.2.2.2.2.2.2.2.2.2.2.2.2.2.1
theorem k0_off218_inb : ∀ (arg21 : BitVec 32) (arg22 : BitVec 32) (k0_hw1 : k0_chk1 arg21 arg22), ∀ a, (k0_off218 arg21 arg22) a + S1x128x256.size a ≤ S16x128x1024.size a := fun arg21 arg22 k0_hw1 => k0_hw1.2.2.2.2.1.2.2.2.2.2.2.2.2.2.2.2.2.2.2.2.2.1
theorem k0_off219_inb : ∀ (arg21 : BitVec 32) (arg22 : BitVec 32) (k0_hw1 : k0_chk1 arg21 arg22), ∀ a, (k0_off219 arg21 arg22) a + S1x1x1024.size a ≤ S16x1x1024.size a := fun arg21 arg22 k0_hw1 => k0_hw1.2.2.2.2.1.2.2.2.2.2.2.2.2.2.2.2.2.2.2.2.2.2.1
theorem k0_off220_inb : ∀ (arg21 : BitVec 32) (arg22 : BitVec 32) (k0_hw1 : k0_chk1 arg21 arg22), ∀ a, (k0_off220 arg21 arg22) a + S1x80x1024.size a ≤ S16x80x1024.size a := fun arg21 arg22 k0_hw1 => k0_hw1.2.2.2.2.1.2.2.2.2.2.2.2.2.2.2.2.2.2.2.2.2.2.2.1
theorem k0_mult64_dvd : ∀ (arg21 : BitVec 32) (arg22 : BitVec 32) (k0_hw1 : k0_chk1 arg21 arg22), 256 ∣ (k0_mult64 arg21 arg22).toNat := fun arg21 arg22 k0_hw1 => k0_hw1.2.2.2.2.1.2.2.2.2.2.2.2.2.2.2.2.2.2.2.2.2.2.2.2.1
theorem k0_off221_inb : ∀ (arg21 : BitVec 32) (arg22 : BitVec 32) (k0_hw1 : k0_chk1 arg21 arg22), ∀ a, (k0_off221 arg21 arg22) a + S256x128.size a ≤ S4096x128.size a := fun arg21 arg22 k0_hw1 => k0_hw1.2.2.2.2.1.2.2.2.2.2.2.2.2.2.2.2.2.2.2.2.2.2.2.2.2.1
theorem k0_off222_inb : ∀ (arg21 : BitVec 32) (arg22 : BitVec 32) (k0_hw1 : k0_chk1 arg21 arg22), ∀ a, (k0_off222 arg21 arg22) a + S1x128x256.size a ≤ S16x128x1024.size a := fun arg21 arg22 k0_hw1 => k0_hw1.2.2.2.2.1.2.2.2.2.2.2.2.2.2.2.2.2.2.2.2.2.2.2.2.2.2.1
theorem k0_off223_inb : ∀ (arg21 : BitVec 32) (arg22 : BitVec 32) (k0_hw1 : k0_chk1 arg21 arg22), ∀ a, (k0_off223 arg21 arg22) a + S1x80x256.size a ≤ S16x80x256.size a := fun arg21 arg22 k0_hw1 => k0_hw1.2.2.2.2.1.2.2.2.2.2.2.2.2.2.2.2.2.2.2.2.2.2.2.2.2.2.2.1
theorem k0_off224_inb : ∀ (arg21 : BitVec 32) (arg22 : BitVec 32) (k0_hw1 : k0_chk1 arg21 arg22), ∀ a, (k0_off224 arg21 arg22) a + S1x128x256.size a ≤ S16x128x1024.size a := fun arg21 arg22 k0_hw1 => k0_hw1.2.2.2.2.1.2.2.2.2.2.2.2.2.2.2.2.2.2.2.2.2.2.2.2.2.2.2.2.1
theorem k0_off225_inb : ∀ (arg21 : BitVec 32) (arg22 : BitVec 32) (k0_hw1 : k0_chk1 arg21 arg22), ∀ a, (k0_off225 arg21 arg22) a + S1x128x256.size a ≤ S16x128x1024.size a := fun arg21 arg22 k0_hw1 => k0_hw1.2.2.2.2.1.2.2.2.2.2.2.2.2.2.2.2.2.2.2.2.2.2.2.2.2.2.2.2.2.1
theorem k0_off226_inb : ∀ (arg21 : BitVec 32) (arg22 : BitVec 32) (k0_hw1 : k0_chk1 arg21 arg22), ∀ a, (k0_off226 arg21 arg22) a + S1x128x256.size a ≤ S16x128x1024.size a := fun arg21 arg22 k0_hw1 => k0_hw1.2.2.2.2.1.2.2.2.2.2.2.2.2.2.2.2.2.2.2.2.2.2.2.2.2.2.2.2.2.2.1
theorem k0_off227_inb : ∀ (arg21 : BitVec 32) (arg22 : BitVec 32) (k0_hw1 : k0_chk1 arg21 arg22), ∀ a, (k0_off227 arg21 arg22) a + S1x1x1024.size a ≤ S16x1x1024.size a := fun arg21 arg22 k0_hw1 => k0_hw1.2.2.2.2.1.2.2.2.2.2.2.2.2.2.2.2.2.2.2.2.2.2.2.2.2.2.2.2.2.2.2.1
theorem k0_off228_inb : ∀ (arg21 : BitVec 32) (arg22 : BitVec 32) (k0_hw1 : k0_chk1 arg21 arg22), ∀ a, (k0_off228 arg21 arg22) a + S1x80x1024.size a ≤ S16x80x1024.size a := fun arg21 arg22 k0_hw1 => k0_hw1.2.2.2.2.1.2.2.2.2.2.2.2.2.2.2.2.2.2.2.2.2.2.2.2.2.2.2.2.2.2.2.2.1
theorem k0_mult65_dvd : ∀ (arg21 : BitVec 32) (arg22 : BitVec 32) (k0_hw1 : k0_chk1 arg21 arg22), 256 ∣ (k0_mult65 arg21 arg22).toNat := fun arg21 arg22 k0_hw1 => k0_hw1.2.2.2.2.1.2.2.2.2.2.2.2.2.2.2.2.2.2.2.2.2.2.2.2.2.2.2.2.2.2.2.2.2.1
theorem k0_off229_inb : ∀ (arg21 : BitVec 32) (arg22 : BitVec 32) (k0_hw1 : k0_chk1 arg21 arg22), ∀ a, (k0_off229 arg21 arg22) a + S256x128.size a ≤ S4096x128.size a := fun arg21 arg22 k0_hw1 => k0_hw1.2.2.2.2.1.2.2.2.2.2.2.2.2.2.2.2.2.2.2.2.2.2.2.2.2.2.2.2.2.2.2.2.2.2.1
theorem k0_off230_inb : ∀ (arg21 : BitVec 32) (arg22 : BitVec 32) (k0_hw1 : k0_chk1 arg21 arg22), ∀ a, (k0_off230 arg21 arg22) a + S1x128x256.size a ≤ S16x128x1024.size a := fun arg21 arg22 k0_hw1 => k0_hw1.2.2.2.2.1.2.2.2.2.2.2.2.2.2.2.2.2.2.2.2.2.2.2.2.2.2.2.2.2.2.2.2.2.2.2.1
theorem k0_off231_inb : ∀ (arg21 : BitVec 32) (arg22 : BitVec 32) (k0_hw1 : k0_chk1 arg21 arg22), ∀ a, (k0_off231 arg21 arg22) a + S1x80x256.size a ≤ S16x80x256.size a := fun arg21 arg22 k0_hw1 => k0_hw1.2.2.2.2.1.2.2.2.2.2.2.2.2.2.2.2.2.2.2.2.2.2.2.2.2.2.2.2.2.2.2.2.2.2.2.2
theorem k0_off232_inb : ∀ (arg21 : BitVec 32) (arg22 : BitVec 32) (k0_hw1 : k0_chk1 arg21 arg22), ∀ a, (k0_off232 arg21 arg22) a + S1x128x256.size a ≤ S16x128x1024.size a := fun arg21 arg22 k0_hw1 => k0_hw1.2.2.2.2.2.1.1
theorem k0_off233_inb : ∀ (arg21 : BitVec 32) (arg22 : BitVec 32) (k0_hw1 : k0_chk1 arg21 arg22), ∀ a, (k0_off233 arg21 arg22) a + S1x128x256.size a ≤ S16x128x1024.size a := fun arg21 arg22 k0_hw1 => k0_hw1.2.2.2.2.2.1.2.1
theorem k0_off234_inb : ∀ (arg21 : BitVec 32) (arg22 : BitVec 32) (k0_hw1 : k0_chk1 arg21 arg22), ∀ a, (k0_off234 arg21 arg22) a + S1x128x256.size a ≤ S16x128x1024.size a := fun arg21 arg22 k0_hw1 => k0_hw1.2.2.2.2.2.1.2.2.1
theorem k0_off235_inb : ∀ (arg21 : BitVec 32) (arg22 : BitVec 32) (k0_hw1 : k0_chk1 arg21 arg22), ∀ a, (k0_off235 arg21 arg22) a + S1x1x1024.size a ≤ S16x1x1024.size a := fun arg21 arg22 k0_hw1 => k0_hw1.2.2.2.2.2.1.2.2.2.1
theorem k0_off236_inb : ∀ (arg21 : BitVec 32) (arg22 : BitVec 32) (k0_hw1 : k0_chk1 arg21 arg22), ∀ a, (k0_off236 arg21 arg22) a + S1x80x1024.size a ≤ S16x80x1024.size a := fun arg21 arg22 k0_hw1 => k0_hw1.2.2.2.2.2.1.2.2.2.2.1
theorem k0_mult66_dvd : ∀ (arg21 : BitVec 32) (arg22 : BitVec 32) (k0_hw1 : k0_chk1 arg21 arg22), 256 ∣ (k0_mult66 arg21 arg22).toNat := fun arg21 arg22 k0_hw1 => k0_hw1.2.2.2.2.2.1.2.2.2.2.2.1
theorem k0_off237_inb : ∀ (arg21 : BitVec 32) (arg22 : BitVec 32) (k0_hw1 : k0_chk1 arg21 arg22), ∀ a, (k0_off237 arg21 arg22) a + S256x128.size a ≤ S4096x128.size a := fun arg21 arg22 k0_hw1 => k0_hw1.2.2.2.2.2.1.2.2.2.2.2.2.1
theorem k0_off238_inb : ∀ (arg21 : BitVec 32) (arg22 : BitVec 32) (k0_hw1 : k0_chk1 arg21 arg22), ∀ a, (k0_off238 arg21 arg22) a + S1x128x256.size a ≤ S16x128x1024.size a := fun arg21 arg22 k0_hw1 => k0_hw1.2.2.2.2.2.1.2.2.2.2.2.2.2.1
theorem k0_off239_inb : ∀ (arg21 : BitVec 32) (arg22 : BitVec 32) (k0_hw1 : k0_chk1 arg21 arg22), ∀ a, (k0_off239 arg21 arg22) a + S1x80x256.size a ≤ S16x80x256.size a := fun arg21 arg22 k0_hw1 => k0_hw1.2.2.2.2.2.1.2.2.2.2.2.2.2.2.1
theorem k0_off240_inb : ∀ (arg21 : BitVec 32) (arg22 : BitVec 32) (k0_hw1 : k0_chk1 arg21 arg22), ∀ a, (k0_off240 arg21 arg22) a + S1x128x256.size a ≤ S16x128x1024.size a := fun arg21 arg22 k0_hw1 => k0_hw1.2.2.2.2.2.1.2.2.2.2.2.2.2.2.2.1
theorem k0_off241_inb : ∀ (arg21 : BitVec 32) (arg22 : BitVec 32) (k0_hw1 : k0_chk1 arg21 arg22), ∀ a, (k0_off241 arg21 arg22) a + S1x128x256.size a ≤ S16x128x1024.size a := fun arg21 arg22 k0_hw1 => k0_hw1.2.2.2.2.2.1.2.2.2.2.2.2.2.2.2.2.1
theorem k0_off242_inb : ∀ (arg21 : BitVec 32) (arg22 : BitVec 32) (k0_hw1 : k0_chk1 arg21 arg22), ∀ a, (k0_off242 arg21 arg22) a + S1x128x256.size a ≤ S16x128x1024.size a := fun arg21 arg22 k0_hw1 => k0_hw1.2.2.2.2.2.1.2.2.2.2.2.2.2.2.2.2.2.1
theorem k0_off243_inb : ∀ (arg21 : BitVec 32) (arg22 : BitVec 32) (k0_hw1 : k0_chk1 arg21 arg22), ∀ a, (k0_off243 arg21 arg22) a + S1x1x1024.size a ≤ S16x1x1024.size a := fun arg21 arg22 k0_hw1 => k0_hw1.2.2.2.2.2.1.2.2.2.2.2.2.2.2.2.2.2.2.1
theorem k0_off244_inb : ∀ (arg21 : BitVec 32) (arg22 : BitVec 32) (k0_hw1 : k0_chk1 arg21 arg22), ∀ a, (k0_off244 arg21 arg22) a + S1x80x1024.size a ≤ S16x80x1024.size a := fun arg21 arg22 k0_hw1 => k0_hw1.2.2.2.2.2.1.2.2.2.2.2.2.2.2.2.2.2.2.2.1
theorem k0_mult67_dvd : ∀ (arg21 : BitVec 32) (arg22 : BitVec 32) (k0_hw1 : k0_chk1 arg21 arg22), 256 ∣ (k0_mult67 arg21 arg22).toNat := fun arg21 arg22 k0_hw1 => k0_hw1.2.2.2.2.2.1.2.2.2.2.2.2.2.2.2.2.2.2.2.2.1
theorem k0_off245_inb : ∀ (arg21 : BitVec 32) (arg22 : BitVec 32) (k0_hw1 : k0_chk1 arg21 arg22), ∀ a, (k0_off245 arg21 arg22) a + S256x128.size a ≤ S4096x128.size a := fun arg21 arg22 k0_hw1 => k0_hw1.2.2.2.2.2.1.2.2.2.2.2.2.2.2.2.2.2.2.2.2.2.1
theorem k0_off246_inb : ∀ (arg21 : BitVec 32) (arg22 : BitVec 32) (k0_hw1 : k0_chk1 arg21 arg22), ∀ a, (k0_off246 arg21 arg22) a + S1x128x256.size a ≤ S16x128x1024.size a := fun arg21 arg22 k0_hw1 => k0_hw1.2.2.2.2.2.1.2.2.2.2.2.2.2.2.2.2.2.2.2.2.2.2.1
theorem k0_off247_inb : ∀ (arg21 : BitVec 32) (arg22 : BitVec 32) (k0_hw1 : k0_chk1 arg21 arg22), ∀ a, (k0_off247 arg21 arg22) a + S1x80x256.size a ≤ S16x80x256.size a := fun arg21 arg22 k0_hw1 => k0_hw1.2.2.2.2.2.1.2.2.2.2.2.2.2.2.2.2.2.2.2.2.2.2.2.1
theorem k0_off248_inb : ∀ (arg21 : BitVec 32) (arg22 : BitVec 32) (k0_hw1 : k0_chk1 arg21 arg22), ∀ a, (k0_off248 arg21 arg22) a + S1x128x256.size a ≤ S16x128x1024.size a := fun arg21 arg22 k0_hw1 => k0_hw1.2.2.2.2.2.1.2.2.2.2.2.2.2.2.2.2.2.2.2.2.2.2.2.2.1
theorem k0_off249_inb : ∀ (arg21 : BitVec 32) (arg22 : BitVec 32) (k0_hw1 : k0_chk1 arg21 arg22), ∀ a, (k0_off249 arg21 arg22) a + S1x128x256.size a ≤ S16x128x1024.size a := fun arg21 arg22 k0_hw1 => k0_hw1.2.2.2.2.2.1.2.2.2.2.2.2.2.2.2.2.2.2.2.2.2.2.2.2.2.1
theorem k0_off250_inb : ∀ (arg21 : BitVec 32) (arg22 : BitVec 32) (k0_hw1 : k0_chk1 arg21 arg22), ∀ a, (k0_off250 arg21 arg22) a + S1x128x256.size a ≤ S16x128x1024.size a := fun arg21 arg22 k0_hw1 => k0_hw1.2.2.2.2.2.1.2.2.2.2.2.2.2.2.2.2.2.2.2.2.2.2.2.2.2.2.1
theorem k0_off251_inb : ∀ (arg21 : BitVec 32) (arg22 : BitVec 32) (k0_hw1 : k0_chk1 arg21 arg22), ∀ a, (k0_off251 arg21 arg22) a + S1x1x1024.size a ≤ S16x1x1024.size a := fun arg21 arg22 k0_hw1 => k0_hw1.2.2.2.2.2.1.2.2.2.2.2.2.2.2.2.2.2.2.2.2.2.2.2.2.2.2.2.1
theorem k0_off252_inb : ∀ (arg21 : BitVec 32) (arg22 : BitVec 32) (k0_hw1 : k0_chk1 arg21 arg22), ∀ a, (k0_off252 arg21 arg22) a + S1x80x1024.size a ≤ S16x80x1024.size a := fun arg21 arg22 k0_hw1 => k0_hw1.2.2.2.2.2.1.2.2.2.2.2.2.2.2.2.2.2.2.2.2.2.2.2.2.2.2.2.2.1
theorem k0_mult68_dvd : ∀ (arg21 : BitVec 32) (arg22 : BitVec 32) (k0_hw1 : k0_chk1 arg21 arg22), 256 ∣ (k0_mult68 arg21 arg22).toNat := fun arg21 arg22 k0_hw1 => k0_hw1.2.2.2.2.2.1.2.2.2.2.2.2.2.2.2.2.2.2.2.2.2.2.2.2.2.2.2.2.2.1
theorem k0_off253_inb : ∀ (arg21 : BitVec 32) (arg22 : BitVec 32) (k0_hw1 : k0_chk1 arg21 arg22), ∀ a, (k0_off253 arg21 arg22) a + S256x128.size a ≤ S4096x128.size a := fun arg21 arg22 k0_hw1 => k0_hw1.2.2.2.2.2.1.2.2.2.2.2.2.2.2.2.2.2.2.2.2.2.2.2.2.2.2.2.2.2.2.1
theorem k0_off254_inb : ∀ (arg21 : BitVec 32) (arg22 : BitVec 32) (k0_hw1 : k0_chk1 arg21 arg22), ∀ a, (k0_off254 arg21 arg22) a + S1x128x256.size a ≤ S16x128x1024.size a := fun arg21 arg22 k0_hw1 => k0_hw1.2.2.2.2.2.1.2.2.2.2.2.2.2.2.2.2.2.2.2.2.2.2.2.2.2.2.2.2.2.2.2.1
theorem k0_off255_inb : ∀ (arg21 : BitVec 32) (arg22 : BitVec 32) (k0_hw1 : k0_chk1 arg21 arg22), ∀ a, (k0_off255 arg21 arg22) a + S1x80x256.size a ≤ S16x80x256.size a := fun arg21 arg22 k0_hw1 => k0_hw1.2.2.2.2.2.1.2.2.2.2.2.2.2.2.2.2.2.2.2.2.2.2.2.2.2.2.2.2.2.2.2.2.1
theorem k0_off256_inb : ∀ (arg21 : BitVec 32) (arg22 : BitVec 32) (k0_hw1 : k0_chk1 arg21 arg22), ∀ a, (k0_off256 arg21 arg22) a + S1x128x256.size a ≤ S16x128x1024.size a := fun arg21 arg22 k0_hw1 => k0_hw1.2.2.2.2.2.1.2.2.2.2.2.2.2.2.2.2.2.2.2.2.2.2.2.2.2.2.2.2.2.2.2.2.2.1
theorem k0_off257_inb : ∀ (arg21 : BitVec 32) (arg22 : BitVec 32) (k0_hw1 : k0_chk1 arg21 arg22), ∀ a, (k0_off257 arg21 arg22) a + S1x128x256.size a ≤ S16x128x1024.size a := fun arg21 arg22 k0_hw1 => k0_hw1.2.2.2.2.2.1.2.2.2.2.2.2.2.2.2.2.2.2.2.2.2.2.2.2.2.2.2.2.2.2.2.2.2.2.1
theorem k0_off258_inb : ∀ (arg21 : BitVec 32) (arg22 : BitVec 32) (k0_hw1 : k0_chk1 arg21 arg22), ∀ a, (k0_off258 arg21 arg22) a + S1x128x256.size a ≤ S16x128x1024.size a := fun arg21 arg22 k0_hw1 => k0_hw1.2.2.2.2.2.1.2.2.2.2.2.2.2.2.2.2.2.2.2.2.2.2.2.2.2.2.2.2.2.2.2.2.2.2.2.1
theorem k0_off259_inb : ∀ (arg21 : BitVec 32) (arg22 : BitVec 32) (k0_hw1 : k0_chk1 arg21 arg22), ∀ a, (k0_off259 arg21 arg22) a + S1x1x1024.size a ≤ S16x1x1024.size a := fun arg21 arg22 k0_hw1 => k0_hw1.2.2.2.2.2.1.2.2.2.2.2.2.2.2.2.2.2.2.2.2.2.2.2.2.2.2.2.2.2.2.2.2.2.2.2.2.1
theorem k0_off260_inb : ∀ (arg21 : BitVec 32) (arg22 : BitVec 32) (k0_hw1 : k0_chk1 arg21 arg22), ∀ a, (k0_off260 arg21 arg22) a + S1x80x1024.size a ≤ S16x80x1024.size a := fun arg21 arg22 k0_hw1 => k0_hw1.2.2.2.2.2.1.2.2.2.2.2.2.2.2.2.2.2.2.2.2.2.2.2.2.2.2.2.2.2.2.2.2.2.2.2.2.2
theorem k0_mult69_dvd : ∀ (arg21 : BitVec 32) (arg22 : BitVec 32) (k0_hw1 : k0_chk1 arg21 arg22), 256 ∣ (k0_mult69 arg21 arg22).toNat := fun arg21 arg22 k0_hw1 => k0_hw1.2.2.2.2.2.2.1.1
theorem k0_off261_inb : ∀ (arg21 : BitVec 32) (arg22 : BitVec 32) (k0_hw1 : k0_chk1 arg21 arg22), ∀ a, (k0_off261 arg21 arg22) a + S256x128.size a ≤ S4096x128.size a := fun arg21 arg22 k0_hw1 => k0_hw1.2.2.2.2.2.2.1.2.1
theorem k0_off262_inb : ∀ (arg21 : BitVec 32) (arg22 : BitVec 32) (k0_hw1 : k0_chk1 arg21 arg22), ∀ a, (k0_off262 arg21 arg22) a + S1x128x256.size a ≤ S16x128x1024.size a := fun arg21 arg22 k0_hw1 => k0_hw1.2.2.2.2.2.2.1.2.2.1
theorem k0_off263_inb : ∀ (arg21 : BitVec 32) (arg22 : BitVec 32) (k0_hw1 : k0_chk1 arg21 arg22), ∀ a, (k0_off263 arg21 arg22) a + S1x80x256.size a ≤ S16x80x256.size a := fun arg21 arg22 k0_hw1 => k0_hw1.2.2.2.2.2.2.1.2.2.2.1
theorem k0_off264_inb : ∀ (arg21 : BitVec 32) (arg22 : BitVec 32) (k0_hw1 : k0_chk1 arg21 arg22), ∀ a, (k0_off264 arg21 arg22) a + S1x128x256.size a ≤ S16x128x1024.size a := fun arg21 arg22 k0_hw1 => k0_hw1.2.2.2.2.2.2.1.2.2.2.2.1
theorem k0_off265_inb : ∀ (arg21 : BitVec 32) (arg22 : BitVec 32) (k0_hw1 : k0_chk1 arg21 arg22), ∀ a, (k0_off265 arg21 arg22) a + S1x128x256.size a ≤ S16x128x1024.size a := fun arg21 arg22 k0_hw1 => k0_hw1.2.2.2.2.2.2.1.2.2.2.2.2.1
theorem k0_off266_inb : ∀ (arg21 : BitVec 32) (arg22 : BitVec 32) (k0_hw1 : k0_chk1 arg21 arg22), ∀ a, (k0_off266 arg21 arg22) a + S1x128x256.size a ≤ S16x128x1024.size a := fun arg21 arg22 k0_hw1 => k0_hw1.2.2.2.2.2.2.1.2.2.2.2.2.2.1
theorem k0_off267_inb : ∀ (arg21 : BitVec 32) (arg22 : BitVec 32) (k0_hw1 : k0_chk1 arg21 arg22), ∀ a, (k0_off267 arg21 arg22) a + S1x1x1024.size a ≤ S16x1x1024.size a := fun arg21 arg22 k0_hw1 => k0_hw1.2.2.2.2.2.2.1.2.2.2.2.2.2.2.1
theorem k0_off268_inb : ∀ (arg21 : BitVec 32) (arg22 : BitVec 32) (k0_hw1 : k0_chk1 arg21 arg22), ∀ a, (k0_off268 arg21 arg22) a + S1x80x1024.size a ≤ S16x80x1024.size a := fun arg21 arg22 k0_hw1 => k0_hw1.2.2.2.2.2.2.1.2.2.2.2.2.2.2.2.1
theorem k0_mult70_dvd : ∀ (arg21 : BitVec 32) (arg22 : BitVec 32) (k0_hw1 : k0_chk1 arg21 arg22), 256 ∣ (k0_mult70 arg21 arg22).toNat := fun arg21 arg22 k0_hw1 => k0_hw1.2.2.2.2.2.2.1.2.2.2.2.2.2.2.2.2.1
theorem k0_off269_inb : ∀ (arg21 : BitVec 32) (arg22 : BitVec 32) (k0_hw1 : k0_chk1 arg21 arg22), ∀ a, (k0_off269 arg21 arg22) a + S256x128.size a ≤ S4096x128.size a := fun arg21 arg22 k0_hw1 => k0_hw1.2.2.2.2.2.2.1.2.2.2.2.2.2.2.2.2.2.1
theorem k0_off270_inb : ∀ (arg21 : BitVec 32) (arg22 : BitVec 32) (k0_hw1 : k0_chk1 arg21 arg22), ∀ a, (k0_off270 arg21 arg22) a + S1x128x256.size a ≤ S16x128x1024.size a := fun arg21 arg22 k0_hw1 => k0_hw1.2.2.2.2.2.2.1.2.2.2.2.2.2.2.2.2.2.2.1
theorem k0_off271_inb : ∀ (arg21 : BitVec 32) (arg22 : BitVec 32) (k0_hw1 : k0_chk1 arg21 arg22), ∀ a, (k0_off271 arg21 arg22) a + S1x80x256.size a ≤ S16x80x256.size a := fun arg21 arg22 k0_hw1 => k0_hw1.2.2.2.2.2.2.1.2.2.2.2.2.2.2.2.2.2.2.2.1
theorem k0_off272_inb : ∀ (arg21 : BitVec 32) (arg22 : BitVec 32) (k0_hw1 : k0_chk1 arg21 arg22), ∀ a, (k0_off272 arg21 arg22) a + S1x128x256.size a ≤ S16x128x1024.size a := fun arg21 arg22 k0_hw1 => k0_hw1.2.2.2.2.2.2.1.2.2.2.2.2.2.2.2.2.2.2.2.2.1
theorem k0_off273_inb : ∀ (arg21 : BitVec 32) (arg22 : BitVec 32) (k0_hw1 : k0_chk1 arg21 arg22), ∀ a, (k0_off273 arg21 arg22) a + S1x128x256.size a ≤ S16x128x1024.size a := fun arg21 arg22 k0_hw1 => k0_hw1.2.2.2.2.2.2.1.2.2.2.2.2.2.2.2.2.2.2.2.2.2.1
theorem k0_off274_inb : ∀ (arg21 : BitVec 32) (arg22 : BitVec 32) (k0_hw1 : k0_chk1 arg21 arg22), ∀ a, (k0_off274 arg21 arg22) a + S1x128x256.size a ≤ S16x128x1024.size a := fun arg21 arg22 k0_hw1 => k0_hw1.2.2.2.2.2.2.1.2.2.2.2.2.2.2.2.2.2.2.2.2.2.2.1
theorem k0_off275_inb : ∀ (arg21 : BitVec 32) (arg22 : BitVec 32) (k0_hw1 : k0_chk1 arg21 arg22), ∀ a, (k0_off275 arg21 arg22) a + S1x1x1024.size a ≤ S16x1x1024.size a := fun arg21 arg22 k0_hw1 => k0_hw1.2.2.2.2.2.2.1.2.2.2.2.2.2.2.2.2.2.2.2.2.2.2.2.1
theorem k0_off276_inb : ∀ (arg21 : BitVec 32) (arg22 : BitVec 32) (k0_hw1 : k0_chk1 arg21 arg22), ∀ a, (k0_off276 arg21 arg22) a + S1x80x1024.size a ≤ S16x80x1024.size a := fun arg21 arg22 k0_hw1 => k0_hw1.2.2.2.2.2.2.1.2.2.2.2.2.2.2.2.2.2.2.2.2.2.2.2.2.1
theorem k0_mult71_dvd : ∀ (arg21 : BitVec 32) (arg22 : BitVec 32) (k0_hw1 : k0_chk1 arg21 arg22), 256 ∣ (k0_mult71 arg21 arg22).toNat := fun arg21 arg22 k0_hw1 => k0_hw1.2.2.2.2.2.2.1.2.2.2.2.2.2.2.2.2.2.2.2.2.2.2.2.2.2.1
theorem k0_off277_inb : ∀ (arg21 : BitVec 32) (arg22 : BitVec 32) (k0_hw1 : k0_chk1 arg21 arg22), ∀ a, (k0_off277 arg21 arg22) a + S256x128.size a ≤ S4096x128.size a := fun arg21 arg22 k0_hw1 => k0_hw1.2.2.2.2.2.2.1.2.2.2.2.2.2.2.2.2.2.2.2.2.2.2.2.2.2.2.1
theorem k0_off278_inb : ∀ (arg21 : BitVec 32) (arg22 : BitVec 32) (k0_hw1 : k0_chk1 arg21 arg22), ∀ a, (k0_off278 arg21 arg22) a + S1x128x256.size a ≤ S16x128x1024.size a := fun arg21 arg22 k0_hw1 => k0_hw1.2.2.2.2.2.2.1.2.2.2.2.2.2.2.2.2.2.2.2.2.2.2.2.2.2.2.2.1
theorem k0_off279_inb : ∀ (arg21 : BitVec 32) (arg22 : BitVec 32) (k0_hw1 : k0_chk1 arg21 arg22), ∀ a, (k0_off279 arg21 arg22) a + S1x80x256.size a ≤ S16x80x256.size a := fun arg21 arg22 k0_hw1 => k0_hw1.2.2.2.2.2.2.1.2.2.2.2.2.2.2.2.2.2.2.2.2.2.2.2.2.2.2.2.2.1
theorem k0_off280_inb : ∀ (arg21 : BitVec 32) (arg22 : BitVec 32) (k0_hw1 : k0_chk1 arg21 arg22), ∀ a, (k0_off280 arg21 arg22) a + S1x128x256.size a ≤ S16x128x1024.size a := fun arg21 arg22 k0_hw1 => k0_hw1.2.2.2.2.2.2.1.2.2.2.2.2.2.2.2.2.2.2.2.2.2.2.2.2.2.2.2.2.2.1
theorem k0_off281_inb : ∀ (arg21 : BitVec 32) (arg22 : BitVec 32) (k0_hw1 : k0_chk1 arg21 arg22), ∀ a, (k0_off281 arg21 arg22) a + S1x128x256.size a ≤ S16x128x1024.size a := fun arg21 arg22 k0_hw1 => k0_hw1.2.2.2.2.2.2.1.2.2.2.2.2.2.2.2.2.2.2.2.2.2.2.2.2.2.2.2.2.2.2.1
theorem k0_off282_inb : ∀ (arg21 : BitVec 32) (arg22 : BitVec 32) (k0_hw1 : k0_chk1 arg21 arg22), ∀ a, (k0_off282 arg21 arg22) a + S1x128x256.size a ≤ S16x128x1024.size a := fun arg21 arg22 k0_hw1 => k0_hw1.2.2.2.2.2.2.1.2.2.2.2.2.2.2.2.2.2.2.2.2.2.2.2.2.2.2.2.2.2.2.2.1
theorem k0_off283_inb : ∀ (arg21 : BitVec 32) (arg22 : BitVec 32) (k0_hw1 : k0_chk1 arg21 arg22), ∀ a, (k0_off283 arg21 arg22) a + S1x1x1024.size a ≤ S16x1x1024.size a := fun arg21 arg22 k0_hw1 => k0_hw1.2.2.2.2.2.2.1.2.2.2.2.2.2.2.2.2.2.2.2.2.2.2.2.2.2.2.2.2.2.2.2.2.1
theorem k0_off284_inb : ∀ (arg21 : BitVec 32) (arg22 : BitVec 32) (k0_hw1 : k0_chk1 arg21 arg22), ∀ a, (k0_off284 arg21 arg22) a + S1x80x1024.size a ≤ S16x80x1024.size a := fun arg21 arg22 k0_hw1 => k0_hw1.2.2.2.2.2.2.1.2.2.2.2.2.2.2.2.2.2.2.2.2.2.2.2.2.2.2.2.2.2.2.2.2.2.1
theorem k0_mult72_dvd : ∀ (arg21 : BitVec 32) (arg22 : BitVec 32) (k0_hw1 : k0_chk1 arg21 arg22), 256 ∣ (k0_mult72 arg21 arg22).toNat := fun arg21 arg22 k0_hw1 => k0_hw1.2.2.2.2.2.2.1.2.2.2.2.2.2.2.2.2.2.2.2.2.2.2.2.2.2.2.2.2.2.2.2.2.2.2.1
theorem k0_off285_inb : ∀ (arg21 : BitVec 32) (arg22 : BitVec 32) (k0_hw1 : k0_chk1 arg21 arg22), ∀ a, (k0_off285 arg21 arg22) a + S256x128.size a ≤ S4096x128.size a := fun arg21 arg22 k0_hw1 => k0_hw1.2.2.2.2.2.2.1.2.2.2.2.2.2.2.2.2.2.2.2.2.2.2.2.2.2.2.2.2.2.2.2.2.2.2.2.1
theorem k0_off286_inb : ∀ (arg21 : BitVec 32) (arg22 : BitVec 32) (k0_hw1 : k0_chk1 arg21 arg22), ∀ a, (k0_off286 arg21 arg22) a + S1x128x256.size a ≤ S16x128x1024.size a := fun arg21 arg22 k0_hw1 => k0_hw1.2.2.2.2.2.2.1.2.2.2.2.2.2.2.2.2.2.2.2.2.2.2.2.2.2.2.2.2.2.2.2.2.2.2.2.2.1
theorem k0_off287_inb : ∀ (arg21 : BitVec 32) (arg22 : BitVec 32) (k0_hw1 : k0_chk1 arg21 arg22), ∀ a, (k0_off287 arg21 arg22) a + S1x80x256.size a ≤ S16x80x256.size a := fun arg21 arg22 k0_hw1 => k0_hw1.2.2.2.2.2.2.1.2.2.2.2.2.2.2.2.2.2.2.2.2.2.2.2.2.2.2.2.2.2.2.2.2.2.2.2.2.2.1
theorem k0_off288_inb : ∀ (arg21 : BitVec 32) (arg22 : BitVec 32) (k0_hw1 : k0_chk1 arg21 arg22), ∀ a, (k0_off288 arg21 arg22) a + S1x128x256.size a ≤ S16x128x1024.size a := fun arg21 arg22 k0_hw1 => k0_hw1.2.2.2.2.2.2.1.2.2.2.2.2.2.2.2.2.2.2.2.2.2.2.2.2.2.2.2.2.2.2.2.2.2.2.2.2.2.2
theorem k0_off289_inb : ∀ (arg21 : BitVec 32) (arg22 : BitVec 32) (k0_hw1 : k0_chk1 arg21 arg22), ∀ a, (k0_off289 arg21 arg22) a + S1x128x256.size a ≤ S16x128x1024.size a := fun arg21 arg22 k0_hw1 => k0_hw1.2.2.2.2.2.2.2.1.1
theorem k0_off290_inb : ∀ (arg21 : BitVec 32) (arg22 : BitVec 32) (k0_hw1 : k0_chk1 arg21 arg22), ∀ a, (k0_off290 arg21 arg22) a + S1x128x256.size a ≤ S16x128x1024.size a := fun arg21 arg22 k0_hw1 => k0_hw1.2.2.2.2.2.2.2.1.2.1
theorem k0_off291_inb : ∀ (arg21 : BitVec 32) (arg22 : BitVec 32) (k0_hw1 : k0_chk1 arg21 arg22), ∀ a, (k0_off291 arg21 arg22) a + S1x1x1024.size a ≤ S16x1x1024.size a := fun arg21 arg22 k0_hw1 => k0_hw1.2.2.2.2.2.2.2.1.2.2.1
theorem k0_off292_inb : ∀ (arg21 : BitVec 32) (arg22 : BitVec 32) (k0_hw1 : k0_chk1 arg21 arg22), ∀ a, (k0_off292 arg21 arg22) a + S1x80x1024.size a ≤ S16x80x1024.size a := fun arg21 arg22 k0_hw1 => k0_hw1.2.2.2.2.2.2.2.1.2.2.2.1
theorem k0_mult73_dvd : ∀ (arg21 : BitVec 32) (arg22 : BitVec 32) (k0_hw1 : k0_chk1 arg21 arg22), 256 ∣ (k0_mult73 arg21 arg22).toNat := fun arg21 arg22 k0_hw1 => k0_hw1.2.2.2.2.2.2.2.1.2.2.2.2.1
theorem k0_off293_inb : ∀ (arg21 : BitVec 32) (arg22 : BitVec 32) (k0_hw1 : k0_chk1 arg21 arg22), ∀ a, (k0_off293 arg21 arg22) a + S256x128.size a ≤ S4096x128.size a := fun arg21 arg22 k0_hw1 => k0_hw1.2.2.2.2.2.2.2.1.2.2.2.2.2.1
theorem k0_off294_inb : ∀ (arg21 : BitVec 32) (arg22 : BitVec 32) (k0_hw1 : k0_chk1 arg21 arg22), ∀ a, (k0_off294 arg21 arg22) a + S1x128x256.size a ≤ S16x128x1024.size a := fun arg21 arg22 k0_hw1 => k0_hw1.2.2.2.2.2.2.2.1.2.2.2.2.2.2.1
theorem k0_off295_inb : ∀ (arg21 : BitVec 32) (arg22 : BitVec 32) (k0_hw1 : k0_chk1 arg21 arg22), ∀ a, (k0_off295 arg21 arg22) a + S1x80x256.size a ≤ S16x80x256.size a := fun arg21 arg22 k0_hw1 => k0_hw1.2.2.2.2.2.2.2.1.2.2.2.2.2.2.2.1
theorem k0_off296_inb : ∀ (arg21 : BitVec 32) (arg22 : BitVec 32) (k0_hw1 : k0_chk1 arg21 arg22), ∀ a, (k0_off296 arg21 arg22) a + S1x128x256.size a ≤ S16x128x1024.size a := fun arg21 arg22 k0_hw1 => k0_hw1.2.2.2.2.2.2.2.1.2.2.2.2.2.2.2.2.1
theorem k0_off297_inb : ∀ (arg21 : BitVec 32) (arg22 : BitVec 32) (k0_hw1 : k0_chk1 arg21 arg22), ∀ a, (k0_off297 arg21 arg22) a + S1x128x256.size a ≤ S16x128x1024.size a := fun arg21 arg22 k0_hw1 => k0_hw1.2.2.2.2.2.2.2.1.2.2.2.2.2.2.2.2.2.1
theorem k0_off298_inb : ∀ (arg21 : BitVec 32) (arg22 : BitVec 32) (k0_hw1 : k0_chk1 arg21 arg22), ∀ a, (k0_off298 arg21 arg22) a + S1x128x256.size a ≤ S16x128x1024.size a := fun arg21 arg22 k0_hw1 => k0_hw1.2.2.2.2.2.2.2.1.2.2.2.2.2.2.2.2.2.2.1
theorem k0_off299_inb : ∀ (arg21 : BitVec 32) (arg22 : BitVec 32) (k0_hw1 : k0_chk1 arg21 arg22), ∀ a, (k0_off299 arg21 arg22) a + S1x1x1024.size a ≤ S16x1x1024.size a := fun arg21 arg22 k0_hw1 => k0_hw1.2.2.2.2.2.2.2.1.2.2.2.2.2.2.2.2.2.2.2.1
theorem k0_off300_inb : ∀ (arg21 : BitVec 32) (arg22 : BitVec 32) (k0_hw1 : k0_chk1 arg21 arg22), ∀ a, (k0_off300 arg21 arg22) a + S1x80x1024.size a ≤ S16x80x1024.size a := fun arg21 arg22 k0_hw1 => k0_hw1.2.2.2.2.2.2.2.1.2.2.2.2.2.2.2.2.2.2.2.2.1
theorem k0_mult74_dvd : ∀ (arg21 : BitVec 32) (arg22 : BitVec 32) (k0_hw1 : k0_chk1 arg21 arg22), 256 ∣ (k0_mult74 arg21 arg22).toNat := fun arg21 arg22 k0_hw1 => k0_hw1.2.2.2.2.2.2.2.1.2.2.2.2.2.2.2.2.2.2.2.2.2.1
theorem k0_off301_inb : ∀ (arg21 : BitVec 32) (arg22 : BitVec 32) (k0_hw1 : k0_chk1 arg21 arg22), ∀ a, (k0_off301 arg21 arg22) a + S256x128.size a ≤ S4096x128.size a := fun arg21 arg22 k0_hw1 => k0_hw1.2.2.2.2.2.2.2.1.2.2.2.2.2.2.2.2.2.2.2.2.2.2.1
theorem k0_off302_inb : ∀ (arg21 : BitVec 32) (arg22 : BitVec 32) (k0_hw1 : k0_chk1 arg21 arg22), ∀ a, (k0_off302 arg21 arg22) a + S1x128x256.size a ≤ S16x128x1024.size a := fun arg21 arg22 k0_hw1 => k0_hw1.2.2.2.2.2.2.2.1.2.2.2.2.2.2.2.2.2.2.2.2.2.2.2.1
theorem k0_off303_inb : ∀ (arg21 : BitVec 32) (arg22 : BitVec 32) (k0_hw1 : k0_chk1 arg21 arg22), ∀ a, (k0_off303 arg21 arg22) a + S1x80x256.size a ≤ S16x80x256.size a := fun arg21 arg22 k0_hw1 => k0_hw1.2.2.2.2.2.2.2.1.2.2.2.2.2.2.2.2.2.2.2.2.2.2.2.2.1
theorem k0_off304_inb : ∀ (arg21 : BitVec 32) (arg22 : BitVec 32) (k0_hw1 : k0_chk1 arg21 arg22), ∀ a, (k0_off304 arg21 arg22) a + S1x128x256.size a ≤ S16x128x1024.size a := fun arg21 arg22 k0_hw1 => k0_hw1.2.2.2.2.2.2.2.1.2.2.2.2.2.2.2.2.2.2.2.2.2.2.2.2.2.1
theorem k0_off305_inb : ∀ (arg21 : BitVec 32) (arg22 : BitVec 32) (k0_hw1 : k0_chk1 arg21 arg22), ∀ a, (k0_off305 arg21 arg22) a + S1x128x256.size a ≤ S16x128x1024.size a := fun arg21 arg22 k0_hw1 => k0_hw1.2.2.2.2.2.2.2.1.2.2.2.2.2.2.2.2.2.2.2.2.2.2.2.2.2.2.1
theorem k0_off306_inb : ∀ (arg21 : BitVec 32) (arg22 : BitVec 32) (k0_hw1 : k0_chk1 arg21 arg22), ∀ a, (k0_off306 arg21 arg22) a + S1x128x256.size a ≤ S16x128x1024.size a := fun arg21 arg22 k0_hw1 => k0_hw1.2.2.2.2.2.2.2.1.2.2.2.2.2.2.2.2.2.2.2.2.2.2.2.2.2.2.2.1
theorem k0_off307_inb : ∀ (arg21 : BitVec 32) (arg22 : BitVec 32) (k0_hw1 : k0_chk1 arg21 arg22), ∀ a, (k0_off307 arg21 arg22) a + S1x1x1024.size a ≤ S16x1x1024.size a := fun arg21 arg22 k0_hw1 => k0_hw1.2.2.2.2.2.2.2.1.2.2.2.2.2.2.2.2.2.2.2.2.2.2.2.2.2.2.2.2.1
theorem k0_off308_inb : ∀ (arg21 : BitVec 32) (arg22 : BitVec 32) (k0_hw1 : k0_chk1 arg21 arg22), ∀ a, (k0_off308 arg21 arg22) a + S1x80x1024.size a ≤ S16x80x1024.size a := fun arg21 arg22 k0_hw1 => k0_hw1.2.2.2.2.2.2.2.1.2.2.2.2.2.2.2.2.2.2.2.2.2.2.2.2.2.2.2.2.2.1
theorem k0_mult75_dvd : ∀ (arg21 : BitVec 32) (arg22 : BitVec 32) (k0_hw1 : k0_chk1 arg21 arg22), 256 ∣ (k0_mult75 arg21 arg22).toNat := fun arg21 arg22 k0_hw1 => k0_hw1.2.2.2.2.2.2.2.1.2.2.2.2.2.2.2.2.2.2.2.2.2.2.2.2.2.2.2.2.2.2.1
theorem k0_off309_inb : ∀ (arg21 : BitVec 32) (arg22 : BitVec 32) (k0_hw1 : k0_chk1 arg21 arg22), ∀ a, (k0_off309 arg21 arg22) a + S256x128.size a ≤ S4096x128.size a := fun arg21 arg22 k0_hw1 => k0_hw1.2.2.2.2.2.2.2.1.2.2.2.2.2.2.2.2.2.2.2.2.2.2.2.2.2.2.2.2.2.2.2.1
theorem k0_off310_inb : ∀ (arg21 : BitVec 32) (arg22 : BitVec 32) (k0_hw1 : k0_chk1 arg21 arg22), ∀ a, (k0_off310 arg21 arg22) a + S1x128x256.size a ≤ S16x128x1024.size a := fun arg21 arg22 k0_hw1 => k0_hw1.2.2.2.2.2.2.2.1.2.2.2.2.2.2.2.2.2.2.2.2.2.2.2.2.2.2.2.2.2.2.2.2.1
theorem k0_off311_inb : ∀ (arg21 : BitVec 32) (arg22 : BitVec 32) (k0_hw1 : k0_chk1 arg21 arg22), ∀ a, (k0_off311 arg21 arg22) a + S1x80x256.size a ≤ S16x80x256.size a := fun arg21 arg22 k0_hw1 => k0_hw1.2.2.2.2.2.2.2.1.2.2.2.2.2.2.2.2.2.2.2.2.2.2.2.2.2.2.2.2.2.2.2.2.2.1
theorem k0_off312_inb : ∀ (arg21 : BitVec 32) (arg22 : BitVec 32) (k0_hw1 : k0_chk1 arg21 arg22), ∀ a, (k0_off312 arg21 arg22) a + S1x128x256.size a ≤ S16x128x1024.size a := fun arg21 arg22 k0_hw1 => k0_hw1.2.2.2.2.2.2.2.1.2.2.2.2.2.2.2.2.2.2.2.2.2.2.2.2.2.2.2.2.2.2.2.2.2.2.1
theorem k0_off313_inb : ∀ (arg21 : BitVec 32) (arg22 : BitVec 32) (k0_hw1 : k0_chk1 arg21 arg22), ∀ a, (k0_off313 arg21 arg22) a + S1x128x256.size a ≤ S16x128x1024.size a := fun arg21 arg22 k0_hw1 => k0_hw1.2.2.2.2.2.2.2.1.2.2.2.2.2.2.2.2.2.2.2.2.2.2.2.2.2.2.2.2.2.2.2.2.2.2.2.1
theorem k0_off314_inb : ∀ (arg21 : BitVec 32) (arg22 : BitVec 32) (k0_hw1 : k0_chk1 arg21 arg22), ∀ a, (k0_off314 arg21 arg22) a + S1x128x256.size a ≤ S16x128x1024.size a := fun arg21 arg22 k0_hw1 => k0_hw1.2.2.2.2.2.2.2.1.2.2.2.2.2.2.2.2.2.2.2.2.2.2.2.2.2.2.2.2.2.2.2.2.2.2.2.2.1
theorem k0_off315_inb : ∀ (arg21 : BitVec 32) (arg22 : BitVec 32) (k0_hw1 : k0_chk1 arg21 arg22), ∀ a, (k0_off315 arg21 arg22) a + S1x1x1024.size a ≤ S16x1x1024.size a := fun arg21 arg22 k0_hw1 => k0_hw1.2.2.2.2.2.2.2.1.2.2.2.2.2.2.2.2.2.2.2.2.2.2.2.2.2.2.2.2.2.2.2.2.2.2.2.2.2.1
theorem k0_off316_inb : ∀ (arg21 : BitVec 32) (arg22 : BitVec 32) (k0_hw1 : k0_chk1 arg21 arg22), ∀ a, (k0_off316 arg21 arg22) a + S1x80x1024.size a ≤ S16x80x1024.size a := fun arg21 arg22 k0_hw1 => k0_hw1.2.2.2.2.2.2.2.1.2.2.2.2.2.2.2.2.2.2.2.2.2.2.2.2.2.2.2.2.2.2.2.2.2.2.2.2.2.2.1
theorem k0_mult76_dvd : ∀ (arg21 : BitVec 32) (arg22 : BitVec 32) (k0_hw1 : k0_chk1 arg21 arg22), 256 ∣ (k0_mult76 arg21 arg22).toNat := fun arg21 arg22 k0_hw1 => k0_hw1.2.2.2.2.2.2.2.1.2.2.2.2.2.2.2.2.2.2.2.2.2.2.2.2.2.2.2.2.2.2.2.2.2.2.2.2.2.2.2
theorem k0_off317_inb : ∀ (arg21 : BitVec 32) (arg22 : BitVec 32) (k0_hw1 : k0_chk1 arg21 arg22), ∀ a, (k0_off317 arg21 arg22) a + S256x128.size a ≤ S4096x128.size a := fun arg21 arg22 k0_hw1 => k0_hw1.2.2.2.2.2.2.2.2.1
theorem k0_off318_inb : ∀ (arg21 : BitVec 32) (arg22 : BitVec 32) (k0_hw1 : k0_chk1 arg21 arg22), ∀ a, (k0_off318 arg21 arg22) a + S1x128x256.size a ≤ S16x128x1024.size a := fun arg21 arg22 k0_hw1 => k0_hw1.2.2.2.2.2.2.2.2.2.1
theorem k0_off319_inb : ∀ (arg21 : BitVec 32) (arg22 : BitVec 32) (k0_hw1 : k0_chk1 arg21 arg22), ∀ a, (k0_off319 arg21 arg22) a + S1x80x256.size a ≤ S16x80x256.size a := fun arg21 arg22 k0_hw1 => k0_hw1.2.2.2.2.2.2.2.2.2.2.1
theorem k0_off320_inb : ∀ (arg21 : BitVec 32) (arg22 : BitVec 32) (k0_hw1 : k0_chk1 arg21 arg22), ∀ a, (k0_off320 arg21 arg22) a + S1x128x256.size a ≤ S16x128x1024.size a := fun arg21 arg22 k0_hw1 => k0_hw1.2.2.2.2.2.2.2.2.2.2.2.1
theorem k0_off321_inb : ∀ (arg21 : BitVec 32) (arg22 : BitVec 32) (k0_hw1 : k0_chk1 arg21 arg22), ∀ a, (k0_off321 arg21 arg22) a + S1x128x256.size a ≤ S16x128x1024.size a := fun arg21 arg22 k0_hw1 => k0_hw1.2.2.2.2.2.2.2.2.2.2.2.2.1
theorem k0_off322_inb : ∀ (arg21 : BitVec 32) (arg22 : BitVec 32) (k0_hw1 : k0_chk1 arg21 arg22), ∀ a, (k0_off322 arg21 arg22) a + S1x128x256.size a ≤ S16x128x1024.size a := fun arg21 arg22 k0_hw1 => k0_hw1.2.2.2.2.2.2.2.2.2.2.2.2.2.1
theorem k0_off323_inb : ∀ (arg21 : BitVec 32) (arg22 : BitVec 32) (k0_hw1 : k0_chk1 arg21 arg22), ∀ a, (k0_off323 arg21 arg22) a + S1x1x1024.size a ≤ S16x1x1024.size a := fun arg21 arg22 k0_hw1 => k0_hw1.2.2.2.2.2.2.2.2.2.2.2.2.2.2.1
theorem k0_off324_inb : ∀ (arg21 : BitVec 32) (arg22 : BitVec 32) (k0_hw1 : k0_chk1 arg21 arg22), ∀ a, (k0_off324 arg21 arg22) a + S1x80x1024.size a ≤ S16x80x1024.size a := fun arg21 arg22 k0_hw1 => k0_hw1.2.2.2.2.2.2.2.2.2.2.2.2.2.2.2.1
theorem k0_mult77_dvd : ∀ (arg21 : BitVec 32) (arg22 : BitVec 32) (k0_hw1 : k0_chk1 arg21 arg22), 256 ∣ (k0_mult77 arg21 arg22).toNat := fun arg21 arg22 k0_hw1 => k0_hw1.2.2.2.2.2.2.2.2.2.2.2.2.2.2.2.2.1
theorem k0_off325_inb : ∀ (arg21 : BitVec 32) (arg22 : BitVec 32) (k0_hw1 : k0_chk1 arg21 arg22), ∀ a, (k0_off325 arg21 arg22) a + S256x128.size a ≤ S4096x128.size a := fun arg21 arg22 k0_hw1 => k0_hw1.2.2.2.2.2.2.2.2.2.2.2.2.2.2.2.2.2.1
theorem k0_off326_inb : ∀ (arg21 : BitVec 32) (arg22 : BitVec 32) (k0_hw1 : k0_chk1 arg21 arg22), ∀ a, (k0_off326 arg21 arg22) a + S1x128x256.size a ≤ S16x128x1024.size a := fun arg21 arg22 k0_hw1 => k0_hw1.2.2.2.2.2.2.2.2.2.2.2.2.2.2.2.2.2.2.1
theorem k0_off327_inb : ∀ (arg21 : BitVec 32) (arg22 : BitVec 32) (k0_hw1 : k0_chk1 arg21 arg22), ∀ a, (k0_off327 arg21 arg22) a + S1x80x256.size a ≤ S16x80x256.size a := fun arg21 arg22 k0_hw1 => k0_hw1.2.2.2.2.2.2.2.2.2.2.2.2.2.2.2.2.2.2.2.1
theorem k0_off328_inb : ∀ (arg21 : BitVec 32) (arg22 : BitVec 32) (k0_hw1 : k0_chk1 arg21 arg22), ∀ a, (k0_off328 arg21 arg22) a + S1x128x256.size a ≤ S16x128x1024.size a := fun arg21 arg22 k0_hw1 => k0_hw1.2.2.2.2.2.2.2.2.2.2.2.2.2.2.2.2.2.2.2.2.1
theorem k0_off329_inb : ∀ (arg21 : BitVec 32) (arg22 : BitVec 32) (k0_hw1 : k0_chk1 arg21 arg22), ∀ a, (k0_off329 arg21 arg22) a + S1x128x256.size a ≤ S16x128x1024.size a := fun arg21 arg22 k0_hw1 => k0_hw1.2.2.2.2.2.2.2.2.2.2.2.2.2.2.2.2.2.2.2.2.2.1
theorem k0_off330_inb : ∀ (arg21 : BitVec 32) (arg22 : BitVec 32) (k0_hw1 : k0_chk1 arg21 arg22), ∀ a, (k0_off330 arg21 arg22) a + S1x128x256.size a ≤ S16x128x1024.size a := fun arg21 arg22 k0_hw1 => k0_hw1.2.2.2.2.2.2.2.2.2.2.2.2.2.2.2.2.2.2.2.2.2.2

@[reducible] def k0_t4_loop : Scf.Loop 32 :=
  let c0_i32_2722 : BitVec 32 := 0#32
  let c16_i32_2723 : BitVec 32 := 16#32
  let v6404 : BitVec 32 := Scalar.addi c0_i32_2722 c16_i32_2723
  let c1_i32_2724 : BitVec 32 := 1#32
  ⟨c0_i32_2722, v6404, c1_i32_2724⟩
def k0_off331 (k0_t4 : Fin k0_t4_loop.trips) : Fin 3 → Nat :=
  let c0_i32_2722 : BitVec 32 := 0#32
  let c1_i32_2724 : BitVec 32 := 1#32
  let arg20 : BitVec 32 := Scf.iv c0_i32_2722 c1_i32_2724 k0_t4
  let v6405 : Index := Scalar.indexCast arg20
  let c0_2726 : Index := 0#32
  let c0_2727 : Index := 0#32
  ![v6405.toNat, 0, 0]
def k0_off332 (k0_t4 : Fin k0_t4_loop.trips) : Fin 3 → Nat :=
  let c0_i32_2722 : BitVec 32 := 0#32
  let c1_i32_2724 : BitVec 32 := 1#32
  let arg20 : BitVec 32 := Scf.iv c0_i32_2722 c1_i32_2724 k0_t4
  let v6414 : Index := Scalar.indexCast arg20
  let c0_2729 : Index := 0#32
  let c0_2730 : Index := 0#32
  ![v6414.toNat, 0, 0]
def k0_off333 (k0_t4 : Fin k0_t4_loop.trips) : Fin 3 → Nat :=
  let c0_i32_2722 : BitVec 32 := 0#32
  let c1_i32_2724 : BitVec 32 := 1#32
  let arg20 : BitVec 32 := Scf.iv c0_i32_2722 c1_i32_2724 k0_t4
  let v6417 : Index := Scalar.indexCast arg20
  let c0_2731 : Index := 0#32
  let c0_2732 : Index := 0#32
  ![v6417.toNat, 0, 0]
def k0_mult78 (k0_t4 : Fin k0_t4_loop.trips) : BitVec 32 :=
  let c0_i32_2722 : BitVec 32 := 0#32
  let c1_i32_2724 : BitVec 32 := 1#32
  let arg20 : BitVec 32 := Scf.iv c0_i32_2722 c1_i32_2724 k0_t4
  let c256_i32_2733 : BitVec 32 := 256#32
  let v6445 : BitVec 32 := Scalar.muli arg20 c256_i32_2733
  v6445
def k0_off334 (k0_t4 : Fin k0_t4_loop.trips) : Fin 2 → Nat :=
  let c0_i32_2722 : BitVec 32 := 0#32
  let c1_i32_2724 : BitVec 32 := 1#32
  let arg20 : BitVec 32 := Scf.iv c0_i32_2722 c1_i32_2724 k0_t4
  let c256_i32_2733 : BitVec 32 := 256#32
  let v6445 : BitVec 32 := Scalar.muli arg20 c256_i32_2733
  let v6446 : BitVec 32 := v6445
  let v6450 : Index := Scalar.indexCast v6446
  let c0_2734 : Index := 0#32
  ![v6450.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Merge.lean ====
abbrev S16384x1024 : Shape := ⟨2, ![16384, 1024]⟩
abbrev S16384x1536 : Shape := ⟨2, ![16384, 1536]⟩
abbrev S16384x2048 : Shape := ⟨2, ![16384, 2048]⟩
abbrev S4x4096x1024 : Shape := ⟨3, ![4, 4096, 1024]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S3x512 : Shape := ⟨2, ![3, 512]⟩
abbrev S1024x1024 : Shape := ⟨2, ![1024, 1024]⟩
abbrev S512x1024 : Shape := ⟨2, ![512, 1024]⟩
abbrev S1024x2816 : Shape := ⟨2, ![1024, 2816]⟩
abbrev S2816x1024 : Shape := ⟨2, ![2816, 1024]⟩
abbrev S512x1536 : Shape := ⟨2, ![512, 1536]⟩
abbrev S8x1536 : Shape := ⟨2, ![8, 1536]⟩
abbrev S512x2048 : Shape := ⟨2, ![512, 2048]⟩
abbrev S512x2816 : Shape := ⟨2, ![512, 2816]⟩
abbrev S512x512 : Shape := ⟨2, ![512, 512]⟩
abbrev S8x512 : Shape := ⟨2, ![8, 512]⟩
abbrev S512x1 : Shape := ⟨2, ![512, 1]⟩
abbrev S1x512 : Shape := ⟨2, ![1, 512]⟩
abbrev S512 : Shape := ⟨1, ![512]⟩
abbrev S1024x256 : Shape := ⟨2, ![1024, 256]⟩
abbrev S512x256 : Shape := ⟨2, ![512, 256]⟩

abbrev nBuf : Space → Nat
  | .hbm => 31
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S16384x2048, .bf16⟩
  | .hbm, ⟨3, _⟩ => ⟨S4x4096x1024, .f32⟩
  | .hbm, ⟨4, _⟩ => ⟨S1x3x512, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S16384x1024, .f32⟩
  | .hbm, ⟨14, _⟩ => ⟨S3x512, .f32⟩
  | .hbm, ⟨15, _⟩ => ⟨S1024x1024, .f32⟩
  | .hbm, ⟨16, _⟩ => ⟨S1024x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1024x2816, .f32⟩
  | .hbm, ⟨25, _⟩ => ⟨S1024x2816, .bf16⟩
  | .hbm, ⟨26, _⟩ => ⟨S1024x2816, .f32⟩
  | .hbm, ⟨27, _⟩ => ⟨S1024x2816, .bf16⟩
  | .hbm, ⟨28, _⟩ => ⟨S2816x1024, .f32⟩
  | .hbm, ⟨29, _⟩ => ⟨S2816x1024, .bf16⟩
  | .hbm, ⟨30, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S8x1536, .bf16⟩
  | .local _ .vmem, ⟨5, _⟩ => ⟨S8x1536, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S3x512, .f32⟩
  | .local _ .vmem, ⟨11, _⟩ => ⟨S1024x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S512x1024, .f32⟩
  | .local _ .vmem, ⟨20, _⟩ => ⟨S512x1024, .f32⟩
  | .local _ .vmem, ⟨21, _⟩ => ⟨S512x2816, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16384x1024 : Shape := ⟨2, ![16384, 1024]⟩
abbrev S16384x1536 : Shape := ⟨2, ![16384, 1536]⟩
abbrev S16384x2048 : Shape := ⟨2, ![16384, 2048]⟩
abbrev S4x4096x1024 : Shape := ⟨3, ![4, 4096, 1024]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S4x4096x1536 : Shape := ⟨3, ![4, 4096, 1536]⟩
abbrev S4x4096x512 : Shape := ⟨3, ![4, 4096, 512]⟩
abbrev S4x4096x2048 : Shape := ⟨3, ![4, 4096, 2048]⟩
abbrev S_ : Shape := ⟨0, ![]⟩
abbrev S4x4098x512 : Shape := ⟨3, ![4, 4098, 512]⟩
abbrev S1x1x512 : Shape := ⟨3, ![1, 1, 512]⟩
abbrev S512 : Shape := ⟨1, ![512]⟩
abbrev S512x1024 : Shape := ⟨2, ![512, 1024]⟩
abbrev S1024x1024 : Shape := ⟨2, ![1024, 1024]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S4x4096x2816 : Shape := ⟨3, ![4, 4096, 2816]⟩
abbrev S2816x1024 : Shape := ⟨2, ![2816, 1024]⟩

abbrev nBuf : Space → Nat
  | .hbm => 129
  | .vmem => 0
  | .smem => 0
  | _ => 0

abbrev hbmTy0_0 (i : Nat) : BufTy := match i % 128 with
  | 0 => ⟨S16384x1024, .bf16⟩
  | 1 => ⟨S16384x1536, .bf16⟩
  | 2 => ⟨S16384x2048, .bf16⟩
  | 3 => ⟨S4x4096x1024, .f32⟩
  | 4 => ⟨S1x3x512, .f32⟩
  | 5 => ⟨S1x512x1024, .f32⟩
  | 6 => ⟨S1x1024x1024, .f32⟩
  | 7 => ⟨S1x1024x1024, .f32⟩
  | 8 => ⟨S1x1024, .f32⟩
  | 9 => ⟨S1x1024x2816, .f32⟩
  | 10 => ⟨S1x1024x2816, .f32⟩
  | 11 => ⟨S1x2816x1024, .f32⟩
  | 12 => ⟨S1024, .f32⟩
  | 13 => ⟨S16384x1024, .f32⟩
  | 14 => ⟨S4x4096x1024, .f32⟩
  | 15 => ⟨S16384x1536, .f32⟩
  | 16 => ⟨S4x4096x1536, .f32⟩
  | 17 => ⟨S4x4096x512, .f32⟩
  | 18 => ⟨S4x4096x512, .f32⟩
  | 19 => ⟨S4x4096x512, .f32⟩
  | 20 => ⟨S16384x2048, .f32⟩
  | 21 => ⟨S4x4096x2048, .f32⟩
  | 22 => ⟨S4x4096x1024, .f32⟩
  | 23 => ⟨S4x4096x1024, .f32⟩
  | 24 => ⟨S4x4096x512, .f32⟩
  | 25 => ⟨S_, .i32⟩
  | 26 => ⟨S_, .f32⟩
  | 27 => ⟨S4x4098x512, .f32⟩
  | 28 => ⟨S4x4096x512, .f32⟩
  | 29 => ⟨S1x1x512, .f32⟩
  | 30 => ⟨S512, .f32⟩
  | 31 => ⟨S1x1x512, .f32⟩
  | 32 => ⟨S4x4096x512, .f32⟩
  | 33 => ⟨S4x4096x512, .f32⟩
  | 34 => ⟨S_, .f32⟩
  | 35 => ⟨S4x4096x512, .f32⟩
  | 36 => ⟨S4x4096x512, .f32⟩
  | 37 => ⟨S4x4096x512, .f32⟩
  | 38 => ⟨S1x1x512, .f32⟩
  | 39 => ⟨S512, .f32⟩
  | 40 => ⟨S1x1x512, .f32⟩
  | 41 => ⟨S4x4096x512, .f32⟩
  | 42 => ⟨S4x4096x512, .f32⟩
  | 43 => ⟨S4x4096x512, .f32⟩
  | 44 => ⟨S4x4096x512, .f32⟩
  | 45 => ⟨S1x1x512, .f32⟩
  | 46 => ⟨S512, .f32⟩
  | 47 => ⟨S1x1x512, .f32⟩
  | 48 => ⟨S4x4096x512, .f32⟩
  | 49 => ⟨S4x4096x512, .f32⟩
  | 50 => ⟨S4x4096x512, .f32⟩
  | 51 => ⟨S4x4096x512, .f32⟩
  | 52 => ⟨S512x1024, .f32⟩
  | 53 => ⟨S4x4096x1024, .f32⟩
  | 54 => ⟨S1024x1024, .f32⟩
  | 55 => ⟨S4x4096x1024, .f32⟩
  | 56 => ⟨S4x4096x1024, .f32⟩
  | 57 => ⟨S4x4096x1024, .f32⟩
  | 58 => ⟨S_, .f32⟩
  | 59 => ⟨S4x4096x1024, .f32⟩
  | 60 => ⟨S4x4096x1024, .f32⟩
  | 61 => ⟨S_, .f32⟩
  | 62 => ⟨S4x4096x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S_, .f32⟩
  | 68 => ⟨S4x4096x1024, .f32⟩
  | 69 => ⟨S4x4096x1024, .f32⟩
  | 70 => ⟨S_, .f32⟩
  | 71 => ⟨S4x4096x1024, .f32⟩
  | 72 => ⟨S4x4096x1024, .f32⟩
  | 73 => ⟨S4x4096x1024, .f32⟩
  | 74 => ⟨S4x4096x1024, .f32⟩
  | 75 => ⟨S1024x1024, .f32⟩
  | 76 => ⟨S4x4096x1024, .f32⟩
  | 77 => ⟨S4x4096x1024, .f32⟩
  | 78 => ⟨S1024, .f32⟩
  | 79 => ⟨S4x4096x1024, .f32⟩
  | 80 => ⟨S_, .f32⟩
  | 81 => ⟨S4x4096, .f32⟩
  | 82 => ⟨S4x4096x1, .f32⟩
  | 83 => ⟨S_, .f32⟩
  | 84 => ⟨S4x4096x1, .f32⟩
  | 85 => ⟨S4x4096x1, .f32⟩
  | 86 => ⟨S_, .f32⟩
  | 87 => ⟨S4x4096x1, .f32⟩
  | 88 => ⟨S4x4096x1, .f32⟩
  | 89 => ⟨S4x4096x1, .f32⟩
  | 90 => ⟨S4x4096x1024, .f32⟩
  | 91 => ⟨S4x4096x1024, .f32⟩
  | 92 => ⟨S1x1x1024, .f32⟩
  | 93 => ⟨S4x4096x1024, .f32⟩
  | 94 => ⟨S4x4096x1024, .f32⟩
  | 95 => ⟨S1024x2816, .f32⟩
  | 96 => ⟨S4x4096x2816, .f32⟩
  | 97 => ⟨S4x4096x2816, .f32⟩
  | 98 => ⟨S4x4096x2816, .f32⟩
  | 99 => ⟨S_, .f32⟩
  | 100 => ⟨S4x4096x2816, .f32⟩
  | 101 => ⟨S4x4096x2816, .f32⟩
  | 102 => ⟨S_, .f32⟩
  | 103 => ⟨S4x4096x2816, .f32⟩
  | 104 => ⟨S4x4096x2816, .f32⟩
  | 105 => ⟨S4x4096x2816, .f32⟩
  | 106 => ⟨S1024x2816, .f32⟩
  | 107 => ⟨S4x4096x2816, .f32⟩
  | 108 => ⟨S4x4096x2816, .f32⟩
  | 109 => ⟨S2816x1024, .f32⟩
  | 110 => ⟨S4x4096x1024, .f32⟩
  | 111 => ⟨S4x4096x1024, .f32⟩
  | 112 => ⟨S4x4096x1024, .f32⟩
  | 113 => ⟨S_, .f32⟩
  | 114 => ⟨S4x4096, .f32⟩
  | 115 => ⟨S4x4096x1, .f32⟩
  | 116 => ⟨S_, .f32⟩
  | 117 => ⟨S4x4096x1, .f32⟩
  | 118 => ⟨S4x4096x1, .f32⟩
  | 119 => ⟨S_, .f32⟩
  | 120 => ⟨S4x4096x1, .f32⟩
  | 121 => ⟨S4x4096x1, .f32⟩
  | 122 => ⟨S4x4096x1, .f32⟩
  | 123 => ⟨S4x4096x1024, .f32⟩
  | 124 => ⟨S4x4096x1024, .f32⟩
  | 125 => ⟨S1x1x1024, .f32⟩
  | 126 => ⟨S4x4096x1024, .f32⟩
  | 127 => ⟨S4x4096x1024, .f32⟩
  | _ => ⟨S16384x1024, .bf16⟩

abbrev hbmTy0_1 (i : Nat) : BufTy := match i % 128 with
  | 0 => ⟨S16384x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_0 : Ref sig .tc := ⟨.hbm, 58, rfl⟩
abbrev main_v42 : Ref sig .tc := ⟨.hbm, 59, rfl⟩
abbrev main_v43 : Ref sig .tc := ⟨.hbm, 60, rfl⟩
abbrev main_cst_1 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_4 : Ref sig .tc := ⟨.hbm, 80, rfl⟩
abbrev main_v60 : Ref sig .tc := ⟨.hbm, 81, rfl⟩
abbrev main_v61 : Ref sig .tc := ⟨.hbm, 82, rfl⟩
abbrev main_cst_5 : Ref sig .tc := ⟨.hbm, 83, rfl⟩
abbrev main_v62 : Ref sig .tc := ⟨.hbm, 84, rfl⟩
abbrev main_v63 : Ref sig .tc := ⟨.hbm, 85, rfl⟩
abbrev main_cst_6 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_7 : Ref sig .tc := ⟨.hbm, 113, rfl⟩
abbrev main_v82 : Ref sig .tc := ⟨.hbm, 114, rfl⟩
abbrev main_v83 : Ref sig .tc := ⟨.hbm, 115, rfl⟩
abbrev main_cst_8 : Ref sig .tc := ⟨.hbm, 116, rfl⟩
abbrev main_v84 : Ref sig .tc := ⟨.hbm, 117, rfl⟩
abbrev main_v85 : Ref sig .tc := ⟨.hbm, 118, rfl⟩
abbrev main_cst_9 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]
-- ==== Proj.lean ====
abbrev S4x4096x1024 : Shape := ⟨3, ![4, 4096, 1024]⟩
abbrev S1x1024x6192 : Shape := ⟨3, ![1, 1024, 6192]⟩
abbrev S1x1024 : Shape := ⟨2, ![1, 1024]⟩
abbrev S1024x6192 : Shape := ⟨2, ![1024, 6192]⟩
abbrev S1024x512 : Shape := ⟨2, ![1024, 512]⟩
abbrev S1024x1024 : Shape := ⟨2, ![1024, 1024]⟩
abbrev S1024x256 : Shape := ⟨2, ![1024, 256]⟩
abbrev S1024x48 : Shape := ⟨2, ![1024, 48]⟩
abbrev S1024x3x4x4 : Shape := ⟨4, ![1024, 3, 4, 4]⟩
abbrev S1024x4x3x4 : Shape := ⟨4, ![1024, 4, 3, 4]⟩
abbrev S1024x4x12 : Shape := ⟨3, ![1024, 4, 12]⟩
abbrev S_ : Shape := ⟨0, ![]⟩
abbrev S1024x4x16 : Shape := ⟨3, ![1024, 4, 16]⟩
abbrev S1024x64 : Shape := ⟨2, ![1024, 64]⟩
abbrev S1024x4x64 : Shape := ⟨3, ![1024, 4, 64]⟩
abbrev S1024x4x128 : Shape := ⟨3, ![1024, 4, 128]⟩
abbrev S1024x4608 : Shape := ⟨2, ![1024, 4608]⟩
abbrev S1024x1600 : Shape := ⟨2, ![1024, 1600]⟩
abbrev S1600x1024 : Shape := ⟨2, ![1600, 1024]⟩
abbrev S16384x1024 : Shape := ⟨2, ![16384, 1024]⟩
abbrev S1024 : Shape := ⟨1, ![1024]⟩
abbrev S16384x1536 : Shape := ⟨2, ![16384, 1536]⟩
abbrev S16384x512 : Shape := ⟨2, ![16384, 512]⟩
abbrev S16384x2048 : Shape := ⟨2, ![16384, 2048]⟩
abbrev S64x1024x256 : Shape := ⟨3, ![64, 1024, 256]⟩
abbrev S512x16384 : Shape := ⟨2, ![512, 16384]⟩
abbrev S64x64x256 : Shape := ⟨3, ![64, 64, 256]⟩
abbrev S512x1024 : Shape := ⟨2, ![512, 1024]⟩
abbrev S512x1536 : Shape := ⟨2, ![512, 1536]⟩
abbrev S512x512 : Shape := ⟨2, ![512, 512]⟩
abbrev S512x2048 : Shape := ⟨2, ![512, 2048]⟩
abbrev S2x1024x256 : Shape := ⟨3, ![2, 1024, 256]⟩
abbrev S2x64x256 : Shape := ⟨3, ![2, 64, 256]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S64x1024 : Shape := ⟨2, ![64, 1024]⟩
abbrev S64x512 : Shape := ⟨2, ![64, 512]⟩
abbrev S64x256 : Shape := ⟨2, ![64, 256]⟩
abbrev S1x64x256 : Shape := ⟨3, ![1, 64, 256]⟩

abbrev nBuf : Space → Nat
  | .hbm => 50
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1x1024x6192, .f32⟩
  | .hbm, ⟨2, _⟩ => ⟨S1x1024, .f32⟩
  | .hbm, ⟨3, _⟩ => ⟨S1024x6192, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x1024, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x48, .f32⟩
  | .hbm, ⟨15, _⟩ => ⟨S1024x1024, .f32⟩
  | .hbm, ⟨16, _⟩ => ⟨S1024x1024, .f32⟩
  | .hbm, ⟨17, _⟩ => ⟨S1024x3x4x4, .f32⟩
  | .hbm, ⟨18, _⟩ => ⟨S1024x4x3x4, .f32⟩
  | .hbm, ⟨19, _⟩ => ⟨S1024x4x12, .f32⟩
  | .hbm, ⟨20, _⟩ => ⟨S_, .i32⟩
  | .hbm, ⟨21, _⟩ => ⟨S_, .f32⟩
  | .hbm, ⟨22, _⟩ => ⟨S1024x4x16, .f32⟩
  | .hbm, ⟨23, _⟩ => ⟨S1024x64, .f32⟩
  | .hbm, ⟨24, _⟩ => ⟨S1024x4x64, .f32⟩
  | .hbm, ⟨25, _⟩ => ⟨S1024x4x64, .f32⟩
  | .hbm, ⟨26, _⟩ => ⟨S1024x4x128, .f32⟩
  | .hbm, ⟨27, _⟩ => ⟨S1024x512, .f32⟩
  | .hbm, ⟨28, _⟩ => ⟨S1024x4608, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x4x64, .f32⟩
  | .hbm, ⟨33, _⟩ => ⟨S1024x4x64, .f32⟩
  | .hbm, ⟨34, _⟩ => ⟨S1024x4x128, .f32⟩
  | .hbm, ⟨35, _⟩ => ⟨S1024x512, .f32⟩
  | .hbm, ⟨36, _⟩ => ⟨S1024x1600, .f32⟩
  | .hbm, ⟨37, _⟩ => ⟨S1024x4608, .bf16⟩
  | .hbm, ⟨38, _⟩ => ⟨S1600x1024, .f32⟩
  | .hbm, ⟨39, _⟩ => ⟨S1600x1024, .bf16⟩
  | .hbm, ⟨40, _⟩ => ⟨S16384x1024, .f32⟩
  | .hbm, ⟨41, _⟩ => ⟨S1024, .f32⟩
  | .hbm, ⟨42, _⟩ => ⟨S1x1024, .f32⟩
  | .hbm, ⟨43, _⟩ => ⟨S16384x1536, .bf16⟩
  | .hbm, ⟨44, _⟩ => ⟨S16384x512, .f32⟩
  | .hbm, ⟨45, _⟩ => ⟨S16384x512, .bf16⟩
  | .hbm, ⟨46, _⟩ => ⟨S16384x2048, .bf16⟩
  | .hbm, ⟨47, _⟩ => ⟨S64x1024x256, .bf16⟩
  | .hbm, ⟨48, _⟩ => ⟨S512x16384, .bf16⟩
  | .hbm, ⟨49, _⟩ => ⟨S64x64x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S1600x1024, .bf16⟩
  | .local _ .vmem, ⟨5, _⟩ => ⟨S512x1536, .bf16⟩
  | .local _ .vmem, ⟨6, _⟩ => ⟨S512x1536, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x2048, .bf16⟩
  | .local _ .vmem, ⟨12, _⟩ => ⟨S512x2048, .bf16⟩
  | .local _ .vmem, ⟨13, _⟩ => ⟨S2x1024x256, .bf16⟩
  | .local _ .vmem, ⟨14, _⟩ => ⟨S2x1024x256, .bf16⟩
  | .local _ .vmem, ⟨15, _⟩ => ⟨S512x512, .bf16⟩
  | .local _ .vmem, ⟨16, _⟩ => ⟨S512x512, .bf16⟩
  | .local _ .vmem, ⟨17, _⟩ => ⟨S2x64x256, .f32⟩
  | .local _ .vmem, ⟨18, _⟩ => ⟨S2x64x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_call0_v0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37_0 : Ref sig .tc := ⟨.hbm, 43, rfl⟩
abbrev main_v37_1 : Ref sig .tc := ⟨.hbm, 44, rfl⟩
abbrev main_v37_2 : Ref sig .tc := ⟨.hbm, 45, rfl⟩
abbrev main_v37_3 : Ref sig .tc := ⟨.hbm, 46, rfl⟩
abbrev main_v37_4 : Ref sig .tc := ⟨.hbm, 47, rfl⟩
abbrev main_v37_5 : Ref sig .tc := ⟨.hbm, 48, rfl⟩
abbrev main_v37_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1600x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S4x4096x1024 : Shape := ⟨3, ![4, 4096, 1024]⟩
abbrev S1x1024x6192 : Shape := ⟨3, ![1, 1024, 6192]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x6192 : Shape := ⟨2, ![1024, 6192]⟩
abbrev S4x4096x6192 : Shape := ⟨3, ![4, 4096, 6192]⟩
abbrev S16384x6192 : Shape := ⟨2, ![16384, 6192]⟩
abbrev S16384x512 : Shape := ⟨2, ![16384, 512]⟩
abbrev S16384x1024 : Shape := ⟨2, ![16384, 1024]⟩
abbrev S16384x256 : Shape := ⟨2, ![16384, 256]⟩
abbrev S16384x48 : Shape := ⟨2, ![16384, 48]⟩
abbrev S16384x1536 : Shape := ⟨2, ![16384, 1536]⟩
abbrev S16384x4x1x64 : Shape := ⟨4, ![16384, 4, 1, 64]⟩
abbrev S16384x4x2x64 : Shape := ⟨4, ![16384, 4, 2, 64]⟩
abbrev S16384x2048 : Shape := ⟨2, ![16384, 2048]⟩
abbrev S64x256x1024 : Shape := ⟨3, ![64, 256, 1024]⟩
abbrev S64x1024x256 : Shape := ⟨3, ![64, 1024, 256]⟩
abbrev S512x16384 : Shape := ⟨2, ![512, 16384]⟩
abbrev S16384x3x4x4 : Shape := ⟨4, ![16384, 3, 4, 4]⟩
abbrev S16384x4x3x4 : Shape := ⟨4, ![16384, 4, 3, 4]⟩
abbrev S16384x4x12 : Shape := ⟨3, ![16384, 4, 12]⟩
abbrev S16384x4x16 : Shape := ⟨3, ![16384, 4, 16]⟩
abbrev S64x256x64 : Shape := ⟨3, ![64, 256, 64]⟩
abbrev S64x64x256 : Shape := ⟨3, ![64, 64, 256]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x6192, .f32⟩
  | .hbm, ⟨2, _⟩ => ⟨S1x1024, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x6192, .f32⟩
  | .hbm, ⟨21, _⟩ => ⟨S4x4096x6192, .f32⟩
  | .hbm, ⟨22, _⟩ => ⟨S16384x6192, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x48, .f32⟩
  | .hbm, ⟨34, _⟩ => ⟨S16384x1024, .f32⟩
  | .hbm, ⟨35, _⟩ => ⟨S16384x1024, .f32⟩
  | .hbm, ⟨36, _⟩ => ⟨S16384x1536, .f32⟩
  | .hbm, ⟨37, _⟩ => ⟨S16384x512, .f32⟩
  | .hbm, ⟨38, _⟩ => ⟨S16384x4x1x64, .f32⟩
  | .hbm, ⟨39, _⟩ => ⟨S16384x4x1x64, .f32⟩
  | .hbm, ⟨40, _⟩ => ⟨S16384x4x2x64, .f32⟩
  | .hbm, ⟨41, _⟩ => ⟨S16384x512, .f32⟩
  | .hbm, ⟨42, _⟩ => ⟨S16384x2048, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S64x256x1024, .f32⟩
  | .hbm, ⟨47, _⟩ => ⟨S64x1024x256, .f32⟩
  | .hbm, ⟨48, _⟩ => ⟨S16384x4x1x64, .f32⟩
  | .hbm, ⟨49, _⟩ => ⟨S16384x4x1x64, .f32⟩
  | .hbm, ⟨50, _⟩ => ⟨S16384x4x2x64, .f32⟩
  | .hbm, ⟨51, _⟩ => ⟨S16384x512, .f32⟩
  | .hbm, ⟨52, _⟩ => ⟨S512x16384, .f32⟩
  | .hbm, ⟨53, _⟩ => ⟨S16384x3x4x4, .f32⟩
  | .hbm, ⟨54, _⟩ => ⟨S16384x4x3x4, .f32⟩
  | .hbm, ⟨55, _⟩ => ⟨S16384x4x12, .f32⟩
  | .hbm, ⟨56, _⟩ => ⟨S_, .i32⟩
  | .hbm, ⟨57, _⟩ => ⟨S_, .f32⟩
  | .hbm, ⟨58, _⟩ => ⟨S16384x4x16, .f32⟩
  | .hbm, ⟨59, _⟩ => ⟨S64x256x64, .f32⟩
  | .hbm, ⟨60, _⟩ => ⟨S64x64x256, .f32⟩
  | .hbm, ⟨61, _⟩ => ⟨S16384x1536, .bf16⟩
  | .hbm, ⟨62, _⟩ => ⟨S16384x512, .bf16⟩
  | .hbm, ⟨63, _⟩ => ⟨S16384x2048, .bf16⟩
  | .hbm, ⟨64, _⟩ => ⟨S64x1024x256, .bf16⟩
  | .hbm, ⟨65, _⟩ => ⟨S512x16384, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_c : Ref sig .tc := ⟨.hbm, 56, rfl⟩
abbrev main_call0_v0 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩

abbrev nD : Nat := 1
abbrev τ : Topo := Topo.v7x

variable {F : FTy → Type} [FloatOps F]
-- ==== Cmp.lean ====
abbrev S16384x512 : Shape := ⟨2, ![16384, 512]⟩
abbrev S1x32x64 : Shape := ⟨3, ![1, 32, 64]⟩
abbrev S1x2048x256 : Shape := ⟨3, ![1, 2048, 256]⟩
abbrev S1x256x64 : Shape := ⟨3, ![1, 256, 64]⟩
abbrev S32x64 : Shape := ⟨2, ![32, 64]⟩
abbrev S2x32x64 : Shape := ⟨3, ![2, 32, 64]⟩
abbrev S2x2x1x1024 : Shape := ⟨4, ![2, 2, 1, 1024]⟩
abbrev S2048x256 : Shape := ⟨2, ![2048, 256]⟩
abbrev S2x2048x256 : Shape := ⟨3, ![2, 2048, 256]⟩
abbrev S256x64 : Shape := ⟨2, ![256, 64]⟩
abbrev S64x256 : Shape := ⟨2, ![64, 256]⟩
abbrev S4x4x256x64 : Shape := ⟨4, ![4, 4, 256, 64]⟩
abbrev S4x4x64x256 : Shape := ⟨4, ![4, 4, 64, 256]⟩
abbrev S4096x128 : Shape := ⟨2, ![4096, 128]⟩
abbrev S1x2x256x64 : Shape := ⟨4, ![1, 2, 256, 64]⟩
abbrev S1x2x64x256 : Shape := ⟨4, ![1, 2, 64, 256]⟩
abbrev S256x128 : Shape := ⟨2, ![256, 128]⟩
abbrev S256x1024 : Shape := ⟨2, ![256, 1024]⟩
abbrev S1x1x1x1024 : Shape := ⟨4, ![1, 1, 1, 1024]⟩
abbrev S1x1024 : Shape := ⟨2, ![1, 1024]⟩
abbrev S1x1024x256 : Shape := ⟨3, ![1, 1024, 256]⟩
abbrev S1024x256 : Shape := ⟨2, ![1024, 256]⟩
abbrev S256x256 : Shape := ⟨2, ![256, 256]⟩
abbrev S1x1x256x64 : Shape := ⟨4, ![1, 1, 256, 64]⟩
abbrev S1x1x64x256 : Shape := ⟨4, ![1, 1, 64, 256]⟩

abbrev nBuf : Space → Nat
  | .hbm => 26
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S1x32x64, .f32⟩
  | .hbm, ⟨2, _⟩ => ⟨S1x2048x256, .f32⟩
  | .hbm, ⟨3, _⟩ => ⟨S1x256x64, .f32⟩
  | .hbm, ⟨4, _⟩ => ⟨S1x32x64, .f32⟩
  | .hbm, ⟨5, _⟩ => ⟨S1x2048x256, .f32⟩
  | .hbm, ⟨6, _⟩ => ⟨S1x256x64, .f32⟩
  | .hbm, ⟨7, _⟩ => ⟨S32x64, .f32⟩
  | .hbm, ⟨8, _⟩ => ⟨S32x64, .f32⟩
  | .hbm, ⟨9, _⟩ => ⟨S1x32x64, .f32⟩
  | .hbm, ⟨10, _⟩ => ⟨S1x32x64, .f32⟩
  | .hbm, ⟨11, _⟩ => ⟨S2x32x64, .f32⟩
  | .hbm, ⟨12, _⟩ => ⟨S2x2x1x1024, .f32⟩
  | .hbm, ⟨13, _⟩ => ⟨S2048x256, .f32⟩
  | .hbm, ⟨14, _⟩ => ⟨S2048x256, .f32⟩
  | .hbm, ⟨15, _⟩ => ⟨S1x2048x256, .f32⟩
  | .hbm, ⟨16, _⟩ => ⟨S1x2048x256, .f32⟩
  | .hbm, ⟨17, _⟩ => ⟨S2x2048x256, .f32⟩
  | .hbm, ⟨18, _⟩ => ⟨S2x2048x256, .bf16⟩
  | .hbm, ⟨19, _⟩ => ⟨S256x64, .f32⟩
  | .hbm, ⟨20, _⟩ => ⟨S256x64, .bf16⟩
  | .hbm, ⟨21, _⟩ => ⟨S256x64, .f32⟩
  | .hbm, ⟨22, _⟩ => ⟨S64x256, .f32⟩
  | .hbm, ⟨23, _⟩ => ⟨S64x256, .bf16⟩
  | .hbm, ⟨24, _⟩ => ⟨S4x4x256x64, .bf16⟩
  | .hbm, ⟨25, _⟩ => ⟨S4x4x64x256, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S2x2x1x1024, .f32⟩
  | .local _ .vmem, ⟨5, _⟩ => ⟨S2x2048x256, .bf16⟩
  | .local _ .vmem, ⟨6, _⟩ => ⟨S256x64, .bf16⟩
  | .local _ .vmem, ⟨7, _⟩ => ⟨S64x256, .bf16⟩
  | .local _ .vmem, ⟨8, _⟩ => ⟨S1x2x256x64, .bf16⟩
  | .local _ .vmem, ⟨9, _⟩ => ⟨S1x2x256x64, .bf16⟩
  | .local _ .vmem, ⟨10, _⟩ => ⟨S1x2x64x256, .bf16⟩
  | .local _ .vmem, ⟨11, _⟩ => ⟨S1x2x64x256, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x2x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== CmpRefIdeal.lean ====
abbrev S16384x512 : Shape := ⟨2, ![16384, 512]⟩
abbrev S1x32x64 : Shape := ⟨3, ![1, 32, 64]⟩
abbrev S1x2048x256 : Shape := ⟨3, ![1, 2048, 256]⟩
abbrev S1x256x64 : Shape := ⟨3, ![1, 256, 64]⟩
abbrev S4x4096x512 : Shape := ⟨3, ![4, 4096, 512]⟩
abbrev S4x4096x256 : Shape := ⟨3, ![4, 4096, 256]⟩
abbrev S32x64 : Shape := ⟨2, ![32, 64]⟩
abbrev S2048x256 : Shape := ⟨2, ![2048, 256]⟩
abbrev S256x64 : Shape := ⟨2, ![256, 64]⟩
abbrev S4x256x16x4x64 : Shape := ⟨5, ![4, 256, 16, 4, 64]⟩
abbrev S4x255x16x4x64 : Shape := ⟨5, ![4, 255, 16, 4, 64]⟩
abbrev S4x255x32x4x64 : Shape := ⟨5, ![4, 255, 32, 4, 64]⟩
abbrev S1x1x32x1x64 : Shape := ⟨5, ![1, 1, 32, 1, 64]⟩
abbrev S4x4x255x32x64 : Shape := ⟨5, ![4, 4, 255, 32, 64]⟩
abbrev S4x4x255x2048 : Shape := ⟨4, ![4, 4, 255, 2048]⟩
abbrev S4x4x255x256 : Shape := ⟨4, ![4, 4, 255, 256]⟩
abbrev S_ : Shape := ⟨0, ![]⟩
abbrev S4x4x255x64 : Shape := ⟨4, ![4, 4, 255, 64]⟩
abbrev S4x4x256x64 : Shape := ⟨4, ![4, 4, 256, 64]⟩
abbrev S4x4x64x256 : Shape := ⟨4, ![4, 4, 64, 256]⟩

abbrev nBuf : Space → Nat
  | .hbm => 81
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1x32x64, .f32⟩
  | .hbm, ⟨2, _⟩ => ⟨S1x2048x256, .f32⟩
  | .hbm, ⟨3, _⟩ => ⟨S1x256x64, .f32⟩
  | .hbm, ⟨4, _⟩ => ⟨S1x32x64, .f32⟩
  | .hbm, ⟨5, _⟩ => ⟨S1x2048x256, .f32⟩
  | .hbm, ⟨6, _⟩ => ⟨S1x256x64, .f32⟩
  | .hbm, ⟨7, _⟩ => ⟨S4x4096x512, .f32⟩
  | .hbm, ⟨8, _⟩ => ⟨S4x4096x256, .f32⟩
  | .hbm, ⟨9, _⟩ => ⟨S4x4096x256, .f32⟩
  | .hbm, ⟨10, _⟩ => ⟨S32x64, .f32⟩
  | .hbm, ⟨11, _⟩ => ⟨S2048x256, .f32⟩
  | .hbm, ⟨12, _⟩ => ⟨S256x64, .f32⟩
  | .hbm, ⟨13, _⟩ => ⟨S4x256x16x4x64, .f32⟩
  | .hbm, ⟨14, _⟩ => ⟨S4x255x16x4x64, .f32⟩
  | .hbm, ⟨15, _⟩ => ⟨S4x255x16x4x64, .f32⟩
  | .hbm, ⟨16, _⟩ => ⟨S4x255x32x4x64, .f32⟩
  | .hbm, ⟨17, _⟩ => ⟨S1x1x32x1x64, .f32⟩
  | .hbm, ⟨18, _⟩ => ⟨S4x255x32x4x64, .f32⟩
  | .hbm, ⟨19, _⟩ => ⟨S4x255x32x4x64, .f32⟩
  | .hbm, ⟨20, _⟩ => ⟨S4x4x255x32x64, .f32⟩
  | .hbm, ⟨21, _⟩ => ⟨S4x4x255x2048, .f32⟩
  | .hbm, ⟨22, _⟩ => ⟨S4x4x255x256, .f32⟩
  | .hbm, ⟨23, _⟩ => ⟨S4x4x255x256, .f32⟩
  | .hbm, ⟨24, _⟩ => ⟨S4x4x255x256, .f32⟩
  | .hbm, ⟨25, _⟩ => ⟨S_, .f32⟩
  | .hbm, ⟨26, _⟩ => ⟨S4x4x255x256, .f32⟩
  | .hbm, ⟨27, _⟩ => ⟨S4x4x255x256, .f32⟩
  | .hbm, ⟨28, _⟩ => ⟨S4x4x255x256, .f32⟩
  | .hbm, ⟨29, _⟩ => ⟨S_, .f32⟩
  | .hbm, ⟨30, _⟩ => ⟨S4x4x255x256, .f32⟩
  | .hbm, ⟨31, _⟩ => ⟨S4x4x255x256, .f32⟩
  | .hbm, ⟨32, _⟩ => ⟨S4x4x255x256, .f32⟩
  | .hbm, ⟨33, _⟩ => ⟨S_, .f32⟩
  | .hbm, ⟨34, _⟩ => ⟨S4x4x255x256, .f32⟩
  | .hbm, ⟨35, _⟩ => ⟨S4x4x255x256, .f32⟩
  | .hbm, ⟨36, _⟩ => ⟨S_, .f32⟩
  | .hbm, ⟨37, _⟩ => ⟨S4x4x255x256, .f32⟩
  | .hbm, ⟨38, _⟩ => ⟨S4x4x255x256, .f32⟩
  | .hbm, ⟨39, _⟩ => ⟨S4x4x255x256, .f32⟩
  | .hbm, ⟨40, _⟩ => ⟨S4x4x255x64, .f32⟩
  | .hbm, ⟨41, _⟩ => ⟨S32x64, .f32⟩
  | .hbm, ⟨42, _⟩ => ⟨S2048x256, .f32⟩
  | .hbm, ⟨43, _⟩ => ⟨S256x64, .f32⟩
  | .hbm, ⟨44, _⟩ => ⟨S4x256x16x4x64, .f32⟩
  | .hbm, ⟨45, _⟩ => ⟨S4x255x16x4x64, .f32⟩
  | .hbm, ⟨46, _⟩ => ⟨S4x255x16x4x64, .f32⟩
  | .hbm, ⟨47, _⟩ => ⟨S4x255x32x4x64, .f32⟩
  | .hbm, ⟨48, _⟩ => ⟨S1x1x32x1x64, .f32⟩
  | .hbm, ⟨49, _⟩ => ⟨S4x255x32x4x64, .f32⟩
  | .hbm, ⟨50, _⟩ => ⟨S4x255x32x4x64, .f32⟩
  | .hbm, ⟨51, _⟩ => ⟨S4x4x255x32x64, .f32⟩
  | .hbm, ⟨52, _⟩ => ⟨S4x4x255x2048, .f32⟩
  | .hbm, ⟨53, _⟩ => ⟨S4x4x255x256, .f32⟩
  | .hbm, ⟨54, _⟩ => ⟨S4x4x255x256, .f32⟩
  | .hbm, ⟨55, _⟩ => ⟨S4x4x255x256, .f32⟩
  | .hbm, ⟨56, _⟩ => ⟨S_, .f32⟩
  | .hbm, ⟨57, _⟩ => ⟨S4x4x255x256, .f32⟩
  | .hbm, ⟨58, _⟩ => ⟨S4x4x255x256, .f32⟩
  | .hbm, ⟨59, _⟩ => ⟨S4x4x255x256, .f32⟩
  | .hbm, ⟨60, _⟩ => ⟨S_, .f32⟩
  | .hbm, ⟨61, _⟩ => ⟨S4x4x255x256, .f32⟩
  | .hbm, ⟨62, _⟩ => ⟨S4x4x255x256, .f32⟩
  | .hbm, ⟨63, _⟩ => ⟨S4x4x255x256, .f32⟩
  | .hbm, ⟨64, _⟩ => ⟨S_, .f32⟩
  | .hbm, ⟨65, _⟩ => ⟨S4x4x255x256, .f32⟩
  | .hbm, ⟨66, _⟩ => ⟨S4x4x255x256, .f32⟩
  | .hbm, ⟨67, _⟩ => ⟨S_, .f32⟩
  | .hbm, ⟨68, _⟩ => ⟨S4x4x255x256, .f32⟩
  | .hbm, ⟨69, _⟩ => ⟨S4x4x255x256, .f32⟩
  | .hbm, ⟨70, _⟩ => ⟨S4x4x255x256, .f32⟩
  | .hbm, ⟨71, _⟩ => ⟨S4x4x255x64, .f32⟩
  | .hbm, ⟨72, _⟩ => ⟨S_, .i32⟩
  | .hbm, ⟨73, _⟩ => ⟨S_, .f32⟩
  | .hbm, ⟨74, _⟩ => ⟨S4x4x256x64, .f32⟩
  | .hbm, ⟨75, _⟩ => ⟨S4x4x256x64, .bf16⟩
  | .hbm, ⟨76, _⟩ => ⟨S_, .i32⟩
  | .hbm, ⟨77, _⟩ => ⟨S_, .f32⟩
  | .hbm, ⟨78, _⟩ => ⟨S4x4x256x64, .f32⟩
  | .hbm, ⟨79, _⟩ => ⟨S4x4x256x64, .bf16⟩
  | .hbm, ⟨80, _⟩ => ⟨S4x4x64x256, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c : Ref sig .tc := ⟨.hbm, 72, rfl⟩
abbrev main_call0_v0 : Ref sig .tc := ⟨.hbm, 73, rfl⟩
abbrev main_v57 : Ref sig .tc := ⟨.hbm, 74, rfl⟩
abbrev main_v58 : Ref sig .tc := ⟨.hbm, 75, rfl⟩
abbrev main_c_7 : Ref sig .tc := ⟨.hbm, 76, rfl⟩
abbrev main_call1_v0 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Proof.AttnSafe.lean ====
/- A small calculus for showing that the attention kernel's body touches nothing but its own
   windows and scratch buffers: `Safe c R p Φ` says that the program `p`, started with the resource
   `R`, ends with `R` again and with a value satisfying `Φ`.  One rule per kind of step of the body. -/
module

public import proofs.«01_k».proof.Proof.Gen.KernelIdeal.Frame
public import proofs.«01_k».proof.Proof.Gen.KernelIdeal.Skeleton
public import Idealize.ShloMosaic.Lib.Writes
public import Idealize.ShloMosaic.Lib.Scf

@[expose] public section

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the kernel's resources live in. -/
abbrev M (F : FTy → Type) : Type := MT nD τ sig Unit (Elt F) ℕ (UR sig nD τ) ℕ

/-- From `R` the program runs to the end, gives `R` back, and its value satisfies `Φ`. -/
def Safe (c : Dev nD) (R : sProp (M F)) {α : Type} (p : Prog (TpuEff nD τ sig (Elt F) Λ₀ .tc) α)
    (Φ : α → Prop) : Prop :=
  R ⊢ wp frame (wpE (defs₀ (F := F)) Variants.none (c : Thread nD τ) none) Set.univ p
    (fun a => iprop(⌜Φ a⌝ ∗ R))

/-- `R` holds the memref's buffer at some contents, and takes it back unchanged. -/
def Rd (c : Dev nD) (R : sProp (M F)) {s : Shape} {e : EltTy} (m : Memref sig .tc .vmem s e) : Prop :=
  R ⊢ iprop(∃ f, (m.view.loc (c : Thread nD τ) ↦[m.view.set]{fullShare} f)
    ∗ ((m.view.loc (c : Thread nD τ) ↦[m.view.set]{fullShare} f) -∗ R))

/-- `R` holds the memref's buffer at some contents, and takes it back at any. -/
def Wr (c : Dev nD) (R : sProp (M F)) {s : Shape} {e : EltTy} (m : Memref sig .tc .vmem s e) : Prop :=
  R ⊢ iprop(∃ f, (m.view.loc (c : Thread nD τ) ↦[m.view.set]{fullShare} f)
    ∗ (∀ f', (m.view.loc (c : Thread nD τ) ↦[m.view.set]{fullShare} f') -∗ R))

section rules
variable {c : Dev nD} {R : sProp (M F)} {α β : Type} {Φ : α → Prop} {Ψ : β → Prop}
  {s : Shape} {e : EltTy} {m : Memref sig .tc .vmem s e}

theorem Wr.rd (h : Wr c R m) : Rd c R m := by
  unfold Rd
  refine BIBase.Entails.trans h ?_
  iintro ⟨%f, H, K⟩
  iexists f
  isplitl [H]
  · iexact H
  · iintro H
    iapply K
    iexact H

/-- A value ends the program. -/
theorem pr {a : α} (h : Φ a) : Safe c R (pure a) Φ := by
  unfold Safe
  show R ⊢ wp frame (wpE (defs₀ (F := F)) Variants.none (c : Thread nD τ) none) Set.univ (.ret a) _
  rw [wp_ret]
  iintro H
  imodintro
  isplitr
  · ipureintro; exact h
  · iexact H

/-- One program after another. -/
theorem bd {p : Prog (TpuEff nD τ sig (Elt F) Λ₀ .tc) α} {k : α → Prog (TpuEff nD τ sig (Elt F) Λ₀ .tc) β}
    (hp : Safe c R p Φ) (hk : ∀ x, Φ x → Safe c R (k x) Ψ) : Safe c R (p >>= k) Ψ := by
  unfold Safe at *
  rw [wp_bind]
  refine BIBase.Entails.trans hp (wp_mono _ _ _ fun a => ?_)
  iintro ⟨%h, H⟩
  iapply (hk a h)
  iexact H

/-- A load. -/
theorem ld (h : Rd c R m) {r : LoadRect s} {hl : m.view.LoadsAt r}
    {k : (r.shape.Idx → Elt F e) → Prog (TpuEff nD τ sig (Elt F) Λ₀ .tc) β}
    (hk : ∀ x, Safe c R (k x) Ψ) : Safe c R (Prog.lift (.load m r hl) >>= k) Ψ := by
  unfold Safe at *
  show R ⊢ wp frame _ Set.univ (.op (.load m r hl) k) _
  refine BIBase.Entails.trans h ?_
  iintro ⟨%f, H, K⟩
  iapply (wp_load Variants.none (c : Thread nD τ) none Set.univ (m.view.setOn_subset_set r.set)) $$ H
  iintro H
  iapply (hk _)
  iapply K
  iexact H

/-- A store. -/
theorem st (h : Wr c R m) {r : Rect s} {w : r.shape.Idx → Elt F e} {Mk : Finset r.shape.Idx}
    {hx : (m.access r).Stores Mk} {hm : Mk = Finset.univ ∨ ∀ a, r.stride a = 1}
    {k : PUnit → Prog (TpuEff nD τ sig (Elt F) Λ₀ .tc) β}
    (hk : Safe c R (k ⟨⟩) Ψ) : Safe c R (Prog.lift (.store m r w Mk hx hm) >>= k) Ψ := by
  unfold Safe at *
  show R ⊢ wp frame _ Set.univ (.op (.store m r w Mk hx hm) k) _
  refine BIBase.Entails.trans h ?_
  iintro ⟨%f, H, K⟩
  iapply (wp_store Variants.none (c : Thread nD τ) none Set.univ (((m.access r).setOn_subset_set Mk).trans (m.view.set_slice_subset r))) $$ H
  iintro H
  iapply hk
  iapply K
  iexact H

/-- A store at the program's end. -/
theorem stEnd (h : Wr c R m) {r : Rect s} {w : r.shape.Idx → Elt F e} {Mk : Finset r.shape.Idx}
    {hx : (m.access r).Stores Mk} {hm : Mk = Finset.univ ∨ ∀ a, r.stride a = 1} {Φ : PUnit → Prop}
    (hk : Φ ⟨⟩) : Safe c R (Prog.lift (.store m r w Mk hx hm)) Φ :=
  st (k := fun a => pure a) h (pr hk)

/-- The side condition of a computed index. -/
theorem asm {P : Prop} {d : Decidable P} (h : P) {k : PLift P → Prog (TpuEff nD τ sig (Elt F) Λ₀ .tc) β}
    (hk : Safe c R (k ⟨h⟩) Ψ) : Safe c R (Prog.lift (.assume P d) >>= k) Ψ := by
  unfold Safe at *
  exact BIBase.Entails.trans hk (wp_assume Variants.none (c : Thread nD τ) none Set.univ h)

/-- What is known of the value may be weakened. -/
theorem weak {p : Prog (TpuEff nD τ sig (Elt F) Λ₀ .tc) α} {Φ' : α → Prop} (h : Safe c R p Φ)
    (hk : ∀ x, Φ x → Φ' x) : Safe c R p Φ' := by
  unfold Safe at *
  refine BIBase.Entails.trans h (wp_mono _ _ _ fun a => ?_)
  iintro ⟨%h, H⟩
  isplitr
  · ipureintro; exact hk a h
  · iexact H

/-- A loop with an invariant of its carried values. -/
theorem loop {w : ℕ} {σ : Type} {lb ub sp : BitVec w} {hok : Scf.OK lb ub sp} {init : σ}
    {body : Fin (Scf.trips lb ub sp) → σ → Prog (TpuEff nD τ sig (Elt F) Λ₀ .tc) σ} (I : ℕ → σ → Prop)
    (h0 : I 0 init)
    (hb : ∀ k acc, I k.val acc → Safe c R (body k acc) (I (k.val + 1))) :
    Safe c R (Scf.for lb ub sp hok init body) (I (Scf.trips lb ub sp)) := by
  unfold Safe at *
  have := Scf.wp_for frame (wpE (defs₀ (F := F)) Variants.none (c : Thread nD τ) none) Set.univ lb ub sp hok init body
    (fun k acc => iprop(⌜I k acc⌝ ∗ R)) (fun k acc => by
      iintro ⟨%h, H⟩
      iapply (hb k acc h)
      iexact H) (Q := fun a => iprop(⌜I (Scf.trips lb ub sp) a⌝ ∗ R))
  refine BIBase.Entails.trans ?_ this
  iintro H
  isplitl [H]
  · isplitr
    · ipureintro; exact h0
    · iexact H
  · iintro %acc H
    iexact H

end rules

/-- One step of the walk over pairs of query blocks: the first index moves up, and starts anew one
    pair later when it has reached the second. -/
def nx (p : BitVec 32 × BitVec 32) : BitVec 32 × BitVec 32 :=
  (Scalar.select (Scalar.cmpi .sge (Scalar.addi p.1 1#32) p.2) 0#32 (Scalar.addi p.1 1#32),
    Scalar.select (Scalar.cmpi .sge (Scalar.addi p.1 1#32) p.2) (Scalar.addi p.2 1#32) p.2)

/-- The pair after `n` steps from `(a, b)`. -/
def S (a b : BitVec 32) : ℕ → BitVec 32 × BitVec 32
  | 0 => (a, b)
  | n + 1 => nx (S a b n)

theorem S_fst (a b : BitVec 32) (n : ℕ) : (S a b (n + 1)).1
    = Scalar.select (Scalar.cmpi .sge (Scalar.addi (S a b n).1 1#32) (S a b n).2) 0#32 (Scalar.addi (S a b n).1 1#32) := rfl

theorem S_snd (a b : BitVec 32) (n : ℕ) : (S a b (n + 1)).2
    = Scalar.select (Scalar.cmpi .sge (Scalar.addi (S a b n).1 1#32) (S a b n).2) (Scalar.addi (S a b n).2 1#32) (S a b n).2 := rfl

theorem S_fst0 (a b : BitVec 32) : (S a b 1).1
    = Scalar.select (Scalar.cmpi .sge (Scalar.addi a 1#32) b) 0#32 (Scalar.addi a 1#32) := rfl

theorem S_snd0 (a b : BitVec 32) : (S a b 1).2
    = Scalar.select (Scalar.cmpi .sge (Scalar.addi a 1#32) b) (Scalar.addi b 1#32) b := rfl

theorem S_zero (a b : BitVec 32) : S a b 0 = (a, b) := rfl

theorem S_succ (a b : BitVec 32) (n : ℕ) : S a b (n + 1) = nx (S a b n) := rfl

theorem S_add (a b : BitVec 32) (m n : ℕ) : S (S a b m).1 (S a b m).2 n = S a b (m + n) := by
  induction n with
  | zero => rfl
  | succ n ih => exact congrArg nx ih

attribute [irreducible] S

/-- Access to the kernel's eighteen buffers: the windows' inputs read, the output and the scratch
    read and written. -/
structure Acc (c : Dev nD) (R : sProp (M F))
    (arg2 : Memref sig .tc .vmem S16x256x256 .bf16)
    (arg3 : Memref sig .tc .vmem S1x1x256x64 .bf16)
    (arg4 : Memref sig .tc .vmem S1x1x64x256 .bf16)
    (arg5 : Memref sig .tc .vmem S64x256 .bf16)
    (arg6 : Memref sig .tc .vmem S4096x128 .bf16)
    (arg7 : Memref sig .tc .vmem S128x4096 .bf16)
    (arg8 : Memref sig .tc .vmem S16x16x256 .f32)
    (arg9 : Memref sig .tc .vmem S4096x256 .bf16)
    (arg10 : Memref sig .tc .vmem S4096x128 .bf16)
    (arg11 : Memref sig .tc .vmem S4096x128 .bf16)
    (arg12 : Memref sig .tc .vmem S16x80x256 .bf16)
    (arg13 : Memref sig .tc .vmem S16x80x256 .bf16)
    (arg14 : Memref sig .tc .vmem S16x128x1024 .bf16)
    (arg15 : Memref sig .tc .vmem S16x1x1024 .f32)
    (arg16 : Memref sig .tc .vmem S16x80x1024 .f32)
    (arg17 : Memref sig .tc .vmem S16x64x1024 .f32)
    (arg18 : Memref sig .tc .vmem S64x256 .f32)
    (arg19 : Memref sig .tc .vmem S256x1024 .f32) : Prop where
  r2 : Rd c R arg2
  r3 : Rd c R arg3
  r4 : Rd c R arg4
  r5 : Rd c R arg5
  r6 : Rd c R arg6
  r7 : Rd c R arg7
  r8 : Rd c R arg8
  w9 : Wr c R arg9
  w10 : Wr c R arg10
  w11 : Wr c R arg11
  w12 : Wr c R arg12
  w13 : Wr c R arg13
  w14 : Wr c R arg14
  w15 : Wr c R arg15
  w16 : Wr c R arg16
  w17 : Wr c R arg17
  w18 : Wr c R arg18
  w19 : Wr c R arg19

end Cert.KernelIdeal.Attn
-- ==== Proof.AttnParts1.lean ====
/- The stretches of the attention kernel's body, each safe: it loads from its windows and scratch, and stores to its output and scratch. -/
module

public import proofs.«01_k».proof.Proof.AttnSafe

@[expose] public section

set_option maxRecDepth 8192
set_option maxHeartbeats 4000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (M F)}
  {arg2 : Memref sig .tc .vmem S16x256x256 .bf16} {harg2 : arg2.IsWhole}
  {arg3 : Memref sig .tc .vmem S1x1x256x64 .bf16} {harg3 : arg3.IsWhole}
  {arg4 : Memref sig .tc .vmem S1x1x64x256 .bf16} {harg4 : arg4.IsWhole}
  {arg5 : Memref sig .tc .vmem S64x256 .bf16} {harg5 : arg5.IsWhole}
  {arg6 : Memref sig .tc .vmem S4096x128 .bf16} {harg6 : arg6.IsWhole}
  {arg7 : Memref sig .tc .vmem S128x4096 .bf16} {harg7 : arg7.IsWhole}
  {arg8 : Memref sig .tc .vmem S16x16x256 .f32} {harg8 : arg8.IsWhole}
  {arg9 : Memref sig .tc .vmem S4096x256 .bf16} {harg9 : arg9.IsWhole}
  {arg10 : Memref sig .tc .vmem S4096x128 .bf16} {harg10 : arg10.IsWhole}
  {arg11 : Memref sig .tc .vmem S4096x128 .bf16} {harg11 : arg11.IsWhole}
  {arg12 : Memref sig .tc .vmem S16x80x256 .bf16} {harg12 : arg12.IsWhole}
  {arg13 : Memref sig .tc .vmem S16x80x256 .bf16} {harg13 : arg13.IsWhole}
  {arg14 : Memref sig .tc .vmem S16x128x1024 .bf16} {harg14 : arg14.IsWhole}
  {arg15 : Memref sig .tc .vmem S16x1x1024 .f32} {harg15 : arg15.IsWhole}
  {arg16 : Memref sig .tc .vmem S16x80x1024 .f32} {harg16 : arg16.IsWhole}
  {arg17 : Memref sig .tc .vmem S16x64x1024 .f32} {harg17 : arg17.IsWhole}
  {arg18 : Memref sig .tc .vmem S64x256 .f32} {harg18 : arg18.IsWhole}
  {arg19 : Memref sig .tc .vmem S256x1024 .f32} {harg19 : arg19.IsWhole}
  (H : Acc c R arg2 arg3 arg4 arg5 arg6 arg7 arg8 arg9 arg10 arg11 arg12 arg13 arg14 arg15 arg16 arg17 arg18 arg19)

include H

theorem p1 (i : grid0.Coords) : ∀ x0 x1 x2, Safe c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part1_eq_skeleton]
  unfold k0_part1_skel
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.w14.rd fun _ => ?_
  exact pr trivial

theorem p2 (i : grid0.Coords) : ∀ x0 x1 x2 x3, Safe c R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part2_eq_skeleton]
  unfold k0_part2_skel
  refine ld H.r3 fun _ => ?_
  exact pr trivial

theorem p3 (i : grid0.Coords) : ∀ x0 x1 x2 x3 x4 x5, Safe c R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part3_eq_skeleton]
  unfold k0_part3_skel
  refine ld H.w11.rd fun _ => ?_
  refine ld H.w11.rd fun _ => ?_
  refine ld H.w11.rd fun _ => ?_
  refine ld H.r4 fun _ => ?_
  exact pr trivial

theorem p4 (i : grid0.Coords) : ∀ x0 x1 x2, Safe c R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part4_eq_skeleton]
  unfold k0_part4_skel
  refine ld H.r5 fun _ => ?_
  exact pr trivial

theorem p5 (i : grid0.Coords) : ∀ x0 x1 x2 x3 x4 x5 x6 x7 x8 x9, Safe c R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9) (fun _ => True) := by
  intros
  rw [k0_part5_eq_skeleton]
  unfold k0_part5_skel
  refine ld H.w18.rd fun _ => ?_
  refine st H.w18 ?_
  refine ld H.w13.rd fun _ => ?_
  exact pr trivial

theorem p6 (i : grid0.Coords) : ∀ x0 x1 x2 x3 x4 x5 x6, Safe c R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part6_eq_skeleton]
  unfold k0_part6_skel
  refine ld H.w13.rd fun _ => ?_
  refine ld H.w13.rd fun _ => ?_
  refine ld H.r8 fun _ => ?_
  refine ld H.w17.rd fun _ => ?_
  refine st H.w17 ?_
  exact pr trivial

theorem p7 (i : grid0.Coords) : ∀ x0 x1 x2 x3 x4 x5 x6 x7 x8, Safe c R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (fun _ => True) := by
  intros
  rw [k0_part7_eq_skeleton]
  unfold k0_part7_skel
  refine ld H.w17.rd fun _ => ?_
  refine st H.w17 ?_
  refine ld H.w17.rd fun _ => ?_
  refine st H.w17 ?_
  refine ld H.w17.rd fun _ => ?_
  refine st H.w17 ?_
  refine ld H.w18.rd fun _ => ?_
  exact pr trivial

theorem p8 (i : grid0.Coords) : ∀ x0 x1 x2 x3 x4 x5 x6 x7, Safe c R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part8_eq_skeleton]
  unfold k0_part8_skel
  refine ld H.w18.rd fun _ => ?_
  refine ld H.w18.rd fun _ => ?_
  refine ld H.w18.rd fun _ => ?_
  exact pr trivial

theorem p9 (i : grid0.Coords) : ∀ x0 x1 x2 x3 x4, Safe c R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part9_eq_skeleton]
  unfold k0_part9_skel
  refine ld H.w18.rd fun _ => ?_
  refine ld H.w18.rd fun _ => ?_
  exact pr trivial

theorem p10 (i : grid0.Coords) : ∀ x0 x1 x2 x3 x4 x5 x6 x7, Safe c R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part10_eq_skeleton]
  unfold k0_part10_skel
  refine ld H.w18.rd fun _ => ?_
  refine ld H.w18.rd fun _ => ?_
  refine ld H.w18.rd fun _ => ?_
  exact pr trivial

theorem p11 (i : grid0.Coords) : ∀ x0 x1 x2 x3 x4, Safe c R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part11_eq_skeleton]
  unfold k0_part11_skel
  refine ld H.w18.rd fun _ => ?_
  refine ld H.w18.rd fun _ => ?_
  exact pr trivial

theorem p12 (i : grid0.Coords) : ∀ x0 x1 x2 x3 x4 x5 x6 x7, Safe c R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part12_eq_skeleton]
  unfold k0_part12_skel
  refine ld H.w18.rd fun _ => ?_
  refine ld H.w18.rd fun _ => ?_
  refine ld H.w18.rd fun _ => ?_
  exact pr trivial

theorem p13 (i : grid0.Coords) : ∀ x0 x1 x2 x3 x4, Safe c R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part13_eq_skeleton]
  unfold k0_part13_skel
  refine ld H.w18.rd fun _ => ?_
  refine ld H.w18.rd fun _ => ?_
  exact pr trivial

theorem p14 (i : grid0.Coords) : ∀ x0 x1 x2 x3 x4 x5 x6 x7, Safe c R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part14_eq_skeleton]
  unfold k0_part14_skel
  refine ld H.w18.rd fun _ => ?_
  refine ld H.w18.rd fun _ => ?_
  refine ld H.w18.rd fun _ => ?_
  exact pr trivial

theorem p15 (i : grid0.Coords) : ∀ x0 x1 x2 x3 x4, Safe c R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part15_eq_skeleton]
  unfold k0_part15_skel
  refine ld H.w18.rd fun _ => ?_
  refine ld H.w18.rd fun _ => ?_
  exact pr trivial

theorem p16 (i : grid0.Coords) : ∀ x0 x1 x2 x3 x4 x5 x6 x7, Safe c R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part16_eq_skeleton]
  unfold k0_part16_skel
  refine ld H.w18.rd fun _ => ?_
  refine ld H.w18.rd fun _ => ?_
  refine ld H.w18.rd fun _ => ?_
  exact pr trivial

theorem p17 (i : grid0.Coords) : ∀ x0 x1 x2 x3 x4, Safe c R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part17_eq_skeleton]
  unfold k0_part17_skel
  refine ld H.w18.rd fun _ => ?_
  refine ld H.w18.rd fun _ => ?_
  exact pr trivial

theorem p18 (i : grid0.Coords) : ∀ x0 x1 x2 x3 x4 x5 x6 x7, Safe c R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part18_eq_skeleton]
  unfold k0_part18_skel
  refine ld H.w18.rd fun _ => ?_
  refine ld H.w18.rd fun _ => ?_
  refine ld H.w18.rd fun _ => ?_
  exact pr trivial

theorem p19 (i : grid0.Coords) : ∀ x0 x1 x2 x3 x4, Safe c R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part19_eq_skeleton]
  unfold k0_part19_skel
  refine ld H.w18.rd fun _ => ?_
  refine ld H.w18.rd fun _ => ?_
  exact pr trivial

theorem p20 (i : grid0.Coords) : ∀ x0 x1 x2 x3 x4 x5 x6 x7, Safe c R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part20_eq_skeleton]
  unfold k0_part20_skel
  refine ld H.w18.rd fun _ => ?_
  refine ld H.w18.rd fun _ => ?_
  refine ld H.w18.rd fun _ => ?_
  exact pr trivial

theorem p21 (i : grid0.Coords) : ∀ x0 x1 x2 x3 x4, Safe c R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part21_eq_skeleton]
  unfold k0_part21_skel
  refine ld H.w18.rd fun _ => ?_
  refine ld H.w18.rd fun _ => ?_
  exact pr trivial

theorem p22 (i : grid0.Coords) : ∀ x0 x1 x2 x3 x4 x5 x6 x7, Safe c R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part22_eq_skeleton]
  unfold k0_part22_skel
  refine ld H.w18.rd fun _ => ?_
  refine ld H.w18.rd fun _ => ?_
  refine ld H.w18.rd fun _ => ?_
  exact pr trivial

theorem p23 (i : grid0.Coords) : ∀ x0 x1 x2 x3 x4, Safe c R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part23_eq_skeleton]
  unfold k0_part23_skel
  refine ld H.w18.rd fun _ => ?_
  refine ld H.w18.rd fun _ => ?_
  exact pr trivial

theorem p24 (i : grid0.Coords) : ∀ x0 x1 x2 x3 x4 x5 x6 x7, Safe c R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part24_eq_skeleton]
  unfold k0_part24_skel
  refine ld H.w18.rd fun _ => ?_
  refine ld H.w18.rd fun _ => ?_
  refine ld H.w18.rd fun _ => ?_
  exact pr trivial

theorem p25 (i : grid0.Coords) : ∀ x0 x1 x2 x3 x4, Safe c R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part25_eq_skeleton]
  unfold k0_part25_skel
  refine ld H.w18.rd fun _ => ?_
  refine ld H.w18.rd fun _ => ?_
  exact pr trivial

theorem p26 (i : grid0.Coords) : ∀ x0 x1 x2 x3 x4 x5 x6 x7 x8, Safe c R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (fun _ => True) := by
  intros
  rw [k0_part26_eq_skeleton]
  unfold k0_part26_skel
  refine ld H.w18.rd fun _ => ?_
  refine ld H.w18.rd fun _ => ?_
  exact pr trivial

theorem p28 (i : grid0.Coords) : ∀ x0 x1 x2, Safe c R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part28_eq_skeleton]
  unfold k0_part28_skel
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.w14.rd fun _ => ?_
  exact pr trivial

theorem p29 (i : grid0.Coords) : ∀ x0 x1 x2 x3, Safe c R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part29_eq_skeleton]
  unfold k0_part29_skel
  refine ld H.r3 fun _ => ?_
  exact pr trivial

theorem p30 (i : grid0.Coords) : ∀ x0 x1 x2 x3 x4 x5, Safe c R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part30_eq_skeleton]
  unfold k0_part30_skel
  refine ld H.w11.rd fun _ => ?_
  refine ld H.w11.rd fun _ => ?_
  refine ld H.w11.rd fun _ => ?_
  refine ld H.r4 fun _ => ?_
  exact pr trivial

theorem p31 (i : grid0.Coords) : ∀ x0 x1 x2, Safe c R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part31_eq_skeleton]
  unfold k0_part31_skel
  refine ld H.r5 fun _ => ?_
  exact pr trivial

theorem p32 (i : grid0.Coords) : ∀ x0 x1 x2 x3 x4 x5 x6 x7 x8 x9, Safe c R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9) (fun _ => True) := by
  intros
  rw [k0_part32_eq_skeleton]
  unfold k0_part32_skel
  refine ld H.w18.rd fun _ => ?_
  refine st H.w18 ?_
  refine ld H.w13.rd fun _ => ?_
  exact pr trivial

theorem p33 (i : grid0.Coords) : ∀ x0 x1 x2 x3 x4 x5 x6, Safe c R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part33_eq_skeleton]
  unfold k0_part33_skel
  refine ld H.w13.rd fun _ => ?_
  refine ld H.w13.rd fun _ => ?_
  refine ld H.r8 fun _ => ?_
  refine ld H.w17.rd fun _ => ?_
  refine st H.w17 ?_
  exact pr trivial

theorem p34 (i : grid0.Coords) : ∀ x0 x1 x2 x3 x4 x5 x6 x7 x8, Safe c R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (fun _ => True) := by
  intros
  rw [k0_part34_eq_skeleton]
  unfold k0_part34_skel
  refine ld H.w17.rd fun _ => ?_
  refine st H.w17 ?_
  refine ld H.w17.rd fun _ => ?_
  refine st H.w17 ?_
  refine ld H.w17.rd fun _ => ?_
  refine st H.w17 ?_
  refine ld H.w18.rd fun _ => ?_
  exact pr trivial

theorem p35 (i : grid0.Coords) : ∀ x0 x1 x2 x3 x4 x5 x6 x7, Safe c R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part35_eq_skeleton]
  unfold k0_part35_skel
  refine ld H.w18.rd fun _ => ?_
  refine ld H.w18.rd fun _ => ?_
  refine ld H.w18.rd fun _ => ?_
  exact pr trivial

theorem p36 (i : grid0.Coords) : ∀ x0 x1 x2 x3 x4, Safe c R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part36_eq_skeleton]
  unfold k0_part36_skel
  refine ld H.w18.rd fun _ => ?_
  refine ld H.w18.rd fun _ => ?_
  exact pr trivial

theorem p37 (i : grid0.Coords) : ∀ x0 x1 x2 x3 x4 x5 x6 x7, Safe c R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part37_eq_skeleton]
  unfold k0_part37_skel
  refine ld H.w18.rd fun _ => ?_
  refine ld H.w18.rd fun _ => ?_
  refine ld H.w18.rd fun _ => ?_
  exact pr trivial

theorem p38 (i : grid0.Coords) : ∀ x0 x1 x2 x3 x4, Safe c R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part38_eq_skeleton]
  unfold k0_part38_skel
  refine ld H.w18.rd fun _ => ?_
  refine ld H.w18.rd fun _ => ?_
  exact pr trivial

theorem p39 (i : grid0.Coords) : ∀ x0 x1 x2 x3 x4 x5 x6 x7, Safe c R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part39_eq_skeleton]
  unfold k0_part39_skel
  refine ld H.w18.rd fun _ => ?_
  refine ld H.w18.rd fun _ => ?_
  refine ld H.w18.rd fun _ => ?_
  exact pr trivial

theorem p40 (i : grid0.Coords) : ∀ x0 x1 x2 x3 x4, Safe c R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part40_eq_skeleton]
  unfold k0_part40_skel
  refine ld H.w18.rd fun _ => ?_
  refine ld H.w18.rd fun _ => ?_
  exact pr trivial

theorem p41 (i : grid0.Coords) : ∀ x0 x1 x2 x3 x4 x5 x6 x7, Safe c R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part41_eq_skeleton]
  unfold k0_part41_skel
  refine ld H.w18.rd fun _ => ?_
  refine ld H.w18.rd fun _ => ?_
  refine ld H.w18.rd fun _ => ?_
  exact pr trivial

theorem p42 (i : grid0.Coords) : ∀ x0 x1 x2 x3 x4, Safe c R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part42_eq_skeleton]
  unfold k0_part42_skel
  refine ld H.w18.rd fun _ => ?_
  refine ld H.w18.rd fun _ => ?_
  exact pr trivial

theorem p43 (i : grid0.Coords) : ∀ x0 x1 x2 x3 x4 x5 x6 x7, Safe c R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part43_eq_skeleton]
  unfold k0_part43_skel
  refine ld H.w18.rd fun _ => ?_
  refine ld H.w18.rd fun _ => ?_
  refine ld H.w18.rd fun _ => ?_
  exact pr trivial

theorem p44 (i : grid0.Coords) : ∀ x0 x1 x2 x3 x4, Safe c R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part44_eq_skeleton]
  unfold k0_part44_skel
  refine ld H.w18.rd fun _ => ?_
  refine ld H.w18.rd fun _ => ?_
  exact pr trivial

end Cert.KernelIdeal.Attn
-- ==== Proof.AttnParts2.lean ====
/- The stretches of the attention kernel's body, each safe: it loads from its windows and scratch, and stores to its output and scratch. -/
module

public import proofs.«01_k».proof.Proof.AttnSafe

@[expose] public section

set_option maxRecDepth 8192
set_option maxHeartbeats 4000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (M F)}
  {arg2 : Memref sig .tc .vmem S16x256x256 .bf16} {harg2 : arg2.IsWhole}
  {arg3 : Memref sig .tc .vmem S1x1x256x64 .bf16} {harg3 : arg3.IsWhole}
  {arg4 : Memref sig .tc .vmem S1x1x64x256 .bf16} {harg4 : arg4.IsWhole}
  {arg5 : Memref sig .tc .vmem S64x256 .bf16} {harg5 : arg5.IsWhole}
  {arg6 : Memref sig .tc .vmem S4096x128 .bf16} {harg6 : arg6.IsWhole}
  {arg7 : Memref sig .tc .vmem S128x4096 .bf16} {harg7 : arg7.IsWhole}
  {arg8 : Memref sig .tc .vmem S16x16x256 .f32} {harg8 : arg8.IsWhole}
  {arg9 : Memref sig .tc .vmem S4096x256 .bf16} {harg9 : arg9.IsWhole}
  {arg10 : Memref sig .tc .vmem S4096x128 .bf16} {harg10 : arg10.IsWhole}
  {arg11 : Memref sig .tc .vmem S4096x128 .bf16} {harg11 : arg11.IsWhole}
  {arg12 : Memref sig .tc .vmem S16x80x256 .bf16} {harg12 : arg12.IsWhole}
  {arg13 : Memref sig .tc .vmem S16x80x256 .bf16} {harg13 : arg13.IsWhole}
  {arg14 : Memref sig .tc .vmem S16x128x1024 .bf16} {harg14 : arg14.IsWhole}
  {arg15 : Memref sig .tc .vmem S16x1x1024 .f32} {harg15 : arg15.IsWhole}
  {arg16 : Memref sig .tc .vmem S16x80x1024 .f32} {harg16 : arg16.IsWhole}
  {arg17 : Memref sig .tc .vmem S16x64x1024 .f32} {harg17 : arg17.IsWhole}
  {arg18 : Memref sig .tc .vmem S64x256 .f32} {harg18 : arg18.IsWhole}
  {arg19 : Memref sig .tc .vmem S256x1024 .f32} {harg19 : arg19.IsWhole}
  (H : Acc c R arg2 arg3 arg4 arg5 arg6 arg7 arg8 arg9 arg10 arg11 arg12 arg13 arg14 arg15 arg16 arg17 arg18 arg19)

include H

theorem p45 (i : grid0.Coords) : ∀ x0 x1 x2 x3 x4 x5 x6 x7, Safe c R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part45_eq_skeleton]
  unfold k0_part45_skel
  refine ld H.w18.rd fun _ => ?_
  refine ld H.w18.rd fun _ => ?_
  refine ld H.w18.rd fun _ => ?_
  exact pr trivial

theorem p46 (i : grid0.Coords) : ∀ x0 x1 x2 x3 x4, Safe c R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part46_eq_skeleton]
  unfold k0_part46_skel
  refine ld H.w18.rd fun _ => ?_
  refine ld H.w18.rd fun _ => ?_
  exact pr trivial

theorem p47 (i : grid0.Coords) : ∀ x0 x1 x2 x3 x4 x5 x6 x7, Safe c R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part47_eq_skeleton]
  unfold k0_part47_skel
  refine ld H.w18.rd fun _ => ?_
  refine ld H.w18.rd fun _ => ?_
  refine ld H.w18.rd fun _ => ?_
  exact pr trivial

theorem p48 (i : grid0.Coords) : ∀ x0 x1 x2 x3 x4, Safe c R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part48_eq_skeleton]
  unfold k0_part48_skel
  refine ld H.w18.rd fun _ => ?_
  refine ld H.w18.rd fun _ => ?_
  exact pr trivial

theorem p49 (i : grid0.Coords) : ∀ x0 x1 x2 x3 x4 x5 x6 x7, Safe c R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part49_eq_skeleton]
  unfold k0_part49_skel
  refine ld H.w18.rd fun _ => ?_
  refine ld H.w18.rd fun _ => ?_
  refine ld H.w18.rd fun _ => ?_
  exact pr trivial

theorem p50 (i : grid0.Coords) : ∀ x0 x1 x2 x3 x4, Safe c R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part50_eq_skeleton]
  unfold k0_part50_skel
  refine ld H.w18.rd fun _ => ?_
  refine ld H.w18.rd fun _ => ?_
  exact pr trivial

theorem p51 (i : grid0.Coords) : ∀ x0 x1 x2 x3 x4 x5 x6 x7, Safe c R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part51_eq_skeleton]
  unfold k0_part51_skel
  refine ld H.w18.rd fun _ => ?_
  refine ld H.w18.rd fun _ => ?_
  refine ld H.w18.rd fun _ => ?_
  exact pr trivial

theorem p52 (i : grid0.Coords) : ∀ x0 x1 x2 x3 x4, Safe c R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part52_eq_skeleton]
  unfold k0_part52_skel
  refine ld H.w18.rd fun _ => ?_
  refine ld H.w18.rd fun _ => ?_
  exact pr trivial

theorem p53 (i : grid0.Coords) : ∀ x0 x1 x2 x3 x4 x5 x6 x7, Safe c R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part53_eq_skeleton]
  unfold k0_part53_skel
  refine ld H.w18.rd fun _ => ?_
  refine ld H.w18.rd fun _ => ?_
  refine ld H.w18.rd fun _ => ?_
  exact pr trivial

theorem p54 (i : grid0.Coords) : ∀ x0 x1 x2 x3 x4, Safe c R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part54_eq_skeleton]
  unfold k0_part54_skel
  refine ld H.w18.rd fun _ => ?_
  refine ld H.w18.rd fun _ => ?_
  exact pr trivial

theorem p55 (i : grid0.Coords) : ∀ x0 x1 x2 x3 x4 x5 x6 x7, Safe c R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part55_eq_skeleton]
  unfold k0_part55_skel
  refine ld H.w18.rd fun _ => ?_
  refine ld H.w18.rd fun _ => ?_
  refine ld H.w18.rd fun _ => ?_
  exact pr trivial

theorem p56 (i : grid0.Coords) : ∀ x0 x1 x2 x3 x4, Safe c R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part56_eq_skeleton]
  unfold k0_part56_skel
  refine ld H.w18.rd fun _ => ?_
  refine ld H.w18.rd fun _ => ?_
  exact pr trivial

theorem p57 (i : grid0.Coords) : ∀ x0 x1 x2 x3 x4 x5 x6 x7, Safe c R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part57_eq_skeleton]
  unfold k0_part57_skel
  refine ld H.w18.rd fun _ => ?_
  refine ld H.w18.rd fun _ => ?_
  refine ld H.w18.rd fun _ => ?_
  exact pr trivial

theorem p58 (i : grid0.Coords) : ∀ x0 x1 x2 x3 x4, Safe c R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part58_eq_skeleton]
  unfold k0_part58_skel
  refine ld H.w18.rd fun _ => ?_
  refine ld H.w18.rd fun _ => ?_
  exact pr trivial

theorem p59 (i : grid0.Coords) : ∀ x0 x1 x2 x3 x4 x5 x6 x7, Safe c R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part59_eq_skeleton]
  unfold k0_part59_skel
  refine ld H.w18.rd fun _ => ?_
  refine ld H.w18.rd fun _ => ?_
  refine ld H.w18.rd fun _ => ?_
  exact pr trivial

theorem t4 (i : grid0.Coords) : ∀  k acc, Safe c R (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  k acc) (fun _ => True) := by
  intros
  unfold k0_t4_body
  refine ld H.w16.rd fun _ => ?_
  refine ld H.w17.rd fun _ => ?_
  refine ld H.r8 fun _ => ?_
  refine ld H.w9.rd fun _ => ?_
  refine st H.w9 ?_
  exact pr trivial

theorem p61 (i : grid0.Coords) (a b : BitVec 32) (h1 : k0_chk1 a b) (h2 : k0_chk2 a) : ∀ x0 x1 x2, Safe c R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 a b) (fun | ⟨_, _, _, _, _, y5, y6, _, _, _, _, _, _, _⟩ => y5 = (S a b 1).1 ∧ y6 = (S a b 1).2) := by
  intros
  rw [k0_part61_eq_skeleton]
  unfold k0_part61_skel
  refine asm h2 ?_
  refine asm h1 ?_
  refine ld H.w19.rd fun _ => ?_
  refine ld H.w19.rd fun _ => ?_
  refine ld H.w19.rd fun _ => ?_
  refine ld H.w19.rd fun _ => ?_
  refine ld H.w15.rd fun _ => ?_
  refine ld H.w16.rd fun _ => ?_
  refine ld H.w10.rd fun _ => ?_
  refine ld H.w14.rd fun _ => ?_
  exact pr ⟨(S_fst0 a b).symm, (S_snd0 a b).symm⟩

theorem p62 (i : grid0.Coords) (a b : BitVec 32) : ∀ x0 x1 x2 x3 x4 x5 x6 x7 x8, Safe c R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 x1 x2 x3 x4 x5 x6 x7 x8) (fun _ => True) := by
  intros
  rw [k0_part62_eq_skeleton]
  unfold k0_part62_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p63 (i : grid0.Coords) (a b : BitVec 32) : ∀ x0 x1 x2 x3 x4 x5 x6 x7 x8 x9 x10, Safe c R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 x1 x2 x3 x4 x5 x6 x7 x8 x9 x10) (fun _ => True) := by
  intros
  rw [k0_part63_eq_skeleton]
  unfold k0_part63_skel
  refine ld H.w12.rd fun _ => ?_
  refine ld H.w10.rd fun _ => ?_
  refine ld H.w14.rd fun _ => ?_
  refine ld H.w12.rd fun _ => ?_
  refine ld H.w16.rd fun _ => ?_
  exact pr trivial

theorem p64 (i : grid0.Coords) (a b : BitVec 32) : ∀ x0 x1 x2 x3 x4 x5 x6, Safe c R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 1).1 (S a b 1).2 x1 x2 x3 x4 x5 x6) (fun | ⟨y0, y1, _, _, _, _, _, _, _, _, _⟩ => y0 = (S a b 2).1 ∧ y1 = (S a b 2).2) := by
  intros
  rw [k0_part64_eq_skeleton]
  unfold k0_part64_skel
  refine st H.w16 ?_
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 1).symm, (S_snd a b 1).symm⟩

theorem p65 (i : grid0.Coords) (a b : BitVec 32) : ∀ x0 x1 x2 x3 x4 x5 x6 x7 x8 x9, Safe c R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 1).1 x1 x2 x3 x4 x5 x6 x7 x8 x9) (fun _ => True) := by
  intros
  rw [k0_part65_eq_skeleton]
  unfold k0_part65_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p66 (i : grid0.Coords) (a b : BitVec 32) : ∀ x0 x1 x2 x3 x4 x5 x6 x7 x8 x9 x10 x11, Safe c R (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 1).1 (S a b 1).2 x1 x2 x3 x4 x5 x6 x7 x8 x9 x10 x11) (fun _ => True) := by
  intros
  rw [k0_part66_eq_skeleton]
  unfold k0_part66_skel
  refine ld H.w12.rd fun _ => ?_
  refine ld H.w10.rd fun _ => ?_
  refine ld H.w14.rd fun _ => ?_
  refine ld H.w12.rd fun _ => ?_
  refine ld H.w16.rd fun _ => ?_
  refine st H.w16 ?_
  exact pr trivial

theorem p67 (i : grid0.Coords) (a b : BitVec 32) : ∀ x0 x1 x2, Safe c R (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 2).1 (S a b 2).2 x1 x2) (fun | ⟨y0, y1, _, _, _, _, _, _, _, _⟩ => y0 = (S a b 3).1 ∧ y1 = (S a b 3).2) := by
  intros
  rw [k0_part67_eq_skeleton]
  unfold k0_part67_skel
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 2).symm, (S_snd a b 2).symm⟩

theorem p68 (i : grid0.Coords) (a b : BitVec 32) : ∀ x0 x1 x2 x3 x4 x5 x6 x7 x8, Safe c R (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 2).1 x1 x2 x3 x4 x5 x6 x7 x8) (fun _ => True) := by
  intros
  rw [k0_part68_eq_skeleton]
  unfold k0_part68_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p69 (i : grid0.Coords) (a b : BitVec 32) : ∀ x0 x1 x2 x3 x4 x5 x6 x7 x8 x9 x10 x11 x12, Safe c R (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 2).1 (S a b 2).2 x1 x2 x3 x4 x5 x6 x7 x8 x9 x10 x11 x12) (fun _ => True) := by
  intros
  rw [k0_part69_eq_skeleton]
  unfold k0_part69_skel
  refine ld H.w12.rd fun _ => ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  exact pr trivial

theorem p70 (i : grid0.Coords) (a b : BitVec 32) : ∀ x0 x1, Safe c R (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 3).1 (S a b 3).2 x1) (fun | ⟨y0, y1, _, _, _, _, _, _, _⟩ => y0 = (S a b 4).1 ∧ y1 = (S a b 4).2) := by
  intros
  rw [k0_part70_eq_skeleton]
  unfold k0_part70_skel
  refine ld H.w15.rd fun _ => ?_
  refine ld H.w16.rd fun _ => ?_
  refine ld H.w10.rd fun _ => ?_
  refine ld H.w14.rd fun _ => ?_
  refine ld H.w12.rd fun _ => ?_
  exact pr ⟨(S_fst a b 3).symm, (S_snd a b 3).symm⟩

theorem p71 (i : grid0.Coords) (a b : BitVec 32) : ∀ x0 x1 x2 x3 x4 x5 x6, Safe c R (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 3).1 x1 x2 x3 x4 x5 x6) (fun _ => True) := by
  intros
  rw [k0_part71_eq_skeleton]
  unfold k0_part71_skel
  refine ld H.w10.rd fun _ => ?_
  refine ld H.w14.rd fun _ => ?_
  refine ld H.w12.rd fun _ => ?_
  refine ld H.w10.rd fun _ => ?_
  refine ld H.w14.rd fun _ => ?_
  exact pr trivial

theorem p72 (i : grid0.Coords) (a b : BitVec 32) : ∀ x0 x1 x2 x3 x4 x5 x6 x7 x8 x9 x10 x11 x12, Safe c R (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 3).1 (S a b 3).2 x1 (S a b 4).1 (S a b 4).2 x2 x3 x4 x5 x6 x7 x8 x9 x10 x11 x12) (fun | ⟨_, y1, y2⟩ => y1 = (Scalar.cmpi .sge (Scalar.addi (S a b 4).1 1#32) (S a b 4).2) ∧ y2 = (Scalar.addi (S a b 4).1 1#32)) := by
  intros
  rw [k0_part72_eq_skeleton]
  unfold k0_part72_skel
  refine ld H.w12.rd fun _ => ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  exact pr ⟨rfl, rfl⟩

theorem p73 (i : grid0.Coords) (a b : BitVec 32) : ∀ x0 x1, Safe c R (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 4).1 (S a b 4).2 x1 (Scalar.cmpi .sge (Scalar.addi (S a b 4).1 1#32) (S a b 4).2) (Scalar.addi (S a b 4).1 1#32)) (fun | ⟨y0, y1, _, _, _, _, _, _, _, _⟩ => y0 = (S a b 5).1 ∧ y1 = (S a b 5).2) := by
  intros
  rw [k0_part73_eq_skeleton]
  unfold k0_part73_skel
  refine ld H.w15.rd fun _ => ?_
  refine ld H.w16.rd fun _ => ?_
  refine ld H.w10.rd fun _ => ?_
  refine ld H.w14.rd fun _ => ?_
  refine ld H.w12.rd fun _ => ?_
  refine ld H.w10.rd fun _ => ?_
  exact pr ⟨(S_fst a b 4).symm, (S_snd a b 4).symm⟩

theorem p74 (i : grid0.Coords) (a b : BitVec 32) : ∀ x0 x1 x2 x3 x4 x5 x6 x7, Safe c R (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 4).1 x1 x2 x3 x4 x5 x6 x7) (fun _ => True) := by
  intros
  rw [k0_part74_eq_skeleton]
  unfold k0_part74_skel
  refine ld H.w14.rd fun _ => ?_
  refine ld H.w12.rd fun _ => ?_
  refine ld H.w10.rd fun _ => ?_
  refine ld H.w14.rd fun _ => ?_
  refine ld H.w12.rd fun _ => ?_
  exact pr trivial

theorem p75 (i : grid0.Coords) (a b : BitVec 32) : ∀ x0 x1 x2 x3 x4 x5 x6 x7 x8 x9 x10 x11 x12, Safe c R (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 4).1 (S a b 4).2 x1 (S a b 5).1 (S a b 5).2 x2 x3 x4 x5 x6 x7 x8 x9 x10 x11 x12) (fun | ⟨_, y1, y2⟩ => y1 = (S a b 6).1 ∧ y2 = (S a b 6).2) := by
  intros
  rw [k0_part75_eq_skeleton]
  unfold k0_part75_skel
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  exact pr ⟨(S_fst a b 5).symm, (S_snd a b 5).symm⟩

theorem p76 (i : grid0.Coords) (a b : BitVec 32) : ∀ x0 x1, Safe c R (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 5).1 (S a b 5).2 x1 (S a b 6).1 (S a b 6).2) (fun _ => True) := by
  intros
  rw [k0_part76_eq_skeleton]
  unfold k0_part76_skel
  refine ld H.w15.rd fun _ => ?_
  refine ld H.w16.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p77 (i : grid0.Coords) (a b : BitVec 32) : ∀ x0 x1 x2 x3 x4 x5 x6, Safe c R (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 5).1 x1 x2 x3 x4 x5 x6) (fun _ => True) := by
  intros
  rw [k0_part77_eq_skeleton]
  unfold k0_part77_skel
  refine ld H.w12.rd fun _ => ?_
  refine ld H.w10.rd fun _ => ?_
  refine ld H.w14.rd fun _ => ?_
  refine ld H.w12.rd fun _ => ?_
  refine ld H.w10.rd fun _ => ?_
  exact pr trivial

theorem p78 (i : grid0.Coords) (a b : BitVec 32) : ∀ x0 x1 x2 x3 x4 x5 x6 x7 x8 x9 x10, Safe c R (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 5).1 (S a b 5).2 x1 (S a b 6).1 (S a b 6).2 x2 x3 x4 x5 x6 x7 x8 x9 x10) (fun | ⟨_, y1, y2, _, _⟩ => y1 = (S a b 7).1 ∧ y2 = (S a b 7).2) := by
  intros
  rw [k0_part78_eq_skeleton]
  unfold k0_part78_skel
  refine ld H.w14.rd fun _ => ?_
  refine ld H.w12.rd fun _ => ?_
  refine ld H.w16.rd fun _ => ?_
  refine st H.w16 ?_
  refine ld H.w15.rd fun _ => ?_
  refine st H.w15 ?_
  exact pr ⟨(S_fst a b 6).symm, (S_snd a b 6).symm⟩

theorem p79 (i : grid0.Coords) (a b : BitVec 32) : ∀ x0 x1 x2 x3 x4, Safe c R (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 6).1 (S a b 6).2 x1 x2 x3 x4) (fun _ => True) := by
  intros
  rw [k0_part79_eq_skeleton]
  unfold k0_part79_skel
  refine ld H.w15.rd fun _ => ?_
  refine ld H.w16.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p80 (i : grid0.Coords) (a b : BitVec 32) : ∀ x0 x1 x2 x3 x4 x5 x6 x7, Safe c R (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 6).1 x1 x2 x3 x4 x5 x6 x7) (fun _ => True) := by
  intros
  rw [k0_part80_eq_skeleton]
  unfold k0_part80_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p81 (i : grid0.Coords) (a b : BitVec 32) : ∀ x0 x1 x2 x3 x4 x5 x6 x7 x8 x9 x10 x11 x12, Safe c R (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 6).1 (S a b 6).2 x1 (S a b 7).1 (S a b 7).2 x2 x3 x4 x5 x6 x7 x8 x9 x10 x11 x12) (fun | ⟨_, y1, y2, _, _, _⟩ => y1 = (S a b 8).1 ∧ y2 = (S a b 8).2) := by
  intros
  rw [k0_part81_eq_skeleton]
  unfold k0_part81_skel
  refine ld H.w12.rd fun _ => ?_
  refine ld H.w16.rd fun _ => ?_
  refine st H.w16 ?_
  refine ld H.w15.rd fun _ => ?_
  refine st H.w15 ?_
  refine ld H.w15.rd fun _ => ?_
  exact pr ⟨(S_fst a b 7).symm, (S_snd a b 7).symm⟩

theorem p82 (i : grid0.Coords) (a b : BitVec 32) : ∀ x0 x1 x2 x3 x4 x5, Safe c R (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 7).1 x1 x2 x3 x4 x5) (fun _ => True) := by
  intros
  rw [k0_part82_eq_skeleton]
  unfold k0_part82_skel
  refine ld H.w16.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p83 (i : grid0.Coords) (a b : BitVec 32) : ∀ x0 x1 x2 x3 x4 x5 x6 x7 x8 x9, Safe c R (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 7).1 x1 x2 x3 x4 x5 x6 x7 x8 x9) (fun _ => True) := by
  intros
  rw [k0_part83_eq_skeleton]
  unfold k0_part83_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p84 (i : grid0.Coords) (a b : BitVec 32) : ∀ x0 x1 x2 x3 x4 x5 x6 x7 x8 x9 x10 x11, Safe c R (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 7).1 (S a b 7).2 x1 (S a b 8).1 (S a b 8).2 x2 x3 x4 x5 x6 x7 x8 x9 x10 x11) (fun | ⟨y0, y1, _, _, _, _, _⟩ => y0 = (S a b 9).1 ∧ y1 = (S a b 9).2) := by
  intros
  rw [k0_part84_eq_skeleton]
  unfold k0_part84_skel
  refine ld H.w12.rd fun _ => ?_
  refine ld H.w16.rd fun _ => ?_
  refine st H.w16 ?_
  refine ld H.w15.rd fun _ => ?_
  refine st H.w15 ?_
  refine ld H.w15.rd fun _ => ?_
  refine ld H.w16.rd fun _ => ?_
  exact pr ⟨(S_fst a b 8).symm, (S_snd a b 8).symm⟩

theorem p85 (i : grid0.Coords) (a b : BitVec 32) : ∀ x0 x1 x2 x3 x4 x5 x6 x7, Safe c R (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 8).1 x1 x2 x3 x4 x5 x6 x7) (fun _ => True) := by
  intros
  rw [k0_part85_eq_skeleton]
  unfold k0_part85_skel
  refine ld H.w10.rd fun _ => ?_
  refine ld H.w14.rd fun _ => ?_
  refine ld H.w12.rd fun _ => ?_
  refine ld H.w10.rd fun _ => ?_
  refine ld H.w14.rd fun _ => ?_
  exact pr trivial

theorem p86 (i : grid0.Coords) (a b : BitVec 32) : ∀ x0 x1 x2 x3 x4 x5 x6 x7 x8, Safe c R (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 8).1 x1 x2 x3 x4 x5 x6 x7 x8) (fun _ => True) := by
  intros
  rw [k0_part86_eq_skeleton]
  unfold k0_part86_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p87 (i : grid0.Coords) (a b : BitVec 32) : ∀ x0 x1 x2 x3 x4 x5 x6 x7 x8 x9 x10, Safe c R (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 8).1 (S a b 8).2 (S a b 9).1 (S a b 9).2 x1 x2 x3 x4 x5 x6 x7 x8 x9 x10) (fun | ⟨y0, y1, _, _, _, _, _⟩ => y0 = (S a b 10).1 ∧ y1 = (S a b 10).2) := by
  intros
  rw [k0_part87_eq_skeleton]
  unfold k0_part87_skel
  refine ld H.w12.rd fun _ => ?_
  refine ld H.w16.rd fun _ => ?_
  refine st H.w16 ?_
  refine ld H.w15.rd fun _ => ?_
  refine st H.w15 ?_
  refine ld H.w15.rd fun _ => ?_
  refine ld H.w16.rd fun _ => ?_
  refine ld H.w10.rd fun _ => ?_
  exact pr ⟨(S_fst a b 9).symm, (S_snd a b 9).symm⟩

end Cert.KernelIdeal.Attn
-- ==== Proof.AttnParts3.lean ====
/- The stretches of the attention kernel's body, each safe: it loads from its windows and scratch, and stores to its output and scratch. -/
module

public import proofs.«01_k».proof.Proof.AttnSafe

@[expose] public section

set_option maxRecDepth 8192
set_option maxHeartbeats 4000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (M F)}
  {arg2 : Memref sig .tc .vmem S16x256x256 .bf16} {harg2 : arg2.IsWhole}
  {arg3 : Memref sig .tc .vmem S1x1x256x64 .bf16} {harg3 : arg3.IsWhole}
  {arg4 : Memref sig .tc .vmem S1x1x64x256 .bf16} {harg4 : arg4.IsWhole}
  {arg5 : Memref sig .tc .vmem S64x256 .bf16} {harg5 : arg5.IsWhole}
  {arg6 : Memref sig .tc .vmem S4096x128 .bf16} {harg6 : arg6.IsWhole}
  {arg7 : Memref sig .tc .vmem S128x4096 .bf16} {harg7 : arg7.IsWhole}
  {arg8 : Memref sig .tc .vmem S16x16x256 .f32} {harg8 : arg8.IsWhole}
  {arg9 : Memref sig .tc .vmem S4096x256 .bf16} {harg9 : arg9.IsWhole}
  {arg10 : Memref sig .tc .vmem S4096x128 .bf16} {harg10 : arg10.IsWhole}
  {arg11 : Memref sig .tc .vmem S4096x128 .bf16} {harg11 : arg11.IsWhole}
  {arg12 : Memref sig .tc .vmem S16x80x256 .bf16} {harg12 : arg12.IsWhole}
  {arg13 : Memref sig .tc .vmem S16x80x256 .bf16} {harg13 : arg13.IsWhole}
  {arg14 : Memref sig .tc .vmem S16x128x1024 .bf16} {harg14 : arg14.IsWhole}
  {arg15 : Memref sig .tc .vmem S16x1x1024 .f32} {harg15 : arg15.IsWhole}
  {arg16 : Memref sig .tc .vmem S16x80x1024 .f32} {harg16 : arg16.IsWhole}
  {arg17 : Memref sig .tc .vmem S16x64x1024 .f32} {harg17 : arg17.IsWhole}
  {arg18 : Memref sig .tc .vmem S64x256 .f32} {harg18 : arg18.IsWhole}
  {arg19 : Memref sig .tc .vmem S256x1024 .f32} {harg19 : arg19.IsWhole}
  (H : Acc c R arg2 arg3 arg4 arg5 arg6 arg7 arg8 arg9 arg10 arg11 arg12 arg13 arg14 arg15 arg16 arg17 arg18 arg19)

include H

theorem p88 (i : grid0.Coords) (a b : BitVec 32) : ∀ x0 x1 x2 x3 x4 x5 x6 x7, Safe c R (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 9).1 x1 x2 x3 x4 x5 x6 x7) (fun _ => True) := by
  intros
  rw [k0_part88_eq_skeleton]
  unfold k0_part88_skel
  refine ld H.w14.rd fun _ => ?_
  refine ld H.w12.rd fun _ => ?_
  refine ld H.w10.rd fun _ => ?_
  refine ld H.w14.rd fun _ => ?_
  refine ld H.w12.rd fun _ => ?_
  exact pr trivial

theorem p89 (i : grid0.Coords) (a b : BitVec 32) : ∀ x0 x1 x2 x3 x4 x5 x6 x7 x8 x9, Safe c R (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 9).1 x1 x2 x3 x4 x5 x6 x7 x8 x9) (fun _ => True) := by
  intros
  rw [k0_part89_eq_skeleton]
  unfold k0_part89_skel
  refine ld H.w10.rd fun _ => ?_
  refine ld H.w14.rd fun _ => ?_
  refine ld H.w12.rd fun _ => ?_
  refine ld H.w10.rd fun _ => ?_
  refine ld H.w14.rd fun _ => ?_
  exact pr trivial

theorem p90 (i : grid0.Coords) (a b : BitVec 32) : ∀ x0 x1 x2 x3 x4 x5 x6 x7 x8 x9 x10, Safe c R (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 9).1 (S a b 9).2 (S a b 10).1 (S a b 10).2 x1 x2 x3 x4 x5 x6 x7 x8 x9 x10) (fun | ⟨y0, y1, _, _, _, _, _, _⟩ => y0 = (S a b 11).1 ∧ y1 = (S a b 11).2) := by
  intros
  rw [k0_part90_eq_skeleton]
  unfold k0_part90_skel
  refine ld H.w12.rd fun _ => ?_
  refine ld H.w16.rd fun _ => ?_
  refine st H.w16 ?_
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 10).symm, (S_snd a b 10).symm⟩

theorem p91 (i : grid0.Coords) (a b : BitVec 32) : ∀ x0 x1 x2 x3 x4 x5 x6 x7 x8, Safe c R (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 10).1 x1 x2 x3 x4 x5 x6 x7 x8) (fun _ => True) := by
  intros
  rw [k0_part91_eq_skeleton]
  unfold k0_part91_skel
  refine ld H.w12.rd fun _ => ?_
  refine ld H.w10.rd fun _ => ?_
  refine ld H.w14.rd fun _ => ?_
  refine ld H.w12.rd fun _ => ?_
  exact pr trivial

theorem p92 (i : grid0.Coords) (a b : BitVec 32) : ∀ x0 x1 x2 x3 x4 x5 x6, Safe c R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 10).1 x1 x2 x3 x4 x5 x6) (fun _ => True) := by
  intros
  rw [k0_part92_eq_skeleton]
  unfold k0_part92_skel
  refine ld H.w10.rd fun _ => ?_
  refine ld H.w14.rd fun _ => ?_
  refine ld H.w12.rd fun _ => ?_
  refine ld H.w10.rd fun _ => ?_
  refine ld H.w14.rd fun _ => ?_
  refine ld H.w12.rd fun _ => ?_
  exact pr trivial

theorem p93 (i : grid0.Coords) (a b : BitVec 32) : ∀ x0 x1 x2 x3 x4 x5 x6 x7 x8 x9 x10 x11, Safe c R (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 10).2 (S a b 11).1 (S a b 11).2 x1 x2 x3 x4 x5 x6 x7 x8 x9 x10 x11) (fun | ⟨y0, y1, _, _, _, _, _, _, _⟩ => y0 = (S a b 12).1 ∧ y1 = (S a b 12).2) := by
  intros
  rw [k0_part93_eq_skeleton]
  unfold k0_part93_skel
  refine ld H.w16.rd fun _ => ?_
  refine st H.w16 ?_
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 11).symm, (S_snd a b 11).symm⟩

theorem p94 (i : grid0.Coords) (a b : BitVec 32) : ∀ x0 x1 x2 x3 x4 x5 x6 x7 x8, Safe c R (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 11).1 x1 x2 x3 x4 x5 x6 x7 x8) (fun _ => True) := by
  intros
  rw [k0_part94_eq_skeleton]
  unfold k0_part94_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p95 (i : grid0.Coords) (a b : BitVec 32) : ∀ x0 x1 x2 x3 x4 x5 x6 x7 x8 x9 x10, Safe c R (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 11).1 x1 x2 x3 x4 x5 x6 x7 x8 x9 x10) (fun _ => True) := by
  intros
  rw [k0_part95_eq_skeleton]
  unfold k0_part95_skel
  refine ld H.w12.rd fun _ => ?_
  refine ld H.w10.rd fun _ => ?_
  refine ld H.w14.rd fun _ => ?_
  refine ld H.w12.rd fun _ => ?_
  exact pr trivial

theorem p96 (i : grid0.Coords) (a b : BitVec 32) : ∀ x0 x1 x2 x3 x4 x5 x6, Safe c R (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 11).2 (S a b 12).1 (S a b 12).2 x1 x2 x3 x4 x5 x6) (fun | ⟨y0, y1, _, _, _, _, _, _, _⟩ => y0 = (S a b 13).1 ∧ y1 = (S a b 13).2) := by
  intros
  rw [k0_part96_eq_skeleton]
  unfold k0_part96_skel
  refine ld H.w16.rd fun _ => ?_
  refine st H.w16 ?_
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 12).symm, (S_snd a b 12).symm⟩

theorem p97 (i : grid0.Coords) (a b : BitVec 32) : ∀ x0 x1 x2 x3 x4 x5 x6 x7, Safe c R (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 12).1 x1 x2 x3 x4 x5 x6 x7) (fun _ => True) := by
  intros
  rw [k0_part97_eq_skeleton]
  unfold k0_part97_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p98 (i : grid0.Coords) (a b : BitVec 32) : ∀ x0 x1 x2 x3 x4 x5 x6 x7 x8 x9, Safe c R (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 12).1 (S a b 12).2 x1 x2 x3 x4 x5 x6 x7 x8 x9) (fun _ => True) := by
  intros
  rw [k0_part98_eq_skeleton]
  unfold k0_part98_skel
  refine ld H.w12.rd fun _ => ?_
  refine ld H.w10.rd fun _ => ?_
  refine ld H.w14.rd fun _ => ?_
  refine ld H.w12.rd fun _ => ?_
  refine ld H.w16.rd fun _ => ?_
  exact pr trivial

theorem p99 (i : grid0.Coords) (a b : BitVec 32) : ∀ x0 x1 x2 x3 x4 x5 x6, Safe c R (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 12).2 (S a b 13).1 (S a b 13).2 x1 x2 x3 x4 x5 x6) (fun | ⟨y0, y1, _, _, _, _, _, _, _, _, _⟩ => y0 = (S a b 14).1 ∧ y1 = (S a b 14).2) := by
  intros
  rw [k0_part99_eq_skeleton]
  unfold k0_part99_skel
  refine st H.w16 ?_
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 13).symm, (S_snd a b 13).symm⟩

theorem p100 (i : grid0.Coords) (a b : BitVec 32) : ∀ x0 x1 x2 x3 x4 x5 x6 x7 x8 x9, Safe c R (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 13).1 x1 x2 x3 x4 x5 x6 x7 x8 x9) (fun _ => True) := by
  intros
  rw [k0_part100_eq_skeleton]
  unfold k0_part100_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p101 (i : grid0.Coords) (a b : BitVec 32) : ∀ x0 x1 x2 x3 x4 x5 x6 x7 x8 x9 x10 x11, Safe c R (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 13).1 (S a b 13).2 x1 x2 x3 x4 x5 x6 x7 x8 x9 x10 x11) (fun _ => True) := by
  intros
  rw [k0_part101_eq_skeleton]
  unfold k0_part101_skel
  refine ld H.w12.rd fun _ => ?_
  refine ld H.w10.rd fun _ => ?_
  refine ld H.w14.rd fun _ => ?_
  refine ld H.w12.rd fun _ => ?_
  refine ld H.w16.rd fun _ => ?_
  refine st H.w16 ?_
  exact pr trivial

theorem p102 (i : grid0.Coords) (a b : BitVec 32) : ∀ x0 x1 x2, Safe c R (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 14).1 (S a b 14).2 x1 x2) (fun | ⟨y0, y1, _, _, _, _, _, _, _, _⟩ => y0 = (S a b 15).1 ∧ y1 = (S a b 15).2) := by
  intros
  rw [k0_part102_eq_skeleton]
  unfold k0_part102_skel
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 14).symm, (S_snd a b 14).symm⟩

theorem p103 (i : grid0.Coords) (a b : BitVec 32) : ∀ x0 x1 x2 x3 x4 x5 x6 x7 x8, Safe c R (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 14).1 x1 x2 x3 x4 x5 x6 x7 x8) (fun _ => True) := by
  intros
  rw [k0_part103_eq_skeleton]
  unfold k0_part103_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p104 (i : grid0.Coords) (a b : BitVec 32) : ∀ x0 x1 x2 x3 x4 x5 x6 x7 x8 x9 x10 x11 x12, Safe c R (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 14).1 (S a b 14).2 x1 x2 x3 x4 x5 x6 x7 x8 x9 x10 x11 x12) (fun _ => True) := by
  intros
  rw [k0_part104_eq_skeleton]
  unfold k0_part104_skel
  refine ld H.w12.rd fun _ => ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  exact pr trivial

theorem p105 (i : grid0.Coords) (a b : BitVec 32) : ∀ x0 x1, Safe c R (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 15).1 (S a b 15).2 x1) (fun | ⟨y0, y1, _, _, _, _, _, _, _⟩ => y0 = (S a b 16).1 ∧ y1 = (S a b 16).2) := by
  intros
  rw [k0_part105_eq_skeleton]
  unfold k0_part105_skel
  refine ld H.w15.rd fun _ => ?_
  refine ld H.w16.rd fun _ => ?_
  refine ld H.w10.rd fun _ => ?_
  refine ld H.w14.rd fun _ => ?_
  refine ld H.w12.rd fun _ => ?_
  exact pr ⟨(S_fst a b 15).symm, (S_snd a b 15).symm⟩

theorem p106 (i : grid0.Coords) (a b : BitVec 32) : ∀ x0 x1 x2 x3 x4 x5 x6, Safe c R (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 15).1 x1 x2 x3 x4 x5 x6) (fun _ => True) := by
  intros
  rw [k0_part106_eq_skeleton]
  unfold k0_part106_skel
  refine ld H.w10.rd fun _ => ?_
  refine ld H.w14.rd fun _ => ?_
  refine ld H.w12.rd fun _ => ?_
  refine ld H.w10.rd fun _ => ?_
  refine ld H.w14.rd fun _ => ?_
  exact pr trivial

theorem p107 (i : grid0.Coords) (a b : BitVec 32) : ∀ x0 x1 x2 x3 x4 x5 x6 x7 x8 x9 x10 x11 x12, Safe c R (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 15).1 (S a b 15).2 x1 (S a b 16).1 (S a b 16).2 x2 x3 x4 x5 x6 x7 x8 x9 x10 x11 x12) (fun | ⟨_, y1, y2⟩ => y1 = (Scalar.cmpi .sge (Scalar.addi (S a b 16).1 1#32) (S a b 16).2) ∧ y2 = (Scalar.addi (S a b 16).1 1#32)) := by
  intros
  rw [k0_part107_eq_skeleton]
  unfold k0_part107_skel
  refine ld H.w12.rd fun _ => ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  exact pr ⟨rfl, rfl⟩

theorem p108 (i : grid0.Coords) (a b : BitVec 32) : ∀ x0 x1, Safe c R (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 16).1 (S a b 16).2 x1 (Scalar.cmpi .sge (Scalar.addi (S a b 16).1 1#32) (S a b 16).2) (Scalar.addi (S a b 16).1 1#32)) (fun | ⟨y0, y1, _, _, _, _, _, _, _, _⟩ => y0 = (S a b 17).1 ∧ y1 = (S a b 17).2) := by
  intros
  rw [k0_part108_eq_skeleton]
  unfold k0_part108_skel
  refine ld H.w15.rd fun _ => ?_
  refine ld H.w16.rd fun _ => ?_
  refine ld H.w10.rd fun _ => ?_
  refine ld H.w14.rd fun _ => ?_
  refine ld H.w12.rd fun _ => ?_
  refine ld H.w10.rd fun _ => ?_
  exact pr ⟨(S_fst a b 16).symm, (S_snd a b 16).symm⟩

theorem p109 (i : grid0.Coords) (a b : BitVec 32) : ∀ x0 x1 x2 x3 x4 x5 x6 x7, Safe c R (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 16).1 x1 x2 x3 x4 x5 x6 x7) (fun _ => True) := by
  intros
  rw [k0_part109_eq_skeleton]
  unfold k0_part109_skel
  refine ld H.w14.rd fun _ => ?_
  refine ld H.w12.rd fun _ => ?_
  refine ld H.w10.rd fun _ => ?_
  refine ld H.w14.rd fun _ => ?_
  refine ld H.w12.rd fun _ => ?_
  exact pr trivial

theorem p110 (i : grid0.Coords) (a b : BitVec 32) : ∀ x0 x1 x2 x3 x4 x5 x6 x7 x8 x9 x10 x11 x12, Safe c R (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 16).1 (S a b 16).2 x1 (S a b 17).1 (S a b 17).2 x2 x3 x4 x5 x6 x7 x8 x9 x10 x11 x12) (fun | ⟨_, y1, y2⟩ => y1 = (S a b 18).1 ∧ y2 = (S a b 18).2) := by
  intros
  rw [k0_part110_eq_skeleton]
  unfold k0_part110_skel
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  exact pr ⟨(S_fst a b 17).symm, (S_snd a b 17).symm⟩

theorem p111 (i : grid0.Coords) (a b : BitVec 32) : ∀ x0 x1, Safe c R (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 17).1 (S a b 17).2 x1 (S a b 18).1 (S a b 18).2) (fun _ => True) := by
  intros
  rw [k0_part111_eq_skeleton]
  unfold k0_part111_skel
  refine ld H.w15.rd fun _ => ?_
  refine ld H.w16.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p112 (i : grid0.Coords) (a b : BitVec 32) : ∀ x0 x1 x2 x3 x4 x5 x6, Safe c R (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 17).1 x1 x2 x3 x4 x5 x6) (fun _ => True) := by
  intros
  rw [k0_part112_eq_skeleton]
  unfold k0_part112_skel
  refine ld H.w12.rd fun _ => ?_
  refine ld H.w10.rd fun _ => ?_
  refine ld H.w14.rd fun _ => ?_
  refine ld H.w12.rd fun _ => ?_
  refine ld H.w10.rd fun _ => ?_
  exact pr trivial

theorem p113 (i : grid0.Coords) (a b : BitVec 32) : ∀ x0 x1 x2 x3 x4 x5 x6 x7 x8 x9 x10, Safe c R (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 17).1 (S a b 17).2 x1 (S a b 18).1 (S a b 18).2 x2 x3 x4 x5 x6 x7 x8 x9 x10) (fun | ⟨_, y1, y2, _, _⟩ => y1 = (S a b 19).1 ∧ y2 = (S a b 19).2) := by
  intros
  rw [k0_part113_eq_skeleton]
  unfold k0_part113_skel
  refine ld H.w14.rd fun _ => ?_
  refine ld H.w12.rd fun _ => ?_
  refine ld H.w16.rd fun _ => ?_
  refine st H.w16 ?_
  refine ld H.w15.rd fun _ => ?_
  refine st H.w15 ?_
  exact pr ⟨(S_fst a b 18).symm, (S_snd a b 18).symm⟩

theorem p114 (i : grid0.Coords) (a b : BitVec 32) : ∀ x0 x1 x2 x3 x4, Safe c R (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 18).1 (S a b 18).2 x1 x2 x3 x4) (fun _ => True) := by
  intros
  rw [k0_part114_eq_skeleton]
  unfold k0_part114_skel
  refine ld H.w15.rd fun _ => ?_
  refine ld H.w16.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p115 (i : grid0.Coords) (a b : BitVec 32) : ∀ x0 x1 x2 x3 x4 x5 x6 x7, Safe c R (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 18).1 x1 x2 x3 x4 x5 x6 x7) (fun _ => True) := by
  intros
  rw [k0_part115_eq_skeleton]
  unfold k0_part115_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p116 (i : grid0.Coords) (a b : BitVec 32) : ∀ x0 x1 x2 x3 x4 x5 x6 x7 x8 x9 x10 x11 x12, Safe c R (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 18).1 (S a b 18).2 x1 (S a b 19).1 (S a b 19).2 x2 x3 x4 x5 x6 x7 x8 x9 x10 x11 x12) (fun | ⟨_, y1, y2, _, _, _⟩ => y1 = (S a b 20).1 ∧ y2 = (S a b 20).2) := by
  intros
  rw [k0_part116_eq_skeleton]
  unfold k0_part116_skel
  refine ld H.w12.rd fun _ => ?_
  refine ld H.w16.rd fun _ => ?_
  refine st H.w16 ?_
  refine ld H.w15.rd fun _ => ?_
  refine st H.w15 ?_
  refine ld H.w15.rd fun _ => ?_
  exact pr ⟨(S_fst a b 19).symm, (S_snd a b 19).symm⟩

theorem p117 (i : grid0.Coords) (a b : BitVec 32) : ∀ x0 x1 x2 x3 x4 x5, Safe c R (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 19).1 x1 x2 x3 x4 x5) (fun _ => True) := by
  intros
  rw [k0_part117_eq_skeleton]
  unfold k0_part117_skel
  refine ld H.w16.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p118 (i : grid0.Coords) (a b : BitVec 32) : ∀ x0 x1 x2 x3 x4 x5 x6 x7 x8 x9, Safe c R (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 19).1 x1 x2 x3 x4 x5 x6 x7 x8 x9) (fun _ => True) := by
  intros
  rw [k0_part118_eq_skeleton]
  unfold k0_part118_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p119 (i : grid0.Coords) (a b : BitVec 32) : ∀ x0 x1 x2 x3 x4 x5 x6 x7 x8 x9 x10 x11, Safe c R (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 19).1 (S a b 19).2 x1 (S a b 20).1 (S a b 20).2 x2 x3 x4 x5 x6 x7 x8 x9 x10 x11) (fun | ⟨y0, y1, _, _, _, _, _⟩ => y0 = (S a b 21).1 ∧ y1 = (S a b 21).2) := by
  intros
  rw [k0_part119_eq_skeleton]
  unfold k0_part119_skel
  refine ld H.w12.rd fun _ => ?_
  refine ld H.w16.rd fun _ => ?_
  refine st H.w16 ?_
  refine ld H.w15.rd fun _ => ?_
  refine st H.w15 ?_
  refine ld H.w15.rd fun _ => ?_
  refine ld H.w16.rd fun _ => ?_
  exact pr ⟨(S_fst a b 20).symm, (S_snd a b 20).symm⟩

theorem p120 (i : grid0.Coords) (a b : BitVec 32) : ∀ x0 x1 x2 x3 x4 x5 x6 x7, Safe c R (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 20).1 x1 x2 x3 x4 x5 x6 x7) (fun _ => True) := by
  intros
  rw [k0_part120_eq_skeleton]
  unfold k0_part120_skel
  refine ld H.w10.rd fun _ => ?_
  refine ld H.w14.rd fun _ => ?_
  refine ld H.w12.rd fun _ => ?_
  refine ld H.w10.rd fun _ => ?_
  refine ld H.w14.rd fun _ => ?_
  exact pr trivial

theorem p121 (i : grid0.Coords) (a b : BitVec 32) : ∀ x0 x1 x2 x3 x4 x5 x6 x7 x8, Safe c R (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 20).1 x1 x2 x3 x4 x5 x6 x7 x8) (fun _ => True) := by
  intros
  rw [k0_part121_eq_skeleton]
  unfold k0_part121_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p122 (i : grid0.Coords) (a b : BitVec 32) : ∀ x0 x1 x2 x3 x4 x5 x6 x7 x8 x9 x10, Safe c R (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 20).1 (S a b 20).2 (S a b 21).1 (S a b 21).2 x1 x2 x3 x4 x5 x6 x7 x8 x9 x10) (fun | ⟨y0, y1, _, _, _, _, _⟩ => y0 = (S a b 22).1 ∧ y1 = (S a b 22).2) := by
  intros
  rw [k0_part122_eq_skeleton]
  unfold k0_part122_skel
  refine ld H.w12.rd fun _ => ?_
  refine ld H.w16.rd fun _ => ?_
  refine st H.w16 ?_
  refine ld H.w15.rd fun _ => ?_
  refine st H.w15 ?_
  refine ld H.w15.rd fun _ => ?_
  refine ld H.w16.rd fun _ => ?_
  refine ld H.w10.rd fun _ => ?_
  exact pr ⟨(S_fst a b 21).symm, (S_snd a b 21).symm⟩

theorem p123 (i : grid0.Coords) (a b : BitVec 32) : ∀ x0 x1 x2 x3 x4 x5 x6 x7, Safe c R (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 21).1 x1 x2 x3 x4 x5 x6 x7) (fun _ => True) := by
  intros
  rw [k0_part123_eq_skeleton]
  unfold k0_part123_skel
  refine ld H.w14.rd fun _ => ?_
  refine ld H.w12.rd fun _ => ?_
  refine ld H.w10.rd fun _ => ?_
  refine ld H.w14.rd fun _ => ?_
  refine ld H.w12.rd fun _ => ?_
  exact pr trivial

theorem p124 (i : grid0.Coords) (a b : BitVec 32) : ∀ x0 x1 x2 x3 x4 x5 x6 x7 x8 x9, Safe c R (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 21).1 x1 x2 x3 x4 x5 x6 x7 x8 x9) (fun _ => True) := by
  intros
  rw [k0_part124_eq_skeleton]
  unfold k0_part124_skel
  refine ld H.w10.rd fun _ => ?_
  refine ld H.w14.rd fun _ => ?_
  refine ld H.w12.rd fun _ => ?_
  refine ld H.w10.rd fun _ => ?_
  refine ld H.w14.rd fun _ => ?_
  exact pr trivial

theorem p125 (i : grid0.Coords) (a b : BitVec 32) : ∀ x0 x1 x2 x3 x4 x5 x6 x7 x8 x9 x10, Safe c R (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 21).1 (S a b 21).2 (S a b 22).1 (S a b 22).2 x1 x2 x3 x4 x5 x6 x7 x8 x9 x10) (fun | ⟨y0, y1, _, _, _, _, _, _⟩ => y0 = (S a b 23).1 ∧ y1 = (S a b 23).2) := by
  intros
  rw [k0_part125_eq_skeleton]
  unfold k0_part125_skel
  refine ld H.w12.rd fun _ => ?_
  refine ld H.w16.rd fun _ => ?_
  refine st H.w16 ?_
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 22).symm, (S_snd a b 22).symm⟩

theorem p126 (i : grid0.Coords) (a b : BitVec 32) : ∀ x0 x1 x2 x3 x4 x5 x6 x7 x8, Safe c R (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 22).1 x1 x2 x3 x4 x5 x6 x7 x8) (fun _ => True) := by
  intros
  rw [k0_part126_eq_skeleton]
  unfold k0_part126_skel
  refine ld H.w12.rd fun _ => ?_
  refine ld H.w10.rd fun _ => ?_
  refine ld H.w14.rd fun _ => ?_
  refine ld H.w12.rd fun _ => ?_
  exact pr trivial

theorem p127 (i : grid0.Coords) (a b : BitVec 32) : ∀ x0 x1 x2 x3 x4 x5 x6, Safe c R (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 22).1 x1 x2 x3 x4 x5 x6) (fun _ => True) := by
  intros
  rw [k0_part127_eq_skeleton]
  unfold k0_part127_skel
  refine ld H.w10.rd fun _ => ?_
  refine ld H.w14.rd fun _ => ?_
  refine ld H.w12.rd fun _ => ?_
  refine ld H.w10.rd fun _ => ?_
  refine ld H.w14.rd fun _ => ?_
  refine ld H.w12.rd fun _ => ?_
  exact pr trivial

theorem p128 (i : grid0.Coords) (a b : BitVec 32) : ∀ x0 x1 x2 x3 x4 x5 x6 x7 x8 x9 x10 x11, Safe c R (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 22).2 (S a b 23).1 (S a b 23).2 x1 x2 x3 x4 x5 x6 x7 x8 x9 x10 x11) (fun | ⟨y0, y1, _, _, _, _, _, _, _⟩ => y0 = (S a b 24).1 ∧ y1 = (S a b 24).2) := by
  intros
  rw [k0_part128_eq_skeleton]
  unfold k0_part128_skel
  refine ld H.w16.rd fun _ => ?_
  refine st H.w16 ?_
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 23).symm, (S_snd a b 23).symm⟩

theorem p129 (i : grid0.Coords) (a b : BitVec 32) : ∀ x0 x1 x2 x3 x4 x5 x6 x7 x8, Safe c R (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 23).1 x1 x2 x3 x4 x5 x6 x7 x8) (fun _ => True) := by
  intros
  rw [k0_part129_eq_skeleton]
  unfold k0_part129_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p130 (i : grid0.Coords) (a b : BitVec 32) : ∀ x0 x1 x2 x3 x4 x5 x6 x7 x8 x9 x10, Safe c R (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 23).1 x1 x2 x3 x4 x5 x6 x7 x8 x9 x10) (fun _ => True) := by
  intros
  rw [k0_part130_eq_skeleton]
  unfold k0_part130_skel
  refine ld H.w12.rd fun _ => ?_
  refine ld H.w10.rd fun _ => ?_
  refine ld H.w14.rd fun _ => ?_
  refine ld H.w12.rd fun _ => ?_
  exact pr trivial

end Cert.KernelIdeal.Attn
-- ==== Proof.AttnParts4.lean ====
/- The stretches of the attention kernel's body, each safe: it loads from its windows and scratch, and stores to its output and scratch. -/
module

public import proofs.«01_k».proof.Proof.AttnSafe

@[expose] public section

set_option maxRecDepth 8192
set_option maxHeartbeats 4000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (M F)}
  {arg2 : Memref sig .tc .vmem S16x256x256 .bf16} {harg2 : arg2.IsWhole}
  {arg3 : Memref sig .tc .vmem S1x1x256x64 .bf16} {harg3 : arg3.IsWhole}
  {arg4 : Memref sig .tc .vmem S1x1x64x256 .bf16} {harg4 : arg4.IsWhole}
  {arg5 : Memref sig .tc .vmem S64x256 .bf16} {harg5 : arg5.IsWhole}
  {arg6 : Memref sig .tc .vmem S4096x128 .bf16} {harg6 : arg6.IsWhole}
  {arg7 : Memref sig .tc .vmem S128x4096 .bf16} {harg7 : arg7.IsWhole}
  {arg8 : Memref sig .tc .vmem S16x16x256 .f32} {harg8 : arg8.IsWhole}
  {arg9 : Memref sig .tc .vmem S4096x256 .bf16} {harg9 : arg9.IsWhole}
  {arg10 : Memref sig .tc .vmem S4096x128 .bf16} {harg10 : arg10.IsWhole}
  {arg11 : Memref sig .tc .vmem S4096x128 .bf16} {harg11 : arg11.IsWhole}
  {arg12 : Memref sig .tc .vmem S16x80x256 .bf16} {harg12 : arg12.IsWhole}
  {arg13 : Memref sig .tc .vmem S16x80x256 .bf16} {harg13 : arg13.IsWhole}
  {arg14 : Memref sig .tc .vmem S16x128x1024 .bf16} {harg14 : arg14.IsWhole}
  {arg15 : Memref sig .tc .vmem S16x1x1024 .f32} {harg15 : arg15.IsWhole}
  {arg16 : Memref sig .tc .vmem S16x80x1024 .f32} {harg16 : arg16.IsWhole}
  {arg17 : Memref sig .tc .vmem S16x64x1024 .f32} {harg17 : arg17.IsWhole}
  {arg18 : Memref sig .tc .vmem S64x256 .f32} {harg18 : arg18.IsWhole}
  {arg19 : Memref sig .tc .vmem S256x1024 .f32} {harg19 : arg19.IsWhole}
  (H : Acc c R arg2 arg3 arg4 arg5 arg6 arg7 arg8 arg9 arg10 arg11 arg12 arg13 arg14 arg15 arg16 arg17 arg18 arg19)

include H

theorem p131 (i : grid0.Coords) (a b : BitVec 32) : ∀ x0 x1 x2 x3 x4 x5 x6, Safe c R (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 23).2 (S a b 24).1 (S a b 24).2 x1 x2 x3 x4 x5 x6) (fun | ⟨y0, y1, _, _, _, _, _, _, _⟩ => y0 = (S a b 25).1 ∧ y1 = (S a b 25).2) := by
  intros
  rw [k0_part131_eq_skeleton]
  unfold k0_part131_skel
  refine ld H.w16.rd fun _ => ?_
  refine st H.w16 ?_
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 24).symm, (S_snd a b 24).symm⟩

theorem p132 (i : grid0.Coords) (a b : BitVec 32) : ∀ x0 x1 x2 x3 x4 x5 x6 x7, Safe c R (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 24).1 x1 x2 x3 x4 x5 x6 x7) (fun _ => True) := by
  intros
  rw [k0_part132_eq_skeleton]
  unfold k0_part132_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p133 (i : grid0.Coords) (a b : BitVec 32) : ∀ x0 x1 x2 x3 x4 x5 x6 x7 x8 x9, Safe c R (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 24).1 (S a b 24).2 x1 x2 x3 x4 x5 x6 x7 x8 x9) (fun _ => True) := by
  intros
  rw [k0_part133_eq_skeleton]
  unfold k0_part133_skel
  refine ld H.w12.rd fun _ => ?_
  refine ld H.w10.rd fun _ => ?_
  refine ld H.w14.rd fun _ => ?_
  refine ld H.w12.rd fun _ => ?_
  refine ld H.w16.rd fun _ => ?_
  exact pr trivial

theorem p134 (i : grid0.Coords) (a b : BitVec 32) : ∀ x0 x1 x2 x3 x4 x5 x6, Safe c R (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 24).2 (S a b 25).1 (S a b 25).2 x1 x2 x3 x4 x5 x6) (fun | ⟨y0, y1, _, _, _, _, _, _, _, _, _⟩ => y0 = (S a b 26).1 ∧ y1 = (S a b 26).2) := by
  intros
  rw [k0_part134_eq_skeleton]
  unfold k0_part134_skel
  refine st H.w16 ?_
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 25).symm, (S_snd a b 25).symm⟩

theorem p135 (i : grid0.Coords) (a b : BitVec 32) : ∀ x0 x1 x2 x3 x4 x5 x6 x7 x8 x9, Safe c R (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 25).1 x1 x2 x3 x4 x5 x6 x7 x8 x9) (fun _ => True) := by
  intros
  rw [k0_part135_eq_skeleton]
  unfold k0_part135_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p136 (i : grid0.Coords) (a b : BitVec 32) : ∀ x0 x1 x2 x3 x4 x5 x6 x7 x8 x9 x10 x11, Safe c R (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 25).1 (S a b 25).2 x1 x2 x3 x4 x5 x6 x7 x8 x9 x10 x11) (fun _ => True) := by
  intros
  rw [k0_part136_eq_skeleton]
  unfold k0_part136_skel
  refine ld H.w12.rd fun _ => ?_
  refine ld H.w10.rd fun _ => ?_
  refine ld H.w14.rd fun _ => ?_
  refine ld H.w12.rd fun _ => ?_
  refine ld H.w16.rd fun _ => ?_
  refine st H.w16 ?_
  exact pr trivial

theorem p137 (i : grid0.Coords) (a b : BitVec 32) : ∀ x0 x1 x2, Safe c R (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 26).1 (S a b 26).2 x1 x2) (fun | ⟨y0, y1, _, _, _, _, _, _, _, _⟩ => y0 = (S a b 27).1 ∧ y1 = (S a b 27).2) := by
  intros
  rw [k0_part137_eq_skeleton]
  unfold k0_part137_skel
  refine ld H.w15.rd fun _ => ?_
  refine st H.w15 ?_
  refine ld H.w15.rd fun _ => ?_
  refine ld H.w16.rd fun _ => ?_
  refine ld H.w10.rd fun _ => ?_
  refine ld H.w14.rd fun _ => ?_
  exact pr ⟨(S_fst a b 26).symm, (S_snd a b 26).symm⟩

theorem p138 (i : grid0.Coords) (a b : BitVec 32) : ∀ x0 x1 x2 x3 x4 x5 x6 x7 x8, Safe c R (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 26).1 x1 x2 x3 x4 x5 x6 x7 x8) (fun _ => True) := by
  intros
  rw [k0_part138_eq_skeleton]
  unfold k0_part138_skel
  refine ld H.w12.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p139 (i : grid0.Coords) (a b : BitVec 32) : ∀ x0 x1 x2 x3 x4 x5 x6 x7 x8 x9 x10 x11 x12, Safe c R (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 26).1 (S a b 26).2 x1 x2 x3 x4 x5 x6 x7 x8 x9 x10 x11 x12) (fun _ => True) := by
  intros
  rw [k0_part139_eq_skeleton]
  unfold k0_part139_skel
  refine ld H.w12.rd fun _ => ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  exact pr trivial

theorem p140 (i : grid0.Coords) (a b : BitVec 32) : ∀ x0 x1, Safe c R (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 27).1 (S a b 27).2 x1) (fun | ⟨y0, y1, _, _, _, _, _, _, _⟩ => y0 = (S a b 28).1 ∧ y1 = (S a b 28).2) := by
  intros
  rw [k0_part140_eq_skeleton]
  unfold k0_part140_skel
  refine ld H.w15.rd fun _ => ?_
  refine ld H.w16.rd fun _ => ?_
  refine ld H.w10.rd fun _ => ?_
  refine ld H.w14.rd fun _ => ?_
  refine ld H.w12.rd fun _ => ?_
  exact pr ⟨(S_fst a b 27).symm, (S_snd a b 27).symm⟩

theorem p141 (i : grid0.Coords) (a b : BitVec 32) : ∀ x0 x1 x2 x3 x4 x5 x6, Safe c R (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 27).1 x1 x2 x3 x4 x5 x6) (fun _ => True) := by
  intros
  rw [k0_part141_eq_skeleton]
  unfold k0_part141_skel
  refine ld H.w10.rd fun _ => ?_
  refine ld H.w14.rd fun _ => ?_
  refine ld H.w12.rd fun _ => ?_
  refine ld H.w10.rd fun _ => ?_
  refine ld H.w14.rd fun _ => ?_
  exact pr trivial

theorem p142 (i : grid0.Coords) (a b : BitVec 32) : ∀ x0 x1 x2 x3 x4 x5 x6 x7 x8 x9 x10 x11 x12, Safe c R (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 27).1 (S a b 27).2 x1 (S a b 28).1 (S a b 28).2 x2 x3 x4 x5 x6 x7 x8 x9 x10 x11 x12) (fun | ⟨_, y1, y2⟩ => y1 = (Scalar.cmpi .sge (Scalar.addi (S a b 28).1 1#32) (S a b 28).2) ∧ y2 = (Scalar.addi (S a b 28).1 1#32)) := by
  intros
  rw [k0_part142_eq_skeleton]
  unfold k0_part142_skel
  refine ld H.w12.rd fun _ => ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  exact pr ⟨rfl, rfl⟩

theorem p143 (i : grid0.Coords) (a b : BitVec 32) : ∀ x0 x1, Safe c R (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 28).1 (S a b 28).2 x1 (Scalar.cmpi .sge (Scalar.addi (S a b 28).1 1#32) (S a b 28).2) (Scalar.addi (S a b 28).1 1#32)) (fun | ⟨y0, y1, _, _, _, _, _, _, _, _⟩ => y0 = (S a b 29).1 ∧ y1 = (S a b 29).2) := by
  intros
  rw [k0_part143_eq_skeleton]
  unfold k0_part143_skel
  refine ld H.w15.rd fun _ => ?_
  refine ld H.w16.rd fun _ => ?_
  refine ld H.w10.rd fun _ => ?_
  refine ld H.w14.rd fun _ => ?_
  refine ld H.w12.rd fun _ => ?_
  refine ld H.w10.rd fun _ => ?_
  exact pr ⟨(S_fst a b 28).symm, (S_snd a b 28).symm⟩

theorem p144 (i : grid0.Coords) (a b : BitVec 32) : ∀ x0 x1 x2 x3 x4 x5 x6 x7, Safe c R (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 28).1 x1 x2 x3 x4 x5 x6 x7) (fun _ => True) := by
  intros
  rw [k0_part144_eq_skeleton]
  unfold k0_part144_skel
  refine ld H.w14.rd fun _ => ?_
  refine ld H.w12.rd fun _ => ?_
  refine ld H.w10.rd fun _ => ?_
  refine ld H.w14.rd fun _ => ?_
  refine ld H.w12.rd fun _ => ?_
  exact pr trivial

theorem p145 (i : grid0.Coords) (a b : BitVec 32) : ∀ x0 x1 x2 x3 x4 x5 x6 x7 x8 x9 x10 x11 x12, Safe c R (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 28).1 (S a b 28).2 x1 (S a b 29).1 (S a b 29).2 x2 x3 x4 x5 x6 x7 x8 x9 x10 x11 x12) (fun | ⟨_, y1, y2⟩ => y1 = (S a b 30).1 ∧ y2 = (S a b 30).2) := by
  intros
  rw [k0_part145_eq_skeleton]
  unfold k0_part145_skel
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  exact pr ⟨(S_fst a b 29).symm, (S_snd a b 29).symm⟩

theorem p146 (i : grid0.Coords) (a b : BitVec 32) : ∀ x0 x1, Safe c R (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 29).1 (S a b 29).2 x1 (S a b 30).1 (S a b 30).2) (fun _ => True) := by
  intros
  rw [k0_part146_eq_skeleton]
  unfold k0_part146_skel
  refine ld H.w15.rd fun _ => ?_
  refine ld H.w16.rd fun _ => ?_
  refine ld H.w10.rd fun _ => ?_
  refine ld H.w14.rd fun _ => ?_
  refine ld H.w12.rd fun _ => ?_
  refine ld H.w10.rd fun _ => ?_
  refine ld H.w14.rd fun _ => ?_
  exact pr trivial

theorem p147 (i : grid0.Coords) (a b : BitVec 32) : ∀ x0 x1 x2 x3 x4 x5 x6, Safe c R (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 29).1 x1 x2 x3 x4 x5 x6) (fun _ => True) := by
  intros
  rw [k0_part147_eq_skeleton]
  unfold k0_part147_skel
  refine ld H.w12.rd fun _ => ?_
  refine ld H.w10.rd fun _ => ?_
  refine ld H.w14.rd fun _ => ?_
  refine ld H.w12.rd fun _ => ?_
  refine ld H.w10.rd fun _ => ?_
  exact pr trivial

theorem p150 (i : grid0.Coords) : Safe c R (k0_part150 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => True) := by
  rw [k0_part150_eq_skeleton]
  unfold k0_part150_skel
  refine ld H.r6 fun _ => ?_
  refine ld H.w10.rd fun _ => ?_
  refine st H.w10 ?_
  refine ld H.w11.rd fun _ => ?_
  exact pr trivial

theorem p151 (i : grid0.Coords) : ∀ x0 x1, Safe c R (k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part151_eq_skeleton]
  unfold k0_part151_skel
  refine st H.w11 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  refine st H.w12 ?_
  exact pr trivial

theorem p152 (i : grid0.Coords) : ∀ x0, Safe c R (k0_part152 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0) (fun _ => True) := by
  intros
  rw [k0_part152_eq_skeleton]
  unfold k0_part152_skel
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  exact pr trivial

theorem p153 (i : grid0.Coords) : ∀ x0 x1, Safe c R (k0_part153 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part153_eq_skeleton]
  unfold k0_part153_skel
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  exact pr trivial

theorem p154 (i : grid0.Coords) : ∀ x0 x1, Safe c R (k0_part154 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part154_eq_skeleton]
  unfold k0_part154_skel
  refine st H.w13 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  exact pr trivial

theorem p155 (i : grid0.Coords) : ∀ x0 x1, Safe c R (k0_part155 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part155_eq_skeleton]
  unfold k0_part155_skel
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  exact pr trivial

theorem p156 (i : grid0.Coords) : ∀ x0 x1, Safe c R (k0_part156 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part156_eq_skeleton]
  unfold k0_part156_skel
  refine st H.w12 ?_
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  refine st H.w13 ?_
  refine ld H.r7 fun _ => ?_
  refine ld H.w12.rd fun _ => ?_
  refine st H.w12 ?_
  refine ld H.r7 fun _ => ?_
  refine ld H.w13.rd fun _ => ?_
  refine st H.w13 ?_
  exact pr trivial

theorem p157 (i : grid0.Coords) : ∀ x0 x1 x2, Safe c R (k0_part157 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part157_eq_skeleton]
  unfold k0_part157_skel
  refine ld H.r2 fun _ => ?_
  refine ld H.w14.rd fun _ => ?_
  exact pr trivial

theorem p158 (i : grid0.Coords) : ∀ x0 x1 x2 x3, Safe c R (k0_part158 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part158_eq_skeleton]
  unfold k0_part158_skel
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.w14.rd fun _ => ?_
  exact pr trivial

theorem p159 (i : grid0.Coords) : ∀ x0 x1 x2 x3 x4 x5 x6, Safe c R (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part159_eq_skeleton]
  unfold k0_part159_skel
  refine ld H.r3 fun _ => ?_
  refine ld H.w11.rd fun _ => ?_
  exact pr trivial

theorem p160 (i : grid0.Coords) : ∀ x0 x1 x2 x3 x4, Safe c R (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part160_eq_skeleton]
  unfold k0_part160_skel
  refine ld H.w11.rd fun _ => ?_
  refine ld H.w11.rd fun _ => ?_
  refine ld H.r4 fun _ => ?_
  exact pr trivial

theorem p161 (i : grid0.Coords) : ∀ x0 x1, Safe c R (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part161_eq_skeleton]
  unfold k0_part161_skel
  refine ld H.r5 fun _ => ?_
  exact pr trivial

theorem p162 (i : grid0.Coords) : ∀ x0 x1 x2 x3 x4 x5 x6 x7 x8 x9, Safe c R (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9) (fun _ => True) := by
  intros
  rw [k0_part162_eq_skeleton]
  unfold k0_part162_skel
  refine ld H.w18.rd fun _ => ?_
  refine st H.w18 ?_
  refine ld H.w13.rd fun _ => ?_
  refine ld H.w13.rd fun _ => ?_
  exact pr trivial

theorem p163 (i : grid0.Coords) : ∀ x0 x1 x2 x3 x4 x5 x6, Safe c R (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part163_eq_skeleton]
  unfold k0_part163_skel
  refine ld H.w13.rd fun _ => ?_
  refine ld H.r8 fun _ => ?_
  refine ld H.w17.rd fun _ => ?_
  refine st H.w17 ?_
  exact pr trivial

theorem p164 (i : grid0.Coords) : ∀ x0 x1 x2 x3 x4 x5 x6, Safe c R (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part164_eq_skeleton]
  unfold k0_part164_skel
  refine ld H.w17.rd fun _ => ?_
  refine st H.w17 ?_
  refine ld H.w17.rd fun _ => ?_
  refine st H.w17 ?_
  refine ld H.w17.rd fun _ => ?_
  refine st H.w17 ?_
  refine ld H.w18.rd fun _ => ?_
  exact pr trivial

theorem p165 (i : grid0.Coords) : ∀ x0 x1 x2 x3 x4 x5, Safe c R (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part165_eq_skeleton]
  unfold k0_part165_skel
  refine ld H.w18.rd fun _ => ?_
  refine ld H.w18.rd fun _ => ?_
  refine ld H.w18.rd fun _ => ?_
  exact pr trivial

theorem p166 (i : grid0.Coords) : ∀ x0 x1 x2 x3 x4 x5 x6 x7, Safe c R (k0_part166 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part166_eq_skeleton]
  unfold k0_part166_skel
  refine ld H.w18.rd fun _ => ?_
  refine ld H.w18.rd fun _ => ?_
  exact pr trivial

theorem p167 (i : grid0.Coords) : ∀ x0 x1 x2 x3 x4 x5, Safe c R (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part167_eq_skeleton]
  unfold k0_part167_skel
  refine ld H.w18.rd fun _ => ?_
  refine ld H.w18.rd fun _ => ?_
  refine ld H.w18.rd fun _ => ?_
  exact pr trivial

theorem p168 (i : grid0.Coords) : ∀ x0 x1 x2 x3 x4 x5 x6 x7, Safe c R (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part168_eq_skeleton]
  unfold k0_part168_skel
  refine ld H.w18.rd fun _ => ?_
  refine ld H.w18.rd fun _ => ?_
  exact pr trivial

theorem p169 (i : grid0.Coords) : ∀ x0 x1 x2 x3 x4 x5, Safe c R (k0_part169 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part169_eq_skeleton]
  unfold k0_part169_skel
  refine ld H.w18.rd fun _ => ?_
  refine ld H.w18.rd fun _ => ?_
  refine ld H.w18.rd fun _ => ?_
  exact pr trivial

theorem p170 (i : grid0.Coords) : ∀ x0 x1 x2 x3 x4 x5 x6 x7, Safe c R (k0_part170 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part170_eq_skeleton]
  unfold k0_part170_skel
  refine ld H.w18.rd fun _ => ?_
  refine ld H.w18.rd fun _ => ?_
  exact pr trivial

theorem p171 (i : grid0.Coords) : ∀ x0 x1 x2 x3 x4 x5 x6, Safe c R (k0_part171 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part171_eq_skeleton]
  unfold k0_part171_skel
  refine ld H.w14.rd fun _ => ?_
  refine st H.w14 ?_
  refine ld H.w14.rd fun _ => ?_
  refine st H.w14 ?_
  refine ld H.w14.rd fun _ => ?_
  refine st H.w14 ?_
  refine ld H.w14.rd fun _ => ?_
  refine st H.w14 ?_
  refine ld H.r2 fun _ => ?_
  refine ld H.w14.rd fun _ => ?_
  refine st H.w14 ?_
  exact pr trivial

theorem p172 (i : grid0.Coords) : ∀ x0 x1 x2, Safe c R (k0_part172 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part172_eq_skeleton]
  unfold k0_part172_skel
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.w14.rd fun _ => ?_
  exact pr trivial

theorem p173 (i : grid0.Coords) : ∀ x0 x1 x2 x3 x4 x5 x6, Safe c R (k0_part173 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part173_eq_skeleton]
  unfold k0_part173_skel
  refine ld H.r3 fun _ => ?_
  refine ld H.w11.rd fun _ => ?_
  refine ld H.w11.rd fun _ => ?_
  exact pr trivial

theorem p174 (i : grid0.Coords) : ∀ x0 x1 x2 x3 x4 x5 x6, Safe c R (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part174_eq_skeleton]
  unfold k0_part174_skel
  refine ld H.w11.rd fun _ => ?_
  refine ld H.r4 fun _ => ?_
  refine ld H.r5 fun _ => ?_
  exact pr trivial

theorem p175 (i : grid0.Coords) : ∀ x0 x1 x2 x3, Safe c R (k0_part175 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part175_eq_skeleton]
  unfold k0_part175_skel
  exact pr trivial

end Cert.KernelIdeal.Attn
-- ==== Proof.AttnParts5.lean ====
/- The stretches of the attention kernel's body, each safe: it loads from its windows and scratch, and stores to its output and scratch. -/
module

public import proofs.«01_k».proof.Proof.AttnSafe

@[expose] public section

set_option maxRecDepth 8192
set_option maxHeartbeats 4000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (M F)}
  {arg2 : Memref sig .tc .vmem S16x256x256 .bf16} {harg2 : arg2.IsWhole}
  {arg3 : Memref sig .tc .vmem S1x1x256x64 .bf16} {harg3 : arg3.IsWhole}
  {arg4 : Memref sig .tc .vmem S1x1x64x256 .bf16} {harg4 : arg4.IsWhole}
  {arg5 : Memref sig .tc .vmem S64x256 .bf16} {harg5 : arg5.IsWhole}
  {arg6 : Memref sig .tc .vmem S4096x128 .bf16} {harg6 : arg6.IsWhole}
  {arg7 : Memref sig .tc .vmem S128x4096 .bf16} {harg7 : arg7.IsWhole}
  {arg8 : Memref sig .tc .vmem S16x16x256 .f32} {harg8 : arg8.IsWhole}
  {arg9 : Memref sig .tc .vmem S4096x256 .bf16} {harg9 : arg9.IsWhole}
  {arg10 : Memref sig .tc .vmem S4096x128 .bf16} {harg10 : arg10.IsWhole}
  {arg11 : Memref sig .tc .vmem S4096x128 .bf16} {harg11 : arg11.IsWhole}
  {arg12 : Memref sig .tc .vmem S16x80x256 .bf16} {harg12 : arg12.IsWhole}
  {arg13 : Memref sig .tc .vmem S16x80x256 .bf16} {harg13 : arg13.IsWhole}
  {arg14 : Memref sig .tc .vmem S16x128x1024 .bf16} {harg14 : arg14.IsWhole}
  {arg15 : Memref sig .tc .vmem S16x1x1024 .f32} {harg15 : arg15.IsWhole}
  {arg16 : Memref sig .tc .vmem S16x80x1024 .f32} {harg16 : arg16.IsWhole}
  {arg17 : Memref sig .tc .vmem S16x64x1024 .f32} {harg17 : arg17.IsWhole}
  {arg18 : Memref sig .tc .vmem S64x256 .f32} {harg18 : arg18.IsWhole}
  {arg19 : Memref sig .tc .vmem S256x1024 .f32} {harg19 : arg19.IsWhole}
  (H : Acc c R arg2 arg3 arg4 arg5 arg6 arg7 arg8 arg9 arg10 arg11 arg12 arg13 arg14 arg15 arg16 arg17 arg18 arg19)

include H

theorem p176 (i : grid0.Coords) : ∀ x0 x1 x2 x3 x4 x5 x6 x7 x8, Safe c R (k0_part176 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (fun _ => True) := by
  intros
  rw [k0_part176_eq_skeleton]
  unfold k0_part176_skel
  refine ld H.w18.rd fun _ => ?_
  refine st H.w18 ?_
  refine ld H.w13.rd fun _ => ?_
  refine ld H.w13.rd fun _ => ?_
  exact pr trivial

theorem p177 (i : grid0.Coords) : ∀ x0 x1 x2 x3 x4 x5, Safe c R (k0_part177 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part177_eq_skeleton]
  unfold k0_part177_skel
  refine ld H.w13.rd fun _ => ?_
  refine ld H.r8 fun _ => ?_
  refine ld H.w17.rd fun _ => ?_
  refine st H.w17 ?_
  refine ld H.w17.rd fun _ => ?_
  refine st H.w17 ?_
  exact pr trivial

theorem p178 (i : grid0.Coords) : ∀ x0 x1 x2 x3 x4 x5, Safe c R (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part178_eq_skeleton]
  unfold k0_part178_skel
  refine ld H.w17.rd fun _ => ?_
  refine st H.w17 ?_
  refine ld H.w17.rd fun _ => ?_
  refine st H.w17 ?_
  refine ld H.w18.rd fun _ => ?_
  exact pr trivial

theorem p179 (i : grid0.Coords) : ∀ x0 x1 x2, Safe c R (k0_part179 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part179_eq_skeleton]
  unfold k0_part179_skel
  refine ld H.w18.rd fun _ => ?_
  refine ld H.w18.rd fun _ => ?_
  refine ld H.w18.rd fun _ => ?_
  exact pr trivial

theorem p180 (i : grid0.Coords) : ∀ x0 x1 x2 x3 x4 x5, Safe c R (k0_part180 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part180_eq_skeleton]
  unfold k0_part180_skel
  refine ld H.w18.rd fun _ => ?_
  refine ld H.w18.rd fun _ => ?_
  exact pr trivial

theorem p181 (i : grid0.Coords) : ∀ x0 x1 x2, Safe c R (k0_part181 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part181_eq_skeleton]
  unfold k0_part181_skel
  refine ld H.w18.rd fun _ => ?_
  refine ld H.w18.rd fun _ => ?_
  refine ld H.w18.rd fun _ => ?_
  exact pr trivial

theorem p182 (i : grid0.Coords) : ∀ x0 x1 x2 x3 x4 x5, Safe c R (k0_part182 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part182_eq_skeleton]
  unfold k0_part182_skel
  refine ld H.w18.rd fun _ => ?_
  refine ld H.w18.rd fun _ => ?_
  exact pr trivial

theorem p183 (i : grid0.Coords) : ∀ x0 x1 x2, Safe c R (k0_part183 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part183_eq_skeleton]
  unfold k0_part183_skel
  refine ld H.w18.rd fun _ => ?_
  refine ld H.w18.rd fun _ => ?_
  refine ld H.w18.rd fun _ => ?_
  exact pr trivial

theorem p184 (i : grid0.Coords) : ∀ x0 x1 x2 x3 x4 x5, Safe c R (k0_part184 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part184_eq_skeleton]
  unfold k0_part184_skel
  refine ld H.w18.rd fun _ => ?_
  refine ld H.w18.rd fun _ => ?_
  exact pr trivial

theorem p185 (i : grid0.Coords) : ∀ x0 x1 x2 x3 x4, Safe c R (k0_part185 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part185_eq_skeleton]
  unfold k0_part185_skel
  refine ld H.w14.rd fun _ => ?_
  refine st H.w14 ?_
  refine ld H.w14.rd fun _ => ?_
  refine st H.w14 ?_
  refine ld H.w14.rd fun _ => ?_
  refine st H.w14 ?_
  refine ld H.w14.rd fun _ => ?_
  refine st H.w14 ?_
  refine ld H.r2 fun _ => ?_
  refine ld H.w14.rd fun _ => ?_
  refine st H.w14 ?_
  refine ld H.r2 fun _ => ?_
  exact pr trivial

theorem p186 (i : grid0.Coords) : ∀ x0 x1 x2 x3, Safe c R (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part186_eq_skeleton]
  unfold k0_part186_skel
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.w14.rd fun _ => ?_
  exact pr trivial

theorem p187 (i : grid0.Coords) : ∀ x0 x1 x2 x3 x4 x5 x6 x7, Safe c R (k0_part187 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part187_eq_skeleton]
  unfold k0_part187_skel
  refine ld H.r3 fun _ => ?_
  refine ld H.w11.rd fun _ => ?_
  refine ld H.w11.rd fun _ => ?_
  exact pr trivial

theorem p188 (i : grid0.Coords) : ∀ x0 x1 x2 x3 x4 x5, Safe c R (k0_part188 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part188_eq_skeleton]
  unfold k0_part188_skel
  refine ld H.w11.rd fun _ => ?_
  refine ld H.r4 fun _ => ?_
  refine ld H.r5 fun _ => ?_
  exact pr trivial

theorem p189 (i : grid0.Coords) : ∀ x0 x1 x2 x3 x4, Safe c R (k0_part189 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part189_eq_skeleton]
  unfold k0_part189_skel
  exact pr trivial

theorem p190 (i : grid0.Coords) : ∀ x0 x1 x2 x3 x4 x5 x6 x7 x8, Safe c R (k0_part190 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (fun _ => True) := by
  intros
  rw [k0_part190_eq_skeleton]
  unfold k0_part190_skel
  refine ld H.w18.rd fun _ => ?_
  refine st H.w18 ?_
  refine ld H.w13.rd fun _ => ?_
  refine ld H.w13.rd fun _ => ?_
  exact pr trivial

theorem p191 (i : grid0.Coords) : ∀ x0 x1 x2 x3 x4, Safe c R (k0_part191 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part191_eq_skeleton]
  unfold k0_part191_skel
  refine ld H.w13.rd fun _ => ?_
  refine ld H.r8 fun _ => ?_
  refine ld H.w17.rd fun _ => ?_
  refine st H.w17 ?_
  refine ld H.w17.rd fun _ => ?_
  refine st H.w17 ?_
  exact pr trivial

theorem p192 (i : grid0.Coords) : ∀ x0 x1 x2 x3 x4 x5 x6, Safe c R (k0_part192 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part192_eq_skeleton]
  unfold k0_part192_skel
  refine ld H.w17.rd fun _ => ?_
  refine st H.w17 ?_
  refine ld H.w17.rd fun _ => ?_
  refine st H.w17 ?_
  refine ld H.w18.rd fun _ => ?_
  refine ld H.w18.rd fun _ => ?_
  exact pr trivial

theorem p193 (i : grid0.Coords) : ∀ x0 x1 x2 x3 x4, Safe c R (k0_part193 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part193_eq_skeleton]
  unfold k0_part193_skel
  refine ld H.w18.rd fun _ => ?_
  refine ld H.w18.rd fun _ => ?_
  exact pr trivial

theorem p194 (i : grid0.Coords) : ∀ x0 x1 x2 x3 x4 x5 x6 x7, Safe c R (k0_part194 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part194_eq_skeleton]
  unfold k0_part194_skel
  refine ld H.w18.rd fun _ => ?_
  refine ld H.w18.rd fun _ => ?_
  refine ld H.w18.rd fun _ => ?_
  exact pr trivial

theorem p195 (i : grid0.Coords) : ∀ x0 x1 x2 x3 x4, Safe c R (k0_part195 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part195_eq_skeleton]
  unfold k0_part195_skel
  refine ld H.w18.rd fun _ => ?_
  refine ld H.w18.rd fun _ => ?_
  exact pr trivial

theorem p196 (i : grid0.Coords) : ∀ x0 x1 x2 x3 x4 x5 x6 x7, Safe c R (k0_part196 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part196_eq_skeleton]
  unfold k0_part196_skel
  refine ld H.w18.rd fun _ => ?_
  refine ld H.w18.rd fun _ => ?_
  refine ld H.w18.rd fun _ => ?_
  exact pr trivial

theorem p197 (i : grid0.Coords) : ∀ x0 x1 x2 x3 x4, Safe c R (k0_part197 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part197_eq_skeleton]
  unfold k0_part197_skel
  refine ld H.w18.rd fun _ => ?_
  refine ld H.w18.rd fun _ => ?_
  exact pr trivial

theorem p198 (i : grid0.Coords) : ∀ x0 x1 x2 x3 x4 x5 x6 x7 x8, Safe c R (k0_part198 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (fun _ => True) := by
  intros
  rw [k0_part198_eq_skeleton]
  unfold k0_part198_skel
  refine ld H.w18.rd fun _ => ?_
  refine ld H.w18.rd fun _ => ?_
  exact pr trivial

theorem p199 (i : grid0.Coords) : ∀ x0 x1 x2 x3 x4, Safe c R (k0_part199 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part199_eq_skeleton]
  unfold k0_part199_skel
  refine ld H.w14.rd fun _ => ?_
  refine st H.w14 ?_
  refine ld H.w14.rd fun _ => ?_
  refine st H.w14 ?_
  refine ld H.w14.rd fun _ => ?_
  refine st H.w14 ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  exact pr trivial

theorem p200 (i : grid0.Coords) : ∀ x0 x1 x2 x3, Safe c R (k0_part200 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part200_eq_skeleton]
  unfold k0_part200_skel
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.w14.rd fun _ => ?_
  exact pr trivial

theorem p201 (i : grid0.Coords) : ∀ x0 x1 x2 x3 x4 x5, Safe c R (k0_part201 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part201_eq_skeleton]
  unfold k0_part201_skel
  refine ld H.r3 fun _ => ?_
  refine ld H.w11.rd fun _ => ?_
  refine ld H.w11.rd fun _ => ?_
  exact pr trivial

theorem p202 (i : grid0.Coords) : ∀ x0 x1 x2 x3 x4 x5 x6 x7, Safe c R (k0_part202 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part202_eq_skeleton]
  unfold k0_part202_skel
  refine ld H.w11.rd fun _ => ?_
  refine ld H.r4 fun _ => ?_
  refine ld H.r5 fun _ => ?_
  exact pr trivial

theorem p203 (i : grid0.Coords) : ∀ x0 x1 x2 x3 x4, Safe c R (k0_part203 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part203_eq_skeleton]
  unfold k0_part203_skel
  exact pr trivial

theorem p204 (i : grid0.Coords) : ∀ x0 x1 x2 x3 x4 x5 x6 x7, Safe c R (k0_part204 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part204_eq_skeleton]
  unfold k0_part204_skel
  refine ld H.w18.rd fun _ => ?_
  refine st H.w18 ?_
  refine ld H.w13.rd fun _ => ?_
  refine ld H.w13.rd fun _ => ?_
  exact pr trivial

theorem p205 (i : grid0.Coords) : ∀ x0 x1 x2 x3, Safe c R (k0_part205 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part205_eq_skeleton]
  unfold k0_part205_skel
  refine ld H.w13.rd fun _ => ?_
  refine ld H.r8 fun _ => ?_
  refine ld H.w17.rd fun _ => ?_
  refine st H.w17 ?_
  refine ld H.w17.rd fun _ => ?_
  refine st H.w17 ?_
  exact pr trivial

theorem p206 (i : grid0.Coords) : ∀ x0 x1 x2 x3 x4 x5 x6 x7, Safe c R (k0_part206 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part206_eq_skeleton]
  unfold k0_part206_skel
  refine ld H.w17.rd fun _ => ?_
  refine st H.w17 ?_
  refine ld H.w17.rd fun _ => ?_
  refine st H.w17 ?_
  refine ld H.w18.rd fun _ => ?_
  refine ld H.w18.rd fun _ => ?_
  exact pr trivial

theorem p207 (i : grid0.Coords) : ∀ x0 x1 x2 x3 x4 x5 x6 x7, Safe c R (k0_part207 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part207_eq_skeleton]
  unfold k0_part207_skel
  refine ld H.w18.rd fun _ => ?_
  refine ld H.w18.rd fun _ => ?_
  exact pr trivial

theorem p208 (i : grid0.Coords) : ∀ x0 x1 x2 x3 x4 x5, Safe c R (k0_part208 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part208_eq_skeleton]
  unfold k0_part208_skel
  refine ld H.w18.rd fun _ => ?_
  refine ld H.w18.rd fun _ => ?_
  refine ld H.w18.rd fun _ => ?_
  exact pr trivial

theorem p209 (i : grid0.Coords) : ∀ x0 x1 x2 x3 x4 x5 x6 x7, Safe c R (k0_part209 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part209_eq_skeleton]
  unfold k0_part209_skel
  refine ld H.w18.rd fun _ => ?_
  refine ld H.w18.rd fun _ => ?_
  exact pr trivial

theorem p210 (i : grid0.Coords) : ∀ x0 x1 x2 x3 x4 x5, Safe c R (k0_part210 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part210_eq_skeleton]
  unfold k0_part210_skel
  refine ld H.w18.rd fun _ => ?_
  refine ld H.w18.rd fun _ => ?_
  refine ld H.w18.rd fun _ => ?_
  exact pr trivial

theorem p211 (i : grid0.Coords) : ∀ x0 x1 x2 x3 x4 x5 x6 x7, Safe c R (k0_part211 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part211_eq_skeleton]
  unfold k0_part211_skel
  refine ld H.w18.rd fun _ => ?_
  refine ld H.w18.rd fun _ => ?_
  exact pr trivial

theorem p212 (i : grid0.Coords) : ∀ x0 x1 x2 x3 x4 x5 x6, Safe c R (k0_part212 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part212_eq_skeleton]
  unfold k0_part212_skel
  refine ld H.w18.rd fun _ => ?_
  refine ld H.w18.rd fun _ => ?_
  exact pr trivial

theorem p213 (i : grid0.Coords) : ∀ x0 x1, Safe c R (k0_part213 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part213_eq_skeleton]
  unfold k0_part213_skel
  refine ld H.w14.rd fun _ => ?_
  refine st H.w14 ?_
  refine ld H.w14.rd fun _ => ?_
  refine st H.w14 ?_
  refine ld H.w14.rd fun _ => ?_
  refine st H.w14 ?_
  refine ld H.w14.rd fun _ => ?_
  refine st H.w14 ?_
  exact pr trivial

theorem p214 (i : grid0.Coords) : ∀ x0 x1 x2, Safe c R (k0_part214 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part214_eq_skeleton]
  unfold k0_part214_skel
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.w14.rd fun _ => ?_
  exact pr trivial

theorem p215 (i : grid0.Coords) : ∀ x0 x1 x2 x3 x4, Safe c R (k0_part215 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part215_eq_skeleton]
  unfold k0_part215_skel
  refine ld H.r3 fun _ => ?_
  refine ld H.w11.rd fun _ => ?_
  exact pr trivial

theorem p216 (i : grid0.Coords) : ∀ x0 x1 x2 x3 x4 x5, Safe c R (k0_part216 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part216_eq_skeleton]
  unfold k0_part216_skel
  refine ld H.w11.rd fun _ => ?_
  refine ld H.w11.rd fun _ => ?_
  refine ld H.r4 fun _ => ?_
  refine ld H.r5 fun _ => ?_
  exact pr trivial

theorem p217 (i : grid0.Coords) : ∀ x0 x1 x2 x3, Safe c R (k0_part217 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part217_eq_skeleton]
  unfold k0_part217_skel
  exact pr trivial

theorem p218 (i : grid0.Coords) : ∀ x0 x1 x2 x3 x4 x5 x6 x7 x8, Safe c R (k0_part218 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (fun _ => True) := by
  intros
  rw [k0_part218_eq_skeleton]
  unfold k0_part218_skel
  refine ld H.w18.rd fun _ => ?_
  refine st H.w18 ?_
  refine ld H.w13.rd fun _ => ?_
  refine ld H.w13.rd fun _ => ?_
  exact pr trivial

end Cert.KernelIdeal.Attn
-- ==== Proof.AttnParts6.lean ====
/- The stretches of the attention kernel's body, each safe: it loads from its windows and scratch, and stores to its output and scratch. -/
module

public import proofs.«01_k».proof.Proof.AttnSafe

@[expose] public section

set_option maxRecDepth 8192
set_option maxHeartbeats 4000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (M F)}
  {arg2 : Memref sig .tc .vmem S16x256x256 .bf16} {harg2 : arg2.IsWhole}
  {arg3 : Memref sig .tc .vmem S1x1x256x64 .bf16} {harg3 : arg3.IsWhole}
  {arg4 : Memref sig .tc .vmem S1x1x64x256 .bf16} {harg4 : arg4.IsWhole}
  {arg5 : Memref sig .tc .vmem S64x256 .bf16} {harg5 : arg5.IsWhole}
  {arg6 : Memref sig .tc .vmem S4096x128 .bf16} {harg6 : arg6.IsWhole}
  {arg7 : Memref sig .tc .vmem S128x4096 .bf16} {harg7 : arg7.IsWhole}
  {arg8 : Memref sig .tc .vmem S16x16x256 .f32} {harg8 : arg8.IsWhole}
  {arg9 : Memref sig .tc .vmem S4096x256 .bf16} {harg9 : arg9.IsWhole}
  {arg10 : Memref sig .tc .vmem S4096x128 .bf16} {harg10 : arg10.IsWhole}
  {arg11 : Memref sig .tc .vmem S4096x128 .bf16} {harg11 : arg11.IsWhole}
  {arg12 : Memref sig .tc .vmem S16x80x256 .bf16} {harg12 : arg12.IsWhole}
  {arg13 : Memref sig .tc .vmem S16x80x256 .bf16} {harg13 : arg13.IsWhole}
  {arg14 : Memref sig .tc .vmem S16x128x1024 .bf16} {harg14 : arg14.IsWhole}
  {arg15 : Memref sig .tc .vmem S16x1x1024 .f32} {harg15 : arg15.IsWhole}
  {arg16 : Memref sig .tc .vmem S16x80x1024 .f32} {harg16 : arg16.IsWhole}
  {arg17 : Memref sig .tc .vmem S16x64x1024 .f32} {harg17 : arg17.IsWhole}
  {arg18 : Memref sig .tc .vmem S64x256 .f32} {harg18 : arg18.IsWhole}
  {arg19 : Memref sig .tc .vmem S256x1024 .f32} {harg19 : arg19.IsWhole}
  (H : Acc c R arg2 arg3 arg4 arg5 arg6 arg7 arg8 arg9 arg10 arg11 arg12 arg13 arg14 arg15 arg16 arg17 arg18 arg19)

include H

theorem p219 (i : grid0.Coords) : ∀ x0 x1 x2 x3 x4 x5 x6 x7, Safe c R (k0_part219 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part219_eq_skeleton]
  unfold k0_part219_skel
  refine ld H.w13.rd fun _ => ?_
  refine ld H.r8 fun _ => ?_
  refine ld H.w17.rd fun _ => ?_
  refine st H.w17 ?_
  refine ld H.w17.rd fun _ => ?_
  exact pr trivial

theorem p220 (i : grid0.Coords) : ∀ x0 x1 x2 x3 x4 x5 x6, Safe c R (k0_part220 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part220_eq_skeleton]
  unfold k0_part220_skel
  refine st H.w17 ?_
  refine ld H.w17.rd fun _ => ?_
  refine st H.w17 ?_
  refine ld H.w17.rd fun _ => ?_
  refine st H.w17 ?_
  refine ld H.w18.rd fun _ => ?_
  exact pr trivial

theorem p221 (i : grid0.Coords) : ∀ x0 x1 x2, Safe c R (k0_part221 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part221_eq_skeleton]
  unfold k0_part221_skel
  refine ld H.w18.rd fun _ => ?_
  refine ld H.w18.rd fun _ => ?_
  refine ld H.w18.rd fun _ => ?_
  exact pr trivial

theorem p222 (i : grid0.Coords) : ∀ x0 x1 x2 x3 x4 x5 x6 x7, Safe c R (k0_part222 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part222_eq_skeleton]
  unfold k0_part222_skel
  refine ld H.w18.rd fun _ => ?_
  refine ld H.w18.rd fun _ => ?_
  exact pr trivial

theorem p223 (i : grid0.Coords) : ∀ x0 x1 x2, Safe c R (k0_part223 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part223_eq_skeleton]
  unfold k0_part223_skel
  refine ld H.w18.rd fun _ => ?_
  refine ld H.w18.rd fun _ => ?_
  refine ld H.w18.rd fun _ => ?_
  exact pr trivial

theorem p224 (i : grid0.Coords) : ∀ x0 x1 x2 x3 x4 x5 x6 x7, Safe c R (k0_part224 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part224_eq_skeleton]
  unfold k0_part224_skel
  refine ld H.w18.rd fun _ => ?_
  refine ld H.w18.rd fun _ => ?_
  exact pr trivial

theorem p225 (i : grid0.Coords) : ∀ x0 x1 x2, Safe c R (k0_part225 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part225_eq_skeleton]
  unfold k0_part225_skel
  refine ld H.w18.rd fun _ => ?_
  refine ld H.w18.rd fun _ => ?_
  refine ld H.w18.rd fun _ => ?_
  exact pr trivial

theorem p226 (i : grid0.Coords) : ∀ x0 x1 x2 x3 x4 x5 x6 x7, Safe c R (k0_part226 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part226_eq_skeleton]
  unfold k0_part226_skel
  refine ld H.w18.rd fun _ => ?_
  refine ld H.w18.rd fun _ => ?_
  exact pr trivial

theorem p227 (i : grid0.Coords) : ∀ x0 x1 x2, Safe c R (k0_part227 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part227_eq_skeleton]
  unfold k0_part227_skel
  refine ld H.w18.rd fun _ => ?_
  refine ld H.w18.rd fun _ => ?_
  refine ld H.w18.rd fun _ => ?_
  exact pr trivial

theorem p228 (i : grid0.Coords) : ∀ x0 x1 x2 x3 x4 x5 x6 x7, Safe c R (k0_part228 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part228_eq_skeleton]
  unfold k0_part228_skel
  refine ld H.w18.rd fun _ => ?_
  refine ld H.w18.rd fun _ => ?_
  exact pr trivial

theorem p229 (i : grid0.Coords) : ∀ x0 x1 x2, Safe c R (k0_part229 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part229_eq_skeleton]
  unfold k0_part229_skel
  refine ld H.w18.rd fun _ => ?_
  refine ld H.w18.rd fun _ => ?_
  refine ld H.w18.rd fun _ => ?_
  exact pr trivial

theorem p230 (i : grid0.Coords) : ∀ x0 x1 x2 x3 x4 x5 x6 x7, Safe c R (k0_part230 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part230_eq_skeleton]
  unfold k0_part230_skel
  refine ld H.w18.rd fun _ => ?_
  refine ld H.w18.rd fun _ => ?_
  exact pr trivial

theorem p231 (i : grid0.Coords) : ∀ x0 x1 x2, Safe c R (k0_part231 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part231_eq_skeleton]
  unfold k0_part231_skel
  refine ld H.w18.rd fun _ => ?_
  refine ld H.w18.rd fun _ => ?_
  refine ld H.w18.rd fun _ => ?_
  exact pr trivial

theorem p232 (i : grid0.Coords) : ∀ x0 x1 x2 x3 x4 x5 x6 x7, Safe c R (k0_part232 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part232_eq_skeleton]
  unfold k0_part232_skel
  refine ld H.w18.rd fun _ => ?_
  refine ld H.w18.rd fun _ => ?_
  exact pr trivial

theorem p233 (i : grid0.Coords) : ∀ x0 x1 x2 x3 x4, Safe c R (k0_part233 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part233_eq_skeleton]
  unfold k0_part233_skel
  refine ld H.w18.rd fun _ => ?_
  refine ld H.w14.rd fun _ => ?_
  refine st H.w14 ?_
  refine ld H.w14.rd fun _ => ?_
  refine st H.w14 ?_
  refine ld H.w14.rd fun _ => ?_
  refine st H.w14 ?_
  exact pr trivial

theorem p234 (i : grid0.Coords) : ∀ x0 x1, Safe c R (k0_part234 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part234_eq_skeleton]
  unfold k0_part234_skel
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.w14.rd fun _ => ?_
  exact pr trivial

theorem p235 (i : grid0.Coords) : ∀ x0 x1 x2 x3, Safe c R (k0_part235 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part235_eq_skeleton]
  unfold k0_part235_skel
  refine ld H.r3 fun _ => ?_
  exact pr trivial

theorem p236 (i : grid0.Coords) : ∀ x0 x1 x2 x3 x4 x5, Safe c R (k0_part236 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part236_eq_skeleton]
  unfold k0_part236_skel
  refine ld H.w11.rd fun _ => ?_
  refine ld H.w11.rd fun _ => ?_
  refine ld H.w11.rd fun _ => ?_
  refine ld H.r4 fun _ => ?_
  exact pr trivial

theorem p237 (i : grid0.Coords) : ∀ x0 x1 x2, Safe c R (k0_part237 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part237_eq_skeleton]
  unfold k0_part237_skel
  refine ld H.r5 fun _ => ?_
  exact pr trivial

theorem p238 (i : grid0.Coords) : ∀ x0 x1 x2 x3 x4 x5 x6 x7 x8 x9, Safe c R (k0_part238 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9) (fun _ => True) := by
  intros
  rw [k0_part238_eq_skeleton]
  unfold k0_part238_skel
  refine ld H.w18.rd fun _ => ?_
  refine st H.w18 ?_
  refine ld H.w13.rd fun _ => ?_
  exact pr trivial

theorem p239 (i : grid0.Coords) : ∀ x0 x1 x2 x3 x4 x5 x6, Safe c R (k0_part239 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part239_eq_skeleton]
  unfold k0_part239_skel
  refine ld H.w13.rd fun _ => ?_
  refine ld H.w13.rd fun _ => ?_
  refine ld H.r8 fun _ => ?_
  refine ld H.w17.rd fun _ => ?_
  refine st H.w17 ?_
  exact pr trivial

theorem p240 (i : grid0.Coords) : ∀ x0 x1 x2 x3 x4 x5 x6, Safe c R (k0_part240 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part240_eq_skeleton]
  unfold k0_part240_skel
  refine ld H.w17.rd fun _ => ?_
  refine st H.w17 ?_
  refine ld H.w17.rd fun _ => ?_
  refine st H.w17 ?_
  refine ld H.w17.rd fun _ => ?_
  refine st H.w17 ?_
  refine ld H.w18.rd fun _ => ?_
  exact pr trivial

theorem p241 (i : grid0.Coords) : ∀ x0 x1 x2 x3 x4 x5, Safe c R (k0_part241 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part241_eq_skeleton]
  unfold k0_part241_skel
  refine ld H.w18.rd fun _ => ?_
  refine ld H.w18.rd fun _ => ?_
  exact pr trivial

theorem p242 (i : grid0.Coords) : ∀ x0 x1 x2, Safe c R (k0_part242 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part242_eq_skeleton]
  unfold k0_part242_skel
  refine ld H.w18.rd fun _ => ?_
  refine ld H.w18.rd fun _ => ?_
  refine ld H.w18.rd fun _ => ?_
  exact pr trivial

theorem p243 (i : grid0.Coords) : ∀ x0 x1 x2 x3 x4 x5, Safe c R (k0_part243 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part243_eq_skeleton]
  unfold k0_part243_skel
  refine ld H.w18.rd fun _ => ?_
  refine ld H.w18.rd fun _ => ?_
  exact pr trivial

theorem p244 (i : grid0.Coords) : ∀ x0 x1 x2, Safe c R (k0_part244 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part244_eq_skeleton]
  unfold k0_part244_skel
  refine ld H.w18.rd fun _ => ?_
  refine ld H.w18.rd fun _ => ?_
  refine ld H.w18.rd fun _ => ?_
  exact pr trivial

theorem p245 (i : grid0.Coords) : ∀ x0 x1 x2 x3 x4 x5, Safe c R (k0_part245 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part245_eq_skeleton]
  unfold k0_part245_skel
  refine ld H.w18.rd fun _ => ?_
  refine ld H.w18.rd fun _ => ?_
  exact pr trivial

theorem p246 (i : grid0.Coords) : ∀ x0 x1 x2, Safe c R (k0_part246 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part246_eq_skeleton]
  unfold k0_part246_skel
  refine ld H.w18.rd fun _ => ?_
  refine ld H.w18.rd fun _ => ?_
  refine ld H.w18.rd fun _ => ?_
  exact pr trivial

theorem p247 (i : grid0.Coords) : ∀ x0 x1 x2 x3 x4 x5, Safe c R (k0_part247 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part247_eq_skeleton]
  unfold k0_part247_skel
  refine ld H.w18.rd fun _ => ?_
  refine ld H.w18.rd fun _ => ?_
  exact pr trivial

theorem p248 (i : grid0.Coords) : ∀ x0 x1 x2, Safe c R (k0_part248 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part248_eq_skeleton]
  unfold k0_part248_skel
  refine ld H.w18.rd fun _ => ?_
  refine ld H.w18.rd fun _ => ?_
  refine ld H.w18.rd fun _ => ?_
  exact pr trivial

theorem p249 (i : grid0.Coords) : ∀ x0 x1 x2 x3 x4 x5, Safe c R (k0_part249 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part249_eq_skeleton]
  unfold k0_part249_skel
  refine ld H.w18.rd fun _ => ?_
  refine ld H.w18.rd fun _ => ?_
  exact pr trivial

theorem p250 (i : grid0.Coords) : ∀ x0 x1 x2, Safe c R (k0_part250 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part250_eq_skeleton]
  unfold k0_part250_skel
  refine ld H.w18.rd fun _ => ?_
  refine ld H.w18.rd fun _ => ?_
  refine ld H.w18.rd fun _ => ?_
  exact pr trivial

theorem p251 (i : grid0.Coords) : ∀ x0 x1 x2 x3 x4 x5, Safe c R (k0_part251 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part251_eq_skeleton]
  unfold k0_part251_skel
  refine ld H.w18.rd fun _ => ?_
  refine ld H.w18.rd fun _ => ?_
  exact pr trivial

theorem p252 (i : grid0.Coords) : ∀ x0 x1 x2, Safe c R (k0_part252 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part252_eq_skeleton]
  unfold k0_part252_skel
  refine ld H.w18.rd fun _ => ?_
  refine ld H.w18.rd fun _ => ?_
  refine ld H.w18.rd fun _ => ?_
  exact pr trivial

theorem p253 (i : grid0.Coords) : ∀ x0 x1 x2 x3 x4 x5 x6 x7, Safe c R (k0_part253 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part253_eq_skeleton]
  unfold k0_part253_skel
  refine ld H.w18.rd fun _ => ?_
  refine ld H.w14.rd fun _ => ?_
  refine st H.w14 ?_
  refine ld H.w14.rd fun _ => ?_
  exact pr trivial

theorem p254 (i : grid0.Coords) : ∀ x0 x1 x2 x3, Safe c R (k0_part254 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part254_eq_skeleton]
  unfold k0_part254_skel
  refine st H.w14 ?_
  refine ld H.w14.rd fun _ => ?_
  refine st H.w14 ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  exact pr trivial

theorem p255 (i : grid0.Coords) : ∀ x0 x1 x2 x3, Safe c R (k0_part255 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part255_eq_skeleton]
  unfold k0_part255_skel
  refine ld H.w14.rd fun _ => ?_
  refine st H.w14 ?_
  refine ld H.w14.rd fun _ => ?_
  exact pr trivial

theorem p256 (i : grid0.Coords) : ∀ x0 x1 x2 x3, Safe c R (k0_part256 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part256_eq_skeleton]
  unfold k0_part256_skel
  refine ld H.r3 fun _ => ?_
  refine ld H.w11.rd fun _ => ?_
  refine ld H.w11.rd fun _ => ?_
  refine ld H.w11.rd fun _ => ?_
  exact pr trivial

theorem p257 (i : grid0.Coords) : ∀ x0 x1, Safe c R (k0_part257 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part257_eq_skeleton]
  unfold k0_part257_skel
  refine ld H.r4 fun _ => ?_
  refine ld H.r5 fun _ => ?_
  exact pr trivial

theorem p258 (i : grid0.Coords) : ∀ x0 x1 x2 x3 x4 x5 x6 x7 x8 x9, Safe c R (k0_part258 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9) (fun _ => True) := by
  intros
  rw [k0_part258_eq_skeleton]
  unfold k0_part258_skel
  refine ld H.w18.rd fun _ => ?_
  refine st H.w18 ?_
  exact pr trivial

theorem p259 (i : grid0.Coords) : ∀ x0 x1 x2 x3 x4, Safe c R (k0_part259 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part259_eq_skeleton]
  unfold k0_part259_skel
  refine ld H.w13.rd fun _ => ?_
  refine ld H.w13.rd fun _ => ?_
  refine ld H.w13.rd fun _ => ?_
  refine ld H.r8 fun _ => ?_
  exact pr trivial

theorem p260 (i : grid0.Coords) : ∀ x0 x1 x2 x3 x4, Safe c R (k0_part260 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part260_eq_skeleton]
  unfold k0_part260_skel
  refine ld H.w17.rd fun _ => ?_
  refine st H.w17 ?_
  refine ld H.w17.rd fun _ => ?_
  refine st H.w17 ?_
  refine ld H.w17.rd fun _ => ?_
  refine st H.w17 ?_
  refine ld H.w17.rd fun _ => ?_
  refine st H.w17 ?_
  refine ld H.w18.rd fun _ => ?_
  exact pr trivial

theorem p261 (i : grid0.Coords) : ∀ x0 x1 x2 x3 x4, Safe c R (k0_part261 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part261_eq_skeleton]
  unfold k0_part261_skel
  refine ld H.w18.rd fun _ => ?_
  refine ld H.w18.rd fun _ => ?_
  exact pr trivial

end Cert.KernelIdeal.Attn
-- ==== Proof.AttnParts7.lean ====
/- The stretches of the attention kernel's body, each safe: it loads from its windows and scratch, and stores to its output and scratch. -/
module

public import proofs.«01_k».proof.Proof.AttnSafe

@[expose] public section

set_option maxRecDepth 8192
set_option maxHeartbeats 4000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (M F)}
  {arg2 : Memref sig .tc .vmem S16x256x256 .bf16} {harg2 : arg2.IsWhole}
  {arg3 : Memref sig .tc .vmem S1x1x256x64 .bf16} {harg3 : arg3.IsWhole}
  {arg4 : Memref sig .tc .vmem S1x1x64x256 .bf16} {harg4 : arg4.IsWhole}
  {arg5 : Memref sig .tc .vmem S64x256 .bf16} {harg5 : arg5.IsWhole}
  {arg6 : Memref sig .tc .vmem S4096x128 .bf16} {harg6 : arg6.IsWhole}
  {arg7 : Memref sig .tc .vmem S128x4096 .bf16} {harg7 : arg7.IsWhole}
  {arg8 : Memref sig .tc .vmem S16x16x256 .f32} {harg8 : arg8.IsWhole}
  {arg9 : Memref sig .tc .vmem S4096x256 .bf16} {harg9 : arg9.IsWhole}
  {arg10 : Memref sig .tc .vmem S4096x128 .bf16} {harg10 : arg10.IsWhole}
  {arg11 : Memref sig .tc .vmem S4096x128 .bf16} {harg11 : arg11.IsWhole}
  {arg12 : Memref sig .tc .vmem S16x80x256 .bf16} {harg12 : arg12.IsWhole}
  {arg13 : Memref sig .tc .vmem S16x80x256 .bf16} {harg13 : arg13.IsWhole}
  {arg14 : Memref sig .tc .vmem S16x128x1024 .bf16} {harg14 : arg14.IsWhole}
  {arg15 : Memref sig .tc .vmem S16x1x1024 .f32} {harg15 : arg15.IsWhole}
  {arg16 : Memref sig .tc .vmem S16x80x1024 .f32} {harg16 : arg16.IsWhole}
  {arg17 : Memref sig .tc .vmem S16x64x1024 .f32} {harg17 : arg17.IsWhole}
  {arg18 : Memref sig .tc .vmem S64x256 .f32} {harg18 : arg18.IsWhole}
  {arg19 : Memref sig .tc .vmem S256x1024 .f32} {harg19 : arg19.IsWhole}
  (H : Acc c R arg2 arg3 arg4 arg5 arg6 arg7 arg8 arg9 arg10 arg11 arg12 arg13 arg14 arg15 arg16 arg17 arg18 arg19)

include H

theorem p262 (i : grid0.Coords) : ∀ x0 x1 x2 x3 x4 x5 x6, Safe c R (k0_part262 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part262_eq_skeleton]
  unfold k0_part262_skel
  refine ld H.w18.rd fun _ => ?_
  refine ld H.w18.rd fun _ => ?_
  refine ld H.w18.rd fun _ => ?_
  exact pr trivial

theorem p263 (i : grid0.Coords) : ∀ x0 x1 x2 x3 x4, Safe c R (k0_part263 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part263_eq_skeleton]
  unfold k0_part263_skel
  refine ld H.w18.rd fun _ => ?_
  refine ld H.w18.rd fun _ => ?_
  exact pr trivial

theorem p264 (i : grid0.Coords) : ∀ x0 x1 x2 x3 x4 x5 x6, Safe c R (k0_part264 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part264_eq_skeleton]
  unfold k0_part264_skel
  refine ld H.w18.rd fun _ => ?_
  refine ld H.w18.rd fun _ => ?_
  refine ld H.w18.rd fun _ => ?_
  exact pr trivial

theorem p265 (i : grid0.Coords) : ∀ x0 x1 x2 x3 x4, Safe c R (k0_part265 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part265_eq_skeleton]
  unfold k0_part265_skel
  refine ld H.w18.rd fun _ => ?_
  refine ld H.w18.rd fun _ => ?_
  exact pr trivial

theorem p266 (i : grid0.Coords) : ∀ x0 x1 x2 x3 x4 x5 x6, Safe c R (k0_part266 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part266_eq_skeleton]
  unfold k0_part266_skel
  refine ld H.w18.rd fun _ => ?_
  refine ld H.w18.rd fun _ => ?_
  refine ld H.w18.rd fun _ => ?_
  exact pr trivial

theorem p267 (i : grid0.Coords) : ∀ x0 x1 x2 x3 x4, Safe c R (k0_part267 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part267_eq_skeleton]
  unfold k0_part267_skel
  refine ld H.w18.rd fun _ => ?_
  refine ld H.w18.rd fun _ => ?_
  exact pr trivial

theorem p268 (i : grid0.Coords) : ∀ x0 x1 x2 x3 x4 x5 x6, Safe c R (k0_part268 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part268_eq_skeleton]
  unfold k0_part268_skel
  refine ld H.w18.rd fun _ => ?_
  refine ld H.w18.rd fun _ => ?_
  refine ld H.w18.rd fun _ => ?_
  exact pr trivial

theorem p269 (i : grid0.Coords) : ∀ x0 x1 x2 x3 x4, Safe c R (k0_part269 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part269_eq_skeleton]
  unfold k0_part269_skel
  refine ld H.w18.rd fun _ => ?_
  refine ld H.w18.rd fun _ => ?_
  exact pr trivial

theorem p270 (i : grid0.Coords) : ∀ x0 x1 x2 x3 x4 x5 x6, Safe c R (k0_part270 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part270_eq_skeleton]
  unfold k0_part270_skel
  refine ld H.w18.rd fun _ => ?_
  refine ld H.w18.rd fun _ => ?_
  refine ld H.w18.rd fun _ => ?_
  exact pr trivial

theorem p271 (i : grid0.Coords) : ∀ x0 x1 x2 x3 x4, Safe c R (k0_part271 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part271_eq_skeleton]
  unfold k0_part271_skel
  refine ld H.w18.rd fun _ => ?_
  refine ld H.w18.rd fun _ => ?_
  exact pr trivial

theorem p272 (i : grid0.Coords) : ∀ x0 x1 x2 x3 x4 x5 x6, Safe c R (k0_part272 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part272_eq_skeleton]
  unfold k0_part272_skel
  refine ld H.w18.rd fun _ => ?_
  refine ld H.w18.rd fun _ => ?_
  refine ld H.w18.rd fun _ => ?_
  exact pr trivial

theorem p273 (i : grid0.Coords) : ∀ x0 x1 x2 x3 x4 x5 x6, Safe c R (k0_part273 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (fun _ => True) := by
  intros
  rw [k0_part273_eq_skeleton]
  unfold k0_part273_skel
  refine ld H.w18.rd fun _ => ?_
  exact pr trivial

theorem p274 (i : grid0.Coords) : ∀ x0 x1 x2, Safe c R (k0_part274 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part274_eq_skeleton]
  unfold k0_part274_skel
  refine ld H.w14.rd fun _ => ?_
  refine st H.w14 ?_
  refine ld H.w14.rd fun _ => ?_
  refine st H.w14 ?_
  refine ld H.w14.rd fun _ => ?_
  refine st H.w14 ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  refine st H.w14 ?_
  refine ld H.r2 fun _ => ?_
  refine ld H.w14.rd fun _ => ?_
  exact pr trivial

theorem p275 (i : grid0.Coords) : ∀ x0 x1 x2 x3 x4, Safe c R (k0_part275 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part275_eq_skeleton]
  unfold k0_part275_skel
  refine st H.w14 ?_
  refine ld H.r2 fun _ => ?_
  refine ld H.w14.rd fun _ => ?_
  refine st H.w14 ?_
  refine ld H.w14.rd fun _ => ?_
  exact pr trivial

theorem p276 (i : grid0.Coords) : ∀ x0 x1 x2 x3 x4, Safe c R (k0_part276 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part276_eq_skeleton]
  unfold k0_part276_skel
  refine ld H.r3 fun _ => ?_
  refine ld H.w11.rd fun _ => ?_
  refine ld H.w11.rd fun _ => ?_
  refine ld H.w11.rd fun _ => ?_
  exact pr trivial

theorem p277 (i : grid0.Coords) : ∀ x0 x1 x2, Safe c R (k0_part277 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part277_eq_skeleton]
  unfold k0_part277_skel
  refine ld H.r4 fun _ => ?_
  refine ld H.r5 fun _ => ?_
  exact pr trivial

theorem p278 (i : grid0.Coords) : ∀ x0 x1 x2 x3 x4 x5 x6 x7 x8, Safe c R (k0_part278 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (fun _ => True) := by
  intros
  rw [k0_part278_eq_skeleton]
  unfold k0_part278_skel
  refine ld H.w18.rd fun _ => ?_
  refine st H.w18 ?_
  exact pr trivial

theorem p279 (i : grid0.Coords) : ∀ x0 x1 x2 x3 x4 x5, Safe c R (k0_part279 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part279_eq_skeleton]
  unfold k0_part279_skel
  refine ld H.w13.rd fun _ => ?_
  refine ld H.w13.rd fun _ => ?_
  refine ld H.w13.rd fun _ => ?_
  refine ld H.r8 fun _ => ?_
  exact pr trivial

theorem p280 (i : grid0.Coords) : ∀ x0 x1 x2 x3, Safe c R (k0_part280 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part280_eq_skeleton]
  unfold k0_part280_skel
  refine ld H.w17.rd fun _ => ?_
  refine st H.w17 ?_
  refine ld H.w17.rd fun _ => ?_
  refine st H.w17 ?_
  refine ld H.w17.rd fun _ => ?_
  refine st H.w17 ?_
  exact pr trivial

theorem p281 (i : grid0.Coords) : ∀ x0 x1 x2, Safe c R (k0_part281 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part281_eq_skeleton]
  unfold k0_part281_skel
  refine ld H.w17.rd fun _ => ?_
  refine st H.w17 ?_
  refine ld H.w18.rd fun _ => ?_
  refine ld H.w18.rd fun _ => ?_
  refine ld H.w18.rd fun _ => ?_
  exact pr trivial

theorem p282 (i : grid0.Coords) : ∀ x0 x1 x2 x3 x4, Safe c R (k0_part282 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part282_eq_skeleton]
  unfold k0_part282_skel
  refine ld H.w18.rd fun _ => ?_
  refine ld H.w18.rd fun _ => ?_
  exact pr trivial

theorem p283 (i : grid0.Coords) : ∀ x0 x1 x2 x3 x4 x5 x6 x7, Safe c R (k0_part283 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part283_eq_skeleton]
  unfold k0_part283_skel
  refine ld H.w18.rd fun _ => ?_
  refine ld H.w18.rd fun _ => ?_
  refine ld H.w18.rd fun _ => ?_
  exact pr trivial

theorem p284 (i : grid0.Coords) : ∀ x0 x1 x2 x3 x4, Safe c R (k0_part284 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part284_eq_skeleton]
  unfold k0_part284_skel
  refine ld H.w18.rd fun _ => ?_
  refine ld H.w18.rd fun _ => ?_
  exact pr trivial

theorem p285 (i : grid0.Coords) : ∀ x0 x1 x2 x3 x4 x5 x6 x7, Safe c R (k0_part285 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part285_eq_skeleton]
  unfold k0_part285_skel
  refine ld H.w18.rd fun _ => ?_
  refine ld H.w18.rd fun _ => ?_
  refine ld H.w18.rd fun _ => ?_
  exact pr trivial

theorem p286 (i : grid0.Coords) : ∀ x0 x1 x2 x3 x4, Safe c R (k0_part286 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part286_eq_skeleton]
  unfold k0_part286_skel
  refine ld H.w18.rd fun _ => ?_
  refine ld H.w18.rd fun _ => ?_
  exact pr trivial

theorem p287 (i : grid0.Coords) : ∀ x0 x1 x2 x3 x4 x5 x6 x7, Safe c R (k0_part287 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part287_eq_skeleton]
  unfold k0_part287_skel
  refine ld H.w18.rd fun _ => ?_
  refine ld H.w18.rd fun _ => ?_
  refine ld H.w18.rd fun _ => ?_
  exact pr trivial

theorem p288 (i : grid0.Coords) : ∀ x0 x1 x2 x3 x4, Safe c R (k0_part288 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part288_eq_skeleton]
  unfold k0_part288_skel
  refine ld H.w18.rd fun _ => ?_
  refine ld H.w18.rd fun _ => ?_
  exact pr trivial

theorem p289 (i : grid0.Coords) : ∀ x0 x1 x2 x3 x4 x5 x6 x7, Safe c R (k0_part289 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part289_eq_skeleton]
  unfold k0_part289_skel
  refine ld H.w18.rd fun _ => ?_
  refine ld H.w18.rd fun _ => ?_
  refine ld H.w18.rd fun _ => ?_
  exact pr trivial

theorem p290 (i : grid0.Coords) : ∀ x0 x1 x2 x3 x4, Safe c R (k0_part290 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part290_eq_skeleton]
  unfold k0_part290_skel
  refine ld H.w18.rd fun _ => ?_
  refine ld H.w18.rd fun _ => ?_
  exact pr trivial

theorem p291 (i : grid0.Coords) : ∀ x0 x1 x2 x3 x4 x5 x6 x7, Safe c R (k0_part291 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7) (fun _ => True) := by
  intros
  rw [k0_part291_eq_skeleton]
  unfold k0_part291_skel
  refine ld H.w18.rd fun _ => ?_
  refine ld H.w18.rd fun _ => ?_
  refine ld H.w18.rd fun _ => ?_
  exact pr trivial

theorem p292 (i : grid0.Coords) : ∀ x0 x1 x2 x3 x4, Safe c R (k0_part292 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part292_eq_skeleton]
  unfold k0_part292_skel
  refine ld H.w18.rd fun _ => ?_
  refine ld H.w18.rd fun _ => ?_
  exact pr trivial

theorem p293 (i : grid0.Coords) : ∀ x0 x1 x2 x3 x4 x5 x6 x7 x8, Safe c R (k0_part293 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (fun _ => True) := by
  intros
  rw [k0_part293_eq_skeleton]
  unfold k0_part293_skel
  refine ld H.w18.rd fun _ => ?_
  refine ld H.w18.rd fun _ => ?_
  exact pr trivial

theorem p295 (i : grid0.Coords) : ∀ x0 x1, Safe c R (k0_part295 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1) (fun _ => True) := by
  intros
  rw [k0_part295_eq_skeleton]
  unfold k0_part295_skel
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  refine ld H.w10.rd fun _ => ?_
  refine ld H.w14.rd fun _ => ?_
  exact pr trivial

theorem p296 (i : grid0.Coords) : ∀ x0 x1 x2 x3, Safe c R (k0_part296 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part296_eq_skeleton]
  unfold k0_part296_skel
  refine ld H.w12.rd fun _ => ?_
  refine ld H.w16.rd fun _ => ?_
  refine st H.w16 ?_
  refine ld H.w15.rd fun _ => ?_
  refine st H.w15 ?_
  refine ld H.w10.rd fun _ => ?_
  refine ld H.w14.rd fun _ => ?_
  refine ld H.w12.rd fun _ => ?_
  refine ld H.w16.rd fun _ => ?_
  exact pr trivial

theorem p297 (i : grid0.Coords) : ∀ x0 x1 x2 x3, Safe c R (k0_part297 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3) (fun _ => True) := by
  intros
  rw [k0_part297_eq_skeleton]
  unfold k0_part297_skel
  refine st H.w16 ?_
  refine ld H.w15.rd fun _ => ?_
  refine st H.w15 ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  refine ld H.w10.rd fun _ => ?_
  exact pr trivial

theorem p298 (i : grid0.Coords) : ∀ x0 x1 x2, Safe c R (k0_part298 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part298_eq_skeleton]
  unfold k0_part298_skel
  refine ld H.w14.rd fun _ => ?_
  refine ld H.w12.rd fun _ => ?_
  refine ld H.w16.rd fun _ => ?_
  refine st H.w16 ?_
  refine ld H.w15.rd fun _ => ?_
  refine st H.w15 ?_
  refine ld H.w10.rd fun _ => ?_
  refine ld H.w14.rd fun _ => ?_
  refine ld H.w12.rd fun _ => ?_
  exact pr trivial

theorem p299 (i : grid0.Coords) : ∀ x0 x1 x2 x3 x4, Safe c R (k0_part299 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part299_eq_skeleton]
  unfold k0_part299_skel
  refine ld H.w16.rd fun _ => ?_
  refine st H.w16 ?_
  refine ld H.w15.rd fun _ => ?_
  refine st H.w15 ?_
  refine ld H.w10.rd fun _ => ?_
  refine ld H.w14.rd fun _ => ?_
  refine ld H.w12.rd fun _ => ?_
  refine ld H.w16.rd fun _ => ?_
  refine st H.w16 ?_
  refine ld H.w15.rd fun _ => ?_
  exact pr trivial

theorem p300 (i : grid0.Coords) : ∀ x0 x1 x2, Safe c R (k0_part300 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part300_eq_skeleton]
  unfold k0_part300_skel
  refine st H.w15 ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  refine ld H.w10.rd fun _ => ?_
  refine ld H.w14.rd fun _ => ?_
  exact pr trivial

theorem p301 (i : grid0.Coords) : ∀ x0 x1 x2, Safe c R (k0_part301 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part301_eq_skeleton]
  unfold k0_part301_skel
  refine ld H.w12.rd fun _ => ?_
  refine ld H.w16.rd fun _ => ?_
  refine st H.w16 ?_
  refine ld H.w15.rd fun _ => ?_
  refine st H.w15 ?_
  refine ld H.w10.rd fun _ => ?_
  refine ld H.w14.rd fun _ => ?_
  refine ld H.w12.rd fun _ => ?_
  refine ld H.w16.rd fun _ => ?_
  exact pr trivial

theorem p302 (i : grid0.Coords) : ∀ x0 x1 x2 x3 x4, Safe c R (k0_part302 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part302_eq_skeleton]
  unfold k0_part302_skel
  refine st H.w16 ?_
  refine ld H.w15.rd fun _ => ?_
  refine st H.w15 ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  refine ld H.w10.rd fun _ => ?_
  exact pr trivial

theorem p303 (i : grid0.Coords) : ∀ x0 x1 x2, Safe c R (k0_part303 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part303_eq_skeleton]
  unfold k0_part303_skel
  refine ld H.w14.rd fun _ => ?_
  refine ld H.w12.rd fun _ => ?_
  refine ld H.w16.rd fun _ => ?_
  refine st H.w16 ?_
  refine ld H.w15.rd fun _ => ?_
  refine st H.w15 ?_
  refine ld H.w10.rd fun _ => ?_
  refine ld H.w14.rd fun _ => ?_
  refine ld H.w12.rd fun _ => ?_
  exact pr trivial

theorem p304 (i : grid0.Coords) : ∀ x0 x1 x2 x3 x4 x5, Safe c R (k0_part304 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part304_eq_skeleton]
  unfold k0_part304_skel
  refine ld H.w16.rd fun _ => ?_
  refine st H.w16 ?_
  refine ld H.w15.rd fun _ => ?_
  refine st H.w15 ?_
  refine ld H.w10.rd fun _ => ?_
  refine ld H.w14.rd fun _ => ?_
  refine ld H.w12.rd fun _ => ?_
  refine ld H.w16.rd fun _ => ?_
  refine st H.w16 ?_
  refine ld H.w15.rd fun _ => ?_
  exact pr trivial

theorem p305 (i : grid0.Coords) : ∀ x0 x1 x2, Safe c R (k0_part305 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2) (fun _ => True) := by
  intros
  rw [k0_part305_eq_skeleton]
  unfold k0_part305_skel
  refine st H.w15 ?_
  refine ld H.w10.rd fun _ => ?_
  refine ld H.w14.rd fun _ => ?_
  refine ld H.w12.rd fun _ => ?_
  refine ld H.w16.rd fun _ => ?_
  refine st H.w16 ?_
  refine ld H.w15.rd fun _ => ?_
  refine st H.w15 ?_
  refine ld H.w12.rd fun _ => ?_
  exact pr trivial

end Cert.KernelIdeal.Attn
-- ==== Proof.AttnTrip.lean ====
/- One trip of the kernel's loop over pairs of query blocks: it is safe, and moves the pair thirty steps on.  The loop from it. -/
module

public import proofs.«01_k».proof.Proof.AttnParts1
public import proofs.«01_k».proof.Proof.AttnParts2
public import proofs.«01_k».proof.Proof.AttnParts3
public import proofs.«01_k».proof.Proof.AttnParts4
public import proofs.«01_k».proof.Proof.AttnParts5
public import proofs.«01_k».proof.Proof.AttnParts6
public import proofs.«01_k».proof.Proof.AttnParts7

@[expose] public section

set_option maxRecDepth 8192
set_option maxHeartbeats 4000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (M F)}
  {arg2 : Memref sig .tc .vmem S16x256x256 .bf16} {harg2 : arg2.IsWhole}
  {arg3 : Memref sig .tc .vmem S1x1x256x64 .bf16} {harg3 : arg3.IsWhole}
  {arg4 : Memref sig .tc .vmem S1x1x64x256 .bf16} {harg4 : arg4.IsWhole}
  {arg5 : Memref sig .tc .vmem S64x256 .bf16} {harg5 : arg5.IsWhole}
  {arg6 : Memref sig .tc .vmem S4096x128 .bf16} {harg6 : arg6.IsWhole}
  {arg7 : Memref sig .tc .vmem S128x4096 .bf16} {harg7 : arg7.IsWhole}
  {arg8 : Memref sig .tc .vmem S16x16x256 .f32} {harg8 : arg8.IsWhole}
  {arg9 : Memref sig .tc .vmem S4096x256 .bf16} {harg9 : arg9.IsWhole}
  {arg10 : Memref sig .tc .vmem S4096x128 .bf16} {harg10 : arg10.IsWhole}
  {arg11 : Memref sig .tc .vmem S4096x128 .bf16} {harg11 : arg11.IsWhole}
  {arg12 : Memref sig .tc .vmem S16x80x256 .bf16} {harg12 : arg12.IsWhole}
  {arg13 : Memref sig .tc .vmem S16x80x256 .bf16} {harg13 : arg13.IsWhole}
  {arg14 : Memref sig .tc .vmem S16x128x1024 .bf16} {harg14 : arg14.IsWhole}
  {arg15 : Memref sig .tc .vmem S16x1x1024 .f32} {harg15 : arg15.IsWhole}
  {arg16 : Memref sig .tc .vmem S16x80x1024 .f32} {harg16 : arg16.IsWhole}
  {arg17 : Memref sig .tc .vmem S16x64x1024 .f32} {harg17 : arg17.IsWhole}
  {arg18 : Memref sig .tc .vmem S64x256 .f32} {harg18 : arg18.IsWhole}
  {arg19 : Memref sig .tc .vmem S256x1024 .f32} {harg19 : arg19.IsWhole}
  (H : Acc c R arg2 arg3 arg4 arg5 arg6 arg7 arg8 arg9 arg10 arg11 arg12 arg13 arg14 arg15 arg16 arg17 arg18 arg19)

include H

theorem p148 (i : grid0.Coords) (a b : BitVec 32) (h1 : k0_chk1 a b) (h2 : k0_chk2 a) : ∀ x0 x1 x2, Safe c R (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 a b) (fun | ⟨_, y1, y2, _, _, y5, y6, _, _, _, _, _, _, _, _, _, _, _⟩ => y1 = (S a b 20).1 ∧ y2 = (S a b 20).2 ∧ y5 = (S a b 21).1 ∧ y6 = (S a b 21).2) := by
  intros
  rw [k0_part148_eq_skeleton]
  unfold k0_part148_skel
  refine bd (p61 H i a b h1 h2 _ _ _) fun x hx => ?_
  obtain ⟨u0, u1, u2, u3, u4, u5, u6, u7, u8, u9, u10, u11, u12, u13⟩ := x
  dsimp only at hx
  obtain ⟨e5, e6⟩ := hx
  subst e5
  subst e6
  refine bd (p62 H i a b _ _ _ _ _ _ _ _ _) fun x _ => ?_
  obtain ⟨_, _, _, _, _, _⟩ := x
  refine bd (p63 H i a b _ _ _ _ _ _ _ _ _ _ _) fun x _ => ?_
  obtain ⟨_, _, _, _⟩ := x
  refine bd (p64 H i a b _ _ _ _ _ _ _) fun x hx => ?_
  obtain ⟨u0, u1, u2, u3, u4, u5, u6, u7, u8, u9, u10⟩ := x
  dsimp only at hx
  obtain ⟨e0, e1⟩ := hx
  subst e0
  subst e1
  refine bd (p65 H i a b _ _ _ _ _ _ _ _ _ _) fun x _ => ?_
  obtain ⟨_, _, _, _, _, _, _⟩ := x
  refine bd (p66 H i a b _ _ _ _ _ _ _ _ _ _ _ _) fun x _ => ?_
  obtain ⟨_, _⟩ := x
  refine bd (p67 H i a b _ _ _) fun x hx => ?_
  obtain ⟨u0, u1, u2, u3, u4, u5, u6, u7, u8, u9⟩ := x
  dsimp only at hx
  obtain ⟨e0, e1⟩ := hx
  subst e0
  subst e1
  refine bd (p68 H i a b _ _ _ _ _ _ _ _ _) fun x _ => ?_
  obtain ⟨_, _, _, _, _, _, _, _⟩ := x
  refine bd (p69 H i a b _ _ _ _ _ _ _ _ _ _ _ _ _) fun x _ => ?_
  refine bd (p70 H i a b _ _) fun x hx => ?_
  obtain ⟨u0, u1, u2, u3, u4, u5, u6, u7, u8⟩ := x
  dsimp only at hx
  obtain ⟨e0, e1⟩ := hx
  subst e0
  subst e1
  refine bd (p71 H i a b _ _ _ _ _ _ _) fun x _ => ?_
  obtain ⟨_, _, _, _, _, _, _⟩ := x
  refine bd (p72 H i a b _ _ _ _ _ _ _ _ _ _ _ _ _) fun x hx => ?_
  obtain ⟨u0, u1, u2⟩ := x
  dsimp only at hx
  obtain ⟨e1, e2⟩ := hx
  subst e1
  subst e2
  refine bd (p73 H i a b _ _) fun x hx => ?_
  obtain ⟨u0, u1, u2, u3, u4, u5, u6, u7, u8, u9⟩ := x
  dsimp only at hx
  obtain ⟨e0, e1⟩ := hx
  subst e0
  subst e1
  refine bd (p74 H i a b _ _ _ _ _ _ _ _) fun x _ => ?_
  obtain ⟨_, _, _, _, _, _, _⟩ := x
  refine bd (p75 H i a b _ _ _ _ _ _ _ _ _ _ _ _ _) fun x hx => ?_
  obtain ⟨u0, u1, u2⟩ := x
  dsimp only at hx
  obtain ⟨e1, e2⟩ := hx
  subst e1
  subst e2
  refine bd (p76 H i a b _ _) fun x _ => ?_
  obtain ⟨_, _, _, _, _, _, _, _⟩ := x
  refine bd (p77 H i a b _ _ _ _ _ _ _) fun x _ => ?_
  obtain ⟨_, _, _, _, _, _⟩ := x
  refine bd (p78 H i a b _ _ _ _ _ _ _ _ _ _ _) fun x hx => ?_
  obtain ⟨u0, u1, u2, u3, u4⟩ := x
  dsimp only at hx
  obtain ⟨e1, e2⟩ := hx
  subst e1
  subst e2
  refine bd (p79 H i a b _ _ _ _ _) fun x _ => ?_
  obtain ⟨_, _, _, _, _, _, _, _⟩ := x
  refine bd (p80 H i a b _ _ _ _ _ _ _ _) fun x _ => ?_
  obtain ⟨_, _, _, _, _, _, _⟩ := x
  refine bd (p81 H i a b _ _ _ _ _ _ _ _ _ _ _ _ _) fun x hx => ?_
  obtain ⟨u0, u1, u2, u3, u4, u5⟩ := x
  dsimp only at hx
  obtain ⟨e1, e2⟩ := hx
  subst e1
  subst e2
  refine bd (p82 H i a b _ _ _ _ _ _) fun x _ => ?_
  obtain ⟨_, _, _, _, _, _, _, _, _⟩ := x
  refine bd (p83 H i a b _ _ _ _ _ _ _ _ _ _) fun x _ => ?_
  obtain ⟨_, _, _, _, _, _, _⟩ := x
  refine bd (p84 H i a b _ _ _ _ _ _ _ _ _ _ _ _) fun x hx => ?_
  obtain ⟨u0, u1, u2, u3, u4, u5, u6⟩ := x
  dsimp only at hx
  obtain ⟨e0, e1⟩ := hx
  subst e0
  subst e1
  refine bd (p85 H i a b _ _ _ _ _ _ _ _) fun x _ => ?_
  obtain ⟨_, _, _, _, _, _, _, _⟩ := x
  refine bd (p86 H i a b _ _ _ _ _ _ _ _ _) fun x _ => ?_
  obtain ⟨_, _, _, _, _, _, _⟩ := x
  refine bd (p87 H i a b _ _ _ _ _ _ _ _ _ _ _) fun x hx => ?_
  obtain ⟨u0, u1, u2, u3, u4, u5, u6⟩ := x
  dsimp only at hx
  obtain ⟨e0, e1⟩ := hx
  subst e0
  subst e1
  refine bd (p88 H i a b _ _ _ _ _ _ _ _) fun x _ => ?_
  obtain ⟨_, _, _, _, _, _, _, _⟩ := x
  refine bd (p89 H i a b _ _ _ _ _ _ _ _ _ _) fun x _ => ?_
  obtain ⟨_, _, _, _, _, _, _, _, _⟩ := x
  refine bd (p90 H i a b _ _ _ _ _ _ _ _ _ _ _) fun x hx => ?_
  obtain ⟨u0, u1, u2, u3, u4, u5, u6, u7⟩ := x
  dsimp only at hx
  obtain ⟨e0, e1⟩ := hx
  subst e0
  subst e1
  refine bd (p91 H i a b _ _ _ _ _ _ _ _ _) fun x _ => ?_
  obtain ⟨_, _, _, _, _, _⟩ := x
  refine bd (p92 H i a b _ _ _ _ _ _ _) fun x _ => ?_
  obtain ⟨_, _, _, _, _, _, _, _⟩ := x
  refine bd (p93 H i a b _ _ _ _ _ _ _ _ _ _ _ _) fun x hx => ?_
  obtain ⟨u0, u1, u2, u3, u4, u5, u6, u7, u8⟩ := x
  dsimp only at hx
  obtain ⟨e0, e1⟩ := hx
  subst e0
  subst e1
  refine bd (p94 H i a b _ _ _ _ _ _ _ _ _) fun x _ => ?_
  obtain ⟨_, _, _, _, _, _, _⟩ := x
  refine bd (p95 H i a b _ _ _ _ _ _ _ _ _ _ _) fun x _ => ?_
  obtain ⟨_, _, _, _, _⟩ := x
  refine bd (p96 H i a b _ _ _ _ _ _ _) fun x hx => ?_
  obtain ⟨u0, u1, u2, u3, u4, u5, u6, u7, u8⟩ := x
  dsimp only at hx
  obtain ⟨e0, e1⟩ := hx
  subst e0
  subst e1
  refine bd (p97 H i a b _ _ _ _ _ _ _ _) fun x _ => ?_
  obtain ⟨_, _, _, _, _, _⟩ := x
  refine bd (p98 H i a b _ _ _ _ _ _ _ _ _ _) fun x _ => ?_
  obtain ⟨_, _, _, _⟩ := x
  refine bd (p99 H i a b _ _ _ _ _ _ _) fun x hx => ?_
  obtain ⟨u0, u1, u2, u3, u4, u5, u6, u7, u8, u9, u10⟩ := x
  dsimp only at hx
  obtain ⟨e0, e1⟩ := hx
  subst e0
  subst e1
  refine bd (p100 H i a b _ _ _ _ _ _ _ _ _ _) fun x _ => ?_
  obtain ⟨_, _, _, _, _, _, _⟩ := x
  refine bd (p101 H i a b _ _ _ _ _ _ _ _ _ _ _ _) fun x _ => ?_
  obtain ⟨_, _⟩ := x
  refine bd (p102 H i a b _ _ _) fun x hx => ?_
  obtain ⟨u0, u1, u2, u3, u4, u5, u6, u7, u8, u9⟩ := x
  dsimp only at hx
  obtain ⟨e0, e1⟩ := hx
  subst e0
  subst e1
  refine bd (p103 H i a b _ _ _ _ _ _ _ _ _) fun x _ => ?_
  obtain ⟨_, _, _, _, _, _, _, _⟩ := x
  refine bd (p104 H i a b _ _ _ _ _ _ _ _ _ _ _ _ _) fun x _ => ?_
  refine bd (p105 H i a b _ _) fun x hx => ?_
  obtain ⟨u0, u1, u2, u3, u4, u5, u6, u7, u8⟩ := x
  dsimp only at hx
  obtain ⟨e0, e1⟩ := hx
  subst e0
  subst e1
  refine bd (p106 H i a b _ _ _ _ _ _ _) fun x _ => ?_
  obtain ⟨_, _, _, _, _, _, _⟩ := x
  refine bd (p107 H i a b _ _ _ _ _ _ _ _ _ _ _ _ _) fun x hx => ?_
  obtain ⟨u0, u1, u2⟩ := x
  dsimp only at hx
  obtain ⟨e1, e2⟩ := hx
  subst e1
  subst e2
  refine bd (p108 H i a b _ _) fun x hx => ?_
  obtain ⟨u0, u1, u2, u3, u4, u5, u6, u7, u8, u9⟩ := x
  dsimp only at hx
  obtain ⟨e0, e1⟩ := hx
  subst e0
  subst e1
  refine bd (p109 H i a b _ _ _ _ _ _ _ _) fun x _ => ?_
  obtain ⟨_, _, _, _, _, _, _⟩ := x
  refine bd (p110 H i a b _ _ _ _ _ _ _ _ _ _ _ _ _) fun x hx => ?_
  obtain ⟨u0, u1, u2⟩ := x
  dsimp only at hx
  obtain ⟨e1, e2⟩ := hx
  subst e1
  subst e2
  refine bd (p111 H i a b _ _) fun x _ => ?_
  obtain ⟨_, _, _, _, _, _, _, _⟩ := x
  refine bd (p112 H i a b _ _ _ _ _ _ _) fun x _ => ?_
  obtain ⟨_, _, _, _, _, _⟩ := x
  refine bd (p113 H i a b _ _ _ _ _ _ _ _ _ _ _) fun x hx => ?_
  obtain ⟨u0, u1, u2, u3, u4⟩ := x
  dsimp only at hx
  obtain ⟨e1, e2⟩ := hx
  subst e1
  subst e2
  refine bd (p114 H i a b _ _ _ _ _) fun x _ => ?_
  obtain ⟨_, _, _, _, _, _, _, _⟩ := x
  refine bd (p115 H i a b _ _ _ _ _ _ _ _) fun x _ => ?_
  obtain ⟨_, _, _, _, _, _, _⟩ := x
  refine bd (p116 H i a b _ _ _ _ _ _ _ _ _ _ _ _ _) fun x hx => ?_
  obtain ⟨u0, u1, u2, u3, u4, u5⟩ := x
  dsimp only at hx
  obtain ⟨e1, e2⟩ := hx
  subst e1
  subst e2
  refine bd (p117 H i a b _ _ _ _ _ _) fun x _ => ?_
  obtain ⟨_, _, _, _, _, _, _, _, _⟩ := x
  refine bd (p118 H i a b _ _ _ _ _ _ _ _ _ _) fun x _ => ?_
  obtain ⟨_, _, _, _, _, _, _⟩ := x
  refine bd (p119 H i a b _ _ _ _ _ _ _ _ _ _ _ _) fun x hx => ?_
  obtain ⟨u0, u1, u2, u3, u4, u5, u6⟩ := x
  dsimp only at hx
  obtain ⟨e0, e1⟩ := hx
  subst e0
  subst e1
  refine bd (p120 H i a b _ _ _ _ _ _ _ _) fun x _ => ?_
  obtain ⟨_, _, _, _, _, _, _, _⟩ := x
  exact pr ⟨rfl, rfl, rfl, rfl⟩

theorem p149 (i : grid0.Coords) (a b : BitVec 32) : ∀ x0 x1 x2 x3 x4 x5 x6 x7 x8 x9 x10 x11 x12 x13, Safe c R (k0_part149 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a b x0 (S a b 20).1 (S a b 20).2 x1 x2 (S a b 21).1 (S a b 21).2 x3 x4 x5 x6 x7 x8 x9 x10 x11 x12 x13) (fun | ⟨y0, y1, y2, _, _, _, _, _, _, _, _, _⟩ => y0 = (S a b 29).2 ∧ y1 = (S a b 30).1 ∧ y2 = (S a b 30).2) := by
  intros
  rw [k0_part149_eq_skeleton]
  unfold k0_part149_skel
  refine bd (p121 H i a b _ _ _ _ _ _ _ _ _) fun x _ => ?_
  obtain ⟨_, _, _, _, _, _, _⟩ := x
  refine bd (p122 H i a b _ _ _ _ _ _ _ _ _ _ _) fun x hx => ?_
  obtain ⟨u0, u1, u2, u3, u4, u5, u6⟩ := x
  dsimp only at hx
  obtain ⟨e0, e1⟩ := hx
  subst e0
  subst e1
  refine bd (p123 H i a b _ _ _ _ _ _ _ _) fun x _ => ?_
  obtain ⟨_, _, _, _, _, _, _, _⟩ := x
  refine bd (p124 H i a b _ _ _ _ _ _ _ _ _ _) fun x _ => ?_
  obtain ⟨_, _, _, _, _, _, _, _, _⟩ := x
  refine bd (p125 H i a b _ _ _ _ _ _ _ _ _ _ _) fun x hx => ?_
  obtain ⟨u0, u1, u2, u3, u4, u5, u6, u7⟩ := x
  dsimp only at hx
  obtain ⟨e0, e1⟩ := hx
  subst e0
  subst e1
  refine bd (p126 H i a b _ _ _ _ _ _ _ _ _) fun x _ => ?_
  obtain ⟨_, _, _, _, _, _⟩ := x
  refine bd (p127 H i a b _ _ _ _ _ _ _) fun x _ => ?_
  obtain ⟨_, _, _, _, _, _, _, _⟩ := x
  refine bd (p128 H i a b _ _ _ _ _ _ _ _ _ _ _ _) fun x hx => ?_
  obtain ⟨u0, u1, u2, u3, u4, u5, u6, u7, u8⟩ := x
  dsimp only at hx
  obtain ⟨e0, e1⟩ := hx
  subst e0
  subst e1
  refine bd (p129 H i a b _ _ _ _ _ _ _ _ _) fun x _ => ?_
  obtain ⟨_, _, _, _, _, _, _⟩ := x
  refine bd (p130 H i a b _ _ _ _ _ _ _ _ _ _ _) fun x _ => ?_
  obtain ⟨_, _, _, _, _⟩ := x
  refine bd (p131 H i a b _ _ _ _ _ _ _) fun x hx => ?_
  obtain ⟨u0, u1, u2, u3, u4, u5, u6, u7, u8⟩ := x
  dsimp only at hx
  obtain ⟨e0, e1⟩ := hx
  subst e0
  subst e1
  refine bd (p132 H i a b _ _ _ _ _ _ _ _) fun x _ => ?_
  obtain ⟨_, _, _, _, _, _⟩ := x
  refine bd (p133 H i a b _ _ _ _ _ _ _ _ _ _) fun x _ => ?_
  obtain ⟨_, _, _, _⟩ := x
  refine bd (p134 H i a b _ _ _ _ _ _ _) fun x hx => ?_
  obtain ⟨u0, u1, u2, u3, u4, u5, u6, u7, u8, u9, u10⟩ := x
  dsimp only at hx
  obtain ⟨e0, e1⟩ := hx
  subst e0
  subst e1
  refine bd (p135 H i a b _ _ _ _ _ _ _ _ _ _) fun x _ => ?_
  obtain ⟨_, _, _, _, _, _, _⟩ := x
  refine bd (p136 H i a b _ _ _ _ _ _ _ _ _ _ _ _) fun x _ => ?_
  obtain ⟨_, _⟩ := x
  refine bd (p137 H i a b _ _ _) fun x hx => ?_
  obtain ⟨u0, u1, u2, u3, u4, u5, u6, u7, u8, u9⟩ := x
  dsimp only at hx
  obtain ⟨e0, e1⟩ := hx
  subst e0
  subst e1
  refine bd (p138 H i a b _ _ _ _ _ _ _ _ _) fun x _ => ?_
  obtain ⟨_, _, _, _, _, _, _, _⟩ := x
  refine bd (p139 H i a b _ _ _ _ _ _ _ _ _ _ _ _ _) fun x _ => ?_
  refine bd (p140 H i a b _ _) fun x hx => ?_
  obtain ⟨u0, u1, u2, u3, u4, u5, u6, u7, u8⟩ := x
  dsimp only at hx
  obtain ⟨e0, e1⟩ := hx
  subst e0
  subst e1
  refine bd (p141 H i a b _ _ _ _ _ _ _) fun x _ => ?_
  obtain ⟨_, _, _, _, _, _, _⟩ := x
  refine bd (p142 H i a b _ _ _ _ _ _ _ _ _ _ _ _ _) fun x hx => ?_
  obtain ⟨u0, u1, u2⟩ := x
  dsimp only at hx
  obtain ⟨e1, e2⟩ := hx
  subst e1
  subst e2
  refine bd (p143 H i a b _ _) fun x hx => ?_
  obtain ⟨u0, u1, u2, u3, u4, u5, u6, u7, u8, u9⟩ := x
  dsimp only at hx
  obtain ⟨e0, e1⟩ := hx
  subst e0
  subst e1
  refine bd (p144 H i a b _ _ _ _ _ _ _ _) fun x _ => ?_
  obtain ⟨_, _, _, _, _, _, _⟩ := x
  refine bd (p145 H i a b _ _ _ _ _ _ _ _ _ _ _ _ _) fun x hx => ?_
  obtain ⟨u0, u1, u2⟩ := x
  dsimp only at hx
  obtain ⟨e1, e2⟩ := hx
  subst e1
  subst e2
  refine bd (p146 H i a b _ _) fun x _ => ?_
  obtain ⟨_, _, _, _, _, _, _, _⟩ := x
  refine bd (p147 H i a b _ _ _ _ _ _ _) fun x _ => ?_
  obtain ⟨_, _, _, _, _, _⟩ := x
  refine ld H.w14.rd fun _ => ?_
  refine ld H.w12.rd fun _ => ?_
  exact pr ⟨rfl, rfl, rfl⟩

theorem t3 (i : grid0.Coords) (a b : BitVec 32) (h1 : k0_chk1 a b) (h2 : k0_chk2 a) : ∀ k, Safe c R (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  k (a, b)) (fun x => x = S a b 30) := by
  intros
  unfold k0_t3_body
  refine bd (p148 H i a b h1 h2 _ _ _) fun x hx => ?_
  obtain ⟨u0, u1, u2, u3, u4, u5, u6, u7, u8, u9, u10, u11, u12, u13, u14, u15, u16, u17⟩ := x
  dsimp only at hx
  obtain ⟨e1, e2, e5, e6⟩ := hx
  subst e1
  subst e2
  subst e5
  subst e6
  refine bd (p149 H i a b _ _ _ _ _ _ _ _ _ _ _ _ _ _) fun x hx => ?_
  obtain ⟨u0, u1, u2, u3, u4, u5, u6, u7, u8, u9, u10, u11⟩ := x
  dsimp only at hx
  obtain ⟨e0, e1, e2⟩ := hx
  subst e0
  subst e1
  subst e2
  refine ld H.w16.rd fun _ => ?_
  refine st H.w16 ?_
  refine ld H.w15.rd fun _ => ?_
  refine st H.w15 ?_
  refine ld H.w19.rd fun _ => ?_
  refine st H.w19 ?_
  exact pr rfl

omit H [FloatOps F] in
theorem trip_ok4 : ∀ k : Fin 4, k0_chk1 (S 0#32 1#32 (30 * k.val)).1 (S 0#32 1#32 (30 * k.val)).2
    ∧ k0_chk2 (S 0#32 1#32 (30 * k.val)).1 := by
  intro k
  exact ⟨(by decide +kernel : ∀ k : Fin 4, k0_chk1 (S 0#32 1#32 (30 * k.val)).1 (S 0#32 1#32 (30 * k.val)).2) k,
    (by decide +kernel : ∀ k : Fin 4, k0_chk2 (S 0#32 1#32 (30 * k.val)).1) k⟩

omit H [FloatOps F] in
/-- The side conditions of the computed indices hold at each trip's pair. -/
theorem trip_ok : ∀ k : Fin (Scf.trips k0_t3_loop.lb k0_t3_loop.ub k0_t3_loop.st), k0_chk1 (S 0#32 1#32 (30 * k.val)).1 (S 0#32 1#32 (30 * k.val)).2
    ∧ k0_chk2 (S 0#32 1#32 (30 * k.val)).1 :=
  fun k => trip_ok4 ⟨k.val, k.isLt⟩

theorem loop3 (i : grid0.Coords) : Safe c R (Scf.Loop.for k0_t3_loop k0_t3_ok (0#32, 1#32) (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)) (fun _ => True) := by
  refine weak (loop (fun k acc => acc = S 0#32 1#32 (30 * k)) (S_zero _ _).symm fun k acc hk => ?_) fun _ _ => trivial
  obtain ⟨a, b⟩ := acc
  have hc := trip_ok k
  rw [← hk] at hc
  refine weak (t3 H i a b hc.1 hc.2 k) fun x hx => ?_
  have ha : a = (S 0#32 1#32 (30 * k.val)).1 := congrArg Prod.fst hk
  have hb : b = (S 0#32 1#32 (30 * k.val)).2 := congrArg Prod.snd hk
  rw [hx, ha, hb, S_add, Nat.mul_succ]

end Cert.KernelIdeal.Attn
-- ==== Proof.AttnBody.lean ====
/- The attention kernel's whole body is safe. -/
module

public import proofs.«01_k».proof.Proof.AttnTrip

@[expose] public section

set_option maxRecDepth 8192
set_option maxHeartbeats 4000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (M F)}
  {arg2 : Memref sig .tc .vmem S16x256x256 .bf16} {harg2 : arg2.IsWhole}
  {arg3 : Memref sig .tc .vmem S1x1x256x64 .bf16} {harg3 : arg3.IsWhole}
  {arg4 : Memref sig .tc .vmem S1x1x64x256 .bf16} {harg4 : arg4.IsWhole}
  {arg5 : Memref sig .tc .vmem S64x256 .bf16} {harg5 : arg5.IsWhole}
  {arg6 : Memref sig .tc .vmem S4096x128 .bf16} {harg6 : arg6.IsWhole}
  {arg7 : Memref sig .tc .vmem S128x4096 .bf16} {harg7 : arg7.IsWhole}
  {arg8 : Memref sig .tc .vmem S16x16x256 .f32} {harg8 : arg8.IsWhole}
  {arg9 : Memref sig .tc .vmem S4096x256 .bf16} {harg9 : arg9.IsWhole}
  {arg10 : Memref sig .tc .vmem S4096x128 .bf16} {harg10 : arg10.IsWhole}
  {arg11 : Memref sig .tc .vmem S4096x128 .bf16} {harg11 : arg11.IsWhole}
  {arg12 : Memref sig .tc .vmem S16x80x256 .bf16} {harg12 : arg12.IsWhole}
  {arg13 : Memref sig .tc .vmem S16x80x256 .bf16} {harg13 : arg13.IsWhole}
  {arg14 : Memref sig .tc .vmem S16x128x1024 .bf16} {harg14 : arg14.IsWhole}
  {arg15 : Memref sig .tc .vmem S16x1x1024 .f32} {harg15 : arg15.IsWhole}
  {arg16 : Memref sig .tc .vmem S16x80x1024 .f32} {harg16 : arg16.IsWhole}
  {arg17 : Memref sig .tc .vmem S16x64x1024 .f32} {harg17 : arg17.IsWhole}
  {arg18 : Memref sig .tc .vmem S64x256 .f32} {harg18 : arg18.IsWhole}
  {arg19 : Memref sig .tc .vmem S256x1024 .f32} {harg19 : arg19.IsWhole}
  (H : Acc c R arg2 arg3 arg4 arg5 arg6 arg7 arg8 arg9 arg10 arg11 arg12 arg13 arg14 arg15 arg16 arg17 arg18 arg19)

include H

theorem p27 (i : grid0.Coords) : ∀ x0 x1 x2 x3 x4, Safe c R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part27_eq_skeleton]
  unfold k0_part27_skel
  refine bd (p1 H i _ _ _) fun x _ => ?_
  obtain ⟨_, _, _, _⟩ := x
  refine bd (p2 H i _ _ _ _) fun x _ => ?_
  obtain ⟨_, _⟩ := x
  refine bd (p3 H i _ _ _ _ _ _) fun x _ => ?_
  obtain ⟨_, _, _, _, _⟩ := x
  refine bd (p4 H i _ _ _) fun x _ => ?_
  obtain ⟨_, _, _, _⟩ := x
  refine bd (p5 H i _ _ _ _ _ _ _ _ _ _) fun x _ => ?_
  obtain ⟨_, _, _, _, _⟩ := x
  refine bd (p6 H i _ _ _ _ _ _ _) fun x _ => ?_
  obtain ⟨_, _, _, _⟩ := x
  refine bd (p7 H i _ _ _ _ _ _ _ _ _) fun x _ => ?_
  obtain ⟨_, _, _, _, _, _⟩ := x
  refine bd (p8 H i _ _ _ _ _ _ _ _) fun x _ => ?_
  obtain ⟨_, _, _⟩ := x
  refine bd (p9 H i _ _ _ _ _) fun x _ => ?_
  obtain ⟨_, _, _, _, _, _⟩ := x
  refine bd (p10 H i _ _ _ _ _ _ _ _) fun x _ => ?_
  obtain ⟨_, _, _⟩ := x
  refine bd (p11 H i _ _ _ _ _) fun x _ => ?_
  obtain ⟨_, _, _, _, _, _⟩ := x
  refine bd (p12 H i _ _ _ _ _ _ _ _) fun x _ => ?_
  obtain ⟨_, _, _⟩ := x
  refine bd (p13 H i _ _ _ _ _) fun x _ => ?_
  obtain ⟨_, _, _, _, _, _⟩ := x
  refine bd (p14 H i _ _ _ _ _ _ _ _) fun x _ => ?_
  obtain ⟨_, _, _⟩ := x
  refine bd (p15 H i _ _ _ _ _) fun x _ => ?_
  obtain ⟨_, _, _, _, _, _⟩ := x
  refine bd (p16 H i _ _ _ _ _ _ _ _) fun x _ => ?_
  obtain ⟨_, _, _⟩ := x
  refine bd (p17 H i _ _ _ _ _) fun x _ => ?_
  obtain ⟨_, _, _, _, _, _⟩ := x
  refine bd (p18 H i _ _ _ _ _ _ _ _) fun x _ => ?_
  obtain ⟨_, _, _⟩ := x
  refine bd (p19 H i _ _ _ _ _) fun x _ => ?_
  obtain ⟨_, _, _, _, _, _⟩ := x
  refine bd (p20 H i _ _ _ _ _ _ _ _) fun x _ => ?_
  obtain ⟨_, _, _⟩ := x
  refine bd (p21 H i _ _ _ _ _) fun x _ => ?_
  obtain ⟨_, _, _, _, _, _⟩ := x
  refine bd (p22 H i _ _ _ _ _ _ _ _) fun x _ => ?_
  obtain ⟨_, _, _⟩ := x
  refine bd (p23 H i _ _ _ _ _) fun x _ => ?_
  obtain ⟨_, _, _, _, _, _⟩ := x
  refine bd (p24 H i _ _ _ _ _ _ _ _) fun x _ => ?_
  obtain ⟨_, _, _⟩ := x
  refine bd (p25 H i _ _ _ _ _) fun x _ => ?_
  obtain ⟨_, _, _, _, _, _⟩ := x
  refine bd (p26 H i _ _ _ _ _ _ _ _ _) fun x _ => ?_
  obtain ⟨_, _, _⟩ := x
  refine ld H.w14.rd fun _ => ?_
  refine st H.w14 ?_
  refine ld H.w14.rd fun _ => ?_
  refine st H.w14 ?_
  refine ld H.w14.rd fun _ => ?_
  refine st H.w14 ?_
  refine ld H.w14.rd fun _ => ?_
  exact pr trivial

theorem t1 (i : grid0.Coords) : ∀ x0 x1 x2 x3 x4 x5 k acc, Safe c R (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 k acc) (fun _ => True) := by
  intros
  unfold k0_t1_body
  refine bd (p27 H i _ _ _ _ _) fun x _ => ?_
  refine st H.w14 ?_
  exact pr trivial

theorem p60 (i : grid0.Coords) : ∀ x0 x1 x2 x3 x4, Safe c R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (fun _ => True) := by
  intros
  rw [k0_part60_eq_skeleton]
  unfold k0_part60_skel
  refine bd (p28 H i _ _ _) fun x _ => ?_
  obtain ⟨_, _, _, _⟩ := x
  refine bd (p29 H i _ _ _ _) fun x _ => ?_
  obtain ⟨_, _⟩ := x
  refine bd (p30 H i _ _ _ _ _ _) fun x _ => ?_
  obtain ⟨_, _, _, _, _⟩ := x
  refine bd (p31 H i _ _ _) fun x _ => ?_
  obtain ⟨_, _, _, _⟩ := x
  refine bd (p32 H i _ _ _ _ _ _ _ _ _ _) fun x _ => ?_
  obtain ⟨_, _, _, _, _⟩ := x
  refine bd (p33 H i _ _ _ _ _ _ _) fun x _ => ?_
  obtain ⟨_, _, _, _⟩ := x
  refine bd (p34 H i _ _ _ _ _ _ _ _ _) fun x _ => ?_
  obtain ⟨_, _, _, _, _, _⟩ := x
  refine bd (p35 H i _ _ _ _ _ _ _ _) fun x _ => ?_
  obtain ⟨_, _, _⟩ := x
  refine bd (p36 H i _ _ _ _ _) fun x _ => ?_
  obtain ⟨_, _, _, _, _, _⟩ := x
  refine bd (p37 H i _ _ _ _ _ _ _ _) fun x _ => ?_
  obtain ⟨_, _, _⟩ := x
  refine bd (p38 H i _ _ _ _ _) fun x _ => ?_
  obtain ⟨_, _, _, _, _, _⟩ := x
  refine bd (p39 H i _ _ _ _ _ _ _ _) fun x _ => ?_
  obtain ⟨_, _, _⟩ := x
  refine bd (p40 H i _ _ _ _ _) fun x _ => ?_
  obtain ⟨_, _, _, _, _, _⟩ := x
  refine bd (p41 H i _ _ _ _ _ _ _ _) fun x _ => ?_
  obtain ⟨_, _, _⟩ := x
  refine bd (p42 H i _ _ _ _ _) fun x _ => ?_
  obtain ⟨_, _, _, _, _, _⟩ := x
  refine bd (p43 H i _ _ _ _ _ _ _ _) fun x _ => ?_
  obtain ⟨_, _, _⟩ := x
  refine bd (p44 H i _ _ _ _ _) fun x _ => ?_
  obtain ⟨_, _, _, _, _, _⟩ := x
  refine bd (p45 H i _ _ _ _ _ _ _ _) fun x _ => ?_
  obtain ⟨_, _, _⟩ := x
  refine bd (p46 H i _ _ _ _ _) fun x _ => ?_
  obtain ⟨_, _, _, _, _, _⟩ := x
  refine bd (p47 H i _ _ _ _ _ _ _ _) fun x _ => ?_
  obtain ⟨_, _, _⟩ := x
  refine bd (p48 H i _ _ _ _ _) fun x _ => ?_
  obtain ⟨_, _, _, _, _, _⟩ := x
  refine bd (p49 H i _ _ _ _ _ _ _ _) fun x _ => ?_
  obtain ⟨_, _, _⟩ := x
  refine bd (p50 H i _ _ _ _ _) fun x _ => ?_
  obtain ⟨_, _, _, _, _, _⟩ := x
  refine bd (p51 H i _ _ _ _ _ _ _ _) fun x _ => ?_
  obtain ⟨_, _, _⟩ := x
  refine bd (p52 H i _ _ _ _ _) fun x _ => ?_
  obtain ⟨_, _, _, _, _, _⟩ := x
  refine bd (p53 H i _ _ _ _ _ _ _ _) fun x _ => ?_
  obtain ⟨_, _, _⟩ := x
  refine bd (p54 H i _ _ _ _ _) fun x _ => ?_
  obtain ⟨_, _, _, _, _, _⟩ := x
  refine bd (p55 H i _ _ _ _ _ _ _ _) fun x _ => ?_
  obtain ⟨_, _, _⟩ := x
  refine bd (p56 H i _ _ _ _ _) fun x _ => ?_
  obtain ⟨_, _, _, _, _, _⟩ := x
  refine bd (p57 H i _ _ _ _ _ _ _ _) fun x _ => ?_
  obtain ⟨_, _, _⟩ := x
  refine bd (p58 H i _ _ _ _ _) fun x _ => ?_
  obtain ⟨_, _, _, _, _, _⟩ := x
  refine bd (p59 H i _ _ _ _ _ _ _ _) fun x _ => ?_
  obtain ⟨_, _, _⟩ := x
  exact pr trivial

theorem t2 (i : grid0.Coords) : ∀ x0 x1 x2 x3 x4 x5 k acc, Safe c R (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 k acc) (fun _ => True) := by
  intros
  unfold k0_t2_body
  refine bd (p60 H i _ _ _ _ _) fun x _ => ?_
  obtain ⟨_, _⟩ := x
  refine ld H.w14.rd fun _ => ?_
  refine st H.w14 ?_
  refine ld H.w14.rd fun _ => ?_
  refine st H.w14 ?_
  refine ld H.w14.rd fun _ => ?_
  refine st H.w14 ?_
  refine ld H.w14.rd fun _ => ?_
  refine st H.w14 ?_
  exact pr trivial

theorem p294 (i : grid0.Coords) : ∀ x0 x1 x2 x3 x4 x5, Safe c R (k0_part294 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5) (fun _ => True) := by
  intros
  rw [k0_part294_eq_skeleton]
  unfold k0_part294_skel
  refine ld H.w14.rd fun _ => ?_
  refine st H.w14 ?_
  refine ld H.w14.rd fun _ => ?_
  refine st H.w14 ?_
  refine ld H.w14.rd fun _ => ?_
  refine st H.w14 ?_
  refine ld H.w14.rd fun _ => ?_
  refine st H.w14 ?_
  refine bd (loop (fun _ _ => True) trivial fun k acc _ => t1 H i _ _ _ _ _ _ k acc) fun x _ => ?_
  refine bd (loop (fun _ _ => True) trivial fun k acc _ => t2 H i _ _ _ _ _ _ k acc) fun x _ => ?_
  refine ld H.w10.rd fun _ => ?_
  refine ld H.w14.rd fun _ => ?_
  exact pr trivial

theorem p306 (i : grid0.Coords) : Safe c R (k0_part306 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => True) := by
  rw [k0_part306_eq_skeleton]
  unfold k0_part306_skel
  refine bd (p150 H i) fun x _ => ?_
  obtain ⟨_, _⟩ := x
  refine bd (p151 H i _ _) fun x _ => ?_
  refine bd (p152 H i _) fun x _ => ?_
  refine bd (p153 H i _ _) fun x _ => ?_
  refine bd (p154 H i _ _) fun x _ => ?_
  refine bd (p155 H i _ _) fun x _ => ?_
  refine bd (p156 H i _ _) fun x _ => ?_
  obtain ⟨_, _, _⟩ := x
  refine bd (p157 H i _ _ _) fun x _ => ?_
  obtain ⟨_, _, _, _, _, _, _, _⟩ := x
  refine bd (p158 H i _ _ _ _) fun x _ => ?_
  obtain ⟨_, _, _, _, _, _, _⟩ := x
  refine bd (p159 H i _ _ _ _ _ _ _) fun x _ => ?_
  obtain ⟨_, _⟩ := x
  refine bd (p160 H i _ _ _ _ _) fun x _ => ?_
  obtain ⟨_, _, _, _⟩ := x
  refine bd (p161 H i _ _) fun x _ => ?_
  obtain ⟨_, _, _, _, _⟩ := x
  refine bd (p162 H i _ _ _ _ _ _ _ _ _ _) fun x _ => ?_
  obtain ⟨_, _, _, _, _, _⟩ := x
  refine bd (p163 H i _ _ _ _ _ _ _) fun x _ => ?_
  obtain ⟨_, _, _⟩ := x
  refine bd (p164 H i _ _ _ _ _ _ _) fun x _ => ?_
  obtain ⟨_, _, _, _⟩ := x
  refine bd (p165 H i _ _ _ _ _ _) fun x _ => ?_
  obtain ⟨_, _, _, _, _, _⟩ := x
  refine bd (p166 H i _ _ _ _ _ _ _ _) fun x _ => ?_
  obtain ⟨_, _, _, _⟩ := x
  refine bd (p167 H i _ _ _ _ _ _) fun x _ => ?_
  obtain ⟨_, _, _, _, _, _⟩ := x
  refine bd (p168 H i _ _ _ _ _ _ _ _) fun x _ => ?_
  obtain ⟨_, _, _, _⟩ := x
  refine bd (p169 H i _ _ _ _ _ _) fun x _ => ?_
  obtain ⟨_, _, _, _, _, _⟩ := x
  refine bd (p170 H i _ _ _ _ _ _ _ _) fun x _ => ?_
  obtain ⟨_, _, _, _⟩ := x
  refine bd (p171 H i _ _ _ _ _ _ _) fun x _ => ?_
  refine bd (p172 H i _ _ _) fun x _ => ?_
  obtain ⟨_, _, _, _, _, _, _⟩ := x
  refine bd (p173 H i _ _ _ _ _ _ _) fun x _ => ?_
  obtain ⟨_, _, _, _⟩ := x
  refine bd (p174 H i _ _ _ _ _ _ _) fun x _ => ?_
  obtain ⟨_, _, _, _, _, _⟩ := x
  refine bd (p175 H i _ _ _ _) fun x _ => ?_
  obtain ⟨_, _, _, _⟩ := x
  refine bd (p176 H i _ _ _ _ _ _ _ _ _) fun x _ => ?_
  obtain ⟨_, _, _, _, _, _⟩ := x
  refine bd (p177 H i _ _ _ _ _ _) fun x _ => ?_
  obtain ⟨_, _⟩ := x
  refine bd (p178 H i _ _ _ _ _ _) fun x _ => ?_
  refine bd (p179 H i _ _ _) fun x _ => ?_
  obtain ⟨_, _, _, _⟩ := x
  refine bd (p180 H i _ _ _ _ _ _) fun x _ => ?_
  refine bd (p181 H i _ _ _) fun x _ => ?_
  obtain ⟨_, _, _, _⟩ := x
  refine bd (p182 H i _ _ _ _ _ _) fun x _ => ?_
  refine bd (p183 H i _ _ _) fun x _ => ?_
  obtain ⟨_, _, _, _⟩ := x
  refine bd (p184 H i _ _ _ _ _ _) fun x _ => ?_
  obtain ⟨_, _⟩ := x
  refine bd (p185 H i _ _ _ _ _) fun x _ => ?_
  obtain ⟨_, _⟩ := x
  refine bd (p186 H i _ _ _ _) fun x _ => ?_
  obtain ⟨_, _, _, _, _, _, _, _⟩ := x
  refine bd (p187 H i _ _ _ _ _ _ _ _) fun x _ => ?_
  obtain ⟨_, _, _⟩ := x
  refine bd (p188 H i _ _ _ _ _ _) fun x _ => ?_
  obtain ⟨_, _, _, _, _, _, _⟩ := x
  refine bd (p189 H i _ _ _ _ _) fun x _ => ?_
  obtain ⟨_, _, _, _, _⟩ := x
  refine bd (p190 H i _ _ _ _ _ _ _ _ _) fun x _ => ?_
  obtain ⟨_, _, _, _, _⟩ := x
  refine bd (p191 H i _ _ _ _ _) fun x _ => ?_
  obtain ⟨_, _, _⟩ := x
  refine bd (p192 H i _ _ _ _ _ _ _) fun x _ => ?_
  obtain ⟨_, _, _⟩ := x
  refine bd (p193 H i _ _ _ _ _) fun x _ => ?_
  obtain ⟨_, _, _, _, _, _⟩ := x
  refine bd (p194 H i _ _ _ _ _ _ _ _) fun x _ => ?_
  obtain ⟨_, _, _⟩ := x
  refine bd (p195 H i _ _ _ _ _) fun x _ => ?_
  obtain ⟨_, _, _, _, _, _⟩ := x
  refine bd (p196 H i _ _ _ _ _ _ _ _) fun x _ => ?_
  obtain ⟨_, _, _⟩ := x
  refine bd (p197 H i _ _ _ _ _) fun x _ => ?_
  obtain ⟨_, _, _, _, _, _⟩ := x
  refine bd (p198 H i _ _ _ _ _ _ _ _ _) fun x _ => ?_
  obtain ⟨_, _, _⟩ := x
  refine bd (p199 H i _ _ _ _ _) fun x _ => ?_
  obtain ⟨_, _⟩ := x
  refine bd (p200 H i _ _ _ _) fun x _ => ?_
  obtain ⟨_, _, _, _, _, _⟩ := x
  refine bd (p201 H i _ _ _ _ _ _) fun x _ => ?_
  obtain ⟨_, _, _, _, _⟩ := x
  refine bd (p202 H i _ _ _ _ _ _ _ _) fun x _ => ?_
  obtain ⟨_, _, _, _, _, _, _⟩ := x
  refine bd (p203 H i _ _ _ _ _) fun x _ => ?_
  obtain ⟨_, _, _, _, _⟩ := x
  refine bd (p204 H i _ _ _ _ _ _ _ _) fun x _ => ?_
  obtain ⟨_, _, _, _⟩ := x
  refine bd (p205 H i _ _ _ _) fun x _ => ?_
  obtain ⟨_, _, _, _⟩ := x
  refine bd (p206 H i _ _ _ _ _ _ _ _) fun x _ => ?_
  obtain ⟨_, _, _, _, _, _⟩ := x
  refine bd (p207 H i _ _ _ _ _ _ _ _) fun x _ => ?_
  obtain ⟨_, _, _, _⟩ := x
  refine bd (p208 H i _ _ _ _ _ _) fun x _ => ?_
  obtain ⟨_, _, _, _, _, _⟩ := x
  refine bd (p209 H i _ _ _ _ _ _ _ _) fun x _ => ?_
  obtain ⟨_, _, _, _⟩ := x
  exact pr trivial

theorem p307 (i : grid0.Coords) : ∀ x0 x1 x2 x3 x4 x5 x6 x7 x8 x9, Safe c R (k0_part307 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9) (fun _ => True) := by
  intros
  rw [k0_part307_eq_skeleton]
  unfold k0_part307_skel
  refine bd (p210 H i _ _ _ _ _ _) fun x _ => ?_
  obtain ⟨_, _, _, _, _, _⟩ := x
  refine bd (p211 H i _ _ _ _ _ _ _ _) fun x _ => ?_
  obtain ⟨_, _, _, _⟩ := x
  refine bd (p212 H i _ _ _ _ _ _ _) fun x _ => ?_
  refine bd (p213 H i _ _) fun x _ => ?_
  obtain ⟨_, _, _, _, _⟩ := x
  refine bd (p214 H i _ _ _) fun x _ => ?_
  obtain ⟨_, _, _, _, _⟩ := x
  refine bd (p215 H i _ _ _ _ _) fun x _ => ?_
  obtain ⟨_, _, _⟩ := x
  refine bd (p216 H i _ _ _ _ _ _) fun x _ => ?_
  obtain ⟨_, _, _, _, _, _⟩ := x
  refine bd (p217 H i _ _ _ _) fun x _ => ?_
  obtain ⟨_, _, _, _⟩ := x
  refine bd (p218 H i _ _ _ _ _ _ _ _ _) fun x _ => ?_
  obtain ⟨_, _, _, _, _, _, _⟩ := x
  refine bd (p219 H i _ _ _ _ _ _ _ _) fun x _ => ?_
  obtain ⟨_, _, _⟩ := x
  refine bd (p220 H i _ _ _ _ _ _ _) fun x _ => ?_
  refine bd (p221 H i _ _ _) fun x _ => ?_
  obtain ⟨_, _, _, _, _, _⟩ := x
  refine bd (p222 H i _ _ _ _ _ _ _ _) fun x _ => ?_
  refine bd (p223 H i _ _ _) fun x _ => ?_
  obtain ⟨_, _, _, _, _, _⟩ := x
  refine bd (p224 H i _ _ _ _ _ _ _ _) fun x _ => ?_
  refine bd (p225 H i _ _ _) fun x _ => ?_
  obtain ⟨_, _, _, _, _, _⟩ := x
  refine bd (p226 H i _ _ _ _ _ _ _ _) fun x _ => ?_
  refine bd (p227 H i _ _ _) fun x _ => ?_
  obtain ⟨_, _, _, _, _, _⟩ := x
  refine bd (p228 H i _ _ _ _ _ _ _ _) fun x _ => ?_
  refine bd (p229 H i _ _ _) fun x _ => ?_
  obtain ⟨_, _, _, _, _, _⟩ := x
  refine bd (p230 H i _ _ _ _ _ _ _ _) fun x _ => ?_
  refine bd (p231 H i _ _ _) fun x _ => ?_
  obtain ⟨_, _, _, _, _, _⟩ := x
  refine bd (p232 H i _ _ _ _ _ _ _ _) fun x _ => ?_
  refine bd (p233 H i _ _ _ _ _) fun x _ => ?_
  refine bd (p234 H i _ _) fun x _ => ?_
  obtain ⟨_, _⟩ := x
  refine bd (p235 H i _ _ _ _) fun x _ => ?_
  obtain ⟨_, _, _, _⟩ := x
  refine bd (p236 H i _ _ _ _ _ _) fun x _ => ?_
  obtain ⟨_, _, _, _, _⟩ := x
  refine bd (p237 H i _ _ _) fun x _ => ?_
  obtain ⟨_, _, _, _, _⟩ := x
  refine bd (p238 H i _ _ _ _ _ _ _ _ _ _) fun x _ => ?_
  obtain ⟨_, _, _, _, _, _⟩ := x
  refine bd (p239 H i _ _ _ _ _ _ _) fun x _ => ?_
  obtain ⟨_, _, _⟩ := x
  refine bd (p240 H i _ _ _ _ _ _ _) fun x _ => ?_
  obtain ⟨_, _, _, _⟩ := x
  refine bd (p241 H i _ _ _ _ _ _) fun x _ => ?_
  refine bd (p242 H i _ _ _) fun x _ => ?_
  obtain ⟨_, _, _, _⟩ := x
  refine bd (p243 H i _ _ _ _ _ _) fun x _ => ?_
  refine bd (p244 H i _ _ _) fun x _ => ?_
  obtain ⟨_, _, _, _⟩ := x
  refine bd (p245 H i _ _ _ _ _ _) fun x _ => ?_
  refine bd (p246 H i _ _ _) fun x _ => ?_
  obtain ⟨_, _, _, _⟩ := x
  refine bd (p247 H i _ _ _ _ _ _) fun x _ => ?_
  refine bd (p248 H i _ _ _) fun x _ => ?_
  obtain ⟨_, _, _, _⟩ := x
  refine bd (p249 H i _ _ _ _ _ _) fun x _ => ?_
  refine bd (p250 H i _ _ _) fun x _ => ?_
  obtain ⟨_, _, _, _⟩ := x
  refine bd (p251 H i _ _ _ _ _ _) fun x _ => ?_
  refine bd (p252 H i _ _ _) fun x _ => ?_
  obtain ⟨_, _, _, _⟩ := x
  refine bd (p253 H i _ _ _ _ _ _ _ _) fun x _ => ?_
  obtain ⟨_, _⟩ := x
  refine bd (p254 H i _ _ _ _) fun x _ => ?_
  obtain ⟨_, _⟩ := x
  refine bd (p255 H i _ _ _ _) fun x _ => ?_
  obtain ⟨_, _, _⟩ := x
  refine bd (p256 H i _ _ _ _) fun x _ => ?_
  obtain ⟨_, _, _⟩ := x
  refine bd (p257 H i _ _) fun x _ => ?_
  obtain ⟨_, _, _, _, _, _, _⟩ := x
  refine bd (p258 H i _ _ _ _ _ _ _ _ _ _) fun x _ => ?_
  obtain ⟨_, _, _, _⟩ := x
  refine bd (p259 H i _ _ _ _ _) fun x _ => ?_
  obtain ⟨_, _, _⟩ := x
  refine bd (p260 H i _ _ _ _ _) fun x _ => ?_
  obtain ⟨_, _, _⟩ := x
  refine bd (p261 H i _ _ _ _ _) fun x _ => ?_
  obtain ⟨_, _, _, _, _⟩ := x
  refine bd (p262 H i _ _ _ _ _ _ _) fun x _ => ?_
  obtain ⟨_, _, _⟩ := x
  refine bd (p263 H i _ _ _ _ _) fun x _ => ?_
  obtain ⟨_, _, _, _, _⟩ := x
  refine bd (p264 H i _ _ _ _ _ _ _) fun x _ => ?_
  obtain ⟨_, _, _⟩ := x
  refine bd (p265 H i _ _ _ _ _) fun x _ => ?_
  obtain ⟨_, _, _, _, _⟩ := x
  refine bd (p266 H i _ _ _ _ _ _ _) fun x _ => ?_
  obtain ⟨_, _, _⟩ := x
  refine bd (p267 H i _ _ _ _ _) fun x _ => ?_
  obtain ⟨_, _, _, _, _⟩ := x
  refine bd (p268 H i _ _ _ _ _ _ _) fun x _ => ?_
  obtain ⟨_, _, _⟩ := x
  refine bd (p269 H i _ _ _ _ _) fun x _ => ?_
  obtain ⟨_, _, _, _, _⟩ := x
  exact pr trivial

theorem p308 (i : grid0.Coords) : ∀ x0 x1 x2 x3 x4 x5 x6 x7 x8 x9 x10 x11, Safe c R (k0_part308 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11) (fun _ => True) := by
  intros
  rw [k0_part308_eq_skeleton]
  unfold k0_part308_skel
  refine bd (p270 H i _ _ _ _ _ _ _) fun x _ => ?_
  obtain ⟨_, _, _⟩ := x
  refine bd (p271 H i _ _ _ _ _) fun x _ => ?_
  obtain ⟨_, _, _, _, _⟩ := x
  refine bd (p272 H i _ _ _ _ _ _ _) fun x _ => ?_
  obtain ⟨_, _, _⟩ := x
  refine bd (p273 H i _ _ _ _ _ _ _) fun x _ => ?_
  refine bd (p274 H i _ _ _) fun x _ => ?_
  obtain ⟨_, _, _⟩ := x
  refine bd (p275 H i _ _ _ _ _) fun x _ => ?_
  obtain ⟨_, _, _, _⟩ := x
  refine bd (p276 H i _ _ _ _ _) fun x _ => ?_
  obtain ⟨_, _, _, _⟩ := x
  refine bd (p277 H i _ _ _) fun x _ => ?_
  obtain ⟨_, _, _, _, _, _, _⟩ := x
  refine bd (p278 H i _ _ _ _ _ _ _ _ _) fun x _ => ?_
  obtain ⟨_, _, _, _⟩ := x
  refine bd (p279 H i _ _ _ _ _ _) fun x _ => ?_
  obtain ⟨_, _⟩ := x
  refine bd (p280 H i _ _ _ _) fun x _ => ?_
  refine bd (p281 H i _ _ _) fun x _ => ?_
  obtain ⟨_, _, _⟩ := x
  refine bd (p282 H i _ _ _ _ _) fun x _ => ?_
  obtain ⟨_, _, _, _, _, _⟩ := x
  refine bd (p283 H i _ _ _ _ _ _ _ _) fun x _ => ?_
  obtain ⟨_, _, _⟩ := x
  refine bd (p284 H i _ _ _ _ _) fun x _ => ?_
  obtain ⟨_, _, _, _, _, _⟩ := x
  refine bd (p285 H i _ _ _ _ _ _ _ _) fun x _ => ?_
  obtain ⟨_, _, _⟩ := x
  refine bd (p286 H i _ _ _ _ _) fun x _ => ?_
  obtain ⟨_, _, _, _, _, _⟩ := x
  refine bd (p287 H i _ _ _ _ _ _ _ _) fun x _ => ?_
  obtain ⟨_, _, _⟩ := x
  refine bd (p288 H i _ _ _ _ _) fun x _ => ?_
  obtain ⟨_, _, _, _, _, _⟩ := x
  refine bd (p289 H i _ _ _ _ _ _ _ _) fun x _ => ?_
  obtain ⟨_, _, _⟩ := x
  refine bd (p290 H i _ _ _ _ _) fun x _ => ?_
  obtain ⟨_, _, _, _, _, _⟩ := x
  refine bd (p291 H i _ _ _ _ _ _ _ _) fun x _ => ?_
  obtain ⟨_, _, _⟩ := x
  refine bd (p292 H i _ _ _ _ _) fun x _ => ?_
  obtain ⟨_, _, _, _, _, _⟩ := x
  refine bd (p293 H i _ _ _ _ _ _ _ _ _) fun x _ => ?_
  obtain ⟨_, _, _⟩ := x
  refine bd (p294 H i _ _ _ _ _ _) fun x _ => ?_
  refine bd (p295 H i _ _) fun x _ => ?_
  obtain ⟨_, _, _⟩ := x
  refine bd (p296 H i _ _ _ _) fun x _ => ?_
  obtain ⟨_, _, _⟩ := x
  refine bd (p297 H i _ _ _ _) fun x _ => ?_
  obtain ⟨_, _⟩ := x
  refine bd (p298 H i _ _ _) fun x _ => ?_
  obtain ⟨_, _, _, _⟩ := x
  refine bd (p299 H i _ _ _ _ _) fun x _ => ?_
  obtain ⟨_, _⟩ := x
  refine bd (p300 H i _ _ _) fun x _ => ?_
  obtain ⟨_, _⟩ := x
  refine bd (p301 H i _ _ _) fun x _ => ?_
  obtain ⟨_, _, _, _⟩ := x
  refine bd (p302 H i _ _ _ _ _) fun x _ => ?_
  obtain ⟨_, _⟩ := x
  refine bd (p303 H i _ _ _) fun x _ => ?_
  obtain ⟨_, _, _, _, _⟩ := x
  refine bd (p304 H i _ _ _ _ _ _) fun x _ => ?_
  obtain ⟨_, _⟩ := x
  refine bd (p305 H i _ _ _) fun x _ => ?_
  obtain ⟨_, _, _⟩ := x
  refine ld H.w16.rd fun _ => ?_
  refine st H.w16 ?_
  refine ld H.w15.rd fun _ => ?_
  refine st H.w15 ?_
  refine ld H.w10.rd fun _ => ?_
  exact pr trivial

theorem whole (i : grid0.Coords) : Safe c R (cc0_nsa_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => True) := by
  rw [cc0_nsa_attn_eq_skeleton]
  unfold cc0_nsa_attn_skel
  refine bd (p306 H i) fun x _ => ?_
  obtain ⟨_, _, _, _, _, _, _, _, _, _⟩ := x
  refine bd (p307 H i _ _ _ _ _ _ _ _ _ _) fun x _ => ?_
  obtain ⟨_, _, _, _, _, _, _, _, _, _⟩ := x
  refine bd (p308 H i _ _ _ _ _ _ _ _ _ _ _ _) fun x _ => ?_
  refine ld H.w14.rd fun _ => ?_
  refine ld H.w19.rd fun _ => ?_
  refine st H.w19 ?_
  refine bd (loop3 H i) fun x _ => ?_
  obtain ⟨_, _⟩ := x
  refine bd (loop (fun _ _ => True) trivial fun k acc _ => t4 H i  k acc) fun x _ => ?_
  exact pr trivial

end Cert.KernelIdeal.Attn
-- ==== Proof.AttnFrame.lean ====
/- The attention kernel's frame: its body is safe at every point of the grid, so its launch ends with
   every argument as it was.  Nothing is said of what the kernel leaves in its output. -/
module

public import proofs.«01_k».proof.Proof.AttnBody

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section access
variable {c : Dev nD} {P Q : sProp (M F)} {s : Shape} {e : EltTy} {b : Memref sig .tc .vmem s e}

theorem rdOwns {X : s.Idx → Elt F e} : Rd c (owns (c : Thread nD τ) b fullShare X) b := by
  unfold Rd owns
  iintro ⟨%f, %h, H⟩
  iexists f
  isplitl [H]
  · iexact H
  · iintro H
    iexists f
    isplitr
    · ipureintro; exact h
    · iexact H

theorem wrOwns : Wr (F := F) c iprop(∃ X, owns (c : Thread nD τ) b fullShare X) b := by
  unfold Wr owns
  iintro ⟨%X, %f, %h, H⟩
  iexists f
  isplitl [H]
  · iexact H
  · iintro %g H
    iexists (b.view.read (Elt F) g)
    iexists g
    isplitr
    · ipureintro; rfl
    · iexact H

theorem rdL (h : Rd c P b) : Rd c iprop(P ∗ Q) b := by
  unfold Rd at *
  iintro ⟨HP, HQ⟩
  ihave HP := h $$ HP
  icases HP with ⟨%f, H, K⟩
  iexists f
  isplitl [H]
  · iexact H
  · iintro H
    isplitr [HQ]
    · iapply K
      iexact H
    · iexact HQ

theorem rdR (h : Rd c Q b) : Rd c iprop(P ∗ Q) b := by
  unfold Rd at *
  iintro ⟨HP, HQ⟩
  ihave HQ := h $$ HQ
  icases HQ with ⟨%f, H, K⟩
  iexists f
  isplitl [H]
  · iexact H
  · iintro H
    isplitl [HP]
    · iexact HP
    · iapply K
      iexact H

theorem wrL (h : Wr c P b) : Wr c iprop(P ∗ Q) b := by
  unfold Wr at *
  iintro ⟨HP, HQ⟩
  ihave HP := h $$ HP
  icases HP with ⟨%f, H, K⟩
  iexists f
  isplitl [H]
  · iexact H
  · iintro %g H
    isplitr [HQ]
    · iapply K
      iexact H
    · iexact HQ

theorem wrR (h : Wr c Q b) : Wr c iprop(P ∗ Q) b := by
  unfold Wr at *
  iintro ⟨HP, HQ⟩
  ihave HQ := h $$ HQ
  icases HQ with ⟨%f, H, K⟩
  iexists f
  isplitl [H]
  · iexact H
  · iintro %g H
    isplitl [HP]
    · iexact HP
    · iapply K
      iexact H

end access

variable (m : (ℓ : Loc nD τ sig) → Buf (Elt F) ℓ) (ρ : Dev nD → PrngReg)

/-- The output window's contents are not named. -/
def forgets0 : Fin 8 → Bool := fun w => w.val == 7

/-- The proof data of the launch: the arrays as the region finds them, each input's buffer at its
    block after the body, the output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the region's invariant holds: the ten scratch buffers, each at some contents, and the generator's register. -/
theorem PhiA_eq (c : Dev nD) : (Pipeline.ΦA spec0 c : sProp (M F))
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA
  rw [scopedRest0_eq]
  simp only [owns_whole]
  try rfl

/-- All a point of the grid works on. -/
def Res (c : Dev nD) (t : Fin cfg0.N) : sProp (M F) :=
  iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ (∃ d, owns (c : Thread nD τ) (st0_7 t) fullShare d))

theorem acc (c : Dev nD) (t : Fin cfg0.N) : Acc c (Res m c t) (st0_0 t) (st0_1 t) (st0_2 t) (st0_3 t) (st0_4 t) (st0_5 t) (st0_6 t) (st0_7 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) where
  r2 := rdR (rdR (rdL rdOwns))
  r3 := rdR (rdR (rdR (rdL rdOwns)))
  r4 := rdR (rdR (rdR (rdR (rdL rdOwns))))
  r5 := rdR (rdR (rdR (rdR (rdR (rdL rdOwns)))))
  r6 := rdR (rdR (rdR (rdR (rdR (rdR (rdL rdOwns))))))
  r7 := rdR (rdR (rdR (rdR (rdR (rdR (rdR (rdL rdOwns)))))))
  r8 := rdR (rdR (rdR (rdR (rdR (rdR (rdR (rdR (rdL rdOwns))))))))
  w9 := wrR (wrR (wrR (wrR (wrR (wrR (wrR (wrR (wrR (wrOwns)))))))))
  w10 := wrL (wrL (wrL wrOwns))
  w11 := wrL (wrL (wrR (wrL wrOwns)))
  w12 := wrL (wrL (wrR (wrR (wrL wrOwns))))
  w13 := wrL (wrL (wrR (wrR (wrR (wrL wrOwns)))))
  w14 := wrL (wrL (wrR (wrR (wrR (wrR (wrL wrOwns))))))
  w15 := wrL (wrL (wrR (wrR (wrR (wrR (wrR (wrL wrOwns)))))))
  w16 := wrL (wrL (wrR (wrR (wrR (wrR (wrR (wrR (wrL wrOwns))))))))
  w17 := wrL (wrL (wrR (wrR (wrR (wrR (wrR (wrR (wrR (wrL wrOwns)))))))))
  w18 := wrL (wrL (wrR (wrR (wrR (wrR (wrR (wrR (wrR (wrR (wrL wrOwns))))))))))
  w19 := wrL (wrL (wrR (wrR (wrR (wrR (wrR (wrR (wrR (wrR (wrR (wrOwns)))))))))))

def bodyPre (c : Dev nD) (t : Fin cfg0.N) : sProp (M F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))

def bodyPost (c : Dev nD) (t : Fin cfg0.N) : sProp (M F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d))

theorem pre_res (c : Dev nD) (t : Fin cfg0.N) : bodyPre m c t ⊢ Res m c t := by
  unfold bodyPre Res
  simp only [before0_0, before0_1, before0_2, before0_3, before0_4, before0_5, before0_6]
  rw [show (dats m 0 c).Φ t.castSucc = Pipeline.ΦA spec0 c from rfl, PhiA_eq]
  iintro ⟨HΦ, Ho, ⟨%d0, H0⟩, ⟨%d1, H1⟩, ⟨%d2, H2⟩, ⟨%d3, H3⟩, ⟨%d4, H4⟩, ⟨%d5, H5⟩, ⟨%d6, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem res_post (c : Dev nD) (t : Fin cfg0.N) : Res m c t ⊢ bodyPost m c t := by
  unfold bodyPost Res
  rw [show (dats m 0 c).Φ t.succ = Pipeline.ΦA spec0 c from rfl, PhiA_eq,
    show (dats m 0 c).owesAt () t.succ = (dats m 0 c).owesAt () t.castSucc from rfl,
    after0_0, after0_1, after0_2, after0_3, after0_4, after0_5, after0_6]

/-- The body at a point, from what the launch gives it to what the launch takes back. -/
theorem sound_body (c : Dev nD) (t : Fin cfg0.N) :
    bodyPre m c t ⊢ wp frame (wpE (defs₀ (F := F)) Variants.none (c : Thread nD τ) none) Set.univ (bodyAt0 t) (fun _ => bodyPost m c t) := by
  refine BIBase.Entails.trans (pre_res m c t) ?_
  refine BIBase.Entails.trans (whole (acc m c t) (grid0.coords t)) (wp_mono _ _ _ fun a => ?_)
  iintro ⟨%_, H⟩
  iapply (res_post m c t)
  iexact H

theorem defs₀_row (t : Fin cfg0.N) :
    (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The run: it ends, every input's array as it was, every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 (defs₀ (F := F)) Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at either reading of the floating-point values. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ ⟨h, hz⟩ => ⟨fun c => ⟨
      (Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 4 rfl).trans ((A_eq m c 4).trans (V_main_arg3 m c)),
      (Pipeline.RDat.FramePost.arr_in h c 5 rfl).trans ((A_eq m c 5).trans (V_main_arg4 m c)),
      (Pipeline.RDat.FramePost.arr_in h c 6 rfl).trans ((A_eq m c 6).trans (V_main_arg5 m c))⟩, hz⟩) (run_main m ρ)

end Cert.KernelIdeal.Attn
-- ==== Proof.AttnSame.lean ====
/- The attention kernel has the same text at both readings of its floating-point values: its frame at
   bits is the run already made, at bits. -/
module

public import proofs.«01_k».proof.Defs
public import proofs.«01_k».proof.Proof.AttnFrame
public import proofs.«01_k».proof.Proof.Gen.Kernel

@[expose] public section

set_option maxRecDepth 100000
set_option maxHeartbeats 0

noncomputable section

namespace Cert.Proof.AttnSame

open Idealize.ShloMosaic Idealize.SL.Sem

variable {F : FTy → Type} [FloatOps F]

/-- The two bodies are the same program. -/
theorem body_eq : @Cert.Kernel.cc0_nsa_attn F _ _ = @Cert.KernelIdeal.cc0_nsa_attn F _ _ := rfl

/-- So are the two tables of bodies. -/
theorem table_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) =>
    dsimp only
    rw [body_eq]
    rfl

/-- And the two whole programs' definitions. -/
theorem defs_eq : Cert.Kernel.defs (F := F) = Cert.KernelIdeal.defs (F := F) :=
  congrArg (Pipeline.defs Cert.KernelIdeal.pcfgs) table_eq

theorem kernelIdeal : Cert.quiescent_KernelIdeal := fun m g _ => Cert.KernelIdeal.Attn.frame_run (F := Ideal) m g

theorem kernel : Cert.quiescent_Kernel := fun m g _ =>
  Eq.mp (congrArg (fun d => (θ_run d (onTc (τ := Cert.KernelIdeal.τ) (Cert.KernelIdeal.main (F := Bits))) ⟨m, fun _ => 0, g⟩ _)) defs_eq.symm)
    (Cert.KernelIdeal.Attn.frame_run (F := Bits) m g)

end Cert.Proof.AttnSame
-- ==== Proof.Frames.lean ====
module

public import proofs.«01_k».proof.Defs
public import proofs.«01_k».proof.Proof.AttnSame
public import proofs.«01_k».proof.Proof.Gen.CmpRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.Cmp.Frame
public import proofs.«01_k».proof.Proof.Gen.CmpIdeal.Frame
public import Idealize.ShloMosaic.Lib.Claim
public import Idealize.ShloMosaic.Lib.Quiescent

@[expose] public section

noncomputable section

namespace Cert.Proof.Frames

open Idealize.ShloMosaic Idealize.SL.Sem

/-- The attention call ends, at bits and at the extended reals, with its arguments unchanged. -/
theorem kernel : Cert.quiescent_Kernel := AttnSame.kernel
theorem kernelIdeal : Cert.quiescent_KernelIdeal := AttnSame.kernelIdeal

/-- The merge call ends, at bits and at the extended reals, with its arguments unchanged. -/
theorem merge : Cert.quiescent_Merge := fun m g _ => Cert.Merge.Gen.frame (F := Bits) m g
theorem mergeIdeal : Cert.quiescent_MergeIdeal := fun m g _ => Cert.MergeIdeal.Gen.frame (F := Ideal) m g
theorem mergeRefIdeal : Cert.quiescent_MergeRefIdeal := fun m g _ => by
  hlo_run
  · exact fun _ => ⟨trivial, trivial, trivial, trivial, trivial, trivial, trivial, trivial, trivial, trivial, trivial, trivial, trivial⟩
  · exact sem_eq_zero_of_no_sems rfl _

/-- The projections' call, the same. -/
theorem proj : Cert.quiescent_Proj := fun m g _ => Cert.Proj.Gen.frame (F := Bits) m g
theorem projIdeal : Cert.quiescent_ProjIdeal := fun m g _ => Cert.ProjIdeal.Gen.frame (F := Ideal) m g
theorem projRefIdeal : Cert.quiescent_ProjRefIdeal := fun m g _ => by
  hlo_run
  · exact fun _ => ⟨trivial, trivial, trivial⟩
  · exact sem_eq_zero_of_no_sems rfl _

/-- The compression's call, the same. -/
theorem cmp : Cert.quiescent_Cmp := fun m g _ => Cert.Cmp.Gen.frame (F := Bits) m g
theorem cmpIdeal : Cert.quiescent_CmpIdeal := fun m g _ => Cert.CmpIdeal.Gen.frame (F := Ideal) m g
theorem cmpRefIdeal : Cert.quiescent_CmpRefIdeal := fun m g _ => by
  hlo_run
  · exact fun _ => ⟨trivial, trivial, trivial, trivial, trivial, trivial, trivial⟩
  · exact sem_eq_zero_of_no_sems rfl _

end Cert.Proof.Frames
end
-- ==== Proof.ProjWeights.lean ====
module

public import proofs.«01_k».proof.Proof.Gen.ProjIdeal.Value
public import Idealize.ShloMosaic.Lib.Pointwise
public import Idealize.ShloMosaic.Lib.StableHlo.ReadAt

@[expose] public section

set_option maxRecDepth 16384

noncomputable section

namespace Cert.ProjIdeal.Weights

open Cert.ProjIdeal Cert.ProjIdeal.Gen Idealize.ShloMosaic Idealize.ShloMosaic.TcCoe Idealize.SL.Sem

variable (m : (ℓ : Loc nD τ sig) → Buf (Elt Ideal) ℓ)

/-- The activations as the region finds them: row `r` is token `r % 4096` of sequence `r / 4096`. -/
theorem V_x (c : Dev nD) (r : Fin 16384) (k : Fin 1024) :
    (V m c main_v34 : Vec Ideal S16384x1024 .f32) (ix2 r k)
      = (m ((c : Thread nD τ).loc main_arg0) : Vec Ideal S4x4096x1024 .f32) (ix3 ⟨r.val / 4096, by omega⟩ ⟨r.val % 4096, by omega⟩ k) := by
  unfold V
  simp only [hostOps0, hostOps0_1, hostOps0_2, List.flatten_cons, List.flatten_nil, List.append_nil, List.cons_append, List.nil_append]
  after_results
  pointwise

/-- The norm's gain as the region finds it. -/
theorem V_g (c : Dev nD) (k : Fin 1024) :
    (V m c main_v36 : Vec Ideal S1x1024 .f32) (ix2 0 k)
      = (m ((c : Thread nD τ).loc main_arg2) : Vec Ideal S1x1024 .f32) (ix2 0 k) := by
  unfold V
  simp only [hostOps0, hostOps0_1, hostOps0_2, List.flatten_cons, List.flatten_nil, List.append_nil, List.cons_append, List.nil_append]
  after_results
  pointwise

/-- The column of `w_in` that column `j` of the row weights is. -/
def rowSrc (j : Fin 4608) : Fin 6192 :=
  ⟨if j.val < 1536 then j.val else if j.val < 2048 then 2560 + (j.val - 1536)
   else if j.val < 2560 then
     (if (j.val - 2048) % 128 < 64 then 3072 + (j.val - 2048) / 128 * 64 + (j.val - 2048) % 128
      else 3584 + (j.val - 2048) / 128 * 64 + ((j.val - 2048) % 128 - 64))
   else 4144 + (j.val - 2560), by split_ifs <;> omega⟩

set_option maxHeartbeats 2000000 in
/-- The row weights as the region finds them. -/
theorem V_row (c : Dev nD) (k : Fin 1024) (j : Fin 4608) :
    (V m c main_v31 : Vec Ideal S1024x4608 .bf16) (ix2 k j)
      = (m ((c : Thread nD τ).loc main_arg1) : Vec Ideal S1x1024x6192 .f32) (ix3 0 k (rowSrc j)) := by
  unfold V
  simp only [hostOps0, hostOps0_1, hostOps0_2, List.flatten_cons, List.flatten_nil, List.append_nil, List.cons_append, List.nil_append]
  after_reads_at
  rcases Nat.lt_or_ge j.val 512 with h | h
  · rw [dif_pos (by omega)]
    after_reads_at
    refine congrArg (fun z => (m ((c : Thread nD τ).loc main_arg1) : Vec Ideal S1x1024x6192 .f32) (ix3 0 k z)) (Fin.ext ?_)
    simp only [rowSrc]; split_ifs <;> omega
  rw [dif_neg (by omega)]
  rcases Nat.lt_or_ge j.val 1024 with h | h
  · rw [dif_pos (by omega)]
    after_reads_at
    refine congrArg (fun z => (m ((c : Thread nD τ).loc main_arg1) : Vec Ideal S1x1024x6192 .f32) (ix3 0 k z)) (Fin.ext ?_)
    simp only [rowSrc]; split_ifs <;> omega
  rw [dif_neg (by omega)]
  rcases Nat.lt_or_ge j.val 1536 with h | h
  · rw [dif_pos (by omega)]
    after_reads_at
    refine congrArg (fun z => (m ((c : Thread nD τ).loc main_arg1) : Vec Ideal S1x1024x6192 .f32) (ix3 0 k z)) (Fin.ext ?_)
    simp only [rowSrc]; split_ifs <;> omega
  rw [dif_neg (by omega)]
  rcases Nat.lt_or_ge j.val 1792 with h | h
  · rw [dif_pos (by omega)]
    after_reads_at
    refine congrArg (fun z => (m ((c : Thread nD τ).loc main_arg1) : Vec Ideal S1x1024x6192 .f32) (ix3 0 k z)) (Fin.ext ?_)
    simp only [rowSrc]; split_ifs <;> omega
  rw [dif_neg (by omega)]
  rcases Nat.lt_or_ge j.val 2048 with h | h
  · rw [dif_pos (by omega)]
    after_reads_at
    refine congrArg (fun z => (m ((c : Thread nD τ).loc main_arg1) : Vec Ideal S1x1024x6192 .f32) (ix3 0 k z)) (Fin.ext ?_)
    simp only [rowSrc]; split_ifs <;> omega
  rw [dif_neg (by omega)]
  rcases Nat.lt_or_ge j.val 2560 with h | h
  · rw [dif_pos (by omega)]
    after_reads_at
    by_cases h' : (j.val - 2048) % 128 < 64
    · rw [dif_pos (by omega)]
      after_reads_at
      refine congrArg (fun z => (m ((c : Thread nD τ).loc main_arg1) : Vec Ideal S1x1024x6192 .f32) (ix3 0 k z)) (Fin.ext ?_)
      simp only [rowSrc]; split_ifs <;> omega
    rw [dif_neg (by omega)]
    after_reads_at
    refine congrArg (fun z => (m ((c : Thread nD τ).loc main_arg1) : Vec Ideal S1x1024x6192 .f32) (ix3 0 k z)) (Fin.ext ?_)
    simp only [rowSrc]; split_ifs <;> omega
  rw [dif_neg (by omega)]
  rcases Nat.lt_or_ge j.val 3584 with h | h
  · rw [dif_pos (by omega)]
    after_reads_at
    refine congrArg (fun z => (m ((c : Thread nD τ).loc main_arg1) : Vec Ideal S1x1024x6192 .f32) (ix3 0 k z)) (Fin.ext ?_)
    simp only [rowSrc]; split_ifs <;> omega
  rw [dif_neg (by omega)]
  after_reads_at
  refine congrArg (fun z => (m ((c : Thread nD τ).loc main_arg1) : Vec Ideal S1x1024x6192 .f32) (ix3 0 k z)) (Fin.ext ?_)
  simp only [rowSrc]; split_ifs <;> omega

/-- Row `j` of the column weights, as entries of `w_in`: the queries' times their scale, the values', the branch gates'
    in groups of sixteen of which four are zero. -/
def colW (w : Vec Ideal S1x1024x6192 .f32) (j : Fin 1600) (k : Fin 1024) : EReal :=
  if h : j.val < 1024 then w (ix3 0 k ⟨1536 + j.val, by omega⟩) * Ideal.ofBits .f32 0x3E38AA3B#32
  else if h : j.val < 1536 then
    (if (j.val - 1024) % 128 < 64 then w (ix3 0 k ⟨3328 + (j.val - 1024) / 128 * 64 + (j.val - 1024) % 128, by omega⟩)
     else w (ix3 0 k ⟨3840 + (j.val - 1024) / 128 * 64 + ((j.val - 1024) % 128 - 64), by omega⟩))
  else if h : (j.val - 1024 - 512) % 16 < 12 then
    w (ix3 0 k ⟨4096 + ((j.val - 1024 - 512) % 16 / 4 * 16 + (j.val - 1024 - 512) / 16 * 4 + (j.val - 1024 - 512) % 16 % 4), by omega⟩)
  else 0

theorem colW_q (w : Vec Ideal S1x1024x6192 .f32) (j : Fin 1600) (k : Fin 1024) (h : j.val < 1024) :
    colW w j k = w (ix3 0 k ⟨1536 + j.val, by omega⟩) * Ideal.ofBits .f32 0x3E38AA3B#32 := by
  unfold colW; rw [dif_pos h]

theorem colW_vs (w : Vec Ideal S1x1024x6192 .f32) (j : Fin 1600) (k : Fin 1024) (h0 : 1024 ≤ j.val) (h : j.val < 1536)
    (h' : (j.val - 1024) % 128 < 64) :
    colW w j k = w (ix3 0 k ⟨3328 + (j.val - 1024) / 128 * 64 + (j.val - 1024) % 128, by omega⟩) := by
  unfold colW; rw [dif_neg (by omega), dif_pos h, if_pos h']

theorem colW_vw (w : Vec Ideal S1x1024x6192 .f32) (j : Fin 1600) (k : Fin 1024) (h0 : 1024 ≤ j.val) (h : j.val < 1536)
    (h' : ¬ (j.val - 1024) % 128 < 64) :
    colW w j k = w (ix3 0 k ⟨3840 + (j.val - 1024) / 128 * 64 + ((j.val - 1024) % 128 - 64), by omega⟩) := by
  unfold colW; rw [dif_neg (by omega), dif_pos h, if_neg h']

theorem colW_br (w : Vec Ideal S1x1024x6192 .f32) (j : Fin 1600) (k : Fin 1024) (h0 : 1536 ≤ j.val)
    (h : (j.val - 1024 - 512) % 16 < 12) :
    colW w j k = w (ix3 0 k ⟨4096 + ((j.val - 1024 - 512) % 16 / 4 * 16 + (j.val - 1024 - 512) / 16 * 4 + (j.val - 1024 - 512) % 16 % 4), by omega⟩) := by
  unfold colW; rw [dif_neg (by omega), dif_neg (by omega), dif_pos h]

theorem colW_pad (w : Vec Ideal S1x1024x6192 .f32) (j : Fin 1600) (k : Fin 1024) (h0 : 1536 ≤ j.val)
    (h : ¬ (j.val - 1024 - 512) % 16 < 12) : colW w j k = 0 := by
  unfold colW; rw [dif_neg (by omega), dif_neg (by omega), dif_neg h]

theorem sitofp_zero : (FloatOps.sitofp FTy.f32 (0#32 : BitVec 32) : Ideal .f32) = (0 : EReal) := by
  show (((0#32 : BitVec 32).toInt : ℝ) : EReal) = 0
  simp

set_option maxHeartbeats 400000 in
/-- The column weights as the region finds them. -/
theorem V_col (c : Dev nD) (j : Fin 1600) (k : Fin 1024) :
    (V m c main_v33 : Vec Ideal S1600x1024 .bf16) (ix2 j k)
      = colW (m ((c : Thread nD τ).loc main_arg1)) j k := by
  generalize hw : colW (m ((c : Thread nD τ).loc main_arg1)) j k = R
  unfold V
  simp only [hostOps0, hostOps0_1, hostOps0_2, List.flatten_cons, List.flatten_nil, List.append_nil, List.cons_append, List.nil_append]
  after_reads_at
  rcases Nat.lt_or_ge j.val 1024 with h | h
  · rw [dif_pos (by omega)]
    after_reads_at
    rw [← hw, colW_q _ _ _ h]
  rw [dif_neg (by omega)]
  rcases Nat.lt_or_ge j.val 1536 with h1 | h1
  · rw [dif_pos (by omega)]
    after_reads_at
    by_cases h' : (j.val - 1024) % 128 < 64
    · rw [dif_pos (by omega)]
      after_reads_at
      rw [← hw, colW_vs _ _ _ h h1 h']
      exact congrArg (fun z => (m ((c : Thread nD τ).loc main_arg1) : Vec Ideal S1x1024x6192 .f32) (ix3 0 k z)) (Fin.ext (by simp only; omega))
    · rw [dif_neg (by omega)]
      after_reads_at
      rw [← hw, colW_vw _ _ _ h h1 h']
      exact congrArg (fun z => (m ((c : Thread nD τ).loc main_arg1) : Vec Ideal S1x1024x6192 .f32) (ix3 0 k z)) (Fin.ext (by simp only; omega))
  rw [dif_neg (by omega)]
  after_reads_at
  by_cases h' : (j.val - 1024 - 512) % 16 < 12
  · refine Eq.trans (dif_pos (⟨by omega, h'⟩ : (j.val - 1024 - 512) / 16 < 4 ∧ (j.val - 1024 - 512) % 16 < 12)) ?_
    exact (colW_br _ _ _ h1 h').symm.trans hw
  · refine Eq.trans (dif_neg (fun e => h' e.2 : ¬((j.val - 1024 - 512) / 16 < 4 ∧ (j.val - 1024 - 512) % 16 < 12))) ?_
    exact sitofp_zero.trans ((colW_pad _ _ _ h1 h').symm.trans hw)

end Cert.ProjIdeal.Weights
end
-- ==== Proof.ProjBlocks.lean ====
module

public import proofs.«01_k».proof.Proof.Gen.ProjIdeal.Value
public import Idealize.ShloMosaic.Lib.Pointwise

@[expose] public section

set_option maxRecDepth 16384

noncomputable section

namespace Cert.ProjIdeal.Blocks

open Cert.ProjIdeal Cert.ProjIdeal.Gen Idealize.ShloMosaic Idealize.ShloMosaic.TcCoe Idealize.SL.Sem

/-- A block of tokens normalised: entry `k` of token `a`. -/
def nb (x0 : Vec Ideal S512x1024 .f32) (x1 : Vec Ideal S1x1024 .f32) (a : Fin 512) (k : Fin 1024) : EReal :=
  x0 (ix2 a k) * Ideal.rsqrt (Ideal.div (∑ k' : Fin 1024, x0 (ix2 a k') * x0 (ix2 a k')) (Ideal.ofBits FTy.f32 1149239296#32)
    + Ideal.ofBits FTy.f32 897988541#32) * x1 (ix2 0 k)

theorem pay4_at (x0 : Vec Ideal S512x1024 .f32) (x1 : Vec Ideal S1x1024 .f32) (a : Fin 512) (k : Fin 1024) :
    k0_pay4 x0 x1 (ix2 a k) = nb x0 x1 a k := by
  unfold k0_pay4 nb
  pointwise

variable (x0 : Vec Ideal S512x1024 .f32) (x1 : Vec Ideal S1x1024 .f32) (x2 : Vec Ideal S1024x4608 .bf16)
  (x3 : Vec Ideal S1600x1024 .bf16)

/-- Token `a` of the block against column `j` of the row weights. -/
def rowDot (a : Fin 512) (j : Fin 4608) : EReal := ∑ k : Fin 1024, nb x0 x1 a k * x2 (ix2 k j)

/-- Row `j` of the column weights against token `a` of the block. -/
def colDot (j : Fin 1600) (a : Fin 512) : EReal := ∑ k : Fin 1024, x3 (ix2 j k) * nb x0 x1 a k

theorem ld0 : View.ld x0 r0_0 = x0 := View.ld_unit_zero (funext fun a => by fin_cases a <;> rfl) _ _
theorem ld1 : View.ld x1 r0_1 = x1 := View.ld_unit_zero (funext fun a => by fin_cases a <;> rfl) _ _

theorem row_eq (a : Fin 512) (j : Fin 4608) :
    (∑ k : Fin 1024, k0_pay4 x0 x1 (ix2 a k) * x2 (ix2 k j)) = rowDot x0 x1 x2 a j := by
  unfold rowDot
  simp only [pay4_at]

theorem col_eq (j : Fin 1600) (a : Fin 512) :
    (∑ k : Fin 1024, x3 (ix2 j k) * k0_pay4 x0 x1 (ix2 a k)) = colDot x0 x1 x3 j a := by
  unfold colDot
  simp only [pay4_at]

/-- What the body leaves in output window 4: the block's tokens against columns 0 to 1535 of the row weights. -/
def G4 : Vec Ideal S512x1536 .bf16 := fun y => rowDot x0 x1 x2 (y 0) ⟨0 + (y 1).val, by have : (y 1).val < 1536 := (y 1).isLt; omega⟩

theorem out4_at (y : S512x1536.Idx) : out0_4 x0 x1 x2 x3 y = G4 x0 x1 x2 y := by
  unfold_out out0_4
  rw [ld0, ld1]
  refine View.canon_apply_of_pieces (G4 x0 x1 x2) _ ?_ y (cover0_4 _ _ _ y)
  intro pc hpc
  rcases List.mem_cons.mp hpc with rfl | hpc
  · intro x
    obtain ⟨a, b, rfl⟩ : ∃ (a : Fin 512) (b : Fin 512), x = ix2 a b := ⟨x 0, x 1, eq_ix2 x⟩
    unfold k0_pay7
    pointwise
    exact (row_eq x0 x1 x2 a _).trans (congrArg₂ (rowDot x0 x1 x2) (Fin.ext (by show a.val = 0 + 1 * a.val; omega))
      (Fin.ext (by show _ = 0 + (1024 + 1 * b.val); simp only; omega)))
  rcases List.mem_cons.mp hpc with rfl | hpc
  · intro x
    obtain ⟨a, b, rfl⟩ : ∃ (a : Fin 512) (b : Fin 512), x = ix2 a b := ⟨x 0, x 1, eq_ix2 x⟩
    unfold k0_pay6
    pointwise
    exact (row_eq x0 x1 x2 a _).trans (congrArg₂ (rowDot x0 x1 x2) (Fin.ext (by show a.val = 0 + 1 * a.val; omega))
      (Fin.ext (by show _ = 0 + (512 + 1 * b.val); simp only; omega)))
  rcases List.mem_cons.mp hpc with rfl | hpc
  · intro x
    obtain ⟨a, b, rfl⟩ : ∃ (a : Fin 512) (b : Fin 512), x = ix2 a b := ⟨x 0, x 1, eq_ix2 x⟩
    unfold k0_pay5
    pointwise
    exact (row_eq x0 x1 x2 a _).trans (congrArg₂ (rowDot x0 x1 x2) (Fin.ext (by show a.val = 0 + 1 * a.val; omega))
      (Fin.ext (by show _ = 0 + (0 + 1 * b.val); simp only; omega)))
  nomatch hpc

/-- What the body leaves in output window 5: the block's tokens against columns 1536 to 2047 of the row weights. -/
def G5 : Vec Ideal S512x512 .f32 := fun y => rowDot x0 x1 x2 (y 0) ⟨1536 + (y 1).val, by have : (y 1).val < 512 := (y 1).isLt; omega⟩

theorem out5_at (y : S512x512.Idx) : out0_5 x0 x1 x2 x3 y = G5 x0 x1 x2 y := by
  unfold_out out0_5
  rw [ld0, ld1]
  refine View.canon_apply_of_pieces (G5 x0 x1 x2) _ ?_ y (cover0_5 _ y)
  intro pc hpc
  rcases List.mem_cons.mp hpc with rfl | hpc
  · intro x
    obtain ⟨a, b, rfl⟩ : ∃ (a : Fin 512) (b : Fin 512), x = ix2 a b := ⟨x 0, x 1, eq_ix2 x⟩
    unfold k0_pay8
    pointwise
    exact (row_eq x0 x1 x2 a _).trans (congrArg₂ (rowDot x0 x1 x2) (Fin.ext (by show a.val = 0 + 1 * a.val; omega))
      (Fin.ext (by show _ = 1536 + (0 + 1 * b.val); simp only; omega)))
  nomatch hpc

/-- What the body leaves in output window 6: the block's tokens against columns 2048 to 2559 of the row weights. -/
def G6 : Vec Ideal S512x512 .bf16 := fun y => rowDot x0 x1 x2 (y 0) ⟨2048 + (y 1).val, by have : (y 1).val < 512 := (y 1).isLt; omega⟩

theorem out6_at (y : S512x512.Idx) : out0_6 x0 x1 x2 x3 y = G6 x0 x1 x2 y := by
  unfold_out out0_6
  rw [ld0, ld1]
  refine View.canon_apply_of_pieces (G6 x0 x1 x2) _ ?_ y (cover0_6 _ y)
  intro pc hpc
  rcases List.mem_cons.mp hpc with rfl | hpc
  · intro x
    obtain ⟨a, b, rfl⟩ : ∃ (a : Fin 512) (b : Fin 512), x = ix2 a b := ⟨x 0, x 1, eq_ix2 x⟩
    unfold k0_pay9
    pointwise
    exact (row_eq x0 x1 x2 a _).trans (congrArg₂ (rowDot x0 x1 x2) (Fin.ext (by show a.val = 0 + 1 * a.val; omega))
      (Fin.ext (by show _ = 2048 + (0 + 1 * b.val); simp only; omega)))
  nomatch hpc

/-- What the body leaves in output window 7: the block's tokens against columns 2560 to 4607 of the row weights. -/
def G7 : Vec Ideal S512x2048 .bf16 := fun y => rowDot x0 x1 x2 (y 0) ⟨2560 + (y 1).val, by have : (y 1).val < 2048 := (y 1).isLt; omega⟩

theorem out7_at (y : S512x2048.Idx) : out0_7 x0 x1 x2 x3 y = G7 x0 x1 x2 y := by
  unfold_out out0_7
  rw [ld0, ld1]
  refine View.canon_apply_of_pieces (G7 x0 x1 x2) _ ?_ y (cover0_7 _ _ _ _ y)
  intro pc hpc
  rcases List.mem_cons.mp hpc with rfl | hpc
  · intro x
    obtain ⟨a, b, rfl⟩ : ∃ (a : Fin 512) (b : Fin 512), x = ix2 a b := ⟨x 0, x 1, eq_ix2 x⟩
    unfold k0_pay13
    pointwise
    exact (row_eq x0 x1 x2 a _).trans (congrArg₂ (rowDot x0 x1 x2) (Fin.ext (by show a.val = 0 + 1 * a.val; omega))
      (Fin.ext (by show _ = 2560 + (1536 + 1 * b.val); simp only; omega)))
  rcases List.mem_cons.mp hpc with rfl | hpc
  · intro x
    obtain ⟨a, b, rfl⟩ : ∃ (a : Fin 512) (b : Fin 512), x = ix2 a b := ⟨x 0, x 1, eq_ix2 x⟩
    unfold k0_pay12
    pointwise
    exact (row_eq x0 x1 x2 a _).trans (congrArg₂ (rowDot x0 x1 x2) (Fin.ext (by show a.val = 0 + 1 * a.val; omega))
      (Fin.ext (by show _ = 2560 + (1024 + 1 * b.val); simp only; omega)))
  rcases List.mem_cons.mp hpc with rfl | hpc
  · intro x
    obtain ⟨a, b, rfl⟩ : ∃ (a : Fin 512) (b : Fin 512), x = ix2 a b := ⟨x 0, x 1, eq_ix2 x⟩
    unfold k0_pay11
    pointwise
    exact (row_eq x0 x1 x2 a _).trans (congrArg₂ (rowDot x0 x1 x2) (Fin.ext (by show a.val = 0 + 1 * a.val; omega))
      (Fin.ext (by show _ = 2560 + (512 + 1 * b.val); simp only; omega)))
  rcases List.mem_cons.mp hpc with rfl | hpc
  · intro x
    obtain ⟨a, b, rfl⟩ : ∃ (a : Fin 512) (b : Fin 512), x = ix2 a b := ⟨x 0, x 1, eq_ix2 x⟩
    unfold k0_pay10
    pointwise
    exact (row_eq x0 x1 x2 a _).trans (congrArg₂ (rowDot x0 x1 x2) (Fin.ext (by show a.val = 0 + 1 * a.val; omega))
      (Fin.ext (by show _ = 2560 + (0 + 1 * b.val); simp only; omega)))
  nomatch hpc

/-- What the body leaves in output window 8: rows 0 to 1023 of the column weights against the block's tokens, 256 tokens a tile. -/
def G8 : Vec Ideal S2x1024x256 .bf16 := fun y => colDot x0 x1 x3 ⟨0 + (y 1).val, by have : (y 1).val < 1024 := (y 1).isLt; omega⟩
  ⟨(y 0).val * 256 + (y 2).val, by have : (y 0).val < 2 := (y 0).isLt; have : (y 2).val < 256 := (y 2).isLt; omega⟩

theorem out8_at (y : S2x1024x256.Idx) : out0_8 x0 x1 x2 x3 y = G8 x0 x1 x3 y := by
  unfold_out out0_8
  rw [ld0, ld1]
  refine View.canon_apply_of_pieces (G8 x0 x1 x3) _ ?_ y (cover0_8 _ _ _ _ y)
  intro pc hpc
  rcases List.mem_cons.mp hpc with rfl | hpc
  · intro x
    obtain ⟨i, b, a, rfl⟩ : ∃ (i : Fin 1) (b : Fin 512) (a : Fin 256), x = ix3 i b a := ⟨x 0, x 1, x 2, eq_ix3 x⟩
    have hi : i.val < 1 := i.isLt
    unfold k0_pay19 k0_pay17
    pointwise
    exact (col_eq x0 x1 x3 _ _).trans (congrArg₂ (colDot x0 x1 x3)
      (Fin.ext (by show _ = 0 + (512 + 1 * b.val); simp only; omega))
      (Fin.ext (by show _ = (1 + 1 * i.val) * 256 + (0 + 1 * a.val); simp only; omega)))
  rcases List.mem_cons.mp hpc with rfl | hpc
  · intro x
    obtain ⟨i, b, a, rfl⟩ : ∃ (i : Fin 1) (b : Fin 512) (a : Fin 256), x = ix3 i b a := ⟨x 0, x 1, x 2, eq_ix3 x⟩
    have hi : i.val < 1 := i.isLt
    unfold k0_pay18 k0_pay17
    pointwise
    exact (col_eq x0 x1 x3 _ _).trans (congrArg₂ (colDot x0 x1 x3)
      (Fin.ext (by show _ = 0 + (512 + 1 * b.val); simp only; omega))
      (Fin.ext (by show _ = (0 + 1 * i.val) * 256 + (0 + 1 * a.val); simp only; omega)))
  rcases List.mem_cons.mp hpc with rfl | hpc
  · intro x
    obtain ⟨i, b, a, rfl⟩ : ∃ (i : Fin 1) (b : Fin 512) (a : Fin 256), x = ix3 i b a := ⟨x 0, x 1, x 2, eq_ix3 x⟩
    have hi : i.val < 1 := i.isLt
    unfold k0_pay16 k0_pay14
    pointwise
    exact (col_eq x0 x1 x3 _ _).trans (congrArg₂ (colDot x0 x1 x3)
      (Fin.ext (by show _ = 0 + (0 + 1 * b.val); simp only; omega))
      (Fin.ext (by show _ = (1 + 1 * i.val) * 256 + (0 + 1 * a.val); simp only; omega)))
  rcases List.mem_cons.mp hpc with rfl | hpc
  · intro x
    obtain ⟨i, b, a, rfl⟩ : ∃ (i : Fin 1) (b : Fin 512) (a : Fin 256), x = ix3 i b a := ⟨x 0, x 1, x 2, eq_ix3 x⟩
    have hi : i.val < 1 := i.isLt
    unfold k0_pay15 k0_pay14
    pointwise
    exact (col_eq x0 x1 x3 _ _).trans (congrArg₂ (colDot x0 x1 x3)
      (Fin.ext (by show _ = 0 + (0 + 1 * b.val); simp only; omega))
      (Fin.ext (by show _ = (0 + 1 * i.val) * 256 + (0 + 1 * a.val); simp only; omega)))
  nomatch hpc

/-- What the body leaves in output window 9: rows 1024 to 1535 of the column weights against the block's tokens. -/
def G9 : Vec Ideal S512x512 .bf16 := fun y => colDot x0 x1 x3 ⟨1024 + (y 0).val, by have : (y 0).val < 512 := (y 0).isLt; omega⟩ (y 1)

theorem out9_at (y : S512x512.Idx) : out0_9 x0 x1 x2 x3 y = G9 x0 x1 x3 y := by
  unfold_out out0_9
  rw [ld0, ld1]
  refine View.canon_apply_of_pieces (G9 x0 x1 x3) _ ?_ y (cover0_9 _ y)
  intro pc hpc
  rcases List.mem_cons.mp hpc with rfl | hpc
  · intro x
    obtain ⟨b, a, rfl⟩ : ∃ (b : Fin 512) (a : Fin 512), x = ix2 b a := ⟨x 0, x 1, eq_ix2 x⟩
    unfold k0_pay20
    pointwise
    exact (col_eq x0 x1 x3 _ a).trans (congrArg₂ (colDot x0 x1 x3)
      (Fin.ext (by show _ = 1024 + (0 + 1 * b.val); simp only; omega)) (Fin.ext (by show a.val = 0 + 1 * a.val; omega)))
  nomatch hpc

/-- What the body leaves in output window 10: rows 1536 to 1599 of the column weights against the block's tokens, 256 tokens a tile. -/
def G10 : Vec Ideal S2x64x256 .f32 := fun y => colDot x0 x1 x3 ⟨1536 + (y 1).val, by have : (y 1).val < 64 := (y 1).isLt; omega⟩
  ⟨(y 0).val * 256 + (y 2).val, by have : (y 0).val < 2 := (y 0).isLt; have : (y 2).val < 256 := (y 2).isLt; omega⟩

theorem out10_at (y : S2x64x256.Idx) : out0_10 x0 x1 x2 x3 y = G10 x0 x1 x3 y := by
  unfold_out out0_10
  rw [ld0, ld1]
  refine View.canon_apply_of_pieces (G10 x0 x1 x3) _ ?_ y (cover0_10 _ _ y)
  intro pc hpc
  rcases List.mem_cons.mp hpc with rfl | hpc
  · intro x
    obtain ⟨i, b, a, rfl⟩ : ∃ (i : Fin 1) (b : Fin 64) (a : Fin 256), x = ix3 i b a := ⟨x 0, x 1, x 2, eq_ix3 x⟩
    have hi : i.val < 1 := i.isLt
    unfold k0_pay3 k0_pay1
    pointwise
    exact (col_eq x0 x1 x3 _ _).trans (congrArg₂ (colDot x0 x1 x3)
      (Fin.ext (by show _ = 1536 + (0 + 1 * b.val); simp only; omega))
      (Fin.ext (by show _ = (1 + 1 * i.val) * 256 + (0 + 1 * a.val); simp only; omega)))
  rcases List.mem_cons.mp hpc with rfl | hpc
  · intro x
    obtain ⟨i, b, a, rfl⟩ : ∃ (i : Fin 1) (b : Fin 64) (a : Fin 256), x = ix3 i b a := ⟨x 0, x 1, x 2, eq_ix3 x⟩
    have hi : i.val < 1 := i.isLt
    unfold k0_pay2 k0_pay1
    pointwise
    exact (col_eq x0 x1 x3 _ _).trans (congrArg₂ (colDot x0 x1 x3)
      (Fin.ext (by show _ = 1536 + (0 + 1 * b.val); simp only; omega))
      (Fin.ext (by show _ = (0 + 1 * i.val) * 256 + (0 + 1 * a.val); simp only; omega)))
  nomatch hpc

end Cert.ProjIdeal.Blocks
end
-- ==== Proof.ProjArrays.lean ====
module

public import proofs.«01_k».proof.Proof.ProjWeights
public import proofs.«01_k».proof.Proof.ProjBlocks
public import Idealize.ShloMosaic.Lib.Pipeline.ValueKit

@[expose] public section

set_option maxRecDepth 16384

noncomputable section

namespace Cert.ProjIdeal.Arrays

open Cert.ProjIdeal Cert.ProjIdeal.Gen Cert.ProjIdeal.Blocks Cert.ProjIdeal.Weights
open Idealize.ShloMosaic Idealize.ShloMosaic.TcCoe Idealize.SL.Sem
open Idealize.ShloMosaic.Pipeline (Dat)

section Spec

variable (x : Vec Ideal S4x4096x1024 .f32) (w : Vec Ideal S1x1024x6192 .f32) (g : Vec Ideal S1x1024 .f32)

/-- Entry `k` of token `r` after the norm; token `r` is token `r % 4096` of sequence `r / 4096`. -/
def tok (r : Fin 16384) (k : Fin 1024) : EReal :=
  x (ix3 ⟨r.val / 4096, by omega⟩ ⟨r.val % 4096, by omega⟩ k)
    * Ideal.rsqrt (Ideal.div (∑ k' : Fin 1024, x (ix3 ⟨r.val / 4096, by omega⟩ ⟨r.val % 4096, by omega⟩ k')
        * x (ix3 ⟨r.val / 4096, by omega⟩ ⟨r.val % 4096, by omega⟩ k')) (Ideal.ofBits FTy.f32 1149239296#32)
      + Ideal.ofBits FTy.f32 897988541#32) * g (ix2 0 k)

/-- Token `r` projected on column `j` of the row weights. -/
def row (r : Fin 16384) (j : Fin 4608) : EReal := ∑ k : Fin 1024, tok x g r k * w (ix3 0 k (rowSrc j))

/-- Token `r` projected on row `j` of the column weights. -/
def col (j : Fin 1600) (r : Fin 16384) : EReal := ∑ k : Fin 1024, colW w j k * tok x g r k

/-- The seven results as whole arrays. -/
def A4 : Vec Ideal S16384x1536 .bf16 := fun i => row x w g (i 0) ⟨0 + (i 1).val, by have : (i 1).val < 1536 := (i 1).isLt; omega⟩
def A5 : Vec Ideal S16384x512 .f32 := fun i => row x w g (i 0) ⟨1536 + (i 1).val, by have : (i 1).val < 512 := (i 1).isLt; omega⟩
def A6 : Vec Ideal S16384x512 .bf16 := fun i => row x w g (i 0) ⟨2048 + (i 1).val, by have : (i 1).val < 512 := (i 1).isLt; omega⟩
def A7 : Vec Ideal S16384x2048 .bf16 := fun i => row x w g (i 0) ⟨2560 + (i 1).val, by have : (i 1).val < 2048 := (i 1).isLt; omega⟩
def A8 : Vec Ideal S64x1024x256 .bf16 := fun i => col x w g ⟨0 + (i 1).val, by have : (i 1).val < 1024 := (i 1).isLt; omega⟩
  ⟨(i 0).val * 256 + (i 2).val, by have : (i 0).val < 64 := (i 0).isLt; have : (i 2).val < 256 := (i 2).isLt; omega⟩
def A9 : Vec Ideal S512x16384 .bf16 := fun i => col x w g ⟨1024 + (i 0).val, by have : (i 0).val < 512 := (i 0).isLt; omega⟩ (i 1)
def A10 : Vec Ideal S64x64x256 .f32 := fun i => col x w g ⟨1536 + (i 1).val, by have : (i 1).val < 64 := (i 1).isLt; omega⟩
  ⟨(i 0).val * 256 + (i 2).val, by have : (i 0).val < 64 := (i 0).isLt; have : (i 2).val < 256 := (i 2).isLt; omega⟩

end Spec

variable (m : (ℓ : Loc nD τ sig) → Buf (Elt Ideal) ℓ) (c : Dev nD)

abbrev X : Vec Ideal S4x4096x1024 .f32 := m ((c : Thread nD τ).loc main_arg0)
abbrev W : Vec Ideal S1x1024x6192 .f32 := m ((c : Thread nD τ).loc main_arg1)
abbrev G : Vec Ideal S1x1024 .f32 := m ((c : Thread nD τ).loc main_arg2)

theorem pt_lt (t : Fin cfg0.N) : t.val < 32 := N_0 ▸ t.isLt

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0, 0] := (by decide +kernel : ∀ t : Fin grid0.N, _)
theorem e9 : ∀ t : Fin cfg0.N, win0_9.index t = ![0, t.val] := (by decide +kernel : ∀ t : Fin grid0.N, _)
theorem e10 : ∀ t : Fin cfg0.N, win0_10.index t = ![t.val, 0, 0] := (by decide +kernel : ∀ t : Fin grid0.N, _)

theorem blk_x (t : Fin cfg0.N) (a : Fin 512) (k : Fin 1024) :
    (iblk m c 0 t : Vec Ideal S512x1024 .f32) (ix2 a k) = X m c (ix3 ⟨(t.val * 512 + a.val) / 4096, by have := pt_lt t; omega⟩ ⟨(t.val * 512 + a.val) % 4096, by omega⟩ k) := by
  refine Eq.trans ?_ (V_x m c ⟨t.val * 512 + a.val, by have := pt_lt t; omega⟩ k)
  blk_simp [iblk]
  refine congrArg (V m c main_v34 : Vec Ideal S16384x1024 .f32) ?_
  blk_ext [e0]

theorem blk_g (t : Fin cfg0.N) (k : Fin 1024) : (iblk m c 1 t : Vec Ideal S1x1024 .f32) (ix2 0 k) = G m c (ix2 0 k) := by
  refine Eq.trans ?_ (V_g m c k)
  blk_simp [iblk]
  refine congrArg (V m c main_v36 : Vec Ideal S1x1024 .f32) ?_
  blk_ext [e1]

theorem blk_row (t : Fin cfg0.N) (k : Fin 1024) (j : Fin 4608) :
    (iblk m c 2 t : Vec Ideal S1024x4608 .bf16) (ix2 k j) = W m c (ix3 0 k (rowSrc j)) := by
  refine Eq.trans ?_ (V_row m c k j)
  blk_simp [iblk]
  refine congrArg (V m c main_v31 : Vec Ideal S1024x4608 .bf16) ?_
  blk_ext [e2]

theorem blk_col (t : Fin cfg0.N) (j : Fin 1600) (k : Fin 1024) :
    (iblk m c 3 t : Vec Ideal S1600x1024 .bf16) (ix2 j k) = colW (W m c) j k := by
  refine Eq.trans ?_ (V_col m c j k)
  blk_simp [iblk]
  refine congrArg (V m c main_v33 : Vec Ideal S1600x1024 .bf16) ?_
  blk_ext [e3]

theorem nb_tok (t : Fin cfg0.N) (a : Fin 512) (k : Fin 1024) :
    nb (iblk m c 0 t) (iblk m c 1 t) a k = tok (X m c) (G m c) ⟨t.val * 512 + a.val, by have := pt_lt t; omega⟩ k := by
  unfold nb tok
  simp only [blk_x, blk_g]

theorem row_at (t : Fin cfg0.N) (a : Fin 512) (j : Fin 4608) :
    rowDot (iblk m c 0 t) (iblk m c 1 t) (iblk m c 2 t) a j
      = row (X m c) (W m c) (G m c) ⟨t.val * 512 + a.val, by have := pt_lt t; omega⟩ j := by
  unfold rowDot row
  simp only [nb_tok, blk_row]

theorem col_at (t : Fin cfg0.N) (j : Fin 1600) (a : Fin 512) :
    colDot (iblk m c 0 t) (iblk m c 1 t) (iblk m c 3 t) j a
      = col (X m c) (W m c) (G m c) j ⟨t.val * 512 + a.val, by have := pt_lt t; omega⟩ := by
  unfold colDot col
  simp only [nb_tok, blk_col]

theorem final4 : (dats m 0 c).arrAt 4 cfg0.N = A4 (X m c) (W m c) (G m c) := by
  refine (dats m 0 c).arrAt_eq_of_covers 4 _ (by decide +kernel) fun t hf y => ?_
  blk_simp
  rw [after0_4]
  refine (out4_at _ _ _ _ y).trans ((row_at m c t _ _).trans ?_)
  unfold A4
  refine congrArg₂ (row (X m c) (W m c) (G m c)) (Fin.ext ?_) (Fin.ext ?_)
  · blk_simp [e4]
  · blk_simp [e4]

theorem final5 : (dats m 0 c).arrAt 5 cfg0.N = A5 (X m c) (W m c) (G m c) := by
  refine (dats m 0 c).arrAt_eq_of_covers 5 _ (by decide +kernel) fun t hf y => ?_
  blk_simp
  rw [after0_5]
  refine (out5_at _ _ _ _ y).trans ((row_at m c t _ _).trans ?_)
  unfold A5
  refine congrArg₂ (row (X m c) (W m c) (G m c)) (Fin.ext ?_) (Fin.ext ?_)
  · blk_simp [e5]
  · blk_simp [e5]

theorem final6 : (dats m 0 c).arrAt 6 cfg0.N = A6 (X m c) (W m c) (G m c) := by
  refine (dats m 0 c).arrAt_eq_of_covers 6 _ (by decide +kernel) fun t hf y => ?_
  blk_simp
  rw [after0_6]
  refine (out6_at _ _ _ _ y).trans ((row_at m c t _ _).trans ?_)
  unfold A6
  refine congrArg₂ (row (X m c) (W m c) (G m c)) (Fin.ext ?_) (Fin.ext ?_)
  · blk_simp [e6]
  · blk_simp [e6]

theorem final7 : (dats m 0 c).arrAt 7 cfg0.N = A7 (X m c) (W m c) (G m c) := by
  refine (dats m 0 c).arrAt_eq_of_covers 7 _ (by decide +kernel) fun t hf y => ?_
  blk_simp
  rw [after0_7]
  refine (out7_at _ _ _ _ y).trans ((row_at m c t _ _).trans ?_)
  unfold A7
  refine congrArg₂ (row (X m c) (W m c) (G m c)) (Fin.ext ?_) (Fin.ext ?_)
  · blk_simp [e7]
  · blk_simp [e7]

theorem final8 : (dats m 0 c).arrAt 8 cfg0.N = A8 (X m c) (W m c) (G m c) := by
  refine (dats m 0 c).arrAt_eq_of_covers 8 _ (by decide +kernel) fun t hf y => ?_
  blk_simp
  rw [after0_8]
  refine (out8_at _ _ _ _ y).trans ((col_at m c t _ _).trans ?_)
  unfold A8
  refine congrArg₂ (col (X m c) (W m c) (G m c)) (Fin.ext ?_) (Fin.ext ?_)
  · blk_simp [e8]
  · blk_simp [e8]
    simp only
    omega

theorem final9 : (dats m 0 c).arrAt 9 cfg0.N = A9 (X m c) (W m c) (G m c) := by
  refine (dats m 0 c).arrAt_eq_of_covers 9 _ (by decide +kernel) fun t hf y => ?_
  blk_simp
  rw [after0_9]
  refine (out9_at _ _ _ _ y).trans ((col_at m c t _ _).trans ?_)
  unfold A9
  refine congrArg₂ (col (X m c) (W m c) (G m c)) (Fin.ext ?_) (Fin.ext ?_)
  · blk_simp [e9]
  · blk_simp [e9]

theorem final10 : (dats m 0 c).arrAt 10 cfg0.N = A10 (X m c) (W m c) (G m c) := by
  refine (dats m 0 c).arrAt_eq_of_covers 10 _ (by decide +kernel) fun t hf y => ?_
  blk_simp
  rw [after0_10]
  refine (out10_at _ _ _ _ y).trans ((col_at m c t _ _).trans ?_)
  unfold A10
  refine congrArg₂ (col (X m c) (W m c) (G m c)) (Fin.ext ?_) (Fin.ext ?_)
  · blk_simp [e10]
  · blk_simp [e10]
    simp only
    omega

end Cert.ProjIdeal.Arrays
end
-- ==== Proof.ProjRefVal.lean ====
module

public import proofs.«01_k».proof.Proof.Gen.ProjRefIdeal.Read
public import proofs.«01_k».proof.Proof.ProjArrays
public import Idealize.ShloMosaic.Lib.Pointwise

@[expose] public section

set_option maxRecDepth 16384

noncomputable section

namespace Cert.ProjRefIdeal.RefVal

open Cert.ProjRefIdeal Cert.ProjRefIdeal.Gen Cert.ProjRefIdeal.Read Idealize.ShloMosaic Idealize.ShloMosaic.TcCoe Idealize.SL.Sem
open Cert.ProjIdeal.Arrays (tok row col A4 A5 A6 A7 A8 A9 A10)
open Cert.ProjIdeal.Weights (rowSrc colW colW_q colW_vs colW_vw colW_br colW_pad)

variable (x : Vec Ideal S4x4096x1024 .f32) (w : Vec Ideal S1x1024x6192 .f32) (g : Vec Ideal S1x1024 .f32)

/-- Token `r` projected on column `j` of the reference's weights. -/
def prj (r : Fin 16384) (j : Fin 6192) : EReal := ∑ k : Fin 1024, tok x g r k * w (ix3 0 k j)

theorem ref_nrm (b : Fin 4) (s : Fin 4096) (k : Fin 1024) :
    (val_main_v13 (F := Ideal) x g : Vec Ideal S4x4096x1024 .f32) (ix3 b s k)
      = x (ix3 b s k) * Ideal.rsqrt (Ideal.div (∑ k' : Fin 1024, x (ix3 b s k') * x (ix3 b s k')) (Ideal.ofBits FTy.f32 1149239296#32)
        + Ideal.ofBits FTy.f32 897988541#32) * g (ix2 0 k) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise

theorem ref_dot (r : Fin 16384) (j : Fin 6192) :
    (val_main_v16 (F := Ideal) x w g : Vec Ideal S16384x6192 .f32) (ix2 r j) = prj x w g r j := by
  unfold val_main_v16 val_main_v15 val_main_v14 prj tok
  pointwise
  simp only [ref_nrm]

theorem row_prj (r : Fin 16384) (j : Fin 4608) : row x w g r j = prj x w g r (rowSrc j) := rfl

theorem col_prj (r : Fin 16384) (j : Fin 1600) (s : Fin 6192) (h : ∀ k, colW w j k = w (ix3 0 k s)) :
    col x w g j r = prj x w g r s := by
  unfold col prj
  exact Finset.sum_congr rfl fun k _ => by rw [h k, mul_comm]

/-- A nonnegative finite factor goes into a sum of extended reals. -/
theorem sum_scale (c : EReal) (h0 : 0 ≤ c) (h1 : c ≠ ⊤) {n : ℕ} (f : Fin n → EReal) : (∑ k, f k) * c = ∑ k, f k * c := by
  induction n with
  | zero => simp
  | succ n ih => rw [Fin.sum_univ_succ, Fin.sum_univ_succ, EReal.right_distrib_of_nonneg_of_ne_top h0 h1, ih]

/-- The queries' scale is a finite number that is not negative. -/
theorem scale_real : ∃ a : ℝ, 0 ≤ a ∧ Ideal.ofBits .f32 0x3E38AA3B#32 = (a : EReal) := by
  refine ⟨_, ?_, by simp only [Ideal.ofBits, Ideal.ieee]; simp [-EReal.coe_mul]; rfl⟩
  positivity

theorem scale_nonneg : 0 ≤ Ideal.ofBits .f32 0x3E38AA3B#32 := by
  obtain ⟨a, h, e⟩ := scale_real
  rw [e]; exact EReal.coe_nonneg.mpr h

theorem scale_ne_top : Ideal.ofBits .f32 0x3E38AA3B#32 ≠ ⊤ := by
  obtain ⟨a, h, e⟩ := scale_real
  rw [e]; exact EReal.coe_ne_top a

theorem ref_52 : (val_main_v52 (F := Ideal) x w g : Vec Ideal S16384x1536 .bf16) = A4 x w g := by
  funext i
  obtain ⟨r, j, rfl⟩ : ∃ (r : Fin 16384) (j : Fin 1536), i = ix2 r j := ⟨i 0, i 1, eq_ix2 i⟩
  unfold val_main_v52 val_main_v30 val_main_v19 val_main_v18 val_main_v17
  pointwise
  simp only [ref_dot]
  have hj := j.isLt
  refine Eq.trans ?_ (row_prj x w g r ⟨0 + j.val, by omega⟩).symm
  split_ifs <;> refine congrArg (prj x w g r) (Fin.ext ?_) <;> unfold rowSrc <;> simp only <;> split_ifs <;> omega

theorem ref_31 : (val_main_v31 (F := Ideal) x w g : Vec Ideal S16384x512 .f32) = A5 x w g := by
  funext i
  obtain ⟨r, j, rfl⟩ : ∃ (r : Fin 16384) (j : Fin 512), i = ix2 r j := ⟨i 0, i 1, eq_ix2 i⟩
  unfold val_main_v31 val_main_v22 val_main_v21
  pointwise
  simp only [ref_dot]
  have hj := j.isLt
  refine Eq.trans ?_ (row_prj x w g r ⟨1536 + j.val, by omega⟩).symm
  split_ifs <;> refine congrArg (prj x w g r) (Fin.ext ?_) <;> unfold rowSrc <;> simp only <;> split_ifs <;> omega

theorem ref_53 : (val_main_v53 (F := Ideal) x w g : Vec Ideal S16384x512 .bf16) = A6 x w g := by
  funext i
  obtain ⟨r, j, rfl⟩ : ∃ (r : Fin 16384) (j : Fin 512), i = ix2 r j := ⟨i 0, i 1, eq_ix2 i⟩
  unfold val_main_v53 val_main_v35 val_main_v34 val_main_v33 val_main_v32 val_main_v25 val_main_v23
  pointwise
  simp only [ref_dot]
  have hj := j.isLt
  refine Eq.trans ?_ (row_prj x w g r ⟨2048 + j.val, by omega⟩).symm
  split_ifs <;> refine congrArg (prj x w g r) (Fin.ext ?_) <;> unfold rowSrc <;> simp only <;> split_ifs <;> omega

theorem ref_54 : (val_main_v54 (F := Ideal) x w g : Vec Ideal S16384x2048 .bf16) = A7 x w g := by
  funext i
  obtain ⟨r, j, rfl⟩ : ∃ (r : Fin 16384) (j : Fin 2048), i = ix2 r j := ⟨i 0, i 1, eq_ix2 i⟩
  unfold val_main_v54 val_main_v36 val_main_v29 val_main_v28
  pointwise
  simp only [ref_dot]
  have hj := j.isLt
  refine Eq.trans ?_ (row_prj x w g r ⟨2560 + j.val, by omega⟩).symm
  split_ifs <;> refine congrArg (prj x w g r) (Fin.ext ?_) <;> unfold rowSrc <;> simp only <;> split_ifs <;> omega

theorem ref_55 : (val_main_v55 (F := Ideal) x w g : Vec Ideal S64x1024x256 .bf16) = A8 x w g := by
  funext i
  obtain ⟨t, j, s, rfl⟩ : ∃ (t : Fin 64) (j : Fin 1024) (s : Fin 256), i = ix3 t j s := ⟨i 0, i 1, i 2, eq_ix3 i⟩
  unfold val_main_v55 val_main_v40 val_main_v39 val_main_v38 val_main_v37 val_main_v20 val_main_cst_2
  pointwise
  simp only [ref_dot]
  have hj := j.isLt
  refine Eq.trans ?_ (show col x w g ⟨0 + j.val, by omega⟩ ⟨t.val * 256 + s.val, by omega⟩ = _ from rfl)
  unfold prj col
  rw [sum_scale _ scale_nonneg scale_ne_top]
  refine Finset.sum_congr rfl fun k _ => ?_
  rw [colW_q w ⟨0 + j.val, by omega⟩ k (by simp only; omega)]
  simp only [Nat.zero_add]
  rw [mul_assoc, mul_comm]

theorem ref_56 : (val_main_v56 (F := Ideal) x w g : Vec Ideal S512x16384 .bf16) = A9 x w g := by
  funext i
  obtain ⟨j, r, rfl⟩ : ∃ (j : Fin 512) (r : Fin 16384), i = ix2 j r := ⟨i 0, i 1, eq_ix2 i⟩
  unfold val_main_v56 val_main_v45 val_main_v44 val_main_v43 val_main_v42 val_main_v41 val_main_v26 val_main_v24
  pointwise
  simp only [ref_dot]
  have hj := j.isLt
  split_ifs with h
  · refine (col_prj x w g r ⟨1024 + j.val, by omega⟩ _ fun k => ?_).symm
    refine (colW_vs w _ k (by simp only; omega) (by simp only; omega) (by simp only; omega)).trans ?_
    refine congrArg (fun z => w (ix3 0 k z)) (Fin.ext ?_)
    simp only
    omega
  · refine (col_prj x w g r ⟨1024 + j.val, by omega⟩ _ fun k => ?_).symm
    refine (colW_vw w _ k (by simp only; omega) (by simp only; omega) (by simp only; omega)).trans ?_
    refine congrArg (fun z => w (ix3 0 k z)) (Fin.ext ?_)
    simp only
    omega

theorem ref_51 : (val_main_v51 (F := Ideal) x w g : Vec Ideal S64x64x256 .f32) = A10 x w g := by
  funext i
  obtain ⟨t, j, s, rfl⟩ : ∃ (t : Fin 64) (j : Fin 64) (s : Fin 256), i = ix3 t j s := ⟨i 0, i 1, i 2, eq_ix3 i⟩
  unfold val_main_v51 val_main_v50 val_main_v49 val_main_v48 val_main_v47 val_main_v46 val_main_v27 val_main_call0_v0 val_main_c
  pointwise
  simp only [ref_dot]
  have hj := j.isLt
  have hs := s.isLt
  have ht := t.isLt
  split_ifs with h
  · refine (col_prj x w g ⟨t.val * 256 + s.val, by omega⟩ ⟨1536 + j.val, by omega⟩ _ fun k => ?_).symm
    refine (colW_br w _ k (by simp only; omega) (by simp only; omega)).trans ?_
    refine congrArg (fun z => w (ix3 0 k z)) (Fin.ext ?_)
    simp only
    omega
  · refine Eq.trans ?_ (show col x w g ⟨1536 + j.val, by omega⟩ ⟨t.val * 256 + s.val, by omega⟩ = _ from rfl)
    unfold col
    refine Eq.trans ?_ (Finset.sum_eq_zero fun k _ => ?_).symm
    · exact Cert.ProjIdeal.Weights.sitofp_zero
    · rw [colW_pad w _ k (by simp only; omega) (by simp only; omega), zero_mul]

end Cert.ProjRefIdeal.RefVal
end
-- ==== Proof.ProjClaim.lean ====
module

public import proofs.«01_k».proof.Defs
public import proofs.«01_k».proof.Proof.ProjArrays
public import proofs.«01_k».proof.Proof.ProjRefVal
public import proofs.«01_k».proof.Proof.Gen.ProjRefIdeal.Run
public import proofs.«01_k».proof.Proof.Gen.ProjIdeal.Value
public import Idealize.ShloMosaic.Lib.Claim

@[expose] public section

set_option maxRecDepth 16384

noncomputable section

open Idealize.ShloMosaic Idealize.ShloMosaic.TcCoe Idealize.SL.Sem

namespace Cert.ProjIdeal.Arrays

open Cert.ProjIdeal Cert.ProjIdeal.Gen

attribute [local irreducible] A4 A5 A6 A7 A8 A9 A10

/-- A run of the kernel leaves the seven arrays. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37_0) = A4 (m ((c.tc : Thread nD τ).loc main_arg0)) (m ((c.tc : Thread nD τ).loc main_arg1)) (m ((c.tc : Thread nD τ).loc main_arg2))
      ∧ r.2.mem ((c.tc : Thread nD τ).loc main_v37_1) = A5 (m ((c.tc : Thread nD τ).loc main_arg0)) (m ((c.tc : Thread nD τ).loc main_arg1)) (m ((c.tc : Thread nD τ).loc main_arg2))
      ∧ r.2.mem ((c.tc : Thread nD τ).loc main_v37_2) = A6 (m ((c.tc : Thread nD τ).loc main_arg0)) (m ((c.tc : Thread nD τ).loc main_arg1)) (m ((c.tc : Thread nD τ).loc main_arg2))
      ∧ r.2.mem ((c.tc : Thread nD τ).loc main_v37_3) = A7 (m ((c.tc : Thread nD τ).loc main_arg0)) (m ((c.tc : Thread nD τ).loc main_arg1)) (m ((c.tc : Thread nD τ).loc main_arg2))
      ∧ r.2.mem ((c.tc : Thread nD τ).loc main_v37_4) = A8 (m ((c.tc : Thread nD τ).loc main_arg0)) (m ((c.tc : Thread nD τ).loc main_arg1)) (m ((c.tc : Thread nD τ).loc main_arg2))
      ∧ r.2.mem ((c.tc : Thread nD τ).loc main_v37_5) = A9 (m ((c.tc : Thread nD τ).loc main_arg0)) (m ((c.tc : Thread nD τ).loc main_arg1)) (m ((c.tc : Thread nD τ).loc main_arg2))
      ∧ r.2.mem ((c.tc : Thread nD τ).loc main_v37_6) = A10 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, h6, h7, h8, h9⟩ := h c
    exact ⟨(h0).trans (final4 m c),
    (h1).trans (final5 m c),
    (h2).trans (final6 m c),
    (h3).trans (final7 m c),
    (h4).trans (final8 m c),
    (h5).trans (final9 m c),
    (h6).trans (final10 m c),
    h7, h8, h9⟩)
    (Cert.ProjIdeal.Value.run_blocks m ρ)

end Cert.ProjIdeal.Arrays

namespace Cert.ProjRefIdeal.RefVal

open Cert.ProjRefIdeal Cert.ProjRefIdeal.Gen Cert.ProjRefIdeal.Read
open Cert.ProjIdeal.Arrays (A4 A5 A6 A7 A8 A9 A10)

attribute [local irreducible] A4 A5 A6 A7 A8 A9 A10

/-- A run of the reference leaves the same seven arrays. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = A4 (m ((c.tc : Thread nD τ).loc main_arg0)) (m ((c.tc : Thread nD τ).loc main_arg1)) (m ((c.tc : Thread nD τ).loc main_arg2))
      ∧ r.2.mem ((c.tc : Thread nD τ).loc main_v31) = A5 (m ((c.tc : Thread nD τ).loc main_arg0)) (m ((c.tc : Thread nD τ).loc main_arg1)) (m ((c.tc : Thread nD τ).loc main_arg2))
      ∧ r.2.mem ((c.tc : Thread nD τ).loc main_v53) = A6 (m ((c.tc : Thread nD τ).loc main_arg0)) (m ((c.tc : Thread nD τ).loc main_arg1)) (m ((c.tc : Thread nD τ).loc main_arg2))
      ∧ r.2.mem ((c.tc : Thread nD τ).loc main_v54) = A7 (m ((c.tc : Thread nD τ).loc main_arg0)) (m ((c.tc : Thread nD τ).loc main_arg1)) (m ((c.tc : Thread nD τ).loc main_arg2))
      ∧ r.2.mem ((c.tc : Thread nD τ).loc main_v55) = A8 (m ((c.tc : Thread nD τ).loc main_arg0)) (m ((c.tc : Thread nD τ).loc main_arg1)) (m ((c.tc : Thread nD τ).loc main_arg2))
      ∧ r.2.mem ((c.tc : Thread nD τ).loc main_v56) = A9 (m ((c.tc : Thread nD τ).loc main_arg0)) (m ((c.tc : Thread nD τ).loc main_arg1)) (m ((c.tc : Thread nD τ).loc main_arg2))
      ∧ r.2.mem ((c.tc : Thread nD τ).loc main_v51) = A10 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, h6, h7, h8, h9⟩ := h c
    exact ⟨(h0).trans ((val_main_v52_eq (F := Ideal) _ _ _).trans (ref_52 _ _ _)),
    (h1).trans ((val_main_v31_eq (F := Ideal) _ _ _).trans (ref_31 _ _ _)),
    (h2).trans ((val_main_v53_eq (F := Ideal) _ _ _).trans (ref_53 _ _ _)),
    (h3).trans ((val_main_v54_eq (F := Ideal) _ _ _).trans (ref_54 _ _ _)),
    (h4).trans ((val_main_v55_eq (F := Ideal) _ _ _).trans (ref_55 _ _ _)),
    (h5).trans ((val_main_v56_eq (F := Ideal) _ _ _).trans (ref_56 _ _ _)),
    (h6).trans ((val_main_v51_eq (F := Ideal) _ _ _).trans (ref_51 _ _ _)),
    h7, h8, h9⟩)
    (Cert.ProjRefIdeal.Value.run m ρ)

end Cert.ProjRefIdeal.RefVal

namespace Cert.Proof.ProjClaim

open Cert Cert.ProjIdeal.Arrays

attribute [local irreducible] A4 A5 A6 A7 A8 A9 A10

/-- The projections' seven results are the reference's. -/
theorem algebraic : Cert.algebraic_ProjIdeal_ProjRefIdeal := by
  pair_intro
  · run_from Cert.ProjIdeal.Arrays.run_arrays m g
  · run_from Cert.ProjRefIdeal.RefVal.run_arrays m' g'
    all_goals rw [(hagree c).1, (hagree c).2.1, (hagree c).2.2]

end Cert.Proof.ProjClaim
end
-- ==== Proof.MergeRow.lean ====
module

public import Idealize.ShloMosaic.Lib.Pointwise

@[expose] public section

set_option maxRecDepth 16384

noncomputable section

namespace Cert.Proof.MergeRow

open Idealize.ShloMosaic

/-- The root mean square norm of a row with a gain. -/
def normed (h g : Fin 1024 → EReal) (d : Fin 1024) : EReal :=
  h d * Ideal.rsqrt (Ideal.div (∑ k : Fin 1024, h k * h k) (Ideal.ofBits FTy.f32 1149239296#32)
    + Ideal.ofBits FTy.f32 897988541#32) * g d

/-- The two branches, projected, gated and added: `y` is the convolution branch's row, `o` the attention's, `z` the two gates' logits. -/
def mix (y : Fin 512 → EReal) (o : Fin 1024 → EReal) (z : Fin 2048 → EReal) (wc : Fin 512 → Fin 1024 → EReal)
    (wa : Fin 1024 → Fin 1024 → EReal) (k : Fin 1024) : EReal :=
  Ideal.logistic (z ⟨k.val, by omega⟩) * (∑ j : Fin 512, y j * wc j k)
    + Ideal.logistic (z ⟨1024 + k.val, by omega⟩) * (∑ j : Fin 1024, o j * wa j k)

/-- The row after the mixed branches' projection is added. -/
def res (x : Fin 1024 → EReal) (mx : Fin 1024 → EReal) (wo : Fin 1024 → Fin 1024 → EReal) (d : Fin 1024) : EReal :=
  x d + ∑ k : Fin 1024, mx k * wo k d

/-- The feed-forward's gated activation of a normed row. -/
def act (n : Fin 1024 → EReal) (wg wu : Fin 1024 → Fin 2816 → EReal) (j : Fin 2816) : EReal :=
  (∑ k : Fin 1024, n k * wg k j) * Ideal.logistic (∑ k : Fin 1024, n k * wg k j) * (∑ k : Fin 1024, n k * wu k j)

/-- The row after the feed-forward is added. -/
def ffn (h : Fin 1024 → EReal) (av : Fin 2816 → EReal) (wd : Fin 2816 → Fin 1024 → EReal) (d : Fin 1024) : EReal :=
  h d + ∑ j : Fin 2816, av j * wd j d

/-- The whole row: branches merged and projected, norm, feed-forward, last norm. -/
def out (h gf gl : Fin 1024 → EReal) (wg wu : Fin 1024 → Fin 2816 → EReal) (wd : Fin 2816 → Fin 1024 → EReal) : Fin 1024 → EReal :=
  normed (ffn h (act (normed h gf) wg wu) wd) gl

section Conv

variable (B : Fin 16384 → Fin 1536 → EReal) (cw : Fin 3 → Fin 512 → EReal)

/-- The convolution's input: the second group of columns times the third. -/
def u (r : Fin 16384) (j : Fin 512) : EReal := B r ⟨512 + j.val, by omega⟩ * B r ⟨1024 + j.val, by omega⟩

/-- The convolution's input `d` tokens back, zero before the sequence's start. -/
def back (d : ℕ) (r : Fin 16384) (j : Fin 512) : EReal := if r.val % 4096 < d then 0 else u B ⟨r.val - d, by omega⟩ j

/-- The convolution branch's row before its projection. -/
def conv (r : Fin 16384) (j : Fin 512) : EReal :=
  B r ⟨j.val, by omega⟩ * (back B 2 r j * cw 0 j + back B 1 r j * cw 1 j + u B r j * cw 2 j)

end Conv

end Cert.Proof.MergeRow
end
-- ==== Proof.MergeBlocks.lean ====
module

public import proofs.«01_k».proof.Proof.Gen.MergeIdeal.Value
public import proofs.«01_k».proof.Proof.MergeRow
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeIdeal.Blocks

open Cert.MergeIdeal Cert.MergeIdeal.Gen Idealize.ShloMosaic Idealize.ShloMosaic.TcCoe Idealize.SL.Sem
open Cert.Proof.MergeRow

theorem pay12_at (x : Vec Ideal S512x1024 .f32) (mx : FVec Ideal S512x1024 .bf16) (wo : Vec Ideal S1024x1024 .bf16) (a : Fin 512) (d : Fin 1024) :
    k0_pay12 (k0_pay10 x) mx wo (ix2 a d) = res (fun k => x (ix2 a k)) (fun k => mx (ix2 a k)) (fun k d => wo (ix2 k d)) d := by
  unfold k0_pay12 k0_pay10 res
  pointwise

theorem pay13_at (x : Vec Ideal S512x1024 .f32) (mx : FVec Ideal S512x1024 .bf16) (wo : Vec Ideal S1024x1024 .bf16) (g : Vec Ideal S1x1024 .f32)
    (a : Fin 512) (d : Fin 1024) :
    k0_pay13 x mx wo g (ix2 a d) = normed (fun k => k0_pay12 x mx wo (ix2 a k)) (fun k => g (ix2 0 k)) d := by
  unfold k0_pay13 normed
  pointwise

theorem pay29_at (h : FVec Ideal S512x1024 .f32) (av : Vec Ideal S512x2816 .bf16) (wd : Vec Ideal S2816x1024 .bf16) (g : Vec Ideal S1x1024 .f32)
    (a : Fin 512) (d : Fin 1024) :
    k0_pay29 h av wd g (ix2 a d) = normed (ffn (fun k => h (ix2 a k)) (fun j => av (ix2 a j)) (fun j d => wd (ix2 j d))) (fun k => g (ix2 0 k)) d := by
  unfold k0_pay29 normed ffn
  pointwise

/-- The activations of a block of normed tokens. -/
def actG (n : FVec Ideal S512x1024 .bf16) (wg wu : Vec Ideal S1024x2816 .bf16) : Vec Ideal S512x2816 .bf16 := fun y =>
  act (fun k => n (ix2 (y 0) k)) (fun k j => wg (ix2 k j)) (fun k j => wu (ix2 k j)) (y 1)

section Chunks

variable (x : FVec Ideal S512x1024 .f32) (mx : FVec Ideal S512x1024 .bf16) (wo : Vec Ideal S1024x1024 .bf16) (g : Vec Ideal S1x1024 .f32)
  (n : FVec Ideal S512x1024 .bf16) (wg wu : Vec Ideal S1024x2816 .bf16)

theorem chunk0 (y : (Rect.unit (s := S512x2816) ![0, 0] ![512, 256] inb_S512x2816_S512x256_0_0).shape.Idx) : (k0_pay14 x mx wo g (View.ld wg (Rect.unit ![0, 0] ![1024, 256] inb_S1024x2816_S1024x256_0_0)) (View.ld wu (Rect.unit ![0, 0] ![1024, 256] inb_S1024x2816_S1024x256_0_0)) : FVec Ideal S512x256 .bf16) y = actG (k0_pay13 x mx wo g) wg wu ((Rect.unit (s := S512x2816) ![0, 0] ![512, 256] inb_S512x2816_S512x256_0_0).emb y) := by
  obtain ⟨a, b, rfl⟩ : ∃ (a : Fin 512) (b : Fin 256), y = ix2 a b := ⟨y 0, y 1, eq_ix2 y⟩
  refine Eq.trans (b := act (fun k => (k0_pay13 x mx wo g) (ix2 a k)) (fun k j => wg (ix2 k j)) (fun k j => wu (ix2 k j)) ⟨0 + b.val, by omega⟩) ?_ ?_
  · unfold k0_pay14 act
    pointwise
  · unfold actG
    refine congrArg₂ (fun a j => act (fun k => (k0_pay13 x mx wo g) (ix2 a k)) (fun k j => wg (ix2 k j)) (fun k j => wu (ix2 k j)) j) (Fin.ext ?_) (Fin.ext ?_)
    · show a.val = 0 + 1 * a.val; omega
    · show 0 + b.val = 0 + 1 * b.val; omega

theorem chunk256 (y : (Rect.unit (s := S512x2816) ![0, 256] ![512, 256] inb_S512x2816_S512x256_0_256).shape.Idx) : (k0_pay17 (k0_pay13 x mx wo g) (k0_pay15 x mx wo g (View.ld wg (Rect.unit ![0, 256] ![1024, 256] inb_S1024x2816_S1024x256_0_256))) (k0_pay16 (View.ld wu (Rect.unit ![0, 256] ![1024, 256] inb_S1024x2816_S1024x256_0_256))) : FVec Ideal S512x256 .bf16) y = actG (k0_pay13 x mx wo g) wg wu ((Rect.unit (s := S512x2816) ![0, 256] ![512, 256] inb_S512x2816_S512x256_0_256).emb y) := by
  obtain ⟨a, b, rfl⟩ : ∃ (a : Fin 512) (b : Fin 256), y = ix2 a b := ⟨y 0, y 1, eq_ix2 y⟩
  refine Eq.trans (b := act (fun k => (k0_pay13 x mx wo g) (ix2 a k)) (fun k j => wg (ix2 k j)) (fun k j => wu (ix2 k j)) ⟨256 + b.val, by omega⟩) ?_ ?_
  · unfold k0_pay17 k0_pay15 k0_pay16 act
    pointwise
  · unfold actG
    refine congrArg₂ (fun a j => act (fun k => (k0_pay13 x mx wo g) (ix2 a k)) (fun k j => wg (ix2 k j)) (fun k j => wu (ix2 k j)) j) (Fin.ext ?_) (Fin.ext ?_)
    · show a.val = 0 + 1 * a.val; omega
    · show 256 + b.val = 256 + 1 * b.val; omega

theorem chunk512 (y : (Rect.unit (s := S512x2816) ![0, 512] ![512, 256] inb_S512x2816_S512x256_0_512).shape.Idx) : (k0_pay18 n (View.ld wg (Rect.unit ![0, 512] ![1024, 256] inb_S1024x2816_S1024x256_0_512)) (View.ld wu (Rect.unit ![0, 512] ![1024, 256] inb_S1024x2816_S1024x256_0_512)) : FVec Ideal S512x256 .bf16) y = actG n wg wu ((Rect.unit (s := S512x2816) ![0, 512] ![512, 256] inb_S512x2816_S512x256_0_512).emb y) := by
  obtain ⟨a, b, rfl⟩ : ∃ (a : Fin 512) (b : Fin 256), y = ix2 a b := ⟨y 0, y 1, eq_ix2 y⟩
  refine Eq.trans (b := act (fun k => n (ix2 a k)) (fun k j => wg (ix2 k j)) (fun k j => wu (ix2 k j)) ⟨512 + b.val, by omega⟩) ?_ ?_
  · unfold k0_pay18 act
    pointwise
  · unfold actG
    refine congrArg₂ (fun a j => act (fun k => n (ix2 a k)) (fun k j => wg (ix2 k j)) (fun k j => wu (ix2 k j)) j) (Fin.ext ?_) (Fin.ext ?_)
    · show a.val = 0 + 1 * a.val; omega
    · show 512 + b.val = 512 + 1 * b.val; omega

theorem chunk768 (y : (Rect.unit (s := S512x2816) ![0, 768] ![512, 256] inb_S512x2816_S512x256_0_768).shape.Idx) : (k0_pay19 n (View.ld wg (Rect.unit ![0, 768] ![1024, 256] inb_S1024x2816_S1024x256_0_768)) (View.ld wu (Rect.unit ![0, 768] ![1024, 256] inb_S1024x2816_S1024x256_0_768)) : FVec Ideal S512x256 .bf16) y = actG n wg wu ((Rect.unit (s := S512x2816) ![0, 768] ![512, 256] inb_S512x2816_S512x256_0_768).emb y) := by
  obtain ⟨a, b, rfl⟩ : ∃ (a : Fin 512) (b : Fin 256), y = ix2 a b := ⟨y 0, y 1, eq_ix2 y⟩
  refine Eq.trans (b := act (fun k => n (ix2 a k)) (fun k j => wg (ix2 k j)) (fun k j => wu (ix2 k j)) ⟨768 + b.val, by omega⟩) ?_ ?_
  · unfold k0_pay19 act
    pointwise
  · unfold actG
    refine congrArg₂ (fun a j => act (fun k => n (ix2 a k)) (fun k j => wg (ix2 k j)) (fun k j => wu (ix2 k j)) j) (Fin.ext ?_) (Fin.ext ?_)
    · show a.val = 0 + 1 * a.val; omega
    · show 768 + b.val = 768 + 1 * b.val; omega

theorem chunk1024 (y : (Rect.unit (s := S512x2816) ![0, 1024] ![512, 256] inb_S512x2816_S512x256_0_1024).shape.Idx) : (k0_pay21 n (k0_pay20 n (View.ld wg (Rect.unit ![0, 1024] ![1024, 256] inb_S1024x2816_S1024x256_0_1024))) (View.ld wu (Rect.unit ![0, 1024] ![1024, 256] inb_S1024x2816_S1024x256_0_1024)) : FVec Ideal S512x256 .bf16) y = actG n wg wu ((Rect.unit (s := S512x2816) ![0, 1024] ![512, 256] inb_S512x2816_S512x256_0_1024).emb y) := by
  obtain ⟨a, b, rfl⟩ : ∃ (a : Fin 512) (b : Fin 256), y = ix2 a b := ⟨y 0, y 1, eq_ix2 y⟩
  refine Eq.trans (b := act (fun k => n (ix2 a k)) (fun k j => wg (ix2 k j)) (fun k j => wu (ix2 k j)) ⟨1024 + b.val, by omega⟩) ?_ ?_
  · unfold k0_pay21 k0_pay20 act
    pointwise
  · unfold actG
    refine congrArg₂ (fun a j => act (fun k => n (ix2 a k)) (fun k j => wg (ix2 k j)) (fun k j => wu (ix2 k j)) j) (Fin.ext ?_) (Fin.ext ?_)
    · show a.val = 0 + 1 * a.val; omega
    · show 1024 + b.val = 1024 + 1 * b.val; omega

theorem chunk1280 (y : (Rect.unit (s := S512x2816) ![0, 1280] ![512, 256] inb_S512x2816_S512x256_0_1280).shape.Idx) : (k0_pay22 n (View.ld wg (Rect.unit ![0, 1280] ![1024, 256] inb_S1024x2816_S1024x256_0_1280)) (View.ld wu (Rect.unit ![0, 1280] ![1024, 256] inb_S1024x2816_S1024x256_0_1280)) : FVec Ideal S512x256 .bf16) y = actG n wg wu ((Rect.unit (s := S512x2816) ![0, 1280] ![512, 256] inb_S512x2816_S512x256_0_1280).emb y) := by
  obtain ⟨a, b, rfl⟩ : ∃ (a : Fin 512) (b : Fin 256), y = ix2 a b := ⟨y 0, y 1, eq_ix2 y⟩
  refine Eq.trans (b := act (fun k => n (ix2 a k)) (fun k j => wg (ix2 k j)) (fun k j => wu (ix2 k j)) ⟨1280 + b.val, by omega⟩) ?_ ?_
  · unfold k0_pay22 act
    pointwise
  · unfold actG
    refine congrArg₂ (fun a j => act (fun k => n (ix2 a k)) (fun k j => wg (ix2 k j)) (fun k j => wu (ix2 k j)) j) (Fin.ext ?_) (Fin.ext ?_)
    · show a.val = 0 + 1 * a.val; omega
    · show 1280 + b.val = 1280 + 1 * b.val; omega

theorem chunk1536 (y : (Rect.unit (s := S512x2816) ![0, 1536] ![512, 256] inb_S512x2816_S512x256_0_1536).shape.Idx) : (k0_pay23 n (View.ld wg (Rect.unit ![0, 1536] ![1024, 256] inb_S1024x2816_S1024x256_0_1536)) (View.ld wu (Rect.unit ![0, 1536] ![1024, 256] inb_S1024x2816_S1024x256_0_1536)) : FVec Ideal S512x256 .bf16) y = actG n wg wu ((Rect.unit (s := S512x2816) ![0, 1536] ![512, 256] inb_S512x2816_S512x256_0_1536).emb y) := by
  obtain ⟨a, b, rfl⟩ : ∃ (a : Fin 512) (b : Fin 256), y = ix2 a b := ⟨y 0, y 1, eq_ix2 y⟩
  refine Eq.trans (b := act (fun k => n (ix2 a k)) (fun k j => wg (ix2 k j)) (fun k j => wu (ix2 k j)) ⟨1536 + b.val, by omega⟩) ?_ ?_
  · unfold k0_pay23 act
    pointwise
  · unfold actG
    refine congrArg₂ (fun a j => act (fun k => n (ix2 a k)) (fun k j => wg (ix2 k j)) (fun k j => wu (ix2 k j)) j) (Fin.ext ?_) (Fin.ext ?_)
    · show a.val = 0 + 1 * a.val; omega
    · show 1536 + b.val = 1536 + 1 * b.val; omega

theorem chunk1792 (y : (Rect.unit (s := S512x2816) ![0, 1792] ![512, 256] inb_S512x2816_S512x256_0_1792).shape.Idx) : (k0_pay24 n (View.ld wg (Rect.unit ![0, 1792] ![1024, 256] inb_S1024x2816_S1024x256_0_1792)) (View.ld wu (Rect.unit ![0, 1792] ![1024, 256] inb_S1024x2816_S1024x256_0_1792)) : FVec Ideal S512x256 .bf16) y = actG n wg wu ((Rect.unit (s := S512x2816) ![0, 1792] ![512, 256] inb_S512x2816_S512x256_0_1792).emb y) := by
  obtain ⟨a, b, rfl⟩ : ∃ (a : Fin 512) (b : Fin 256), y = ix2 a b := ⟨y 0, y 1, eq_ix2 y⟩
  refine Eq.trans (b := act (fun k => n (ix2 a k)) (fun k j => wg (ix2 k j)) (fun k j => wu (ix2 k j)) ⟨1792 + b.val, by omega⟩) ?_ ?_
  · unfold k0_pay24 act
    pointwise
  · unfold actG
    refine congrArg₂ (fun a j => act (fun k => n (ix2 a k)) (fun k j => wg (ix2 k j)) (fun k j => wu (ix2 k j)) j) (Fin.ext ?_) (Fin.ext ?_)
    · show a.val = 0 + 1 * a.val; omega
    · show 1792 + b.val = 1792 + 1 * b.val; omega

theorem chunk2048 (y : (Rect.unit (s := S512x2816) ![0, 2048] ![512, 256] inb_S512x2816_S512x256_0_2048).shape.Idx) : (k0_pay25 n (View.ld wg (Rect.unit ![0, 2048] ![1024, 256] inb_S1024x2816_S1024x256_0_2048)) (View.ld wu (Rect.unit ![0, 2048] ![1024, 256] inb_S1024x2816_S1024x256_0_2048)) : FVec Ideal S512x256 .bf16) y = actG n wg wu ((Rect.unit (s := S512x2816) ![0, 2048] ![512, 256] inb_S512x2816_S512x256_0_2048).emb y) := by
  obtain ⟨a, b, rfl⟩ : ∃ (a : Fin 512) (b : Fin 256), y = ix2 a b := ⟨y 0, y 1, eq_ix2 y⟩
  refine Eq.trans (b := act (fun k => n (ix2 a k)) (fun k j => wg (ix2 k j)) (fun k j => wu (ix2 k j)) ⟨2048 + b.val, by omega⟩) ?_ ?_
  · unfold k0_pay25 act
    pointwise
  · unfold actG
    refine congrArg₂ (fun a j => act (fun k => n (ix2 a k)) (fun k j => wg (ix2 k j)) (fun k j => wu (ix2 k j)) j) (Fin.ext ?_) (Fin.ext ?_)
    · show a.val = 0 + 1 * a.val; omega
    · show 2048 + b.val = 2048 + 1 * b.val; omega

theorem chunk2304 (y : (Rect.unit (s := S512x2816) ![0, 2304] ![512, 256] inb_S512x2816_S512x256_0_2304).shape.Idx) : (k0_pay27 (k0_pay26 n (View.ld wg (Rect.unit ![0, 2304] ![1024, 256] inb_S1024x2816_S1024x256_0_2304)) (View.ld wu (Rect.unit ![0, 2304] ![1024, 256] inb_S1024x2816_S1024x256_0_2304))) : FVec Ideal S512x256 .bf16) y = actG n wg wu ((Rect.unit (s := S512x2816) ![0, 2304] ![512, 256] inb_S512x2816_S512x256_0_2304).emb y) := by
  obtain ⟨a, b, rfl⟩ : ∃ (a : Fin 512) (b : Fin 256), y = ix2 a b := ⟨y 0, y 1, eq_ix2 y⟩
  refine Eq.trans (b := act (fun k => n (ix2 a k)) (fun k j => wg (ix2 k j)) (fun k j => wu (ix2 k j)) ⟨2304 + b.val, by omega⟩) ?_ ?_
  · unfold k0_pay27 k0_pay26 act
    pointwise
  · unfold actG
    refine congrArg₂ (fun a j => act (fun k => n (ix2 a k)) (fun k j => wg (ix2 k j)) (fun k j => wu (ix2 k j)) j) (Fin.ext ?_) (Fin.ext ?_)
    · show a.val = 0 + 1 * a.val; omega
    · show 2304 + b.val = 2304 + 1 * b.val; omega

theorem chunk2560 (y : (Rect.unit (s := S512x2816) ![0, 2560] ![512, 256] inb_S512x2816_S512x256_0_2560).shape.Idx) : (k0_pay28 n (View.ld wg (Rect.unit ![0, 2560] ![1024, 256] inb_S1024x2816_S1024x256_0_2560)) (View.ld wu (Rect.unit ![0, 2560] ![1024, 256] inb_S1024x2816_S1024x256_0_2560)) : FVec Ideal S512x256 .bf16) y = actG n wg wu ((Rect.unit (s := S512x2816) ![0, 2560] ![512, 256] inb_S512x2816_S512x256_0_2560).emb y) := by
  obtain ⟨a, b, rfl⟩ : ∃ (a : Fin 512) (b : Fin 256), y = ix2 a b := ⟨y 0, y 1, eq_ix2 y⟩
  refine Eq.trans (b := act (fun k => n (ix2 a k)) (fun k j => wg (ix2 k j)) (fun k j => wu (ix2 k j)) ⟨2560 + b.val, by omega⟩) ?_ ?_
  · unfold k0_pay28 act
    pointwise
  · unfold actG
    refine congrArg₂ (fun a j => act (fun k => n (ix2 a k)) (fun k j => wg (ix2 k j)) (fun k j => wu (ix2 k j)) j) (Fin.ext ?_) (Fin.ext ?_)
    · show a.val = 0 + 1 * a.val; omega
    · show 2560 + b.val = 2560 + 1 * b.val; omega

end Chunks

variable (m : (ℓ : Loc nD τ sig) → Buf (Elt Ideal) ℓ) (c : Dev nD)

/-- The mixed branches of block `t`. -/
abbrev mixB (t : Fin cfg0.N) : FVec Ideal S512x1024 .bf16 :=
  k0_pay11 (k0_pay2 (iblk m c 1 t)) (k0_pay3 (iblk m c 1 t))
    (k0_pay5 (grid0.coords t) (iblk m c 1 t) (iblk m c 2 t)) k0_pay6 (k0_pay7 (grid0.coords t) (iblk m c 2 t))
    k0_pay8 (k0_pay9 (grid0.coords t) (iblk m c 2 t)) (2#32) (iblk m c 5 t) (iblk m c 7 t) (iblk m c 0 t)
    (iblk m c 6 t) (iblk m c 3 t)

/-- The normed tokens of block `t`. -/
abbrev nB (t : Fin cfg0.N) : FVec Ideal S512x1024 .bf16 := k0_pay13 (k0_pay10 (iblk m c 4 t)) (mixB m c t) (iblk m c 8 t) (iblk m c 9 t)

/-- The body's output block: the last norm of the feed-forward added to the residual. -/
theorem out_open (t : Fin cfg0.N) (y : S512x1024.Idx) :
    outsAt0 m c t y = k0_pay29 (k0_pay12 (k0_pay10 (iblk m c 4 t)) (mixB m c t) (iblk m c 8 t))
      (actG (nB m c t) (iblk m c 11 t) (iblk m c 12 t)) (iblk m c 13 t) (iblk m c 10 t) y := by
  unfold outsAt0
  frame_out
  refine congrArg (fun z => k0_pay29 (k0_pay12 (k0_pay10 (iblk m c 4 t)) (mixB m c t) (iblk m c 8 t)) z (iblk m c 13 t) (iblk m c 10 t) y) ?_
  rw [View.readCov_eq_canon']
  funext z
  refine (View.canon_apply_of_pieces (actG (nB m c t) (iblk m c 11 t) (iblk m c 12 t)) _ ?_ _
    ?_).trans ?_
  · intro pc hpc
    simp only [List.mem_cons, List.not_mem_nil, or_false] at hpc
    rcases hpc with rfl | rfl | rfl | rfl | rfl | rfl | rfl | rfl | rfl | rfl | rfl
    · exact fun x => chunk2560 (nB m c t) _ _ x
    · exact fun x => chunk2304 (nB m c t) _ _ x
    · exact fun x => chunk2048 (nB m c t) _ _ x
    · exact fun x => chunk1792 (nB m c t) _ _ x
    · exact fun x => chunk1536 (nB m c t) _ _ x
    · exact fun x => chunk1280 (nB m c t) _ _ x
    · exact fun x => chunk1024 (nB m c t) _ _ x
    · exact fun x => chunk768 (nB m c t) _ _ x
    · exact fun x => chunk512 (nB m c t) _ _ x
    · exact fun x => chunk256 (k0_pay10 (iblk m c 4 t)) (mixB m c t) (iblk m c 8 t) (iblk m c 9 t) _ _ x
    · exact fun x => chunk0 (k0_pay10 (iblk m c 4 t)) (mixB m c t) (iblk m c 8 t) (iblk m c 9 t) _ _ x
  · refine View.cover_of_tiled (s := S512x2816) _ ![512, 256] ?_ _
    rfl
  · refine congrArg (actG (nB m c t) (iblk m c 11 t) (iblk m c 12 t)) ?_
    funext a
    refine Fin.ext ?_
    fin_cases a <;> simp

end Cert.MergeIdeal.Blocks
end
-- ==== Proof.MergeConv.lean ====
module

public import proofs.«01_k».proof.Proof.Gen.MergeIdeal.Value
public import proofs.«01_k».proof.Proof.MergeRow
public import Idealize.ShloMosaic.Lib.Pointwise

@[expose] public section

set_option maxRecDepth 16384
set_option backward.proofsInPublic true

noncomputable section

namespace Cert.MergeIdeal.Conv

open Cert.MergeIdeal Cert.MergeIdeal.Gen Idealize.ShloMosaic Idealize.ShloMosaic.TcCoe Idealize.SL.Sem
open Cert.Proof.MergeRow

/-- The kernel's test of a sequence's first block, on the grid's 32 points. -/
theorem first_chain : ∀ n : Fin 32,
    Scalar.cmpi CmpIPredicate.eq
        (Scalar.select
          (Scalar.andi
            (Scalar.xori
              (Scalar.cmpi CmpIPredicate.slt
                (Scalar.remsi (Scalar.muli (BitVec.ofNat 32 n.val) 512#32)
                  (Scalar.select (Scalar.cmpi CmpIPredicate.eq 4096#32 0#32) 1#32 4096#32))
                0#32)
              (Scalar.cmpi CmpIPredicate.slt (Scalar.select (Scalar.cmpi CmpIPredicate.eq 4096#32 0#32) 1#32 4096#32)
                0#32))
            (Scalar.cmpi CmpIPredicate.ne
              (Scalar.remsi (Scalar.muli (BitVec.ofNat 32 n.val) 512#32)
                (Scalar.select (Scalar.cmpi CmpIPredicate.eq 4096#32 0#32) 1#32 4096#32))
              0#32))
          (Scalar.addi
            (Scalar.remsi (Scalar.muli (BitVec.ofNat 32 n.val) 512#32)
              (Scalar.select (Scalar.cmpi CmpIPredicate.eq 4096#32 0#32) 1#32 4096#32))
            (Scalar.select (Scalar.cmpi CmpIPredicate.eq 4096#32 0#32) 1#32 4096#32))
          (Scalar.remsi (Scalar.muli (BitVec.ofNat 32 n.val) 512#32)
            (Scalar.select (Scalar.cmpi CmpIPredicate.eq 4096#32 0#32) 1#32 4096#32)))
        0#32 = if n.val % 8 = 0 then 1#1 else 0#1 := by
  decide +kernel

theorem is0 : ∀ a : Fin 512, IntOp.cmpi CmpIPredicate.eq (BitVec.ofNat 32 a.val) 0#32 = if a.val = 0 then 1#1 else 0#1 := by decide +kernel
theorem is1 : ∀ a : Fin 512, IntOp.cmpi CmpIPredicate.eq (BitVec.ofNat 32 a.val) 1#32 = if a.val = 1 then 1#1 else 0#1 := by decide +kernel

theorem sel_ite {α : Type} (p : Prop) [Decidable p] (x y : α) : Scalar.select (if p then 1#1 else 0#1) x y = if p then x else y := by
  by_cases h : p <;> simp [h, Scalar.select]

theorem pay4_at (i : grid0.Coords) (v : Vec Ideal S8x1536 .bf16) (a : Fin 8) (j : Fin 512) :
    k0_pay4 i v (ix2 a j) = if (i 0).val % 8 = 0 then (0 : EReal) else v (ix2 a ⟨512 + j.val, by omega⟩) * v (ix2 a ⟨1024 + j.val, by omega⟩) := by
  unfold k0_pay4
  pointwise
  refine (congrArg (fun z => Scalar.select z _ _) (first_chain (i 0))).trans ?_
  exact sel_ite _ _ _

theorem pay5_at (i : grid0.Coords) (x : Vec Ideal S512x1536 .bf16) (v : Vec Ideal S8x1536 .bf16) (a : Fin 512) (j : Fin 512) :
    k0_pay5 i x v (ix2 a j) = if a.val = 0 then k0_pay4 i v (ix2 7 j) else k0_pay3 x (ix2 ⟨(a.val + 512 - 1) % 512, by omega⟩ j) := by
  unfold k0_pay5
  pointwise
  rw [is0, sel_ite]

theorem pay3_at (x : Vec Ideal S512x1536 .bf16) (a : Fin 512) (j : Fin 512) :
    k0_pay3 x (ix2 a j) = x (ix2 a ⟨512 + j.val, by omega⟩) * x (ix2 a ⟨1024 + j.val, by omega⟩) := by
  unfold k0_pay3 k0_pay1
  pointwise

theorem pay2_at (x : Vec Ideal S512x1536 .bf16) (a : Fin 512) (j : Fin 512) : k0_pay2 x (ix2 a j) = x (ix2 a ⟨j.val, by omega⟩) := by
  unfold k0_pay2 k0_pay1
  pointwise

theorem pay7_at (i : grid0.Coords) (v : Vec Ideal S8x1536 .bf16) (j : Fin 512) : k0_pay7 i v (ix2 0 j) = k0_pay4 i v (ix2 6 j) := by
  unfold k0_pay7
  pointwise

theorem pay9_at (i : grid0.Coords) (v : Vec Ideal S8x1536 .bf16) (j : Fin 512) : k0_pay9 i v (ix2 0 j) = k0_pay4 i v (ix2 7 j) := by
  unfold k0_pay9
  pointwise

section Block

variable (i : grid0.Coords) (x : Vec Ideal S512x1536 .bf16) (v : Vec Ideal S8x1536 .bf16) (B : Fin 16384 → Fin 1536 → EReal) (t : ℕ) (ht : t < 32)
  (hi : (i 0).val = t) (hx : ∀ (a : Fin 512) (k : Fin 1536), x (ix2 a k) = B ⟨t * 512 + a.val, by omega⟩ k)
  (hv : t % 8 ≠ 0 → ∀ (a : Fin 8) (k : Fin 1536), v (ix2 a k) = B ⟨t * 512 + a.val - 8, by omega⟩ k)

include hx in
theorem u_blk (a : Fin 512) (j : Fin 512) : k0_pay3 x (ix2 a j) = u B ⟨t * 512 + a.val, by omega⟩ j := by
  rw [pay3_at, hx, hx]; rfl

include hi hx hv in
theorem back1_blk (a : Fin 512) (j : Fin 512) : k0_pay5 i x v (ix2 a j) = back B 1 ⟨t * 512 + a.val, by omega⟩ j := by
  rw [pay5_at, pay4_at, hi]
  unfold back
  by_cases h0 : a.val = 0
  · rw [if_pos h0]
    by_cases h8 : t % 8 = 0
    · rw [if_pos h8, if_pos (by simp only; omega)]
    · rw [if_neg h8, if_neg (by simp only; omega), hv h8, hv h8]
      unfold u
      refine congrArg₂ (· * ·) (congrArg (fun r => B r _) (Fin.ext ?_)) (congrArg (fun r => B r _) (Fin.ext ?_)) <;> simp only <;> omega
  · rw [if_neg h0, if_neg (by simp only; omega), u_blk i x B t ht hi hx]
    refine congrArg (fun r => u B r j) (Fin.ext ?_)
    simp only
    omega

include hi hx hv in
theorem back2_blk (a : Fin 512) (j : Fin 512) :
    (if a.val = 0 then k0_pay7 i v (ix2 0 j) else if a.val = 1 then k0_pay9 i v (ix2 0 j) else k0_pay3 x (ix2 ⟨(a.val + 512 - 2) % 512, by omega⟩ j))
      = back B 2 ⟨t * 512 + a.val, by omega⟩ j := by
  rw [pay7_at, pay9_at, pay4_at, pay4_at, hi]
  unfold back
  by_cases h0 : a.val = 0
  · rw [if_pos h0]
    by_cases h8 : t % 8 = 0
    · rw [if_pos h8, if_pos (by simp only; omega)]
    · rw [if_neg h8, if_neg (by simp only; omega), hv h8, hv h8]
      unfold u
      refine congrArg₂ (· * ·) (congrArg (fun r => B r _) (Fin.ext ?_)) (congrArg (fun r => B r _) (Fin.ext ?_)) <;> simp only <;> omega
  · rw [if_neg h0]
    by_cases h1 : a.val = 1
    · rw [if_pos h1]
      by_cases h8 : t % 8 = 0
      · rw [if_pos h8, if_pos (by simp only; omega)]
      · rw [if_neg h8, if_neg (by simp only; omega), hv h8, hv h8]
        unfold u
        refine congrArg₂ (· * ·) (congrArg (fun r => B r _) (Fin.ext ?_)) (congrArg (fun r => B r _) (Fin.ext ?_)) <;> simp only <;> omega
    · rw [if_neg h1, if_neg (by simp only; omega), u_blk i x B t ht hi hx]
      refine congrArg (fun r => u B r j) (Fin.ext ?_)
      simp only
      omega

include hi hx hv in
/-- A block's mixed branches, row by row. -/
theorem mix_blk (cw : Vec Ideal S3x512 .f32) (wc : Vec Ideal S512x1024 .bf16)
    (o : Vec Ideal S512x1024 .bf16) (wa : Vec Ideal S1024x1024 .bf16) (z : Vec Ideal S512x2048 .bf16) (a : Fin 512) (k : Fin 1024) :
    k0_pay11 (k0_pay2 x) (k0_pay3 x) (k0_pay5 i x v) k0_pay6 (k0_pay7 i v) k0_pay8 (k0_pay9 i v) 2#32 cw wc o wa z (ix2 a k)
      = mix (conv B (fun e j => cw (ix2 e j)) ⟨t * 512 + a.val, by omega⟩) (fun j => o (ix2 a j)) (fun j => z (ix2 a j))
        (fun j k => wc (ix2 j k)) (fun j k => wa (ix2 j k)) k := by
  unfold k0_pay11 k0_pay6 k0_pay8
  pointwise
  unfold mix conv
  simp only [is0, is1, sel_ite, back2_blk i x v B t ht hi hx hv, back1_blk i x v B t ht hi hx hv]
  simp only [u_blk i x B t ht hi hx, pay2_at, hx]

end Block

end Cert.MergeIdeal.Conv
end
-- ==== Proof.MergeArrays.lean ====
module

public import proofs.«01_k».proof.Proof.MergeBlocks
public import proofs.«01_k».proof.Proof.MergeConv
public import Idealize.ShloMosaic.Lib.StableHlo.ReadAt

@[expose] public section

set_option maxRecDepth 16384
set_option backward.proofsInPublic true

noncomputable section

namespace Cert.MergeIdeal.Arrays

open Cert.MergeIdeal Cert.MergeIdeal.Gen Cert.MergeIdeal.Blocks Cert.MergeIdeal.Conv
open Idealize.ShloMosaic Idealize.ShloMosaic.TcCoe Idealize.SL.Sem
open Idealize.ShloMosaic.Pipeline (Dat)
open Cert.Proof.MergeRow

section Spec

variable (x0 : Vec Ideal S16384x1024 .bf16) (x1 : Vec Ideal S16384x1536 .bf16) (x2 : Vec Ideal S16384x2048 .bf16) (x3 : Vec Ideal S4x4096x1024 .f32) (x4 : Vec Ideal S1x3x512 .f32) (x5 : Vec Ideal S1x512x1024 .f32) (x6 : Vec Ideal S1x1024x1024 .f32) (x7 : Vec Ideal S1x1024x1024 .f32) (x8 : Vec Ideal S1x1024 .f32) (x9 : Vec Ideal S1x1024x2816 .f32) (x10 : Vec Ideal S1x1024x2816 .f32) (x11 : Vec Ideal S1x2816x1024 .f32) (x12 : Vec Ideal S1024 .f32)

/-- Token `r` after the two branches are added to it; token `r` is token `r % 4096` of sequence `r / 4096`. -/
def mid (r : Fin 16384) : Fin 1024 → EReal :=
  res (fun d => x3 (ix3 ⟨r.val / 4096, by omega⟩ ⟨r.val % 4096, by omega⟩ d))
    (mix (conv (fun r k => x1 (ix2 r k)) (fun e j => x4 (ix3 0 e j)) r) (fun j => x0 (ix2 r j)) (fun j => x2 (ix2 r j))
      (fun j k => x5 (ix3 0 j k)) (fun j k => x6 (ix3 0 j k)))
    (fun k d => x7 (ix3 0 k d))

/-- The result as a whole array. -/
def A : Vec Ideal S16384x1024 .f32 := fun i =>
  out (mid x0 x1 x2 x3 x4 x5 x6 x7 (i 0)) (fun k => x8 (ix2 0 k)) (fun k => x12 (ix1 k))
    (fun k j => x9 (ix3 0 k j)) (fun k j => x10 (ix3 0 k j)) (fun j d => x11 (ix3 0 j d)) (i 1)

end Spec

variable (m : (ℓ : Loc nD τ sig) → Buf (Elt Ideal) ℓ) (c : Dev nD)

abbrev X0 : Vec Ideal S16384x1024 .bf16 := m ((c : Thread nD τ).loc main_arg0)
abbrev X1 : Vec Ideal S16384x1536 .bf16 := m ((c : Thread nD τ).loc main_arg1)
abbrev X2 : Vec Ideal S16384x2048 .bf16 := m ((c : Thread nD τ).loc main_arg2)
abbrev X3 : Vec Ideal S4x4096x1024 .f32 := m ((c : Thread nD τ).loc main_arg3)
abbrev X4 : Vec Ideal S1x3x512 .f32 := m ((c : Thread nD τ).loc main_arg4)
abbrev X5 : Vec Ideal S1x512x1024 .f32 := m ((c : Thread nD τ).loc main_arg5)
abbrev X6 : Vec Ideal S1x1024x1024 .f32 := m ((c : Thread nD τ).loc main_arg6)
abbrev X7 : Vec Ideal S1x1024x1024 .f32 := m ((c : Thread nD τ).loc main_arg7)
abbrev X8 : Vec Ideal S1x1024 .f32 := m ((c : Thread nD τ).loc main_arg8)
abbrev X9 : Vec Ideal S1x1024x2816 .f32 := m ((c : Thread nD τ).loc main_arg9)
abbrev X10 : Vec Ideal S1x1024x2816 .f32 := m ((c : Thread nD τ).loc main_arg10)
abbrev X11 : Vec Ideal S1x2816x1024 .f32 := m ((c : Thread nD τ).loc main_arg11)
abbrev X12 : Vec Ideal S1024 .f32 := m ((c : Thread nD τ).loc main_arg12)

theorem pt_lt (t : Fin cfg0.N) : t.val < 32 := N_0 ▸ t.isLt
theorem coord0 : ∀ t : Fin cfg0.N, (grid0.coords t 0).val = t.val := (by decide +kernel : ∀ t : Fin grid0.N, _)
theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val * 64 - 1, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![t.val, 0] := (by decide +kernel : ∀ t : Fin grid0.N, _)

theorem V_v1 (i : Fin 3) (j : Fin 512) : (V m c main_v1 : Vec Ideal S3x512 .f32) (ix2 i j) = X4 m c (ix3 0 i j) := by
  unfold V
  simp only [hostOps0, List.flatten_cons, List.flatten_nil, List.append_nil, List.cons_append, List.nil_append]
  after_results
  pointwise

theorem V_v3 (i : Fin 1024) (j : Fin 1024) : (V m c main_v3 : Vec Ideal S1024x1024 .bf16) (ix2 i j) = X6 m c (ix3 0 i j) := by
  unfold V
  simp only [hostOps0, List.flatten_cons, List.flatten_nil, List.append_nil, List.cons_append, List.nil_append]
  after_results
  pointwise

theorem V_v5 (i : Fin 512) (j : Fin 1024) : (V m c main_v5 : Vec Ideal S512x1024 .bf16) (ix2 i j) = X5 m c (ix3 0 i j) := by
  unfold V
  simp only [hostOps0, List.flatten_cons, List.flatten_nil, List.append_nil, List.cons_append, List.nil_append]
  after_results
  pointwise

theorem V_v7 (i : Fin 1024) (j : Fin 1024) : (V m c main_v7 : Vec Ideal S1024x1024 .bf16) (ix2 i j) = X7 m c (ix3 0 i j) := by
  unfold V
  simp only [hostOps0, List.flatten_cons, List.flatten_nil, List.append_nil, List.cons_append, List.nil_append]
  after_results
  pointwise

theorem V_v9 (j : Fin 1024) : (V m c main_v9 : Vec Ideal S1x1024 .f32) (ix2 0 j) = X8 m c (ix2 0 j) := by
  unfold V
  simp only [hostOps0, List.flatten_cons, List.flatten_nil, List.append_nil, List.cons_append, List.nil_append]
  after_results
  pointwise

theorem V_v10 (j : Fin 1024) : (V m c main_v10 : Vec Ideal S1x1024 .f32) (ix2 0 j) = X12 m c (ix1 j) := by
  unfold V
  simp only [hostOps0, List.flatten_cons, List.flatten_nil, List.append_nil, List.cons_append, List.nil_append]
  after_results
  pointwise

theorem V_v12 (i : Fin 1024) (j : Fin 2816) : (V m c main_v12 : Vec Ideal S1024x2816 .bf16) (ix2 i j) = X9 m c (ix3 0 i j) := by
  unfold V
  simp only [hostOps0, List.flatten_cons, List.flatten_nil, List.append_nil, List.cons_append, List.nil_append]
  after_results
  pointwise

theorem V_v14 (i : Fin 1024) (j : Fin 2816) : (V m c main_v14 : Vec Ideal S1024x2816 .bf16) (ix2 i j) = X10 m c (ix3 0 i j) := by
  unfold V
  simp only [hostOps0, List.flatten_cons, List.flatten_nil, List.append_nil, List.cons_append, List.nil_append]
  after_results
  pointwise

theorem V_v16 (i : Fin 2816) (j : Fin 1024) : (V m c main_v16 : Vec Ideal S2816x1024 .bf16) (ix2 i j) = X11 m c (ix3 0 i j) := by
  unfold V
  simp only [hostOps0, List.flatten_cons, List.flatten_nil, List.append_nil, List.cons_append, List.nil_append]
  after_results
  pointwise

theorem V_v0 (i : Fin 16384) (j : Fin 1024) : (V m c main_v0 : Vec Ideal S16384x1024 .f32) (ix2 i j) = X3 m c (ix3 ⟨i.val / 4096, by omega⟩ ⟨i.val % 4096, by omega⟩ j) := by
  unfold V
  simp only [hostOps0, List.flatten_cons, List.flatten_nil, List.append_nil, List.cons_append, List.nil_append]
  after_results
  pointwise

theorem blk5 (t : Fin cfg0.N) (i : Fin 3) (j : Fin 512) : (iblk m c 5 t : Vec Ideal S3x512 .f32) (ix2 i j) = X4 m c (ix3 0 i j) := by
  refine Eq.trans ?_ (V_v1 m c i j)
  blk_simp [iblk]
  refine congrArg (V m c main_v1 : Vec Ideal S3x512 .f32) ?_
  blk_ext [e5]

theorem blk6 (t : Fin cfg0.N) (i : Fin 1024) (j : Fin 1024) : (iblk m c 6 t : Vec Ideal S1024x1024 .bf16) (ix2 i j) = X6 m c (ix3 0 i j) := by
  refine Eq.trans ?_ (V_v3 m c i j)
  blk_simp [iblk]
  refine congrArg (V m c main_v3 : Vec Ideal S1024x1024 .bf16) ?_
  blk_ext [e6]

theorem blk7 (t : Fin cfg0.N) (i : Fin 512) (j : Fin 1024) : (iblk m c 7 t : Vec Ideal S512x1024 .bf16) (ix2 i j) = X5 m c (ix3 0 i j) := by
  refine Eq.trans ?_ (V_v5 m c i j)
  blk_simp [iblk]
  refine congrArg (V m c main_v5 : Vec Ideal S512x1024 .bf16) ?_
  blk_ext [e7]

theorem blk8 (t : Fin cfg0.N) (i : Fin 1024) (j : Fin 1024) : (iblk m c 8 t : Vec Ideal S1024x1024 .bf16) (ix2 i j) = X7 m c (ix3 0 i j) := by
  refine Eq.trans ?_ (V_v7 m c i j)
  blk_simp [iblk]
  refine congrArg (V m c main_v7 : Vec Ideal S1024x1024 .bf16) ?_
  blk_ext [e8]

theorem blk9 (t : Fin cfg0.N) (j : Fin 1024) : (iblk m c 9 t : Vec Ideal S1x1024 .f32) (ix2 0 j) = X8 m c (ix2 0 j) := by
  refine Eq.trans ?_ (V_v9 m c j)
  blk_simp [iblk]
  refine congrArg (V m c main_v9 : Vec Ideal S1x1024 .f32) ?_
  blk_ext [e9]

theorem blk10 (t : Fin cfg0.N) (j : Fin 1024) : (iblk m c 10 t : Vec Ideal S1x1024 .f32) (ix2 0 j) = X12 m c (ix1 j) := by
  refine Eq.trans ?_ (V_v10 m c j)
  blk_simp [iblk]
  refine congrArg (V m c main_v10 : Vec Ideal S1x1024 .f32) ?_
  blk_ext [e10]

theorem blk11 (t : Fin cfg0.N) (i : Fin 1024) (j : Fin 2816) : (iblk m c 11 t : Vec Ideal S1024x2816 .bf16) (ix2 i j) = X9 m c (ix3 0 i j) := by
  refine Eq.trans ?_ (V_v12 m c i j)
  blk_simp [iblk]
  refine congrArg (V m c main_v12 : Vec Ideal S1024x2816 .bf16) ?_
  blk_ext [e11]

theorem blk12 (t : Fin cfg0.N) (i : Fin 1024) (j : Fin 2816) : (iblk m c 12 t : Vec Ideal S1024x2816 .bf16) (ix2 i j) = X10 m c (ix3 0 i j) := by
  refine Eq.trans ?_ (V_v14 m c i j)
  blk_simp [iblk]
  refine congrArg (V m c main_v14 : Vec Ideal S1024x2816 .bf16) ?_
  blk_ext [e12]

theorem blk13 (t : Fin cfg0.N) (i : Fin 2816) (j : Fin 1024) : (iblk m c 13 t : Vec Ideal S2816x1024 .bf16) (ix2 i j) = X11 m c (ix3 0 i j) := by
  refine Eq.trans ?_ (V_v16 m c i j)
  blk_simp [iblk]
  refine congrArg (V m c main_v16 : Vec Ideal S2816x1024 .bf16) ?_
  blk_ext [e13]

theorem blk4 (t : Fin cfg0.N) (a : Fin 512) (d : Fin 1024) : (iblk m c 4 t : Vec Ideal S512x1024 .f32) (ix2 a d)
    = X3 m c (ix3 ⟨(t.val * 512 + a.val) / 4096, by have := pt_lt t; omega⟩ ⟨(t.val * 512 + a.val) % 4096, by omega⟩ d) := by
  refine Eq.trans ?_ (V_v0 m c ⟨t.val * 512 + a.val, by have := pt_lt t; omega⟩ d)
  blk_simp [iblk]
  refine congrArg (V m c main_v0 : Vec Ideal S16384x1024 .f32) ?_
  blk_ext [e4]

theorem blk0 (t : Fin cfg0.N) (a : Fin 512) (d : Fin 1024) : (iblk m c 0 t : Vec Ideal S512x1024 .bf16) (ix2 a d)
    = X0 m c (ix2 ⟨t.val * 512 + a.val, by have := pt_lt t; omega⟩ d) := by
  refine Eq.trans ?_ (congrFun (V_main_arg0 m c) _)
  blk_simp [iblk]
  refine congrArg (V m c main_arg0 : Vec Ideal S16384x1024 .bf16) ?_
  blk_ext [e0]

theorem blk1 (t : Fin cfg0.N) (a : Fin 512) (d : Fin 1536) : (iblk m c 1 t : Vec Ideal S512x1536 .bf16) (ix2 a d)
    = X1 m c (ix2 ⟨t.val * 512 + a.val, by have := pt_lt t; omega⟩ d) := by
  refine Eq.trans ?_ (congrFun (V_main_arg1 m c) _)
  blk_simp [iblk]
  refine congrArg (V m c main_arg1 : Vec Ideal S16384x1536 .bf16) ?_
  blk_ext [e1]

theorem blk3 (t : Fin cfg0.N) (a : Fin 512) (d : Fin 2048) : (iblk m c 3 t : Vec Ideal S512x2048 .bf16) (ix2 a d)
    = X2 m c (ix2 ⟨t.val * 512 + a.val, by have := pt_lt t; omega⟩ d) := by
  refine Eq.trans ?_ (congrFun (V_main_arg2 m c) _)
  blk_simp [iblk]
  refine congrArg (V m c main_arg2 : Vec Ideal S16384x2048 .bf16) ?_
  blk_ext [e3]

theorem blk2 (t : Fin cfg0.N) (h : t.val % 8 ≠ 0) (a : Fin 8) (d : Fin 1536) : (iblk m c 2 t : Vec Ideal S8x1536 .bf16) (ix2 a d)
    = X1 m c (ix2 ⟨t.val * 512 + a.val - 8, by have := pt_lt t; omega⟩ d) := by
  refine Eq.trans ?_ (congrFun (V_main_arg1 m c) _)
  blk_simp [iblk]
  refine congrArg (V m c main_arg1 : Vec Ideal S16384x1536 .bf16) ?_
  blk_ext [e2]

theorem mid_blk (t : Fin cfg0.N) (a : Fin 512) :
    (fun d => k0_pay12 (k0_pay10 (iblk m c 4 t)) (mixB m c t) (iblk m c 8 t) (ix2 a d))
      = mid (X0 m c) (X1 m c) (X2 m c) (X3 m c) (X4 m c) (X5 m c) (X6 m c) (X7 m c) ⟨t.val * 512 + a.val, by have := pt_lt t; omega⟩ := by
  funext d
  rw [pay12_at]
  have hmix : (fun k => mixB m c t (ix2 a k))
      = mix (conv (fun r k => X1 m c (ix2 r k)) (fun e j => (iblk m c 5 t : Vec Ideal S3x512 .f32) (ix2 e j)) ⟨t.val * 512 + a.val, by have := pt_lt t; omega⟩)
        (fun j => (iblk m c 0 t : Vec Ideal S512x1024 .bf16) (ix2 a j)) (fun j => (iblk m c 3 t : Vec Ideal S512x2048 .bf16) (ix2 a j))
        (fun j k => (iblk m c 7 t : Vec Ideal S512x1024 .bf16) (ix2 j k)) (fun j k => (iblk m c 6 t : Vec Ideal S1024x1024 .bf16) (ix2 j k)) := by
    funext k
    refine mix_blk (grid0.coords t) (iblk m c 1 t) (iblk m c 2 t) (fun r k => X1 m c (ix2 r k)) t.val (pt_lt t) (coord0 t) ?_ ?_ _ _ _ _ _ a k
    · intro a k; exact blk1 m c t a k
    · intro h a k; exact blk2 m c t h a k
  rw [hmix]
  unfold mid
  simp only [blk0, blk3, blk4, blk5, blk6, blk7, blk8]

theorem out_at (t : Fin cfg0.N) (a : Fin 512) (d : Fin 1024) :
    outsAt0 m c t (ix2 a d) = A (X0 m c) (X1 m c) (X2 m c) (X3 m c) (X4 m c) (X5 m c) (X6 m c) (X7 m c) (X8 m c) (X9 m c) (X10 m c) (X11 m c) (X12 m c)
      (ix2 ⟨t.val * 512 + a.val, by have := pt_lt t; omega⟩ d) := by
  rw [out_open, pay29_at, mid_blk]
  have hn : (fun k => nB m c t (ix2 a k)) = _ := funext fun k => pay13_at (k0_pay10 (iblk m c 4 t)) (mixB m c t) (iblk m c 8 t) (iblk m c 9 t) a k
  have ha : (fun j => actG (nB m c t) (iblk m c 11 t) (iblk m c 12 t) (ix2 a j))
      = act (fun k => nB m c t (ix2 a k)) (fun k j => (iblk m c 11 t : Vec Ideal S1024x2816 .bf16) (ix2 k j)) (fun k j => (iblk m c 12 t : Vec Ideal S1024x2816 .bf16) (ix2 k j)) := rfl
  rw [ha, hn, mid_blk]
  unfold A out
  simp only [blk9, blk10, blk11, blk12, blk13]
  rfl

theorem final : (dats m 0 c).arrAt 14 cfg0.N = A (X0 m c) (X1 m c) (X2 m c) (X3 m c) (X4 m c) (X5 m c) (X6 m c) (X7 m c) (X8 m c) (X9 m c) (X10 m c) (X11 m c) (X12 m c) := by
  refine (dats m 0 c).arrAt_eq_of_covers 14 _ (by decide +kernel) fun t hf y => ?_
  blk_simp
  rw [after0_14]
  obtain ⟨a, d, rfl⟩ : ∃ (a : Fin 512) (d : Fin 1024), y = ix2 a d := ⟨y 0, y 1, eq_ix2 y⟩
  refine (out_at m c t a d).trans ?_
  refine congrArg (A (X0 m c) (X1 m c) (X2 m c) (X3 m c) (X4 m c) (X5 m c) (X6 m c) (X7 m c) (X8 m c) (X9 m c) (X10 m c) (X11 m c) (X12 m c)) ?_
  blk_ext [e14]

end Cert.MergeIdeal.Arrays
end
-- ==== Proof.MergeRefVal.lean ====
module

public import proofs.«01_k».proof.Proof.Gen.MergeRefIdeal.Read
public import proofs.«01_k».proof.Proof.MergeArrays
public import Idealize.ShloMosaic.Lib.Pointwise

@[expose] public section

set_option maxRecDepth 16384
set_option backward.proofsInPublic true

noncomputable section

namespace Cert.MergeRefIdeal.RefVal

open Cert.MergeRefIdeal Cert.MergeRefIdeal.Gen Cert.MergeRefIdeal.Read Idealize.ShloMosaic Idealize.ShloMosaic.TcCoe Idealize.SL.Sem
open Cert.Proof.MergeRow
open Cert.MergeIdeal.Arrays (A mid)

variable (x0 : Vec Ideal S16384x1024 .bf16) (x1 : Vec Ideal S16384x1536 .bf16) (x2 : Vec Ideal S16384x2048 .bf16) (x3 : Vec Ideal S4x4096x1024 .f32) (x4 : Vec Ideal S1x3x512 .f32) (x5 : Vec Ideal S1x512x1024 .f32) (x6 : Vec Ideal S1x1024x1024 .f32) (x7 : Vec Ideal S1x1024x1024 .f32) (x8 : Vec Ideal S1x1024 .f32) (x9 : Vec Ideal S1x1024x2816 .f32) (x10 : Vec Ideal S1x1024x2816 .f32) (x11 : Vec Ideal S1x2816x1024 .f32) (x12 : Vec Ideal S1024 .f32)

/-- The padding's value. -/
theorem pad_zero : (FloatOps.sitofp FTy.f32 (0#32 : BitVec 32) : Ideal .f32) = (0 : EReal) := by
  show (((0#32 : BitVec 32).toInt : ℝ) : EReal) = 0
  simp

theorem ref_conv (b : Fin 4) (s : Fin 4096) (j : Fin 512) :
    (val_main_v35 (F := Ideal) x1 x4 : Vec Ideal S4x4096x512 .f32) (ix3 b s j)
      = conv (fun r k => x1 (ix2 r k)) (fun e j => x4 (ix3 0 e j)) ⟨b.val * 4096 + s.val, by omega⟩ j := by
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v6 val_main_v5 val_main_v4 val_main_v3 val_main_v2 val_main_call0_v0 val_main_c val_main_cst
  pointwise
  have hs := s.isLt
  have hb := b.isLt
  unfold conv
  refine congrArg₂ (· * ·) rfl (congrArg₂ (· + ·) (congrArg₂ (· + ·) (congrArg₂ (· * ·) ?_ rfl) (congrArg₂ (· * ·) ?_ rfl)) rfl)
  · unfold back u
    split_ifs with h h' h'
    · exfalso; simp only at h'; omega
    · refine congrArg₂ (· * ·) (congrArg (fun r => x1 (ix2 r _)) (Fin.ext ?_)) (congrArg (fun r => x1 (ix2 r _)) (Fin.ext ?_)) <;> simp only <;> omega
    · exact pad_zero
    · exfalso; simp only at h'; omega
  · unfold back u
    split_ifs with h h' h'
    · exfalso; simp only at h'; omega
    · refine congrArg₂ (· * ·) (congrArg (fun r => x1 (ix2 r _)) (Fin.ext ?_)) (congrArg (fun r => x1 (ix2 r _)) (Fin.ext ?_)) <;> simp only <;> omega
    · exact pad_zero
    · exfalso; simp only at h'; omega

theorem ref_mix (b : Fin 4) (s : Fin 4096) (k : Fin 1024) :
    (val_main_v54 (F := Ideal) x0 x1 x2 x4 x5 x6 : Vec Ideal S4x4096x1024 .f32) (ix3 b s k)
      = mix (conv (fun r k => x1 (ix2 r k)) (fun e j => x4 (ix3 0 e j)) ⟨b.val * 4096 + s.val, by omega⟩)
        (fun j => x0 (ix2 ⟨b.val * 4096 + s.val, by omega⟩ j)) (fun j => x2 (ix2 ⟨b.val * 4096 + s.val, by omega⟩ j))
        (fun j k => x5 (ix3 0 j k)) (fun j k => x6 (ix3 0 j k)) k := by
  unfold val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v10 val_main_v9 val_main_v8 val_main_v7 val_main_v1 val_main_v0 val_main_cst_0 val_main_cst_1 val_main_cst_2 val_main_cst_3
  pointwise
  simp only [ref_conv]
  unfold mix
  rfl

theorem ref_mid (b : Fin 4) (s : Fin 4096) (d : Fin 1024) :
    (val_main_v57 (F := Ideal) x0 x1 x2 x3 x4 x5 x6 x7 : Vec Ideal S4x4096x1024 .f32) (ix3 b s d)
      = mid x0 x1 x2 x3 x4 x5 x6 x7 ⟨b.val * 4096 + s.val, by omega⟩ d := by
  unfold val_main_v57 val_main_v56 val_main_v55 mid res
  pointwise
  simp only [ref_mix]
  have hs := s.isLt
  refine congrArg (· + _) (congrArg₂ (fun p q => x3 (ix3 p q d)) (Fin.ext ?_) (Fin.ext ?_)) <;> simp only <;> omega

theorem ref_nrm (b : Fin 4) (s : Fin 4096) (d : Fin 1024) :
    (val_main_v71 (F := Ideal) x0 x1 x2 x3 x4 x5 x6 x7 x8 : Vec Ideal S4x4096x1024 .f32) (ix3 b s d)
      = normed (mid x0 x1 x2 x3 x4 x5 x6 x7 ⟨b.val * 4096 + s.val, by omega⟩) (fun k => x8 (ix2 0 k)) d := by
  unfold val_main_v71 val_main_v70 val_main_v69 val_main_v68 val_main_v67 val_main_v66 val_main_v65 val_main_v64 val_main_v63 val_main_v62 val_main_v61 val_main_v60 val_main_v59 val_main_v58 val_main_cst_4 val_main_cst_5 val_main_cst_6 normed
  pointwise
  simp only [ref_mid]

theorem ref_act (b : Fin 4) (s : Fin 4096) (j : Fin 2816) :
    (val_main_v77 (F := Ideal) x0 x1 x2 x3 x4 x5 x6 x7 x8 x9 x10 : Vec Ideal S4x4096x2816 .f32) (ix3 b s j)
      = act (normed (mid x0 x1 x2 x3 x4 x5 x6 x7 ⟨b.val * 4096 + s.val, by omega⟩) (fun k => x8 (ix2 0 k)))
        (fun k j => x9 (ix3 0 k j)) (fun k j => x10 (ix3 0 k j)) j := by
  unfold val_main_v77 val_main_v76 val_main_v75 val_main_v74 val_main_call1_v5 val_main_call1_v4 val_main_call1_v3 val_main_call1_v2 val_main_call1_v1 val_main_call1_v0 val_main_v73 val_main_v72 val_main_call1_cst val_main_call1_cst_0 act
  pointwise
  simp only [ref_nrm]
  rfl

theorem ref_ffn (b : Fin 4) (s : Fin 4096) (d : Fin 1024) :
    (val_main_v80 (F := Ideal) x0 x1 x2 x3 x4 x5 x6 x7 x8 x9 x10 x11 : Vec Ideal S4x4096x1024 .f32) (ix3 b s d)
      = ffn (mid x0 x1 x2 x3 x4 x5 x6 x7 ⟨b.val * 4096 + s.val, by omega⟩)
        (act (normed (mid x0 x1 x2 x3 x4 x5 x6 x7 ⟨b.val * 4096 + s.val, by omega⟩) (fun k => x8 (ix2 0 k)))
          (fun k j => x9 (ix3 0 k j)) (fun k j => x10 (ix3 0 k j))) (fun j d => x11 (ix3 0 j d)) d := by
  unfold val_main_v80 val_main_v79 val_main_v78 ffn
  pointwise
  simp only [ref_mid, ref_act]

theorem ref_out (b : Fin 4) (s : Fin 4096) (d : Fin 1024) :
    (val_main_v93 (F := Ideal) x0 x1 x2 x3 x4 x5 x6 x7 x8 x9 x10 x11 x12 : Vec Ideal S4x4096x1024 .f32) (ix3 b s d)
      = A x0 x1 x2 x3 x4 x5 x6 x7 x8 x9 x10 x11 x12 (ix2 ⟨b.val * 4096 + s.val, by omega⟩ d) := by
  unfold val_main_v93 val_main_v92 val_main_v91 val_main_v90 val_main_v89 val_main_v88 val_main_v87 val_main_v86 val_main_v85 val_main_v84 val_main_v83 val_main_v82 val_main_v81 val_main_cst_7 val_main_cst_8 val_main_cst_9
  pointwise
  simp only [ref_ffn]
  rfl

theorem ref_94 : (val_main_v94 (F := Ideal) x0 x1 x2 x3 x4 x5 x6 x7 x8 x9 x10 x11 x12 : Vec Ideal S16384x1024 .f32)
    = A x0 x1 x2 x3 x4 x5 x6 x7 x8 x9 x10 x11 x12 := by
  funext i
  obtain ⟨r, d, rfl⟩ : ∃ (r : Fin 16384) (d : Fin 1024), i = ix2 r d := ⟨i 0, i 1, eq_ix2 i⟩
  unfold val_main_v94
  pointwise
  rw [ref_out]
  refine congrArg (fun z => A x0 x1 x2 x3 x4 x5 x6 x7 x8 x9 x10 x11 x12 (ix2 z d)) (Fin.ext ?_)
  simp only
  omega

end Cert.MergeRefIdeal.RefVal
end
-- ==== Proof.MergeClaim.lean ====
module

public import proofs.«01_k».proof.Defs
public import proofs.«01_k».proof.Proof.MergeArrays
public import proofs.«01_k».proof.Proof.MergeRefVal
public import proofs.«01_k».proof.Proof.Gen.MergeRefIdeal.Run
public import proofs.«01_k».proof.Proof.Gen.MergeIdeal.Value
public import Idealize.ShloMosaic.Lib.Claim

@[expose] public section

set_option maxRecDepth 16384

noncomputable section

open Idealize.ShloMosaic Idealize.ShloMosaic.TcCoe Idealize.SL.Sem

namespace Cert.MergeIdeal.Arrays

open Cert.MergeIdeal Cert.MergeIdeal.Gen

attribute [local irreducible] A

/-- A run of the kernel leaves the array `A` of its arguments. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = A (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
    obtain ⟨h0, hr⟩ := h c
    exact ⟨h0.trans (final m c), hr⟩)
    (Cert.MergeIdeal.Value.run_blocks m ρ)

end Cert.MergeIdeal.Arrays

namespace Cert.MergeRefIdeal.RefVal

open Cert.MergeRefIdeal Cert.MergeRefIdeal.Gen Cert.MergeRefIdeal.Read
open Cert.MergeIdeal.Arrays (A)

attribute [local irreducible] A

/-- A run of the reference leaves the same array. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94) = A (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
    obtain ⟨h0, hr⟩ := h c
    exact ⟨h0.trans ((val_main_v94_eq (F := Ideal) _).trans (ref_94 _ _ _ _ _ _ _ _ _ _ _ _ _)), hr⟩)
    (Cert.MergeRefIdeal.Value.run m ρ)

end Cert.MergeRefIdeal.RefVal

namespace Cert.Proof.MergeClaim

open Cert Cert.MergeIdeal.Arrays

attribute [local irreducible] A

/-- The merged and fed-forward tokens are the reference's. -/
theorem algebraic : Cert.algebraic_MergeIdeal_MergeRefIdeal := by
  pair_intro
  · run_from Cert.MergeIdeal.Arrays.run_arrays m g
  · run_from Cert.MergeRefIdeal.RefVal.run_arrays m' g'
    all_goals obtain ⟨a0, a1, a2, a3, a4, a5, a6, a7, a8, a9, a10, a11, a12⟩ := hagree c
    all_goals rw [a0, a1, a2, a3, a4, a5, a6, a7, a8, a9, a10, a11, a12]

end Cert.Proof.MergeClaim
end
-- ==== Proof.CmpRow.lean ====
module

public import proofs.«01_k».proof.Proof.Gen.CmpIdeal.Value
public import Idealize.ShloMosaic.Lib.Pointwise

/-!
The compression of one block of 32 tokens, as functions of rows. The kernel and the reference are both brought to these.
-/

@[expose] public section

noncomputable section

namespace Cert.Proof.CmpRow

open Idealize.ShloMosaic

/-- Before the activation: the block's first 16 tokens `u` against the first half of the weights, the last 16, `v`, against the second. -/
def pre (u v p q : Fin 1024 → EReal) (wa wb : Fin 1024 → Fin 256 → EReal) (f : Fin 256) : EReal :=
  (∑ k, (u k + p k) * wa k f) + ∑ k, (v k + q k) * wb k f

/-- The activation, by its hyperbolic tangent. -/
def gelu (z : EReal) : EReal :=
  z * (Ideal.ofBits .f32 0x3F000000#32 * (1 + Ideal.tanh
    (Ideal.ofBits .f32 0x3F4C422A#32 * (z + Ideal.ofBits .f32 0x3D372713#32 * (z * (z * z))))))

/-- The compressed token's element `d`. -/
def out (z : Fin 256 → EReal) (w : Fin 256 → Fin 64 → EReal) (d : Fin 64) : EReal := ∑ f, gelu (z f) * w f d

end Cert.Proof.CmpRow
end
-- ==== Proof.CmpPays.lean ====
module

public import proofs.«01_k».proof.Proof.CmpRow

@[expose] public section

set_option maxRecDepth 16384
set_option backward.proofsInPublic true

noncomputable section

namespace Cert.CmpIdeal.Pays

open Cert.CmpIdeal Cert.CmpIdeal.Gen Idealize.ShloMosaic Idealize.ShloMosaic.TcCoe Idealize.SL.Sem
open Cert.Proof.CmpRow

/-- Before the activation, of a block's chunks `C` side by side. -/
def preT (C : FVec Ideal S256x1024 .f32) (p : Vec Ideal S1x1x1x1024 .f32) (wa : Vec Ideal S1x1024x256 .bf16) (q : Vec Ideal S1x1x1x1024 .f32)
    (wb : Vec Ideal S1x1024x256 .bf16) : FVec Ideal S256x256 .f32 :=
  addf (matmul dot_S256x1024_S1024x256_S256x256_1_0_0_1_n_n none
      (truncf .bf16 (addf C (broadcastTo S256x1024 (shapeCast S1x1024 p shapeCasts_S1x1x1x1024_S1x1024) broadcasts_S1x1024_S256x1024)) bitsLt_bf16_f32)
      (shapeCast S1024x256 wa shapeCasts_S1x1024x256_S1024x256 : FVec Ideal S1024x256 .bf16) (constant S256x256 .f32 0x00000000#32))
    (dynamicRotate 0 255#32 none (matmul dot_S256x1024_S1024x256_S256x256_1_0_0_1_n_n none
      (truncf .bf16 (addf C (broadcastTo S256x1024 (shapeCast S1x1024 q shapeCasts_S1x1x1x1024_S1x1024) broadcasts_S1x1024_S256x1024)) bitsLt_bf16_f32)
      (shapeCast S1024x256 wb shapeCasts_S1x1024x256_S1024x256 : FVec Ideal S1024x256 .bf16) (constant S256x256 .f32 0x00000000#32)) rotates_S256x256_d0)

/-- Eight pairs of chunks side by side. -/
def cat (a b c d e f g h : Vec Ideal S256x128 .f32) : FVec Ideal S256x1024 .f32 :=
  concatenate S256x1024 1 [⟨S256x128, a⟩, ⟨S256x128, b⟩, ⟨S256x128, c⟩, ⟨S256x128, d⟩, ⟨S256x128, e⟩, ⟨S256x128, f⟩, ⟨S256x128, g⟩, ⟨S256x128, h⟩]
    concatenates_S256x128_S256x128_S256x128_S256x128_S256x128_S256x128_S256x128_S256x128_S256x1024_d1

/-- Two chunks side by side, of the first head of the pair. -/
def lo (a b : Vec Ideal S256x128 .f32) : Vec Ideal S256x128 .f32 := select k0_pay1 a (dynamicRotate 1 64#32 none b rotates_S256x128_d1)
/-- Two chunks side by side, of the second head of the pair. -/
def hi (a b : Vec Ideal S256x128 .f32) : Vec Ideal S256x128 .f32 := select k0_pay1 (dynamicRotate 1 64#32 none a rotates_S256x128_d1) b

section

variable (r0 r1 r2 r3 r4 r5 r6 r7 r8 r9 r10 r11 r12 r13 r14 r15 : Vec Ideal S256x128 .f32)

abbrev catLo := cat (lo r0 r1) (lo r2 r3) (lo r4 r5) (lo r6 r7) (lo r8 r9) (lo r10 r11) (lo r12 r13) (lo r14 r15)
abbrev catHi := cat (hi r0 r1) (hi r2 r3) (hi r4 r5) (hi r6 r7) (hi r8 r9) (hi r10 r11) (hi r12 r13) (hi r14 r15)

variable (p : Vec Ideal S1x1x1x1024 .f32) (wa : Vec Ideal S1x1024x256 .bf16) (q : Vec Ideal S1x1x1x1024 .f32) (wb : Vec Ideal S1x1024x256 .bf16)

theorem pay4_eq : k0_pay4 k0_pay1 r4 r5 r6 r7 r8 r9 r10 r11 r12 r13 r14 r15 (k0_pay2 r0 r1) (k0_pay3 r2 r3) p wa q wb =
    preT (catLo r0 r1 r2 r3 r4 r5 r6 r7 r8 r9 r10 r11 r12 r13 r14 r15) p wa q wb := rfl

theorem pay14_eq : k0_pay14 k0_pay1 r8 r9 r10 r11 r12 r13 r14 r15 (k0_pay10 k0_pay1 r0 r1) (k0_pay11 k0_pay1 r2 r3) (k0_pay12 k0_pay1 r4 r5)
      (k0_pay13 k0_pay1 r6 r7) p wa q wb =
    preT (catLo r0 r1 r2 r3 r4 r5 r6 r7 r8 r9 r10 r11 r12 r13 r14 r15) p wa q wb := rfl

theorem pay7_eq : k0_pay7 k0_pay1 r0 r1 r2 r3 r4 r5 r6 r7 r8 r9 r10 r11 r12 r13 r14 r15 =
    catHi r0 r1 r2 r3 r4 r5 r6 r7 r8 r9 r10 r11 r12 r13 r14 r15 := rfl

theorem pay18_eq : k0_pay18 k0_pay1 r0 r1 r2 r3 r4 r5 r6 r7 r8 r9 r10 r11 r12 r13 r14 r15 =
    catHi r0 r1 r2 r3 r4 r5 r6 r7 r8 r9 r10 r11 r12 r13 r14 r15 := rfl

end

theorem preT_at (C : FVec Ideal S256x1024 .f32) (p : Vec Ideal S1x1x1x1024 .f32) (wa : Vec Ideal S1x1024x256 .bf16) (q : Vec Ideal S1x1x1x1024 .f32)
    (wb : Vec Ideal S1x1024x256 .bf16) (i f : Fin 256) :
    preT C p wa q wb (ix2 i f) = pre (fun k => C (ix2 i k)) (fun k => C (ix2 ⟨(i.val + 256 - 255) % 256, by omega⟩ k)) (fun k => p (ix4 0 0 0 k))
      (fun k => q (ix4 0 0 0 k)) (fun k f => wa (ix3 0 k f)) (fun k f => wb (ix3 0 k f)) f := by
  unfold preT pre
  pointwise

/-- The pairs' lanes: the first 64 are the first chunk's. -/
theorem lane : ∀ j : Fin 128, IntOp.cmpi .slt (BitVec.ofNat 32 j.val) 64#32 = if j.val < 64 then 1#1 else 0#1 := by decide +kernel

theorem sel_ite (p : Prop) [Decidable p] (x y : EReal) : Scalar.select (if p then 1#1 else 0#1) x y = if p then x else y := by
  by_cases h : p <;> simp [h, Scalar.select]

theorem lo_at (a b : Vec Ideal S256x128 .f32) (i : Fin 256) (j : Fin 128) :
    lo a b (ix2 i j) = if j.val < 64 then a (ix2 i j) else b (ix2 i ⟨(j.val + 128 - 64) % 128, by omega⟩) := by
  unfold lo k0_pay1
  pointwise
  rw [lane]
  exact sel_ite _ _ _

theorem hi_at (a b : Vec Ideal S256x128 .f32) (i : Fin 256) (j : Fin 128) :
    hi a b (ix2 i j) = if j.val < 64 then a (ix2 i ⟨(j.val + 128 - 64) % 128, by omega⟩) else b (ix2 i j) := by
  unfold hi k0_pay1
  pointwise
  rw [lane]
  exact sel_ite _ _ _

theorem cat_at (G : Fin 256 → Fin 1024 → EReal) (a b c d e f g h : Vec Ideal S256x128 .f32)
    (ha : ∀ (i : Fin 256) (j : Fin 128), a (ix2 i j) = G i ⟨j.val, by omega⟩) (hb : ∀ (i : Fin 256) (j : Fin 128), b (ix2 i j) = G i ⟨128 + j.val, by omega⟩)
    (hc : ∀ (i : Fin 256) (j : Fin 128), c (ix2 i j) = G i ⟨256 + j.val, by omega⟩) (hd : ∀ (i : Fin 256) (j : Fin 128), d (ix2 i j) = G i ⟨384 + j.val, by omega⟩)
    (he : ∀ (i : Fin 256) (j : Fin 128), e (ix2 i j) = G i ⟨512 + j.val, by omega⟩) (hf : ∀ (i : Fin 256) (j : Fin 128), f (ix2 i j) = G i ⟨640 + j.val, by omega⟩)
    (hg : ∀ (i : Fin 256) (j : Fin 128), g (ix2 i j) = G i ⟨768 + j.val, by omega⟩) (hh : ∀ (i : Fin 256) (j : Fin 128), h (ix2 i j) = G i ⟨896 + j.val, by omega⟩)
    (i : Fin 256) (k : Fin 1024) : cat a b c d e f g h (ix2 i k) = G i k := by
  unfold cat
  pointwise
  split_ifs
  all_goals first
    | exact ha _ _
    | (refine (hb _ _).trans ?_; exact congrArg (G i) (Fin.ext (by dsimp only; omega)))
    | (refine (hc _ _).trans ?_; exact congrArg (G i) (Fin.ext (by dsimp only; omega)))
    | (refine (hd _ _).trans ?_; exact congrArg (G i) (Fin.ext (by dsimp only; omega)))
    | (refine (he _ _).trans ?_; exact congrArg (G i) (Fin.ext (by dsimp only; omega)))
    | (refine (hf _ _).trans ?_; exact congrArg (G i) (Fin.ext (by dsimp only; omega)))
    | (refine (hg _ _).trans ?_; exact congrArg (G i) (Fin.ext (by dsimp only; omega)))
    | (refine (hh _ _).trans ?_; exact congrArg (G i) (Fin.ext (by dsimp only; omega)))

section

variable (B : Fin 4096 → Fin 128 → EReal)

theorem lo_row (p : ℕ) (hp : p < 8) (a b : Vec Ideal S256x128 .f32)
    (ha : ∀ (i : Fin 256) (j : Fin 128), a (ix2 i j) = B ⟨16 * i.val + 2 * p, by omega⟩ j)
    (hb : ∀ (i : Fin 256) (j : Fin 128), b (ix2 i j) = B ⟨16 * i.val + (2 * p + 1), by omega⟩ j) (i : Fin 256) (j : Fin 128) :
    lo a b (ix2 i j) = B ⟨16 * i.val + (128 * p + j.val) / 64, by omega⟩ ⟨(128 * p + j.val) % 64, by omega⟩ := by
  rw [lo_at]
  split_ifs
  · exact (ha _ _).trans (congrArg₂ B (Fin.ext (by dsimp only; omega)) (Fin.ext (by dsimp only; omega)))
  · exact (hb _ _).trans (congrArg₂ B (Fin.ext (by dsimp only; omega)) (Fin.ext (by dsimp only; omega)))

theorem hi_row (p : ℕ) (hp : p < 8) (a b : Vec Ideal S256x128 .f32)
    (ha : ∀ (i : Fin 256) (j : Fin 128), a (ix2 i j) = B ⟨16 * i.val + 2 * p, by omega⟩ j)
    (hb : ∀ (i : Fin 256) (j : Fin 128), b (ix2 i j) = B ⟨16 * i.val + (2 * p + 1), by omega⟩ j) (i : Fin 256) (j : Fin 128) :
    hi a b (ix2 i j) = B ⟨16 * i.val + (128 * p + j.val) / 64, by omega⟩ ⟨64 + (128 * p + j.val) % 64, by omega⟩ := by
  rw [hi_at]
  split_ifs
  · exact (ha _ _).trans (congrArg₂ B (Fin.ext (by dsimp only; omega)) (Fin.ext (by dsimp only; omega)))
  · exact (hb _ _).trans (congrArg₂ B (Fin.ext (by dsimp only; omega)) (Fin.ext (by dsimp only; omega)))

variable (r0 r1 r2 r3 r4 r5 r6 r7 r8 r9 r10 r11 r12 r13 r14 r15 : Vec Ideal S256x128 .f32)
  (h0 : ∀ (i : Fin 256) (j : Fin 128), r0 (ix2 i j) = B ⟨16 * i.val + 0, by omega⟩ j)
  (h1 : ∀ (i : Fin 256) (j : Fin 128), r1 (ix2 i j) = B ⟨16 * i.val + 1, by omega⟩ j)
  (h2 : ∀ (i : Fin 256) (j : Fin 128), r2 (ix2 i j) = B ⟨16 * i.val + 2, by omega⟩ j)
  (h3 : ∀ (i : Fin 256) (j : Fin 128), r3 (ix2 i j) = B ⟨16 * i.val + 3, by omega⟩ j)
  (h4 : ∀ (i : Fin 256) (j : Fin 128), r4 (ix2 i j) = B ⟨16 * i.val + 4, by omega⟩ j)
  (h5 : ∀ (i : Fin 256) (j : Fin 128), r5 (ix2 i j) = B ⟨16 * i.val + 5, by omega⟩ j)
  (h6 : ∀ (i : Fin 256) (j : Fin 128), r6 (ix2 i j) = B ⟨16 * i.val + 6, by omega⟩ j)
  (h7 : ∀ (i : Fin 256) (j : Fin 128), r7 (ix2 i j) = B ⟨16 * i.val + 7, by omega⟩ j)
  (h8 : ∀ (i : Fin 256) (j : Fin 128), r8 (ix2 i j) = B ⟨16 * i.val + 8, by omega⟩ j)
  (h9 : ∀ (i : Fin 256) (j : Fin 128), r9 (ix2 i j) = B ⟨16 * i.val + 9, by omega⟩ j)
  (h10 : ∀ (i : Fin 256) (j : Fin 128), r10 (ix2 i j) = B ⟨16 * i.val + 10, by omega⟩ j)
  (h11 : ∀ (i : Fin 256) (j : Fin 128), r11 (ix2 i j) = B ⟨16 * i.val + 11, by omega⟩ j)
  (h12 : ∀ (i : Fin 256) (j : Fin 128), r12 (ix2 i j) = B ⟨16 * i.val + 12, by omega⟩ j)
  (h13 : ∀ (i : Fin 256) (j : Fin 128), r13 (ix2 i j) = B ⟨16 * i.val + 13, by omega⟩ j)
  (h14 : ∀ (i : Fin 256) (j : Fin 128), r14 (ix2 i j) = B ⟨16 * i.val + 14, by omega⟩ j)
  (h15 : ∀ (i : Fin 256) (j : Fin 128), r15 (ix2 i j) = B ⟨16 * i.val + 15, by omega⟩ j)

include h0 h1 h2 h3 h4 h5 h6 h7 h8 h9 h10 h11 h12 h13 h14 h15

theorem catLo_at (i : Fin 256) (k : Fin 1024) :
    catLo r0 r1 r2 r3 r4 r5 r6 r7 r8 r9 r10 r11 r12 r13 r14 r15 (ix2 i k) = B ⟨16 * i.val + k.val / 64, by omega⟩ ⟨k.val % 64, by omega⟩ := by
  refine cat_at (fun i k => B ⟨16 * i.val + k.val / 64, by omega⟩ ⟨k.val % 64, by omega⟩) _ _ _ _ _ _ _ _ ?_ ?_ ?_ ?_ ?_ ?_ ?_ ?_ i k
  · exact fun i j => (lo_row B 0 (by omega) _ _ h0 h1 i j).trans (congrArg₂ B (Fin.ext (by dsimp only; omega)) (Fin.ext (by dsimp only; omega)))
  · exact lo_row B 1 (by omega) _ _ h2 h3
  · exact lo_row B 2 (by omega) _ _ h4 h5
  · exact lo_row B 3 (by omega) _ _ h6 h7
  · exact lo_row B 4 (by omega) _ _ h8 h9
  · exact lo_row B 5 (by omega) _ _ h10 h11
  · exact lo_row B 6 (by omega) _ _ h12 h13
  · exact lo_row B 7 (by omega) _ _ h14 h15

theorem catHi_at (i : Fin 256) (k : Fin 1024) :
    catHi r0 r1 r2 r3 r4 r5 r6 r7 r8 r9 r10 r11 r12 r13 r14 r15 (ix2 i k) = B ⟨16 * i.val + k.val / 64, by omega⟩ ⟨64 + k.val % 64, by omega⟩ := by
  refine cat_at (fun i k => B ⟨16 * i.val + k.val / 64, by omega⟩ ⟨64 + k.val % 64, by omega⟩) _ _ _ _ _ _ _ _ ?_ ?_ ?_ ?_ ?_ ?_ ?_ ?_ i k
  · exact fun i j => (hi_row B 0 (by omega) _ _ h0 h1 i j).trans (congrArg₂ B (Fin.ext (by dsimp only; omega)) (Fin.ext (by dsimp only; omega)))
  · exact hi_row B 1 (by omega) _ _ h2 h3
  · exact hi_row B 2 (by omega) _ _ h4 h5
  · exact hi_row B 3 (by omega) _ _ h6 h7
  · exact hi_row B 4 (by omega) _ _ h8 h9
  · exact hi_row B 5 (by omega) _ _ h10 h11
  · exact hi_row B 6 (by omega) _ _ h12 h13
  · exact hi_row B 7 (by omega) _ _ h14 h15

end

/-- The sum under the hyperbolic tangent. -/
def cub (P : FVec Ideal S256x256 .f32) : FVec Ideal S256x256 .f32 :=
  addf P (mulf (broadcast S256x256 (Scalar.ofBits .f32 0x3D372713#32)) (mulf P (mulf P P)))

/-- A head's compressed keys, from the values before the activation. -/
def outK (P : FVec Ideal S256x256 .f32) (w : Vec Ideal S256x64 .bf16) : FVec Ideal S1x1x256x64 .bf16 := k0_pay6 P (cub P) w

/-- A head's compressed values, lanes over tokens. -/
def outV (P : FVec Ideal S256x256 .f32) (w : Vec Ideal S64x256 .bf16) : FVec Ideal S1x1x64x256 .bf16 :=
  k0_pay17 P (tanh (mulf (broadcast S256x256 (Scalar.ofBits .f32 0x3F4C422A#32)) (cub P))) k0_pay16 w

theorem outK_at (P : FVec Ideal S256x256 .f32) (w : Vec Ideal S256x64 .bf16) (i : Fin 256) (d : Fin 64) :
    outK P w (ix4 0 0 i d) = out (fun f => P (ix2 i f)) (fun f d => w (ix2 f d)) d := by
  unfold outK cub k0_pay6 out gelu
  pointwise

theorem outV_at (P : FVec Ideal S256x256 .f32) (w : Vec Ideal S64x256 .bf16) (i : Fin 256) (d : Fin 64) :
    outV P w (ix4 0 0 d i) = out (fun f => P (ix2 i f)) (fun f d => w (ix2 d f)) d := by
  unfold outV cub k0_pay17 k0_pay16 out gelu
  pointwise
  exact Finset.sum_congr rfl fun f _ => mul_comm _ _

end Cert.CmpIdeal.Pays
end
-- ==== Proof.CmpBlocks.lean ====
module

public import proofs.«01_k».proof.Proof.CmpPays
public import Idealize.ShloMosaic.Lib.Pipeline.ValueKit
public import Idealize.ShloMosaic.Lib.Pipeline.ReadBack
public import Idealize.ShloMosaic.Lib.WholeRead

@[expose] public section

set_option maxRecDepth 16384
set_option backward.proofsInPublic true

noncomputable section

namespace Cert.CmpIdeal.Blocks

open Cert.CmpIdeal Cert.CmpIdeal.Gen Cert.CmpIdeal.Pays Idealize.ShloMosaic Idealize.ShloMosaic.TcCoe Idealize.SL.Sem
open Cert.Proof.CmpRow

/-- Before the activation, chunk `i` of head `h` of a pair of heads' tokens `x`; `kv` is 0 of the keys and 1 of the values. -/
def preB (x : Vec Ideal S4096x128 .f32) (pos : Vec Ideal S2x2x1x1024 .f32) (w1 : Vec Ideal S2x2048x256 .bf16) (kv h : Fin 2) (i : Fin 256) :
    Fin 256 → EReal :=
  pre (fun k => x (ix2 ⟨16 * i.val + k.val / 64, by omega⟩ ⟨64 * h.val + k.val % 64, by omega⟩))
    (fun k => x (ix2 ⟨16 * ((i.val + 256 - 255) % 256) + k.val / 64, by omega⟩ ⟨64 * h.val + k.val % 64, by omega⟩))
    (fun k => pos (ix4 kv 0 0 k)) (fun k => pos (ix4 kv 1 0 k))
    (fun k f => w1 (ix3 kv ⟨k.val, by omega⟩ f)) (fun k f => w1 (ix3 kv ⟨1024 + k.val, by omega⟩ f))

/-- A pair of heads' compressed keys. -/
def keysB (x : Vec Ideal S4096x128 .f32) (pos : Vec Ideal S2x2x1x1024 .f32) (w1 : Vec Ideal S2x2048x256 .bf16) (w2 : Vec Ideal S256x64 .bf16) :
    Vec Ideal S1x2x256x64 .bf16 := fun y =>
  out (preB x pos w1 0 (y 1) (y 2)) (fun f d => w2 (ix2 f d)) (y 3)

/-- A pair of heads' compressed values, lanes over tokens. -/
def valsB (x : Vec Ideal S4096x128 .f32) (pos : Vec Ideal S2x2x1x1024 .f32) (w1 : Vec Ideal S2x2048x256 .bf16) (w2 : Vec Ideal S64x256 .bf16) :
    Vec Ideal S1x2x64x256 .bf16 := fun y =>
  out (preB x pos w1 1 (y 1) (y 3)) (fun f d => w2 (ix2 d f)) (y 2)

section

variable (x : Vec Ideal S4096x128 .f32) (pos : Vec Ideal S2x2x1x1024 .f32) (w1 : Vec Ideal S2x2048x256 .bf16)
  (r0 r1 r2 r3 r4 r5 r6 r7 r8 r9 r10 r11 r12 r13 r14 r15 : Vec Ideal S256x128 .f32)
  (h0 : ∀ (i : Fin 256) (j : Fin 128), r0 (ix2 i j) = x (ix2 ⟨16 * i.val + 0, by omega⟩ j))
  (h1 : ∀ (i : Fin 256) (j : Fin 128), r1 (ix2 i j) = x (ix2 ⟨16 * i.val + 1, by omega⟩ j))
  (h2 : ∀ (i : Fin 256) (j : Fin 128), r2 (ix2 i j) = x (ix2 ⟨16 * i.val + 2, by omega⟩ j))
  (h3 : ∀ (i : Fin 256) (j : Fin 128), r3 (ix2 i j) = x (ix2 ⟨16 * i.val + 3, by omega⟩ j))
  (h4 : ∀ (i : Fin 256) (j : Fin 128), r4 (ix2 i j) = x (ix2 ⟨16 * i.val + 4, by omega⟩ j))
  (h5 : ∀ (i : Fin 256) (j : Fin 128), r5 (ix2 i j) = x (ix2 ⟨16 * i.val + 5, by omega⟩ j))
  (h6 : ∀ (i : Fin 256) (j : Fin 128), r6 (ix2 i j) = x (ix2 ⟨16 * i.val + 6, by omega⟩ j))
  (h7 : ∀ (i : Fin 256) (j : Fin 128), r7 (ix2 i j) = x (ix2 ⟨16 * i.val + 7, by omega⟩ j))
  (h8 : ∀ (i : Fin 256) (j : Fin 128), r8 (ix2 i j) = x (ix2 ⟨16 * i.val + 8, by omega⟩ j))
  (h9 : ∀ (i : Fin 256) (j : Fin 128), r9 (ix2 i j) = x (ix2 ⟨16 * i.val + 9, by omega⟩ j))
  (h10 : ∀ (i : Fin 256) (j : Fin 128), r10 (ix2 i j) = x (ix2 ⟨16 * i.val + 10, by omega⟩ j))
  (h11 : ∀ (i : Fin 256) (j : Fin 128), r11 (ix2 i j) = x (ix2 ⟨16 * i.val + 11, by omega⟩ j))
  (h12 : ∀ (i : Fin 256) (j : Fin 128), r12 (ix2 i j) = x (ix2 ⟨16 * i.val + 12, by omega⟩ j))
  (h13 : ∀ (i : Fin 256) (j : Fin 128), r13 (ix2 i j) = x (ix2 ⟨16 * i.val + 13, by omega⟩ j))
  (h14 : ∀ (i : Fin 256) (j : Fin 128), r14 (ix2 i j) = x (ix2 ⟨16 * i.val + 14, by omega⟩ j))
  (h15 : ∀ (i : Fin 256) (j : Fin 128), r15 (ix2 i j) = x (ix2 ⟨16 * i.val + 15, by omega⟩ j))

include h0 h1 h2 h3 h4 h5 h6 h7 h8 h9 h10 h11 h12 h13 h14 h15

theorem pre00 (i f : Fin 256) :
    preT (catLo r0 r1 r2 r3 r4 r5 r6 r7 r8 r9 r10 r11 r12 r13 r14 r15)
      (View.ld pos (Rect.unit ![0, 0, 0, 0] ![1, 1, 1, 1024] inb_S2x2x1x1024_S1x1x1x1024_0_0_0_0))
      (View.ld w1 (Rect.unit ![0, 0, 0] ![1, 1024, 256] inb_S2x2048x256_S1x1024x256_0_0_0))
      (View.ld pos (Rect.unit ![0, 1, 0, 0] ![1, 1, 1, 1024] inb_S2x2x1x1024_S1x1x1x1024_0_1_0_0))
      (View.ld w1 (Rect.unit ![0, 1024, 0] ![1, 1024, 256] inb_S2x2048x256_S1x1024x256_0_1024_0)) (ix2 i f) = preB x pos w1 0 0 i f := by
  refine (preT_at _ _ _ _ _ i f).trans ?_
  have e := catLo_at (fun a b => x (ix2 a b)) r0 r1 r2 r3 r4 r5 r6 r7 r8 r9 r10 r11 r12 r13 r14 r15 h0 h1 h2 h3 h4 h5 h6 h7 h8 h9 h10 h11 h12 h13 h14 h15
  unfold preB pre
  simp only [e]
  pointwise

theorem pre01 (i f : Fin 256) :
    preT (catHi r0 r1 r2 r3 r4 r5 r6 r7 r8 r9 r10 r11 r12 r13 r14 r15)
      (View.ld pos (Rect.unit ![0, 0, 0, 0] ![1, 1, 1, 1024] inb_S2x2x1x1024_S1x1x1x1024_0_0_0_0))
      (View.ld w1 (Rect.unit ![0, 0, 0] ![1, 1024, 256] inb_S2x2048x256_S1x1024x256_0_0_0))
      (View.ld pos (Rect.unit ![0, 1, 0, 0] ![1, 1, 1, 1024] inb_S2x2x1x1024_S1x1x1x1024_0_1_0_0))
      (View.ld w1 (Rect.unit ![0, 1024, 0] ![1, 1024, 256] inb_S2x2048x256_S1x1024x256_0_1024_0)) (ix2 i f) = preB x pos w1 0 1 i f := by
  refine (preT_at _ _ _ _ _ i f).trans ?_
  have e := catHi_at (fun a b => x (ix2 a b)) r0 r1 r2 r3 r4 r5 r6 r7 r8 r9 r10 r11 r12 r13 r14 r15 h0 h1 h2 h3 h4 h5 h6 h7 h8 h9 h10 h11 h12 h13 h14 h15
  unfold preB pre
  simp only [e]
  pointwise

theorem pre10 (i f : Fin 256) :
    preT (catLo r0 r1 r2 r3 r4 r5 r6 r7 r8 r9 r10 r11 r12 r13 r14 r15)
      (View.ld pos (Rect.unit ![1, 0, 0, 0] ![1, 1, 1, 1024] inb_S2x2x1x1024_S1x1x1x1024_1_0_0_0))
      (View.ld w1 (Rect.unit ![1, 0, 0] ![1, 1024, 256] inb_S2x2048x256_S1x1024x256_1_0_0))
      (View.ld pos (Rect.unit ![1, 1, 0, 0] ![1, 1, 1, 1024] inb_S2x2x1x1024_S1x1x1x1024_1_1_0_0))
      (View.ld w1 (Rect.unit ![1, 1024, 0] ![1, 1024, 256] inb_S2x2048x256_S1x1024x256_1_1024_0)) (ix2 i f) = preB x pos w1 1 0 i f := by
  refine (preT_at _ _ _ _ _ i f).trans ?_
  have e := catLo_at (fun a b => x (ix2 a b)) r0 r1 r2 r3 r4 r5 r6 r7 r8 r9 r10 r11 r12 r13 r14 r15 h0 h1 h2 h3 h4 h5 h6 h7 h8 h9 h10 h11 h12 h13 h14 h15
  unfold preB pre
  simp only [e]
  pointwise

theorem pre11 (i f : Fin 256) :
    preT (catHi r0 r1 r2 r3 r4 r5 r6 r7 r8 r9 r10 r11 r12 r13 r14 r15)
      (View.ld pos (Rect.unit ![1, 0, 0, 0] ![1, 1, 1, 1024] inb_S2x2x1x1024_S1x1x1x1024_1_0_0_0))
      (View.ld w1 (Rect.unit ![1, 0, 0] ![1, 1024, 256] inb_S2x2048x256_S1x1024x256_1_0_0))
      (View.ld pos (Rect.unit ![1, 1, 0, 0] ![1, 1, 1, 1024] inb_S2x2x1x1024_S1x1x1x1024_1_1_0_0))
      (View.ld w1 (Rect.unit ![1, 1024, 0] ![1, 1024, 256] inb_S2x2048x256_S1x1024x256_1_1024_0)) (ix2 i f) = preB x pos w1 1 1 i f := by
  refine (preT_at _ _ _ _ _ i f).trans ?_
  have e := catHi_at (fun a b => x (ix2 a b)) r0 r1 r2 r3 r4 r5 r6 r7 r8 r9 r10 r11 r12 r13 r14 r15 h0 h1 h2 h3 h4 h5 h6 h7 h8 h9 h10 h11 h12 h13 h14 h15
  unfold preB pre
  simp only [e]
  pointwise

theorem pieceK0 (w2 : Vec Ideal S256x64 .bf16) (z : (Rect.unit (s := S1x2x256x64) ![0, 0, 0, 0] ![1, 1, 256, 64] inb_S1x2x256x64_S1x1x256x64_0_0_0_0).shape.Idx) :
    (k0_pay6 (k0_pay4 k0_pay1 r4 r5 r6 r7 r8 r9 r10 r11 r12 r13 r14 r15 (k0_pay2 r0 r1) (k0_pay3 r2 r3) (View.ld pos (Rect.unit ![0, 0, 0, 0] ![1, 1, 1, 1024] inb_S2x2x1x1024_S1x1x1x1024_0_0_0_0)) (View.ld w1 (Rect.unit ![0, 0, 0] ![1, 1024, 256] inb_S2x2048x256_S1x1024x256_0_0_0)) (View.ld pos (Rect.unit ![0, 1, 0, 0] ![1, 1, 1, 1024] inb_S2x2x1x1024_S1x1x1x1024_0_1_0_0)) (View.ld w1 (Rect.unit ![0, 1024, 0] ![1, 1024, 256] inb_S2x2048x256_S1x1024x256_0_1024_0))) (k0_pay5 k0_pay1 r4 r5 r6 r7 r8 r9 r10 r11 r12 r13 r14 r15 (k0_pay2 r0 r1) (k0_pay3 r2 r3) (View.ld pos (Rect.unit ![0, 0, 0, 0] ![1, 1, 1, 1024] inb_S2x2x1x1024_S1x1x1x1024_0_0_0_0)) (View.ld w1 (Rect.unit ![0, 0, 0] ![1, 1024, 256] inb_S2x2048x256_S1x1024x256_0_0_0)) (View.ld pos (Rect.unit ![0, 1, 0, 0] ![1, 1, 1, 1024] inb_S2x2x1x1024_S1x1x1x1024_0_1_0_0)) (View.ld w1 (Rect.unit ![0, 1024, 0] ![1, 1024, 256] inb_S2x2048x256_S1x1024x256_0_1024_0))) w2 : FVec Ideal S1x1x256x64 .bf16) z = keysB x pos w1 w2 ((Rect.unit (s := S1x2x256x64) ![0, 0, 0, 0] ![1, 1, 256, 64] inb_S1x2x256x64_S1x1x256x64_0_0_0_0).emb z) := by
  obtain ⟨o, q, a, b, rfl⟩ : ∃ (o q : Fin 1) (a : Fin 256) (b : Fin 64), z = ix4 o q a b := ⟨z 0, z 1, z 2, z 3, eq_ix4 z⟩
  obtain rfl : o = 0 := Subsingleton.elim _ _
  obtain rfl : q = 0 := Subsingleton.elim _ _
  have e : (Rect.unit (s := S1x2x256x64) ![0, 0, 0, 0] ![1, 1, 256, 64] inb_S1x2x256x64_S1x1x256x64_0_0_0_0).emb (ix4 0 0 a b) = (ix4 0 0 a b : S1x2x256x64.Idx) := by
    funext j
    refine Fin.ext ?_
    fin_cases j
    · rfl
    · rfl
    · show 0 + 1 * a.val = a.val; omega
    · show 0 + 1 * b.val = b.val; omega
  rw [e]
  refine (outK_at (preT (catLo r0 r1 r2 r3 r4 r5 r6 r7 r8 r9 r10 r11 r12 r13 r14 r15) (View.ld pos (Rect.unit ![0, 0, 0, 0] ![1, 1, 1, 1024] inb_S2x2x1x1024_S1x1x1x1024_0_0_0_0)) (View.ld w1 (Rect.unit ![0, 0, 0] ![1, 1024, 256] inb_S2x2048x256_S1x1024x256_0_0_0)) (View.ld pos (Rect.unit ![0, 1, 0, 0] ![1, 1, 1, 1024] inb_S2x2x1x1024_S1x1x1x1024_0_1_0_0)) (View.ld w1 (Rect.unit ![0, 1024, 0] ![1, 1024, 256] inb_S2x2048x256_S1x1024x256_0_1024_0))) w2 a b).trans ?_
  show _ = out (preB x pos w1 0 0 a) (fun f d => w2 (ix2 f d)) b
  exact congrArg (fun g => out g (fun f d => w2 (ix2 f d)) b) (funext fun f => pre00 x pos w1 r0 r1 r2 r3 r4 r5 r6 r7 r8 r9 r10 r11 r12 r13 r14 r15 h0 h1 h2 h3 h4 h5 h6 h7 h8 h9 h10 h11 h12 h13 h14 h15 a f)

theorem pieceK1 (w2 : Vec Ideal S256x64 .bf16) (z : (Rect.unit (s := S1x2x256x64) ![0, 1, 0, 0] ![1, 1, 256, 64] inb_S1x2x256x64_S1x1x256x64_0_1_0_0).shape.Idx) :
    (k0_pay9 (k0_pay7 k0_pay1 r0 r1 r2 r3 r4 r5 r6 r7 r8 r9 r10 r11 r12 r13 r14 r15) (k0_pay8 k0_pay1 r0 r1 r2 r3 r4 r5 r6 r7 r8 r9 r10 r11 r12 r13 r14 r15 (View.ld pos (Rect.unit ![0, 0, 0, 0] ![1, 1, 1, 1024] inb_S2x2x1x1024_S1x1x1x1024_0_0_0_0))) (View.ld w1 (Rect.unit ![0, 0, 0] ![1, 1024, 256] inb_S2x2048x256_S1x1024x256_0_0_0)) (View.ld pos (Rect.unit ![0, 1, 0, 0] ![1, 1, 1, 1024] inb_S2x2x1x1024_S1x1x1x1024_0_1_0_0)) (View.ld w1 (Rect.unit ![0, 1024, 0] ![1, 1024, 256] inb_S2x2048x256_S1x1024x256_0_1024_0)) w2 : FVec Ideal S1x1x256x64 .bf16) z = keysB x pos w1 w2 ((Rect.unit (s := S1x2x256x64) ![0, 1, 0, 0] ![1, 1, 256, 64] inb_S1x2x256x64_S1x1x256x64_0_1_0_0).emb z) := by
  obtain ⟨o, q, a, b, rfl⟩ : ∃ (o q : Fin 1) (a : Fin 256) (b : Fin 64), z = ix4 o q a b := ⟨z 0, z 1, z 2, z 3, eq_ix4 z⟩
  obtain rfl : o = 0 := Subsingleton.elim _ _
  obtain rfl : q = 0 := Subsingleton.elim _ _
  have e : (Rect.unit (s := S1x2x256x64) ![0, 1, 0, 0] ![1, 1, 256, 64] inb_S1x2x256x64_S1x1x256x64_0_1_0_0).emb (ix4 0 0 a b) = (ix4 0 1 a b : S1x2x256x64.Idx) := by
    funext j
    refine Fin.ext ?_
    fin_cases j
    · rfl
    · rfl
    · show 0 + 1 * a.val = a.val; omega
    · show 0 + 1 * b.val = b.val; omega
  rw [e]
  refine (outK_at (preT (catHi r0 r1 r2 r3 r4 r5 r6 r7 r8 r9 r10 r11 r12 r13 r14 r15) (View.ld pos (Rect.unit ![0, 0, 0, 0] ![1, 1, 1, 1024] inb_S2x2x1x1024_S1x1x1x1024_0_0_0_0)) (View.ld w1 (Rect.unit ![0, 0, 0] ![1, 1024, 256] inb_S2x2048x256_S1x1024x256_0_0_0)) (View.ld pos (Rect.unit ![0, 1, 0, 0] ![1, 1, 1, 1024] inb_S2x2x1x1024_S1x1x1x1024_0_1_0_0)) (View.ld w1 (Rect.unit ![0, 1024, 0] ![1, 1024, 256] inb_S2x2048x256_S1x1024x256_0_1024_0))) w2 a b).trans ?_
  show _ = out (preB x pos w1 0 1 a) (fun f d => w2 (ix2 f d)) b
  exact congrArg (fun g => out g (fun f d => w2 (ix2 f d)) b) (funext fun f => pre01 x pos w1 r0 r1 r2 r3 r4 r5 r6 r7 r8 r9 r10 r11 r12 r13 r14 r15 h0 h1 h2 h3 h4 h5 h6 h7 h8 h9 h10 h11 h12 h13 h14 h15 a f)

theorem pieceV0 (w2 : Vec Ideal S64x256 .bf16) (z : (Rect.unit (s := S1x2x64x256) ![0, 0, 0, 0] ![1, 1, 64, 256] inb_S1x2x64x256_S1x1x64x256_0_0_0_0).shape.Idx) :
    (k0_pay17 (k0_pay14 k0_pay1 r8 r9 r10 r11 r12 r13 r14 r15 (k0_pay10 k0_pay1 r0 r1) (k0_pay11 k0_pay1 r2 r3) (k0_pay12 k0_pay1 r4 r5) (k0_pay13 k0_pay1 r6 r7) (View.ld pos (Rect.unit ![1, 0, 0, 0] ![1, 1, 1, 1024] inb_S2x2x1x1024_S1x1x1x1024_1_0_0_0)) (View.ld w1 (Rect.unit ![1, 0, 0] ![1, 1024, 256] inb_S2x2048x256_S1x1024x256_1_0_0)) (View.ld pos (Rect.unit ![1, 1, 0, 0] ![1, 1, 1, 1024] inb_S2x2x1x1024_S1x1x1x1024_1_1_0_0)) (View.ld w1 (Rect.unit ![1, 1024, 0] ![1, 1024, 256] inb_S2x2048x256_S1x1024x256_1_1024_0))) (k0_pay15 k0_pay1 r8 r9 r10 r11 r12 r13 r14 r15 (k0_pay10 k0_pay1 r0 r1) (k0_pay11 k0_pay1 r2 r3) (k0_pay12 k0_pay1 r4 r5) (k0_pay13 k0_pay1 r6 r7) (View.ld pos (Rect.unit ![1, 0, 0, 0] ![1, 1, 1, 1024] inb_S2x2x1x1024_S1x1x1x1024_1_0_0_0)) (View.ld w1 (Rect.unit ![1, 0, 0] ![1, 1024, 256] inb_S2x2048x256_S1x1024x256_1_0_0)) (View.ld pos (Rect.unit ![1, 1, 0, 0] ![1, 1, 1, 1024] inb_S2x2x1x1024_S1x1x1x1024_1_1_0_0)) (View.ld w1 (Rect.unit ![1, 1024, 0] ![1, 1024, 256] inb_S2x2048x256_S1x1024x256_1_1024_0))) k0_pay16 w2 : FVec Ideal S1x1x64x256 .bf16) z = valsB x pos w1 w2 ((Rect.unit (s := S1x2x64x256) ![0, 0, 0, 0] ![1, 1, 64, 256] inb_S1x2x64x256_S1x1x64x256_0_0_0_0).emb z) := by
  obtain ⟨o, q, a, b, rfl⟩ : ∃ (o q : Fin 1) (a : Fin 64) (b : Fin 256), z = ix4 o q a b := ⟨z 0, z 1, z 2, z 3, eq_ix4 z⟩
  obtain rfl : o = 0 := Subsingleton.elim _ _
  obtain rfl : q = 0 := Subsingleton.elim _ _
  have e : (Rect.unit (s := S1x2x64x256) ![0, 0, 0, 0] ![1, 1, 64, 256] inb_S1x2x64x256_S1x1x64x256_0_0_0_0).emb (ix4 0 0 a b) = (ix4 0 0 a b : S1x2x64x256.Idx) := by
    funext j
    refine Fin.ext ?_
    fin_cases j
    · rfl
    · rfl
    · show 0 + 1 * a.val = a.val; omega
    · show 0 + 1 * b.val = b.val; omega
  rw [e]
  refine (outV_at (preT (catLo r0 r1 r2 r3 r4 r5 r6 r7 r8 r9 r10 r11 r12 r13 r14 r15) (View.ld pos (Rect.unit ![1, 0, 0, 0] ![1, 1, 1, 1024] inb_S2x2x1x1024_S1x1x1x1024_1_0_0_0)) (View.ld w1 (Rect.unit ![1, 0, 0] ![1, 1024, 256] inb_S2x2048x256_S1x1024x256_1_0_0)) (View.ld pos (Rect.unit ![1, 1, 0, 0] ![1, 1, 1, 1024] inb_S2x2x1x1024_S1x1x1x1024_1_1_0_0)) (View.ld w1 (Rect.unit ![1, 1024, 0] ![1, 1024, 256] inb_S2x2048x256_S1x1024x256_1_1024_0))) w2 b a).trans ?_
  show _ = out (preB x pos w1 1 0 b) (fun f d => w2 (ix2 d f)) a
  exact congrArg (fun g => out g (fun f d => w2 (ix2 d f)) a) (funext fun f => pre10 x pos w1 r0 r1 r2 r3 r4 r5 r6 r7 r8 r9 r10 r11 r12 r13 r14 r15 h0 h1 h2 h3 h4 h5 h6 h7 h8 h9 h10 h11 h12 h13 h14 h15 b f)

theorem pieceV1 (w2 : Vec Ideal S64x256 .bf16) (z : (Rect.unit (s := S1x2x64x256) ![0, 1, 0, 0] ![1, 1, 64, 256] inb_S1x2x64x256_S1x1x64x256_0_1_0_0).shape.Idx) :
    (k0_pay21 (k0_pay18 k0_pay1 r0 r1 r2 r3 r4 r5 r6 r7 r8 r9 r10 r11 r12 r13 r14 r15) (k0_pay19 k0_pay1 r0 r1 r2 r3 r4 r5 r6 r7 r8 r9 r10 r11 r12 r13 r14 r15 (View.ld pos (Rect.unit ![1, 0, 0, 0] ![1, 1, 1, 1024] inb_S2x2x1x1024_S1x1x1x1024_1_0_0_0))) (k0_pay20 (View.ld w1 (Rect.unit ![1, 0, 0] ![1, 1024, 256] inb_S2x2048x256_S1x1024x256_1_0_0))) (View.ld pos (Rect.unit ![1, 1, 0, 0] ![1, 1, 1, 1024] inb_S2x2x1x1024_S1x1x1x1024_1_1_0_0)) (View.ld w1 (Rect.unit ![1, 1024, 0] ![1, 1024, 256] inb_S2x2048x256_S1x1024x256_1_1024_0)) w2 : FVec Ideal S1x1x64x256 .bf16) z = valsB x pos w1 w2 ((Rect.unit (s := S1x2x64x256) ![0, 1, 0, 0] ![1, 1, 64, 256] inb_S1x2x64x256_S1x1x64x256_0_1_0_0).emb z) := by
  obtain ⟨o, q, a, b, rfl⟩ : ∃ (o q : Fin 1) (a : Fin 64) (b : Fin 256), z = ix4 o q a b := ⟨z 0, z 1, z 2, z 3, eq_ix4 z⟩
  obtain rfl : o = 0 := Subsingleton.elim _ _
  obtain rfl : q = 0 := Subsingleton.elim _ _
  have e : (Rect.unit (s := S1x2x64x256) ![0, 1, 0, 0] ![1, 1, 64, 256] inb_S1x2x64x256_S1x1x64x256_0_1_0_0).emb (ix4 0 0 a b) = (ix4 0 1 a b : S1x2x64x256.Idx) := by
    funext j
    refine Fin.ext ?_
    fin_cases j
    · rfl
    · rfl
    · show 0 + 1 * a.val = a.val; omega
    · show 0 + 1 * b.val = b.val; omega
  rw [e]
  refine (outV_at (preT (catHi r0 r1 r2 r3 r4 r5 r6 r7 r8 r9 r10 r11 r12 r13 r14 r15) (View.ld pos (Rect.unit ![1, 0, 0, 0] ![1, 1, 1, 1024] inb_S2x2x1x1024_S1x1x1x1024_1_0_0_0)) (View.ld w1 (Rect.unit ![1, 0, 0] ![1, 1024, 256] inb_S2x2048x256_S1x1024x256_1_0_0)) (View.ld pos (Rect.unit ![1, 1, 0, 0] ![1, 1, 1, 1024] inb_S2x2x1x1024_S1x1x1x1024_1_1_0_0)) (View.ld w1 (Rect.unit ![1, 1024, 0] ![1, 1024, 256] inb_S2x2048x256_S1x1024x256_1_1024_0))) w2 b a).trans ?_
  show _ = out (preB x pos w1 1 1 b) (fun f d => w2 (ix2 d f)) a
  exact congrArg (fun g => out g (fun f d => w2 (ix2 d f)) a) (funext fun f => pre11 x pos w1 r0 r1 r2 r3 r4 r5 r6 r7 r8 r9 r10 r11 r12 r13 r14 r15 h0 h1 h2 h3 h4 h5 h6 h7 h8 h9 h10 h11 h12 h13 h14 h15 b f)

end

theorem row (M : Memref sig .tc .vmem S4096x128 .f32) (hM : M.IsWhole) (x : Vec Ideal S4096x128 .f32) (l : ℕ) (hl : l < 16)
    (inb : ∀ a : Fin S4096x128.rank, ![256, 128] a = 0 ∨ ![l, 0] a + ![16, 1] a * (![256, 128] a - 1) < S4096x128.size a) (i : Fin 256) (j : Fin 128) :
    (View.readAt (Elt Ideal) M.view ⟨![l, 0], ![256, 128], ![16, 1], inb⟩ (hM.unread x) : Vec Ideal S256x128 .f32) (ix2 i j) =
      x (ix2 ⟨16 * i.val + l, by omega⟩ j) := by
  refine (hM.readAt_unread x _ _).trans (congrArg x ?_)
  funext a
  refine Fin.ext ?_
  fin_cases a
  · show l + 16 * i.val = 16 * i.val + l; omega
  · show 0 + 1 * j.val = j.val; omega

variable (m : (ℓ : Loc nD τ sig) → Buf (Elt Ideal) ℓ) (c : Dev nD)

theorem openK (t : Fin cfg0.N) (y : S1x2x256x64.Idx) :
    (outsAt0 m c t).1 y = keysB (iblk m c 0 t) (iblk m c 2 t) (iblk m c 3 t) (iblk m c 4 t) y := by
  unfold outsAt0
  frame_out
  refine View.canon_apply_of_pieces (keysB (iblk m c 0 t) (iblk m c 2 t) (iblk m c 3 t) (iblk m c 4 t)) _ ?_ _ ?_
  · intro pc hpc
    simp only [List.mem_cons, List.not_mem_nil, or_false] at hpc
    rcases hpc with rfl | rfl
    · exact fun z => pieceK1 (iblk m c 0 t) (iblk m c 2 t) (iblk m c 3 t) _ _ _ _ _ _ _ _ _ _ _ _ _ _ _ _
        (row (ms0_0 t) (hs0_0 t) _ 0 (by omega) _) (row (ms0_0 t) (hs0_0 t) _ 1 (by omega) _) (row (ms0_0 t) (hs0_0 t) _ 2 (by omega) _) (row (ms0_0 t) (hs0_0 t) _ 3 (by omega) _) (row (ms0_0 t) (hs0_0 t) _ 4 (by omega) _) (row (ms0_0 t) (hs0_0 t) _ 5 (by omega) _) (row (ms0_0 t) (hs0_0 t) _ 6 (by omega) _) (row (ms0_0 t) (hs0_0 t) _ 7 (by omega) _) (row (ms0_0 t) (hs0_0 t) _ 8 (by omega) _) (row (ms0_0 t) (hs0_0 t) _ 9 (by omega) _) (row (ms0_0 t) (hs0_0 t) _ 10 (by omega) _) (row (ms0_0 t) (hs0_0 t) _ 11 (by omega) _) (row (ms0_0 t) (hs0_0 t) _ 12 (by omega) _) (row (ms0_0 t) (hs0_0 t) _ 13 (by omega) _) (row (ms0_0 t) (hs0_0 t) _ 14 (by omega) _) (row (ms0_0 t) (hs0_0 t) _ 15 (by omega) _) (iblk m c 4 t) z
    · exact fun z => pieceK0 (iblk m c 0 t) (iblk m c 2 t) (iblk m c 3 t) _ _ _ _ _ _ _ _ _ _ _ _ _ _ _ _
        (row (ms0_0 t) (hs0_0 t) _ 0 (by omega) _) (row (ms0_0 t) (hs0_0 t) _ 1 (by omega) _) (row (ms0_0 t) (hs0_0 t) _ 2 (by omega) _) (row (ms0_0 t) (hs0_0 t) _ 3 (by omega) _) (row (ms0_0 t) (hs0_0 t) _ 4 (by omega) _) (row (ms0_0 t) (hs0_0 t) _ 5 (by omega) _) (row (ms0_0 t) (hs0_0 t) _ 6 (by omega) _) (row (ms0_0 t) (hs0_0 t) _ 7 (by omega) _) (row (ms0_0 t) (hs0_0 t) _ 8 (by omega) _) (row (ms0_0 t) (hs0_0 t) _ 9 (by omega) _) (row (ms0_0 t) (hs0_0 t) _ 10 (by omega) _) (row (ms0_0 t) (hs0_0 t) _ 11 (by omega) _) (row (ms0_0 t) (hs0_0 t) _ 12 (by omega) _) (row (ms0_0 t) (hs0_0 t) _ 13 (by omega) _) (row (ms0_0 t) (hs0_0 t) _ 14 (by omega) _) (row (ms0_0 t) (hs0_0 t) _ 15 (by omega) _) (iblk m c 4 t) z
  · refine View.cover_of_tiled (s := S1x2x256x64) _ ![1, 1, 256, 64] ?_ _
    rfl

theorem openV (t : Fin cfg0.N) (y : S1x2x64x256.Idx) :
    (outsAt0 m c t).2 y = valsB (iblk m c 1 t) (iblk m c 2 t) (iblk m c 3 t) (iblk m c 5 t) y := by
  unfold outsAt0
  frame_out
  refine View.canon_apply_of_pieces (valsB (iblk m c 1 t) (iblk m c 2 t) (iblk m c 3 t) (iblk m c 5 t)) _ ?_ _ ?_
  · intro pc hpc
    simp only [List.mem_cons, List.not_mem_nil, or_false] at hpc
    rcases hpc with rfl | rfl
    · exact fun z => pieceV1 (iblk m c 1 t) (iblk m c 2 t) (iblk m c 3 t) _ _ _ _ _ _ _ _ _ _ _ _ _ _ _ _
        (row (ms0_1 t) (hs0_1 t) _ 0 (by omega) _) (row (ms0_1 t) (hs0_1 t) _ 1 (by omega) _) (row (ms0_1 t) (hs0_1 t) _ 2 (by omega) _) (row (ms0_1 t) (hs0_1 t) _ 3 (by omega) _) (row (ms0_1 t) (hs0_1 t) _ 4 (by omega) _) (row (ms0_1 t) (hs0_1 t) _ 5 (by omega) _) (row (ms0_1 t) (hs0_1 t) _ 6 (by omega) _) (row (ms0_1 t) (hs0_1 t) _ 7 (by omega) _) (row (ms0_1 t) (hs0_1 t) _ 8 (by omega) _) (row (ms0_1 t) (hs0_1 t) _ 9 (by omega) _) (row (ms0_1 t) (hs0_1 t) _ 10 (by omega) _) (row (ms0_1 t) (hs0_1 t) _ 11 (by omega) _) (row (ms0_1 t) (hs0_1 t) _ 12 (by omega) _) (row (ms0_1 t) (hs0_1 t) _ 13 (by omega) _) (row (ms0_1 t) (hs0_1 t) _ 14 (by omega) _) (row (ms0_1 t) (hs0_1 t) _ 15 (by omega) _) (iblk m c 5 t) z
    · exact fun z => pieceV0 (iblk m c 1 t) (iblk m c 2 t) (iblk m c 3 t) _ _ _ _ _ _ _ _ _ _ _ _ _ _ _ _
        (row (ms0_1 t) (hs0_1 t) _ 0 (by omega) _) (row (ms0_1 t) (hs0_1 t) _ 1 (by omega) _) (row (ms0_1 t) (hs0_1 t) _ 2 (by omega) _) (row (ms0_1 t) (hs0_1 t) _ 3 (by omega) _) (row (ms0_1 t) (hs0_1 t) _ 4 (by omega) _) (row (ms0_1 t) (hs0_1 t) _ 5 (by omega) _) (row (ms0_1 t) (hs0_1 t) _ 6 (by omega) _) (row (ms0_1 t) (hs0_1 t) _ 7 (by omega) _) (row (ms0_1 t) (hs0_1 t) _ 8 (by omega) _) (row (ms0_1 t) (hs0_1 t) _ 9 (by omega) _) (row (ms0_1 t) (hs0_1 t) _ 10 (by omega) _) (row (ms0_1 t) (hs0_1 t) _ 11 (by omega) _) (row (ms0_1 t) (hs0_1 t) _ 12 (by omega) _) (row (ms0_1 t) (hs0_1 t) _ 13 (by omega) _) (row (ms0_1 t) (hs0_1 t) _ 14 (by omega) _) (row (ms0_1 t) (hs0_1 t) _ 15 (by omega) _) (iblk m c 5 t) z
  · refine View.cover_of_tiled (s := S1x2x64x256) _ ![1, 1, 64, 256] ?_ _
    rfl

end Cert.CmpIdeal.Blocks
end
-- ==== Proof.CmpArrays.lean ====
module

public import proofs.«01_k».proof.Proof.CmpBlocks
public import Idealize.ShloMosaic.Lib.StableHlo.ReadAt

@[expose] public section

set_option maxRecDepth 16384
set_option backward.proofsInPublic true

noncomputable section

namespace Cert.CmpIdeal.Arrays

open Cert.CmpIdeal Cert.CmpIdeal.Gen Cert.CmpIdeal.Blocks
open Idealize.ShloMosaic Idealize.ShloMosaic.TcCoe Idealize.SL.Sem
open Idealize.ShloMosaic.Pipeline (Dat)
open Cert.Proof.CmpRow

section Spec

variable (x0 : Vec Ideal S16384x512 .f32) (p : Vec Ideal S1x32x64 .f32) (w1 : Vec Ideal S1x2048x256 .f32) (w2 : Vec Ideal S1x256x64 .f32)

/-- Half `s` of the positions' 32 rows, end to end. -/
def posH (s : Fin 2) (k : Fin 1024) : EReal := p (ix3 0 ⟨s.val * 16 + k.val / 64, by omega⟩ ⟨k.val % 64, by omega⟩)

/-- Chunk `i` of head `g` of sequence `b`: its 16 tokens end to end. The keys are columns 0 to 255 of `x0`, the values columns 256 to 511. -/
def chunk (kv : Fin 2) (b g : Fin 4) (i : Fin 256) (k : Fin 1024) : EReal :=
  x0 (ix2 ⟨4096 * b.val + (16 * i.val + k.val / 64), by omega⟩ ⟨256 * kv.val + (64 * g.val + k.val % 64), by omega⟩)

/-- Before the activation, of the block that starts at chunk `i`; the last chunk is followed by the first. -/
def preA (kv : Fin 2) (b g : Fin 4) (i : Fin 256) : Fin 256 → EReal :=
  pre (chunk x0 kv b g i) (chunk x0 kv b g ⟨(i.val + 256 - 255) % 256, by omega⟩) (posH p 0) (posH p 1)
    (fun k f => w1 (ix3 0 ⟨k.val, by omega⟩ f)) (fun k f => w1 (ix3 0 ⟨1024 + k.val, by omega⟩ f))

/-- Element `d` of the compressed token. -/
def tok (kv : Fin 2) (b g : Fin 4) (i : Fin 256) (d : Fin 64) : EReal := out (preA x0 p w1 kv b g i) (fun f d => w2 (ix3 0 f d)) d

/-- The compressed keys as a whole array. -/
def AK : Vec Ideal S4x4x256x64 .bf16 := fun y => tok x0 p w1 w2 0 (y 0) (y 1) (y 2) (y 3)

/-- The compressed values as a whole array, lanes over tokens. -/
def AV : Vec Ideal S4x4x64x256 .bf16 := fun y => tok x0 p w1 w2 1 (y 0) (y 1) (y 3) (y 2)

end Spec

variable (m : (ℓ : Loc nD τ sig) → Buf (Elt Ideal) ℓ) (c : Dev nD)

abbrev X0 : Vec Ideal S16384x512 .f32 := m ((c : Thread nD τ).loc main_arg0)
abbrev X1 : Vec Ideal S1x32x64 .f32 := m ((c : Thread nD τ).loc main_arg1)
abbrev X2 : Vec Ideal S1x2048x256 .f32 := m ((c : Thread nD τ).loc main_arg2)
abbrev X3 : Vec Ideal S1x256x64 .f32 := m ((c : Thread nD τ).loc main_arg3)
abbrev X4 : Vec Ideal S1x32x64 .f32 := m ((c : Thread nD τ).loc main_arg4)
abbrev X5 : Vec Ideal S1x2048x256 .f32 := m ((c : Thread nD τ).loc main_arg5)
abbrev X6 : Vec Ideal S1x256x64 .f32 := m ((c : Thread nD τ).loc main_arg6)

theorem V_v13 (i : Fin 256) (j : Fin 64) : (V m c main_v13 : Vec Ideal S256x64 .bf16) (ix2 i j) = X3 m c (ix3 0 i j) := by
  unfold V
  simp only [hostOps0, List.flatten_cons, List.flatten_nil, List.append_nil, List.cons_append, List.nil_append]
  after_results
  pointwise

theorem V_v16 (i : Fin 256) (j : Fin 64) : (V m c main_v16 : Vec Ideal S64x256 .bf16) (ix2 j i) = X6 m c (ix3 0 i j) := by
  unfold V
  simp only [hostOps0, List.flatten_cons, List.flatten_nil, List.append_nil, List.cons_append, List.nil_append]
  after_results
  pointwise

theorem V_v11_0 (k : Fin 2048) (f : Fin 256) : (V m c main_v11 : Vec Ideal S2x2048x256 .bf16) (ix3 0 k f) = X2 m c (ix3 0 k f) := by
  unfold V
  simp only [hostOps0, List.flatten_cons, List.flatten_nil, List.append_nil, List.cons_append, List.nil_append]
  after_results
  pointwise

theorem V_v11_1 (k : Fin 2048) (f : Fin 256) : (V m c main_v11 : Vec Ideal S2x2048x256 .bf16) (ix3 1 k f) = X5 m c (ix3 0 k f) := by
  unfold V
  simp only [hostOps0, List.flatten_cons, List.flatten_nil, List.append_nil, List.cons_append, List.nil_append]
  after_results
  pointwise

theorem V_v5_0 (s : Fin 2) (k : Fin 1024) : (V m c main_v5 : Vec Ideal S2x2x1x1024 .f32) (ix4 0 s 0 k) = X1 m c (ix3 0 ⟨s.val * 16 + k.val / 64, by omega⟩ ⟨k.val % 64, by omega⟩) := by
  unfold V
  simp only [hostOps0, List.flatten_cons, List.flatten_nil, List.append_nil, List.cons_append, List.nil_append]
  after_results
  pointwise

theorem V_v5_1 (s : Fin 2) (k : Fin 1024) : (V m c main_v5 : Vec Ideal S2x2x1x1024 .f32) (ix4 1 s 0 k) = X4 m c (ix3 0 ⟨s.val * 16 + k.val / 64, by omega⟩ ⟨k.val % 64, by omega⟩) := by
  unfold V
  simp only [hostOps0, List.flatten_cons, List.flatten_nil, List.append_nil, List.cons_append, List.nil_append]
  after_results
  pointwise

theorem pt_lt (t : Fin cfg0.N) : t.val < 8 := N_0 ▸ t.isLt
theorem e0 : ∀ t : Fin cfg0.N, win0_0.index t = ![t.val / 2, t.val % 2] := (by decide +kernel : ∀ t : Fin grid0.N, _)
theorem e1 : ∀ t : Fin cfg0.N, win0_1.index t = ![t.val / 2, 2 + t.val % 2] := (by decide +kernel : ∀ t : Fin grid0.N, _)
theorem e2 : ∀ t : Fin cfg0.N, win0_2.index t = ![0, 0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val / 2, t.val % 2, 0, 0] := (by decide +kernel : ∀ t : Fin grid0.N, _)
theorem e7 : ∀ t : Fin cfg0.N, win0_7.index t = ![t.val / 2, t.val % 2, 0, 0] := (by decide +kernel : ∀ t : Fin grid0.N, _)

theorem blk0 (t : Fin cfg0.N) (i : Fin 4096) (j : Fin 128) : (iblk m c 0 t : Vec Ideal S4096x128 .f32) (ix2 i j)
    = X0 m c (ix2 ⟨4096 * (t.val / 2) + i.val, by have := pt_lt t; omega⟩ ⟨128 * (t.val % 2) + j.val, by omega⟩) := by
  refine Eq.trans ?_ (congrFun (V_main_arg0 m c) _)
  blk_simp [iblk]
  refine congrArg (V m c main_arg0 : Vec Ideal S16384x512 .f32) ?_
  blk_ext [e0]

theorem blk1 (t : Fin cfg0.N) (i : Fin 4096) (j : Fin 128) : (iblk m c 1 t : Vec Ideal S4096x128 .f32) (ix2 i j)
    = X0 m c (ix2 ⟨4096 * (t.val / 2) + i.val, by have := pt_lt t; omega⟩ ⟨256 + (128 * (t.val % 2) + j.val), by omega⟩) := by
  refine Eq.trans ?_ (congrFun (V_main_arg0 m c) _)
  blk_simp [iblk]
  refine congrArg (V m c main_arg0 : Vec Ideal S16384x512 .f32) ?_
  blk_ext [e1]

theorem blk4 (t : Fin cfg0.N) (i : Fin 256) (j : Fin 64) : (iblk m c 4 t : Vec Ideal S256x64 .bf16) (ix2 i j) = X3 m c (ix3 0 i j) := by
  refine Eq.trans ?_ (V_v13 m c i j)
  blk_simp [iblk]
  refine congrArg (V m c main_v13 : Vec Ideal S256x64 .bf16) ?_
  blk_ext [e4]

theorem blk5 (t : Fin cfg0.N) (i : Fin 256) (j : Fin 64) : (iblk m c 5 t : Vec Ideal S64x256 .bf16) (ix2 j i) = X6 m c (ix3 0 i j) := by
  refine Eq.trans ?_ (V_v16 m c i j)
  blk_simp [iblk]
  refine congrArg (V m c main_v16 : Vec Ideal S64x256 .bf16) ?_
  blk_ext [e5]

theorem blk3_0 (t : Fin cfg0.N) (k : Fin 2048) (f : Fin 256) : (iblk m c 3 t : Vec Ideal S2x2048x256 .bf16) (ix3 0 k f) = X2 m c (ix3 0 k f) := by
  refine Eq.trans ?_ (V_v11_0 m c k f)
  blk_simp [iblk]
  refine congrArg (V m c main_v11 : Vec Ideal S2x2048x256 .bf16) ?_
  blk_ext [e3]

theorem blk2_0 (t : Fin cfg0.N) (s : Fin 2) (k : Fin 1024) : (iblk m c 2 t : Vec Ideal S2x2x1x1024 .f32) (ix4 0 s 0 k) = posH (X1 m c) s k := by
  refine Eq.trans ?_ (V_v5_0 m c s k)
  blk_simp [iblk]
  refine congrArg (V m c main_v5 : Vec Ideal S2x2x1x1024 .f32) ?_
  blk_ext [e2]

theorem blk3_1 (t : Fin cfg0.N) (k : Fin 2048) (f : Fin 256) : (iblk m c 3 t : Vec Ideal S2x2048x256 .bf16) (ix3 1 k f) = X5 m c (ix3 0 k f) := by
  refine Eq.trans ?_ (V_v11_1 m c k f)
  blk_simp [iblk]
  refine congrArg (V m c main_v11 : Vec Ideal S2x2048x256 .bf16) ?_
  blk_ext [e3]

theorem blk2_1 (t : Fin cfg0.N) (s : Fin 2) (k : Fin 1024) : (iblk m c 2 t : Vec Ideal S2x2x1x1024 .f32) (ix4 1 s 0 k) = posH (X4 m c) s k := by
  refine Eq.trans ?_ (V_v5_1 m c s k)
  blk_simp [iblk]
  refine congrArg (V m c main_v5 : Vec Ideal S2x2x1x1024 .f32) ?_
  blk_ext [e2]

theorem preK (t : Fin cfg0.N) (h : Fin 2) (i : Fin 256) :
    preB (iblk m c 0 t) (iblk m c 2 t) (iblk m c 3 t) 0 h i
      = preA (X0 m c) (X1 m c) (X2 m c) 0 ⟨t.val / 2, by have := pt_lt t; omega⟩ ⟨2 * (t.val % 2) + h.val, by omega⟩ i := by
  have e : ∀ (i : Fin 256) (k : Fin 1024), (iblk m c 0 t : Vec Ideal S4096x128 .f32) (ix2 ⟨16 * i.val + k.val / 64, by omega⟩ ⟨64 * h.val + k.val % 64, by omega⟩)
      = chunk (X0 m c) 0 ⟨t.val / 2, by have := pt_lt t; omega⟩ ⟨2 * (t.val % 2) + h.val, by omega⟩ i k := by
    intro i k
    refine (blk0 m c t _ _).trans ?_
    unfold chunk
    refine congrArg₂ (fun a b => X0 m c (ix2 a b)) (Fin.ext rfl) (Fin.ext ?_)
    first
      | (show 128 * (t.val % 2) + (64 * h.val + k.val % 64) = 256 * 0 + (64 * (2 * (t.val % 2) + h.val) + k.val % 64); omega)
      | (show 256 + (128 * (t.val % 2) + (64 * h.val + k.val % 64)) = 256 * 1 + (64 * (2 * (t.val % 2) + h.val) + k.val % 64); omega)
  funext f
  unfold preB preA pre
  refine congrArg₂ (· + ·) (Finset.sum_congr rfl fun k _ => ?_) (Finset.sum_congr rfl fun k _ => ?_)
  · exact congrArg₂ (· * ·) (congrArg₂ (· + ·) (e i k) (blk2_0 m c t 0 k)) (blk3_0 m c t _ f)
  · exact congrArg₂ (· * ·) (congrArg₂ (· + ·) (e ⟨(i.val + 256 - 255) % 256, by omega⟩ k) (blk2_0 m c t 1 k)) (blk3_0 m c t _ f)

theorem finalK : (dats m 0 c).arrAt 6 cfg0.N = AK (X0 m c) (X1 m c) (X2 m c) (X3 m c) := by
  refine (dats m 0 c).arrAt_eq_of_covers 6 _ (by decide +kernel) fun t hf y => ?_
  blk_simp
  rw [after0_6]
  obtain ⟨o, h, a, d, rfl⟩ : ∃ (o : Fin 1) (h : Fin 2) (a : Fin 256) (d : Fin 64), y = ix4 o h a d := ⟨y 0, y 1, y 2, y 3, eq_ix4 y⟩
  refine (openK m c t _).trans ?_
  have ht := pt_lt t
  refine Eq.trans (b := tok (X0 m c) (X1 m c) (X2 m c) (X3 m c) 0 ⟨t.val / 2, by omega⟩ ⟨2 * (t.val % 2) + h.val, by omega⟩ a d) ?_ ?_
  · show out (preB (iblk m c 0 t) (iblk m c 2 t) (iblk m c 3 t) 0 h a) _ d = _
    rw [preK]
    unfold tok out
    exact Finset.sum_congr rfl fun f _ => congrArg₂ (· * ·) rfl (blk4 m c t f d)
  · have e : (win0_6.blk t).view.emb (ix4 o h a d) = (ix4 (⟨t.val / 2, by omega⟩ : Fin 4) (⟨2 * (t.val % 2) + h.val, by omega⟩ : Fin 4) a d : S4x4x256x64.Idx) := by
      blk_ext [e6]
    rw [e]
    rfl

theorem preV (t : Fin cfg0.N) (h : Fin 2) (i : Fin 256) :
    preB (iblk m c 1 t) (iblk m c 2 t) (iblk m c 3 t) 1 h i
      = preA (X0 m c) (X4 m c) (X5 m c) 1 ⟨t.val / 2, by have := pt_lt t; omega⟩ ⟨2 * (t.val % 2) + h.val, by omega⟩ i := by
  have e : ∀ (i : Fin 256) (k : Fin 1024), (iblk m c 1 t : Vec Ideal S4096x128 .f32) (ix2 ⟨16 * i.val + k.val / 64, by omega⟩ ⟨64 * h.val + k.val % 64, by omega⟩)
      = chunk (X0 m c) 1 ⟨t.val / 2, by have := pt_lt t; omega⟩ ⟨2 * (t.val % 2) + h.val, by omega⟩ i k := by
    intro i k
    refine (blk1 m c t _ _).trans ?_
    unfold chunk
    refine congrArg₂ (fun a b => X0 m c (ix2 a b)) (Fin.ext rfl) (Fin.ext ?_)
    first
      | (show 128 * (t.val % 2) + (64 * h.val + k.val % 64) = 256 * 0 + (64 * (2 * (t.val % 2) + h.val) + k.val % 64); omega)
      | (show 256 + (128 * (t.val % 2) + (64 * h.val + k.val % 64)) = 256 * 1 + (64 * (2 * (t.val % 2) + h.val) + k.val % 64); omega)
  funext f
  unfold preB preA pre
  refine congrArg₂ (· + ·) (Finset.sum_congr rfl fun k _ => ?_) (Finset.sum_congr rfl fun k _ => ?_)
  · exact congrArg₂ (· * ·) (congrArg₂ (· + ·) (e i k) (blk2_1 m c t 0 k)) (blk3_1 m c t _ f)
  · exact congrArg₂ (· * ·) (congrArg₂ (· + ·) (e ⟨(i.val + 256 - 255) % 256, by omega⟩ k) (blk2_1 m c t 1 k)) (blk3_1 m c t _ f)

theorem finalV : (dats m 0 c).arrAt 7 cfg0.N = AV (X0 m c) (X4 m c) (X5 m c) (X6 m c) := by
  refine (dats m 0 c).arrAt_eq_of_covers 7 _ (by decide +kernel) fun t hf y => ?_
  blk_simp
  rw [after0_7]
  obtain ⟨o, h, a, d, rfl⟩ : ∃ (o : Fin 1) (h : Fin 2) (a : Fin 64) (d : Fin 256), y = ix4 o h a d := ⟨y 0, y 1, y 2, y 3, eq_ix4 y⟩
  refine (openV m c t _).trans ?_
  have ht := pt_lt t
  refine Eq.trans (b := tok (X0 m c) (X4 m c) (X5 m c) (X6 m c) 1 ⟨t.val / 2, by omega⟩ ⟨2 * (t.val % 2) + h.val, by omega⟩ d a) ?_ ?_
  · show out (preB (iblk m c 1 t) (iblk m c 2 t) (iblk m c 3 t) 1 h d) _ a = _
    rw [preV]
    unfold tok out
    exact Finset.sum_congr rfl fun f _ => congrArg₂ (· * ·) rfl (blk5 m c t f a)
  · have e : (win0_7.blk t).view.emb (ix4 o h a d) = (ix4 (⟨t.val / 2, by omega⟩ : Fin 4) (⟨2 * (t.val % 2) + h.val, by omega⟩ : Fin 4) a d : S4x4x64x256.Idx) := by
      blk_ext [e7]
    rw [e]
    rfl

end Cert.CmpIdeal.Arrays
end
-- ==== Proof.CmpRefVal.lean ====
module

public import proofs.«01_k».proof.Proof.Gen.CmpRefIdeal.Read
public import proofs.«01_k».proof.Proof.CmpArrays
public import Idealize.ShloMosaic.Lib.Pointwise

@[expose] public section

set_option maxRecDepth 16384
set_option backward.proofsInPublic true

noncomputable section

namespace Cert.CmpRefIdeal.RefVal

open Cert.CmpRefIdeal Cert.CmpRefIdeal.Gen Cert.CmpRefIdeal.Read Idealize.ShloMosaic Idealize.ShloMosaic.TcCoe Idealize.SL.Sem
open Cert.Proof.CmpRow
open Cert.CmpIdeal.Arrays (AK AV tok preA chunk posH)

variable (x0 : Vec Ideal S16384x512 .f32) (x1 : Vec Ideal S1x32x64 .f32) (x2 : Vec Ideal S1x2048x256 .f32) (x3 : Vec Ideal S1x256x64 .f32)

/-- A sum over a block's 2048 elements, half by half. -/
theorem halves (f : Fin 2048 → EReal) : ∑ k, f k = (∑ k : Fin 1024, f ⟨k.val, by omega⟩) + ∑ k : Fin 1024, f ⟨1024 + k.val, by omega⟩ :=
  Fin.sum_univ_add (a := 1024) (b := 1024) f

/-- The block that starts at chunk `i`: its first 16 tokens, then the next chunk's. -/
theorem blk_k (b g : Fin 4) (i : Fin 255) (k : Fin 2048) :
    (val_main_v14 (F := Ideal) x0 x1 : Vec Ideal S4x4x255x2048 .f32) (ix4 b g i k)
      = (if h : k.val / 64 < 16 then x0 (ix2 ⟨b.val * 4096 + (i.val * 16 + k.val / 64), by omega⟩ ⟨g.val * 64 + k.val % 64, by omega⟩)
      else x0 (ix2 ⟨b.val * 4096 + ((1 + i.val) * 16 + (k.val / 64 - 16)), by omega⟩ ⟨g.val * 64 + k.val % 64, by omega⟩)) +
        x1 (ix3 0 ⟨k.val / 64, by omega⟩ ⟨k.val % 64, by omega⟩) := by
  unfold val_main_v14 val_main_v13 val_main_v12 val_main_v11 val_main_v10 val_main_v9 val_main_v8 val_main_v7 val_main_v6 val_main_v3 val_main_v1 val_main_v0
  pointwise

theorem sum_k (b g : Fin 4) (i : Fin 255) (f : Fin 256) :
    (val_main_v15 (F := Ideal) x0 x1 x2 : Vec Ideal S4x4x255x256 .f32) (ix4 b g i f)
      = ∑ k : Fin 2048, val_main_v14 (F := Ideal) x0 x1 (ix4 b g i k) * x2 (ix3 0 k f) := by
  unfold val_main_v15 val_main_v4
  pointwise

theorem pre_k (b g : Fin 4) (i : Fin 255) (f : Fin 256) :
    (val_main_v15 (F := Ideal) x0 x1 x2 : Vec Ideal S4x4x255x256 .f32) (ix4 b g i f) = preA x0 x1 x2 0 b g ⟨i.val, by omega⟩ f := by
  rw [sum_k, halves]
  simp only [blk_k]
  unfold preA pre
  have hi := i.isLt
  refine congrArg₂ (· + ·) (Finset.sum_congr rfl fun k _ => congrArg₂ (· * ·) (congrArg₂ (· + ·) ?_ ?_) rfl)
    (Finset.sum_congr rfl fun k _ => congrArg₂ (· * ·) (congrArg₂ (· + ·) ?_ ?_) rfl)
  · have hk := k.isLt
    refine (dif_pos (by omega)).trans ?_
    unfold chunk
    refine congrArg₂ (fun a b => x0 (ix2 a b)) (Fin.ext ?_) (Fin.ext ?_)
    · show b.val * 4096 + (i.val * 16 + k.val / 64) = 4096 * b.val + (16 * i.val + k.val / 64); omega
    · show g.val * 64 + k.val % 64 = 256 * 0 + (64 * g.val + k.val % 64); omega
  · unfold posH
    refine congrArg₂ (fun a b => x1 (ix3 0 a b)) (Fin.ext ?_) (Fin.ext rfl)
    show k.val / 64 = 0 * 16 + k.val / 64; omega
  · have hk := k.isLt
    refine (dif_neg (by omega)).trans ?_
    unfold chunk
    refine congrArg₂ (fun a b => x0 (ix2 a b)) (Fin.ext ?_) (Fin.ext ?_)
    · show b.val * 4096 + ((1 + i.val) * 16 + ((1024 + k.val) / 64 - 16)) = 4096 * b.val + (16 * ((i.val + 256 - 255) % 256) + k.val / 64); omega
    · show g.val * 64 + (1024 + k.val) % 64 = 256 * 0 + (64 * g.val + k.val % 64); omega
  · unfold posH
    refine congrArg₂ (fun a b => x1 (ix3 0 a b)) (Fin.ext ?_) (Fin.ext ?_)
    · show (1024 + k.val) / 64 = 1 * 16 + k.val / 64; omega
    · show (1024 + k.val) % 64 = k.val % 64; omega

theorem act_k (j : S4x4x255x256.Idx) : val_main_v28 (F := Ideal) x0 x1 x2 j = gelu (val_main_v15 (F := Ideal) x0 x1 x2 j) := by
  rw [val_main_v28_apply, val_main_v27_apply, val_main_v25_apply, val_main_v23_apply, val_main_v22_apply, val_main_v20_apply, val_main_v19_apply, val_main_v17_apply, val_main_v16_apply]
  generalize val_main_v15 (F := Ideal) x0 x1 x2 j = z
  unfold val_main_v18 val_main_v21 val_main_v24 val_main_v26 val_main_cst val_main_cst_0 val_main_cst_1 val_main_cst_2 gelu
  pointwise
  rw [mul_assoc z z z]

theorem ref_k (b g : Fin 4) (i : Fin 255) (d : Fin 64) :
    (val_main_v29 (F := Ideal) x0 x1 x2 x3 : Vec Ideal S4x4x255x64 .f32) (ix4 b g i d) = tok x0 x1 x2 x3 0 b g ⟨i.val, by omega⟩ d := by
  unfold val_main_v29 val_main_v5 tok out
  pointwise
  simp only [act_k, pre_k]

/-- The block that starts at chunk `i`: its first 16 tokens, then the next chunk's. -/
theorem blk_v (b g : Fin 4) (i : Fin 255) (k : Fin 2048) :
    (val_main_v41 (F := Ideal) x0 x1 : Vec Ideal S4x4x255x2048 .f32) (ix4 b g i k)
      = (if h : k.val / 64 < 16 then x0 (ix2 ⟨b.val * 4096 + (i.val * 16 + k.val / 64), by omega⟩ ⟨256 + (g.val * 64 + k.val % 64), by omega⟩)
      else x0 (ix2 ⟨b.val * 4096 + ((1 + i.val) * 16 + (k.val / 64 - 16)), by omega⟩ ⟨256 + (g.val * 64 + k.val % 64), by omega⟩)) +
        x1 (ix3 0 ⟨k.val / 64, by omega⟩ ⟨k.val % 64, by omega⟩) := by
  unfold val_main_v41 val_main_v40 val_main_v39 val_main_v38 val_main_v37 val_main_v36 val_main_v35 val_main_v34 val_main_v33 val_main_v30 val_main_v2 val_main_v0
  pointwise

theorem sum_v (b g : Fin 4) (i : Fin 255) (f : Fin 256) :
    (val_main_v42 (F := Ideal) x0 x1 x2 : Vec Ideal S4x4x255x256 .f32) (ix4 b g i f)
      = ∑ k : Fin 2048, val_main_v41 (F := Ideal) x0 x1 (ix4 b g i k) * x2 (ix3 0 k f) := by
  unfold val_main_v42 val_main_v31
  pointwise

theorem pre_v (b g : Fin 4) (i : Fin 255) (f : Fin 256) :
    (val_main_v42 (F := Ideal) x0 x1 x2 : Vec Ideal S4x4x255x256 .f32) (ix4 b g i f) = preA x0 x1 x2 1 b g ⟨i.val, by omega⟩ f := by
  rw [sum_v, halves]
  simp only [blk_v]
  unfold preA pre
  have hi := i.isLt
  refine congrArg₂ (· + ·) (Finset.sum_congr rfl fun k _ => congrArg₂ (· * ·) (congrArg₂ (· + ·) ?_ ?_) rfl)
    (Finset.sum_congr rfl fun k _ => congrArg₂ (· * ·) (congrArg₂ (· + ·) ?_ ?_) rfl)
  · have hk := k.isLt
    refine (dif_pos (by omega)).trans ?_
    unfold chunk
    refine congrArg₂ (fun a b => x0 (ix2 a b)) (Fin.ext ?_) (Fin.ext ?_)
    · show b.val * 4096 + (i.val * 16 + k.val / 64) = 4096 * b.val + (16 * i.val + k.val / 64); omega
    · show 256 + (g.val * 64 + k.val % 64) = 256 * 1 + (64 * g.val + k.val % 64); omega
  · unfold posH
    refine congrArg₂ (fun a b => x1 (ix3 0 a b)) (Fin.ext ?_) (Fin.ext rfl)
    show k.val / 64 = 0 * 16 + k.val / 64; omega
  · have hk := k.isLt
    refine (dif_neg (by omega)).trans ?_
    unfold chunk
    refine congrArg₂ (fun a b => x0 (ix2 a b)) (Fin.ext ?_) (Fin.ext ?_)
    · show b.val * 4096 + ((1 + i.val) * 16 + ((1024 + k.val) / 64 - 16)) = 4096 * b.val + (16 * ((i.val + 256 - 255) % 256) + k.val / 64); omega
    · show 256 + (g.val * 64 + (1024 + k.val) % 64) = 256 * 1 + (64 * g.val + k.val % 64); omega
  · unfold posH
    refine congrArg₂ (fun a b => x1 (ix3 0 a b)) (Fin.ext ?_) (Fin.ext ?_)
    · show (1024 + k.val) / 64 = 1 * 16 + k.val / 64; omega
    · show (1024 + k.val) % 64 = k.val % 64; omega

theorem act_v (j : S4x4x255x256.Idx) : val_main_v55 (F := Ideal) x0 x1 x2 j = gelu (val_main_v42 (F := Ideal) x0 x1 x2 j) := by
  rw [val_main_v55_apply, val_main_v54_apply, val_main_v52_apply, val_main_v50_apply, val_main_v49_apply, val_main_v47_apply, val_main_v46_apply, val_main_v44_apply, val_main_v43_apply]
  generalize val_main_v42 (F := Ideal) x0 x1 x2 j = z
  unfold val_main_v45 val_main_v48 val_main_v51 val_main_v53 val_main_cst_3 val_main_cst_4 val_main_cst_5 val_main_cst_6 gelu
  pointwise
  rw [mul_assoc z z z]

theorem ref_v (b g : Fin 4) (i : Fin 255) (d : Fin 64) :
    (val_main_v56 (F := Ideal) x0 x1 x2 x3 : Vec Ideal S4x4x255x64 .f32) (ix4 b g i d) = tok x0 x1 x2 x3 1 b g ⟨i.val, by omega⟩ d := by
  unfold val_main_v56 val_main_v32 tok out
  pointwise
  simp only [act_v, pre_v]

/-- The reference's keys at a token that it has. -/
theorem keys (y : S4x4x256x64.Idx) (hy : (y 2).val < 255) : (val_main_v58 (F := Ideal) x0 x1 x2 x3 : Vec Ideal S4x4x256x64 .bf16) y = AK x0 x1 x2 x3 y := by
  obtain ⟨b, g, i, d, rfl⟩ : ∃ (b g : Fin 4) (i : Fin 256) (d : Fin 64), y = ix4 b g i d := ⟨y 0, y 1, y 2, y 3, eq_ix4 y⟩
  have hi : i.val < 255 := hy
  refine Eq.trans (b := val_main_v29 (F := Ideal) x0 x1 x2 x3 (ix4 b g ⟨i.val, hi⟩ d)) ?_ (ref_k x0 x1 x2 x3 b g ⟨i.val, hi⟩ d)
  unfold val_main_v58 val_main_v57
  pointwise
  exact dif_pos hi

/-- The reference's values at a token that it has. -/
theorem vals (y : S4x4x64x256.Idx) (hy : (y 3).val < 255) : (val_main_v61 (F := Ideal) x0 x1 x2 x3 : Vec Ideal S4x4x64x256 .bf16) y = AV x0 x1 x2 x3 y := by
  obtain ⟨b, g, d, i, rfl⟩ : ∃ (b g : Fin 4) (d : Fin 64) (i : Fin 256), y = ix4 b g d i := ⟨y 0, y 1, y 2, y 3, eq_ix4 y⟩
  have hi : i.val < 255 := hy
  refine Eq.trans (b := val_main_v56 (F := Ideal) x0 x1 x2 x3 (ix4 b g ⟨i.val, hi⟩ d)) ?_ (ref_v x0 x1 x2 x3 b g ⟨i.val, hi⟩ d)
  unfold val_main_v61 val_main_v60 val_main_v59
  pointwise
  exact dif_pos hi

end Cert.CmpRefIdeal.RefVal
end
-- ==== Proof.CmpClaim.lean ====
module

public import proofs.«01_k».proof.Defs
public import proofs.«01_k».proof.Proof.CmpArrays
public import proofs.«01_k».proof.Proof.CmpRefVal
public import proofs.«01_k».proof.Proof.Gen.CmpRefIdeal.Run
public import proofs.«01_k».proof.Proof.Gen.CmpIdeal.Value
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CmpIdeal.Arrays

open Cert.CmpIdeal Cert.CmpIdeal.Gen

attribute [local irreducible] AK AV

/-- A run of the kernel leaves the compressed keys and values of its arguments. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17_0) = AK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17_1) = AV (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, hr⟩ := h c
    exact ⟨h0.trans (finalK m c), h1.trans (finalV m c), hr⟩)
    (Cert.CmpIdeal.Value.run_blocks m ρ)

end Cert.CmpIdeal.Arrays

namespace Cert.CmpRefIdeal.RefVal

open Cert.CmpRefIdeal Cert.CmpRefIdeal.Gen Cert.CmpRefIdeal.Read
open Cert.CmpIdeal.Arrays (AK AV)

attribute [local irreducible] AK AV

/-- A run of the reference leaves the same elements at the 255 tokens that it has. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i : S4x4x256x64.Idx, (i 2).val < 255 → r.2.mem ((c.tc : Thread nD τ).loc main_v58) i = AK (m ((c.tc : Thread nD τ).loc main_arg0)) (m ((c.tc : Thread nD τ).loc main_arg1)) (m ((c.tc : Thread nD τ).loc main_arg2)) (m ((c.tc : Thread nD τ).loc main_arg3)) i)
      ∧ (∀ i : S4x4x64x256.Idx, (i 3).val < 255 → r.2.mem ((c.tc : Thread nD τ).loc main_v61) i = AV (m ((c.tc : Thread nD τ).loc main_arg0)) (m ((c.tc : Thread nD τ).loc main_arg4)) (m ((c.tc : Thread nD τ).loc main_arg5)) (m ((c.tc : Thread nD τ).loc main_arg6)) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, hr⟩ := h c
    exact ⟨fun i hi => (congrFun (h0.trans (val_main_v58_eq (F := Ideal) _ _)) i).trans (keys _ _ _ _ i hi),
      fun i hi => (congrFun (h1.trans (val_main_v61_eq (F := Ideal) _ _)) i).trans (vals _ _ _ _ i hi), hr⟩)
    (Cert.CmpRefIdeal.Value.run m ρ)

end Cert.CmpRefIdeal.RefVal

namespace Cert.Proof.CmpClaim

open Cert Cert.CmpIdeal.Arrays

/-- The mask's two broadcasts of a scalar. -/
instance maskFacts : On_real_blocks.Facts where
  bcast_S_S4x4x256x64 := by decide
  bcast_S_S4x4x64x256 := by decide

/-- A counter below 256 that is below 255 as a signed word is below 255. -/
theorem slt_255 (n : ℕ) (hn : n < 256) (h : IntOp.cmpi .slt (BitVec.ofNat 32 n) 255#32 = 1#1) : n < 255 := by
  by_contra hc
  obtain rfl : n = 255 := by omega
  revert h
  decide

section
variable (x0 : FVec Ideal On_real_blocks.S16384x512 .f32) (x1 x4 : FVec Ideal On_real_blocks.S1x32x64 .f32)
  (x2 x5 : FVec Ideal On_real_blocks.S1x2048x256 .f32) (x3 x6 : FVec Ideal On_real_blocks.S1x256x64 .f32)

/-- The keys' mask holds only of real tokens. -/
theorem mask_k (i : (⟨4, ![4, 4, 256, 64]⟩ : Shape).Idx) (h : (On_real_blocks.fn (F := Ideal) x0 x1 x2 x3 x4 x5 x6).1 i = 1#1) : (i 2).val < 255 := by
  obtain ⟨a, b, e, d, rfl⟩ : ∃ (a b : Fin 4) (e : Fin 256) (d : Fin 64), i = ix4 a b e d := ⟨i 0, i 1, i 2, i 3, eq_ix4 i⟩
  exact slt_255 e.val e.isLt h

/-- The values' mask holds only of real tokens. -/
theorem mask_v (i : (⟨4, ![4, 4, 64, 256]⟩ : Shape).Idx) (h : (On_real_blocks.fn (F := Ideal) x0 x1 x2 x3 x4 x5 x6).2 i = 1#1) : (i 3).val < 255 := by
  obtain ⟨a, b, e, d, rfl⟩ : ∃ (a b : Fin 4) (e : Fin 64) (d : Fin 256), i = ix4 a b e d := ⟨i 0, i 1, i 2, i 3, eq_ix4 i⟩
  exact slt_255 d.val d.isLt h
end

attribute [local irreducible] AK AV

/-- The compressed keys and values are the reference's at the 255 real tokens. -/
theorem algebraic : Cert.algebraic_CmpIdeal_CmpRefIdeal_on_real_blocks := by
  intro m g m' g' _ hagree
  refine ⟨fun c => AK (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)),
    fun c => AV (m ((c.tc : Thread Cert.CmpIdeal.nD Cert.CmpIdeal.τ).loc Cert.CmpIdeal.main_arg0)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6)), ?_, ?_⟩
  · refine (θ_run _ _ _).mono (fun r h c => ?_) (Cert.CmpIdeal.Arrays.run_arrays m g)
    obtain ⟨h0, h1, hr⟩ := h c
    exact ⟨fun i _ => congrFun h0 i, fun i _ => congrFun h1 i, hr⟩
  · refine (θ_run _ _ _).mono (fun r h c => ?_) (Cert.CmpRefIdeal.RefVal.run_arrays m' g')
    obtain ⟨h0, h1, hr⟩ := h c
    obtain ⟨a0, a1, a2, a3, a4, a5, a6⟩ := hagree c
    rw [a0, a1, a2, a3] at h0
    rw [a0, a4, a5, a6] at h1
    exact ⟨fun i hi => h0 i (mask_k _ _ _ _ _ _ _ i hi), fun i hi => h1 i (mask_v _ _ _ _ _ _ _ i hi), hr⟩

end Cert.Proof.CmpClaim
end
-- ==== Proof.lean ====
module

public import proofs.«01_k».proof.Defs
public import proofs.«01_k».proof.Proof.Frames
public import proofs.«01_k».proof.Proof.ProjClaim
public import proofs.«01_k».proof.Proof.MergeClaim
public import proofs.«01_k».proof.Proof.CmpClaim

@[expose] public section

noncomputable section

namespace Cert.Proof

/-- All the claims. -/
theorem claim : Cert.Claim :=
  ⟨inferInstance, inferInstance, inferInstance, inferInstance, inferInstance, inferInstance, inferInstance, inferInstance, inferInstance, inferInstance, inferInstance, inferInstance,
    Frames.kernel, Frames.kernelIdeal, Frames.merge, Frames.mergeIdeal, Frames.mergeRefIdeal, Frames.proj, Frames.projIdeal, Frames.projRefIdeal, Frames.cmp, Frames.cmpIdeal, Frames.cmpRefIdeal,
    trivial, trivial, MergeClaim.algebraic, trivial, ProjClaim.algebraic, trivial, CmpClaim.algebraic⟩

end Cert.Proof

end
